-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_rows [hPre_finite_rows : Cert.Pre_finite_rows.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_rows.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).1 = (fun _ => 1#1)
    ∧ (Cert.Pre_finite_rows.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2.1 = (fun _ => 1#1)
    ∧ (Cert.Pre_finite_rows.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2.2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_rows [hPre_finite_rows : Cert.Pre_finite_rows.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_rows.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).1 = (fun _ => 1#1)
    ∧ (Cert.Pre_finite_rows.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).2.1 = (fun _ => 1#1)
    ∧ (Cert.Pre_finite_rows.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).2.2 = (fun _ => 1#1)

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwRefIdeal (m : (ℓ : Loc Cert.Ff2DwRefIdeal.nD Cert.Ff2DwRefIdeal.τ Cert.Ff2DwRefIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwRefIdeal (m : (ℓ : Loc Cert.Ff1DwRefIdeal.nD Cert.Ff1DwRefIdeal.τ Cert.Ff1DwRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_InAttDw (m : (ℓ : Loc Cert.InAttDw.nD Cert.InAttDw.τ Cert.InAttDw.sig) → Buf (Elt Bits) ℓ) : Prop :=
  True

def Pre_InAttDwIdeal (m : (ℓ : Loc Cert.InAttDwIdeal.nD Cert.InAttDwIdeal.τ Cert.InAttDwIdeal.sig) → Buf (Elt Ideal) ℓ) : Prop :=
  True

def Pre_InAttDwRefIdeal (m : (ℓ : Loc Cert.InAttDwRefIdeal.nD Cert.InAttDwRefIdeal.τ Cert.InAttDwRefIdeal.sig) → Buf (Elt Ideal) ℓ) : Prop :=
  True

def Pre_InAttDx (m : (ℓ : Loc Cert.InAttDx.nD Cert.InAttDx.τ Cert.InAttDx.sig) → Buf (Elt Bits) ℓ) : Prop :=
  True

def Pre_InAttDxIdeal (m : (ℓ : Loc Cert.InAttDxIdeal.nD Cert.InAttDxIdeal.τ Cert.InAttDxIdeal.sig) → Buf (Elt Ideal) ℓ) : Prop :=
  True

def Pre_InAttDxRefIdeal (m : (ℓ : Loc Cert.InAttDxRefIdeal.nD Cert.InAttDxRefIdeal.τ Cert.InAttDxRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def Pre_InProjAtt (m : (ℓ : Loc Cert.InProjAtt.nD Cert.InProjAtt.τ Cert.InProjAtt.sig) → Buf (Elt Bits) ℓ) : Prop :=
  True

def Pre_InProjAttIdeal (m : (ℓ : Loc Cert.InProjAttIdeal.nD Cert.InProjAttIdeal.τ Cert.InProjAttIdeal.sig) → Buf (Elt Ideal) ℓ) : Prop :=
  True

def Pre_InProjAttRefIdeal (m : (ℓ : Loc Cert.InProjAttRefIdeal.nD Cert.InProjAttRefIdeal.τ Cert.InProjAttRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InProjRec (m : (ℓ : Loc Cert.InProjRec.nD Cert.InProjRec.τ Cert.InProjRec.sig) → Buf (Elt Bits) ℓ) : Prop :=
  True

def Pre_InProjRecIdeal (m : (ℓ : Loc Cert.InProjRecIdeal.nD Cert.InProjRecIdeal.τ Cert.InProjRecIdeal.sig) → Buf (Elt Ideal) ℓ) : Prop :=
  True

def Pre_InProjRecRefIdeal (m : (ℓ : Loc Cert.InProjRecRefIdeal.nD Cert.InProjRecRefIdeal.τ Cert.InProjRecRefIdeal.sig) → Buf (Elt Ideal) ℓ) : Prop :=
  True

def Pre_InRecDw (m : (ℓ : Loc Cert.InRecDw.nD Cert.InRecDw.τ Cert.InRecDw.sig) → Buf (Elt Bits) ℓ) : Prop :=
  True

def Pre_InRecDwIdeal (m : (ℓ : Loc Cert.InRecDwIdeal.nD Cert.InRecDwIdeal.τ Cert.InRecDwIdeal.sig) → Buf (Elt Ideal) ℓ) : Prop :=
  True

def Pre_InRecDwRefIdeal (m : (ℓ : Loc Cert.InRecDwRefIdeal.nD Cert.InRecDwRefIdeal.τ Cert.InRecDwRefIdeal.sig) → Buf (Elt Ideal) ℓ) : Prop :=
  True

def Pre_InRecDx (m : (ℓ : Loc Cert.InRecDx.nD Cert.InRecDx.τ Cert.InRecDx.sig) → Buf (Elt Bits) ℓ) : Prop :=
  True

def Pre_InRecDxIdeal (m : (ℓ : Loc Cert.InRecDxIdeal.nD Cert.InRecDxIdeal.τ Cert.InRecDxIdeal.sig) → Buf (Elt Ideal) ℓ) : Prop :=
  True

def Pre_InRecDxRefIdeal (m : (ℓ : Loc Cert.InRecDxRefIdeal.nD Cert.InRecDxRefIdeal.τ Cert.InRecDxRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_RowDot (m : (ℓ : Loc Cert.RowDot.nD Cert.RowDot.τ Cert.RowDot.sig) → Buf (Elt Bits) ℓ) : Prop :=
  True

def Pre_RowDotIdeal (m : (ℓ : Loc Cert.RowDotIdeal.nD Cert.RowDotIdeal.τ Cert.RowDotIdeal.sig) → Buf (Elt Ideal) ℓ) : Prop :=
  True

def Pre_RowDotRefIdeal (m : (ℓ : Loc Cert.RowDotRefIdeal.nD Cert.RowDotRefIdeal.τ Cert.RowDotRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Ff2Dx (m : (ℓ : Loc Cert.Ff2Dx.nD Cert.Ff2Dx.τ Cert.Ff2Dx.sig) → Buf (Elt Bits) ℓ) : Prop :=
  True

def Pre_Ff2DxIdeal (m : (ℓ : Loc Cert.Ff2DxIdeal.nD Cert.Ff2DxIdeal.τ Cert.Ff2DxIdeal.sig) → Buf (Elt Ideal) ℓ) : Prop :=
  True

def Pre_Ff2DxRefIdeal (m : (ℓ : Loc Cert.Ff2DxRefIdeal.nD Cert.Ff2DxRefIdeal.τ Cert.Ff2DxRefIdeal.sig) → Buf (Elt Ideal) ℓ) : Prop :=
  True

def Pre_Ff1Dx (m : (ℓ : Loc Cert.Ff1Dx.nD Cert.Ff1Dx.τ Cert.Ff1Dx.sig) → Buf (Elt Bits) ℓ) : Prop :=
  True

def Pre_Ff1DxIdeal (m : (ℓ : Loc Cert.Ff1DxIdeal.nD Cert.Ff1DxIdeal.τ Cert.Ff1DxIdeal.sig) → Buf (Elt Ideal) ℓ) : Prop :=
  True

def Pre_Ff1DxRefIdeal (m : (ℓ : Loc Cert.Ff1DxRefIdeal.nD Cert.Ff1DxRefIdeal.τ Cert.Ff1DxRefIdeal.sig) → Buf (Elt Ideal) ℓ) : Prop :=
  True

def Pre_Ff1Next (m : (ℓ : Loc Cert.Ff1Next.nD Cert.Ff1Next.τ Cert.Ff1Next.sig) → Buf (Elt Bits) ℓ) : Prop :=
  True

def Pre_Ff1NextIdeal (m : (ℓ : Loc Cert.Ff1NextIdeal.nD Cert.Ff1NextIdeal.τ Cert.Ff1NextIdeal.sig) → Buf (Elt Ideal) ℓ) : Prop :=
  True

def Pre_Ff1NextRefIdeal (m : (ℓ : Loc Cert.Ff1NextRefIdeal.nD Cert.Ff1NextRefIdeal.τ Cert.Ff1NextRefIdeal.sig) → Buf (Elt Ideal) ℓ) : Prop :=
  True

def Pre_Ff2Next (m : (ℓ : Loc Cert.Ff2Next.nD Cert.Ff2Next.τ Cert.Ff2Next.sig) → Buf (Elt Bits) ℓ) : Prop :=
  True

def Pre_Ff2NextIdeal (m : (ℓ : Loc Cert.Ff2NextIdeal.nD Cert.Ff2NextIdeal.τ Cert.Ff2NextIdeal.sig) → Buf (Elt Ideal) ℓ) : Prop :=
  True

def Pre_Ff2NextRefIdeal (m : (ℓ : Loc Cert.Ff2NextRefIdeal.nD Cert.Ff2NextRefIdeal.τ Cert.Ff2NextRefIdeal.sig) → Buf (Elt Ideal) ℓ) : Prop :=
  True

def Pre_Ff2DxNext (m : (ℓ : Loc Cert.Ff2DxNext.nD Cert.Ff2DxNext.τ Cert.Ff2DxNext.sig) → Buf (Elt Bits) ℓ) : Prop :=
  True

def Pre_Ff2DxNextIdeal (m : (ℓ : Loc Cert.Ff2DxNextIdeal.nD Cert.Ff2DxNextIdeal.τ Cert.Ff2DxNextIdeal.sig) → Buf (Elt Ideal) ℓ) : Prop :=
  True

def Pre_Ff2DxNextRefIdeal (m : (ℓ : Loc Cert.Ff2DxNextRefIdeal.nD Cert.Ff2DxNextRefIdeal.τ Cert.Ff2DxNextRefIdeal.sig) → Buf (Elt Ideal) ℓ) : Prop :=
  True

def Pre_Ff1DxNext (m : (ℓ : Loc Cert.Ff1DxNext.nD Cert.Ff1DxNext.τ Cert.Ff1DxNext.sig) → Buf (Elt Bits) ℓ) : Prop :=
  True

def Pre_Ff1DxNextIdeal (m : (ℓ : Loc Cert.Ff1DxNextIdeal.nD Cert.Ff1DxNextIdeal.τ Cert.Ff1DxNextIdeal.sig) → Buf (Elt Ideal) ℓ) : Prop :=
  True

def Pre_Ff1DxNextRefIdeal (m : (ℓ : Loc Cert.Ff1DxNextRefIdeal.nD Cert.Ff1DxNextRefIdeal.τ Cert.Ff1DxNextRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdIdeal_pre_finite_rows [hLnBwdIdeal : Cert.LnBwdIdeal.Facts] [hPre_finite_rows : Cert.Pre_finite_rows.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_rows m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LnBwdRefIdeal_pre_finite_rows [hLnBwdRefIdeal : Cert.LnBwdRefIdeal.Facts] [hPre_finite_rows : Cert.Pre_finite_rows.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_rows m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ r.2.sem = fun _ => 0)

def quiescent_Ff2DwRefIdeal [hFf2DwRefIdeal : Cert.Ff2DwRefIdeal.Facts] : Prop :=
  ∀ (m : (ℓ : Loc Cert.Ff2DwRefIdeal.nD Cert.Ff2DwRefIdeal.τ Cert.Ff2DwRefIdeal.sig) → Buf (Elt Ideal) ℓ) (g : Dev Cert.Ff2DwRefIdeal.nD → PrngReg), Pre_Ff2DwRefIdeal m →
    θ_run (Cert.Ff2DwRefIdeal.defs (F := Ideal)) (onTc (τ := Cert.Ff2DwRefIdeal.τ) (Cert.Ff2DwRefIdeal.main (F := Ideal))) ⟨m, fun _ => 0, g⟩ (fun r => (∀ c : Dev Cert.Ff2DwRefIdeal.nD,
      r.2.mem ((c.tc : Thread Cert.Ff2DwRefIdeal.nD Cert.Ff2DwRefIdeal.τ).loc Cert.Ff2DwRefIdeal.main_arg0) = m ((c.tc : Thread Cert.Ff2DwRefIdeal.nD Cert.Ff2DwRefIdeal.τ).loc Cert.Ff2DwRefIdeal.main_arg0)
      ∧ r.2.mem ((c.tc : Thread Cert.Ff2DwRefIdeal.nD Cert.Ff2DwRefIdeal.τ).loc Cert.Ff2DwRefIdeal.main_arg1) = m ((c.tc : Thread Cert.Ff2DwRefIdeal.nD Cert.Ff2DwRefIdeal.τ).loc Cert.Ff2DwRefIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ r.2.sem = fun _ => 0)

def quiescent_Ff1DwRefIdeal [hFf1DwRefIdeal : Cert.Ff1DwRefIdeal.Facts] : Prop :=
  ∀ (m : (ℓ : Loc Cert.Ff1DwRefIdeal.nD Cert.Ff1DwRefIdeal.τ Cert.Ff1DwRefIdeal.sig) → Buf (Elt Ideal) ℓ) (g : Dev Cert.Ff1DwRefIdeal.nD → PrngReg), Pre_Ff1DwRefIdeal m →
    θ_run (Cert.Ff1DwRefIdeal.defs (F := Ideal)) (onTc (τ := Cert.Ff1DwRefIdeal.τ) (Cert.Ff1DwRefIdeal.main (F := Ideal))) ⟨m, fun _ => 0, g⟩ (fun r => (∀ c : Dev Cert.Ff1DwRefIdeal.nD,
      r.2.mem ((c.tc : Thread Cert.Ff1DwRefIdeal.nD Cert.Ff1DwRefIdeal.τ).loc Cert.Ff1DwRefIdeal.main_arg0) = m ((c.tc : Thread Cert.Ff1DwRefIdeal.nD Cert.Ff1DwRefIdeal.τ).loc Cert.Ff1DwRefIdeal.main_arg0)
      ∧ r.2.mem ((c.tc : Thread Cert.Ff1DwRefIdeal.nD Cert.Ff1DwRefIdeal.τ).loc Cert.Ff1DwRefIdeal.main_arg1) = m ((c.tc : Thread Cert.Ff1DwRefIdeal.nD Cert.Ff1DwRefIdeal.τ).loc Cert.Ff1DwRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2))
      ∧ r.2.sem = fun _ => 0)

def quiescent_InAttDw [hInAttDw : Cert.InAttDw.Facts] : Prop :=
  ∀ (m : (ℓ : Loc Cert.InAttDw.nD Cert.InAttDw.τ Cert.InAttDw.sig) → Buf (Elt Bits) ℓ) (g : Dev Cert.InAttDw.nD → PrngReg), Pre_InAttDw m →
    θ_run (Cert.InAttDw.defs (F := Bits)) (onTc (τ := Cert.InAttDw.τ) (Cert.InAttDw.main (F := Bits))) ⟨m, fun _ => 0, g⟩ (fun r => (∀ c : Dev Cert.InAttDw.nD,
      r.2.mem ((c.tc : Thread Cert.InAttDw.nD Cert.InAttDw.τ).loc Cert.InAttDw.main_arg0) = m ((c.tc : Thread Cert.InAttDw.nD Cert.InAttDw.τ).loc Cert.InAttDw.main_arg0)
      ∧ r.2.mem ((c.tc : Thread Cert.InAttDw.nD Cert.InAttDw.τ).loc Cert.InAttDw.main_arg1) = m ((c.tc : Thread Cert.InAttDw.nD Cert.InAttDw.τ).loc Cert.InAttDw.main_arg1))
      ∧ r.2.sem = fun _ => 0)

def quiescent_InAttDwIdeal [hInAttDwIdeal : Cert.InAttDwIdeal.Facts] : Prop :=
  ∀ (m : (ℓ : Loc Cert.InAttDwIdeal.nD Cert.InAttDwIdeal.τ Cert.InAttDwIdeal.sig) → Buf (Elt Ideal) ℓ) (g : Dev Cert.InAttDwIdeal.nD → PrngReg), Pre_InAttDwIdeal m →
    θ_run (Cert.InAttDwIdeal.defs (F := Ideal)) (onTc (τ := Cert.InAttDwIdeal.τ) (Cert.InAttDwIdeal.main (F := Ideal))) ⟨m, fun _ => 0, g⟩ (fun r => (∀ c : Dev Cert.InAttDwIdeal.nD,
      r.2.mem ((c.tc : Thread Cert.InAttDwIdeal.nD Cert.InAttDwIdeal.τ).loc Cert.InAttDwIdeal.main_arg0) = m ((c.tc : Thread Cert.InAttDwIdeal.nD Cert.InAttDwIdeal.τ).loc Cert.InAttDwIdeal.main_arg0)
      ∧ r.2.mem ((c.tc : Thread Cert.InAttDwIdeal.nD Cert.InAttDwIdeal.τ).loc Cert.InAttDwIdeal.main_arg1) = m ((c.tc : Thread Cert.InAttDwIdeal.nD Cert.InAttDwIdeal.τ).loc Cert.InAttDwIdeal.main_arg1))
      ∧ r.2.sem = fun _ => 0)

def quiescent_InAttDwRefIdeal [hInAttDwRefIdeal : Cert.InAttDwRefIdeal.Facts] : Prop :=
  ∀ (m : (ℓ : Loc Cert.InAttDwRefIdeal.nD Cert.InAttDwRefIdeal.τ Cert.InAttDwRefIdeal.sig) → Buf (Elt Ideal) ℓ) (g : Dev Cert.InAttDwRefIdeal.nD → PrngReg), Pre_InAttDwRefIdeal m →
    θ_run (Cert.InAttDwRefIdeal.defs (F := Ideal)) (onTc (τ := Cert.InAttDwRefIdeal.τ) (Cert.InAttDwRefIdeal.main (F := Ideal))) ⟨m, fun _ => 0, g⟩ (fun r => (∀ c : Dev Cert.InAttDwRefIdeal.nD,
      r.2.mem ((c.tc : Thread Cert.InAttDwRefIdeal.nD Cert.InAttDwRefIdeal.τ).loc Cert.InAttDwRefIdeal.main_arg0) = m ((c.tc : Thread Cert.InAttDwRefIdeal.nD Cert.InAttDwRefIdeal.τ).loc Cert.InAttDwRefIdeal.main_arg0)
      ∧ r.2.mem ((c.tc : Thread Cert.InAttDwRefIdeal.nD Cert.InAttDwRefIdeal.τ).loc Cert.InAttDwRefIdeal.main_arg1) = m ((c.tc : Thread Cert.InAttDwRefIdeal.nD Cert.InAttDwRefIdeal.τ).loc Cert.InAttDwRefIdeal.main_arg1))
      ∧ r.2.sem = fun _ => 0)

def quiescent_InAttDx [hInAttDx : Cert.InAttDx.Facts] : Prop :=
  ∀ (m : (ℓ : Loc Cert.InAttDx.nD Cert.InAttDx.τ Cert.InAttDx.sig) → Buf (Elt Bits) ℓ) (g : Dev Cert.InAttDx.nD → PrngReg), Pre_InAttDx m →
    θ_run (Cert.InAttDx.defs (F := Bits)) (onTc (τ := Cert.InAttDx.τ) (Cert.InAttDx.main (F := Bits))) ⟨m, fun _ => 0, g⟩ (fun r => (∀ c : Dev Cert.InAttDx.nD,
      r.2.mem ((c.tc : Thread Cert.InAttDx.nD Cert.InAttDx.τ).loc Cert.InAttDx.main_arg0) = m ((c.tc : Thread Cert.InAttDx.nD Cert.InAttDx.τ).loc Cert.InAttDx.main_arg0)
      ∧ r.2.mem ((c.tc : Thread Cert.InAttDx.nD Cert.InAttDx.τ).loc Cert.InAttDx.main_arg1) = m ((c.tc : Thread Cert.InAttDx.nD Cert.InAttDx.τ).loc Cert.InAttDx.main_arg1)
      ∧ r.2.mem ((c.tc : Thread Cert.InAttDx.nD Cert.InAttDx.τ).loc Cert.InAttDx.main_arg2) = m ((c.tc : Thread Cert.InAttDx.nD Cert.InAttDx.τ).loc Cert.InAttDx.main_arg2))
      ∧ r.2.sem = fun _ => 0)

def quiescent_InAttDxIdeal [hInAttDxIdeal : Cert.InAttDxIdeal.Facts] : Prop :=
  ∀ (m : (ℓ : Loc Cert.InAttDxIdeal.nD Cert.InAttDxIdeal.τ Cert.InAttDxIdeal.sig) → Buf (Elt Ideal) ℓ) (g : Dev Cert.InAttDxIdeal.nD → PrngReg), Pre_InAttDxIdeal m →
    θ_run (Cert.InAttDxIdeal.defs (F := Ideal)) (onTc (τ := Cert.InAttDxIdeal.τ) (Cert.InAttDxIdeal.main (F := Ideal))) ⟨m, fun _ => 0, g⟩ (fun r => (∀ c : Dev Cert.InAttDxIdeal.nD,
      r.2.mem ((c.tc : Thread Cert.InAttDxIdeal.nD Cert.InAttDxIdeal.τ).loc Cert.InAttDxIdeal.main_arg0) = m ((c.tc : Thread Cert.InAttDxIdeal.nD Cert.InAttDxIdeal.τ).loc Cert.InAttDxIdeal.main_arg0)
      ∧ r.2.mem ((c.tc : Thread Cert.InAttDxIdeal.nD Cert.InAttDxIdeal.τ).loc Cert.InAttDxIdeal.main_arg1) = m ((c.tc : Thread Cert.InAttDxIdeal.nD Cert.InAttDxIdeal.τ).loc Cert.InAttDxIdeal.main_arg1)
      ∧ r.2.mem ((c.tc : Thread Cert.InAttDxIdeal.nD Cert.InAttDxIdeal.τ).loc Cert.InAttDxIdeal.main_arg2) = m ((c.tc : Thread Cert.InAttDxIdeal.nD Cert.InAttDxIdeal.τ).loc Cert.InAttDxIdeal.main_arg2))
      ∧ r.2.sem = fun _ => 0)

def quiescent_InAttDxRefIdeal [hInAttDxRefIdeal : Cert.InAttDxRefIdeal.Facts] : Prop :=
  ∀ (m : (ℓ : Loc Cert.InAttDxRefIdeal.nD Cert.InAttDxRefIdeal.τ Cert.InAttDxRefIdeal.sig) → Buf (Elt Ideal) ℓ) (g : Dev Cert.InAttDxRefIdeal.nD → PrngReg), Pre_InAttDxRefIdeal m →
    θ_run (Cert.InAttDxRefIdeal.defs (F := Ideal)) (onTc (τ := Cert.InAttDxRefIdeal.τ) (Cert.InAttDxRefIdeal.main (F := Ideal))) ⟨m, fun _ => 0, g⟩ (fun r => (∀ c : Dev Cert.InAttDxRefIdeal.nD,
      r.2.mem ((c.tc : Thread Cert.InAttDxRefIdeal.nD Cert.InAttDxRefIdeal.τ).loc Cert.InAttDxRefIdeal.main_arg0) = m ((c.tc : Thread Cert.InAttDxRefIdeal.nD Cert.InAttDxRefIdeal.τ).loc Cert.InAttDxRefIdeal.main_arg0)
      ∧ r.2.mem ((c.tc : Thread Cert.InAttDxRefIdeal.nD Cert.InAttDxRefIdeal.τ).loc Cert.InAttDxRefIdeal.main_arg1) = m ((c.tc : Thread Cert.InAttDxRefIdeal.nD Cert.InAttDxRefIdeal.τ).loc Cert.InAttDxRefIdeal.main_arg1)
      ∧ r.2.mem ((c.tc : Thread Cert.InAttDxRefIdeal.nD Cert.InAttDxRefIdeal.τ).loc Cert.InAttDxRefIdeal.main_arg2) = m ((c.tc : Thread Cert.InAttDxRefIdeal.nD Cert.InAttDxRefIdeal.τ).loc Cert.InAttDxRefIdeal.main_arg2))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1)
      ∧ r.2.mem ((c.tc : Thread Cert.GateProj.nD Cert.GateProj.τ).loc Cert.GateProj.main_arg2) = m ((c.tc : Thread Cert.GateProj.nD Cert.GateProj.τ).loc Cert.GateProj.main_arg2))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
      ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1)
      ∧ r.2.mem ((c.tc : Thread Cert.GateProjRefIdeal.nD Cert.GateProjRefIdeal.τ).loc Cert.GateProjRefIdeal.main_arg2) = m ((c.tc : Thread Cert.GateProjRefIdeal.nD Cert.GateProjRefIdeal.τ).loc Cert.GateProjRefIdeal.main_arg2))
      ∧ r.2.sem = fun _ => 0)

def quiescent_InProjAtt [hInProjAtt : Cert.InProjAtt.Facts] : Prop :=
  ∀ (m : (ℓ : Loc Cert.InProjAtt.nD Cert.InProjAtt.τ Cert.InProjAtt.sig) → Buf (Elt Bits) ℓ) (g : Dev Cert.InProjAtt.nD → PrngReg), Pre_InProjAtt m →
    θ_run (Cert.InProjAtt.defs (F := Bits)) (onTc (τ := Cert.InProjAtt.τ) (Cert.InProjAtt.main (F := Bits))) ⟨m, fun _ => 0, g⟩ (fun r => (∀ c : Dev Cert.InProjAtt.nD,
      r.2.mem ((c.tc : Thread Cert.InProjAtt.nD Cert.InProjAtt.τ).loc Cert.InProjAtt.main_arg0) = m ((c.tc : Thread Cert.InProjAtt.nD Cert.InProjAtt.τ).loc Cert.InProjAtt.main_arg0)
      ∧ r.2.mem ((c.tc : Thread Cert.InProjAtt.nD Cert.InProjAtt.τ).loc Cert.InProjAtt.main_arg1) = m ((c.tc : Thread Cert.InProjAtt.nD Cert.InProjAtt.τ).loc Cert.InProjAtt.main_arg1))
      ∧ r.2.sem = fun _ => 0)

def quiescent_InProjAttIdeal [hInProjAttIdeal : Cert.InProjAttIdeal.Facts] : Prop :=
  ∀ (m : (ℓ : Loc Cert.InProjAttIdeal.nD Cert.InProjAttIdeal.τ Cert.InProjAttIdeal.sig) → Buf (Elt Ideal) ℓ) (g : Dev Cert.InProjAttIdeal.nD → PrngReg), Pre_InProjAttIdeal m →
    θ_run (Cert.InProjAttIdeal.defs (F := Ideal)) (onTc (τ := Cert.InProjAttIdeal.τ) (Cert.InProjAttIdeal.main (F := Ideal))) ⟨m, fun _ => 0, g⟩ (fun r => (∀ c : Dev Cert.InProjAttIdeal.nD,
      r.2.mem ((c.tc : Thread Cert.InProjAttIdeal.nD Cert.InProjAttIdeal.τ).loc Cert.InProjAttIdeal.main_arg0) = m ((c.tc : Thread Cert.InProjAttIdeal.nD Cert.InProjAttIdeal.τ).loc Cert.InProjAttIdeal.main_arg0)
      ∧ r.2.mem ((c.tc : Thread Cert.InProjAttIdeal.nD Cert.InProjAttIdeal.τ).loc Cert.InProjAttIdeal.main_arg1) = m ((c.tc : Thread Cert.InProjAttIdeal.nD Cert.InProjAttIdeal.τ).loc Cert.InProjAttIdeal.main_arg1))
      ∧ r.2.sem = fun _ => 0)

def quiescent_InProjAttRefIdeal [hInProjAttRefIdeal : Cert.InProjAttRefIdeal.Facts] : Prop :=
  ∀ (m : (ℓ : Loc Cert.InProjAttRefIdeal.nD Cert.InProjAttRefIdeal.τ Cert.InProjAttRefIdeal.sig) → Buf (Elt Ideal) ℓ) (g : Dev Cert.InProjAttRefIdeal.nD → PrngReg), Pre_InProjAttRefIdeal m →
    θ_run (Cert.InProjAttRefIdeal.defs (F := Ideal)) (onTc (τ := Cert.InProjAttRefIdeal.τ) (Cert.InProjAttRefIdeal.main (F := Ideal))) ⟨m, fun _ => 0, g⟩ (fun r => (∀ c : Dev Cert.InProjAttRefIdeal.nD,
      r.2.mem ((c.tc : Thread Cert.InProjAttRefIdeal.nD Cert.InProjAttRefIdeal.τ).loc Cert.InProjAttRefIdeal.main_arg0) = m ((c.tc : Thread Cert.InProjAttRefIdeal.nD Cert.InProjAttRefIdeal.τ).loc Cert.InProjAttRefIdeal.main_arg0)
      ∧ r.2.mem ((c.tc : Thread Cert.InProjAttRefIdeal.nD Cert.InProjAttRefIdeal.τ).loc Cert.InProjAttRefIdeal.main_arg1) = m ((c.tc : Thread Cert.InProjAttRefIdeal.nD Cert.InProjAttRefIdeal.τ).loc Cert.InProjAttRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InProjRec [hInProjRec : Cert.InProjRec.Facts] : Prop :=
  ∀ (m : (ℓ : Loc Cert.InProjRec.nD Cert.InProjRec.τ Cert.InProjRec.sig) → Buf (Elt Bits) ℓ) (g : Dev Cert.InProjRec.nD → PrngReg), Pre_InProjRec m →
    θ_run (Cert.InProjRec.defs (F := Bits)) (onTc (τ := Cert.InProjRec.τ) (Cert.InProjRec.main (F := Bits))) ⟨m, fun _ => 0, g⟩ (fun r => (∀ c : Dev Cert.InProjRec.nD,
      r.2.mem ((c.tc : Thread Cert.InProjRec.nD Cert.InProjRec.τ).loc Cert.InProjRec.main_arg0) = m ((c.tc : Thread Cert.InProjRec.nD Cert.InProjRec.τ).loc Cert.InProjRec.main_arg0)
      ∧ r.2.mem ((c.tc : Thread Cert.InProjRec.nD Cert.InProjRec.τ).loc Cert.InProjRec.main_arg1) = m ((c.tc : Thread Cert.InProjRec.nD Cert.InProjRec.τ).loc Cert.InProjRec.main_arg1))
      ∧ r.2.sem = fun _ => 0)

def quiescent_InProjRecIdeal [hInProjRecIdeal : Cert.InProjRecIdeal.Facts] : Prop :=
  ∀ (m : (ℓ : Loc Cert.InProjRecIdeal.nD Cert.InProjRecIdeal.τ Cert.InProjRecIdeal.sig) → Buf (Elt Ideal) ℓ) (g : Dev Cert.InProjRecIdeal.nD → PrngReg), Pre_InProjRecIdeal m →
    θ_run (Cert.InProjRecIdeal.defs (F := Ideal)) (onTc (τ := Cert.InProjRecIdeal.τ) (Cert.InProjRecIdeal.main (F := Ideal))) ⟨m, fun _ => 0, g⟩ (fun r => (∀ c : Dev Cert.InProjRecIdeal.nD,
      r.2.mem ((c.tc : Thread Cert.InProjRecIdeal.nD Cert.InProjRecIdeal.τ).loc Cert.InProjRecIdeal.main_arg0) = m ((c.tc : Thread Cert.InProjRecIdeal.nD Cert.InProjRecIdeal.τ).loc Cert.InProjRecIdeal.main_arg0)
      ∧ r.2.mem ((c.tc : Thread Cert.InProjRecIdeal.nD Cert.InProjRecIdeal.τ).loc Cert.InProjRecIdeal.main_arg1) = m ((c.tc : Thread Cert.InProjRecIdeal.nD Cert.InProjRecIdeal.τ).loc Cert.InProjRecIdeal.main_arg1))
      ∧ r.2.sem = fun _ => 0)

def quiescent_InProjRecRefIdeal [hInProjRecRefIdeal : Cert.InProjRecRefIdeal.Facts] : Prop :=
  ∀ (m : (ℓ : Loc Cert.InProjRecRefIdeal.nD Cert.InProjRecRefIdeal.τ Cert.InProjRecRefIdeal.sig) → Buf (Elt Ideal) ℓ) (g : Dev Cert.InProjRecRefIdeal.nD → PrngReg), Pre_InProjRecRefIdeal m →
    θ_run (Cert.InProjRecRefIdeal.defs (F := Ideal)) (onTc (τ := Cert.InProjRecRefIdeal.τ) (Cert.InProjRecRefIdeal.main (F := Ideal))) ⟨m, fun _ => 0, g⟩ (fun r => (∀ c : Dev Cert.InProjRecRefIdeal.nD,
      r.2.mem ((c.tc : Thread Cert.InProjRecRefIdeal.nD Cert.InProjRecRefIdeal.τ).loc Cert.InProjRecRefIdeal.main_arg0) = m ((c.tc : Thread Cert.InProjRecRefIdeal.nD Cert.InProjRecRefIdeal.τ).loc Cert.InProjRecRefIdeal.main_arg0)
      ∧ r.2.mem ((c.tc : Thread Cert.InProjRecRefIdeal.nD Cert.InProjRecRefIdeal.τ).loc Cert.InProjRecRefIdeal.main_arg1) = m ((c.tc : Thread Cert.InProjRecRefIdeal.nD Cert.InProjRecRefIdeal.τ).loc Cert.InProjRecRefIdeal.main_arg1))
      ∧ r.2.sem = fun _ => 0)

def quiescent_InRecDw [hInRecDw : Cert.InRecDw.Facts] : Prop :=
  ∀ (m : (ℓ : Loc Cert.InRecDw.nD Cert.InRecDw.τ Cert.InRecDw.sig) → Buf (Elt Bits) ℓ) (g : Dev Cert.InRecDw.nD → PrngReg), Pre_InRecDw m →
    θ_run (Cert.InRecDw.defs (F := Bits)) (onTc (τ := Cert.InRecDw.τ) (Cert.InRecDw.main (F := Bits))) ⟨m, fun _ => 0, g⟩ (fun r => (∀ c : Dev Cert.InRecDw.nD,
      r.2.mem ((c.tc : Thread Cert.InRecDw.nD Cert.InRecDw.τ).loc Cert.InRecDw.main_arg0) = m ((c.tc : Thread Cert.InRecDw.nD Cert.InRecDw.τ).loc Cert.InRecDw.main_arg0)
      ∧ r.2.mem ((c.tc : Thread Cert.InRecDw.nD Cert.InRecDw.τ).loc Cert.InRecDw.main_arg1) = m ((c.tc : Thread Cert.InRecDw.nD Cert.InRecDw.τ).loc Cert.InRecDw.main_arg1))
      ∧ r.2.sem = fun _ => 0)

def quiescent_InRecDwIdeal [hInRecDwIdeal : Cert.InRecDwIdeal.Facts] : Prop :=
  ∀ (m : (ℓ : Loc Cert.InRecDwIdeal.nD Cert.InRecDwIdeal.τ Cert.InRecDwIdeal.sig) → Buf (Elt Ideal) ℓ) (g : Dev Cert.InRecDwIdeal.nD → PrngReg), Pre_InRecDwIdeal m →
    θ_run (Cert.InRecDwIdeal.defs (F := Ideal)) (onTc (τ := Cert.InRecDwIdeal.τ) (Cert.InRecDwIdeal.main (F := Ideal))) ⟨m, fun _ => 0, g⟩ (fun r => (∀ c : Dev Cert.InRecDwIdeal.nD,
      r.2.mem ((c.tc : Thread Cert.InRecDwIdeal.nD Cert.InRecDwIdeal.τ).loc Cert.InRecDwIdeal.main_arg0) = m ((c.tc : Thread Cert.InRecDwIdeal.nD Cert.InRecDwIdeal.τ).loc Cert.InRecDwIdeal.main_arg0)
      ∧ r.2.mem ((c.tc : Thread Cert.InRecDwIdeal.nD Cert.InRecDwIdeal.τ).loc Cert.InRecDwIdeal.main_arg1) = m ((c.tc : Thread Cert.InRecDwIdeal.nD Cert.InRecDwIdeal.τ).loc Cert.InRecDwIdeal.main_arg1))
      ∧ r.2.sem = fun _ => 0)

def quiescent_InRecDwRefIdeal [hInRecDwRefIdeal : Cert.InRecDwRefIdeal.Facts] : Prop :=
  ∀ (m : (ℓ : Loc Cert.InRecDwRefIdeal.nD Cert.InRecDwRefIdeal.τ Cert.InRecDwRefIdeal.sig) → Buf (Elt Ideal) ℓ) (g : Dev Cert.InRecDwRefIdeal.nD → PrngReg), Pre_InRecDwRefIdeal m →
    θ_run (Cert.InRecDwRefIdeal.defs (F := Ideal)) (onTc (τ := Cert.InRecDwRefIdeal.τ) (Cert.InRecDwRefIdeal.main (F := Ideal))) ⟨m, fun _ => 0, g⟩ (fun r => (∀ c : Dev Cert.InRecDwRefIdeal.nD,
      r.2.mem ((c.tc : Thread Cert.InRecDwRefIdeal.nD Cert.InRecDwRefIdeal.τ).loc Cert.InRecDwRefIdeal.main_arg0) = m ((c.tc : Thread Cert.InRecDwRefIdeal.nD Cert.InRecDwRefIdeal.τ).loc Cert.InRecDwRefIdeal.main_arg0)
      ∧ r.2.mem ((c.tc : Thread Cert.InRecDwRefIdeal.nD Cert.InRecDwRefIdeal.τ).loc Cert.InRecDwRefIdeal.main_arg1) = m ((c.tc : Thread Cert.InRecDwRefIdeal.nD Cert.InRecDwRefIdeal.τ).loc Cert.InRecDwRefIdeal.main_arg1))
      ∧ r.2.sem = fun _ => 0)

def quiescent_InRecDx [hInRecDx : Cert.InRecDx.Facts] : Prop :=
  ∀ (m : (ℓ : Loc Cert.InRecDx.nD Cert.InRecDx.τ Cert.InRecDx.sig) → Buf (Elt Bits) ℓ) (g : Dev Cert.InRecDx.nD → PrngReg), Pre_InRecDx m →
    θ_run (Cert.InRecDx.defs (F := Bits)) (onTc (τ := Cert.InRecDx.τ) (Cert.InRecDx.main (F := Bits))) ⟨m, fun _ => 0, g⟩ (fun r => (∀ c : Dev Cert.InRecDx.nD,
      r.2.mem ((c.tc : Thread Cert.InRecDx.nD Cert.InRecDx.τ).loc Cert.InRecDx.main_arg0) = m ((c.tc : Thread Cert.InRecDx.nD Cert.InRecDx.τ).loc Cert.InRecDx.main_arg0)
      ∧ r.2.mem ((c.tc : Thread Cert.InRecDx.nD Cert.InRecDx.τ).loc Cert.InRecDx.main_arg1) = m ((c.tc : Thread Cert.InRecDx.nD Cert.InRecDx.τ).loc Cert.InRecDx.main_arg1)
      ∧ r.2.mem ((c.tc : Thread Cert.InRecDx.nD Cert.InRecDx.τ).loc Cert.InRecDx.main_arg2) = m ((c.tc : Thread Cert.InRecDx.nD Cert.InRecDx.τ).loc Cert.InRecDx.main_arg2))
      ∧ r.2.sem = fun _ => 0)

def quiescent_InRecDxIdeal [hInRecDxIdeal : Cert.InRecDxIdeal.Facts] : Prop :=
  ∀ (m : (ℓ : Loc Cert.InRecDxIdeal.nD Cert.InRecDxIdeal.τ Cert.InRecDxIdeal.sig) → Buf (Elt Ideal) ℓ) (g : Dev Cert.InRecDxIdeal.nD → PrngReg), Pre_InRecDxIdeal m →
    θ_run (Cert.InRecDxIdeal.defs (F := Ideal)) (onTc (τ := Cert.InRecDxIdeal.τ) (Cert.InRecDxIdeal.main (F := Ideal))) ⟨m, fun _ => 0, g⟩ (fun r => (∀ c : Dev Cert.InRecDxIdeal.nD,
      r.2.mem ((c.tc : Thread Cert.InRecDxIdeal.nD Cert.InRecDxIdeal.τ).loc Cert.InRecDxIdeal.main_arg0) = m ((c.tc : Thread Cert.InRecDxIdeal.nD Cert.InRecDxIdeal.τ).loc Cert.InRecDxIdeal.main_arg0)
      ∧ r.2.mem ((c.tc : Thread Cert.InRecDxIdeal.nD Cert.InRecDxIdeal.τ).loc Cert.InRecDxIdeal.main_arg1) = m ((c.tc : Thread Cert.InRecDxIdeal.nD Cert.InRecDxIdeal.τ).loc Cert.InRecDxIdeal.main_arg1)
      ∧ r.2.mem ((c.tc : Thread Cert.InRecDxIdeal.nD Cert.InRecDxIdeal.τ).loc Cert.InRecDxIdeal.main_arg2) = m ((c.tc : Thread Cert.InRecDxIdeal.nD Cert.InRecDxIdeal.τ).loc Cert.InRecDxIdeal.main_arg2))
      ∧ r.2.sem = fun _ => 0)

def quiescent_InRecDxRefIdeal [hInRecDxRefIdeal : Cert.InRecDxRefIdeal.Facts] : Prop :=
  ∀ (m : (ℓ : Loc Cert.InRecDxRefIdeal.nD Cert.InRecDxRefIdeal.τ Cert.InRecDxRefIdeal.sig) → Buf (Elt Ideal) ℓ) (g : Dev Cert.InRecDxRefIdeal.nD → PrngReg), Pre_InRecDxRefIdeal m →
    θ_run (Cert.InRecDxRefIdeal.defs (F := Ideal)) (onTc (τ := Cert.InRecDxRefIdeal.τ) (Cert.InRecDxRefIdeal.main (F := Ideal))) ⟨m, fun _ => 0, g⟩ (fun r => (∀ c : Dev Cert.InRecDxRefIdeal.nD,
      r.2.mem ((c.tc : Thread Cert.InRecDxRefIdeal.nD Cert.InRecDxRefIdeal.τ).loc Cert.InRecDxRefIdeal.main_arg0) = m ((c.tc : Thread Cert.InRecDxRefIdeal.nD Cert.InRecDxRefIdeal.τ).loc Cert.InRecDxRefIdeal.main_arg0)
      ∧ r.2.mem ((c.tc : Thread Cert.InRecDxRefIdeal.nD Cert.InRecDxRefIdeal.τ).loc Cert.InRecDxRefIdeal.main_arg1) = m ((c.tc : Thread Cert.InRecDxRefIdeal.nD Cert.InRecDxRefIdeal.τ).loc Cert.InRecDxRefIdeal.main_arg1)
      ∧ r.2.mem ((c.tc : Thread Cert.InRecDxRefIdeal.nD Cert.InRecDxRefIdeal.τ).loc Cert.InRecDxRefIdeal.main_arg2) = m ((c.tc : Thread Cert.InRecDxRefIdeal.nD Cert.InRecDxRefIdeal.τ).loc Cert.InRecDxRefIdeal.main_arg2))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_RowDot [hRowDot : Cert.RowDot.Facts] : Prop :=
  ∀ (m : (ℓ : Loc Cert.RowDot.nD Cert.RowDot.τ Cert.RowDot.sig) → Buf (Elt Bits) ℓ) (g : Dev Cert.RowDot.nD → PrngReg), Pre_RowDot m →
    θ_run (Cert.RowDot.defs (F := Bits)) (onTc (τ := Cert.RowDot.τ) (Cert.RowDot.main (F := Bits))) ⟨m, fun _ => 0, g⟩ (fun r => (∀ c : Dev Cert.RowDot.nD,
      r.2.mem ((c.tc : Thread Cert.RowDot.nD Cert.RowDot.τ).loc Cert.RowDot.main_arg0) = m ((c.tc : Thread Cert.RowDot.nD Cert.RowDot.τ).loc Cert.RowDot.main_arg0)
      ∧ r.2.mem ((c.tc : Thread Cert.RowDot.nD Cert.RowDot.τ).loc Cert.RowDot.main_arg1) = m ((c.tc : Thread Cert.RowDot.nD Cert.RowDot.τ).loc Cert.RowDot.main_arg1))
      ∧ r.2.sem = fun _ => 0)

def quiescent_RowDotIdeal [hRowDotIdeal : Cert.RowDotIdeal.Facts] : Prop :=
  ∀ (m : (ℓ : Loc Cert.RowDotIdeal.nD Cert.RowDotIdeal.τ Cert.RowDotIdeal.sig) → Buf (Elt Ideal) ℓ) (g : Dev Cert.RowDotIdeal.nD → PrngReg), Pre_RowDotIdeal m →
    θ_run (Cert.RowDotIdeal.defs (F := Ideal)) (onTc (τ := Cert.RowDotIdeal.τ) (Cert.RowDotIdeal.main (F := Ideal))) ⟨m, fun _ => 0, g⟩ (fun r => (∀ c : Dev Cert.RowDotIdeal.nD,
      r.2.mem ((c.tc : Thread Cert.RowDotIdeal.nD Cert.RowDotIdeal.τ).loc Cert.RowDotIdeal.main_arg0) = m ((c.tc : Thread Cert.RowDotIdeal.nD Cert.RowDotIdeal.τ).loc Cert.RowDotIdeal.main_arg0)
      ∧ r.2.mem ((c.tc : Thread Cert.RowDotIdeal.nD Cert.RowDotIdeal.τ).loc Cert.RowDotIdeal.main_arg1) = m ((c.tc : Thread Cert.RowDotIdeal.nD Cert.RowDotIdeal.τ).loc Cert.RowDotIdeal.main_arg1))
      ∧ r.2.sem = fun _ => 0)

def quiescent_RowDotRefIdeal [hRowDotRefIdeal : Cert.RowDotRefIdeal.Facts] : Prop :=
  ∀ (m : (ℓ : Loc Cert.RowDotRefIdeal.nD Cert.RowDotRefIdeal.τ Cert.RowDotRefIdeal.sig) → Buf (Elt Ideal) ℓ) (g : Dev Cert.RowDotRefIdeal.nD → PrngReg), Pre_RowDotRefIdeal m →
    θ_run (Cert.RowDotRefIdeal.defs (F := Ideal)) (onTc (τ := Cert.RowDotRefIdeal.τ) (Cert.RowDotRefIdeal.main (F := Ideal))) ⟨m, fun _ => 0, g⟩ (fun r => (∀ c : Dev Cert.RowDotRefIdeal.nD,
      r.2.mem ((c.tc : Thread Cert.RowDotRefIdeal.nD Cert.RowDotRefIdeal.τ).loc Cert.RowDotRefIdeal.main_arg0) = m ((c.tc : Thread Cert.RowDotRefIdeal.nD Cert.RowDotRefIdeal.τ).loc Cert.RowDotRefIdeal.main_arg0)
      ∧ r.2.mem ((c.tc : Thread Cert.RowDotRefIdeal.nD Cert.RowDotRefIdeal.τ).loc Cert.RowDotRefIdeal.main_arg1) = m ((c.tc : Thread Cert.RowDotRefIdeal.nD Cert.RowDotRefIdeal.τ).loc Cert.RowDotRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_Ff2Dx [hFf2Dx : Cert.Ff2Dx.Facts] : Prop :=
  ∀ (m : (ℓ : Loc Cert.Ff2Dx.nD Cert.Ff2Dx.τ Cert.Ff2Dx.sig) → Buf (Elt Bits) ℓ) (g : Dev Cert.Ff2Dx.nD → PrngReg), Pre_Ff2Dx m →
    θ_run (Cert.Ff2Dx.defs (F := Bits)) (onTc (τ := Cert.Ff2Dx.τ) (Cert.Ff2Dx.main (F := Bits))) ⟨m, fun _ => 0, g⟩ (fun r => (∀ c : Dev Cert.Ff2Dx.nD,
      r.2.mem ((c.tc : Thread Cert.Ff2Dx.nD Cert.Ff2Dx.τ).loc Cert.Ff2Dx.main_arg0) = m ((c.tc : Thread Cert.Ff2Dx.nD Cert.Ff2Dx.τ).loc Cert.Ff2Dx.main_arg0)
      ∧ r.2.mem ((c.tc : Thread Cert.Ff2Dx.nD Cert.Ff2Dx.τ).loc Cert.Ff2Dx.main_arg1) = m ((c.tc : Thread Cert.Ff2Dx.nD Cert.Ff2Dx.τ).loc Cert.Ff2Dx.main_arg1)
      ∧ r.2.mem ((c.tc : Thread Cert.Ff2Dx.nD Cert.Ff2Dx.τ).loc Cert.Ff2Dx.main_arg2) = m ((c.tc : Thread Cert.Ff2Dx.nD Cert.Ff2Dx.τ).loc Cert.Ff2Dx.main_arg2))
      ∧ r.2.sem = fun _ => 0)

def quiescent_Ff2DxIdeal [hFf2DxIdeal : Cert.Ff2DxIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg), Pre_Ff2DxIdeal m →
    θ_run (Cert.Ff2DxIdeal.defs (F := Ideal)) (onTc (τ := Cert.Ff2DxIdeal.τ) (Cert.Ff2DxIdeal.main (F := Ideal))) ⟨m, fun _ => 0, g⟩ (fun r => (∀ c : Dev Cert.Ff2DxIdeal.nD,
      r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
      ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
      ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ r.2.sem = fun _ => 0)

def quiescent_Ff2DxRefIdeal [hFf2DxRefIdeal : Cert.Ff2DxRefIdeal.Facts] : Prop :=
  ∀ (m : (ℓ : Loc Cert.Ff2DxRefIdeal.nD Cert.Ff2DxRefIdeal.τ Cert.Ff2DxRefIdeal.sig) → Buf (Elt Ideal) ℓ) (g : Dev Cert.Ff2DxRefIdeal.nD → PrngReg), Pre_Ff2DxRefIdeal m →
    θ_run (Cert.Ff2DxRefIdeal.defs (F := Ideal)) (onTc (τ := Cert.Ff2DxRefIdeal.τ) (Cert.Ff2DxRefIdeal.main (F := Ideal))) ⟨m, fun _ => 0, g⟩ (fun r => (∀ c : Dev Cert.Ff2DxRefIdeal.nD,
      r.2.mem ((c.tc : Thread Cert.Ff2DxRefIdeal.nD Cert.Ff2DxRefIdeal.τ).loc Cert.Ff2DxRefIdeal.main_arg0) = m ((c.tc : Thread Cert.Ff2DxRefIdeal.nD Cert.Ff2DxRefIdeal.τ).loc Cert.Ff2DxRefIdeal.main_arg0)
      ∧ r.2.mem ((c.tc : Thread Cert.Ff2DxRefIdeal.nD Cert.Ff2DxRefIdeal.τ).loc Cert.Ff2DxRefIdeal.main_arg1) = m ((c.tc : Thread Cert.Ff2DxRefIdeal.nD Cert.Ff2DxRefIdeal.τ).loc Cert.Ff2DxRefIdeal.main_arg1)
      ∧ r.2.mem ((c.tc : Thread Cert.Ff2DxRefIdeal.nD Cert.Ff2DxRefIdeal.τ).loc Cert.Ff2DxRefIdeal.main_arg2) = m ((c.tc : Thread Cert.Ff2DxRefIdeal.nD Cert.Ff2DxRefIdeal.τ).loc Cert.Ff2DxRefIdeal.main_arg2))
      ∧ r.2.sem = fun _ => 0)

def quiescent_Ff1Dx [hFf1Dx : Cert.Ff1Dx.Facts] : Prop :=
  ∀ (m : (ℓ : Loc Cert.Ff1Dx.nD Cert.Ff1Dx.τ Cert.Ff1Dx.sig) → Buf (Elt Bits) ℓ) (g : Dev Cert.Ff1Dx.nD → PrngReg), Pre_Ff1Dx m →
    θ_run (Cert.Ff1Dx.defs (F := Bits)) (onTc (τ := Cert.Ff1Dx.τ) (Cert.Ff1Dx.main (F := Bits))) ⟨m, fun _ => 0, g⟩ (fun r => (∀ c : Dev Cert.Ff1Dx.nD,
      r.2.mem ((c.tc : Thread Cert.Ff1Dx.nD Cert.Ff1Dx.τ).loc Cert.Ff1Dx.main_arg0) = m ((c.tc : Thread Cert.Ff1Dx.nD Cert.Ff1Dx.τ).loc Cert.Ff1Dx.main_arg0)
      ∧ r.2.mem ((c.tc : Thread Cert.Ff1Dx.nD Cert.Ff1Dx.τ).loc Cert.Ff1Dx.main_arg1) = m ((c.tc : Thread Cert.Ff1Dx.nD Cert.Ff1Dx.τ).loc Cert.Ff1Dx.main_arg1)
      ∧ r.2.mem ((c.tc : Thread Cert.Ff1Dx.nD Cert.Ff1Dx.τ).loc Cert.Ff1Dx.main_arg2) = m ((c.tc : Thread Cert.Ff1Dx.nD Cert.Ff1Dx.τ).loc Cert.Ff1Dx.main_arg2))
      ∧ r.2.sem = fun _ => 0)

def quiescent_Ff1DxIdeal [hFf1DxIdeal : Cert.Ff1DxIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg), Pre_Ff1DxIdeal m →
    θ_run (Cert.Ff1DxIdeal.defs (F := Ideal)) (onTc (τ := Cert.Ff1DxIdeal.τ) (Cert.Ff1DxIdeal.main (F := Ideal))) ⟨m, fun _ => 0, g⟩ (fun r => (∀ c : Dev Cert.Ff1DxIdeal.nD,
      r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
      ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1)
      ∧ r.2.mem ((c.tc : Thread Cert.Ff1DxIdeal.nD Cert.Ff1DxIdeal.τ).loc Cert.Ff1DxIdeal.main_arg2) = m ((c.tc : Thread Cert.Ff1DxIdeal.nD Cert.Ff1DxIdeal.τ).loc Cert.Ff1DxIdeal.main_arg2))
      ∧ r.2.sem = fun _ => 0)

def quiescent_Ff1DxRefIdeal [hFf1DxRefIdeal : Cert.Ff1DxRefIdeal.Facts] : Prop :=
  ∀ (m : (ℓ : Loc Cert.Ff1DxRefIdeal.nD Cert.Ff1DxRefIdeal.τ Cert.Ff1DxRefIdeal.sig) → Buf (Elt Ideal) ℓ) (g : Dev Cert.Ff1DxRefIdeal.nD → PrngReg), Pre_Ff1DxRefIdeal m →
    θ_run (Cert.Ff1DxRefIdeal.defs (F := Ideal)) (onTc (τ := Cert.Ff1DxRefIdeal.τ) (Cert.Ff1DxRefIdeal.main (F := Ideal))) ⟨m, fun _ => 0, g⟩ (fun r => (∀ c : Dev Cert.Ff1DxRefIdeal.nD,
      r.2.mem ((c.tc : Thread Cert.Ff1DxRefIdeal.nD Cert.Ff1DxRefIdeal.τ).loc Cert.Ff1DxRefIdeal.main_arg0) = m ((c.tc : Thread Cert.Ff1DxRefIdeal.nD Cert.Ff1DxRefIdeal.τ).loc Cert.Ff1DxRefIdeal.main_arg0)
      ∧ r.2.mem ((c.tc : Thread Cert.Ff1DxRefIdeal.nD Cert.Ff1DxRefIdeal.τ).loc Cert.Ff1DxRefIdeal.main_arg1) = m ((c.tc : Thread Cert.Ff1DxRefIdeal.nD Cert.Ff1DxRefIdeal.τ).loc Cert.Ff1DxRefIdeal.main_arg1)
      ∧ r.2.mem ((c.tc : Thread Cert.Ff1DxRefIdeal.nD Cert.Ff1DxRefIdeal.τ).loc Cert.Ff1DxRefIdeal.main_arg2) = m ((c.tc : Thread Cert.Ff1DxRefIdeal.nD Cert.Ff1DxRefIdeal.τ).loc Cert.Ff1DxRefIdeal.main_arg2))
      ∧ r.2.sem = fun _ => 0)

def quiescent_Ff1Next [hFf1Next : Cert.Ff1Next.Facts] : Prop :=
  ∀ (m : (ℓ : Loc Cert.Ff1Next.nD Cert.Ff1Next.τ Cert.Ff1Next.sig) → Buf (Elt Bits) ℓ) (g : Dev Cert.Ff1Next.nD → PrngReg), Pre_Ff1Next m →
    θ_run (Cert.Ff1Next.defs (F := Bits)) (onTc (τ := Cert.Ff1Next.τ) (Cert.Ff1Next.main (F := Bits))) ⟨m, fun _ => 0, g⟩ (fun r => (∀ c : Dev Cert.Ff1Next.nD,
      r.2.mem ((c.tc : Thread Cert.Ff1Next.nD Cert.Ff1Next.τ).loc Cert.Ff1Next.main_arg0) = m ((c.tc : Thread Cert.Ff1Next.nD Cert.Ff1Next.τ).loc Cert.Ff1Next.main_arg0)
      ∧ r.2.mem ((c.tc : Thread Cert.Ff1Next.nD Cert.Ff1Next.τ).loc Cert.Ff1Next.main_arg1) = m ((c.tc : Thread Cert.Ff1Next.nD Cert.Ff1Next.τ).loc Cert.Ff1Next.main_arg1))
      ∧ r.2.sem = fun _ => 0)

def quiescent_Ff1NextIdeal [hFf1NextIdeal : Cert.Ff1NextIdeal.Facts] : Prop :=
  ∀ (m : (ℓ : Loc Cert.Ff1NextIdeal.nD Cert.Ff1NextIdeal.τ Cert.Ff1NextIdeal.sig) → Buf (Elt Ideal) ℓ) (g : Dev Cert.Ff1NextIdeal.nD → PrngReg), Pre_Ff1NextIdeal m →
    θ_run (Cert.Ff1NextIdeal.defs (F := Ideal)) (onTc (τ := Cert.Ff1NextIdeal.τ) (Cert.Ff1NextIdeal.main (F := Ideal))) ⟨m, fun _ => 0, g⟩ (fun r => (∀ c : Dev Cert.Ff1NextIdeal.nD,
      r.2.mem ((c.tc : Thread Cert.Ff1NextIdeal.nD Cert.Ff1NextIdeal.τ).loc Cert.Ff1NextIdeal.main_arg0) = m ((c.tc : Thread Cert.Ff1NextIdeal.nD Cert.Ff1NextIdeal.τ).loc Cert.Ff1NextIdeal.main_arg0)
      ∧ r.2.mem ((c.tc : Thread Cert.Ff1NextIdeal.nD Cert.Ff1NextIdeal.τ).loc Cert.Ff1NextIdeal.main_arg1) = m ((c.tc : Thread Cert.Ff1NextIdeal.nD Cert.Ff1NextIdeal.τ).loc Cert.Ff1NextIdeal.main_arg1))
      ∧ r.2.sem = fun _ => 0)

def quiescent_Ff1NextRefIdeal [hFf1NextRefIdeal : Cert.Ff1NextRefIdeal.Facts] : Prop :=
  ∀ (m : (ℓ : Loc Cert.Ff1NextRefIdeal.nD Cert.Ff1NextRefIdeal.τ Cert.Ff1NextRefIdeal.sig) → Buf (Elt Ideal) ℓ) (g : Dev Cert.Ff1NextRefIdeal.nD → PrngReg), Pre_Ff1NextRefIdeal m →
    θ_run (Cert.Ff1NextRefIdeal.defs (F := Ideal)) (onTc (τ := Cert.Ff1NextRefIdeal.τ) (Cert.Ff1NextRefIdeal.main (F := Ideal))) ⟨m, fun _ => 0, g⟩ (fun r => (∀ c : Dev Cert.Ff1NextRefIdeal.nD,
      r.2.mem ((c.tc : Thread Cert.Ff1NextRefIdeal.nD Cert.Ff1NextRefIdeal.τ).loc Cert.Ff1NextRefIdeal.main_arg0) = m ((c.tc : Thread Cert.Ff1NextRefIdeal.nD Cert.Ff1NextRefIdeal.τ).loc Cert.Ff1NextRefIdeal.main_arg0)
      ∧ r.2.mem ((c.tc : Thread Cert.Ff1NextRefIdeal.nD Cert.Ff1NextRefIdeal.τ).loc Cert.Ff1NextRefIdeal.main_arg1) = m ((c.tc : Thread Cert.Ff1NextRefIdeal.nD Cert.Ff1NextRefIdeal.τ).loc Cert.Ff1NextRefIdeal.main_arg1))
      ∧ r.2.sem = fun _ => 0)

def quiescent_Ff2Next [hFf2Next : Cert.Ff2Next.Facts] : Prop :=
  ∀ (m : (ℓ : Loc Cert.Ff2Next.nD Cert.Ff2Next.τ Cert.Ff2Next.sig) → Buf (Elt Bits) ℓ) (g : Dev Cert.Ff2Next.nD → PrngReg), Pre_Ff2Next m →
    θ_run (Cert.Ff2Next.defs (F := Bits)) (onTc (τ := Cert.Ff2Next.τ) (Cert.Ff2Next.main (F := Bits))) ⟨m, fun _ => 0, g⟩ (fun r => (∀ c : Dev Cert.Ff2Next.nD,
      r.2.mem ((c.tc : Thread Cert.Ff2Next.nD Cert.Ff2Next.τ).loc Cert.Ff2Next.main_arg0) = m ((c.tc : Thread Cert.Ff2Next.nD Cert.Ff2Next.τ).loc Cert.Ff2Next.main_arg0)
      ∧ r.2.mem ((c.tc : Thread Cert.Ff2Next.nD Cert.Ff2Next.τ).loc Cert.Ff2Next.main_arg1) = m ((c.tc : Thread Cert.Ff2Next.nD Cert.Ff2Next.τ).loc Cert.Ff2Next.main_arg1)
      ∧ r.2.mem ((c.tc : Thread Cert.Ff2Next.nD Cert.Ff2Next.τ).loc Cert.Ff2Next.main_arg2) = m ((c.tc : Thread Cert.Ff2Next.nD Cert.Ff2Next.τ).loc Cert.Ff2Next.main_arg2))
      ∧ r.2.sem = fun _ => 0)

def quiescent_Ff2NextIdeal [hFf2NextIdeal : Cert.Ff2NextIdeal.Facts] : Prop :=
  ∀ (m : (ℓ : Loc Cert.Ff2NextIdeal.nD Cert.Ff2NextIdeal.τ Cert.Ff2NextIdeal.sig) → Buf (Elt Ideal) ℓ) (g : Dev Cert.Ff2NextIdeal.nD → PrngReg), Pre_Ff2NextIdeal m →
    θ_run (Cert.Ff2NextIdeal.defs (F := Ideal)) (onTc (τ := Cert.Ff2NextIdeal.τ) (Cert.Ff2NextIdeal.main (F := Ideal))) ⟨m, fun _ => 0, g⟩ (fun r => (∀ c : Dev Cert.Ff2NextIdeal.nD,
      r.2.mem ((c.tc : Thread Cert.Ff2NextIdeal.nD Cert.Ff2NextIdeal.τ).loc Cert.Ff2NextIdeal.main_arg0) = m ((c.tc : Thread Cert.Ff2NextIdeal.nD Cert.Ff2NextIdeal.τ).loc Cert.Ff2NextIdeal.main_arg0)
      ∧ r.2.mem ((c.tc : Thread Cert.Ff2NextIdeal.nD Cert.Ff2NextIdeal.τ).loc Cert.Ff2NextIdeal.main_arg1) = m ((c.tc : Thread Cert.Ff2NextIdeal.nD Cert.Ff2NextIdeal.τ).loc Cert.Ff2NextIdeal.main_arg1)
      ∧ r.2.mem ((c.tc : Thread Cert.Ff2NextIdeal.nD Cert.Ff2NextIdeal.τ).loc Cert.Ff2NextIdeal.main_arg2) = m ((c.tc : Thread Cert.Ff2NextIdeal.nD Cert.Ff2NextIdeal.τ).loc Cert.Ff2NextIdeal.main_arg2))
      ∧ r.2.sem = fun _ => 0)

def quiescent_Ff2NextRefIdeal [hFf2NextRefIdeal : Cert.Ff2NextRefIdeal.Facts] : Prop :=
  ∀ (m : (ℓ : Loc Cert.Ff2NextRefIdeal.nD Cert.Ff2NextRefIdeal.τ Cert.Ff2NextRefIdeal.sig) → Buf (Elt Ideal) ℓ) (g : Dev Cert.Ff2NextRefIdeal.nD → PrngReg), Pre_Ff2NextRefIdeal m →
    θ_run (Cert.Ff2NextRefIdeal.defs (F := Ideal)) (onTc (τ := Cert.Ff2NextRefIdeal.τ) (Cert.Ff2NextRefIdeal.main (F := Ideal))) ⟨m, fun _ => 0, g⟩ (fun r => (∀ c : Dev Cert.Ff2NextRefIdeal.nD,
      r.2.mem ((c.tc : Thread Cert.Ff2NextRefIdeal.nD Cert.Ff2NextRefIdeal.τ).loc Cert.Ff2NextRefIdeal.main_arg0) = m ((c.tc : Thread Cert.Ff2NextRefIdeal.nD Cert.Ff2NextRefIdeal.τ).loc Cert.Ff2NextRefIdeal.main_arg0)
      ∧ r.2.mem ((c.tc : Thread Cert.Ff2NextRefIdeal.nD Cert.Ff2NextRefIdeal.τ).loc Cert.Ff2NextRefIdeal.main_arg1) = m ((c.tc : Thread Cert.Ff2NextRefIdeal.nD Cert.Ff2NextRefIdeal.τ).loc Cert.Ff2NextRefIdeal.main_arg1)
      ∧ r.2.mem ((c.tc : Thread Cert.Ff2NextRefIdeal.nD Cert.Ff2NextRefIdeal.τ).loc Cert.Ff2NextRefIdeal.main_arg2) = m ((c.tc : Thread Cert.Ff2NextRefIdeal.nD Cert.Ff2NextRefIdeal.τ).loc Cert.Ff2NextRefIdeal.main_arg2))
      ∧ r.2.sem = fun _ => 0)

def quiescent_Ff2DxNext [hFf2DxNext : Cert.Ff2DxNext.Facts] : Prop :=
  ∀ (m : (ℓ : Loc Cert.Ff2DxNext.nD Cert.Ff2DxNext.τ Cert.Ff2DxNext.sig) → Buf (Elt Bits) ℓ) (g : Dev Cert.Ff2DxNext.nD → PrngReg), Pre_Ff2DxNext m →
    θ_run (Cert.Ff2DxNext.defs (F := Bits)) (onTc (τ := Cert.Ff2DxNext.τ) (Cert.Ff2DxNext.main (F := Bits))) ⟨m, fun _ => 0, g⟩ (fun r => (∀ c : Dev Cert.Ff2DxNext.nD,
      r.2.mem ((c.tc : Thread Cert.Ff2DxNext.nD Cert.Ff2DxNext.τ).loc Cert.Ff2DxNext.main_arg0) = m ((c.tc : Thread Cert.Ff2DxNext.nD Cert.Ff2DxNext.τ).loc Cert.Ff2DxNext.main_arg0)
      ∧ r.2.mem ((c.tc : Thread Cert.Ff2DxNext.nD Cert.Ff2DxNext.τ).loc Cert.Ff2DxNext.main_arg1) = m ((c.tc : Thread Cert.Ff2DxNext.nD Cert.Ff2DxNext.τ).loc Cert.Ff2DxNext.main_arg1)
      ∧ r.2.mem ((c.tc : Thread Cert.Ff2DxNext.nD Cert.Ff2DxNext.τ).loc Cert.Ff2DxNext.main_arg2) = m ((c.tc : Thread Cert.Ff2DxNext.nD Cert.Ff2DxNext.τ).loc Cert.Ff2DxNext.main_arg2))
      ∧ r.2.sem = fun _ => 0)

def quiescent_Ff2DxNextIdeal [hFf2DxNextIdeal : Cert.Ff2DxNextIdeal.Facts] : Prop :=
  ∀ (m : (ℓ : Loc Cert.Ff2DxNextIdeal.nD Cert.Ff2DxNextIdeal.τ Cert.Ff2DxNextIdeal.sig) → Buf (Elt Ideal) ℓ) (g : Dev Cert.Ff2DxNextIdeal.nD → PrngReg), Pre_Ff2DxNextIdeal m →
    θ_run (Cert.Ff2DxNextIdeal.defs (F := Ideal)) (onTc (τ := Cert.Ff2DxNextIdeal.τ) (Cert.Ff2DxNextIdeal.main (F := Ideal))) ⟨m, fun _ => 0, g⟩ (fun r => (∀ c : Dev Cert.Ff2DxNextIdeal.nD,
      r.2.mem ((c.tc : Thread Cert.Ff2DxNextIdeal.nD Cert.Ff2DxNextIdeal.τ).loc Cert.Ff2DxNextIdeal.main_arg0) = m ((c.tc : Thread Cert.Ff2DxNextIdeal.nD Cert.Ff2DxNextIdeal.τ).loc Cert.Ff2DxNextIdeal.main_arg0)
      ∧ r.2.mem ((c.tc : Thread Cert.Ff2DxNextIdeal.nD Cert.Ff2DxNextIdeal.τ).loc Cert.Ff2DxNextIdeal.main_arg1) = m ((c.tc : Thread Cert.Ff2DxNextIdeal.nD Cert.Ff2DxNextIdeal.τ).loc Cert.Ff2DxNextIdeal.main_arg1)
      ∧ r.2.mem ((c.tc : Thread Cert.Ff2DxNextIdeal.nD Cert.Ff2DxNextIdeal.τ).loc Cert.Ff2DxNextIdeal.main_arg2) = m ((c.tc : Thread Cert.Ff2DxNextIdeal.nD Cert.Ff2DxNextIdeal.τ).loc Cert.Ff2DxNextIdeal.main_arg2))
      ∧ r.2.sem = fun _ => 0)

def quiescent_Ff2DxNextRefIdeal [hFf2DxNextRefIdeal : Cert.Ff2DxNextRefIdeal.Facts] : Prop :=
  ∀ (m : (ℓ : Loc Cert.Ff2DxNextRefIdeal.nD Cert.Ff2DxNextRefIdeal.τ Cert.Ff2DxNextRefIdeal.sig) → Buf (Elt Ideal) ℓ) (g : Dev Cert.Ff2DxNextRefIdeal.nD → PrngReg), Pre_Ff2DxNextRefIdeal m →
    θ_run (Cert.Ff2DxNextRefIdeal.defs (F := Ideal)) (onTc (τ := Cert.Ff2DxNextRefIdeal.τ) (Cert.Ff2DxNextRefIdeal.main (F := Ideal))) ⟨m, fun _ => 0, g⟩ (fun r => (∀ c : Dev Cert.Ff2DxNextRefIdeal.nD,
      r.2.mem ((c.tc : Thread Cert.Ff2DxNextRefIdeal.nD Cert.Ff2DxNextRefIdeal.τ).loc Cert.Ff2DxNextRefIdeal.main_arg0) = m ((c.tc : Thread Cert.Ff2DxNextRefIdeal.nD Cert.Ff2DxNextRefIdeal.τ).loc Cert.Ff2DxNextRefIdeal.main_arg0)
      ∧ r.2.mem ((c.tc : Thread Cert.Ff2DxNextRefIdeal.nD Cert.Ff2DxNextRefIdeal.τ).loc Cert.Ff2DxNextRefIdeal.main_arg1) = m ((c.tc : Thread Cert.Ff2DxNextRefIdeal.nD Cert.Ff2DxNextRefIdeal.τ).loc Cert.Ff2DxNextRefIdeal.main_arg1)
      ∧ r.2.mem ((c.tc : Thread Cert.Ff2DxNextRefIdeal.nD Cert.Ff2DxNextRefIdeal.τ).loc Cert.Ff2DxNextRefIdeal.main_arg2) = m ((c.tc : Thread Cert.Ff2DxNextRefIdeal.nD Cert.Ff2DxNextRefIdeal.τ).loc Cert.Ff2DxNextRefIdeal.main_arg2))
      ∧ r.2.sem = fun _ => 0)

def quiescent_Ff1DxNext [hFf1DxNext : Cert.Ff1DxNext.Facts] : Prop :=
  ∀ (m : (ℓ : Loc Cert.Ff1DxNext.nD Cert.Ff1DxNext.τ Cert.Ff1DxNext.sig) → Buf (Elt Bits) ℓ) (g : Dev Cert.Ff1DxNext.nD → PrngReg), Pre_Ff1DxNext m →
    θ_run (Cert.Ff1DxNext.defs (F := Bits)) (onTc (τ := Cert.Ff1DxNext.τ) (Cert.Ff1DxNext.main (F := Bits))) ⟨m, fun _ => 0, g⟩ (fun r => (∀ c : Dev Cert.Ff1DxNext.nD,
      r.2.mem ((c.tc : Thread Cert.Ff1DxNext.nD Cert.Ff1DxNext.τ).loc Cert.Ff1DxNext.main_arg0) = m ((c.tc : Thread Cert.Ff1DxNext.nD Cert.Ff1DxNext.τ).loc Cert.Ff1DxNext.main_arg0)
      ∧ r.2.mem ((c.tc : Thread Cert.Ff1DxNext.nD Cert.Ff1DxNext.τ).loc Cert.Ff1DxNext.main_arg1) = m ((c.tc : Thread Cert.Ff1DxNext.nD Cert.Ff1DxNext.τ).loc Cert.Ff1DxNext.main_arg1)
      ∧ r.2.mem ((c.tc : Thread Cert.Ff1DxNext.nD Cert.Ff1DxNext.τ).loc Cert.Ff1DxNext.main_arg2) = m ((c.tc : Thread Cert.Ff1DxNext.nD Cert.Ff1DxNext.τ).loc Cert.Ff1DxNext.main_arg2))
      ∧ r.2.sem = fun _ => 0)

def quiescent_Ff1DxNextIdeal [hFf1DxNextIdeal : Cert.Ff1DxNextIdeal.Facts] : Prop :=
  ∀ (m : (ℓ : Loc Cert.Ff1DxNextIdeal.nD Cert.Ff1DxNextIdeal.τ Cert.Ff1DxNextIdeal.sig) → Buf (Elt Ideal) ℓ) (g : Dev Cert.Ff1DxNextIdeal.nD → PrngReg), Pre_Ff1DxNextIdeal m →
    θ_run (Cert.Ff1DxNextIdeal.defs (F := Ideal)) (onTc (τ := Cert.Ff1DxNextIdeal.τ) (Cert.Ff1DxNextIdeal.main (F := Ideal))) ⟨m, fun _ => 0, g⟩ (fun r => (∀ c : Dev Cert.Ff1DxNextIdeal.nD,
      r.2.mem ((c.tc : Thread Cert.Ff1DxNextIdeal.nD Cert.Ff1DxNextIdeal.τ).loc Cert.Ff1DxNextIdeal.main_arg0) = m ((c.tc : Thread Cert.Ff1DxNextIdeal.nD Cert.Ff1DxNextIdeal.τ).loc Cert.Ff1DxNextIdeal.main_arg0)
      ∧ r.2.mem ((c.tc : Thread Cert.Ff1DxNextIdeal.nD Cert.Ff1DxNextIdeal.τ).loc Cert.Ff1DxNextIdeal.main_arg1) = m ((c.tc : Thread Cert.Ff1DxNextIdeal.nD Cert.Ff1DxNextIdeal.τ).loc Cert.Ff1DxNextIdeal.main_arg1)
      ∧ r.2.mem ((c.tc : Thread Cert.Ff1DxNextIdeal.nD Cert.Ff1DxNextIdeal.τ).loc Cert.Ff1DxNextIdeal.main_arg2) = m ((c.tc : Thread Cert.Ff1DxNextIdeal.nD Cert.Ff1DxNextIdeal.τ).loc Cert.Ff1DxNextIdeal.main_arg2))
      ∧ r.2.sem = fun _ => 0)

def quiescent_Ff1DxNextRefIdeal [hFf1DxNextRefIdeal : Cert.Ff1DxNextRefIdeal.Facts] : Prop :=
  ∀ (m : (ℓ : Loc Cert.Ff1DxNextRefIdeal.nD Cert.Ff1DxNextRefIdeal.τ Cert.Ff1DxNextRefIdeal.sig) → Buf (Elt Ideal) ℓ) (g : Dev Cert.Ff1DxNextRefIdeal.nD → PrngReg), Pre_Ff1DxNextRefIdeal m →
    θ_run (Cert.Ff1DxNextRefIdeal.defs (F := Ideal)) (onTc (τ := Cert.Ff1DxNextRefIdeal.τ) (Cert.Ff1DxNextRefIdeal.main (F := Ideal))) ⟨m, fun _ => 0, g⟩ (fun r => (∀ c : Dev Cert.Ff1DxNextRefIdeal.nD,
      r.2.mem ((c.tc : Thread Cert.Ff1DxNextRefIdeal.nD Cert.Ff1DxNextRefIdeal.τ).loc Cert.Ff1DxNextRefIdeal.main_arg0) = m ((c.tc : Thread Cert.Ff1DxNextRefIdeal.nD Cert.Ff1DxNextRefIdeal.τ).loc Cert.Ff1DxNextRefIdeal.main_arg0)
      ∧ r.2.mem ((c.tc : Thread Cert.Ff1DxNextRefIdeal.nD Cert.Ff1DxNextRefIdeal.τ).loc Cert.Ff1DxNextRefIdeal.main_arg1) = m ((c.tc : Thread Cert.Ff1DxNextRefIdeal.nD Cert.Ff1DxNextRefIdeal.τ).loc Cert.Ff1DxNextRefIdeal.main_arg1)
      ∧ r.2.mem ((c.tc : Thread Cert.Ff1DxNextRefIdeal.nD Cert.Ff1DxNextRefIdeal.τ).loc Cert.Ff1DxNextRefIdeal.main_arg2) = m ((c.tc : Thread Cert.Ff1DxNextRefIdeal.nD Cert.Ff1DxNextRefIdeal.τ).loc Cert.Ff1DxNextRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)) (v4 : (c : Dev Cert.KernelIdeal.nD) → Buf (Elt Ideal) ((c.tc : Thread Cert.KernelIdeal.nD Cert.KernelIdeal.τ).loc Cert.KernelIdeal.main_v49_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_v49_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_LnBwd_LnBwdIdeal : Prop :=
  True

def algebraic_LnBwdIdeal_LnBwdRefIdeal_pre_finite_rows [hLnBwdIdeal : Cert.LnBwdIdeal.Facts] [hLnBwdRefIdeal : Cert.LnBwdRefIdeal.Facts] [hPre_finite_rows : Cert.Pre_finite_rows.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_rows m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v63) = v0 c
          ∧ r.2.mem ((c.tc : Thread Cert.LnBwdRefIdeal.nD Cert.LnBwdRefIdeal.τ).loc Cert.LnBwdRefIdeal.main_v64) = v1 c
          ∧ r.2.mem ((c.tc : Thread Cert.LnBwdRefIdeal.nD Cert.LnBwdRefIdeal.τ).loc Cert.LnBwdRefIdeal.main_v65) = v2 c
          ∧ r.2.mem ((c.tc : Thread Cert.LnBwdRefIdeal.nD Cert.LnBwdRefIdeal.τ).loc Cert.LnBwdRefIdeal.main_v66) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2))

def preserves_Ff2Dw_Ff2DwIdeal : Prop :=
  True

def algebraic_Ff2DwIdeal_Ff2DwRefIdeal [hFf2DwIdeal : Cert.Ff2DwIdeal.Facts] [hFf2DwRefIdeal : Cert.Ff2DwRefIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwRefIdeal.nD Cert.Ff2DwRefIdeal.τ Cert.Ff2DwRefIdeal.sig) → Buf (Elt Ideal) ℓ) (g' : Dev Cert.Ff2DwRefIdeal.nD → PrngReg), Pre_Ff2DwIdeal m →
    (∀ c : Dev Cert.Ff2DwIdeal.nD,
      m' ((c.tc : Thread Cert.Ff2DwRefIdeal.nD Cert.Ff2DwRefIdeal.τ).loc Cert.Ff2DwRefIdeal.main_arg0) = m ((c.tc : Thread Cert.Ff2DwIdeal.nD Cert.Ff2DwIdeal.τ).loc Cert.Ff2DwIdeal.main_arg0)
      ∧ m' ((c.tc : Thread Cert.Ff2DwRefIdeal.nD Cert.Ff2DwRefIdeal.τ).loc Cert.Ff2DwRefIdeal.main_arg1) = m ((c.tc : Thread Cert.Ff2DwIdeal.nD Cert.Ff2DwIdeal.τ).loc Cert.Ff2DwIdeal.main_arg1)) →
    ∃ (v0 : (c : Dev Cert.Ff2DwIdeal.nD) → Buf (Elt Ideal) ((c.tc : Thread Cert.Ff2DwIdeal.nD Cert.Ff2DwIdeal.τ).loc Cert.Ff2DwIdeal.main_v0)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v0) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ θ_run (Cert.Ff2DwRefIdeal.defs (F := Ideal)) (onTc (τ := Cert.Ff2DwRefIdeal.τ) (Cert.Ff2DwRefIdeal.main (F := Ideal))) ⟨m', fun _ => 0, g'⟩ (fun r => ∀ c : Dev Cert.Ff2DwRefIdeal.nD,
          r.2.mem ((c.tc : Thread Cert.Ff2DwRefIdeal.nD Cert.Ff2DwRefIdeal.τ).loc Cert.Ff2DwRefIdeal.main_v5) = v0 c
          ∧ r.2.mem ((c.tc : Thread Cert.Ff2DwRefIdeal.nD Cert.Ff2DwRefIdeal.τ).loc Cert.Ff2DwRefIdeal.main_arg0) = m' ((c.tc : Thread Cert.Ff2DwRefIdeal.nD Cert.Ff2DwRefIdeal.τ).loc Cert.Ff2DwRefIdeal.main_arg0)
          ∧ r.2.mem ((c.tc : Thread Cert.Ff2DwRefIdeal.nD Cert.Ff2DwRefIdeal.τ).loc Cert.Ff2DwRefIdeal.main_arg1) = m' ((c.tc : Thread Cert.Ff2DwRefIdeal.nD Cert.Ff2DwRefIdeal.τ).loc Cert.Ff2DwRefIdeal.main_arg1))

def preserves_Ff1Dw_Ff1DwIdeal : Prop :=
  True

def algebraic_Ff1DwIdeal_Ff1DwRefIdeal [hFf1DwIdeal : Cert.Ff1DwIdeal.Facts] [hFf1DwRefIdeal : Cert.Ff1DwRefIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwRefIdeal.nD Cert.Ff1DwRefIdeal.τ Cert.Ff1DwRefIdeal.sig) → Buf (Elt Ideal) ℓ) (g' : Dev Cert.Ff1DwRefIdeal.nD → PrngReg), Pre_Ff1DwIdeal m →
    (∀ c : Dev Cert.Ff1DwIdeal.nD,
      m' ((c.tc : Thread Cert.Ff1DwRefIdeal.nD Cert.Ff1DwRefIdeal.τ).loc Cert.Ff1DwRefIdeal.main_arg0) = m ((c.tc : Thread Cert.Ff1DwIdeal.nD Cert.Ff1DwIdeal.τ).loc Cert.Ff1DwIdeal.main_arg0)
      ∧ m' ((c.tc : Thread Cert.Ff1DwRefIdeal.nD Cert.Ff1DwRefIdeal.τ).loc Cert.Ff1DwRefIdeal.main_arg1) = m ((c.tc : Thread Cert.Ff1DwIdeal.nD Cert.Ff1DwIdeal.τ).loc Cert.Ff1DwIdeal.main_arg1)) →
    ∃ (v0 : (c : Dev Cert.Ff1DwIdeal.nD) → Buf (Elt Ideal) ((c.tc : Thread Cert.Ff1DwIdeal.nD Cert.Ff1DwIdeal.τ).loc Cert.Ff1DwIdeal.main_v0)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v0) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ θ_run (Cert.Ff1DwRefIdeal.defs (F := Ideal)) (onTc (τ := Cert.Ff1DwRefIdeal.τ) (Cert.Ff1DwRefIdeal.main (F := Ideal))) ⟨m', fun _ => 0, g'⟩ (fun r => ∀ c : Dev Cert.Ff1DwRefIdeal.nD,
          r.2.mem ((c.tc : Thread Cert.Ff1DwRefIdeal.nD Cert.Ff1DwRefIdeal.τ).loc Cert.Ff1DwRefIdeal.main_v7) = v0 c
          ∧ r.2.mem ((c.tc : Thread Cert.Ff1DwRefIdeal.nD Cert.Ff1DwRefIdeal.τ).loc Cert.Ff1DwRefIdeal.main_arg0) = m' ((c.tc : Thread Cert.Ff1DwRefIdeal.nD Cert.Ff1DwRefIdeal.τ).loc Cert.Ff1DwRefIdeal.main_arg0)
          ∧ r.2.mem ((c.tc : Thread Cert.Ff1DwRefIdeal.nD Cert.Ff1DwRefIdeal.τ).loc Cert.Ff1DwRefIdeal.main_arg1) = m' ((c.tc : Thread Cert.Ff1DwRefIdeal.nD Cert.Ff1DwRefIdeal.τ).loc Cert.Ff1DwRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v8) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)
      ∧ m' ((c.tc : Thread Cert.GateDxRefIdeal.nD Cert.GateDxRefIdeal.τ).loc Cert.GateDxRefIdeal.main_arg2) = m ((c.tc : Thread Cert.GateDxIdeal.nD Cert.GateDxIdeal.τ).loc Cert.GateDxIdeal.main_arg2)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v9) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1)
          ∧ r.2.mem ((c.tc : Thread Cert.GateDxRefIdeal.nD Cert.GateDxRefIdeal.τ).loc Cert.GateDxRefIdeal.main_arg2) = m' ((c.tc : Thread Cert.GateDxRefIdeal.nD Cert.GateDxRefIdeal.τ).loc Cert.GateDxRefIdeal.main_arg2))

def preserves_InAttDw_InAttDwIdeal : Prop :=
  True

def algebraic_InAttDwIdeal_InAttDwRefIdeal [hInAttDwIdeal : Cert.InAttDwIdeal.Facts] [hInAttDwRefIdeal : Cert.InAttDwRefIdeal.Facts] : Prop :=
  ∀ (m : (ℓ : Loc Cert.InAttDwIdeal.nD Cert.InAttDwIdeal.τ Cert.InAttDwIdeal.sig) → Buf (Elt Ideal) ℓ) (g : Dev Cert.InAttDwIdeal.nD → PrngReg)
    (m' : (ℓ : Loc Cert.InAttDwRefIdeal.nD Cert.InAttDwRefIdeal.τ Cert.InAttDwRefIdeal.sig) → Buf (Elt Ideal) ℓ) (g' : Dev Cert.InAttDwRefIdeal.nD → PrngReg), Pre_InAttDwIdeal m →
    (∀ c : Dev Cert.InAttDwIdeal.nD,
      m' ((c.tc : Thread Cert.InAttDwRefIdeal.nD Cert.InAttDwRefIdeal.τ).loc Cert.InAttDwRefIdeal.main_arg0) = m ((c.tc : Thread Cert.InAttDwIdeal.nD Cert.InAttDwIdeal.τ).loc Cert.InAttDwIdeal.main_arg0)
      ∧ m' ((c.tc : Thread Cert.InAttDwRefIdeal.nD Cert.InAttDwRefIdeal.τ).loc Cert.InAttDwRefIdeal.main_arg1) = m ((c.tc : Thread Cert.InAttDwIdeal.nD Cert.InAttDwIdeal.τ).loc Cert.InAttDwIdeal.main_arg1)) →
    ∃ (v0 : (c : Dev Cert.InAttDwIdeal.nD) → Buf (Elt Ideal) ((c.tc : Thread Cert.InAttDwIdeal.nD Cert.InAttDwIdeal.τ).loc Cert.InAttDwIdeal.main_v0)),
      θ_run (Cert.InAttDwIdeal.defs (F := Ideal)) (onTc (τ := Cert.InAttDwIdeal.τ) (Cert.InAttDwIdeal.main (F := Ideal))) ⟨m, fun _ => 0, g⟩ (fun r => ∀ c : Dev Cert.InAttDwIdeal.nD,
          r.2.mem ((c.tc : Thread Cert.InAttDwIdeal.nD Cert.InAttDwIdeal.τ).loc Cert.InAttDwIdeal.main_v0) = v0 c
          ∧ r.2.mem ((c.tc : Thread Cert.InAttDwIdeal.nD Cert.InAttDwIdeal.τ).loc Cert.InAttDwIdeal.main_arg0) = m ((c.tc : Thread Cert.InAttDwIdeal.nD Cert.InAttDwIdeal.τ).loc Cert.InAttDwIdeal.main_arg0)
          ∧ r.2.mem ((c.tc : Thread Cert.InAttDwIdeal.nD Cert.InAttDwIdeal.τ).loc Cert.InAttDwIdeal.main_arg1) = m ((c.tc : Thread Cert.InAttDwIdeal.nD Cert.InAttDwIdeal.τ).loc Cert.InAttDwIdeal.main_arg1))
      ∧ θ_run (Cert.InAttDwRefIdeal.defs (F := Ideal)) (onTc (τ := Cert.InAttDwRefIdeal.τ) (Cert.InAttDwRefIdeal.main (F := Ideal))) ⟨m', fun _ => 0, g'⟩ (fun r => ∀ c : Dev Cert.InAttDwRefIdeal.nD,
          r.2.mem ((c.tc : Thread Cert.InAttDwRefIdeal.nD Cert.InAttDwRefIdeal.τ).loc Cert.InAttDwRefIdeal.main_v5) = v0 c
          ∧ r.2.mem ((c.tc : Thread Cert.InAttDwRefIdeal.nD Cert.InAttDwRefIdeal.τ).loc Cert.InAttDwRefIdeal.main_arg0) = m' ((c.tc : Thread Cert.InAttDwRefIdeal.nD Cert.InAttDwRefIdeal.τ).loc Cert.InAttDwRefIdeal.main_arg0)
          ∧ r.2.mem ((c.tc : Thread Cert.InAttDwRefIdeal.nD Cert.InAttDwRefIdeal.τ).loc Cert.InAttDwRefIdeal.main_arg1) = m' ((c.tc : Thread Cert.InAttDwRefIdeal.nD Cert.InAttDwRefIdeal.τ).loc Cert.InAttDwRefIdeal.main_arg1))

def preserves_InAttDx_InAttDxIdeal : Prop :=
  True

def algebraic_InAttDxIdeal_InAttDxRefIdeal [hInAttDxIdeal : Cert.InAttDxIdeal.Facts] [hInAttDxRefIdeal : Cert.InAttDxRefIdeal.Facts] : Prop :=
  ∀ (m : (ℓ : Loc Cert.InAttDxIdeal.nD Cert.InAttDxIdeal.τ Cert.InAttDxIdeal.sig) → Buf (Elt Ideal) ℓ) (g : Dev Cert.InAttDxIdeal.nD → PrngReg)
    (m' : (ℓ : Loc Cert.InAttDxRefIdeal.nD Cert.InAttDxRefIdeal.τ Cert.InAttDxRefIdeal.sig) → Buf (Elt Ideal) ℓ) (g' : Dev Cert.InAttDxRefIdeal.nD → PrngReg), Pre_InAttDxIdeal m →
    (∀ c : Dev Cert.InAttDxIdeal.nD,
      m' ((c.tc : Thread Cert.InAttDxRefIdeal.nD Cert.InAttDxRefIdeal.τ).loc Cert.InAttDxRefIdeal.main_arg0) = m ((c.tc : Thread Cert.InAttDxIdeal.nD Cert.InAttDxIdeal.τ).loc Cert.InAttDxIdeal.main_arg0)
      ∧ m' ((c.tc : Thread Cert.InAttDxRefIdeal.nD Cert.InAttDxRefIdeal.τ).loc Cert.InAttDxRefIdeal.main_arg1) = m ((c.tc : Thread Cert.InAttDxIdeal.nD Cert.InAttDxIdeal.τ).loc Cert.InAttDxIdeal.main_arg1)
      ∧ m' ((c.tc : Thread Cert.InAttDxRefIdeal.nD Cert.InAttDxRefIdeal.τ).loc Cert.InAttDxRefIdeal.main_arg2) = m ((c.tc : Thread Cert.InAttDxIdeal.nD Cert.InAttDxIdeal.τ).loc Cert.InAttDxIdeal.main_arg2)) →
    ∃ (v0 : (c : Dev Cert.InAttDxIdeal.nD) → Buf (Elt Ideal) ((c.tc : Thread Cert.InAttDxIdeal.nD Cert.InAttDxIdeal.τ).loc Cert.InAttDxIdeal.main_v0)),
      θ_run (Cert.InAttDxIdeal.defs (F := Ideal)) (onTc (τ := Cert.InAttDxIdeal.τ) (Cert.InAttDxIdeal.main (F := Ideal))) ⟨m, fun _ => 0, g⟩ (fun r => ∀ c : Dev Cert.InAttDxIdeal.nD,
          r.2.mem ((c.tc : Thread Cert.InAttDxIdeal.nD Cert.InAttDxIdeal.τ).loc Cert.InAttDxIdeal.main_v0) = v0 c
          ∧ r.2.mem ((c.tc : Thread Cert.InAttDxIdeal.nD Cert.InAttDxIdeal.τ).loc Cert.InAttDxIdeal.main_arg0) = m ((c.tc : Thread Cert.InAttDxIdeal.nD Cert.InAttDxIdeal.τ).loc Cert.InAttDxIdeal.main_arg0)
          ∧ r.2.mem ((c.tc : Thread Cert.InAttDxIdeal.nD Cert.InAttDxIdeal.τ).loc Cert.InAttDxIdeal.main_arg1) = m ((c.tc : Thread Cert.InAttDxIdeal.nD Cert.InAttDxIdeal.τ).loc Cert.InAttDxIdeal.main_arg1)
          ∧ r.2.mem ((c.tc : Thread Cert.InAttDxIdeal.nD Cert.InAttDxIdeal.τ).loc Cert.InAttDxIdeal.main_arg2) = m ((c.tc : Thread Cert.InAttDxIdeal.nD Cert.InAttDxIdeal.τ).loc Cert.InAttDxIdeal.main_arg2))
      ∧ θ_run (Cert.InAttDxRefIdeal.defs (F := Ideal)) (onTc (τ := Cert.InAttDxRefIdeal.τ) (Cert.InAttDxRefIdeal.main (F := Ideal))) ⟨m', fun _ => 0, g'⟩ (fun r => ∀ c : Dev Cert.InAttDxRefIdeal.nD,
          r.2.mem ((c.tc : Thread Cert.InAttDxRefIdeal.nD Cert.InAttDxRefIdeal.τ).loc Cert.InAttDxRefIdeal.main_v5) = v0 c
          ∧ r.2.mem ((c.tc : Thread Cert.InAttDxRefIdeal.nD Cert.InAttDxRefIdeal.τ).loc Cert.InAttDxRefIdeal.main_arg0) = m' ((c.tc : Thread Cert.InAttDxRefIdeal.nD Cert.InAttDxRefIdeal.τ).loc Cert.InAttDxRefIdeal.main_arg0)
          ∧ r.2.mem ((c.tc : Thread Cert.InAttDxRefIdeal.nD Cert.InAttDxRefIdeal.τ).loc Cert.InAttDxRefIdeal.main_arg1) = m' ((c.tc : Thread Cert.InAttDxRefIdeal.nD Cert.InAttDxRefIdeal.τ).loc Cert.InAttDxRefIdeal.main_arg1)
          ∧ r.2.mem ((c.tc : Thread Cert.InAttDxRefIdeal.nD Cert.InAttDxRefIdeal.τ).loc Cert.InAttDxRefIdeal.main_arg2) = m' ((c.tc : Thread Cert.InAttDxRefIdeal.nD Cert.InAttDxRefIdeal.τ).loc Cert.InAttDxRefIdeal.main_arg2))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)
      ∧ m' ((c.tc : Thread Cert.GateProjRefIdeal.nD Cert.GateProjRefIdeal.τ).loc Cert.GateProjRefIdeal.main_arg2) = m ((c.tc : Thread Cert.GateProjIdeal.nD Cert.GateProjIdeal.τ).loc Cert.GateProjIdeal.main_arg2)) →
    ∃ (v0 : (c : Dev Cert.GateProjIdeal.nD) → Buf (Elt Ideal) ((c.tc : Thread Cert.GateProjIdeal.nD Cert.GateProjIdeal.τ).loc Cert.GateProjIdeal.main_v0)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v0) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
          ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v11) = v0 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1)
          ∧ r.2.mem ((c.tc : Thread Cert.GateProjRefIdeal.nD Cert.GateProjRefIdeal.τ).loc Cert.GateProjRefIdeal.main_arg2) = m' ((c.tc : Thread Cert.GateProjRefIdeal.nD Cert.GateProjRefIdeal.τ).loc Cert.GateProjRefIdeal.main_arg2))

def preserves_InProjAtt_InProjAttIdeal : Prop :=
  True

def algebraic_InProjAttIdeal_InProjAttRefIdeal [hInProjAttIdeal : Cert.InProjAttIdeal.Facts] [hInProjAttRefIdeal : Cert.InProjAttRefIdeal.Facts] : Prop :=
  ∀ (m : (ℓ : Loc Cert.InProjAttIdeal.nD Cert.InProjAttIdeal.τ Cert.InProjAttIdeal.sig) → Buf (Elt Ideal) ℓ) (g : Dev Cert.InProjAttIdeal.nD → PrngReg)
    (m' : (ℓ : Loc Cert.InProjAttRefIdeal.nD Cert.InProjAttRefIdeal.τ Cert.InProjAttRefIdeal.sig) → Buf (Elt Ideal) ℓ) (g' : Dev Cert.InProjAttRefIdeal.nD → PrngReg), Pre_InProjAttIdeal m →
    (∀ c : Dev Cert.InProjAttIdeal.nD,
      m' ((c.tc : Thread Cert.InProjAttRefIdeal.nD Cert.InProjAttRefIdeal.τ).loc Cert.InProjAttRefIdeal.main_arg0) = m ((c.tc : Thread Cert.InProjAttIdeal.nD Cert.InProjAttIdeal.τ).loc Cert.InProjAttIdeal.main_arg0)
      ∧ m' ((c.tc : Thread Cert.InProjAttRefIdeal.nD Cert.InProjAttRefIdeal.τ).loc Cert.InProjAttRefIdeal.main_arg1) = m ((c.tc : Thread Cert.InProjAttIdeal.nD Cert.InProjAttIdeal.τ).loc Cert.InProjAttIdeal.main_arg1)) →
    ∃ (v0 : (c : Dev Cert.InProjAttIdeal.nD) → Buf (Elt Ideal) ((c.tc : Thread Cert.InProjAttIdeal.nD Cert.InProjAttIdeal.τ).loc Cert.InProjAttIdeal.main_v0)),
      θ_run (Cert.InProjAttIdeal.defs (F := Ideal)) (onTc (τ := Cert.InProjAttIdeal.τ) (Cert.InProjAttIdeal.main (F := Ideal))) ⟨m, fun _ => 0, g⟩ (fun r => ∀ c : Dev Cert.InProjAttIdeal.nD,
          r.2.mem ((c.tc : Thread Cert.InProjAttIdeal.nD Cert.InProjAttIdeal.τ).loc Cert.InProjAttIdeal.main_v0) = v0 c
          ∧ r.2.mem ((c.tc : Thread Cert.InProjAttIdeal.nD Cert.InProjAttIdeal.τ).loc Cert.InProjAttIdeal.main_arg0) = m ((c.tc : Thread Cert.InProjAttIdeal.nD Cert.InProjAttIdeal.τ).loc Cert.InProjAttIdeal.main_arg0)
          ∧ r.2.mem ((c.tc : Thread Cert.InProjAttIdeal.nD Cert.InProjAttIdeal.τ).loc Cert.InProjAttIdeal.main_arg1) = m ((c.tc : Thread Cert.InProjAttIdeal.nD Cert.InProjAttIdeal.τ).loc Cert.InProjAttIdeal.main_arg1))
      ∧ θ_run (Cert.InProjAttRefIdeal.defs (F := Ideal)) (onTc (τ := Cert.InProjAttRefIdeal.τ) (Cert.InProjAttRefIdeal.main (F := Ideal))) ⟨m', fun _ => 0, g'⟩ (fun r => ∀ c : Dev Cert.InProjAttRefIdeal.nD,
          r.2.mem ((c.tc : Thread Cert.InProjAttRefIdeal.nD Cert.InProjAttRefIdeal.τ).loc Cert.InProjAttRefIdeal.main_v3) = v0 c
          ∧ r.2.mem ((c.tc : Thread Cert.InProjAttRefIdeal.nD Cert.InProjAttRefIdeal.τ).loc Cert.InProjAttRefIdeal.main_arg0) = m' ((c.tc : Thread Cert.InProjAttRefIdeal.nD Cert.InProjAttRefIdeal.τ).loc Cert.InProjAttRefIdeal.main_arg0)
          ∧ r.2.mem ((c.tc : Thread Cert.InProjAttRefIdeal.nD Cert.InProjAttRefIdeal.τ).loc Cert.InProjAttRefIdeal.main_arg1) = m' ((c.tc : Thread Cert.InProjAttRefIdeal.nD Cert.InProjAttRefIdeal.τ).loc Cert.InProjAttRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InProjRec_InProjRecIdeal : Prop :=
  True

def algebraic_InProjRecIdeal_InProjRecRefIdeal [hInProjRecIdeal : Cert.InProjRecIdeal.Facts] [hInProjRecRefIdeal : Cert.InProjRecRefIdeal.Facts] : Prop :=
  ∀ (m : (ℓ : Loc Cert.InProjRecIdeal.nD Cert.InProjRecIdeal.τ Cert.InProjRecIdeal.sig) → Buf (Elt Ideal) ℓ) (g : Dev Cert.InProjRecIdeal.nD → PrngReg)
    (m' : (ℓ : Loc Cert.InProjRecRefIdeal.nD Cert.InProjRecRefIdeal.τ Cert.InProjRecRefIdeal.sig) → Buf (Elt Ideal) ℓ) (g' : Dev Cert.InProjRecRefIdeal.nD → PrngReg), Pre_InProjRecIdeal m →
    (∀ c : Dev Cert.InProjRecIdeal.nD,
      m' ((c.tc : Thread Cert.InProjRecRefIdeal.nD Cert.InProjRecRefIdeal.τ).loc Cert.InProjRecRefIdeal.main_arg0) = m ((c.tc : Thread Cert.InProjRecIdeal.nD Cert.InProjRecIdeal.τ).loc Cert.InProjRecIdeal.main_arg0)
      ∧ m' ((c.tc : Thread Cert.InProjRecRefIdeal.nD Cert.InProjRecRefIdeal.τ).loc Cert.InProjRecRefIdeal.main_arg1) = m ((c.tc : Thread Cert.InProjRecIdeal.nD Cert.InProjRecIdeal.τ).loc Cert.InProjRecIdeal.main_arg1)) →
    ∃ (v0 : (c : Dev Cert.InProjRecIdeal.nD) → Buf (Elt Ideal) ((c.tc : Thread Cert.InProjRecIdeal.nD Cert.InProjRecIdeal.τ).loc Cert.InProjRecIdeal.main_v0)),
      θ_run (Cert.InProjRecIdeal.defs (F := Ideal)) (onTc (τ := Cert.InProjRecIdeal.τ) (Cert.InProjRecIdeal.main (F := Ideal))) ⟨m, fun _ => 0, g⟩ (fun r => ∀ c : Dev Cert.InProjRecIdeal.nD,
          r.2.mem ((c.tc : Thread Cert.InProjRecIdeal.nD Cert.InProjRecIdeal.τ).loc Cert.InProjRecIdeal.main_v0) = v0 c
          ∧ r.2.mem ((c.tc : Thread Cert.InProjRecIdeal.nD Cert.InProjRecIdeal.τ).loc Cert.InProjRecIdeal.main_arg0) = m ((c.tc : Thread Cert.InProjRecIdeal.nD Cert.InProjRecIdeal.τ).loc Cert.InProjRecIdeal.main_arg0)
          ∧ r.2.mem ((c.tc : Thread Cert.InProjRecIdeal.nD Cert.InProjRecIdeal.τ).loc Cert.InProjRecIdeal.main_arg1) = m ((c.tc : Thread Cert.InProjRecIdeal.nD Cert.InProjRecIdeal.τ).loc Cert.InProjRecIdeal.main_arg1))
      ∧ θ_run (Cert.InProjRecRefIdeal.defs (F := Ideal)) (onTc (τ := Cert.InProjRecRefIdeal.τ) (Cert.InProjRecRefIdeal.main (F := Ideal))) ⟨m', fun _ => 0, g'⟩ (fun r => ∀ c : Dev Cert.InProjRecRefIdeal.nD,
          r.2.mem ((c.tc : Thread Cert.InProjRecRefIdeal.nD Cert.InProjRecRefIdeal.τ).loc Cert.InProjRecRefIdeal.main_v2) = v0 c
          ∧ r.2.mem ((c.tc : Thread Cert.InProjRecRefIdeal.nD Cert.InProjRecRefIdeal.τ).loc Cert.InProjRecRefIdeal.main_arg0) = m' ((c.tc : Thread Cert.InProjRecRefIdeal.nD Cert.InProjRecRefIdeal.τ).loc Cert.InProjRecRefIdeal.main_arg0)
          ∧ r.2.mem ((c.tc : Thread Cert.InProjRecRefIdeal.nD Cert.InProjRecRefIdeal.τ).loc Cert.InProjRecRefIdeal.main_arg1) = m' ((c.tc : Thread Cert.InProjRecRefIdeal.nD Cert.InProjRecRefIdeal.τ).loc Cert.InProjRecRefIdeal.main_arg1))

def preserves_InRecDw_InRecDwIdeal : Prop :=
  True

def algebraic_InRecDwIdeal_InRecDwRefIdeal [hInRecDwIdeal : Cert.InRecDwIdeal.Facts] [hInRecDwRefIdeal : Cert.InRecDwRefIdeal.Facts] : Prop :=
  ∀ (m : (ℓ : Loc Cert.InRecDwIdeal.nD Cert.InRecDwIdeal.τ Cert.InRecDwIdeal.sig) → Buf (Elt Ideal) ℓ) (g : Dev Cert.InRecDwIdeal.nD → PrngReg)
    (m' : (ℓ : Loc Cert.InRecDwRefIdeal.nD Cert.InRecDwRefIdeal.τ Cert.InRecDwRefIdeal.sig) → Buf (Elt Ideal) ℓ) (g' : Dev Cert.InRecDwRefIdeal.nD → PrngReg), Pre_InRecDwIdeal m →
    (∀ c : Dev Cert.InRecDwIdeal.nD,
      m' ((c.tc : Thread Cert.InRecDwRefIdeal.nD Cert.InRecDwRefIdeal.τ).loc Cert.InRecDwRefIdeal.main_arg0) = m ((c.tc : Thread Cert.InRecDwIdeal.nD Cert.InRecDwIdeal.τ).loc Cert.InRecDwIdeal.main_arg0)
      ∧ m' ((c.tc : Thread Cert.InRecDwRefIdeal.nD Cert.InRecDwRefIdeal.τ).loc Cert.InRecDwRefIdeal.main_arg1) = m ((c.tc : Thread Cert.InRecDwIdeal.nD Cert.InRecDwIdeal.τ).loc Cert.InRecDwIdeal.main_arg1)) →
    ∃ (v0 : (c : Dev Cert.InRecDwIdeal.nD) → Buf (Elt Ideal) ((c.tc : Thread Cert.InRecDwIdeal.nD Cert.InRecDwIdeal.τ).loc Cert.InRecDwIdeal.main_v0)),
      θ_run (Cert.InRecDwIdeal.defs (F := Ideal)) (onTc (τ := Cert.InRecDwIdeal.τ) (Cert.InRecDwIdeal.main (F := Ideal))) ⟨m, fun _ => 0, g⟩ (fun r => ∀ c : Dev Cert.InRecDwIdeal.nD,
          r.2.mem ((c.tc : Thread Cert.InRecDwIdeal.nD Cert.InRecDwIdeal.τ).loc Cert.InRecDwIdeal.main_v0) = v0 c
          ∧ r.2.mem ((c.tc : Thread Cert.InRecDwIdeal.nD Cert.InRecDwIdeal.τ).loc Cert.InRecDwIdeal.main_arg0) = m ((c.tc : Thread Cert.InRecDwIdeal.nD Cert.InRecDwIdeal.τ).loc Cert.InRecDwIdeal.main_arg0)
          ∧ r.2.mem ((c.tc : Thread Cert.InRecDwIdeal.nD Cert.InRecDwIdeal.τ).loc Cert.InRecDwIdeal.main_arg1) = m ((c.tc : Thread Cert.InRecDwIdeal.nD Cert.InRecDwIdeal.τ).loc Cert.InRecDwIdeal.main_arg1))
      ∧ θ_run (Cert.InRecDwRefIdeal.defs (F := Ideal)) (onTc (τ := Cert.InRecDwRefIdeal.τ) (Cert.InRecDwRefIdeal.main (F := Ideal))) ⟨m', fun _ => 0, g'⟩ (fun r => ∀ c : Dev Cert.InRecDwRefIdeal.nD,
          r.2.mem ((c.tc : Thread Cert.InRecDwRefIdeal.nD Cert.InRecDwRefIdeal.τ).loc Cert.InRecDwRefIdeal.main_v5) = v0 c
          ∧ r.2.mem ((c.tc : Thread Cert.InRecDwRefIdeal.nD Cert.InRecDwRefIdeal.τ).loc Cert.InRecDwRefIdeal.main_arg0) = m' ((c.tc : Thread Cert.InRecDwRefIdeal.nD Cert.InRecDwRefIdeal.τ).loc Cert.InRecDwRefIdeal.main_arg0)
          ∧ r.2.mem ((c.tc : Thread Cert.InRecDwRefIdeal.nD Cert.InRecDwRefIdeal.τ).loc Cert.InRecDwRefIdeal.main_arg1) = m' ((c.tc : Thread Cert.InRecDwRefIdeal.nD Cert.InRecDwRefIdeal.τ).loc Cert.InRecDwRefIdeal.main_arg1))

def preserves_InRecDx_InRecDxIdeal : Prop :=
  True

def algebraic_InRecDxIdeal_InRecDxRefIdeal [hInRecDxIdeal : Cert.InRecDxIdeal.Facts] [hInRecDxRefIdeal : Cert.InRecDxRefIdeal.Facts] : Prop :=
  ∀ (m : (ℓ : Loc Cert.InRecDxIdeal.nD Cert.InRecDxIdeal.τ Cert.InRecDxIdeal.sig) → Buf (Elt Ideal) ℓ) (g : Dev Cert.InRecDxIdeal.nD → PrngReg)
    (m' : (ℓ : Loc Cert.InRecDxRefIdeal.nD Cert.InRecDxRefIdeal.τ Cert.InRecDxRefIdeal.sig) → Buf (Elt Ideal) ℓ) (g' : Dev Cert.InRecDxRefIdeal.nD → PrngReg), Pre_InRecDxIdeal m →
    (∀ c : Dev Cert.InRecDxIdeal.nD,
      m' ((c.tc : Thread Cert.InRecDxRefIdeal.nD Cert.InRecDxRefIdeal.τ).loc Cert.InRecDxRefIdeal.main_arg0) = m ((c.tc : Thread Cert.InRecDxIdeal.nD Cert.InRecDxIdeal.τ).loc Cert.InRecDxIdeal.main_arg0)
      ∧ m' ((c.tc : Thread Cert.InRecDxRefIdeal.nD Cert.InRecDxRefIdeal.τ).loc Cert.InRecDxRefIdeal.main_arg1) = m ((c.tc : Thread Cert.InRecDxIdeal.nD Cert.InRecDxIdeal.τ).loc Cert.InRecDxIdeal.main_arg1)
      ∧ m' ((c.tc : Thread Cert.InRecDxRefIdeal.nD Cert.InRecDxRefIdeal.τ).loc Cert.InRecDxRefIdeal.main_arg2) = m ((c.tc : Thread Cert.InRecDxIdeal.nD Cert.InRecDxIdeal.τ).loc Cert.InRecDxIdeal.main_arg2)) →
    ∃ (v0 : (c : Dev Cert.InRecDxIdeal.nD) → Buf (Elt Ideal) ((c.tc : Thread Cert.InRecDxIdeal.nD Cert.InRecDxIdeal.τ).loc Cert.InRecDxIdeal.main_v0)),
      θ_run (Cert.InRecDxIdeal.defs (F := Ideal)) (onTc (τ := Cert.InRecDxIdeal.τ) (Cert.InRecDxIdeal.main (F := Ideal))) ⟨m, fun _ => 0, g⟩ (fun r => ∀ c : Dev Cert.InRecDxIdeal.nD,
          r.2.mem ((c.tc : Thread Cert.InRecDxIdeal.nD Cert.InRecDxIdeal.τ).loc Cert.InRecDxIdeal.main_v0) = v0 c
          ∧ r.2.mem ((c.tc : Thread Cert.InRecDxIdeal.nD Cert.InRecDxIdeal.τ).loc Cert.InRecDxIdeal.main_arg0) = m ((c.tc : Thread Cert.InRecDxIdeal.nD Cert.InRecDxIdeal.τ).loc Cert.InRecDxIdeal.main_arg0)
          ∧ r.2.mem ((c.tc : Thread Cert.InRecDxIdeal.nD Cert.InRecDxIdeal.τ).loc Cert.InRecDxIdeal.main_arg1) = m ((c.tc : Thread Cert.InRecDxIdeal.nD Cert.InRecDxIdeal.τ).loc Cert.InRecDxIdeal.main_arg1)
          ∧ r.2.mem ((c.tc : Thread Cert.InRecDxIdeal.nD Cert.InRecDxIdeal.τ).loc Cert.InRecDxIdeal.main_arg2) = m ((c.tc : Thread Cert.InRecDxIdeal.nD Cert.InRecDxIdeal.τ).loc Cert.InRecDxIdeal.main_arg2))
      ∧ θ_run (Cert.InRecDxRefIdeal.defs (F := Ideal)) (onTc (τ := Cert.InRecDxRefIdeal.τ) (Cert.InRecDxRefIdeal.main (F := Ideal))) ⟨m', fun _ => 0, g'⟩ (fun r => ∀ c : Dev Cert.InRecDxRefIdeal.nD,
          r.2.mem ((c.tc : Thread Cert.InRecDxRefIdeal.nD Cert.InRecDxRefIdeal.τ).loc Cert.InRecDxRefIdeal.main_v5) = v0 c
          ∧ r.2.mem ((c.tc : Thread Cert.InRecDxRefIdeal.nD Cert.InRecDxRefIdeal.τ).loc Cert.InRecDxRefIdeal.main_arg0) = m' ((c.tc : Thread Cert.InRecDxRefIdeal.nD Cert.InRecDxRefIdeal.τ).loc Cert.InRecDxRefIdeal.main_arg0)
          ∧ r.2.mem ((c.tc : Thread Cert.InRecDxRefIdeal.nD Cert.InRecDxRefIdeal.τ).loc Cert.InRecDxRefIdeal.main_arg1) = m' ((c.tc : Thread Cert.InRecDxRefIdeal.nD Cert.InRecDxRefIdeal.τ).loc Cert.InRecDxRefIdeal.main_arg1)
          ∧ r.2.mem ((c.tc : Thread Cert.InRecDxRefIdeal.nD Cert.InRecDxRefIdeal.τ).loc Cert.InRecDxRefIdeal.main_arg2) = m' ((c.tc : Thread Cert.InRecDxRefIdeal.nD Cert.InRecDxRefIdeal.τ).loc Cert.InRecDxRefIdeal.main_arg2))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v5) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v7) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v2_0)) (v1 : (c : Dev Cert.LnFwdIdeal.nD) → Buf (Elt Ideal) ((c.tc : Thread Cert.LnFwdIdeal.nD Cert.LnFwdIdeal.τ).loc Cert.LnFwdIdeal.main_v2_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v2_0) = v0 c
          ∧ r.2.mem ((c.tc : Thread Cert.LnFwdIdeal.nD Cert.LnFwdIdeal.τ).loc Cert.LnFwdIdeal.main_v2_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v23) = v0 c
          ∧ r.2.mem ((c.tc : Thread Cert.LnFwdRefIdeal.nD Cert.LnFwdRefIdeal.τ).loc Cert.LnFwdRefIdeal.main_v24) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_RowDot_RowDotIdeal : Prop :=
  True

def algebraic_RowDotIdeal_RowDotRefIdeal [hRowDotIdeal : Cert.RowDotIdeal.Facts] [hRowDotRefIdeal : Cert.RowDotRefIdeal.Facts] : Prop :=
  ∀ (m : (ℓ : Loc Cert.RowDotIdeal.nD Cert.RowDotIdeal.τ Cert.RowDotIdeal.sig) → Buf (Elt Ideal) ℓ) (g : Dev Cert.RowDotIdeal.nD → PrngReg)
    (m' : (ℓ : Loc Cert.RowDotRefIdeal.nD Cert.RowDotRefIdeal.τ Cert.RowDotRefIdeal.sig) → Buf (Elt Ideal) ℓ) (g' : Dev Cert.RowDotRefIdeal.nD → PrngReg), Pre_RowDotIdeal m →
    (∀ c : Dev Cert.RowDotIdeal.nD,
      m' ((c.tc : Thread Cert.RowDotRefIdeal.nD Cert.RowDotRefIdeal.τ).loc Cert.RowDotRefIdeal.main_arg0) = m ((c.tc : Thread Cert.RowDotIdeal.nD Cert.RowDotIdeal.τ).loc Cert.RowDotIdeal.main_arg0)
      ∧ m' ((c.tc : Thread Cert.RowDotRefIdeal.nD Cert.RowDotRefIdeal.τ).loc Cert.RowDotRefIdeal.main_arg1) = m ((c.tc : Thread Cert.RowDotIdeal.nD Cert.RowDotIdeal.τ).loc Cert.RowDotIdeal.main_arg1)) →
    ∃ (v0 : (c : Dev Cert.RowDotIdeal.nD) → Buf (Elt Ideal) ((c.tc : Thread Cert.RowDotIdeal.nD Cert.RowDotIdeal.τ).loc Cert.RowDotIdeal.main_v0)),
      θ_run (Cert.RowDotIdeal.defs (F := Ideal)) (onTc (τ := Cert.RowDotIdeal.τ) (Cert.RowDotIdeal.main (F := Ideal))) ⟨m, fun _ => 0, g⟩ (fun r => ∀ c : Dev Cert.RowDotIdeal.nD,
          r.2.mem ((c.tc : Thread Cert.RowDotIdeal.nD Cert.RowDotIdeal.τ).loc Cert.RowDotIdeal.main_v0) = v0 c
          ∧ r.2.mem ((c.tc : Thread Cert.RowDotIdeal.nD Cert.RowDotIdeal.τ).loc Cert.RowDotIdeal.main_arg0) = m ((c.tc : Thread Cert.RowDotIdeal.nD Cert.RowDotIdeal.τ).loc Cert.RowDotIdeal.main_arg0)
          ∧ r.2.mem ((c.tc : Thread Cert.RowDotIdeal.nD Cert.RowDotIdeal.τ).loc Cert.RowDotIdeal.main_arg1) = m ((c.tc : Thread Cert.RowDotIdeal.nD Cert.RowDotIdeal.τ).loc Cert.RowDotIdeal.main_arg1))
      ∧ θ_run (Cert.RowDotRefIdeal.defs (F := Ideal)) (onTc (τ := Cert.RowDotRefIdeal.τ) (Cert.RowDotRefIdeal.main (F := Ideal))) ⟨m', fun _ => 0, g'⟩ (fun r => ∀ c : Dev Cert.RowDotRefIdeal.nD,
          r.2.mem ((c.tc : Thread Cert.RowDotRefIdeal.nD Cert.RowDotRefIdeal.τ).loc Cert.RowDotRefIdeal.main_v6) = v0 c
          ∧ r.2.mem ((c.tc : Thread Cert.RowDotRefIdeal.nD Cert.RowDotRefIdeal.τ).loc Cert.RowDotRefIdeal.main_arg0) = m' ((c.tc : Thread Cert.RowDotRefIdeal.nD Cert.RowDotRefIdeal.τ).loc Cert.RowDotRefIdeal.main_arg0)
          ∧ r.2.mem ((c.tc : Thread Cert.RowDotRefIdeal.nD Cert.RowDotRefIdeal.τ).loc Cert.RowDotRefIdeal.main_arg1) = m' ((c.tc : Thread Cert.RowDotRefIdeal.nD Cert.RowDotRefIdeal.τ).loc Cert.RowDotRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v8) = v0 c
          ∧ r.2.mem ((c.tc : Thread Cert.MergeFwdRefIdeal.nD Cert.MergeFwdRefIdeal.τ).loc Cert.MergeFwdRefIdeal.main_v10) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)) →
    ∃ (v0 : (c : Dev Cert.MergeBwdIdeal.nD) → Buf (Elt Ideal) ((c.tc : Thread Cert.MergeBwdIdeal.nD Cert.MergeBwdIdeal.τ).loc Cert.MergeBwdIdeal.main_v7_0)) (v1 : (c : Dev Cert.MergeBwdIdeal.nD) → Buf (Elt Ideal) ((c.tc : Thread Cert.MergeBwdIdeal.nD Cert.MergeBwdIdeal.τ).loc Cert.MergeBwdIdeal.main_v7_1)) (v2 : (c : Dev Cert.MergeBwdIdeal.nD) → Buf (Elt Ideal) ((c.tc : Thread Cert.MergeBwdIdeal.nD Cert.MergeBwdIdeal.τ).loc Cert.MergeBwdIdeal.main_v7_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v7_0) = v0 c
          ∧ r.2.mem ((c.tc : Thread Cert.MergeBwdIdeal.nD Cert.MergeBwdIdeal.τ).loc Cert.MergeBwdIdeal.main_v7_1) = v1 c
          ∧ r.2.mem ((c.tc : Thread Cert.MergeBwdIdeal.nD Cert.MergeBwdIdeal.τ).loc Cert.MergeBwdIdeal.main_v7_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v26) = v0 c
          ∧ r.2.mem ((c.tc : Thread Cert.MergeBwdRefIdeal.nD Cert.MergeBwdRefIdeal.τ).loc Cert.MergeBwdRefIdeal.main_v28) = v1 c
          ∧ r.2.mem ((c.tc : Thread Cert.MergeBwdRefIdeal.nD Cert.MergeBwdRefIdeal.τ).loc Cert.MergeBwdRefIdeal.main_v29) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v9) = v0 c
          ∧ r.2.mem ((c.tc : Thread Cert.Ff1RefIdeal.nD Cert.Ff1RefIdeal.τ).loc Cert.Ff1RefIdeal.main_v10) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v9) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_Ff2Dx_Ff2DxIdeal : Prop :=
  True

def algebraic_Ff2DxIdeal_Ff2DxRefIdeal [hFf2DxIdeal : Cert.Ff2DxIdeal.Facts] [hFf2DxRefIdeal : Cert.Ff2DxRefIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg)
    (m' : (ℓ : Loc Cert.Ff2DxRefIdeal.nD Cert.Ff2DxRefIdeal.τ Cert.Ff2DxRefIdeal.sig) → Buf (Elt Ideal) ℓ) (g' : Dev Cert.Ff2DxRefIdeal.nD → PrngReg), Pre_Ff2DxIdeal m →
    (∀ c : Dev Cert.Ff2DxIdeal.nD,
      m' ((c.tc : Thread Cert.Ff2DxRefIdeal.nD Cert.Ff2DxRefIdeal.τ).loc Cert.Ff2DxRefIdeal.main_arg0) = m ((c.tc : Thread Cert.Ff2DxIdeal.nD Cert.Ff2DxIdeal.τ).loc Cert.Ff2DxIdeal.main_arg0)
      ∧ m' ((c.tc : Thread Cert.Ff2DxRefIdeal.nD Cert.Ff2DxRefIdeal.τ).loc Cert.Ff2DxRefIdeal.main_arg1) = m ((c.tc : Thread Cert.Ff2DxIdeal.nD Cert.Ff2DxIdeal.τ).loc Cert.Ff2DxIdeal.main_arg1)
      ∧ m' ((c.tc : Thread Cert.Ff2DxRefIdeal.nD Cert.Ff2DxRefIdeal.τ).loc Cert.Ff2DxRefIdeal.main_arg2) = m ((c.tc : Thread Cert.Ff2DxIdeal.nD Cert.Ff2DxIdeal.τ).loc Cert.Ff2DxIdeal.main_arg2)) →
    ∃ (v0 : (c : Dev Cert.Ff2DxIdeal.nD) → Buf (Elt Ideal) ((c.tc : Thread Cert.Ff2DxIdeal.nD Cert.Ff2DxIdeal.τ).loc Cert.Ff2DxIdeal.main_v3)),
      θ_run (Cert.Ff2DxIdeal.defs (F := Ideal)) (onTc (τ := Cert.Ff2DxIdeal.τ) (Cert.Ff2DxIdeal.main (F := Ideal))) ⟨m, fun _ => 0, g⟩ (fun r => ∀ c : Dev Cert.Ff2DxIdeal.nD,
          r.2.mem ((c.tc : Thread Cert.Ff2DxIdeal.nD Cert.Ff2DxIdeal.τ).loc Cert.Ff2DxIdeal.main_v3) = v0 c
          ∧ r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
          ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
          ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ θ_run (Cert.Ff2DxRefIdeal.defs (F := Ideal)) (onTc (τ := Cert.Ff2DxRefIdeal.τ) (Cert.Ff2DxRefIdeal.main (F := Ideal))) ⟨m', fun _ => 0, g'⟩ (fun r => ∀ c : Dev Cert.Ff2DxRefIdeal.nD,
          r.2.mem ((c.tc : Thread Cert.Ff2DxRefIdeal.nD Cert.Ff2DxRefIdeal.τ).loc Cert.Ff2DxRefIdeal.main_v18) = v0 c
          ∧ r.2.mem ((c.tc : Thread Cert.Ff2DxRefIdeal.nD Cert.Ff2DxRefIdeal.τ).loc Cert.Ff2DxRefIdeal.main_arg0) = m' ((c.tc : Thread Cert.Ff2DxRefIdeal.nD Cert.Ff2DxRefIdeal.τ).loc Cert.Ff2DxRefIdeal.main_arg0)
          ∧ r.2.mem ((c.tc : Thread Cert.Ff2DxRefIdeal.nD Cert.Ff2DxRefIdeal.τ).loc Cert.Ff2DxRefIdeal.main_arg1) = m' ((c.tc : Thread Cert.Ff2DxRefIdeal.nD Cert.Ff2DxRefIdeal.τ).loc Cert.Ff2DxRefIdeal.main_arg1)
          ∧ r.2.mem ((c.tc : Thread Cert.Ff2DxRefIdeal.nD Cert.Ff2DxRefIdeal.τ).loc Cert.Ff2DxRefIdeal.main_arg2) = m' ((c.tc : Thread Cert.Ff2DxRefIdeal.nD Cert.Ff2DxRefIdeal.τ).loc Cert.Ff2DxRefIdeal.main_arg2))

def preserves_Ff1Dx_Ff1DxIdeal : Prop :=
  True

def algebraic_Ff1DxIdeal_Ff1DxRefIdeal [hFf1DxIdeal : Cert.Ff1DxIdeal.Facts] [hFf1DxRefIdeal : Cert.Ff1DxRefIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg)
    (m' : (ℓ : Loc Cert.Ff1DxRefIdeal.nD Cert.Ff1DxRefIdeal.τ Cert.Ff1DxRefIdeal.sig) → Buf (Elt Ideal) ℓ) (g' : Dev Cert.Ff1DxRefIdeal.nD → PrngReg), Pre_Ff1DxIdeal m →
    (∀ c : Dev Cert.Ff1DxIdeal.nD,
      m' ((c.tc : Thread Cert.Ff1DxRefIdeal.nD Cert.Ff1DxRefIdeal.τ).loc Cert.Ff1DxRefIdeal.main_arg0) = m ((c.tc : Thread Cert.Ff1DxIdeal.nD Cert.Ff1DxIdeal.τ).loc Cert.Ff1DxIdeal.main_arg0)
      ∧ m' ((c.tc : Thread Cert.Ff1DxRefIdeal.nD Cert.Ff1DxRefIdeal.τ).loc Cert.Ff1DxRefIdeal.main_arg1) = m ((c.tc : Thread Cert.Ff1DxIdeal.nD Cert.Ff1DxIdeal.τ).loc Cert.Ff1DxIdeal.main_arg1)
      ∧ m' ((c.tc : Thread Cert.Ff1DxRefIdeal.nD Cert.Ff1DxRefIdeal.τ).loc Cert.Ff1DxRefIdeal.main_arg2) = m ((c.tc : Thread Cert.Ff1DxIdeal.nD Cert.Ff1DxIdeal.τ).loc Cert.Ff1DxIdeal.main_arg2)) →
    ∃ (v0 : (c : Dev Cert.Ff1DxIdeal.nD) → Buf (Elt Ideal) ((c.tc : Thread Cert.Ff1DxIdeal.nD Cert.Ff1DxIdeal.τ).loc Cert.Ff1DxIdeal.main_v0)),
      θ_run (Cert.Ff1DxIdeal.defs (F := Ideal)) (onTc (τ := Cert.Ff1DxIdeal.τ) (Cert.Ff1DxIdeal.main (F := Ideal))) ⟨m, fun _ => 0, g⟩ (fun r => ∀ c : Dev Cert.Ff1DxIdeal.nD,
          r.2.mem ((c.tc : Thread Cert.Ff1DxIdeal.nD Cert.Ff1DxIdeal.τ).loc Cert.Ff1DxIdeal.main_v0) = v0 c
          ∧ r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
          ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1)
          ∧ r.2.mem ((c.tc : Thread Cert.Ff1DxIdeal.nD Cert.Ff1DxIdeal.τ).loc Cert.Ff1DxIdeal.main_arg2) = m ((c.tc : Thread Cert.Ff1DxIdeal.nD Cert.Ff1DxIdeal.τ).loc Cert.Ff1DxIdeal.main_arg2))
      ∧ θ_run (Cert.Ff1DxRefIdeal.defs (F := Ideal)) (onTc (τ := Cert.Ff1DxRefIdeal.τ) (Cert.Ff1DxRefIdeal.main (F := Ideal))) ⟨m', fun _ => 0, g'⟩ (fun r => ∀ c : Dev Cert.Ff1DxRefIdeal.nD,
          r.2.mem ((c.tc : Thread Cert.Ff1DxRefIdeal.nD Cert.Ff1DxRefIdeal.τ).loc Cert.Ff1DxRefIdeal.main_v13) = v0 c
          ∧ r.2.mem ((c.tc : Thread Cert.Ff1DxRefIdeal.nD Cert.Ff1DxRefIdeal.τ).loc Cert.Ff1DxRefIdeal.main_arg0) = m' ((c.tc : Thread Cert.Ff1DxRefIdeal.nD Cert.Ff1DxRefIdeal.τ).loc Cert.Ff1DxRefIdeal.main_arg0)
          ∧ r.2.mem ((c.tc : Thread Cert.Ff1DxRefIdeal.nD Cert.Ff1DxRefIdeal.τ).loc Cert.Ff1DxRefIdeal.main_arg1) = m' ((c.tc : Thread Cert.Ff1DxRefIdeal.nD Cert.Ff1DxRefIdeal.τ).loc Cert.Ff1DxRefIdeal.main_arg1)
          ∧ r.2.mem ((c.tc : Thread Cert.Ff1DxRefIdeal.nD Cert.Ff1DxRefIdeal.τ).loc Cert.Ff1DxRefIdeal.main_arg2) = m' ((c.tc : Thread Cert.Ff1DxRefIdeal.nD Cert.Ff1DxRefIdeal.τ).loc Cert.Ff1DxRefIdeal.main_arg2))

def preserves_Ff1Next_Ff1NextIdeal : Prop :=
  True

def algebraic_Ff1NextIdeal_Ff1NextRefIdeal [hFf1NextIdeal : Cert.Ff1NextIdeal.Facts] [hFf1NextRefIdeal : Cert.Ff1NextRefIdeal.Facts] : Prop :=
  ∀ (m : (ℓ : Loc Cert.Ff1NextIdeal.nD Cert.Ff1NextIdeal.τ Cert.Ff1NextIdeal.sig) → Buf (Elt Ideal) ℓ) (g : Dev Cert.Ff1NextIdeal.nD → PrngReg)
    (m' : (ℓ : Loc Cert.Ff1NextRefIdeal.nD Cert.Ff1NextRefIdeal.τ Cert.Ff1NextRefIdeal.sig) → Buf (Elt Ideal) ℓ) (g' : Dev Cert.Ff1NextRefIdeal.nD → PrngReg), Pre_Ff1NextIdeal m →
    (∀ c : Dev Cert.Ff1NextIdeal.nD,
      m' ((c.tc : Thread Cert.Ff1NextRefIdeal.nD Cert.Ff1NextRefIdeal.τ).loc Cert.Ff1NextRefIdeal.main_arg0) = m ((c.tc : Thread Cert.Ff1NextIdeal.nD Cert.Ff1NextIdeal.τ).loc Cert.Ff1NextIdeal.main_arg0)
      ∧ m' ((c.tc : Thread Cert.Ff1NextRefIdeal.nD Cert.Ff1NextRefIdeal.τ).loc Cert.Ff1NextRefIdeal.main_arg1) = m ((c.tc : Thread Cert.Ff1NextIdeal.nD Cert.Ff1NextIdeal.τ).loc Cert.Ff1NextIdeal.main_arg1)) →
    ∃ (v0 : (c : Dev Cert.Ff1NextIdeal.nD) → Buf (Elt Ideal) ((c.tc : Thread Cert.Ff1NextIdeal.nD Cert.Ff1NextIdeal.τ).loc Cert.Ff1NextIdeal.main_v0_0)) (v1 : (c : Dev Cert.Ff1NextIdeal.nD) → Buf (Elt Ideal) ((c.tc : Thread Cert.Ff1NextIdeal.nD Cert.Ff1NextIdeal.τ).loc Cert.Ff1NextIdeal.main_v0_1)),
      θ_run (Cert.Ff1NextIdeal.defs (F := Ideal)) (onTc (τ := Cert.Ff1NextIdeal.τ) (Cert.Ff1NextIdeal.main (F := Ideal))) ⟨m, fun _ => 0, g⟩ (fun r => ∀ c : Dev Cert.Ff1NextIdeal.nD,
          r.2.mem ((c.tc : Thread Cert.Ff1NextIdeal.nD Cert.Ff1NextIdeal.τ).loc Cert.Ff1NextIdeal.main_v0_0) = v0 c
          ∧ r.2.mem ((c.tc : Thread Cert.Ff1NextIdeal.nD Cert.Ff1NextIdeal.τ).loc Cert.Ff1NextIdeal.main_v0_1) = v1 c
          ∧ r.2.mem ((c.tc : Thread Cert.Ff1NextIdeal.nD Cert.Ff1NextIdeal.τ).loc Cert.Ff1NextIdeal.main_arg0) = m ((c.tc : Thread Cert.Ff1NextIdeal.nD Cert.Ff1NextIdeal.τ).loc Cert.Ff1NextIdeal.main_arg0)
          ∧ r.2.mem ((c.tc : Thread Cert.Ff1NextIdeal.nD Cert.Ff1NextIdeal.τ).loc Cert.Ff1NextIdeal.main_arg1) = m ((c.tc : Thread Cert.Ff1NextIdeal.nD Cert.Ff1NextIdeal.τ).loc Cert.Ff1NextIdeal.main_arg1))
      ∧ θ_run (Cert.Ff1NextRefIdeal.defs (F := Ideal)) (onTc (τ := Cert.Ff1NextRefIdeal.τ) (Cert.Ff1NextRefIdeal.main (F := Ideal))) ⟨m', fun _ => 0, g'⟩ (fun r => ∀ c : Dev Cert.Ff1NextRefIdeal.nD,
          r.2.mem ((c.tc : Thread Cert.Ff1NextRefIdeal.nD Cert.Ff1NextRefIdeal.τ).loc Cert.Ff1NextRefIdeal.main_v9) = v0 c
          ∧ r.2.mem ((c.tc : Thread Cert.Ff1NextRefIdeal.nD Cert.Ff1NextRefIdeal.τ).loc Cert.Ff1NextRefIdeal.main_v10) = v1 c
          ∧ r.2.mem ((c.tc : Thread Cert.Ff1NextRefIdeal.nD Cert.Ff1NextRefIdeal.τ).loc Cert.Ff1NextRefIdeal.main_arg0) = m' ((c.tc : Thread Cert.Ff1NextRefIdeal.nD Cert.Ff1NextRefIdeal.τ).loc Cert.Ff1NextRefIdeal.main_arg0)
          ∧ r.2.mem ((c.tc : Thread Cert.Ff1NextRefIdeal.nD Cert.Ff1NextRefIdeal.τ).loc Cert.Ff1NextRefIdeal.main_arg1) = m' ((c.tc : Thread Cert.Ff1NextRefIdeal.nD Cert.Ff1NextRefIdeal.τ).loc Cert.Ff1NextRefIdeal.main_arg1))

def preserves_Ff2Next_Ff2NextIdeal : Prop :=
  True

def algebraic_Ff2NextIdeal_Ff2NextRefIdeal [hFf2NextIdeal : Cert.Ff2NextIdeal.Facts] [hFf2NextRefIdeal : Cert.Ff2NextRefIdeal.Facts] : Prop :=
  ∀ (m : (ℓ : Loc Cert.Ff2NextIdeal.nD Cert.Ff2NextIdeal.τ Cert.Ff2NextIdeal.sig) → Buf (Elt Ideal) ℓ) (g : Dev Cert.Ff2NextIdeal.nD → PrngReg)
    (m' : (ℓ : Loc Cert.Ff2NextRefIdeal.nD Cert.Ff2NextRefIdeal.τ Cert.Ff2NextRefIdeal.sig) → Buf (Elt Ideal) ℓ) (g' : Dev Cert.Ff2NextRefIdeal.nD → PrngReg), Pre_Ff2NextIdeal m →
    (∀ c : Dev Cert.Ff2NextIdeal.nD,
      m' ((c.tc : Thread Cert.Ff2NextRefIdeal.nD Cert.Ff2NextRefIdeal.τ).loc Cert.Ff2NextRefIdeal.main_arg0) = m ((c.tc : Thread Cert.Ff2NextIdeal.nD Cert.Ff2NextIdeal.τ).loc Cert.Ff2NextIdeal.main_arg0)
      ∧ m' ((c.tc : Thread Cert.Ff2NextRefIdeal.nD Cert.Ff2NextRefIdeal.τ).loc Cert.Ff2NextRefIdeal.main_arg1) = m ((c.tc : Thread Cert.Ff2NextIdeal.nD Cert.Ff2NextIdeal.τ).loc Cert.Ff2NextIdeal.main_arg1)
      ∧ m' ((c.tc : Thread Cert.Ff2NextRefIdeal.nD Cert.Ff2NextRefIdeal.τ).loc Cert.Ff2NextRefIdeal.main_arg2) = m ((c.tc : Thread Cert.Ff2NextIdeal.nD Cert.Ff2NextIdeal.τ).loc Cert.Ff2NextIdeal.main_arg2)) →
    ∃ (v0 : (c : Dev Cert.Ff2NextIdeal.nD) → Buf (Elt Ideal) ((c.tc : Thread Cert.Ff2NextIdeal.nD Cert.Ff2NextIdeal.τ).loc Cert.Ff2NextIdeal.main_v0)),
      θ_run (Cert.Ff2NextIdeal.defs (F := Ideal)) (onTc (τ := Cert.Ff2NextIdeal.τ) (Cert.Ff2NextIdeal.main (F := Ideal))) ⟨m, fun _ => 0, g⟩ (fun r => ∀ c : Dev Cert.Ff2NextIdeal.nD,
          r.2.mem ((c.tc : Thread Cert.Ff2NextIdeal.nD Cert.Ff2NextIdeal.τ).loc Cert.Ff2NextIdeal.main_v0) = v0 c
          ∧ r.2.mem ((c.tc : Thread Cert.Ff2NextIdeal.nD Cert.Ff2NextIdeal.τ).loc Cert.Ff2NextIdeal.main_arg0) = m ((c.tc : Thread Cert.Ff2NextIdeal.nD Cert.Ff2NextIdeal.τ).loc Cert.Ff2NextIdeal.main_arg0)
          ∧ r.2.mem ((c.tc : Thread Cert.Ff2NextIdeal.nD Cert.Ff2NextIdeal.τ).loc Cert.Ff2NextIdeal.main_arg1) = m ((c.tc : Thread Cert.Ff2NextIdeal.nD Cert.Ff2NextIdeal.τ).loc Cert.Ff2NextIdeal.main_arg1)
          ∧ r.2.mem ((c.tc : Thread Cert.Ff2NextIdeal.nD Cert.Ff2NextIdeal.τ).loc Cert.Ff2NextIdeal.main_arg2) = m ((c.tc : Thread Cert.Ff2NextIdeal.nD Cert.Ff2NextIdeal.τ).loc Cert.Ff2NextIdeal.main_arg2))
      ∧ θ_run (Cert.Ff2NextRefIdeal.defs (F := Ideal)) (onTc (τ := Cert.Ff2NextRefIdeal.τ) (Cert.Ff2NextRefIdeal.main (F := Ideal))) ⟨m', fun _ => 0, g'⟩ (fun r => ∀ c : Dev Cert.Ff2NextRefIdeal.nD,
          r.2.mem ((c.tc : Thread Cert.Ff2NextRefIdeal.nD Cert.Ff2NextRefIdeal.τ).loc Cert.Ff2NextRefIdeal.main_v9) = v0 c
          ∧ r.2.mem ((c.tc : Thread Cert.Ff2NextRefIdeal.nD Cert.Ff2NextRefIdeal.τ).loc Cert.Ff2NextRefIdeal.main_arg0) = m' ((c.tc : Thread Cert.Ff2NextRefIdeal.nD Cert.Ff2NextRefIdeal.τ).loc Cert.Ff2NextRefIdeal.main_arg0)
          ∧ r.2.mem ((c.tc : Thread Cert.Ff2NextRefIdeal.nD Cert.Ff2NextRefIdeal.τ).loc Cert.Ff2NextRefIdeal.main_arg1) = m' ((c.tc : Thread Cert.Ff2NextRefIdeal.nD Cert.Ff2NextRefIdeal.τ).loc Cert.Ff2NextRefIdeal.main_arg1)
          ∧ r.2.mem ((c.tc : Thread Cert.Ff2NextRefIdeal.nD Cert.Ff2NextRefIdeal.τ).loc Cert.Ff2NextRefIdeal.main_arg2) = m' ((c.tc : Thread Cert.Ff2NextRefIdeal.nD Cert.Ff2NextRefIdeal.τ).loc Cert.Ff2NextRefIdeal.main_arg2))

def preserves_Ff2DxNext_Ff2DxNextIdeal : Prop :=
  True

def algebraic_Ff2DxNextIdeal_Ff2DxNextRefIdeal [hFf2DxNextIdeal : Cert.Ff2DxNextIdeal.Facts] [hFf2DxNextRefIdeal : Cert.Ff2DxNextRefIdeal.Facts] : Prop :=
  ∀ (m : (ℓ : Loc Cert.Ff2DxNextIdeal.nD Cert.Ff2DxNextIdeal.τ Cert.Ff2DxNextIdeal.sig) → Buf (Elt Ideal) ℓ) (g : Dev Cert.Ff2DxNextIdeal.nD → PrngReg)
    (m' : (ℓ : Loc Cert.Ff2DxNextRefIdeal.nD Cert.Ff2DxNextRefIdeal.τ Cert.Ff2DxNextRefIdeal.sig) → Buf (Elt Ideal) ℓ) (g' : Dev Cert.Ff2DxNextRefIdeal.nD → PrngReg), Pre_Ff2DxNextIdeal m →
    (∀ c : Dev Cert.Ff2DxNextIdeal.nD,
      m' ((c.tc : Thread Cert.Ff2DxNextRefIdeal.nD Cert.Ff2DxNextRefIdeal.τ).loc Cert.Ff2DxNextRefIdeal.main_arg0) = m ((c.tc : Thread Cert.Ff2DxNextIdeal.nD Cert.Ff2DxNextIdeal.τ).loc Cert.Ff2DxNextIdeal.main_arg0)
      ∧ m' ((c.tc : Thread Cert.Ff2DxNextRefIdeal.nD Cert.Ff2DxNextRefIdeal.τ).loc Cert.Ff2DxNextRefIdeal.main_arg1) = m ((c.tc : Thread Cert.Ff2DxNextIdeal.nD Cert.Ff2DxNextIdeal.τ).loc Cert.Ff2DxNextIdeal.main_arg1)
      ∧ m' ((c.tc : Thread Cert.Ff2DxNextRefIdeal.nD Cert.Ff2DxNextRefIdeal.τ).loc Cert.Ff2DxNextRefIdeal.main_arg2) = m ((c.tc : Thread Cert.Ff2DxNextIdeal.nD Cert.Ff2DxNextIdeal.τ).loc Cert.Ff2DxNextIdeal.main_arg2)) →
    ∃ (v0 : (c : Dev Cert.Ff2DxNextIdeal.nD) → Buf (Elt Ideal) ((c.tc : Thread Cert.Ff2DxNextIdeal.nD Cert.Ff2DxNextIdeal.τ).loc Cert.Ff2DxNextIdeal.main_v3)),
      θ_run (Cert.Ff2DxNextIdeal.defs (F := Ideal)) (onTc (τ := Cert.Ff2DxNextIdeal.τ) (Cert.Ff2DxNextIdeal.main (F := Ideal))) ⟨m, fun _ => 0, g⟩ (fun r => ∀ c : Dev Cert.Ff2DxNextIdeal.nD,
          r.2.mem ((c.tc : Thread Cert.Ff2DxNextIdeal.nD Cert.Ff2DxNextIdeal.τ).loc Cert.Ff2DxNextIdeal.main_v3) = v0 c
          ∧ r.2.mem ((c.tc : Thread Cert.Ff2DxNextIdeal.nD Cert.Ff2DxNextIdeal.τ).loc Cert.Ff2DxNextIdeal.main_arg0) = m ((c.tc : Thread Cert.Ff2DxNextIdeal.nD Cert.Ff2DxNextIdeal.τ).loc Cert.Ff2DxNextIdeal.main_arg0)
          ∧ r.2.mem ((c.tc : Thread Cert.Ff2DxNextIdeal.nD Cert.Ff2DxNextIdeal.τ).loc Cert.Ff2DxNextIdeal.main_arg1) = m ((c.tc : Thread Cert.Ff2DxNextIdeal.nD Cert.Ff2DxNextIdeal.τ).loc Cert.Ff2DxNextIdeal.main_arg1)
          ∧ r.2.mem ((c.tc : Thread Cert.Ff2DxNextIdeal.nD Cert.Ff2DxNextIdeal.τ).loc Cert.Ff2DxNextIdeal.main_arg2) = m ((c.tc : Thread Cert.Ff2DxNextIdeal.nD Cert.Ff2DxNextIdeal.τ).loc Cert.Ff2DxNextIdeal.main_arg2))
      ∧ θ_run (Cert.Ff2DxNextRefIdeal.defs (F := Ideal)) (onTc (τ := Cert.Ff2DxNextRefIdeal.τ) (Cert.Ff2DxNextRefIdeal.main (F := Ideal))) ⟨m', fun _ => 0, g'⟩ (fun r => ∀ c : Dev Cert.Ff2DxNextRefIdeal.nD,
          r.2.mem ((c.tc : Thread Cert.Ff2DxNextRefIdeal.nD Cert.Ff2DxNextRefIdeal.τ).loc Cert.Ff2DxNextRefIdeal.main_v18) = v0 c
          ∧ r.2.mem ((c.tc : Thread Cert.Ff2DxNextRefIdeal.nD Cert.Ff2DxNextRefIdeal.τ).loc Cert.Ff2DxNextRefIdeal.main_arg0) = m' ((c.tc : Thread Cert.Ff2DxNextRefIdeal.nD Cert.Ff2DxNextRefIdeal.τ).loc Cert.Ff2DxNextRefIdeal.main_arg0)
          ∧ r.2.mem ((c.tc : Thread Cert.Ff2DxNextRefIdeal.nD Cert.Ff2DxNextRefIdeal.τ).loc Cert.Ff2DxNextRefIdeal.main_arg1) = m' ((c.tc : Thread Cert.Ff2DxNextRefIdeal.nD Cert.Ff2DxNextRefIdeal.τ).loc Cert.Ff2DxNextRefIdeal.main_arg1)
          ∧ r.2.mem ((c.tc : Thread Cert.Ff2DxNextRefIdeal.nD Cert.Ff2DxNextRefIdeal.τ).loc Cert.Ff2DxNextRefIdeal.main_arg2) = m' ((c.tc : Thread Cert.Ff2DxNextRefIdeal.nD Cert.Ff2DxNextRefIdeal.τ).loc Cert.Ff2DxNextRefIdeal.main_arg2))

def preserves_Ff1DxNext_Ff1DxNextIdeal : Prop :=
  True

def algebraic_Ff1DxNextIdeal_Ff1DxNextRefIdeal [hFf1DxNextIdeal : Cert.Ff1DxNextIdeal.Facts] [hFf1DxNextRefIdeal : Cert.Ff1DxNextRefIdeal.Facts] : Prop :=
  ∀ (m : (ℓ : Loc Cert.Ff1DxNextIdeal.nD Cert.Ff1DxNextIdeal.τ Cert.Ff1DxNextIdeal.sig) → Buf (Elt Ideal) ℓ) (g : Dev Cert.Ff1DxNextIdeal.nD → PrngReg)
    (m' : (ℓ : Loc Cert.Ff1DxNextRefIdeal.nD Cert.Ff1DxNextRefIdeal.τ Cert.Ff1DxNextRefIdeal.sig) → Buf (Elt Ideal) ℓ) (g' : Dev Cert.Ff1DxNextRefIdeal.nD → PrngReg), Pre_Ff1DxNextIdeal m →
    (∀ c : Dev Cert.Ff1DxNextIdeal.nD,
      m' ((c.tc : Thread Cert.Ff1DxNextRefIdeal.nD Cert.Ff1DxNextRefIdeal.τ).loc Cert.Ff1DxNextRefIdeal.main_arg0) = m ((c.tc : Thread Cert.Ff1DxNextIdeal.nD Cert.Ff1DxNextIdeal.τ).loc Cert.Ff1DxNextIdeal.main_arg0)
      ∧ m' ((c.tc : Thread Cert.Ff1DxNextRefIdeal.nD Cert.Ff1DxNextRefIdeal.τ).loc Cert.Ff1DxNextRefIdeal.main_arg1) = m ((c.tc : Thread Cert.Ff1DxNextIdeal.nD Cert.Ff1DxNextIdeal.τ).loc Cert.Ff1DxNextIdeal.main_arg1)
      ∧ m' ((c.tc : Thread Cert.Ff1DxNextRefIdeal.nD Cert.Ff1DxNextRefIdeal.τ).loc Cert.Ff1DxNextRefIdeal.main_arg2) = m ((c.tc : Thread Cert.Ff1DxNextIdeal.nD Cert.Ff1DxNextIdeal.τ).loc Cert.Ff1DxNextIdeal.main_arg2)) →
    ∃ (v0 : (c : Dev Cert.Ff1DxNextIdeal.nD) → Buf (Elt Ideal) ((c.tc : Thread Cert.Ff1DxNextIdeal.nD Cert.Ff1DxNextIdeal.τ).loc Cert.Ff1DxNextIdeal.main_v0)),
      θ_run (Cert.Ff1DxNextIdeal.defs (F := Ideal)) (onTc (τ := Cert.Ff1DxNextIdeal.τ) (Cert.Ff1DxNextIdeal.main (F := Ideal))) ⟨m, fun _ => 0, g⟩ (fun r => ∀ c : Dev Cert.Ff1DxNextIdeal.nD,
          r.2.mem ((c.tc : Thread Cert.Ff1DxNextIdeal.nD Cert.Ff1DxNextIdeal.τ).loc Cert.Ff1DxNextIdeal.main_v0) = v0 c
          ∧ r.2.mem ((c.tc : Thread Cert.Ff1DxNextIdeal.nD Cert.Ff1DxNextIdeal.τ).loc Cert.Ff1DxNextIdeal.main_arg0) = m ((c.tc : Thread Cert.Ff1DxNextIdeal.nD Cert.Ff1DxNextIdeal.τ).loc Cert.Ff1DxNextIdeal.main_arg0)
          ∧ r.2.mem ((c.tc : Thread Cert.Ff1DxNextIdeal.nD Cert.Ff1DxNextIdeal.τ).loc Cert.Ff1DxNextIdeal.main_arg1) = m ((c.tc : Thread Cert.Ff1DxNextIdeal.nD Cert.Ff1DxNextIdeal.τ).loc Cert.Ff1DxNextIdeal.main_arg1)
          ∧ r.2.mem ((c.tc : Thread Cert.Ff1DxNextIdeal.nD Cert.Ff1DxNextIdeal.τ).loc Cert.Ff1DxNextIdeal.main_arg2) = m ((c.tc : Thread Cert.Ff1DxNextIdeal.nD Cert.Ff1DxNextIdeal.τ).loc Cert.Ff1DxNextIdeal.main_arg2))
      ∧ θ_run (Cert.Ff1DxNextRefIdeal.defs (F := Ideal)) (onTc (τ := Cert.Ff1DxNextRefIdeal.τ) (Cert.Ff1DxNextRefIdeal.main (F := Ideal))) ⟨m', fun _ => 0, g'⟩ (fun r => ∀ c : Dev Cert.Ff1DxNextRefIdeal.nD,
          r.2.mem ((c.tc : Thread Cert.Ff1DxNextRefIdeal.nD Cert.Ff1DxNextRefIdeal.τ).loc Cert.Ff1DxNextRefIdeal.main_v13) = v0 c
          ∧ r.2.mem ((c.tc : Thread Cert.Ff1DxNextRefIdeal.nD Cert.Ff1DxNextRefIdeal.τ).loc Cert.Ff1DxNextRefIdeal.main_arg0) = m' ((c.tc : Thread Cert.Ff1DxNextRefIdeal.nD Cert.Ff1DxNextRefIdeal.τ).loc Cert.Ff1DxNextRefIdeal.main_arg0)
          ∧ r.2.mem ((c.tc : Thread Cert.Ff1DxNextRefIdeal.nD Cert.Ff1DxNextRefIdeal.τ).loc Cert.Ff1DxNextRefIdeal.main_arg1) = m' ((c.tc : Thread Cert.Ff1DxNextRefIdeal.nD Cert.Ff1DxNextRefIdeal.τ).loc Cert.Ff1DxNextRefIdeal.main_arg1)
          ∧ r.2.mem ((c.tc : Thread Cert.Ff1DxNextRefIdeal.nD Cert.Ff1DxNextRefIdeal.τ).loc Cert.Ff1DxNextRefIdeal.main_arg2) = m' ((c.tc : Thread Cert.Ff1DxNextRefIdeal.nD Cert.Ff1DxNextRefIdeal.τ).loc Cert.Ff1DxNextRefIdeal.main_arg2))

def Claim : Prop :=
  ∃ (hKernel : Cert.Kernel.Facts) (hKernelIdeal : Cert.KernelIdeal.Facts) (hReferenceIdeal : Cert.ReferenceIdeal.Facts) (hLnBwd : Cert.LnBwd.Facts) (hLnBwdIdeal : Cert.LnBwdIdeal.Facts) (hLnBwdRefIdeal : Cert.LnBwdRefIdeal.Facts) (hFf2Dw : Cert.Ff2Dw.Facts) (hFf2DwIdeal : Cert.Ff2DwIdeal.Facts) (hFf2DwRefIdeal : Cert.Ff2DwRefIdeal.Facts) (hFf1Dw : Cert.Ff1Dw.Facts) (hFf1DwIdeal : Cert.Ff1DwIdeal.Facts) (hFf1DwRefIdeal : Cert.Ff1DwRefIdeal.Facts) (hGateDw : Cert.GateDw.Facts) (hGateDwIdeal : Cert.GateDwIdeal.Facts) (hGateDwRefIdeal : Cert.GateDwRefIdeal.Facts) (hGateDx : Cert.GateDx.Facts) (hGateDxIdeal : Cert.GateDxIdeal.Facts) (hGateDxRefIdeal : Cert.GateDxRefIdeal.Facts) (hInAttDw : Cert.InAttDw.Facts) (hInAttDwIdeal : Cert.InAttDwIdeal.Facts) (hInAttDwRefIdeal : Cert.InAttDwRefIdeal.Facts) (hInAttDx : Cert.InAttDx.Facts) (hInAttDxIdeal : Cert.InAttDxIdeal.Facts) (hInAttDxRefIdeal : Cert.InAttDxRefIdeal.Facts) (hGateProj : Cert.GateProj.Facts) (hGateProjIdeal : Cert.GateProjIdeal.Facts) (hGateProjRefIdeal : Cert.GateProjRefIdeal.Facts) (hInProjAtt : Cert.InProjAtt.Facts) (hInProjAttIdeal : Cert.InProjAttIdeal.Facts) (hInProjAttRefIdeal : Cert.InProjAttRefIdeal.Facts) (hOutDx : Cert.OutDx.Facts) (hOutDxIdeal : Cert.OutDxIdeal.Facts) (hOutDxRefIdeal : Cert.OutDxRefIdeal.Facts) (hOutProj : Cert.OutProj.Facts) (hOutProjIdeal : Cert.OutProjIdeal.Facts) (hOutProjRefIdeal : Cert.OutProjRefIdeal.Facts) (hOutDw : Cert.OutDw.Facts) (hOutDwIdeal : Cert.OutDwIdeal.Facts) (hOutDwRefIdeal : Cert.OutDwRefIdeal.Facts) (hInProjRec : Cert.InProjRec.Facts) (hInProjRecIdeal : Cert.InProjRecIdeal.Facts) (hInProjRecRefIdeal : Cert.InProjRecRefIdeal.Facts) (hInRecDw : Cert.InRecDw.Facts) (hInRecDwIdeal : Cert.InRecDwIdeal.Facts) (hInRecDwRefIdeal : Cert.InRecDwRefIdeal.Facts) (hInRecDx : Cert.InRecDx.Facts) (hInRecDxIdeal : Cert.InRecDxIdeal.Facts) (hInRecDxRefIdeal : Cert.InRecDxRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hLnFwd : Cert.LnFwd.Facts) (hLnFwdIdeal : Cert.LnFwdIdeal.Facts) (hLnFwdRefIdeal : Cert.LnFwdRefIdeal.Facts) (hLossHead : Cert.LossHead.Facts) (hLossHeadIdeal : Cert.LossHeadIdeal.Facts) (hLossHeadRefIdeal : Cert.LossHeadRefIdeal.Facts) (hRowDot : Cert.RowDot.Facts) (hRowDotIdeal : Cert.RowDotIdeal.Facts) (hRowDotRefIdeal : Cert.RowDotRefIdeal.Facts) (hMergeFwd : Cert.MergeFwd.Facts) (hMergeFwdIdeal : Cert.MergeFwdIdeal.Facts) (hMergeFwdRefIdeal : Cert.MergeFwdRefIdeal.Facts) (hMergeBwd : Cert.MergeBwd.Facts) (hMergeBwdIdeal : Cert.MergeBwdIdeal.Facts) (hMergeBwdRefIdeal : Cert.MergeBwdRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hFf2Dx : Cert.Ff2Dx.Facts) (hFf2DxIdeal : Cert.Ff2DxIdeal.Facts) (hFf2DxRefIdeal : Cert.Ff2DxRefIdeal.Facts) (hFf1Dx : Cert.Ff1Dx.Facts) (hFf1DxIdeal : Cert.Ff1DxIdeal.Facts) (hFf1DxRefIdeal : Cert.Ff1DxRefIdeal.Facts) (hFf1Next : Cert.Ff1Next.Facts) (hFf1NextIdeal : Cert.Ff1NextIdeal.Facts) (hFf1NextRefIdeal : Cert.Ff1NextRefIdeal.Facts) (hFf2Next : Cert.Ff2Next.Facts) (hFf2NextIdeal : Cert.Ff2NextIdeal.Facts) (hFf2NextRefIdeal : Cert.Ff2NextRefIdeal.Facts) (hFf2DxNext : Cert.Ff2DxNext.Facts) (hFf2DxNextIdeal : Cert.Ff2DxNextIdeal.Facts) (hFf2DxNextRefIdeal : Cert.Ff2DxNextRefIdeal.Facts) (hFf1DxNext : Cert.Ff1DxNext.Facts) (hFf1DxNextIdeal : Cert.Ff1DxNextIdeal.Facts) (hFf1DxNextRefIdeal : Cert.Ff1DxNextRefIdeal.Facts) (hPre_finite : Cert.Pre_finite.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_LnBwd (hLnBwd := hLnBwd)
    ∧ quiescent_LnBwdIdeal (hLnBwdIdeal := hLnBwdIdeal)
    ∧ quiescent_LnBwdIdeal_pre_finite_rows (hLnBwdIdeal := hLnBwdIdeal) (hPre_finite_rows := hPre_finite_rows)
    ∧ quiescent_LnBwdRefIdeal (hLnBwdRefIdeal := hLnBwdRefIdeal)
    ∧ quiescent_LnBwdRefIdeal_pre_finite_rows (hLnBwdRefIdeal := hLnBwdRefIdeal) (hPre_finite_rows := hPre_finite_rows)
    ∧ quiescent_Ff2Dw (hFf2Dw := hFf2Dw)
    ∧ quiescent_Ff2DwIdeal (hFf2DwIdeal := hFf2DwIdeal)
    ∧ quiescent_Ff2DwRefIdeal (hFf2DwRefIdeal := hFf2DwRefIdeal)
    ∧ quiescent_Ff1Dw (hFf1Dw := hFf1Dw)
    ∧ quiescent_Ff1DwIdeal (hFf1DwIdeal := hFf1DwIdeal)
    ∧ quiescent_Ff1DwRefIdeal (hFf1DwRefIdeal := hFf1DwRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_InAttDw (hInAttDw := hInAttDw)
    ∧ quiescent_InAttDwIdeal (hInAttDwIdeal := hInAttDwIdeal)
    ∧ quiescent_InAttDwRefIdeal (hInAttDwRefIdeal := hInAttDwRefIdeal)
    ∧ quiescent_InAttDx (hInAttDx := hInAttDx)
    ∧ quiescent_InAttDxIdeal (hInAttDxIdeal := hInAttDxIdeal)
    ∧ quiescent_InAttDxRefIdeal (hInAttDxRefIdeal := hInAttDxRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ quiescent_InProjAtt (hInProjAtt := hInProjAtt)
    ∧ quiescent_InProjAttIdeal (hInProjAttIdeal := hInProjAttIdeal)
    ∧ quiescent_InProjAttRefIdeal (hInProjAttRefIdeal := hInProjAttRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InProjRec (hInProjRec := hInProjRec)
    ∧ quiescent_InProjRecIdeal (hInProjRecIdeal := hInProjRecIdeal)
    ∧ quiescent_InProjRecRefIdeal (hInProjRecRefIdeal := hInProjRecRefIdeal)
    ∧ quiescent_InRecDw (hInRecDw := hInRecDw)
    ∧ quiescent_InRecDwIdeal (hInRecDwIdeal := hInRecDwIdeal)
    ∧ quiescent_InRecDwRefIdeal (hInRecDwRefIdeal := hInRecDwRefIdeal)
    ∧ quiescent_InRecDx (hInRecDx := hInRecDx)
    ∧ quiescent_InRecDxIdeal (hInRecDxIdeal := hInRecDxIdeal)
    ∧ quiescent_InRecDxRefIdeal (hInRecDxRefIdeal := hInRecDxRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_RowDot (hRowDot := hRowDot)
    ∧ quiescent_RowDotIdeal (hRowDotIdeal := hRowDotIdeal)
    ∧ quiescent_RowDotRefIdeal (hRowDotRefIdeal := hRowDotRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Ff2Dx (hFf2Dx := hFf2Dx)
    ∧ quiescent_Ff2DxIdeal (hFf2DxIdeal := hFf2DxIdeal)
    ∧ quiescent_Ff2DxRefIdeal (hFf2DxRefIdeal := hFf2DxRefIdeal)
    ∧ quiescent_Ff1Dx (hFf1Dx := hFf1Dx)
    ∧ quiescent_Ff1DxIdeal (hFf1DxIdeal := hFf1DxIdeal)
    ∧ quiescent_Ff1DxRefIdeal (hFf1DxRefIdeal := hFf1DxRefIdeal)
    ∧ quiescent_Ff1Next (hFf1Next := hFf1Next)
    ∧ quiescent_Ff1NextIdeal (hFf1NextIdeal := hFf1NextIdeal)
    ∧ quiescent_Ff1NextRefIdeal (hFf1NextRefIdeal := hFf1NextRefIdeal)
    ∧ quiescent_Ff2Next (hFf2Next := hFf2Next)
    ∧ quiescent_Ff2NextIdeal (hFf2NextIdeal := hFf2NextIdeal)
    ∧ quiescent_Ff2NextRefIdeal (hFf2NextRefIdeal := hFf2NextRefIdeal)
    ∧ quiescent_Ff2DxNext (hFf2DxNext := hFf2DxNext)
    ∧ quiescent_Ff2DxNextIdeal (hFf2DxNextIdeal := hFf2DxNextIdeal)
    ∧ quiescent_Ff2DxNextRefIdeal (hFf2DxNextRefIdeal := hFf2DxNextRefIdeal)
    ∧ quiescent_Ff1DxNext (hFf1DxNext := hFf1DxNext)
    ∧ quiescent_Ff1DxNextIdeal (hFf1DxNextIdeal := hFf1DxNextIdeal)
    ∧ quiescent_Ff1DxNextRefIdeal (hFf1DxNextRefIdeal := hFf1DxNextRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_LnBwd_LnBwdIdeal
    ∧ algebraic_LnBwdIdeal_LnBwdRefIdeal_pre_finite_rows (hLnBwdIdeal := hLnBwdIdeal) (hLnBwdRefIdeal := hLnBwdRefIdeal) (hPre_finite_rows := hPre_finite_rows)
    ∧ preserves_Ff2Dw_Ff2DwIdeal
    ∧ algebraic_Ff2DwIdeal_Ff2DwRefIdeal (hFf2DwIdeal := hFf2DwIdeal) (hFf2DwRefIdeal := hFf2DwRefIdeal)
    ∧ preserves_Ff1Dw_Ff1DwIdeal
    ∧ algebraic_Ff1DwIdeal_Ff1DwRefIdeal (hFf1DwIdeal := hFf1DwIdeal) (hFf1DwRefIdeal := hFf1DwRefIdeal)
    ∧ preserves_GateDw_GateDwIdeal
    ∧ algebraic_GateDwIdeal_GateDwRefIdeal (hGateDwIdeal := hGateDwIdeal) (hGateDwRefIdeal := hGateDwRefIdeal)
    ∧ preserves_GateDx_GateDxIdeal
    ∧ algebraic_GateDxIdeal_GateDxRefIdeal (hGateDxIdeal := hGateDxIdeal) (hGateDxRefIdeal := hGateDxRefIdeal)
    ∧ preserves_InAttDw_InAttDwIdeal
    ∧ algebraic_InAttDwIdeal_InAttDwRefIdeal (hInAttDwIdeal := hInAttDwIdeal) (hInAttDwRefIdeal := hInAttDwRefIdeal)
    ∧ preserves_InAttDx_InAttDxIdeal
    ∧ algebraic_InAttDxIdeal_InAttDxRefIdeal (hInAttDxIdeal := hInAttDxIdeal) (hInAttDxRefIdeal := hInAttDxRefIdeal)
    ∧ preserves_GateProj_GateProjIdeal
    ∧ algebraic_GateProjIdeal_GateProjRefIdeal (hGateProjIdeal := hGateProjIdeal) (hGateProjRefIdeal := hGateProjRefIdeal)
    ∧ preserves_InProjAtt_InProjAttIdeal
    ∧ algebraic_InProjAttIdeal_InProjAttRefIdeal (hInProjAttIdeal := hInProjAttIdeal) (hInProjAttRefIdeal := hInProjAttRefIdeal)
    ∧ preserves_OutDx_OutDxIdeal
    ∧ algebraic_OutDxIdeal_OutDxRefIdeal (hOutDxIdeal := hOutDxIdeal) (hOutDxRefIdeal := hOutDxRefIdeal)
    ∧ preserves_OutProj_OutProjIdeal
    ∧ algebraic_OutProjIdeal_OutProjRefIdeal (hOutProjIdeal := hOutProjIdeal) (hOutProjRefIdeal := hOutProjRefIdeal)
    ∧ preserves_OutDw_OutDwIdeal
    ∧ algebraic_OutDwIdeal_OutDwRefIdeal (hOutDwIdeal := hOutDwIdeal) (hOutDwRefIdeal := hOutDwRefIdeal)
    ∧ preserves_InProjRec_InProjRecIdeal
    ∧ algebraic_InProjRecIdeal_InProjRecRefIdeal (hInProjRecIdeal := hInProjRecIdeal) (hInProjRecRefIdeal := hInProjRecRefIdeal)
    ∧ preserves_InRecDw_InRecDwIdeal
    ∧ algebraic_InRecDwIdeal_InRecDwRefIdeal (hInRecDwIdeal := hInRecDwIdeal) (hInRecDwRefIdeal := hInRecDwRefIdeal)
    ∧ preserves_InRecDx_InRecDxIdeal
    ∧ algebraic_InRecDxIdeal_InRecDxRefIdeal (hInRecDxIdeal := hInRecDxIdeal) (hInRecDxRefIdeal := hInRecDxRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_LnFwd_LnFwdIdeal
    ∧ algebraic_LnFwdIdeal_LnFwdRefIdeal (hLnFwdIdeal := hLnFwdIdeal) (hLnFwdRefIdeal := hLnFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_RowDot_RowDotIdeal
    ∧ algebraic_RowDotIdeal_RowDotRefIdeal (hRowDotIdeal := hRowDotIdeal) (hRowDotRefIdeal := hRowDotRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_Ff2Dx_Ff2DxIdeal
    ∧ algebraic_Ff2DxIdeal_Ff2DxRefIdeal (hFf2DxIdeal := hFf2DxIdeal) (hFf2DxRefIdeal := hFf2DxRefIdeal)
    ∧ preserves_Ff1Dx_Ff1DxIdeal
    ∧ algebraic_Ff1DxIdeal_Ff1DxRefIdeal (hFf1DxIdeal := hFf1DxIdeal) (hFf1DxRefIdeal := hFf1DxRefIdeal)
    ∧ preserves_Ff1Next_Ff1NextIdeal
    ∧ algebraic_Ff1NextIdeal_Ff1NextRefIdeal (hFf1NextIdeal := hFf1NextIdeal) (hFf1NextRefIdeal := hFf1NextRefIdeal)
    ∧ preserves_Ff2Next_Ff2NextIdeal
    ∧ algebraic_Ff2NextIdeal_Ff2NextRefIdeal (hFf2NextIdeal := hFf2NextIdeal) (hFf2NextRefIdeal := hFf2NextRefIdeal)
    ∧ preserves_Ff2DxNext_Ff2DxNextIdeal
    ∧ algebraic_Ff2DxNextIdeal_Ff2DxNextRefIdeal (hFf2DxNextIdeal := hFf2DxNextIdeal) (hFf2DxNextRefIdeal := hFf2DxNextRefIdeal)
    ∧ preserves_Ff1DxNext_Ff1DxNextIdeal
    ∧ algebraic_Ff1DxNextIdeal_Ff1DxNextRefIdeal (hFf1DxNextIdeal := hFf1DxNextIdeal) (hFf1DxNextRefIdeal := hFf1DxNextRefIdeal)
-- ==== Pre_finite.lean ====
abbrev S8192x4608 : Shape := ⟨2, ![8192, 4608]⟩
abbrev S8192x4 : Shape := ⟨2, ![8192, 4]⟩
abbrev S8192x512 : Shape := ⟨2, ![8192, 512]⟩
abbrev S_ : Shape := ⟨0, ![]⟩

class Facts : Prop where
  bcast_S_S8192x4608 : S_.BroadcastsInDim S8192x4608 (![] : Fin 0 → Fin S8192x4608.rank)
  bcast_S_S8192x4 : S_.BroadcastsInDim S8192x4 (![] : Fin 0 → Fin S8192x4.rank)
  bcast_S_S8192x512 : S_.BroadcastsInDim S8192x512 (![] : Fin 0 → Fin S8192x512.rank)

variable [Facts]

def fn {F : FTy → Type} [FloatOps F] (main_arg0 : FVec F S8192x4608 .bf16) (main_arg1 : FVec F S8192x4 .f32) (main_arg2 : FVec F S8192x512 .bf16) : IVec S8192x4608 1 × IVec S8192x4 1 × IVec S8192x512 1 :=
  let main_v0 : FVec F S8192x4608 .bf16 := Host.absf main_arg0
  let main_cst : FVec F S_ .bf16 := constant S_ .bf16 0x7F80#16
  let main_v1 : FVec F S8192x4608 .bf16 := broadcastInDim S8192x4608 ![] bcast_S_S8192x4608 main_cst
  let main_v2 : IVec S8192x4608 1 := cmpf .olt main_v0 main_v1
  let main_v3 : FVec F S8192x4 .f32 := Host.absf main_arg1
  let main_cst_0 : FVec F S_ .f32 := constant S_ .f32 0x7F800000#32
  let main_v4 : FVec F S8192x4 .f32 := broadcastInDim S8192x4 ![] bcast_S_S8192x4 main_cst_0
  let main_v5 : IVec S8192x4 1 := cmpf .olt main_v3 main_v4
  let main_v6 : FVec F S8192x512 .bf16 := Host.absf main_arg2
  let main_cst_1 : FVec F S_ .bf16 := constant S_ .bf16 0x7F80#16
  let main_v7 : FVec F S8192x512 .bf16 := broadcastInDim S8192x512 ![] bcast_S_S8192x512 main_cst_1
  let main_v8 : IVec S8192x512 1 := cmpf .olt main_v6 main_v7
  (main_v2, main_v5, main_v8)
-- ==== Pre_finite_rows.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S8192x2048 .f32) (main_arg2 : FVec F S2048 .f32) : IVec S8192x2048 1 × IVec S8192x2048 1 × IVec S2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Kernel.lean ====
abbrev S8192x4608 : Shape := ⟨2, ![8192, 4608]⟩
abbrev S8192x4 : Shape := ⟨2, ![8192, 4]⟩
abbrev S8192x512 : Shape := ⟨2, ![8192, 512]⟩
abbrev S8192x4x128 : Shape := ⟨3, ![8192, 4, 128]⟩
abbrev S8192 : Shape := ⟨1, ![8192]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩
abbrev S4x8x1x1024 : Shape := ⟨4, ![4, 8, 1, 1024]⟩
abbrev S8192x128 : Shape := ⟨2, ![8192, 128]⟩
abbrev S256x128 : Shape := ⟨2, ![256, 128]⟩
abbrev S1x256x1 : Shape := ⟨3, ![1, 256, 1]⟩
abbrev S1x8x1x1024 : Shape := ⟨4, ![1, 8, 1, 1024]⟩
abbrev S8x1x1024 : Shape := ⟨3, ![8, 1, 1024]⟩
abbrev S256 : Shape := ⟨1, ![256]⟩
abbrev S256x1 : Shape := ⟨2, ![256, 1]⟩
abbrev S1024x128 : Shape := ⟨2, ![1024, 128]⟩
abbrev S256x1024 : Shape := ⟨2, ![256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1024 : Shape := ⟨1, ![1024]⟩

abbrev nBuf : Space → Nat
  | .hbm => 67
  | .vmem => 29
  | .smem => 0
  | _ => 0

abbrev bufTy : (tb : Table) → Fin (tcTables nBuf tb) → BufTy
  | .hbm, ⟨0, _⟩ => ⟨S8192x4608, .bf16⟩
  | .hbm, ⟨1, _⟩ => ⟨S8192x4, .f32⟩
  | .hbm, ⟨2, _⟩ => ⟨S8192x512, .bf16⟩
  | .hbm, ⟨3, _⟩ => ⟨S8192x512, .bf16⟩
  | .hbm, ⟨4, _⟩ => ⟨S8192x4x128, .bf16⟩
  | .hbm, ⟨5, _⟩ => ⟨S8192x4x128, .f32⟩
  | .hbm, ⟨6, _⟩ => ⟨S8192x512, .bf16⟩
  | .hbm, ⟨7, _⟩ => ⟨S8192x4x128, .bf16⟩
  | .hbm, ⟨8, _⟩ => ⟨S8192x4x128, .f32⟩
  | .hbm, ⟨9, _⟩ => ⟨S8192x512, .bf16⟩
  | .hbm, ⟨10, _⟩ => ⟨S8192x4x128, .bf16⟩
  | .hbm, ⟨11, _⟩ => ⟨S8192x4x128, .f32⟩
  | .hbm, ⟨12, _⟩ => ⟨S8192, .i32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192, .f32⟩
  | .hbm, ⟨18, _⟩ => ⟨S4x8192x1, .f32⟩
  | .hbm, ⟨19, _⟩ => ⟨S4x8192x8192, .f32⟩
  | .hbm, ⟨20, _⟩ => ⟨S4x8192x8192, .f32⟩
  | .hbm, ⟨21, _⟩ => ⟨S4x8192, .f32⟩
  | .hbm, ⟨22, _⟩ => ⟨S4x1x8192, .f32⟩
  | .hbm, ⟨23, _⟩ => ⟨S4x8192x8192, .f32⟩
  | .hbm, ⟨24, _⟩ => ⟨S4x8192x8192, .f32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S4x8192x8192, .i1⟩
  | .hbm, ⟨33, _⟩ => ⟨S4x8192x8192, .f32⟩
  | .hbm, ⟨34, _⟩ => ⟨S4x8192x8192, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S4x8192x8192, .f32⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x8192, .f32⟩
  | .hbm, ⟨45, _⟩ => ⟨S4x8192x8192, .f32⟩
  | .hbm, ⟨46, _⟩ => ⟨S4x128x8192, .f32⟩
  | .hbm, ⟨47, _⟩ => ⟨S8192x4x128, .f32⟩
  | .hbm, ⟨48, _⟩ => ⟨S8192x4x128, .bf16⟩
  | .hbm, ⟨49, _⟩ => ⟨S8192x4x128, .f32⟩
  | .hbm, ⟨50, _⟩ => ⟨S8192x4x128, .f32⟩
  | .hbm, ⟨51, _⟩ => ⟨S_, .f32⟩
  | .hbm, ⟨52, _⟩ => ⟨S8192x4, .f32⟩
  | .hbm, ⟨53, _⟩ => ⟨S4x8192x1, .f32⟩
  | .hbm, ⟨54, _⟩ => ⟨S4x8192x1, .f32⟩
  | .hbm, ⟨55, _⟩ => ⟨S4x8192, .f32⟩
  | .hbm, ⟨56, _⟩ => ⟨S4x8192x1, .f32⟩
  | .hbm, ⟨57, _⟩ => ⟨S4x8192, .f32⟩
  | .hbm, ⟨58, _⟩ => ⟨S4x8x1x1024, .f32⟩
  | .hbm, ⟨59, _⟩ => ⟨S_, .i32⟩
  | .hbm, ⟨60, _⟩ => ⟨S_, .f32⟩
  | .hbm, ⟨61, _⟩ => ⟨S8192x128, .f32⟩
  | .hbm, ⟨62, _⟩ => ⟨S8192x512, .bf16⟩
  | .hbm, ⟨63, _⟩ => ⟨S8192x512, .bf16⟩
  | .hbm, ⟨64, _⟩ => ⟨S8192x512, .bf16⟩
  | .hbm, ⟨65, _⟩ => ⟨S4x8x1x1024, .f32⟩
  | .hbm, ⟨66, _⟩ => ⟨S4x8192x1, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | .local _ .vmem, ⟨12, _⟩ => ⟨S256x128, .f32⟩
  | .local _ .vmem, ⟨13, _⟩ => ⟨S256x128, .f32⟩
  | .local _ .vmem, ⟨14, _⟩ => ⟨S1x8x1x1024, .f32⟩
  | .local _ .vmem, ⟨15, _⟩ => ⟨S1x8x1x1024, .f32⟩
  | .local _ .vmem, ⟨16, _⟩ => ⟨S256x128, .bf16⟩
  | .local _ .vmem, ⟨17, _⟩ => ⟨S256x128, .bf16⟩
  | .local _ .vmem, ⟨18, _⟩ => ⟨S8192x128, .bf16⟩
  | .local _ .vmem, ⟨19, _⟩ => ⟨S8192x128, .bf16⟩
  | .local _ .vmem, ⟨20, _⟩ => ⟨S8192x128, .bf16⟩
  | .local _ .vmem, ⟨21, _⟩ => ⟨S8192x128, .bf16⟩
  | .local _ .vmem, ⟨22, _⟩ => ⟨S1x8x1x1024, .f32⟩
  | .local _ .vmem, ⟨23, _⟩ => ⟨S1x8x1x1024, .f32⟩
  | .local _ .vmem, ⟨24, _⟩ => ⟨S1x256x1, .f32⟩
  | .local _ .vmem, ⟨25, _⟩ => ⟨S1x256x1, .f32⟩
  | .local _ .vmem, ⟨26, _⟩ => ⟨S8192x128, .f32⟩
  | .local _ .vmem, ⟨27, _⟩ => ⟨S8192x128, .f32⟩
  | .local _ .vmem, ⟨28, _⟩ => ⟨S8x1x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.hbm, 59, rfl⟩
abbrev main_call1_v0 : Ref sig .tc := ⟨.hbm, 60, rfl⟩
abbrev main_v48 : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev main_v49_3 : Ref sig .tc := ⟨.hbm, 65, rfl⟩
abbrev main_v49_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_20 : BitVec 32 := 0#32
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let v38 : BitVec 32 := Scalar.subi v35 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_22 : BitVec 32 := 1#32
  ⟨c0_i32_20, v42, c1_i32_22⟩
def k0_mult1 (i : grid0.Coords) (k0_t1 : Fin (k0_t1_loop i).trips) : BitVec 32 :=
  let c0_i32_20 : BitVec 32 := 0#32
  let c1_i32_22 : BitVec 32 := 1#32
  let arg18 : BitVec 32 := Scf.iv c0_i32_20 c1_i32_22 k0_t1
  let c1024_i32_57 : BitVec 32 := 1024#32
  let v124 : BitVec 32 := Scalar.muli arg18 c1024_i32_57
  v124
def k0_off1 (i : grid0.Coords) (k0_t1 : Fin (k0_t1_loop i).trips) : Fin 2 → Nat :=
  let c0_i32_20 : BitVec 32 := 0#32
  let c1_i32_22 : BitVec 32 := 1#32
  let arg18 : BitVec 32 := Scf.iv c0_i32_20 c1_i32_22 k0_t1
  let c1024_i32_57 : BitVec 32 := 1024#32
  let v124 : BitVec 32 := Scalar.muli arg18 c1024_i32_57
  let v125 : BitVec 32 := v124
  let v126 : Index := Scalar.indexCast v125
  let c0_58 : Index := 0#32
  ![v126.toNat, 0]
def k0_off2 (i : grid0.Coords) (k0_t1 : Fin (k0_t1_loop i).trips) : Fin 4 → Nat :=
  let c0_62 : Index := 0#32
  let c0_i32_20 : BitVec 32 := 0#32
  let c1_i32_22 : BitVec 32 := 1#32
  let arg18 : BitVec 32 := Scf.iv c0_i32_20 c1_i32_22 k0_t1
  let v133 : Index := Scalar.indexCast arg18
  let c0_63 : Index := 0#32
  let c0_64 : Index := 0#32
  ![0, v133.toNat, 0, 0]
def k0_off3 (i : grid0.Coords) (k0_t1 : Fin (k0_t1_loop i).trips) : Fin 3 → Nat :=
  let c0_i32_20 : BitVec 32 := 0#32
  let c1_i32_22 : BitVec 32 := 1#32
  let arg18 : BitVec 32 := Scf.iv c0_i32_20 c1_i32_22 k0_t1
  let v167 : Index := Scalar.indexCast arg18
  let c0_73 : Index := 0#32
  let c0_74 : Index := 0#32
  ![v167.toNat, 0, 0]
@[reducible] def k0_t2_loop (i : grid0.Coords) : Scf.Loop 32 :=
  let c0_i32_20 : BitVec 32 := 0#32
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let v38 : BitVec 32 := Scalar.subi v35 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let v39 : BitVec 32 := Scalar.addi c0_i32_20 v38
  let c1_i32_23 : BitVec 32 := 1#32
  ⟨v42, v39, c1_i32_23⟩
def k0_mult2 (i : grid0.Coords) (k0_t2 : Fin (k0_t2_loop i).trips) : BitVec 32 :=
  let c0_i32_20 : BitVec 32 := 0#32
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let v38 : BitVec 32 := Scalar.subi v35 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_23 : BitVec 32 := 1#32
  let arg18 : BitVec 32 := Scf.iv v42 c1_i32_23 k0_t2
  let c1024_i32_57 : BitVec 32 := 1024#32
  let v124 : BitVec 32 := Scalar.muli arg18 c1024_i32_57
  v124
def k0_off4 (i : grid0.Coords) (k0_t2 : Fin (k0_t2_loop i).trips) : Fin 2 → Nat :=
  let c0_i32_20 : BitVec 32 := 0#32
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let v38 : BitVec 32 := Scalar.subi v35 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_23 : BitVec 32 := 1#32
  let arg18 : BitVec 32 := Scf.iv v42 c1_i32_23 k0_t2
  let c1024_i32_57 : BitVec 32 := 1024#32
  let v124 : BitVec 32 := Scalar.muli arg18 c1024_i32_57
  let v125 : BitVec 32 := v124
  let v126 : Index := Scalar.indexCast v125
  let c0_58 : Index := 0#32
  ![v126.toNat, 0]
def k0_off5 (i : grid0.Coords) (k0_t2 : Fin (k0_t2_loop i).trips) : Fin 4 → Nat :=
  let c0_62 : Index := 0#32
  let c0_i32_20 : BitVec 32 := 0#32
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let v38 : BitVec 32 := Scalar.subi v35 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_23 : BitVec 32 := 1#32
  let arg18 : BitVec 32 := Scf.iv v42 c1_i32_23 k0_t2
  let v133 : Index := Scalar.indexCast arg18
  let c0_63 : Index := 0#32
  let c0_64 : Index := 0#32
  ![0, v133.toNat, 0, 0]
def k0_off6 (i : grid0.Coords) (k0_t2 : Fin (k0_t2_loop i).trips) : Fin 3 → Nat :=
  let c0_i32_20 : BitVec 32 := 0#32
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let v38 : BitVec 32 := Scalar.subi v35 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_23 : BitVec 32 := 1#32
  let arg18 : BitVec 32 := Scf.iv v42 c1_i32_23 k0_t2
  let v167 : Index := Scalar.indexCast arg18
  let c0_73 : Index := 0#32
  let c0_74 : Index := 0#32
  ![v167.toNat, 0, 0]
def k0_mult3 (i : grid0.Coords) : BitVec 32 :=
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let c1024_i32_24 : BitVec 32 := 1024#32
  let v45 : BitVec 32 := Scalar.muli v35 c1024_i32_24
  v45
def k0_off7 (i : grid0.Coords) : Fin 2 → Nat :=
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let c1024_i32_24 : BitVec 32 := 1024#32
  let v45 : BitVec 32 := Scalar.muli v35 c1024_i32_24
  let v46 : BitVec 32 := v45
  let v47 : Index := Scalar.indexCast v46
  let c0_25 : Index := 0#32
  ![v47.toNat, 0]
def k0_off8 (i : grid0.Coords) : Fin 4 → Nat :=
  let c0_29 : Index := 0#32
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let v54 : Index := Scalar.indexCast v35
  let c0_30 : Index := 0#32
  let c0_31 : Index := 0#32
  ![0, v54.toNat, 0, 0]
def k0_off9 (i : grid0.Coords) : Fin 3 → Nat :=
  let arg1 : BitVec 32 := BitVec.ofNat 32 (i 1).val
  let c256_i32 : BitVec 32 := 256#32
  let v18 : BitVec 32 := Scalar.muli arg1 c256_i32
  let c0_i32_13 : BitVec 32 := 0#32
  let v20 : BitVec 1 := Scalar.cmpi .sgt v18 c0_i32_13
  let v21 : BitVec 32 := Scalar.extui v20
  let c0_i32_14 : BitVec 32 := 0#32
  let v22 : BitVec 1 := Scalar.cmpi .slt v18 c0_i32_14
  let v23 : BitVec 32 := Scalar.extui v22
  let v24 : BitVec 32 := Scalar.subi v21 v23
  let c1024_i32 : BitVec 32 := 1024#32
  let c0_i32_15 : BitVec 32 := 0#32
  let v25 : BitVec 1 := Scalar.cmpi .sgt c1024_i32 c0_i32_15
  let v26 : BitVec 32 := Scalar.extui v25
  let c0_i32_16 : BitVec 32 := 0#32
  let v27 : BitVec 1 := Scalar.cmpi .slt c1024_i32 c0_i32_16
  let v28 : BitVec 32 := Scalar.extui v27
  let v29 : BitVec 32 := Scalar.subi v26 v28
  let v30 : BitVec 1 := Scalar.cmpi .ne v24 v29
  let v31 : BitVec 32 := Scalar.remsi v18 c1024_i32
  let c0_i32_17 : BitVec 32 := 0#32
  let v32 : BitVec 1 := Scalar.cmpi .ne v31 c0_i32_17
  let v33 : BitVec 1 := Scalar.andi v30 v32
  let v19 : BitVec 32 := Scalar.divsi v18 c1024_i32
  let c1_i32 : BitVec 32 := 1#32
  let v34 : BitVec 32 := Scalar.subi v19 c1_i32
  let v35 : BitVec 32 := Scalar.select v33 v34 v19
  let v99 : Index := Scalar.indexCast v35
  let c0_43 : Index := 0#32
  let c0_44 : Index := 0#32
  ![v99.toNat, 0, 0]
def k0_cond2 (i : grid0.Coords) : BitVec 1 :=
  let arg1 : BitVec 32 := BitVec.ofNat 32 (i 1).val
  let c31_i32 : BitVec 32 := 31#32
  let v121 : BitVec 1 := Scalar.cmpi .eq arg1 c31_i32
  let v122 : BitVec 32 := Scalar.extui v121
  let c0_i32_56 : BitVec 32 := 0#32
  let v123 : BitVec 1 := Scalar.cmpi .ne v122 c0_i32_56
  v123

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8192x4608 : Shape := ⟨2, ![8192, 4608]⟩
abbrev S8192x4 : Shape := ⟨2, ![8192, 4]⟩
abbrev S8192x512 : Shape := ⟨2, ![8192, 512]⟩
abbrev S8192x4x128 : Shape := ⟨3, ![8192, 4, 128]⟩
abbrev S8192 : Shape := ⟨1, ![8192]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩
abbrev S4x8192x128 : Shape := ⟨3, ![4, 8192, 128]⟩
abbrev S4x8x1x1024 : Shape := ⟨4, ![4, 8, 1, 1024]⟩

abbrev nBuf : Space → Nat
  | .hbm => 131
  | .vmem => 0
  | .smem => 0
  | _ => 0

abbrev hbmTy0_0 (i : Nat) : BufTy := match i % 128 with
  | 0 => ⟨S8192x4608, .bf16⟩
  | 1 => ⟨S8192x4, .f32⟩
  | 2 => ⟨S8192x512, .bf16⟩
  | 3 => ⟨S8192x512, .bf16⟩
  | 4 => ⟨S8192x4x128, .bf16⟩
  | 5 => ⟨S8192x4x128, .f32⟩
  | 6 => ⟨S8192x512, .bf16⟩
  | 7 => ⟨S8192x4x128, .bf16⟩
  | 8 => ⟨S8192x4x128, .f32⟩
  | 9 => ⟨S8192x512, .bf16⟩
  | 10 => ⟨S8192x4x128, .bf16⟩
  | 11 => ⟨S8192x4x128, .f32⟩
  | 12 => ⟨S8192, .i32⟩
  | 13 => ⟨S4x8192x8192, .f32⟩
  | 14 => ⟨S_, .f32⟩
  | 15 => ⟨S4x8192x8192, .f32⟩
  | 16 => ⟨S4x8192x8192, .f32⟩
  | 17 => ⟨S4x8192, .f32⟩
  | 18 => ⟨S4x8192x1, .f32⟩
  | 19 => ⟨S4x8192x8192, .f32⟩
  | 20 => ⟨S4x8192x8192, .f32⟩
  | 21 => ⟨S4x8192, .f32⟩
  | 22 => ⟨S4x1x8192, .f32⟩
  | 23 => ⟨S4x8192x8192, .f32⟩
  | 24 => ⟨S4x8192x8192, .f32⟩
  | 25 => ⟨S1x8192, .i32⟩
  | 26 => ⟨S8192x1, .i32⟩
  | 27 => ⟨S8192x8192, .i32⟩
  | 28 => ⟨S8192x8192, .i32⟩
  | 29 => ⟨S8192x8192, .i1⟩
  | 30 => ⟨S_, .f32⟩
  | 31 => ⟨S_, .f32⟩
  | 32 => ⟨S4x8192x8192, .i1⟩
  | 33 => ⟨S4x8192x8192, .f32⟩
  | 34 => ⟨S4x8192x8192, .f32⟩
  | 35 => ⟨S_, .f32⟩
  | 36 => ⟨S4x8192x8192, .f32⟩
  | 37 => ⟨S_, .f32⟩
  | 38 => ⟨S4x8192, .f32⟩
  | 39 => ⟨S4x8192x1, .f32⟩
  | 40 => ⟨S4x8192x8192, .f32⟩
  | 41 => ⟨S4x8192x8192, .i1⟩
  | 42 => ⟨S4x8192x8192, .f32⟩
  | 43 => ⟨S_, .f32⟩
  | 44 => ⟨S4x8192, .f32⟩
  | 45 => ⟨S_, .f32⟩
  | 46 => ⟨S4x8192, .f32⟩
  | 47 => ⟨S4x8192, .f32⟩
  | 48 => ⟨S_, .f32⟩
  | 49 => ⟨S4x8192, .f32⟩
  | 50 => ⟨S4x8192, .i1⟩
  | 51 => ⟨S_, .f32⟩
  | 52 => ⟨S4x8192, .f32⟩
  | 53 => ⟨S4x8192, .i1⟩
  | 54 => ⟨S_, .f32⟩
  | 55 => ⟨S4x8192, .f32⟩
  | 56 => ⟨S_, .f32⟩
  | 57 => ⟨S4x8192, .f32⟩
  | 58 => ⟨S_, .f32⟩
  | 59 => ⟨S4x8192, .f32⟩
  | 60 => ⟨S4x8192, .f32⟩
  | 61 => ⟨S4x8192, .f32⟩
  | 62 => ⟨S4x8192x1, .f32⟩
  | 63 => ⟨S4x8192x8192, .f32⟩
  | 64 => ⟨S4x8192x8192, .f32⟩
  | 65 => ⟨S4x8192x8192, .f32⟩
  | 66 => ⟨S_, .f32⟩
  | 67 => ⟨S4x8192, .f32⟩
  | 68 => ⟨S4x8192x1, .f32⟩
  | 69 => ⟨S4x8192x8192, .f32⟩
  | 70 => ⟨S4x8192x8192, .f32⟩
  | 71 => ⟨S4x8192x1, .f32⟩
  | 72 => ⟨S_, .f32⟩
  | 73 => ⟨S4x8192x1, .f32⟩
  | 74 => ⟨S4x8192x1, .f32⟩
  | 75 => ⟨S4x128x8192, .f32⟩
  | 76 => ⟨S8192x4x128, .f32⟩
  | 77 => ⟨S8192x512, .f32⟩
  | 78 => ⟨S8192x512, .f32⟩
  | 79 => ⟨S8192x4x128, .f32⟩
  | 80 => ⟨S4x128x8192, .f32⟩
  | 81 => ⟨S4x8192x8192, .f32⟩
  | 82 => ⟨S4x128x8192, .f32⟩
  | 83 => ⟨S8192x4x128, .f32⟩
  | 84 => ⟨S4x8192x8192, .f32⟩
  | 85 => ⟨S4x8192x8192, .f32⟩
  | 86 => ⟨S4x8192x8192, .f32⟩
  | 87 => ⟨S_, .f32⟩
  | 88 => ⟨S4x8192, .f32⟩
  | 89 => ⟨S4x8192x1, .f32⟩
  | 90 => ⟨S4x8192x1, .f32⟩
  | 91 => ⟨S4x8192x8192, .f32⟩
  | 92 => ⟨S4x8192x8192, .f32⟩
  | 93 => ⟨S_, .f32⟩
  | 94 => ⟨S4x8192, .f32⟩
  | 95 => ⟨S4x8192x8192, .f32⟩
  | 96 => ⟨S4x8192x8192, .f32⟩
  | 97 => ⟨S4x8192x8192, .f32⟩
  | 98 => ⟨S_, .f32⟩
  | 99 => ⟨S4x8192x8192, .f32⟩
  | 100 => ⟨S4x8192x8192, .f32⟩
  | 101 => ⟨S4x8192x8192, .f32⟩
  | 102 => ⟨S_, .f32⟩
  | 103 => ⟨S4x8192, .f32⟩
  | 104 => ⟨S4x1x8192, .f32⟩
  | 105 => ⟨S_, .f32⟩
  | 106 => ⟨S4x8192, .f32⟩
  | 107 => ⟨S8192x4, .f32⟩
  | 108 => ⟨S_, .f32⟩
  | 109 => ⟨S4x8192, .f32⟩
  | 110 => ⟨S4x8192x1, .f32⟩
  | 111 => ⟨S_, .f32⟩
  | 112 => ⟨S4x8192, .f32⟩
  | 113 => ⟨S8192x4, .f32⟩
  | 114 => ⟨S_, .f32⟩
  | 115 => ⟨S4x8192x8192, .f32⟩
  | 116 => ⟨S4x8192x8192, .f32⟩
  | 117 => ⟨S4x8192x128, .f32⟩
  | 118 => ⟨S8192x4x128, .f32⟩
  | 119 => ⟨S4x8192x128, .f32⟩
  | 120 => ⟨S8192x4x128, .f32⟩
  | 121 => ⟨S8192x512, .f32⟩
  | 122 => ⟨S8192x512, .bf16⟩
  | 123 => ⟨S8192x512, .f32⟩
  | 124 => ⟨S8192x512, .bf16⟩
  | 125 => ⟨S8192x512, .f32⟩
  | 126 => ⟨S8192x512, .bf16⟩
  | 127 => ⟨S4x8192, .f32⟩
  | _ => ⟨S8192x4608, .bf16⟩

abbrev hbmTy0_1 (i : Nat) : BufTy := match i % 128 with
  | 0 => ⟨S4x8x1x1024, .f32⟩
  | 1 => ⟨S4x8192, .f32⟩
  | 2 => ⟨S4x8192x1, .f32⟩
  | _ => ⟨S8192x4608, .bf16⟩

abbrev hbmTy (i : Nat) : BufTy := match i / 128 with
  | 0 => hbmTy0_0 i
  | 1 => hbmTy0_1 i
  | _ => ⟨S8192x4608, .bf16⟩

abbrev bufTy : (tb : Table) → Fin (tcTables nBuf tb) → BufTy
  | .hbm, ⟨i, _⟩ => hbmTy i
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== LnBwd.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x2048, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x2048, .f32⟩
  | .hbm, ⟨85, _⟩ => ⟨S8192x2048, .f32⟩
  | .hbm, ⟨86, _⟩ => ⟨S8192x2048, .bf16⟩
  | .hbm, ⟨87, _⟩ => ⟨S1x2048, .f32⟩
  | .hbm, ⟨88, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Ff2Dw.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwRefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x8192, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x8192, .f32⟩
  | .hbm, ⟨8, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1Dw.lean ====
abbrev S8192x2048 : Shape := ⟨2, ![8192, 2048]⟩
abbrev S8192x8192 : Shape := ⟨2, ![8192, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwRefIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x2048, .f32⟩
  | .hbm, ⟨3, _⟩ => ⟨S_, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateDw.lean ====
abbrev S8192x2048 : Shape := ⟨2, ![8192, 2048]⟩
abbrev S8192x8192 : Shape := ⟨2, ![8192, 8192]⟩
abbrev S4x4x512x2048 : Shape := ⟨4, ![4, 4, 512, 2048]⟩
abbrev S2048x1024 : Shape := ⟨2, ![2048, 1024]⟩
abbrev S2x1x512x1024 : Shape := ⟨4, ![2, 1, 512, 1024]⟩
abbrev S1024x1024 : Shape := ⟨2, ![1024, 1024]⟩
abbrev S2x512x1024 : Shape := ⟨3, ![2, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x4x512x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1x512x1024, .f32⟩
  | .local _ .vmem, ⟨5, _⟩ => ⟨S2x1x512x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S8192x2048 : Shape := ⟨2, ![8192, 2048]⟩
abbrev S8192x8192 : Shape := ⟨2, ![8192, 8192]⟩
abbrev S8192x4x2048 : Shape := ⟨3, ![8192, 4, 2048]⟩
abbrev S_ : Shape := ⟨0, ![]⟩
abbrev S4x2048x2048 : Shape := ⟨3, ![4, 2048, 2048]⟩
abbrev S4x4x512x2048 : Shape := ⟨4, ![4, 4, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x2048, .f32⟩
  | .hbm, ⟨3, _⟩ => ⟨S8192x8192, .f32⟩
  | .hbm, ⟨4, _⟩ => ⟨S8192x4x2048, .f32⟩
  | .hbm, ⟨5, _⟩ => ⟨S_, .f32⟩
  | .hbm, ⟨6, _⟩ => ⟨S4x2048x2048, .f32⟩
  | .hbm, ⟨7, _⟩ => ⟨S8192x4x2048, .f32⟩
  | .hbm, ⟨8, _⟩ => ⟨S4x2048x2048, .f32⟩
  | .hbm, ⟨9, _⟩ => ⟨S4x2048x2048, .f32⟩
  | .hbm, ⟨10, _⟩ => ⟨S4x4x512x2048, .f32⟩
  | .hbm, ⟨11, _⟩ => ⟨S4x4x512x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateDx.lean ====
abbrev S8192x8192 : Shape := ⟨2, ![8192, 8192]⟩
abbrev S2048x8192 : Shape := ⟨2, ![2048, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDxRefIdeal.lean ====
abbrev S8192x8192 : Shape := ⟨2, ![8192, 8192]⟩
abbrev S2048x8192 : Shape := ⟨2, ![2048, 8192]⟩
abbrev S8192x2048 : Shape := ⟨2, ![8192, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S_, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== InAttDw.lean ====
abbrev S8192x2048 : Shape := ⟨2, ![8192, 2048]⟩
abbrev S8192x4608 : Shape := ⟨2, ![8192, 4608]⟩
abbrev S2048x4608 : Shape := ⟨2, ![2048, 4608]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S2048x4608, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAttDwRefIdeal.lean ====
abbrev S8192x2048 : Shape := ⟨2, ![8192, 2048]⟩
abbrev S8192x4608 : Shape := ⟨2, ![8192, 4608]⟩
abbrev S_ : Shape := ⟨0, ![]⟩
abbrev S2048x4608 : Shape := ⟨2, ![2048, 4608]⟩
abbrev S4608x2048 : Shape := ⟨2, ![4608, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S8192x2048, .f32⟩
  | .hbm, ⟨3, _⟩ => ⟨S_, .f32⟩
  | .hbm, ⟨4, _⟩ => ⟨S2048x4608, .f32⟩
  | .hbm, ⟨5, _⟩ => ⟨S8192x4608, .f32⟩
  | .hbm, ⟨6, _⟩ => ⟨S8192x4608, .f32⟩
  | .hbm, ⟨7, _⟩ => ⟨S4608x2048, .f32⟩
  | .hbm, ⟨8, _⟩ => ⟨S2048x4608, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InAttDx.lean ====
abbrev S8192x4608 : Shape := ⟨2, ![8192, 4608]⟩
abbrev S2048x4608 : Shape := ⟨2, ![2048, 4608]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4608, .bf16⟩
  | .hbm, ⟨1, _⟩ => ⟨S2048x4608, .bf16⟩
  | .hbm, ⟨2, _⟩ => ⟨S8192x2048, .f32⟩
  | .hbm, ⟨3, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InAttDxRefIdeal.lean ====
abbrev S8192x4608 : Shape := ⟨2, ![8192, 4608]⟩
abbrev S2048x4608 : Shape := ⟨2, ![2048, 4608]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S2048x4608, .bf16⟩
  | .hbm, ⟨2, _⟩ => ⟨S8192x2048, .f32⟩
  | .hbm, ⟨3, _⟩ => ⟨S2048x4608, .f32⟩
  | .hbm, ⟨4, _⟩ => ⟨S_, .f32⟩
  | .hbm, ⟨5, _⟩ => ⟨S8192x2048, .f32⟩
  | .hbm, ⟨6, _⟩ => ⟨S8192x4608, .f32⟩
  | .hbm, ⟨7, _⟩ => ⟨S8192x4608, .f32⟩
  | .hbm, ⟨8, _⟩ => ⟨S8192x2048, .f32⟩
  | .hbm, ⟨9, _⟩ => ⟨S8192x2048, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateProj.lean ====
abbrev S8192x2048 : Shape := ⟨2, ![8192, 2048]⟩
abbrev S2048x8192 : Shape := ⟨2, ![2048, 8192]⟩
abbrev S1x8192 : Shape := ⟨2, ![1, 8192]⟩
abbrev S8192x8192 : Shape := ⟨2, ![8192, 8192]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S1x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateProjRefIdeal.lean ====
abbrev S8192x2048 : Shape := ⟨2, ![8192, 2048]⟩
abbrev S2048x8192 : Shape := ⟨2, ![2048, 8192]⟩
abbrev S1x8192 : Shape := ⟨2, ![1, 8192]⟩
abbrev S8192x8192 : Shape := ⟨2, ![8192, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S1x8192, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InProjAtt.lean ====
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .bf16⟩
  | .hbm, ⟨2, _⟩ => ⟨S8192x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjAttRefIdeal.lean ====
abbrev S8192x2048 : Shape := ⟨2, ![8192, 2048]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .bf16⟩
  | .hbm, ⟨2, _⟩ => ⟨S8192x2048, .f32⟩
  | .hbm, ⟨3, _⟩ => ⟨S2048x4608, .f32⟩
  | .hbm, ⟨4, _⟩ => ⟨S8192x4608, .f32⟩
  | .hbm, ⟨5, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDx.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProjRec.lean ====
abbrev S8192x2048 : Shape := ⟨2, ![8192, 2048]⟩
abbrev S2048x1152 : Shape := ⟨2, ![2048, 1152]⟩
abbrev S8192x1152 : Shape := ⟨2, ![8192, 1152]⟩
abbrev S1024x2048 : Shape := ⟨2, ![1024, 2048]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1152, .bf16⟩
  | .hbm, ⟨2, _⟩ => ⟨S8192x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | .local _ .vmem, ⟨5, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRecRefIdeal.lean ====
abbrev S8192x2048 : Shape := ⟨2, ![8192, 2048]⟩
abbrev S2048x1152 : Shape := ⟨2, ![2048, 1152]⟩
abbrev S8192x1152 : Shape := ⟨2, ![8192, 1152]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1152, .bf16⟩
  | .hbm, ⟨2, _⟩ => ⟨S8192x2048, .f32⟩
  | .hbm, ⟨3, _⟩ => ⟨S2048x1152, .f32⟩
  | .hbm, ⟨4, _⟩ => ⟨S8192x1152, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRecDw.lean ====
abbrev S8192x2048 : Shape := ⟨2, ![8192, 2048]⟩
abbrev S8192x1152 : Shape := ⟨2, ![8192, 1152]⟩
abbrev S2048x1152 : Shape := ⟨2, ![2048, 1152]⟩
abbrev S2048x1024 : Shape := ⟨2, ![2048, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1152, .bf16⟩
  | .hbm, ⟨2, _⟩ => ⟨S2048x1152, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRecDwRefIdeal.lean ====
abbrev S8192x2048 : Shape := ⟨2, ![8192, 2048]⟩
abbrev S8192x1152 : Shape := ⟨2, ![8192, 1152]⟩
abbrev S_ : Shape := ⟨0, ![]⟩
abbrev S2048x1152 : Shape := ⟨2, ![2048, 1152]⟩
abbrev S1152x2048 : Shape := ⟨2, ![1152, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1152, .bf16⟩
  | .hbm, ⟨2, _⟩ => ⟨S8192x2048, .f32⟩
  | .hbm, ⟨3, _⟩ => ⟨S_, .f32⟩
  | .hbm, ⟨4, _⟩ => ⟨S2048x1152, .f32⟩
  | .hbm, ⟨5, _⟩ => ⟨S8192x1152, .f32⟩
  | .hbm, ⟨6, _⟩ => ⟨S8192x1152, .f32⟩
  | .hbm, ⟨7, _⟩ => ⟨S1152x2048, .f32⟩
  | .hbm, ⟨8, _⟩ => ⟨S2048x1152, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InRecDx.lean ====
abbrev S8192x1152 : Shape := ⟨2, ![8192, 1152]⟩
abbrev S2048x1152 : Shape := ⟨2, ![2048, 1152]⟩
abbrev S8192x2048 : Shape := ⟨2, ![8192, 2048]⟩
abbrev S1024x1152 : Shape := ⟨2, ![1024, 1152]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1152, .bf16⟩
  | .hbm, ⟨1, _⟩ => ⟨S2048x1152, .bf16⟩
  | .hbm, ⟨2, _⟩ => ⟨S8192x2048, .f32⟩
  | .hbm, ⟨3, _⟩ => ⟨S8192x2048, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InRecDxRefIdeal.lean ====
abbrev S8192x1152 : Shape := ⟨2, ![8192, 1152]⟩
abbrev S2048x1152 : Shape := ⟨2, ![2048, 1152]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1152, .bf16⟩
  | .hbm, ⟨1, _⟩ => ⟨S2048x1152, .bf16⟩
  | .hbm, ⟨2, _⟩ => ⟨S8192x2048, .f32⟩
  | .hbm, ⟨3, _⟩ => ⟨S2048x1152, .f32⟩
  | .hbm, ⟨4, _⟩ => ⟨S_, .f32⟩
  | .hbm, ⟨5, _⟩ => ⟨S8192x2048, .f32⟩
  | .hbm, ⟨6, _⟩ => ⟨S8192x1152, .f32⟩
  | .hbm, ⟨7, _⟩ => ⟨S8192x1152, .f32⟩
  | .hbm, ⟨8, _⟩ => ⟨S8192x2048, .f32⟩
  | .hbm, ⟨9, _⟩ => ⟨S8192x2048, .f32⟩
  | _, _ => ⟨S8192x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== BranchDx.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S512x2048, .f32⟩
  | .hbm, ⟨3, _⟩ => ⟨S_, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S8192x512, .f32⟩
  | .hbm, ⟨8, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDw.lean ====
abbrev S8192x512 : Shape := ⟨2, ![8192, 512]⟩
abbrev S8192x2048 : Shape := ⟨2, ![8192, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S4x512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwRefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩
abbrev S512x4x512 : Shape := ⟨3, ![512, 4, 512]⟩
abbrev S4x512x512 : Shape := ⟨3, ![4, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .f32⟩
  | .hbm, ⟨3, _⟩ => ⟨S_, .f32⟩
  | .hbm, ⟨4, _⟩ => ⟨S512x2048, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S512x4x512, .f32⟩
  | .hbm, ⟨10, _⟩ => ⟨S4x512x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LnFwd.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnFwdRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== LossHead.lean ====
abbrev S8192x2048 : Shape := ⟨2, ![8192, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== RowDot.lean ====
abbrev S8192x512 : Shape := ⟨2, ![8192, 512]⟩
abbrev S4x8192x1 : Shape := ⟨3, ![4, 8192, 1]⟩
abbrev S512x512 : Shape := ⟨2, ![512, 512]⟩
abbrev S4x512x1 : Shape := ⟨3, ![4, 512, 1]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S4x8192x1, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4x512x1, .f32⟩
  | .local _ .vmem, ⟨5, _⟩ => ⟨S4x512x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowDotRefIdeal.lean ====
abbrev S8192x512 : Shape := ⟨2, ![8192, 512]⟩
abbrev S8192x4x128 : Shape := ⟨3, ![8192, 4, 128]⟩
abbrev S_ : Shape := ⟨0, ![]⟩
abbrev S8192x4 : Shape := ⟨2, ![8192, 4]⟩
abbrev S4x8192 : Shape := ⟨2, ![4, 8192]⟩
abbrev S4x8192x1 : Shape := ⟨3, ![4, 8192, 1]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x4x128, .f32⟩
  | .hbm, ⟨6, _⟩ => ⟨S_, .f32⟩
  | .hbm, ⟨7, _⟩ => ⟨S8192x4, .f32⟩
  | .hbm, ⟨8, _⟩ => ⟨S4x8192, .f32⟩
  | .hbm, ⟨9, _⟩ => ⟨S4x8192x1, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MergeFwd.lean ====
abbrev S4x8192x512 : Shape := ⟨3, ![4, 8192, 512]⟩
abbrev S4x512x2048 : Shape := ⟨3, ![4, 512, 2048]⟩
abbrev S8192x8192 : Shape := ⟨2, ![8192, 8192]⟩
abbrev S8192x2048 : Shape := ⟨2, ![8192, 2048]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4x8192x512, .bf16⟩
  | .hbm, ⟨1, _⟩ => ⟨S4x512x2048, .bf16⟩
  | .hbm, ⟨2, _⟩ => ⟨S8192x8192, .bf16⟩
  | .hbm, ⟨3, _⟩ => ⟨S8192x2048, .bf16⟩
  | .hbm, ⟨4, _⟩ => ⟨S8192x8192, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_12 : BitVec 32 := 0#32
  let v18 : BitVec 1 := Scalar.cmpi .ne v17 c0_i32_12
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MergeFwdRefIdeal.lean ====
abbrev S4x8192x512 : Shape := ⟨3, ![4, 8192, 512]⟩
abbrev S4x512x2048 : Shape := ⟨3, ![4, 512, 2048]⟩
abbrev S8192x8192 : Shape := ⟨2, ![8192, 8192]⟩
abbrev S4x2048x8192 : Shape := ⟨3, ![4, 2048, 8192]⟩
abbrev S8192x4x2048 : Shape := ⟨3, ![8192, 4, 2048]⟩
abbrev S_ : Shape := ⟨0, ![]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x512x2048, .bf16⟩
  | .hbm, ⟨2, _⟩ => ⟨S8192x8192, .bf16⟩
  | .hbm, ⟨3, _⟩ => ⟨S4x8192x512, .f32⟩
  | .hbm, ⟨4, _⟩ => ⟨S4x512x2048, .f32⟩
  | .hbm, ⟨5, _⟩ => ⟨S4x2048x8192, .f32⟩
  | .hbm, ⟨6, _⟩ => ⟨S8192x4x2048, .f32⟩
  | .hbm, ⟨7, _⟩ => ⟨S8192x8192, .f32⟩
  | .hbm, ⟨8, _⟩ => ⟨S8192x4x2048, .f32⟩
  | .hbm, ⟨9, _⟩ => ⟨S8192x4x2048, .f32⟩
  | .hbm, ⟨10, _⟩ => ⟨S_, .f32⟩
  | .hbm, ⟨11, _⟩ => ⟨S8192x2048, .f32⟩
  | .hbm, ⟨12, _⟩ => ⟨S8192x2048, .bf16⟩
  | .hbm, ⟨13, _⟩ => ⟨S8192x8192, .f32⟩
  | .hbm, ⟨14, _⟩ => ⟨S8192x8192, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== MergeBwd.lean ====
abbrev S8192x2048 : Shape := ⟨2, ![8192, 2048]⟩
abbrev S8192x8192 : Shape := ⟨2, ![8192, 8192]⟩
abbrev S_ : Shape := ⟨0, ![]⟩
abbrev S4x8192x2048 : Shape := ⟨3, ![4, 8192, 2048]⟩
abbrev S1x8192 : Shape := ⟨2, ![1, 8192]⟩
abbrev S256x2048 : Shape := ⟨2, ![256, 2048]⟩
abbrev S1x256x2048 : Shape := ⟨3, ![1, 256, 2048]⟩
abbrev S1x2048 : Shape := ⟨2, ![1, 2048]⟩
abbrev S2048 : Shape := ⟨1, ![2048]⟩

abbrev nBuf : Space → Nat
  | .hbm => 15
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x8192, .bf16⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .bf16⟩
  | .hbm, ⟨12, _⟩ => ⟨S4x8192x2048, .bf16⟩
  | .hbm, ⟨13, _⟩ => ⟨S8192x8192, .bf16⟩
  | .hbm, ⟨14, _⟩ => ⟨S1x8192, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_11 : BitVec 32 := 0#32
  let v22 : BitVec 1 := Scalar.cmpi .ne v21 c0_i32_11
  v22

def k0_cond2 (i : grid0.Coords) : BitVec 1 :=
  let arg1 : BitVec 32 := BitVec.ofNat 32 (i 1).val
  let c0_i32_12 : BitVec 32 := 0#32
  let v23 : BitVec 1 := Scalar.cmpi .sgt arg1 c0_i32_12
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MergeBwdRefIdeal.lean ====
abbrev S8192x2048 : Shape := ⟨2, ![8192, 2048]⟩
abbrev S8192x8192 : Shape := ⟨2, ![8192, 8192]⟩
abbrev S_ : Shape := ⟨0, ![]⟩
abbrev S4x2048 : Shape := ⟨2, ![4, 2048]⟩
abbrev S8192x4x2048 : Shape := ⟨3, ![8192, 4, 2048]⟩
abbrev S1x4x2048 : Shape := ⟨3, ![1, 4, 2048]⟩
abbrev S4x8192x2048 : Shape := ⟨3, ![4, 8192, 2048]⟩
abbrev S1x8192 : Shape := ⟨2, ![1, 8192]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x8192, .bf16⟩
  | .hbm, ⟨3, _⟩ => ⟨S_, .f32⟩
  | .hbm, ⟨4, _⟩ => ⟨S4x2048, .f32⟩
  | .hbm, ⟨5, _⟩ => ⟨S8192x4x2048, .f32⟩
  | .hbm, ⟨6, _⟩ => ⟨S8192x8192, .f32⟩
  | .hbm, ⟨7, _⟩ => ⟨S8192x4x2048, .f32⟩
  | .hbm, ⟨8, _⟩ => ⟨S1x4x2048, .f32⟩
  | .hbm, ⟨9, _⟩ => ⟨S8192x4x2048, .f32⟩
  | .hbm, ⟨10, _⟩ => ⟨S8192x4x2048, .f32⟩
  | .hbm, ⟨11, _⟩ => ⟨S8192x4x2048, .f32⟩
  | .hbm, ⟨12, _⟩ => ⟨S8192x4x2048, .f32⟩
  | .hbm, ⟨13, _⟩ => ⟨S_, .f32⟩
  | .hbm, ⟨14, _⟩ => ⟨S8192x4x2048, .f32⟩
  | .hbm, ⟨15, _⟩ => ⟨S8192x4x2048, .f32⟩
  | .hbm, ⟨16, _⟩ => ⟨S_, .f32⟩
  | .hbm, ⟨17, _⟩ => ⟨S8192x4x2048, .f32⟩
  | .hbm, ⟨18, _⟩ => ⟨S8192x4x2048, .f32⟩
  | .hbm, ⟨19, _⟩ => ⟨S_, .f32⟩
  | .hbm, ⟨20, _⟩ => ⟨S8192x4x2048, .f32⟩
  | .hbm, ⟨21, _⟩ => ⟨S8192x4x2048, .f32⟩
  | .hbm, ⟨22, _⟩ => ⟨S8192x4x2048, .f32⟩
  | .hbm, ⟨23, _⟩ => ⟨S8192x4x2048, .f32⟩
  | .hbm, ⟨24, _⟩ => ⟨S_, .f32⟩
  | .hbm, ⟨25, _⟩ => ⟨S8192x2048, .f32⟩
  | .hbm, ⟨26, _⟩ => ⟨S8192x4x2048, .f32⟩
  | .hbm, ⟨27, _⟩ => ⟨S8192x4x2048, .f32⟩
  | .hbm, ⟨28, _⟩ => ⟨S8192x4x2048, .f32⟩
  | .hbm, ⟨29, _⟩ => ⟨S8192x4x2048, .f32⟩
  | .hbm, ⟨30, _⟩ => ⟨S_, .f32⟩
  | .hbm, ⟨31, _⟩ => ⟨S4x2048, .f32⟩
  | .hbm, ⟨32, _⟩ => ⟨S1x4x2048, .f32⟩
  | .hbm, ⟨33, _⟩ => ⟨S_, .f32⟩
  | .hbm, ⟨34, _⟩ => ⟨S4x2048, .f32⟩
  | .hbm, ⟨35, _⟩ => ⟨S4x8192x2048, .f32⟩
  | .hbm, ⟨36, _⟩ => ⟨S4x8192x2048, .bf16⟩
  | .hbm, ⟨37, _⟩ => ⟨S8192x8192, .f32⟩
  | .hbm, ⟨38, _⟩ => ⟨S8192x8192, .bf16⟩
  | .hbm, ⟨39, _⟩ => ⟨S1x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Ff1.lean ====
abbrev S8192x2048 : Shape := ⟨2, ![8192, 2048]⟩
abbrev S4x2x2048x2048 : Shape := ⟨4, ![4, 2, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond3 (i : grid0.Coords) : BitVec 1 :=
  let arg2 : BitVec 32 := BitVec.ofNat 32 (i 2).val
  let c0_i32_8 : BitVec 32 := 0#32
  let v10 : BitVec 1 := Scalar.cmpi .eq arg2 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1Ideal.lean ====
  let c0_i32_10 : BitVec 32 := 0#32
  ![v16.toNat, c0_i32_10.toNat, c0_i32_11.toNat, v26.toNat]
-- ==== Ff1RefIdeal.lean ====
abbrev S8192x2048 : Shape := ⟨2, ![8192, 2048]⟩
abbrev S4x2x2048x2048 : Shape := ⟨4, ![4, 2, 2048, 2048]⟩
abbrev S2x2048x4x2048 : Shape := ⟨4, ![2, 2048, 4, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2048, .bf16⟩
  | .hbm, ⟨2, _⟩ => ⟨S2x2048x4x2048, .bf16⟩
  | .hbm, ⟨3, _⟩ => ⟨S2x2048x8192, .bf16⟩
  | .hbm, ⟨4, _⟩ => ⟨S1x2048x8192, .bf16⟩
  | .hbm, ⟨5, _⟩ => ⟨S2048x8192, .bf16⟩
  | .hbm, ⟨6, _⟩ => ⟨S8192x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .bf16⟩
  | .hbm, ⟨14, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Ff2.lean ====
abbrev S8192x8192 : Shape := ⟨2, ![8192, 8192]⟩
abbrev S4x2x2048x2048 : Shape := ⟨4, ![4, 2, 2048, 2048]⟩
abbrev S8192x2048 : Shape := ⟨2, ![8192, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x2x2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2Ideal.lean ====
  let c0_i32_1 : BitVec 32 := 0#32
  ![arg2.toNat, c0_i32.toNat, c0_i32_0.toNat, arg1.toNat]
-- ==== Ff2RefIdeal.lean ====
abbrev S8192x8192 : Shape := ⟨2, ![8192, 8192]⟩
abbrev S4x2x2048x2048 : Shape := ⟨4, ![4, 2, 2048, 2048]⟩
abbrev S8192x2048 : Shape := ⟨2, ![8192, 2048]⟩
abbrev S2x4x2048x2048 : Shape := ⟨4, ![2, 4, 2048, 2048]⟩
abbrev S2x8192x2048 : Shape := ⟨3, ![2, 8192, 2048]⟩
abbrev S1x8192x2048 : Shape := ⟨3, ![1, 8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2x2048x2048, .bf16⟩
  | .hbm, ⟨2, _⟩ => ⟨S8192x2048, .f32⟩
  | .hbm, ⟨3, _⟩ => ⟨S2x4x2048x2048, .bf16⟩
  | .hbm, ⟨4, _⟩ => ⟨S2x8192x2048, .bf16⟩
  | .hbm, ⟨5, _⟩ => ⟨S1x8192x2048, .bf16⟩
  | .hbm, ⟨6, _⟩ => ⟨S8192x2048, .bf16⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Ff2Dx.lean ====
abbrev S8192x2048 : Shape := ⟨2, ![8192, 2048]⟩
abbrev S4x2x2048x2048 : Shape := ⟨4, ![4, 2, 2048, 2048]⟩
abbrev S8192x8192 : Shape := ⟨2, ![8192, 8192]⟩
abbrev S_ : Shape := ⟨0, ![]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond3 (i : grid0.Coords) : BitVec 1 :=
  let arg2 : BitVec 32 := BitVec.ofNat 32 (i 2).val
  let c0_i32_8 : BitVec 32 := 0#32
  let v10 : BitVec 1 := Scalar.cmpi .eq arg2 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DxIdeal.lean ====
  let c0_i32_10 : BitVec 32 := 0#32
  ![v16.toNat, c0_i32_10.toNat, v26.toNat, c0_i32_11.toNat]
-- ==== Ff2DxRefIdeal.lean ====
abbrev S8192x2048 : Shape := ⟨2, ![8192, 2048]⟩
abbrev S4x2x2048x2048 : Shape := ⟨4, ![4, 2, 2048, 2048]⟩
abbrev S8192x8192 : Shape := ⟨2, ![8192, 8192]⟩
abbrev S2x4x2048x2048 : Shape := ⟨4, ![2, 4, 2048, 2048]⟩
abbrev S2x8192x2048 : Shape := ⟨3, ![2, 8192, 2048]⟩
abbrev S1x8192x2048 : Shape := ⟨3, ![1, 8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2048, .bf16⟩
  | .hbm, ⟨2, _⟩ => ⟨S8192x8192, .f32⟩
  | .hbm, ⟨3, _⟩ => ⟨S2x4x2048x2048, .bf16⟩
  | .hbm, ⟨4, _⟩ => ⟨S2x8192x2048, .bf16⟩
  | .hbm, ⟨5, _⟩ => ⟨S1x8192x2048, .bf16⟩
  | .hbm, ⟨6, _⟩ => ⟨S8192x2048, .bf16⟩
  | .hbm, ⟨7, _⟩ => ⟨S8192x2048, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x2048, .f32⟩
  | .hbm, ⟨21, _⟩ => ⟨S8192x2048, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Ff1Dx.lean ====
abbrev S8192x8192 : Shape := ⟨2, ![8192, 8192]⟩
abbrev S4x2x2048x2048 : Shape := ⟨4, ![4, 2, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x2x2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1DxIdeal.lean ====
  let c0_i32_1 : BitVec 32 := 0#32
  ![arg2.toNat, c0_i32.toNat, arg1.toNat, c0_i32_0.toNat]
-- ==== Ff1DxRefIdeal.lean ====
abbrev S8192x8192 : Shape := ⟨2, ![8192, 8192]⟩
abbrev S4x2x2048x2048 : Shape := ⟨4, ![4, 2, 2048, 2048]⟩
abbrev S8192x2048 : Shape := ⟨2, ![8192, 2048]⟩
abbrev S2x2048x4x2048 : Shape := ⟨4, ![2, 2048, 4, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2x2048x2048, .bf16⟩
  | .hbm, ⟨2, _⟩ => ⟨S8192x2048, .f32⟩
  | .hbm, ⟨3, _⟩ => ⟨S2x2048x4x2048, .bf16⟩
  | .hbm, ⟨4, _⟩ => ⟨S2x2048x8192, .bf16⟩
  | .hbm, ⟨5, _⟩ => ⟨S1x2048x8192, .bf16⟩
  | .hbm, ⟨6, _⟩ => ⟨S2048x8192, .bf16⟩
  | .hbm, ⟨7, _⟩ => ⟨S2048x8192, .f32⟩
  | .hbm, ⟨8, _⟩ => ⟨S_, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ff1Next.lean ====
abbrev S8192x2048 : Shape := ⟨2, ![8192, 2048]⟩
abbrev S4x2x2048x2048 : Shape := ⟨4, ![4, 2, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond3 (i : grid0.Coords) : BitVec 1 :=
  let arg2 : BitVec 32 := BitVec.ofNat 32 (i 2).val
  let c0_i32_8 : BitVec 32 := 0#32
  let v10 : BitVec 1 := Scalar.cmpi .eq arg2 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1NextRefIdeal.lean ====
abbrev S8192x2048 : Shape := ⟨2, ![8192, 2048]⟩
abbrev S4x2x2048x2048 : Shape := ⟨4, ![4, 2, 2048, 2048]⟩
abbrev S2x2048x4x2048 : Shape := ⟨4, ![2, 2048, 4, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2048, .bf16⟩
  | .hbm, ⟨2, _⟩ => ⟨S2x2048x4x2048, .bf16⟩
  | .hbm, ⟨3, _⟩ => ⟨S2x2048x8192, .bf16⟩
  | .hbm, ⟨4, _⟩ => ⟨S1x2048x8192, .bf16⟩
  | .hbm, ⟨5, _⟩ => ⟨S2048x8192, .bf16⟩
  | .hbm, ⟨6, _⟩ => ⟨S8192x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .bf16⟩
  | .hbm, ⟨14, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Ff2Next.lean ====
abbrev S8192x8192 : Shape := ⟨2, ![8192, 8192]⟩
abbrev S4x2x2048x2048 : Shape := ⟨4, ![4, 2, 2048, 2048]⟩
abbrev S8192x2048 : Shape := ⟨2, ![8192, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x2x2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2NextRefIdeal.lean ====
abbrev S8192x8192 : Shape := ⟨2, ![8192, 8192]⟩
abbrev S4x2x2048x2048 : Shape := ⟨4, ![4, 2, 2048, 2048]⟩
abbrev S8192x2048 : Shape := ⟨2, ![8192, 2048]⟩
abbrev S2x4x2048x2048 : Shape := ⟨4, ![2, 4, 2048, 2048]⟩
abbrev S2x8192x2048 : Shape := ⟨3, ![2, 8192, 2048]⟩
abbrev S1x8192x2048 : Shape := ⟨3, ![1, 8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2x2048x2048, .bf16⟩
  | .hbm, ⟨2, _⟩ => ⟨S8192x2048, .f32⟩
  | .hbm, ⟨3, _⟩ => ⟨S2x4x2048x2048, .bf16⟩
  | .hbm, ⟨4, _⟩ => ⟨S2x8192x2048, .bf16⟩
  | .hbm, ⟨5, _⟩ => ⟨S1x8192x2048, .bf16⟩
  | .hbm, ⟨6, _⟩ => ⟨S8192x2048, .bf16⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Ff2DxNext.lean ====
abbrev S8192x2048 : Shape := ⟨2, ![8192, 2048]⟩
abbrev S4x2x2048x2048 : Shape := ⟨4, ![4, 2, 2048, 2048]⟩
abbrev S8192x8192 : Shape := ⟨2, ![8192, 8192]⟩
abbrev S_ : Shape := ⟨0, ![]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond3 (i : grid0.Coords) : BitVec 1 :=
  let arg2 : BitVec 32 := BitVec.ofNat 32 (i 2).val
  let c0_i32_8 : BitVec 32 := 0#32
  let v10 : BitVec 1 := Scalar.cmpi .eq arg2 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DxNextRefIdeal.lean ====
abbrev S8192x2048 : Shape := ⟨2, ![8192, 2048]⟩
abbrev S4x2x2048x2048 : Shape := ⟨4, ![4, 2, 2048, 2048]⟩
abbrev S8192x8192 : Shape := ⟨2, ![8192, 8192]⟩
abbrev S2x4x2048x2048 : Shape := ⟨4, ![2, 4, 2048, 2048]⟩
abbrev S2x8192x2048 : Shape := ⟨3, ![2, 8192, 2048]⟩
abbrev S1x8192x2048 : Shape := ⟨3, ![1, 8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2048, .bf16⟩
  | .hbm, ⟨2, _⟩ => ⟨S8192x8192, .f32⟩
  | .hbm, ⟨3, _⟩ => ⟨S2x4x2048x2048, .bf16⟩
  | .hbm, ⟨4, _⟩ => ⟨S2x8192x2048, .bf16⟩
  | .hbm, ⟨5, _⟩ => ⟨S1x8192x2048, .bf16⟩
  | .hbm, ⟨6, _⟩ => ⟨S8192x2048, .bf16⟩
  | .hbm, ⟨7, _⟩ => ⟨S8192x2048, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x2048, .f32⟩
  | .hbm, ⟨21, _⟩ => ⟨S8192x2048, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Ff1DxNext.lean ====
abbrev S8192x8192 : Shape := ⟨2, ![8192, 8192]⟩
abbrev S4x2x2048x2048 : Shape := ⟨4, ![4, 2, 2048, 2048]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x2x2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1DxNextRefIdeal.lean ====
abbrev S8192x8192 : Shape := ⟨2, ![8192, 8192]⟩
abbrev S4x2x2048x2048 : Shape := ⟨4, ![4, 2, 2048, 2048]⟩
abbrev S8192x2048 : Shape := ⟨2, ![8192, 2048]⟩
abbrev S2x2048x4x2048 : Shape := ⟨4, ![2, 2048, 4, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2x2048x2048, .bf16⟩
  | .hbm, ⟨2, _⟩ => ⟨S8192x2048, .f32⟩
  | .hbm, ⟨3, _⟩ => ⟨S2x2048x4x2048, .bf16⟩
  | .hbm, ⟨4, _⟩ => ⟨S2x2048x8192, .bf16⟩
  | .hbm, ⟨5, _⟩ => ⟨S1x2048x8192, .bf16⟩
  | .hbm, ⟨6, _⟩ => ⟨S2048x8192, .bf16⟩
  | .hbm, ⟨7, _⟩ => ⟨S2048x8192, .f32⟩
  | .hbm, ⟨8, _⟩ => ⟨S_, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mm.lean ====
/-
  Products taken a block of the contracted axis at a time: what the accumulator of such a product holds, as one sum.
-/
module

public import Idealize.ShloMosaic.Lib.Pointwise
public import Idealize.ShloMosaic.Lib.Pipeline.Value

@[expose] public section

noncomputable section

namespace Cert.Mm

open Idealize.ShloMosaic
open scoped BigOperators

variable {M : ℕ} (f : Fin M → EReal)

/-- The terms `f`, by number, nothing past the last. -/
def term (k : ℕ) : EReal := if h : k < M then f ⟨k, h⟩ else 0

theorem sum_term : (∑ k ∈ Finset.range M, term f k) = ∑ k : Fin M, f k := (Finset.sum_fin_eq_sum_range f).symm

/-- What step `j` of the product adds: the terms of its block of `B`. -/
def part (B j : ℕ) : EReal := ∑ k : Fin B, term f (B * j + k.val)

theorem part_eq {B j : ℕ} (g : Fin B → EReal) (hj : B * (j + 1) ≤ M)
    (hg : ∀ k : Fin B, g k = f ⟨B * j + k.val, lt_of_lt_of_le (by have := k.isLt; rw [Nat.mul_succ]; omega) hj⟩) :
    (∑ k : Fin B, g k) = part f B j :=
  Finset.sum_congr rfl fun k _ => (hg k).trans (by unfold term; rw [dif_pos])

theorem sum_parts (B j : ℕ) : (∑ k ∈ Finset.range (B * j), term f k) + part f B j = ∑ k ∈ Finset.range (B * (j + 1)), term f k := by
  rw [Nat.mul_succ, Finset.sum_range_add, part, Finset.sum_range (fun k => term f (B * j + k))]

/-- The accumulator of a product of `K` steps of `B` terms each, started anew every `K` points, holds at every step but
    the last the sum of the terms so far; the last step's result `out`, `e` of the accumulator with its own terms, is then
    `e` of the sum of all. -/
theorem out_eq_of (e : EReal → EReal) {N B K : ℕ} (hM : B * K = M) (hK : 1 < K) (acc out : ∀ n, n < N → EReal) (q : ℕ)
    (first : ∀ n (h : n < N), n / K = q → n % K = 0 → acc n h = part f B (n % K))
    (next : ∀ n (h : n + 1 < N), (n + 1) / K = q → (n + 1) % K ≠ 0 → (n + 1) % K + 1 ≠ K →
      acc (n + 1) h = acc n (Nat.lt_of_succ_lt h) + part f B ((n + 1) % K))
    (last : ∀ n (h : n + 1 < N), (n + 1) / K = q → (n + 1) % K + 1 = K →
      out (n + 1) h = e (acc n (Nat.lt_of_succ_lt h) + part f B ((n + 1) % K)))
    (n : ℕ) (h : n < N) (hq : n / K = q) (hl : n % K + 1 = K) : out n h = e (∑ k : Fin M, f k) := by
  have before : ∀ n, (n + 1) % K ≠ 0 → n / K = (n + 1) / K ∧ n % K + 1 = (n + 1) % K := fun n h0 => by
    have hd := Nat.div_add_mod (n + 1) K
    have l := Nat.mod_lt (n + 1) (Nat.lt_of_succ_lt hK)
    have hd : n / K = (n + 1) / K ∧ n % K = (n + 1) % K - 1 :=
      (Nat.div_mod_unique (Nat.lt_of_succ_lt hK)).2 ⟨by omega, by omega⟩
    exact ⟨hd.1, by omega⟩
  have key : ∀ n (h : n < N), n / K = q → n % K + 1 ≠ K → acc n h = ∑ k ∈ Finset.range (B * (n % K + 1)), term f k := by
    intro n
    induction n with
    | zero =>
      intro h hq _
      rw [first 0 h hq (Nat.zero_mod K), Nat.zero_mod, ← sum_parts, Nat.mul_zero, Finset.sum_range_zero, zero_add]
    | succ n ih =>
      intro h hq hl
      by_cases h0 : (n + 1) % K = 0
      · rw [first _ h hq h0, h0, ← sum_parts, Nat.mul_zero, Finset.sum_range_zero, zero_add]
      · obtain ⟨hd, hm⟩ := before n h0
        have l := Nat.mod_lt (n + 1) (Nat.lt_of_succ_lt hK)
        rw [next n h hq h0 hl, ih _ (hd.trans hq) (by omega), hm, sum_parts]
  cases n with
  | zero => rw [Nat.zero_mod] at hl; omega
  | succ n =>
    obtain ⟨hd, hm⟩ := before n (by omega)
    rw [last n h hq hl, key n _ (hd.trans hq) (by omega), hm, sum_parts, hl, hM, sum_term]

/-- The same where the result is the sum itself. -/
theorem out_eq {N B K : ℕ} (hM : B * K = M) (hK : 1 < K) (acc out : ∀ n, n < N → EReal) (q : ℕ)
    (first : ∀ n (h : n < N), n / K = q → n % K = 0 → acc n h = part f B (n % K))
    (next : ∀ n (h : n + 1 < N), (n + 1) / K = q → (n + 1) % K ≠ 0 → (n + 1) % K + 1 ≠ K →
      acc (n + 1) h = acc n (Nat.lt_of_succ_lt h) + part f B ((n + 1) % K))
    (last : ∀ n (h : n + 1 < N), (n + 1) / K = q → (n + 1) % K + 1 = K →
      out (n + 1) h = acc n (Nat.lt_of_succ_lt h) + part f B ((n + 1) % K))
    (n : ℕ) (h : n < N) (hq : n / K = q) (hl : n % K + 1 = K) : out n h = ∑ k : Fin M, f k :=
  out_eq_of f id hM hK acc out q first next last n h hq hl

/-- The logistic function. -/
def logistic (a : EReal) : EReal := Ideal.div 1 (1 + Ideal.exp (-a))

/-- Every index is its coordinates'. -/
theorem at2 {a b : ℕ} (i : (⟨2, ![a, b]⟩ : Shape).Idx) : ∃ (p : Fin a) (q : Fin b), i = ix2 p q :=
  ⟨i 0, i 1, funext fun d => match d with | ⟨0, _⟩ => rfl | ⟨1, _⟩ => rfl⟩
theorem at3 {a b e : ℕ} (i : (⟨3, ![a, b, e]⟩ : Shape).Idx) : ∃ (p : Fin a) (q : Fin b) (r : Fin e), i = ix3 p q r :=
  ⟨i 0, i 1, i 2, funext fun d => match d with | ⟨0, _⟩ => rfl | ⟨1, _⟩ => rfl | ⟨2, _⟩ => rfl⟩
theorem at4 {a b e f : ℕ} (i : (⟨4, ![a, b, e, f]⟩ : Shape).Idx) : ∃ (p : Fin a) (q : Fin b) (r : Fin e) (s : Fin f), i = ix4 p q r s :=
  ⟨i 0, i 1, i 2, i 3, funext fun d => match d with | ⟨0, _⟩ => rfl | ⟨1, _⟩ => rfl | ⟨2, _⟩ => rfl | ⟨3, _⟩ => rfl⟩

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

end Cert.Mm

end
-- ==== Proof.Model.lean ====
/-
  The forgetting attention and its gradient over the real numbers: scores, probabilities and the five gradients as
  functions of natural-number positions, and the few facts about sums that both programs' values are read with.
-/
module

public import Idealize.ShloMosaic.PureOps.Ideal
public import Mathlib.Algebra.BigOperators.Group.Finset.Basic
public import Mathlib.Algebra.BigOperators.Ring.Finset
public import Mathlib.Algebra.Order.BigOperators.Group.Finset

@[expose] public section

noncomputable section

namespace Cert.FoxModel

open Idealize.ShloMosaic
open scoped BigOperators

/-! ## Extended reals that are real -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over `Fin n` of real terms, as the real sum over the first `n` numbers. -/
theorem sum_fin {n : ℕ} (f : Fin n → EReal) (g : ℕ → ℝ) (h : ∀ i : Fin n, f i = ((g i.val : ℝ) : EReal)) :
    ∑ i : Fin n, f i = ((∑ i ∈ Finset.range n, g i : ℝ) : EReal) := by
  rw [Finset.sum_congr rfl fun i _ => h i, coe_sum, Finset.sum_range]

theorem coe_mul_sum {n : ℕ} (f g : Fin n → EReal) (a b : ℕ → ℝ) (hf : ∀ i : Fin n, f i = ((a i.val : ℝ) : EReal))
    (hg : ∀ i : Fin n, g i = ((b i.val : ℝ) : EReal)) :
    ∑ i : Fin n, f i * g i = ((∑ i ∈ Finset.range n, a i * b i : ℝ) : EReal) :=
  sum_fin _ (fun i => a i * b i) fun i => by rw [hf, hg, ← EReal.coe_mul]

/-- What is zero beyond `n` sums over any longer range as over the first `n`. -/
theorem sum_range_of_zero (f : ℕ → ℝ) {n N : ℕ} (hn : n ≤ N) (h : ∀ k, n ≤ k → f k = 0) :
    ∑ k ∈ Finset.range N, f k = ∑ k ∈ Finset.range n, f k := by
  refine (Finset.sum_subset (Finset.range_subset_range.mpr hn) fun k _ hk => h k ?_).symm
  exact Nat.le_of_not_lt fun hlt => hk (Finset.mem_range.mpr hlt)

/-! ## The attention -/

/-- The inputs by head, position and feature: queries, keys, values, the incoming gradient, the cumulative gates, the scale
    and one real shift of the scores for each row. -/
structure Data where
  Q : ℕ → ℕ → ℕ → ℝ
  K : ℕ → ℕ → ℕ → ℝ
  V : ℕ → ℕ → ℕ → ℝ
  D : ℕ → ℕ → ℕ → ℝ
  C : ℕ → ℕ → ℝ
  c0 : ℝ
  μ : ℕ → ℕ → ℝ

variable (X : Data)

/-- The score of row `i` against key `j`. -/
def S (h i j : ℕ) : ℝ := (∑ e ∈ Finset.range 128, X.Q h i e * X.K h j e) * X.c0 + X.C h i - X.C h j
/-- The row's shifted exponentials, zero above the diagonal. -/
def E (h i j : ℕ) : ℝ := if j ≤ i then Real.exp (S X h i j - X.μ h i) else 0
/-- Their sum. -/
def L (h i : ℕ) : ℝ := ∑ j ∈ Finset.range 8192, E X h i j
/-- The probabilities. -/
def P (h i j : ℕ) : ℝ := E X h i j / L X h i
/-- The output. -/
def O (h i e : ℕ) : ℝ := ∑ j ∈ Finset.range 8192, P X h i j * X.V h j e
/-- The gradient with respect to the probabilities. -/
def DP (h i j : ℕ) : ℝ := ∑ e ∈ Finset.range 128, X.D h i e * X.V h j e
/-- The row's product of the incoming gradient with the output. -/
def dl (h i : ℕ) : ℝ := ∑ e ∈ Finset.range 128, X.D h i e * O X h i e
/-- The gradient with respect to the scores. -/
def DS (h i j : ℕ) : ℝ := P X h i j * (DP X h i j - dl X h i)
/-- The saved logarithm of the row's sum. -/
def lse (h i : ℕ) : ℝ := X.μ h i + Real.log (L X h i)

/-- The gradients of the queries, of the keys, of the values, of the gates by key and of the gates by query. -/
def gq (h i e : ℕ) : ℝ := (∑ j ∈ Finset.range 8192, DS X h i j * X.K h j e) * X.c0
def gk (h j e : ℕ) : ℝ := (∑ i ∈ Finset.range 8192, DS X h i j * X.Q h i e) * X.c0
def gv (h j e : ℕ) : ℝ := ∑ i ∈ Finset.range 8192, P X h i j * X.D h i e
def gcK (h j : ℕ) : ℝ := ∑ i ∈ Finset.range 8192, -DS X h i j
def gcQ (h i : ℕ) : ℝ := ∑ j ∈ Finset.range 8192, DS X h i j

theorem E_nonneg (h i j : ℕ) : 0 ≤ E X h i j := by
  unfold E; split
  · exact (Real.exp_pos _).le
  · exact le_refl _

theorem L_pos (h : ℕ) {i : ℕ} (hi : i < 8192) : 0 < L X h i := by
  have h0 : 0 < E X h i i := by unfold E; rw [if_pos le_rfl]; exact Real.exp_pos _
  exact lt_of_lt_of_le h0 (Finset.single_le_sum (f := fun j => E X h i j) (fun j _ => E_nonneg X h i j) (Finset.mem_range.mpr hi))

theorem P_above {h i j : ℕ} (hj : i < j) : P X h i j = 0 := by
  unfold P E; rw [if_neg (by omega), zero_div]

theorem DS_above {h i j : ℕ} (hj : i < j) : DS X h i j = 0 := by
  unfold DS; rw [P_above X hj, zero_mul]

/-- The probability recomputed from the saved logarithm. -/
theorem exp_lse (h : ℕ) {i j : ℕ} (hi : i < 8192) (hj : j ≤ i) : Real.exp (S X h i j - lse X h i) = P X h i j := by
  unfold P E lse
  rw [if_pos hj, show S X h i j - (X.μ h i + Real.log (L X h i)) = (S X h i j - X.μ h i) - Real.log (L X h i) by ring, Real.exp_sub,
    Real.exp_log (L_pos X h hi)]

/-- The row's product with the output is the sum over the keys of the probabilities times their gradients. -/
theorem dl_eq (h i : ℕ) : dl X h i = ∑ j ∈ Finset.range 8192, DP X h i j * P X h i j := by
  unfold dl O DP
  simp only [Finset.mul_sum, Finset.sum_mul]
  rw [Finset.sum_comm]
  refine Finset.sum_congr rfl fun j _ => Finset.sum_congr rfl fun e _ => by ring

end Cert.FoxModel

end
-- ==== Proof.Norm.lean ====
/-
  The derivative of the layer norm at one row, over the reals and at the extended reals.
-/
module

public import proofs.«01_k».proof.Proof.Model
public import Mathlib.Tactic.LinearCombination
public import Mathlib.Tactic.FieldSimp

@[expose] public section

noncomputable section

namespace Cert.Norm

open Idealize.ShloMosaic
open scoped BigOperators

/-! ## Over the reals -/

section real

variable {n : ℕ} (x t : Fin n → ℝ)

def mean : ℝ := (∑ j, x j) * (1 / (n : ℝ))
def cen (j : Fin n) : ℝ := x j - mean x
def var : ℝ := mean fun j => cen x j * cen x j
def rstd (ε : ℝ) : ℝ := (Real.sqrt (var x + ε))⁻¹

/-- The gradient of a row, of the norm's argument `x` and the gradient `t` of its normalised row. -/
def grad (ε : ℝ) (j : Fin n) : ℝ :=
  rstd x ε * (t j - mean t - cen x j * rstd x ε * mean fun k => t k * (cen x k * rstd x ε))

theorem sum_cen (hn : 0 < n) : ∑ j, cen x j = 0 := by
  have : (n : ℝ) ≠ 0 := by positivity
  simp only [cen, Finset.sum_sub_distrib, Finset.sum_const, Finset.card_univ, Fintype.card_fin, nsmul_eq_mul, mean]
  field_simp
  ring

theorem var_nonneg : 0 ≤ var x := by
  unfold var mean
  exact mul_nonneg (Finset.sum_nonneg fun j _ => mul_self_nonneg _) (by positivity)

theorem rstd_sq {ε : ℝ} (hε : 0 < ε) : rstd x ε * rstd x ε * (var x + ε) = 1 := by
  have h : 0 < var x + ε := add_pos_of_nonneg_of_pos (var_nonneg x) hε
  have hs := Real.sqrt_ne_zero'.mpr h
  unfold rstd
  nth_rw 3 [← Real.mul_self_sqrt h.le]
  field_simp

/-- The gradient as the chain rule forms it: through the row, through its square, and through the mean of both. -/
def dvar (ε : ℝ) : ℝ := (∑ k, cen x k * t k) * (-(1 / 2) * (rstd x ε * (1 / (var x + ε)))) * (1 / (n : ℝ))
def chain (ε : ℝ) (j : Fin n) : ℝ := t j * rstd x ε + dvar x t ε * (2 * cen x j)

theorem sum_chain (hn : 0 < n) (ε : ℝ) : ∑ j, chain x t ε j = (∑ j, t j) * rstd x ε := by
  simp only [chain, Finset.sum_add_distrib, ← Finset.sum_mul, ← Finset.mul_sum, sum_cen x hn]
  ring

theorem grad_eq (hn : 0 < n) {ε : ℝ} (hε : 0 < ε) (j : Fin n) :
    chain x t ε j - (∑ k, chain x t ε k) * (1 / (n : ℝ)) = grad x t ε j := by
  have h : 0 < var x + ε := add_pos_of_nonneg_of_pos (var_nonneg x) hε
  have hr : rstd x ε * rstd x ε = 1 / (var x + ε) := by
    rw [eq_div_iff h.ne']
    exact rstd_sq x hε
  have hm : (mean fun k => t k * (cen x k * rstd x ε)) = (∑ k, cen x k * t k) * rstd x ε * (1 / (n : ℝ)) := by
    have h : ∑ k, t k * (cen x k * rstd x ε) = (∑ k, cen x k * t k) * rstd x ε := by
      rw [Finset.sum_mul]
      exact Finset.sum_congr rfl fun k _ => by ring
    unfold mean
    rw [h]
  rw [sum_chain x t hn]
  unfold grad chain dvar
  rw [hm, ← hr]
  unfold mean
  ring

end real

/-! ## At the extended reals -/

theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.le.not_gt, if_neg h.ne']

theorem bits_2048 : Ideal.ofBits .f32 0x45000000#32 = ((2048 : ℝ) : EReal) := by
  unfold Ideal.ofBits Ideal.ieee
  norm_num [Nat.shiftRight_eq_div_pow, show ¬BitVec.extractLsb' 31 1 (0x45000000#32 : BitVec 32) = 1#1 by decide]

theorem bits_2 : Ideal.ofBits .f32 0x40000000#32 = ((2 : ℝ) : EReal) := by
  unfold Ideal.ofBits Ideal.ieee
  norm_num [Nat.shiftRight_eq_div_pow, show ¬BitVec.extractLsb' 31 1 (0x40000000#32 : BitVec 32) = 1#1 by decide]

theorem bits_neg_half : Ideal.ofBits .f32 0xBF000000#32 = ((-(1 / 2) : ℝ) : EReal) := by
  unfold Ideal.ofBits Ideal.ieee
  norm_num [Nat.shiftRight_eq_div_pow, show BitVec.extractLsb' 31 1 (0xBF000000#32 : BitVec 32) = 1#1 by decide]

theorem bits_eps : ∃ ε : ℝ, 0 < ε ∧ Ideal.ofBits .f32 0x3727C5AC#32 = ((ε : ℝ) : EReal) := by
  refine ⟨(2 ^ 23 + 2606508) * 2 ^ (-40 : ℤ), by positivity, ?_⟩
  unfold Ideal.ofBits Ideal.ieee
  norm_num [Nat.shiftRight_eq_div_pow, show ¬BitVec.extractLsb' 31 1 (0x3727C5AC#32 : BitVec 32) = 1#1 by decide]

section rows

variable (x t : Fin 2048 → EReal)

/-- The mean of a row, its centred entries, its variance with the constant, and its reciprocal deviation, -/
def emean : EReal := Ideal.div (∑ j, x j) (Ideal.ofBits .f32 0x45000000#32)
def ecen (j : Fin 2048) : EReal := x j - emean x
def evar : EReal := emean (fun j => ecen x j * ecen x j) + Ideal.ofBits .f32 0x3727C5AC#32
def ehat (j : Fin 2048) : EReal := ecen x j * Ideal.rsqrt (evar x)

/-- the gradient as the kernel forms it, -/
def egrad (j : Fin 2048) : EReal := Ideal.rsqrt (evar x) * (t j - emean t - ehat x j * emean fun k => t k * ehat x k)

/-- and as the chain rule does. -/
def edvar : EReal := Ideal.div ((∑ j, ecen x j * t j) * (Ideal.ofBits .f32 0xBF000000#32 * Ideal.div (Ideal.rsqrt (evar x)) (evar x))) (Ideal.ofBits .f32 0x45000000#32)
def erow (j : Fin 2048) : EReal := t j * Ideal.rsqrt (evar x)
def esq (j : Fin 2048) : EReal := edvar x t * (Ideal.ofBits .f32 0x40000000#32 * ecen x j)
def echain (j : Fin 2048) : EReal :=
  erow x t j + esq x t j + Ideal.div ((∑ k, -erow x t k) + ∑ k, -esq x t k) (Ideal.ofBits .f32 0x45000000#32)

end rows

theorem sum_coe {n : ℕ} (f : Fin n → ℝ) : ∑ j, ((f j : ℝ) : EReal) = ((∑ j, f j : ℝ) : EReal) := Cert.FoxModel.coe_sum _ _

section coe

variable (x t : Fin 2048 → ℝ)

theorem emean_coe : emean (fun j => (x j : EReal)) = ((mean x : ℝ) : EReal) := by
  unfold emean mean
  rw [bits_2048, Ideal.div_coe (by norm_num), sum_coe, ← EReal.coe_mul]
  norm_num

theorem ecen_coe (j : Fin 2048) : ecen (fun j => (x j : EReal)) j = ((cen x j : ℝ) : EReal) := by
  unfold ecen cen
  rw [emean_coe, EReal.coe_sub]

theorem evar_coe {ε : ℝ} (h : Ideal.ofBits .f32 0x3727C5AC#32 = ((ε : ℝ) : EReal)) : evar (fun j => (x j : EReal)) = ((var x + ε : ℝ) : EReal) := by
  unfold evar var
  simp only [ecen_coe, ← EReal.coe_mul]
  rw [emean_coe, h, EReal.coe_add]

theorem ersqrt_coe {ε : ℝ} (hε : 0 < ε) (h : Ideal.ofBits .f32 0x3727C5AC#32 = ((ε : ℝ) : EReal)) :
    Ideal.rsqrt (evar fun j => (x j : EReal)) = ((rstd x ε : ℝ) : EReal) := by
  rw [evar_coe x h, rsqrt_coe (add_pos_of_nonneg_of_pos (var_nonneg x) hε)]
  rfl

theorem egrad_coe {ε : ℝ} (hε : 0 < ε) (h : Ideal.ofBits .f32 0x3727C5AC#32 = ((ε : ℝ) : EReal)) (j : Fin 2048) :
    egrad (fun j => (x j : EReal)) (fun j => (t j : EReal)) j = ((grad x t ε j : ℝ) : EReal) := by
  unfold egrad grad ehat
  simp only [ecen_coe, ersqrt_coe x hε h, ← EReal.coe_mul, emean_coe, ← EReal.coe_sub]

theorem esq_coe {ε : ℝ} (hε : 0 < ε) (h : Ideal.ofBits .f32 0x3727C5AC#32 = ((ε : ℝ) : EReal)) (j : Fin 2048) :
    esq (fun j => (x j : EReal)) (fun j => (t j : EReal)) j = ((dvar x t ε * (2 * cen x j) : ℝ) : EReal) := by
  have hv : var x + ε ≠ 0 := (add_pos_of_nonneg_of_pos (var_nonneg x) hε).ne'
  unfold esq edvar dvar
  rw [ersqrt_coe x hε h, evar_coe x h, bits_2048, bits_2, bits_neg_half, Ideal.div_coe hv, Ideal.div_coe (by norm_num)]
  simp only [ecen_coe, ← EReal.coe_mul, sum_coe]
  norm_num

theorem echain_coe {ε : ℝ} (hε : 0 < ε) (h : Ideal.ofBits .f32 0x3727C5AC#32 = ((ε : ℝ) : EReal)) (j : Fin 2048) :
    echain (fun j => (x j : EReal)) (fun j => (t j : EReal)) j = ((chain x t ε j - (∑ k, chain x t ε k) * (1 / ((2048 : ℕ) : ℝ)) : ℝ) : EReal) := by
  unfold echain erow
  simp only [esq_coe x t hε h, ersqrt_coe x hε h, ← EReal.coe_mul, ← EReal.coe_neg, sum_coe, ← EReal.coe_add]
  rw [bits_2048, Ideal.div_coe (by norm_num), ← EReal.coe_mul, ← EReal.coe_add]
  refine congrArg _ ?_
  unfold chain
  rw [Finset.sum_add_distrib, Finset.sum_neg_distrib, Finset.sum_neg_distrib]
  push_cast
  ring

end coe

/-- On real rows the two are one. -/
theorem echain_eq (x t : Fin 2048 → EReal) (hx : ∀ j, ∃ r : ℝ, x j = (r : EReal)) (ht : ∀ j, ∃ r : ℝ, t j = (r : EReal)) (j : Fin 2048) : echain x t j = egrad x t j := by
  obtain ⟨x', hx'⟩ := Classical.axiom_of_choice hx
  obtain ⟨t', ht'⟩ := Classical.axiom_of_choice ht
  obtain ⟨ε, hε, h⟩ := bits_eps
  obtain rfl : x = fun j => (x' j : EReal) := funext hx'
  obtain rfl : t = fun j => (t' j : EReal) := funext ht'
  rw [echain_coe x' t' hε h, egrad_coe x' t' hε h, grad_eq x' t' (by norm_num) hε]

end Cert.Norm

end
-- ==== Proof.Fwd.lean ====
/-
  The forward lines both programs run on the host, named one after another, and what each holds at an index over the real
  numbers.
-/
module

public import proofs.«01_k».proof.Proof.Gen.ReferenceIdeal
public import proofs.«01_k».proof.Proof.Model
public import Idealize.ShloMosaic.Lib.Pointwise
public import Idealize.ShloMosaic.Lib.WordCmp

@[expose] public section

set_option maxRecDepth 16384

noncomputable section

namespace Cert.FoxHost

open Idealize.ShloMosaic
open Cert.ReferenceIdeal Cert.ReferenceIdeal.Gen
open Cert.FoxModel (Data)
open scoped BigOperators

/-! ## The lines -/

section lines

variable {F : FTy → Type} [FloatOps F]
variable (u : FVec F S8192x4608 .bf16) (cum : FVec F S8192x4 .f32) (dy : FVec F S8192x512 .bf16)

/-- The queries, keys and values, one row of 128 per token and head. -/
def qs : FVec F S8192x4x128 .f32 :=
  extf .f32 (shapeCast _ (extractStridedSlice S8192x512 ![0, 0] u slices_S8192x4608_S8192x512_0_0) shapeCasts_S8192x512_S8192x4x128) bitsLt_bf16_f32
def ks : FVec F S8192x4x128 .f32 :=
  extf .f32 (shapeCast _ (extractStridedSlice S8192x512 ![0, 512] u slices_S8192x4608_S8192x512_0_512) shapeCasts_S8192x512_S8192x4x128) bitsLt_bf16_f32
def vs : FVec F S8192x4x128 .f32 :=
  extf .f32 (shapeCast _ (extractStridedSlice S8192x512 ![0, 1024] u slices_S8192x4608_S8192x512_0_1024) shapeCasts_S8192x512_S8192x4x128) bitsLt_bf16_f32

/-- The scores before the mask. -/
def scores : FVec F S4x8192x8192 .f32 :=
  subf
    (addf
      (mulf (Host.dotGeneral dot_S8192x4x128_S8192x4x128_S4x8192x8192_2_2_0_0_1_1 none (qs u) (ks u))
        (broadcastInDim S4x8192x8192 ![] bcast_S_S4x8192x8192 (constant S_ .f32 0x3DB504F3#32)))
      (broadcastInDim S4x8192x8192 ![0, 1, 2] bcast_S4x8192x1_S4x8192x8192_0_1_2
        (broadcastInDim S4x8192x1 ![0, 1] bcast_S4x8192_S4x8192x1_0_1 (transpose S4x8192 [1, 0] cum transposes_S8192x4_S4x8192_1_0))))
    (broadcastInDim S4x8192x8192 ![0, 1, 2] bcast_S4x1x8192_S4x8192x8192_0_1_2
      (broadcastInDim S4x1x8192 ![0, 2] bcast_S4x8192_S4x1x8192_0_2 (transpose S4x8192 [1, 0] cum transposes_S8192x4_S4x8192_1_0)))

/-- Whether a query may look at a key. -/
def mask : (⟨S4x8192x8192, .i1⟩ : BufTy).Contents (Elt F) :=
  broadcastInDim S4x8192x8192 ![1, 2] bcast_S8192x8192_S4x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

def masked : FVec F S4x8192x8192 .f32 :=
  select (mask (F := F)) (scores u cum) (broadcastInDim S4x8192x8192 ![] bcast_S_S4x8192x8192 (constant S_ .f32 0xFF800000#32))

/-- The rows' greatest scores. -/
def tops : FVec F S4x8192 .f32 :=
  Host.reduce FloatOps.maximumf (masked u cum) (constant S_ .f32 0xFF800000#32) reducesTo_S4x8192x8192_S4x8192_d2 h_S_

/-- A number per row, along the keys. -/
def spread (x : FVec F S4x8192x1 .f32) : FVec F S4x8192x8192 .f32 :=
  broadcastInDim S4x8192x8192 ![0, 1, 2] bcast_S4x8192x1_S4x8192x8192_0_1_2 x
def col (x : FVec F S4x8192 .f32) : FVec F S4x8192x1 .f32 :=
  broadcastInDim S4x8192x1 ![0, 1] bcast_S4x8192_S4x8192x1_0_1 x

/-- The exponentials of the scores less `μ`. -/
def exps (μ : FVec F S4x8192 .f32) : FVec F S4x8192x8192 .f32 := Host.exp (subf (masked u cum) (spread (col μ)))
def sums (e : FVec F S4x8192x8192 .f32) : FVec F S4x8192 .f32 :=
  Host.reduceAdd e (constant S_ .f32 0x00000000#32) reducesTo_S4x8192x8192_S4x8192_d2 h_S_
def probs (e : FVec F S4x8192x8192 .f32) : FVec F S4x8192x8192 .f32 := Host.divf e (spread (col (sums e)))

end lines

/-! ## Their values -/

variable (u : FVec Ideal S8192x4608 .bf16) (cum : FVec Ideal S8192x4 .f32) (dy : FVec Ideal S8192x512 .bf16)

theorem qs_apply (i : Fin 8192) (h : Fin 4) (e : Fin 128) : qs u (ix3 i h e) = u (ix2 i (⟨h.val * 128 + e.val, by omega⟩ : Fin 4608)) := by
  pointwise [qs]
theorem ks_apply (i : Fin 8192) (h : Fin 4) (e : Fin 128) : ks u (ix3 i h e) = u (ix2 i (⟨512 + (h.val * 128 + e.val), by omega⟩ : Fin 4608)) := by
  pointwise [ks]
theorem vs_apply (i : Fin 8192) (h : Fin 4) (e : Fin 128) : vs u (ix3 i h e) = u (ix2 i (⟨1024 + (h.val * 128 + e.val), by omega⟩ : Fin 4608)) := by
  pointwise [vs]
theorem scores_apply (h : Fin 4) (i j : Fin 8192) : scores u cum (ix3 h i j) =
    (∑ e : Fin 128, qs u (ix3 i h e) * ks u (ix3 j h e)) * Ideal.ofBits .f32 0x3DB504F3#32 + cum (ix2 i h) - cum (ix2 j h) := by
  pointwise [scores]
theorem mask_apply (h : Fin 4) (i j : Fin 8192) : mask (F := Ideal) (ix3 h i j) = 1#1 ↔ j.val ≤ i.val := by
  pointwise [mask]
  exact WordCmp.cmpi_sle_ofNat_eq_one_iff (by omega) (by omega)
theorem masked_apply (h : Fin 4) (i j : Fin 8192) : masked u cum (ix3 h i j) =
    Scalar.select (mask (F := Ideal) (ix3 h i j)) (scores u cum (ix3 h i j)) (Ideal.ofBits .f32 0xFF800000#32) := by
  pointwise [masked]
theorem tops_apply (h : Fin 4) (i : Fin 8192) : tops u cum (ix2 h i) =
    Finset.fold max (Ideal.ofBits .f32 0xFF800000#32) (fun j => masked u cum (ix3 h i j)) Finset.univ := by
  pointwise [tops]
theorem exps_apply (μ : FVec Ideal S4x8192 .f32) (h : Fin 4) (i j : Fin 8192) :
    exps u cum μ (ix3 h i j) = Ideal.exp (masked u cum (ix3 h i j) - μ (ix2 h i)) := by
  pointwise [exps, spread, col]
theorem sums_apply (x : FVec Ideal S4x8192x8192 .f32) (h : Fin 4) (i : Fin 8192) :
    sums x (ix2 h i) = ∑ j : Fin 8192, x (ix3 h i j) := by
  pointwise [sums]
theorem probs_apply (x : FVec Ideal S4x8192x8192 .f32) (h : Fin 4) (i j : Fin 8192) :
    probs x (ix3 h i j) = Ideal.div (x (ix3 h i j)) (sums x (ix2 h i)) := by
  pointwise [probs, spread, col]

/-- The real inputs of finite arrays. -/
def data : Data where
  Q h i e := (u (ix2 (⟨i % 8192, Nat.mod_lt _ (by decide)⟩ : Fin 8192) (⟨(h * 128 + e) % 4608, Nat.mod_lt _ (by decide)⟩ : Fin 4608)) : EReal).toReal
  K h i e := (u (ix2 (⟨i % 8192, Nat.mod_lt _ (by decide)⟩ : Fin 8192) (⟨(512 + (h * 128 + e)) % 4608, Nat.mod_lt _ (by decide)⟩ : Fin 4608)) : EReal).toReal
  V h i e := (u (ix2 (⟨i % 8192, Nat.mod_lt _ (by decide)⟩ : Fin 8192) (⟨(1024 + (h * 128 + e)) % 4608, Nat.mod_lt _ (by decide)⟩ : Fin 4608)) : EReal).toReal
  D h i e := (dy (ix2 (⟨i % 8192, Nat.mod_lt _ (by decide)⟩ : Fin 8192) (⟨(h * 128 + e) % 512, Nat.mod_lt _ (by decide)⟩ : Fin 512)) : EReal).toReal
  C h i := (cum (ix2 (⟨i % 8192, Nat.mod_lt _ (by decide)⟩ : Fin 8192) (⟨h % 4, Nat.mod_lt _ (by decide)⟩ : Fin 4)) : EReal).toReal
  c0 := (Ideal.ofBits .f32 0x3DB504F3#32).toReal
  μ h i := (tops u cum (ix2 (⟨h % 4, Nat.mod_lt _ (by decide)⟩ : Fin 4) (⟨i % 8192, Nat.mod_lt _ (by decide)⟩ : Fin 8192)) : EReal).toReal

/-- Every element is a real number. -/
structure Fin3 : Prop where
  u : ∀ i, ∃ r : ℝ, (u i : EReal) = ↑r
  cum : ∀ i, ∃ r : ℝ, (cum i : EReal) = ↑r
  dy : ∀ i, ∃ r : ℝ, (dy i : EReal) = ↑r

variable {u cum dy} (H : Fin3 u cum dy)

theorem coe_toReal_of {x : EReal} (h : ∃ r : ℝ, x = ↑r) : x = (x.toReal : EReal) := by
  obtain ⟨r, rfl⟩ := h; rfl

theorem c0_eq : Ideal.ofBits .f32 0x3DB504F3#32 = ((data u cum dy).c0 : EReal) := by
  refine coe_toReal_of ?_
  unfold Ideal.ofBits Ideal.ieee
  dsimp only
  rw [if_neg (by decide), if_neg (by decide)]
  exact ⟨_, rfl⟩

theorem neg_inf : Ideal.ofBits .f32 0xFF800000#32 = (⊥ : EReal) := by
  unfold Ideal.ofBits Ideal.ieee
  dsimp only
  rw [if_pos (by decide), if_pos (by decide), if_pos (by decide)]

include H

theorem u_eq (i : Fin 8192) (n : ℕ) (hn : n < 4608) :
    u (ix2 i (⟨n, hn⟩ : Fin 4608)) = ((u (ix2 (⟨i.val % 8192, Nat.mod_lt _ (by decide)⟩ : Fin 8192) (⟨n % 4608, Nat.mod_lt _ (by decide)⟩ : Fin 4608)) : EReal).toReal : EReal) := by
  have e0 : (⟨i.val % 8192, Nat.mod_lt _ (by decide)⟩ : Fin 8192) = i := Fin.ext (Nat.mod_eq_of_lt i.isLt)
  have e1 : (⟨n % 4608, Nat.mod_lt _ (by decide)⟩ : Fin 4608) = ⟨n, hn⟩ := Fin.ext (Nat.mod_eq_of_lt hn)
  rw [e0, e1]
  exact coe_toReal_of (H.u _)

theorem qs_eq (i : Fin 8192) (h : Fin 4) (e : Fin 128) : qs u (ix3 i h e) = ((data u cum dy).Q h.val i.val e.val : EReal) := by
  rw [qs_apply]; exact u_eq H i _ _
theorem ks_eq (i : Fin 8192) (h : Fin 4) (e : Fin 128) : ks u (ix3 i h e) = ((data u cum dy).K h.val i.val e.val : EReal) := by
  rw [ks_apply]; exact u_eq H i _ _
theorem vs_eq (i : Fin 8192) (h : Fin 4) (e : Fin 128) : vs u (ix3 i h e) = ((data u cum dy).V h.val i.val e.val : EReal) := by
  rw [vs_apply]; exact u_eq H i _ _
theorem cum_eq (i : Fin 8192) (h : Fin 4) : cum (ix2 i h) = ((data u cum dy).C h.val i.val : EReal) := by
  show _ = ((cum (ix2 (⟨i.val % 8192, _⟩ : Fin 8192) (⟨h.val % 4, _⟩ : Fin 4)) : EReal).toReal : EReal)
  have e0 : (⟨i.val % 8192, Nat.mod_lt _ (by decide)⟩ : Fin 8192) = i := Fin.ext (Nat.mod_eq_of_lt i.isLt)
  have e1 : (⟨h.val % 4, Nat.mod_lt _ (by decide)⟩ : Fin 4) = h := Fin.ext (Nat.mod_eq_of_lt h.isLt)
  rw [e0, e1]
  exact coe_toReal_of (H.cum _)
theorem dy_eq (i : Fin 8192) (h : Fin 4) (e : Fin 128) :
    dy (ix2 i (⟨h.val * 128 + e.val, by omega⟩ : Fin 512)) = ((data u cum dy).D h.val i.val e.val : EReal) := by
  show _ = ((dy (ix2 (⟨i.val % 8192, _⟩ : Fin 8192) (⟨(h.val * 128 + e.val) % 512, _⟩ : Fin 512)) : EReal).toReal : EReal)
  have e0 : (⟨i.val % 8192, Nat.mod_lt _ (by decide)⟩ : Fin 8192) = i := Fin.ext (Nat.mod_eq_of_lt i.isLt)
  have e1 : (⟨(h.val * 128 + e.val) % 512, Nat.mod_lt _ (by decide)⟩ : Fin 512) = ⟨h.val * 128 + e.val, by omega⟩ := Fin.ext (Nat.mod_eq_of_lt (by omega))
  rw [e0, e1]
  exact coe_toReal_of (H.dy _)

theorem scores_eq (h : Fin 4) (i j : Fin 8192) : scores u cum (ix3 h i j) = (FoxModel.S (data u cum dy) h.val i.val j.val : EReal) := by
  rw [scores_apply, c0_eq (u := u) (cum := cum) (dy := dy),
    FoxModel.coe_mul_sum _ _ (fun e => (data u cum dy).Q h.val i.val e) (fun e => (data u cum dy).K h.val j.val e)
      (fun e => qs_eq H i h e) (fun e => ks_eq H j h e), cum_eq H, cum_eq H]
  rw [← EReal.coe_mul, ← EReal.coe_add, ← EReal.coe_sub]
  rfl

theorem masked_eq (h : Fin 4) (i j : Fin 8192) : masked u cum (ix3 h i j) =
    if j.val ≤ i.val then (FoxModel.S (data u cum dy) h.val i.val j.val : EReal) else ⊥ := by
  rw [masked_apply, scores_eq H, neg_inf]
  by_cases hm : j.val ≤ i.val
  · rw [if_pos hm, (mask_apply h i j).mpr hm]; rfl
  · rw [if_neg hm]
    have := (not_congr (mask_apply h i j)).mpr hm
    exact if_neg this

theorem tops_real (h : Fin 4) (i : Fin 8192) : ∃ r : ℝ, (tops u cum (ix2 h i) : EReal) = ↑r := by
  have e : (tops u cum (ix2 h i) : EReal) = Finset.fold max ⊥ (fun j : Fin 8192 => (masked u cum (ix3 h i j) : EReal)) Finset.univ := by
    rw [tops_apply, neg_inf]
  generalize (tops u cum (ix2 h i) : EReal) = x at e
  refine ⟨x.toReal, (EReal.coe_toReal ?_ ?_).symm⟩
  · rw [e]
    refine ne_of_lt ((Finset.fold_max_lt _).mpr ⟨bot_lt_top, fun j _ => ?_⟩)
    rw [masked_eq H]
    split
    · exact EReal.coe_lt_top _
    · exact bot_lt_top
  · rw [e]
    refine ne_of_gt ((Finset.lt_fold_max _).mpr (Or.inr ⟨i, Finset.mem_univ _, ?_⟩))
    rw [masked_eq H, if_pos le_rfl]
    exact EReal.bot_lt_coe _

theorem tops_eq (h : Fin 4) (i : Fin 8192) : tops u cum (ix2 h i) = ((data u cum dy).μ h.val i.val : EReal) := by
  have e0 : (⟨i.val % 8192, Nat.mod_lt _ (by decide)⟩ : Fin 8192) = i := Fin.ext (Nat.mod_eq_of_lt i.isLt)
  have e1 : (⟨h.val % 4, Nat.mod_lt _ (by decide)⟩ : Fin 4) = h := Fin.ext (Nat.mod_eq_of_lt h.isLt)
  dsimp only [data]
  rw [e0, e1]
  exact coe_toReal_of (tops_real H h i)

theorem exps_eq (μ : FVec Ideal S4x8192 .f32) (hμ : ∀ h i, μ (ix2 h i) = tops u cum (ix2 h i)) (h : Fin 4) (i j : Fin 8192) :
    exps u cum μ (ix3 h i j) = (FoxModel.E (data u cum dy) h.val i.val j.val : EReal) := by
  rw [exps_apply, masked_eq H, hμ, tops_eq H]
  unfold FoxModel.E
  split
  · rw [← EReal.coe_sub, Ideal.exp_coe]
  · rw [EReal.bot_sub]; rfl

theorem sums_eq (x : FVec Ideal S4x8192x8192 .f32) (h : Fin 4) (i : Fin 8192)
    (hx : ∀ j, x (ix3 h i j) = (FoxModel.E (data u cum dy) h.val i.val j.val : EReal)) :
    sums x (ix2 h i) = (FoxModel.L (data u cum dy) h.val i.val : EReal) := by
  rw [sums_apply]
  exact FoxModel.sum_fin _ (fun j => FoxModel.E (data u cum dy) h.val i.val j) hx

theorem probs_eq (x : FVec Ideal S4x8192x8192 .f32) (h : Fin 4) (i : Fin 8192)
    (hx : ∀ j, x (ix3 h i j) = (FoxModel.E (data u cum dy) h.val i.val j.val : EReal)) (j : Fin 8192) :
    probs x (ix3 h i j) = (FoxModel.P (data u cum dy) h.val i.val j.val : EReal) := by
  rw [probs_apply, sums_eq H x h i hx, hx, Ideal.div_coe (FoxModel.L_pos _ _ i.isLt).ne', ← EReal.coe_mul, mul_one_div]
  rfl

end Cert.FoxHost

end
-- ==== Proof.Finite.lean ====
/-
  The precondition read at the extended reals: every entry of the three arguments is a real number.
-/
module

public import proofs.«01_k».proof.Pre_finite
public import proofs.«01_k».proof.Proof.Fwd

@[expose] public section

set_option maxRecDepth 16384

noncomputable section

namespace Cert.FoxHost

open Idealize.ShloMosaic

instance facts_finite : Cert.Pre_finite.Facts where
  bcast_S_S8192x4608 := by decide
  bcast_S_S8192x4 := by decide
  bcast_S_S8192x512 := by decide

theorem real_of_abs_lt {x : EReal} (h : max x (-x) < ⊤) : ∃ r : ℝ, x = (r : EReal) := by
  have hp : x ≠ ⊤ := fun e => by simp [e] at h
  have hn : x ≠ ⊥ := fun e => by simp [e] at h
  exact ⟨x.toReal, (EReal.coe_toReal hp hn).symm⟩

theorem lt_of_cmp {x y : EReal} (h : Ideal.cmp .olt x y = 1#1) : x < y := by
  by_contra hn
  simp [Ideal.cmp, hn] at h

theorem inf_bf16 : Ideal.ofBits .bf16 0x7F80#16 = (⊤ : EReal) := by
  unfold Ideal.ofBits Ideal.ieee
  simp
theorem inf_f32 : Ideal.ofBits .f32 0x7F800000#32 = (⊤ : EReal) := by
  unfold Ideal.ofBits Ideal.ieee
  simp

theorem fin3_of {u : FVec Ideal Cert.Pre_finite.S8192x4608 .bf16} {cum : FVec Ideal Cert.Pre_finite.S8192x4 .f32} {dy : FVec Ideal Cert.Pre_finite.S8192x512 .bf16}
    (h : (Cert.Pre_finite.fn u cum dy).1 = (fun _ => 1#1) ∧ (Cert.Pre_finite.fn u cum dy).2.1 = (fun _ => 1#1) ∧ (Cert.Pre_finite.fn u cum dy).2.2 = (fun _ => 1#1)) :
    Fin3 u cum dy where
  u i := by
    have e : Ideal.cmp .olt (max (u i : EReal) (-(u i : EReal))) (Ideal.ofBits .bf16 0x7F80#16) = 1#1 := congrFun h.1 i
    rw [inf_bf16] at e
    exact real_of_abs_lt (lt_of_cmp e)
  cum i := by
    have e : Ideal.cmp .olt (max (cum i : EReal) (-(cum i : EReal))) (Ideal.ofBits .f32 0x7F800000#32) = 1#1 := congrFun h.2.1 i
    rw [inf_f32] at e
    exact real_of_abs_lt (lt_of_cmp e)
  dy i := by
    have e : Ideal.cmp .olt (max (dy i : EReal) (-(dy i : EReal))) (Ideal.ofBits .bf16 0x7F80#16) = 1#1 := congrFun h.2.2 i
    rw [inf_bf16] at e
    exact real_of_abs_lt (lt_of_cmp e)

end Cert.FoxHost

end
-- ==== Proof.LnBwdValue.lean ====
/-
  The backward pass of the layer norm: what the call leaves in its four results.
-/
module

public import proofs.«01_k».proof.Proof.Gen.LnBwdIdeal.Value
public import proofs.«01_k».proof.Proof.Gen.LnBwdRefIdeal.Run
public import proofs.«01_k».proof.Proof.Mm
public import proofs.«01_k».proof.Proof.Norm
public import proofs.«01_k».proof.Proof.Finite
public import proofs.«01_k».proof.Defs

@[expose] public section

set_option maxRecDepth 16384

noncomputable section

namespace Cert.LnBwdRefIdeal.Prod

open Idealize.ShloMosaic
open Cert.LnBwdRefIdeal Cert.LnBwdRefIdeal.Gen
open scoped BigOperators

/-! The reference's terms: the centred rows, the variance with its constant, the reciprocal deviation, -/

section terms

variable (h dy : FVec Ideal S8192x2048 .f32) (g : FVec Ideal S2048 .f32)

def cen : FVec Ideal S8192x2048 .f32 :=
  subf h (broadcastInDim S8192x2048 ![0, 1] bcast_S8192x1_S8192x2048_0_1 (Host.divf (broadcastInDim S8192x1 ![0] bcast_S8192_S8192x1_0 (Host.reduceAdd h (constant S_ .f32 0x00000000#32)
    reducesTo_S8192x2048_S8192_d1 h_S_)) (broadcastInDim S8192x1 ![] bcast_S_S8192x1 (constant S_ .f32 0x45000000#32))))
def vr : FVec Ideal S8192x1 .f32 :=
  addf (Host.divf (broadcastInDim S8192x1 ![0] bcast_S8192_S8192x1_0 (Host.reduceAdd (mulf (cen h) (cen h)) (constant S_ .f32 0x00000000#32)
    reducesTo_S8192x2048_S8192_d1 h_S_)) (broadcastInDim S8192x1 ![] bcast_S_S8192x1 (constant S_ .f32 0x45000000#32))) (broadcastInDim S8192x1 ![] bcast_S_S8192x1 (constant S_ .f32 0x3727C5AC#32))
def hat : FVec Ideal S8192x2048 .f32 := mulf (cen h) (broadcastInDim S8192x2048 ![0, 1] bcast_S8192x1_S8192x2048_0_1 (Host.rsqrt (vr h)))

/-- the gradient of the normalised rows, and its three ways to the argument: through the row, the variance and the mean. -/
def dhat : FVec Ideal S8192x2048 .f32 :=
  mulf (shapeCast _ dy shapeCasts_S8192x2048_S8192x2048) (broadcastInDim S8192x2048 ![0, 1] bcast_S1x2048_S8192x2048_0_1 (broadcastInDim S1x2048 ![1] bcast_S2048_S1x2048_1 g))
def d1 : FVec Ideal S8192x2048 .f32 := mulf (dhat dy g) (broadcastInDim S8192x2048 ![0, 1] bcast_S8192x1_S8192x2048_0_1 (Host.rsqrt (vr h)))
def dv : FVec Ideal S8192x1 .f32 :=
  Host.divf (mulf (shapeCast _ (Host.reduceAdd (mulf (cen h) (dhat dy g)) (constant S_ .f32 0x00000000#32) reducesTo_S8192x2048_S8192_d1 h_S_) shapeCasts_S8192_S8192x1)
    (mulf (broadcastInDim S8192x1 ![] bcast_S_S8192x1 (constant S_ .f32 0xBF000000#32)) (Host.divf (Host.rsqrt (vr h)) (vr h)))) (broadcastInDim S8192x1 ![] bcast_S_S8192x1 (constant S_ .f32 0x45000000#32))
def d2 : FVec Ideal S8192x2048 .f32 :=
  mulf (broadcastInDim S8192x2048 ![0] bcast_S8192_S8192x2048_0 (Host.reduceAdd (dv h dy g) (constant S_ .f32 0x00000000#32) reducesTo_S8192x1_S8192_d1 h_S_))
    (mulf (broadcastInDim S8192x2048 ![] bcast_S_S8192x2048 (constant S_ .f32 0x40000000#32)) (cen h))
def d3 : FVec Ideal S8192x1 .f32 :=
  Host.divf (addf (shapeCast _ (Host.reduceAdd (Host.negf (d1 h dy g)) (constant S_ .f32 0x00000000#32) reducesTo_S8192x2048_S8192_d1 h_S_) shapeCasts_S8192_S8192x1)
    (shapeCast _ (Host.reduceAdd (Host.negf (d2 h dy g)) (constant S_ .f32 0x00000000#32) reducesTo_S8192x2048_S8192_d1 h_S_) shapeCasts_S8192_S8192x1))
    (broadcastInDim S8192x1 ![] bcast_S_S8192x1 (constant S_ .f32 0x45000000#32))

/-- The four results. -/
def dh : FVec Ideal S8192x2048 .f32 :=
  addf (addf (d1 h dy g) (d2 h dy g)) (broadcastInDim S8192x2048 ![0] bcast_S8192_S8192x2048_0 (Host.reduceAdd (d3 h dy g) (constant S_ .f32 0x00000000#32) reducesTo_S8192x1_S8192_d1 h_S_))
def dhb : FVec Ideal S8192x2048 .bf16 := truncf .bf16 (dh h dy g) bitsLt_bf16_f32
def colsum (a : FVec Ideal S8192x2048 .f32) : FVec Ideal S1x2048 .f32 :=
  shapeCast _ (Host.reduceAdd (shapeCast _ (Host.reduceAdd a (constant S_ .f32 0x00000000#32) reducesTo_S8192x2048_S2048_d0 h_S_) shapeCasts_S2048_S1x2048) (constant S_ .f32 0x00000000#32)
    reducesTo_S1x2048_S2048_d0 h_S_) shapeCasts_S2048_S1x2048
def dg : FVec Ideal S1x2048 .f32 := colsum (mulf (hat h) (shapeCast _ dy shapeCasts_S8192x2048_S8192x2048))
def db : FVec Ideal S1x2048 .f32 := colsum dy

end terms

section entries

variable (h dy : FVec Ideal S8192x2048 .f32) (g : FVec Ideal S2048 .f32)

/-- A row of the argument, and of the gradient of the normalised rows. -/
def row (i : Fin 8192) (j : Fin 2048) : EReal := h (ix2 i j)
def grow (i : Fin 8192) (j : Fin 2048) : EReal := dy (ix2 i j) * g (ix1 j)

theorem cen_apply (i : Fin 8192) (j : Fin 2048) : (cen h (ix2 i j) : EReal) = Norm.ecen (row h i) j := by
  pointwise [cen, Norm.ecen, Norm.emean, row]

theorem vr_apply (i : Fin 8192) (u : Fin 1) : (vr h (ix2 i u) : EReal) = Norm.evar (row h i) := by
  have e : (vr h (ix2 i u) : EReal) = Ideal.div (∑ x : Fin 2048, (cen h (ix2 i x) : EReal) * cen h (ix2 i x)) (Ideal.ofBits .f32 0x45000000#32) + Ideal.ofBits .f32 0x3727C5AC#32 := by
    pointwise [vr]
  rw [e]
  simp only [cen_apply]
  rfl

theorem hat_apply (i : Fin 8192) (j : Fin 2048) : (hat h (ix2 i j) : EReal) = Norm.ehat (row h i) j := by
  have e : (hat h (ix2 i j) : EReal) = (cen h (ix2 i j) : EReal) * Ideal.rsqrt (vr h (ix2 i 0)) := by
    pointwise [hat]
  rw [e, cen_apply, vr_apply]
  rfl

theorem dhat_apply (i : Fin 8192) (j : Fin 2048) : (dhat dy g (ix2 i j) : EReal) = grow dy g i j := by
  pointwise [dhat, grow]

theorem d1_apply (i : Fin 8192) (j : Fin 2048) : (d1 h dy g (ix2 i j) : EReal) = Norm.erow (row h i) (grow dy g i) j := by
  have e : (d1 h dy g (ix2 i j) : EReal) = (dhat dy g (ix2 i j) : EReal) * Ideal.rsqrt (vr h (ix2 i 0)) := by
    pointwise [d1]
  rw [e, dhat_apply, vr_apply]
  rfl

theorem dv_apply (i : Fin 8192) (u : Fin 1) : (dv h dy g (ix2 i u) : EReal) = Norm.edvar (row h i) (grow dy g i) := by
  have e : (dv h dy g (ix2 i u) : EReal) = Ideal.div ((∑ x : Fin 2048, (cen h (ix2 i x) : EReal) * dhat dy g (ix2 i x)) *
      (Ideal.ofBits .f32 0xBF000000#32 * Ideal.div (Ideal.rsqrt (vr h (ix2 i 0))) (vr h (ix2 i 0)))) (Ideal.ofBits .f32 0x45000000#32) := by
    obtain rfl : u = 0 := Subsingleton.elim _ _
    pointwise [dv]
  rw [e]
  simp only [cen_apply, dhat_apply, vr_apply]
  rfl

theorem d2_apply (i : Fin 8192) (j : Fin 2048) : (d2 h dy g (ix2 i j) : EReal) = Norm.esq (row h i) (grow dy g i) j := by
  have e : (d2 h dy g (ix2 i j) : EReal) = (∑ x : Fin 1, (dv h dy g (ix2 i x) : EReal)) * (Ideal.ofBits .f32 0x40000000#32 * cen h (ix2 i j)) := by
    pointwise [d2]
  rw [e, Fin.sum_univ_one, dv_apply, cen_apply]
  rfl

theorem d3_apply (i : Fin 8192) (u : Fin 1) : (d3 h dy g (ix2 i u) : EReal) =
    Ideal.div ((∑ k, -Norm.erow (row h i) (grow dy g i) k) + ∑ k, -Norm.esq (row h i) (grow dy g i) k) (Ideal.ofBits .f32 0x45000000#32) := by
  have e : (d3 h dy g (ix2 i u) : EReal) = Ideal.div ((∑ x : Fin 2048, -(d1 h dy g (ix2 i x) : EReal)) + ∑ x : Fin 2048, -(d2 h dy g (ix2 i x) : EReal)) (Ideal.ofBits .f32 0x45000000#32) := by
    obtain rfl : u = 0 := Subsingleton.elim _ _
    pointwise [d3]
  rw [e]
  simp only [d1_apply, d2_apply]

theorem dh_apply (i : Fin 8192) (j : Fin 2048) : (dh h dy g (ix2 i j) : EReal) = Norm.echain (row h i) (grow dy g i) j := by
  have e : (dh h dy g (ix2 i j) : EReal) = (d1 h dy g (ix2 i j) : EReal) + d2 h dy g (ix2 i j) + ∑ x : Fin 1, (d3 h dy g (ix2 i x) : EReal) := by
    pointwise [dh]
  rw [e, Fin.sum_univ_one, d3_apply, d1_apply, d2_apply]
  rfl

theorem dhb_apply (i : Fin 8192) (j : Fin 2048) : (dhb h dy g (ix2 i j) : EReal) = dh h dy g (ix2 i j) := by
  pointwise [dhb]

theorem colsum_apply (a : FVec Ideal S8192x2048 .f32) (u : Fin 1) (j : Fin 2048) : (colsum a (ix2 u j) : EReal) = ∑ i : Fin 8192, (a (ix2 i j) : EReal) := by
  pointwise [colsum]
  exact Fin.sum_univ_one _

theorem dg_apply (u : Fin 1) (j : Fin 2048) : (dg h dy (ix2 u j) : EReal) = ∑ i : Fin 8192, Norm.ehat (row h i) j * dy (ix2 i j) := by
  unfold dg
  rw [colsum_apply]
  refine Finset.sum_congr (M := EReal) rfl fun i _ => ?_
  rw [← hat_apply]
  pointwise

end entries

/-! ## The precondition -/

/-- Every entry of the three arguments is a real number. -/
structure Real (h dy : FVec Ideal S8192x2048 .f32) (g : FVec Ideal S2048 .f32) : Prop where
  h : ∀ i, ∃ r : ℝ, (h i : EReal) = (r : EReal)
  dy : ∀ i, ∃ r : ℝ, (dy i : EReal) = (r : EReal)
  g : ∀ i, ∃ r : ℝ, (g i : EReal) = (r : EReal)

instance facts_finite : Cert.Pre_finite_rows.Facts where
  bcast_S_S8192x2048 := by decide
  bcast_S_S2048 := by decide

theorem real_of {h dy : FVec Ideal S8192x2048 .f32} {g : FVec Ideal S2048 .f32}
    (H : (Cert.Pre_finite_rows.fn h dy g).1 = (fun _ => 1#1) ∧ (Cert.Pre_finite_rows.fn h dy g).2.1 = (fun _ => 1#1) ∧ (Cert.Pre_finite_rows.fn h dy g).2.2 = (fun _ => 1#1)) : Real h dy g where
  h i := by
    have e : Ideal.cmp .olt (max (h i : EReal) (-(h i : EReal))) (Ideal.ofBits .f32 0x7F800000#32) = 1#1 := congrFun H.1 i
    rw [FoxHost.inf_f32] at e
    exact FoxHost.real_of_abs_lt (FoxHost.lt_of_cmp e)
  dy i := by
    have e : Ideal.cmp .olt (max (dy i : EReal) (-(dy i : EReal))) (Ideal.ofBits .f32 0x7F800000#32) = 1#1 := congrFun H.2.1 i
    rw [FoxHost.inf_f32] at e
    exact FoxHost.real_of_abs_lt (FoxHost.lt_of_cmp e)
  g i := by
    have e : Ideal.cmp .olt (max (g i : EReal) (-(g i : EReal))) (Ideal.ofBits .f32 0x7F800000#32) = 1#1 := congrFun H.2.2 i
    rw [FoxHost.inf_f32] at e
    exact FoxHost.real_of_abs_lt (FoxHost.lt_of_cmp e)

/-- On such arguments the reference's gradient is in the kernel's form. -/
theorem dh_grad {h dy : FVec Ideal S8192x2048 .f32} {g : FVec Ideal S2048 .f32} (H : Real h dy g) (i : Fin 8192) (j : Fin 2048) :
    (dh h dy g (ix2 i j) : EReal) = Norm.egrad (row h i) (grow dy g i) j := by
  rw [dh_apply]
  refine Norm.echain_eq _ _ (fun j => H.h _) (fun j => ?_) j
  obtain ⟨a, ha⟩ := H.dy (ix2 i j)
  obtain ⟨b, hb⟩ := H.g (ix1 j)
  exact ⟨a * b, by unfold grow; rw [ha, hb, EReal.coe_mul]⟩

end Cert.LnBwdRefIdeal.Prod

namespace Cert.LnBwdIdeal.Prod

open Idealize.ShloMosaic Idealize.ShloMosaic.TcCoe Idealize.SL.Sem
open Cert.LnBwdIdeal Cert.LnBwdIdeal.Gen
open scoped BigOperators

section cases

variable {F : FTy → Type} [FloatOps F]
variable (c : Dev nD) (i : grid0.Coords)
  (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S512x2048 .f32) (h4 : a4.IsWhole)
  (a5 : Memref sig .tc .vmem S512x2048 .bf16) (h5 : a5.IsWhole) (a6 : Memref sig .tc .vmem S1x2048 .f32) (h6 : a6.IsWhole)
  (a7 : Memref sig .tc .vmem S1x2048 .f32) (h7 : a7.IsWhole)
  (x y : Vec F S512x2048 .f32) (g s p : Vec F S1x2048 .f32)

/-- The first point leaves the four blocks its rows give, -/
theorem first3 (hc0 : cond0_0 i) (hc1 : ¬cond0_1 i) :
    out0_A_3 c i a1 h1 a2 h2 a3 h3 a4 h4 a5 h5 a6 h6 a7 h7 hc0 hc1 x y g = k0_pay8 x y g := by
  unfold out0_A_3
  rw [View.read_writes_eq_canon _ _ _ (cover0_A_3 c i a1 h1 a2 h2 a3 h3 a4 h4 a5 h5 a6 h6 a7 h7 hc0 hc1 x y g)]
  unfold kernelRun0_A
  dsimp only
  sl_unfold_words
  rw [View.canon_unit_zero Mm.hz]
  simp only [View.readAt_eq_ld, h1.read_unread, h2.read_unread, h3.read_unread, View.ld_unit_zero (S := S512x2048) Mm.hz, View.ld_unit_zero (S := S1x2048) Mm.hz]

theorem first4 (hc0 : cond0_0 i) (hc1 : ¬cond0_1 i) :
    out0_A_4 c i a1 h1 a2 h2 a3 h3 a4 h4 a5 h5 a6 h6 a7 h7 hc0 hc1 x y g = k0_pay9 x y g := by
  unfold out0_A_4
  rw [View.read_writes_eq_canon _ _ _ (cover0_A_4 c i a1 h1 a2 h2 a3 h3 a4 h4 a5 h5 a6 h6 a7 h7 hc0 hc1 x y g)]
  unfold kernelRun0_A
  dsimp only
  sl_unfold_words
  rw [View.canon_unit_zero Mm.hz]
  simp only [View.readAt_eq_ld, h1.read_unread, h2.read_unread, h3.read_unread, View.ld_unit_zero (S := S512x2048) Mm.hz, View.ld_unit_zero (S := S1x2048) Mm.hz]

theorem first5 (hc0 : cond0_0 i) (hc1 : ¬cond0_1 i) :
    out0_A_5 c i a1 h1 a2 h2 a3 h3 a4 h4 a5 h5 a6 h6 a7 h7 hc0 hc1 x y g = k0_pay1 y (k0_pay7 x) := by
  unfold out0_A_5
  rw [View.read_writes_eq_canon _ _ _ (cover0_A_5 c i a1 h1 a2 h2 a3 h3 a4 h4 a5 h5 a6 h6 a7 h7 hc0 hc1 x y g)]
  unfold kernelRun0_A
  dsimp only
  sl_unfold_words
  rw [View.canon_unit_zero Mm.hz]
  simp only [View.readAt_eq_ld, h1.read_unread, h2.read_unread, View.ld_unit_zero (S := S512x2048) Mm.hz]

theorem first6 (hc0 : cond0_0 i) (hc1 : ¬cond0_1 i) :
    out0_A_6 c i a1 h1 a2 h2 a3 h3 a4 h4 a5 h5 a6 h6 a7 h7 hc0 hc1 x y g = k0_pay2 y := by
  unfold out0_A_6
  rw [View.read_writes_eq_canon _ _ _ (cover0_A_6 c i a1 h1 a2 h2 a3 h3 a4 h4 a5 h5 a6 h6 a7 h7 hc0 hc1 x y g)]
  unfold kernelRun0_A
  dsimp only
  sl_unfold_words
  rw [View.canon_unit_zero Mm.hz]
  simp only [View.readAt_eq_ld, h2.read_unread, View.ld_unit_zero (S := S512x2048) Mm.hz]

/-- and the others too, but that they add theirs to the last two that were there. -/
theorem next3 (hc0 : ¬cond0_0 i) (hc1 : cond0_1 i) :
    out0_B_3 c i a1 h1 a2 h2 a3 h3 a4 h4 a5 h5 a6 h6 a7 h7 hc0 hc1 x y g s p = k0_pay8 x y g := by
  unfold out0_B_3
  rw [View.read_writes_eq_canon _ _ _ (cover0_B_3 c i a1 h1 a2 h2 a3 h3 a4 h4 a5 h5 a6 h6 a7 h7 hc0 hc1 x y g s p)]
  unfold kernelRun0_B
  dsimp only
  sl_unfold_words
  rw [View.canon_unit_zero Mm.hz]
  simp only [View.readAt_eq_ld, h1.read_unread, h2.read_unread, h3.read_unread, View.ld_unit_zero (S := S512x2048) Mm.hz, View.ld_unit_zero (S := S1x2048) Mm.hz]

theorem next4 (hc0 : ¬cond0_0 i) (hc1 : cond0_1 i) :
    out0_B_4 c i a1 h1 a2 h2 a3 h3 a4 h4 a5 h5 a6 h6 a7 h7 hc0 hc1 x y g s p = k0_pay9 x y g := by
  unfold out0_B_4
  rw [View.read_writes_eq_canon _ _ _ (cover0_B_4 c i a1 h1 a2 h2 a3 h3 a4 h4 a5 h5 a6 h6 a7 h7 hc0 hc1 x y g s p)]
  unfold kernelRun0_B
  dsimp only
  sl_unfold_words
  rw [View.canon_unit_zero Mm.hz]
  simp only [View.readAt_eq_ld, h1.read_unread, h2.read_unread, h3.read_unread, View.ld_unit_zero (S := S512x2048) Mm.hz, View.ld_unit_zero (S := S1x2048) Mm.hz]

theorem next5 (hc0 : ¬cond0_0 i) (hc1 : cond0_1 i) :
    out0_B_5 c i a1 h1 a2 h2 a3 h3 a4 h4 a5 h5 a6 h6 a7 h7 hc0 hc1 x y g s p = addf s (k0_pay1 y (k0_pay7 x)) := by
  unfold out0_B_5
  rw [View.read_writes_eq_canon _ _ _ (cover0_B_5 c i a1 h1 a2 h2 a3 h3 a4 h4 a5 h5 a6 h6 a7 h7 hc0 hc1 x y g s p)]
  unfold kernelRun0_B
  dsimp only
  sl_unfold_words
  rw [View.canon_unit_zero Mm.hz]
  unfold k0_pay3
  simp only [View.readAt_eq_ld, h1.read_unread, h2.read_unread, h6.read_unread, View.ld_unit_zero (S := S512x2048) Mm.hz, View.ld_unit_zero (S := S1x2048) Mm.hz, shapeCast_self]

theorem next6 (hc0 : ¬cond0_0 i) (hc1 : cond0_1 i) :
    out0_B_6 c i a1 h1 a2 h2 a3 h3 a4 h4 a5 h5 a6 h6 a7 h7 hc0 hc1 x y g s p = addf p (k0_pay2 y) := by
  unfold out0_B_6
  rw [View.read_writes_eq_canon _ _ _ (cover0_B_6 c i a1 h1 a2 h2 a3 h3 a4 h4 a5 h5 a6 h6 a7 h7 hc0 hc1 x y g s p)]
  unfold kernelRun0_B
  dsimp only
  sl_unfold_words
  rw [View.canon_unit_zero Mm.hz]
  unfold k0_pay4
  simp only [View.readAt_eq_ld, h2.read_unread, h7.read_unread, View.ld_unit_zero (S := S512x2048) Mm.hz, View.ld_unit_zero (S := S1x2048) Mm.hz, shapeCast_self]

end cases

/-! The kernel's terms, by the rows of their blocks. -/

section payloads

variable (x y : Vec Ideal S512x2048 .f32) (g : Vec Ideal S1x2048 .f32)

def brow (r : Fin 512) (n : Fin 2048) : EReal := x (ix2 r n)

theorem pay5_apply (r : Fin 512) (n : Fin 2048) : (k0_pay5 x (ix2 r n) : EReal) = Norm.ecen (brow x r) n := by
  pointwise [k0_pay5, Norm.ecen, Norm.emean, brow]

theorem pay6_apply (r : Fin 512) (u : Fin 1) : (k0_pay6 x (ix2 r u) : EReal) = Ideal.rsqrt (Norm.evar (brow x r)) := by
  have e : (k0_pay6 x (ix2 r u) : EReal) = Ideal.rsqrt (Ideal.div (∑ k : Fin 2048, (k0_pay5 x (ix2 r k) : EReal) * k0_pay5 x (ix2 r k)) (Ideal.ofBits .f32 0x45000000#32) + Ideal.ofBits .f32 0x3727C5AC#32) := by
    pointwise [k0_pay6]
  rw [e]
  simp only [pay5_apply]
  rfl

theorem pay7_apply (r : Fin 512) (n : Fin 2048) : (k0_pay7 x (ix2 r n) : EReal) = Norm.ehat (brow x r) n := by
  have e : (k0_pay7 x (ix2 r n) : EReal) = (k0_pay5 x (ix2 r n) : EReal) * k0_pay6 x (ix2 r 0) := by
    pointwise [k0_pay7]
  rw [e, pay5_apply, pay6_apply]
  rfl

theorem pay8_apply (r : Fin 512) (n : Fin 2048) : (k0_pay8 x y g (ix2 r n) : EReal) = Norm.egrad (brow x r) (fun k => (y (ix2 r k) : EReal) * g (ix2 0 k)) n := by
  have e : (k0_pay8 x y g (ix2 r n) : EReal) = (k0_pay6 x (ix2 r 0) : EReal) * ((y (ix2 r n) : EReal) * g (ix2 0 n) - Ideal.div (∑ k : Fin 2048, (y (ix2 r k) : EReal) * g (ix2 0 k)) (Ideal.ofBits .f32 0x45000000#32) -
      (k0_pay7 x (ix2 r n) : EReal) * Ideal.div (∑ k : Fin 2048, (y (ix2 r k) : EReal) * g (ix2 0 k) * k0_pay7 x (ix2 r k)) (Ideal.ofBits .f32 0x45000000#32)) := by
    pointwise [k0_pay8]
  rw [e]
  simp only [pay6_apply, pay7_apply]
  rfl

theorem pay9_apply (r : Fin 512) (n : Fin 2048) : (k0_pay9 x y g (ix2 r n) : EReal) = k0_pay8 x y g (ix2 r n) := by
  pointwise [k0_pay9]

theorem pay1_apply (v : Vec Ideal S512x2048 .f32) (u : Fin 1) (n : Fin 2048) : (k0_pay1 y v (ix2 u n) : EReal) = ∑ r : Fin 512, (y (ix2 r n) : EReal) * v (ix2 r n) := by
  pointwise [k0_pay1]

theorem pay2_apply (u : Fin 1) (n : Fin 2048) : (k0_pay2 y (ix2 u n) : EReal) = ∑ r : Fin 512, (y (ix2 r n) : EReal) := by
  pointwise [k0_pay2]

end payloads

variable (m : (ℓ : Loc nD τ sig) → Buf (Elt Ideal) ℓ) (c : Dev nD)

theorem at0 : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![0, 0] ∧ win0_6.index t = ![0, 0] :=
  (by decide +kernel : ∀ t : Fin grid0.N, _)

/-- The arguments. -/
abbrev h : FVec Ideal S8192x2048 .f32 := m ((c.tc : Thread nD τ).loc main_arg0)
abbrev dy : FVec Ideal S8192x2048 .f32 := m ((c.tc : Thread nD τ).loc main_arg1)
abbrev g : FVec Ideal S2048 .f32 := m ((c.tc : Thread nD τ).loc main_arg2)

/-- The blocks a point reads. -/
abbrev bx (t : Fin cfg0.N) : Vec Ideal S512x2048 .f32 := iblk m c 0 t
abbrev by' (t : Fin cfg0.N) : Vec Ideal S512x2048 .f32 := iblk m c 1 t
abbrev bg (t : Fin cfg0.N) : Vec Ideal S1x2048 .f32 := iblk m c 2 t

theorem bx_apply (t : Fin cfg0.N) (r : Fin 512) (n : Fin 2048) (i : Fin 8192) (hi : i.val = 512 * t.val + r.val) : bx m c t (ix2 r n) = h m c (ix2 i n) := by
  unfold bx iblk
  rw [View.read_apply]
  refine (congrFun (V_main_arg0 m c) _).trans (congrArg (h m c) (funext fun a => Fin.ext ?_))
  match a with
  | ⟨0, _⟩ => show win0_0.index t 0 * 512 + 1 * r.val = i.val; rw [(at0 t).1, hi]; show t.val * 512 + 1 * r.val = _; omega
  | ⟨1, _⟩ => show win0_0.index t 1 * 2048 + 1 * n.val = n.val; rw [(at0 t).1]; show 0 * 2048 + 1 * n.val = _; omega

theorem by_apply (t : Fin cfg0.N) (r : Fin 512) (n : Fin 2048) (i : Fin 8192) (hi : i.val = 512 * t.val + r.val) : by' m c t (ix2 r n) = dy m c (ix2 i n) := by
  unfold by' iblk
  rw [View.read_apply]
  refine (congrFun (V_main_arg1 m c) _).trans (congrArg (dy m c) (funext fun a => Fin.ext ?_))
  match a with
  | ⟨0, _⟩ => show win0_1.index t 0 * 512 + 1 * r.val = i.val; rw [(at0 t).2.1, hi]; show t.val * 512 + 1 * r.val = _; omega
  | ⟨1, _⟩ => show win0_1.index t 1 * 2048 + 1 * n.val = n.val; rw [(at0 t).2.1]; show 0 * 2048 + 1 * n.val = _; omega

theorem V_main_v0 : (V m c main_v0 : FVec Ideal S1x2048 .f32) = shapeCast _ (g m c) shapeCasts_S2048_S1x2048 := by
  unfold V
  after_results <;> rfl

theorem bg_apply (t : Fin cfg0.N) (n : Fin 2048) : (bg m c t (ix2 0 n) : EReal) = g m c (ix1 n) := by
  have e : bg m c t (ix2 0 n) = (V m c main_v0 : FVec Ideal S1x2048 .f32) (ix2 0 n) := by
    unfold bg iblk
    rw [View.read_apply]
    refine congrArg (V m c main_v0 : FVec Ideal S1x2048 .f32) (funext fun a => Fin.ext ?_)
    match a with
    | ⟨0, _⟩ => show win0_2.index t 0 * 1 + 1 * 0 = 0; rw [(at0 t).2.2.1]; rfl
    | ⟨1, _⟩ => show win0_2.index t 1 * 2048 + 1 * n.val = n.val; rw [(at0 t).2.2.1]; show 0 * 2048 + 1 * n.val = _; omega
  rw [e, V_main_v0]
  pointwise

theorem brow_eq (t : Fin cfg0.N) (r : Fin 512) (i : Fin 8192) (hi : i.val = 512 * t.val + r.val) : brow (bx m c t) r = Cert.LnBwdRefIdeal.Prod.row (h m c) i :=
  funext fun n => bx_apply m c t r n i hi

/-- The gradient's block of a point, -/
theorem pay8_eq (H : Cert.LnBwdRefIdeal.Prod.Real (h m c) (dy m c) (g m c)) (t : Fin cfg0.N) (r : Fin 512) (n : Fin 2048) (i : Fin 8192) (hi : i.val = 512 * t.val + r.val) :
    (k0_pay8 (bx m c t) (by' m c t) (bg m c t) (ix2 r n) : EReal) = Cert.LnBwdRefIdeal.Prod.dh (h m c) (dy m c) (g m c) (ix2 i n) := by
  rw [pay8_apply, Cert.LnBwdRefIdeal.Prod.dh_grad H, brow_eq m c t r i hi]
  refine congrArg (Norm.egrad _ · n) (funext fun k => ?_)
  rw [by_apply m c t r k i hi, bg_apply]
  rfl

/-- what a point leaves in its blocks of the first two results, -/
theorem outs3 (t : Fin cfg0.N) : (outsAt0 m c t.val t.isLt).1 = k0_pay8 (bx m c t) (by' m c t) (bg m c t) := by
  have hN : t.val < 16 := lt_of_lt_of_eq t.isLt N_0
  by_cases h : t.val % 16 = 0
  · rw [outsAt0_A m c t h (by omega)]
    dsimp only
    rw [first3]
  · rw [outsAt0_B m c t h (by omega)]
    dsimp only
    rw [next3]

theorem outs4 (t : Fin cfg0.N) : (outsAt0 m c t.val t.isLt).2.1 = k0_pay9 (bx m c t) (by' m c t) (bg m c t) := by
  have hN : t.val < 16 := lt_of_lt_of_eq t.isLt N_0
  by_cases h : t.val % 16 = 0
  · rw [outsAt0_A m c t h (by omega)]
    dsimp only
    rw [first4]
  · rw [outsAt0_B m c t h (by omega)]
    dsimp only
    rw [next4]

/-- and what a point adds to the last two. -/
def termG (n : Fin 2048) (i : Fin 8192) : EReal := Norm.ehat (Cert.LnBwdRefIdeal.Prod.row (h m c) i) n * dy m c (ix2 i n)
def termB (n : Fin 2048) (i : Fin 8192) : EReal := dy m c (ix2 i n)

theorem partG (t : Fin cfg0.N) (u : Fin 1) (n : Fin 2048) : (k0_pay1 (by' m c t) (k0_pay7 (bx m c t)) (ix2 u n) : EReal) = Mm.part (termG m c n) 512 t.val := by
  have hN : t.val < 16 := lt_of_lt_of_eq t.isLt N_0
  rw [pay1_apply]
  refine Mm.part_eq _ _ (by omega) fun k => ?_
  rw [pay7_apply, brow_eq m c t k ⟨512 * t.val + k.val, by omega⟩ rfl, by_apply m c t k n ⟨512 * t.val + k.val, by omega⟩ rfl]
  exact EReal.mul_comm _ _

theorem partB (t : Fin cfg0.N) (u : Fin 1) (n : Fin 2048) : (k0_pay2 (by' m c t) (ix2 u n) : EReal) = Mm.part (termB m c n) 512 t.val := by
  have hN : t.val < 16 := lt_of_lt_of_eq t.isLt N_0
  rw [pay2_apply]
  refine Mm.part_eq _ _ (by omega) fun k => ?_
  exact by_apply m c t k n ⟨512 * t.val + k.val, by omega⟩ rfl

theorem blockG (t : Fin cfg0.N) (ht : t.val % 16 = 15) (u : Fin 1) (n : Fin 2048) : ((outsAt0 m c t.val t.isLt).2.2.1 (ix2 u n) : EReal) = ∑ i : Fin 8192, termG m c n i := by
  refine Mm.out_eq (termG m c n) (N := cfg0.N) (B := 512) (K := 16) rfl (by omega) (fun n' h => (outsAt0 m c n' h).2.2.1 (ix2 u n))
    (fun n' h => (outsAt0 m c n' h).2.2.1 (ix2 u n)) (t.val / 16) ?_ ?_ ?_ t.val t.isLt rfl (by omega)
  · intro q h hq h0
    have hN : q < 16 := lt_of_lt_of_eq h N_0
    rw [outsAt0_A m c ⟨q, h⟩ h0 (by dsimp only; omega)]
    dsimp only
    rw [first5, Nat.mod_eq_of_lt hN]
    exact partG m c ⟨q, h⟩ u n
  · intro q h hq h0 _
    have hN : q + 1 < 16 := lt_of_lt_of_eq h N_0
    rw [outsAt0_B m c ⟨q + 1, h⟩ h0 (by dsimp only; omega)]
    dsimp only
    rw [next5, Nat.mod_eq_of_lt hN]
    exact congrArg _ (partG m c ⟨q + 1, h⟩ u n)
  · intro q h hq hl
    have hN : q + 1 < 16 := lt_of_lt_of_eq h N_0
    rw [outsAt0_B m c ⟨q + 1, h⟩ (by dsimp only; omega) (by dsimp only; omega)]
    dsimp only
    rw [next5, Nat.mod_eq_of_lt hN]
    exact congrArg _ (partG m c ⟨q + 1, h⟩ u n)

theorem blockB (t : Fin cfg0.N) (ht : t.val % 16 = 15) (u : Fin 1) (n : Fin 2048) : ((outsAt0 m c t.val t.isLt).2.2.2 (ix2 u n) : EReal) = ∑ i : Fin 8192, termB m c n i := by
  refine Mm.out_eq (termB m c n) (N := cfg0.N) (B := 512) (K := 16) rfl (by omega) (fun n' h => (outsAt0 m c n' h).2.2.2 (ix2 u n))
    (fun n' h => (outsAt0 m c n' h).2.2.2 (ix2 u n)) (t.val / 16) ?_ ?_ ?_ t.val t.isLt rfl (by omega)
  · intro q h hq h0
    have hN : q < 16 := lt_of_lt_of_eq h N_0
    rw [outsAt0_A m c ⟨q, h⟩ h0 (by dsimp only; omega)]
    dsimp only
    rw [first6, Nat.mod_eq_of_lt hN]
    exact partB m c ⟨q, h⟩ u n
  · intro q h hq h0 _
    have hN : q + 1 < 16 := lt_of_lt_of_eq h N_0
    rw [outsAt0_B m c ⟨q + 1, h⟩ h0 (by dsimp only; omega)]
    dsimp only
    rw [next6, Nat.mod_eq_of_lt hN]
    exact congrArg _ (partB m c ⟨q + 1, h⟩ u n)
  · intro q h hq hl
    have hN : q + 1 < 16 := lt_of_lt_of_eq h N_0
    rw [outsAt0_B m c ⟨q + 1, h⟩ (by dsimp only; omega) (by dsimp only; omega)]
    dsimp only
    rw [next6, Nat.mod_eq_of_lt hN]
    exact congrArg _ (partB m c ⟨q + 1, h⟩ u n)

/-- What a point writes back is its block of the reference's results, -/
theorem flushed_dh (H : Cert.LnBwdRefIdeal.Prod.Real (h m c) (dy m c) (g m c)) (t : Fin cfg0.N) :
    (dats m 0 c).flushed 3 t = ((cfg0.win 3).blk t).view.read (Elt Ideal) (Cert.LnBwdRefIdeal.Prod.dh (h m c) (dy m c) (g m c)) := by
  have hN : t.val < 16 := lt_of_lt_of_eq t.isLt N_0
  rw [Value.flushed3, outs3]
  funext y
  obtain ⟨r, n, rfl⟩ := Mm.at2 (a := 512) (b := 2048) y
  have he : ((cfg0.win 3).blk t).view.emb (ix2 r n) = (ix2 (⟨512 * t.val + r.val, by omega⟩ : Fin 8192) n) := by
    funext a
    apply Fin.ext
    match a with
    | ⟨0, _⟩ => show win0_3.index t 0 * 512 + 1 * r.val = _; rw [(at0 t).2.2.2.1]; show t.val * 512 + 1 * r.val = 512 * t.val + r.val; omega
    | ⟨1, _⟩ => show win0_3.index t 1 * 2048 + 1 * n.val = _; rw [(at0 t).2.2.2.1]; show 0 * 2048 + 1 * n.val = n.val; omega
  show k0_pay8 (bx m c t) (by' m c t) (bg m c t) (ix2 r n) = Cert.LnBwdRefIdeal.Prod.dh (h m c) (dy m c) (g m c) (((cfg0.win 3).blk t).view.emb (ix2 r n))
  rw [he]
  exact pay8_eq m c H t r n _ rfl

theorem flushed_dhb (H : Cert.LnBwdRefIdeal.Prod.Real (h m c) (dy m c) (g m c)) (t : Fin cfg0.N) :
    (dats m 0 c).flushed 4 t = ((cfg0.win 4).blk t).view.read (Elt Ideal) (Cert.LnBwdRefIdeal.Prod.dhb (h m c) (dy m c) (g m c)) := by
  have hN : t.val < 16 := lt_of_lt_of_eq t.isLt N_0
  rw [Value.flushed4, outs4]
  funext y
  obtain ⟨r, n, rfl⟩ := Mm.at2 (a := 512) (b := 2048) y
  have he : ((cfg0.win 4).blk t).view.emb (ix2 r n) = (ix2 (⟨512 * t.val + r.val, by omega⟩ : Fin 8192) n) := by
    funext a
    apply Fin.ext
    match a with
    | ⟨0, _⟩ => show win0_4.index t 0 * 512 + 1 * r.val = _; rw [(at0 t).2.2.2.2.1]; show t.val * 512 + 1 * r.val = 512 * t.val + r.val; omega
    | ⟨1, _⟩ => show win0_4.index t 1 * 2048 + 1 * n.val = _; rw [(at0 t).2.2.2.2.1]; show 0 * 2048 + 1 * n.val = n.val; omega
  show k0_pay9 (bx m c t) (by' m c t) (bg m c t) (ix2 r n) = Cert.LnBwdRefIdeal.Prod.dhb (h m c) (dy m c) (g m c) (((cfg0.win 4).blk t).view.emb (ix2 r n))
  rw [he, pay9_apply, Cert.LnBwdRefIdeal.Prod.dhb_apply]
  exact pay8_eq m c H t r n _ rfl

theorem emb5 (t : Fin cfg0.N) (u : Fin 1) (n : Fin 2048) : ((cfg0.win 5).blk t).view.emb (ix2 u n) = (ix2 u n : S1x2048.Idx) := by
  funext a
  apply Fin.ext
  match a with
  | ⟨0, _⟩ => show win0_5.index t 0 * 1 + 1 * u.val = _; rw [(at0 t).2.2.2.2.2.1]; show 0 * 1 + 1 * u.val = u.val; omega
  | ⟨1, _⟩ => show win0_5.index t 1 * 2048 + 1 * n.val = _; rw [(at0 t).2.2.2.2.2.1]; show 0 * 2048 + 1 * n.val = n.val; omega

theorem emb6 (t : Fin cfg0.N) (u : Fin 1) (n : Fin 2048) : ((cfg0.win 6).blk t).view.emb (ix2 u n) = (ix2 u n : S1x2048.Idx) := by
  funext a
  apply Fin.ext
  match a with
  | ⟨0, _⟩ => show win0_6.index t 0 * 1 + 1 * u.val = _; rw [(at0 t).2.2.2.2.2.2]; show 0 * 1 + 1 * u.val = u.val; omega
  | ⟨1, _⟩ => show win0_6.index t 1 * 2048 + 1 * n.val = _; rw [(at0 t).2.2.2.2.2.2]; show 0 * 2048 + 1 * n.val = n.val; omega

theorem flushed_dg (t : Fin cfg0.N) (hf : (cfg0.win 5).flush t = true) :
    (dats m 0 c).flushed 5 t = ((cfg0.win 5).blk t).view.read (Elt Ideal) (Cert.LnBwdRefIdeal.Prod.dg (h m c) (dy m c)) := by
  rw [Value.flushed5]
  funext y
  obtain ⟨u, n, rfl⟩ := Mm.at2 (a := 1) (b := 2048) y
  show (outsAt0 m c t.val t.isLt).2.2.1 (ix2 u n) = Cert.LnBwdRefIdeal.Prod.dg (h m c) (dy m c) (((cfg0.win 5).blk t).view.emb (ix2 u n))
  rw [emb5, Cert.LnBwdRefIdeal.Prod.dg_apply]
  exact blockG m c t ((flush0_5 t).mp hf) u n

theorem flushed_db (t : Fin cfg0.N) (hf : (cfg0.win 6).flush t = true) :
    (dats m 0 c).flushed 6 t = ((cfg0.win 6).blk t).view.read (Elt Ideal) (Cert.LnBwdRefIdeal.Prod.db (dy m c)) := by
  rw [Value.flushed6]
  funext y
  obtain ⟨u, n, rfl⟩ := Mm.at2 (a := 1) (b := 2048) y
  show (outsAt0 m c t.val t.isLt).2.2.2 (ix2 u n) = Cert.LnBwdRefIdeal.Prod.db (dy m c) (((cfg0.win 6).blk t).view.emb (ix2 u n))
  rw [emb6]
  exact (blockB m c t ((flush0_6 t).mp hf) u n).trans (Cert.LnBwdRefIdeal.Prod.colsum_apply (dy m c) u n).symm

/-- and the points between them write every entry of each. -/
theorem covered_dh (i : S8192x2048.Idx) : ∃ t : Fin cfg0.N, (cfg0.win 3).flush t = true ∧ i ∈ ((cfg0.win 3).blk t).view.set := by
  obtain ⟨q, n, rfl⟩ := Mm.at2 i
  refine ⟨⟨q.val / 512, lt_of_lt_of_eq (by omega) N_0.symm⟩, flush0_3 _, ?_⟩
  show _ ∈ ((View.whole main_v1_0).slice (win0_3.rect _)).set
  rw [View.set_slice_whole, Rect.mem_set_unit]
  intro a
  match a with
  | ⟨0, _⟩ => show win0_3.index _ 0 * 512 ≤ q.val ∧ q.val < win0_3.index _ 0 * 512 + 512; rw [(at0 _).2.2.2.1]; dsimp only [Matrix.cons_val]; omega
  | ⟨1, _⟩ => show win0_3.index _ 1 * 2048 ≤ n.val ∧ n.val < win0_3.index _ 1 * 2048 + 2048; rw [(at0 _).2.2.2.1]; dsimp only [Matrix.cons_val]; omega

theorem covered_dhb (i : S8192x2048.Idx) : ∃ t : Fin cfg0.N, (cfg0.win 4).flush t = true ∧ i ∈ ((cfg0.win 4).blk t).view.set := by
  obtain ⟨q, n, rfl⟩ := Mm.at2 i
  refine ⟨⟨q.val / 512, lt_of_lt_of_eq (by omega) N_0.symm⟩, flush0_4 _, ?_⟩
  show _ ∈ ((View.whole main_v1_1).slice (win0_4.rect _)).set
  rw [View.set_slice_whole, Rect.mem_set_unit]
  intro a
  match a with
  | ⟨0, _⟩ => show win0_4.index _ 0 * 512 ≤ q.val ∧ q.val < win0_4.index _ 0 * 512 + 512; rw [(at0 _).2.2.2.2.1]; dsimp only [Matrix.cons_val]; omega
  | ⟨1, _⟩ => show win0_4.index _ 1 * 2048 ≤ n.val ∧ n.val < win0_4.index _ 1 * 2048 + 2048; rw [(at0 _).2.2.2.2.1]; dsimp only [Matrix.cons_val]; omega

theorem covered_dg (i : S1x2048.Idx) : ∃ t : Fin cfg0.N, (cfg0.win 5).flush t = true ∧ i ∈ ((cfg0.win 5).blk t).view.set := by
  obtain ⟨u, n, rfl⟩ := Mm.at2 i
  refine ⟨⟨15, lt_of_lt_of_eq (by omega) N_0.symm⟩, (flush0_5 _).mpr (by dsimp only), ?_⟩
  show _ ∈ ((View.whole main_v1_2).slice (win0_5.rect _)).set
  rw [View.set_slice_whole, Rect.mem_set_unit]
  intro a
  match a with
  | ⟨0, _⟩ => show win0_5.index _ 0 * 1 ≤ u.val ∧ u.val < win0_5.index _ 0 * 1 + 1; rw [(at0 _).2.2.2.2.2.1]; dsimp only [Matrix.cons_val]; omega
  | ⟨1, _⟩ => show win0_5.index _ 1 * 2048 ≤ n.val ∧ n.val < win0_5.index _ 1 * 2048 + 2048; rw [(at0 _).2.2.2.2.2.1]; dsimp only [Matrix.cons_val]; omega

theorem covered_db (i : S1x2048.Idx) : ∃ t : Fin cfg0.N, (cfg0.win 6).flush t = true ∧ i ∈ ((cfg0.win 6).blk t).view.set := by
  obtain ⟨u, n, rfl⟩ := Mm.at2 i
  refine ⟨⟨15, lt_of_lt_of_eq (by omega) N_0.symm⟩, (flush0_6 _).mpr (by dsimp only), ?_⟩
  show _ ∈ ((View.whole main_v1_3).slice (win0_6.rect _)).set
  rw [View.set_slice_whole, Rect.mem_set_unit]
  intro a
  match a with
  | ⟨0, _⟩ => show win0_6.index _ 0 * 1 ≤ u.val ∧ u.val < win0_6.index _ 0 * 1 + 1; rw [(at0 _).2.2.2.2.2.2]; dsimp only [Matrix.cons_val]; omega
  | ⟨1, _⟩ => show win0_6.index _ 1 * 2048 ≤ n.val ∧ n.val < win0_6.index _ 1 * 2048 + 2048; rw [(at0 _).2.2.2.2.2.2]; dsimp only [Matrix.cons_val]; omega

/-- The result arrays after the run are the reference's. -/
theorem value : Cert.algebraic_LnBwdIdeal_LnBwdRefIdeal_pre_finite_rows := fun m g m' g' hp ha => by
  have H := fun c => Cert.LnBwdRefIdeal.Prod.real_of (hp c)
  refine ⟨fun c => (dats m 0 c).arrAt 3 cfg0.N, fun c => (dats m 0 c).arrAt 4 cfg0.N, fun c => (dats m 0 c).arrAt 5 cfg0.N, fun c => (dats m 0 c).arrAt 6 cfg0.N, Value.run_blocks m g,
    (θ_run Cert.LnBwdRefIdeal.defs _ _).mono (fun r h c => ?_) (Cert.LnBwdRefIdeal.Value.run m' g')⟩
  obtain ⟨a0, a1, a2⟩ := ha c
  obtain ⟨h0, h1, h2, h3, hargs⟩ := h c
  refine ⟨h0.trans ?_, h1.trans ?_, h2.trans ?_, h3.trans ?_, hargs⟩
  · unfold Cert.LnBwdRefIdeal.Value.res_main_v63
    rw [a0, a1, a2]
    exact ((dats m 0 c).arrAt_eq_of_cover 3 _ (fun t _ => flushed_dh m c (H c) t) covered_dh).symm
  · unfold Cert.LnBwdRefIdeal.Value.res_main_v64
    rw [a0, a1, a2]
    exact ((dats m 0 c).arrAt_eq_of_cover 4 _ (fun t _ => flushed_dhb m c (H c) t) covered_dhb).symm
  · rw [a0, a1]
    exact ((dats m 0 c).arrAt_eq_of_cover 5 _ (fun t hf => flushed_dg m c t hf) covered_dg).symm
  · rw [a1]
    exact ((dats m 0 c).arrAt_eq_of_cover 6 _ (fun t hf => flushed_db m c t hf) covered_db).symm

end Cert.LnBwdIdeal.Prod

end
-- ==== Proof.Ff2DwValue.lean ====
/-
  The gradient of the second feed-forward weight: what the call leaves in its result.
-/
module

public import proofs.«01_k».proof.Proof.Gen.Ff2DwIdeal.Value
public import proofs.«01_k».proof.Proof.Gen.Ff2DwRefIdeal.Run
public import proofs.«01_k».proof.Proof.Mm
public import proofs.«01_k».proof.Defs

@[expose] public section

set_option maxRecDepth 16384

noncomputable section

namespace Cert.Ff2DwRefIdeal.Prod

open Idealize.ShloMosaic
open Cert.Ff2DwRefIdeal Cert.Ff2DwRefIdeal.Gen
open scoped BigOperators

/-- The reference's result, of its arguments. -/
def out (x : FVec Ideal S8192x8192 .bf16) (y : FVec Ideal S8192x2048 .bf16) : FVec Ideal S8192x2048 .f32 :=
  transpose S8192x2048 [1, 0] (Host.dotGeneral dot_S8192x2048_S8192x8192_S2048x8192_0_0_1_1_n_n none
    (extf .f32 y bitsLt_bf16_f32) (extf .f32 x bitsLt_bf16_f32)) transposes_S2048x8192_S8192x2048_1_0

theorem out_apply (x : FVec Ideal S8192x8192 .bf16) (y : FVec Ideal S8192x2048 .bf16) (i : Fin 8192) (j : Fin 2048) :
    (out x y (ix2 i j) : EReal) = ∑ k : Fin 8192, (y (ix2 k j) : EReal) * x (ix2 k i) := by
  pointwise [out]

end Cert.Ff2DwRefIdeal.Prod

namespace Cert.Ff2DwIdeal.Prod

open Idealize.ShloMosaic Idealize.ShloMosaic.TcCoe Idealize.SL.Sem
open Cert.Ff2DwIdeal Cert.Ff2DwIdeal.Gen
open scoped BigOperators

section cases

variable {F : FTy → Type} [FloatOps F]
variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x y : Vec F S2048x1024 .bf16) (s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero Mm.hz]
  unfold k0_pay2
  simp only [View.readAt_eq_ld, h3.read_unread, h4.read_unread, View.ld_unit_zero (S := S2048x1024) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero Mm.hz]
  unfold k0_pay3
  simp only [View.readAt_eq_ld, h3.read_unread, h4.read_unread, h6.read_unread, View.ld_unit_zero (S := S2048x1024) Mm.hz,
    View.ld_unit_zero (S := S1024x1024) Mm.hz, shapeCast_self]

/-- and the last too, and the sum is the result's block. -/
theorem last (hc0 : ¬cond0_0 i) (hc1 : cond0_1 i) (hc2 : cond0_2 i) :
    out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero Mm.hz, View.readCov_unit_zero (S := S1024x1024) _ Mm.hz]
  unfold k0_pay3
  simp only [View.readAt_eq_ld, h3.read_unread, h4.read_unread, h6.read_unread, View.ld_unit_zero (S := S2048x1024) Mm.hz,
    View.ld_unit_zero (S := S1024x1024) Mm.hz, shapeCast_self]

end cases

variable (m : (ℓ : Loc nD τ sig) → Buf (Elt Ideal) ℓ) (c : Dev nD)

theorem pay1_apply (x y : Vec Ideal S2048x1024 .bf16) (r n : Fin 1024) :
    (k0_pay1 x y (ix2 r n) : EReal) = ∑ k : Fin 2048, (x (ix2 k r) : EReal) * y (ix2 k n) := by
  pointwise [k0_pay1]

theorem at0 : ∀ t : Fin cfg0.N, win0_0.index t = ![t.val % 4, t.val / 8] ∧ win0_1.index t = ![t.val % 4, t.val / 4 % 2] :=
  (by decide +kernel : ∀ t : Fin grid0.N, _)

/-- The arguments. -/
abbrev hid : FVec Ideal S8192x8192 .bf16 := m ((c.tc : Thread nD τ).loc main_arg0)
abbrev dh : FVec Ideal S8192x2048 .bf16 := m ((c.tc : Thread nD τ).loc main_arg1)

theorem iblk0_apply (t : Fin cfg0.N) (k : Fin 2048) (r : Fin 1024) (i j : Fin 8192) (hi : i.val = 2048 * (t.val % 4) + k.val) (hj : j.val = 1024 * (t.val / 8) + r.val) :
    (iblk m c 0 t : Vec Ideal S2048x1024 .bf16) (ix2 k r) = hid m c (ix2 i j) := by
  unfold iblk
  rw [View.read_apply]
  refine congrArg (hid m c) (funext fun a => Fin.ext ?_)
  match a with
  | ⟨0, _⟩ => show win0_0.index t 0 * 2048 + 1 * k.val = i.val; rw [(at0 t).1, hi]; show t.val % 4 * 2048 + 1 * k.val = _; omega
  | ⟨1, _⟩ => show win0_0.index t 1 * 1024 + 1 * r.val = j.val; rw [(at0 t).1, hj]; show t.val / 8 * 1024 + 1 * r.val = _; omega

theorem iblk1_apply (t : Fin cfg0.N) (k : Fin 2048) (r : Fin 1024) (i : Fin 8192) (j : Fin 2048) (hi : i.val = 2048 * (t.val % 4) + k.val) (hj : j.val = 1024 * (t.val / 4 % 2) + r.val) :
    (iblk m c 1 t : Vec Ideal S2048x1024 .bf16) (ix2 k r) = dh m c (ix2 i j) := by
  unfold iblk
  rw [View.read_apply]
  refine congrArg (dh m c) (funext fun a => Fin.ext ?_)
  match a with
  | ⟨0, _⟩ => show win0_1.index t 0 * 2048 + 1 * k.val = i.val; rw [(at0 t).2, hi]; show t.val % 4 * 2048 + 1 * k.val = _; omega
  | ⟨1, _⟩ => show win0_1.index t 1 * 1024 + 1 * r.val = j.val; rw [(at0 t).2, hj]; show t.val / 4 % 2 * 1024 + 1 * r.val = _; omega

/-- The terms of an entry of the result. -/
def terms (i : Fin 8192) (j : Fin 2048) (k : Fin 8192) : EReal := (hid m c (ix2 k i) : EReal) * dh m c (ix2 k j)

theorem part_apply (t : Fin cfg0.N) (r n : Fin 1024) (i : Fin 8192) (j : Fin 2048) (hi : i.val = 1024 * (t.val / 8) + r.val) (hj : j.val = 1024 * (t.val / 4 % 2) + n.val) :
    (k0_pay1 (iblk m c 0 t : Vec Ideal S2048x1024 .bf16) (iblk m c 1 t : Vec Ideal S2048x1024 .bf16) (ix2 r n) : EReal) = Mm.part (terms m c i j) 2048 (t.val % 4) := by
  rw [pay1_apply]
  refine Mm.part_eq _ _ (by omega) fun k => ?_
  rw [iblk0_apply m c t k r ⟨2048 * (t.val % 4) + k.val, by omega⟩ i rfl hi, iblk1_apply m c t k n ⟨2048 * (t.val % 4) + k.val, by omega⟩ j rfl hj]
  rfl

/-- The block a last step writes is the product's. -/
theorem block (t : Fin cfg0.N) (ht : t.val % 4 = 3) (r n : Fin 1024) (i : Fin 8192) (j : Fin 2048) (hi : i.val = 1024 * (t.val / 8) + r.val) (hj : j.val = 1024 * (t.val / 4 % 2) + n.val) :
    ((outsAt0 m c t.val t.isLt).1 (ix2 r n) : EReal) = ∑ k : Fin 8192, terms m c i j k := by
  refine Mm.out_eq (terms m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last]
    exact congrArg _ (part_apply m c ⟨p + 1, h⟩ r n i j (by dsimp only; omega) (by dsimp only; omega))

/-- The result array after the run. -/
theorem result (i : Fin 8192) (j : Fin 2048) : (Value.G2 m c (ix2 i j) : EReal) = ∑ k : Fin 8192, terms m c i j k := by
  have hN : cfg0.N = 64 := N_0
  have hp : Value.pt2Of (ix2 i j) = 4 * (2 * (i.val / 1024) + j.val / 1024) + 3 := by
    show 4 * (2 * (i.val / 1024 - 0) + 1 * (j.val / 1024 - 0)) + 3 = _
    omega
  have hl : Value.pt2Of (ix2 i j) < cfg0.N := by rw [hp, hN]; omega
  have hi : Value.loc2Of (ix2 i j) = ix2 (⟨i.val % 1024, by omega⟩ : Fin 1024) (⟨j.val % 1024, by omega⟩ : Fin 1024) := by
    funext a
    match a with
    | ⟨0, _⟩ => rfl
    | ⟨1, _⟩ => rfl
  unfold Value.G2
  rw [dif_pos hl, ← Value.outsAt0_sweep m c _ hl, hi]
  exact block m c ⟨Value.pt2Of (ix2 i j), hl⟩ (by dsimp only; omega) _ _ i j (by dsimp only; omega) (by dsimp only; omega)

theorem result_eq : Value.G2 m c = Cert.Ff2DwRefIdeal.Prod.out (hid m c) (dh m c) := funext fun i => by
  obtain ⟨p, q, rfl⟩ := Mm.at2 i
  rw [Cert.Ff2DwRefIdeal.Prod.out_apply]
  exact (result m c p q).trans (Finset.sum_congr (M := EReal) rfl fun k _ => EReal.mul_comm _ _)

theorem value : Cert.algebraic_Ff2DwIdeal_Ff2DwRefIdeal := fun m g m' g' _ ha =>
  ⟨Value.G2 m, Value.run m g, (θ_run Cert.Ff2DwRefIdeal.defs _ _).mono (fun r h c => ⟨(h c).1.trans (by
    obtain ⟨a0, a1⟩ := ha c
    rw [a0, a1]
    exact (result_eq m c).symm), (h c).2⟩) (Cert.Ff2DwRefIdeal.Value.run m' g')⟩

end Cert.Ff2DwIdeal.Prod

end
-- ==== Proof.Ff1DwValue.lean ====
/-
  The gradient of the first feed-forward weight: what the call leaves in its result.
-/
module

public import proofs.«01_k».proof.Proof.Gen.Ff1DwIdeal.Value
public import proofs.«01_k».proof.Proof.Gen.Ff1DwRefIdeal.Run
public import proofs.«01_k».proof.Proof.Mm
public import proofs.«01_k».proof.Defs

@[expose] public section

set_option maxRecDepth 16384

noncomputable section

namespace Cert.Ff1DwRefIdeal.Prod

open Idealize.ShloMosaic
open Cert.Ff1DwRefIdeal Cert.Ff1DwRefIdeal.Gen
open scoped BigOperators

/-- The reference's result, of its arguments. -/
def out (x : FVec Ideal S8192x2048 .bf16) (y : FVec Ideal S8192x8192 .bf16) : FVec Ideal S4x2048x2048 .f32 :=
  transpose S4x2048x2048 [1, 0, 2] (shapeCast _ (transpose S2048x8192 [1, 0]
    (Host.dotGeneral dot_S8192x8192_S8192x2048_S8192x2048_0_0_1_1_n_n none (extf .f32 y bitsLt_bf16_f32) (extf .f32 x bitsLt_bf16_f32))
    transposes_S8192x2048_S2048x8192_1_0) shapeCasts_S2048x8192_S2048x4x2048) transposes_S2048x4x2048_S4x2048x2048_1_0_2

theorem out_apply (x : FVec Ideal S8192x2048 .bf16) (y : FVec Ideal S8192x8192 .bf16) (s : Fin 4) (i q : Fin 2048) :
    (out x y (ix3 s i q) : EReal) = ∑ k : Fin 8192, (y (ix2 k ⟨s.val * 2048 + q.val, by omega⟩) : EReal) * x (ix2 k i) := by
  pointwise [out]

end Cert.Ff1DwRefIdeal.Prod

namespace Cert.Ff1DwIdeal.Prod

open Idealize.ShloMosaic Idealize.ShloMosaic.TcCoe Idealize.SL.Sem
open Cert.Ff1DwIdeal Cert.Ff1DwIdeal.Gen
open scoped BigOperators

section cases

variable {F : FTy → Type} [FloatOps F]
variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1x1024x1024 .f32) (h5 : a5.IsWhole) (a6 : Memref sig .tc .vmem S1024x1024 .f32) (h6 : a6.IsWhole)
  (x y : Vec F S2048x1024 .bf16) (s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero Mm.hz]
  unfold k0_pay2
  simp only [View.readAt_eq_ld, h3.read_unread, h4.read_unread, View.ld_unit_zero (S := S2048x1024) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero Mm.hz]
  unfold k0_pay3
  simp only [View.readAt_eq_ld, h3.read_unread, h4.read_unread, h6.read_unread, View.ld_unit_zero (S := S2048x1024) Mm.hz,
    View.ld_unit_zero (S := S1024x1024) Mm.hz, shapeCast_self]

/-- and the last too, and the result's block is the sum, laid out by column shard. -/
theorem last (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero Mm.hz3, View.readCov_unit_zero (S := S1024x1024) _ Mm.hz]
  unfold k0_pay3
  simp only [View.readAt_eq_ld, h3.read_unread, h4.read_unread, h6.read_unread, View.ld_unit_zero (S := S2048x1024) Mm.hz,
    View.ld_unit_zero (S := S1024x1024) Mm.hz, shapeCast_self]

end cases

variable (m : (ℓ : Loc nD τ sig) → Buf (Elt Ideal) ℓ) (c : Dev nD)

theorem pay1_apply (x y : Vec Ideal S2048x1024 .bf16) (r n : Fin 1024) :
    (k0_pay1 x y (ix2 r n) : EReal) = ∑ k : Fin 2048, (x (ix2 k r) : EReal) * y (ix2 k n) := by
  pointwise [k0_pay1]

theorem pay4_apply (v : Vec Ideal S1024x1024 .f32) (u : Fin 1) (r q : Fin 1024) :
    (k0_pay4 v (ix3 u r q) : EReal) = v (ix2 r q) := by
  pointwise [k0_pay4]

theorem at0 : ∀ t : Fin cfg0.N, win0_0.index t = ![t.val % 4, t.val / 32] ∧ win0_1.index t = ![t.val % 4, t.val / 4 % 8] ∧ win0_2.index t = ![t.val / 8 % 4, t.val / 32, t.val / 4 % 2] :=
  (by decide +kernel : ∀ t : Fin grid0.N, _)

/-- The arguments. -/
abbrev x : FVec Ideal S8192x2048 .bf16 := m ((c.tc : Thread nD τ).loc main_arg0)
abbrev da : FVec Ideal S8192x8192 .bf16 := m ((c.tc : Thread nD τ).loc main_arg1)

theorem iblk0_apply (t : Fin cfg0.N) (k : Fin 2048) (r : Fin 1024) (i : Fin 8192) (j : Fin 2048) (hi : i.val = 2048 * (t.val % 4) + k.val) (hj : j.val = 1024 * (t.val / 32) + r.val) :
    (iblk m c 0 t : Vec Ideal S2048x1024 .bf16) (ix2 k r) = x m c (ix2 i j) := by
  unfold iblk
  rw [View.read_apply]
  refine congrArg (x m c) (funext fun a => Fin.ext ?_)
  match a with
  | ⟨0, _⟩ => show win0_0.index t 0 * 2048 + 1 * k.val = i.val; rw [(at0 t).1, hi]; show t.val % 4 * 2048 + 1 * k.val = _; omega
  | ⟨1, _⟩ => show win0_0.index t 1 * 1024 + 1 * r.val = j.val; rw [(at0 t).1, hj]; show t.val / 32 * 1024 + 1 * r.val = _; omega

theorem iblk1_apply (t : Fin cfg0.N) (k : Fin 2048) (r : Fin 1024) (i j : Fin 8192) (hi : i.val = 2048 * (t.val % 4) + k.val) (hj : j.val = 1024 * (t.val / 4 % 8) + r.val) :
    (iblk m c 1 t : Vec Ideal S2048x1024 .bf16) (ix2 k r) = da m c (ix2 i j) := by
  unfold iblk
  rw [View.read_apply]
  refine congrArg (da m c) (funext fun a => Fin.ext ?_)
  match a with
  | ⟨0, _⟩ => show win0_1.index t 0 * 2048 + 1 * k.val = i.val; rw [(at0 t).2.1, hi]; show t.val % 4 * 2048 + 1 * k.val = _; omega
  | ⟨1, _⟩ => show win0_1.index t 1 * 1024 + 1 * r.val = j.val; rw [(at0 t).2.1, hj]; show t.val / 4 % 8 * 1024 + 1 * r.val = _; omega

/-- The terms of an entry of the product. -/
def terms (i : Fin 2048) (j : Fin 8192) (k : Fin 8192) : EReal := (x m c (ix2 k i) : EReal) * da m c (ix2 k j)

theorem part_apply (t : Fin cfg0.N) (r n : Fin 1024) (i : Fin 2048) (j : Fin 8192) (hi : i.val = 1024 * (t.val / 32) + r.val) (hj : j.val = 1024 * (t.val / 4 % 8) + n.val) :
    (k0_pay1 (iblk m c 0 t : Vec Ideal S2048x1024 .bf16) (iblk m c 1 t : Vec Ideal S2048x1024 .bf16) (ix2 r n) : EReal) = Mm.part (terms m c i j) 2048 (t.val % 4) := by
  rw [pay1_apply]
  refine Mm.part_eq _ _ (by omega) fun k => ?_
  rw [iblk0_apply m c t k r ⟨2048 * (t.val % 4) + k.val, by omega⟩ i rfl hi, iblk1_apply m c t k n ⟨2048 * (t.val % 4) + k.val, by omega⟩ j rfl hj]
  rfl

/-- The block a last step writes is the product's. -/
theorem block (t : Fin cfg0.N) (ht : t.val % 4 = 3) (u : Fin 1) (r n : Fin 1024) (i : Fin 2048) (j : Fin 8192)
    (hi : i.val = 1024 * (t.val / 32) + r.val) (hj : j.val = 1024 * (t.val / 4 % 8) + n.val) :
    ((outsAt0 m c t.val t.isLt).1 (ix3 u r n) : EReal) = ∑ k : Fin 8192, terms m c i j k := by
  refine Mm.out_eq (terms m c i j) (N := cfg0.N) (B := 2048) (K := 4) rfl (by omega)
    (fun n' h => (outsAt0 m c n' h).2 (ix2 r n))
    (fun n' h => (outsAt0 m c n' h).1 (ix3 u r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ _ n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ _ n i j (by dsimp only; omega) (by dsimp only; omega))
  · intro p h hq hl
    rw [outsAt0_C m c ⟨p + 1, h⟩ (by dsimp only; omega) (by dsimp only; omega) (by dsimp only; omega)]
    dsimp only
    rw [last, pay4_apply]
    exact congrArg _ (part_apply m c ⟨p + 1, h⟩ _ n i j (by dsimp only; omega) (by dsimp only; omega))

/-- What a point writes back is its block of the reference's result, -/
theorem flushed_eq (t : Fin cfg0.N) (hf : (cfg0.win 2).flush t = true) :
    (dats m 0 c).flushed 2 t = ((cfg0.win 2).blk t).view.read (Elt Ideal) (Cert.Ff1DwRefIdeal.Prod.out (x m c) (da m c)) := by
  have ht : t.val % 4 = 3 := (flush0_2 t).mp hf
  have hN : t.val < 64 := lt_of_lt_of_eq t.isLt N_0
  rw [Value.flushed2]
  funext y
  obtain ⟨u, r, n, rfl⟩ := Mm.at3 (a := 1) (b := 1024) (e := 1024) y
  have he : ((cfg0.win 2).blk t).view.emb (ix3 u r n) = (ix3 (⟨t.val / 8 % 4, by omega⟩ : Fin 4) (⟨1024 * (t.val / 32) + r.val, by omega⟩ : Fin 2048) (⟨1024 * (t.val / 4 % 2) + n.val, by omega⟩ : Fin 2048)) := by
    funext a
    apply Fin.ext
    match a with
    | ⟨0, _⟩ => show win0_2.index t 0 * 1 + 1 * u.val = _; rw [(at0 t).2.2]; show t.val / 8 % 4 * 1 + 1 * u.val = t.val / 8 % 4; omega
    | ⟨1, _⟩ => show win0_2.index t 1 * 1024 + 1 * r.val = _; rw [(at0 t).2.2]; show t.val / 32 * 1024 + 1 * r.val = 1024 * (t.val / 32) + r.val; omega
    | ⟨2, _⟩ => show win0_2.index t 2 * 1024 + 1 * n.val = _; rw [(at0 t).2.2]; show t.val / 4 % 2 * 1024 + 1 * n.val = 1024 * (t.val / 4 % 2) + n.val; omega
  show (outsAt0 m c t.val t.isLt).1 (ix3 u r n) = Cert.Ff1DwRefIdeal.Prod.out (x m c) (da m c) (((cfg0.win 2).blk t).view.emb (ix3 u r n))
  rw [he, Cert.Ff1DwRefIdeal.Prod.out_apply]
  exact (block m c t ht u r n _ ⟨t.val / 8 % 4 * 2048 + (1024 * (t.val / 4 % 2) + n.val), by omega⟩ rfl (by dsimp only; omega)).trans
    (Finset.sum_congr (M := EReal) rfl fun k _ => EReal.mul_comm _ _)

/-- and the points between them write every entry. -/
theorem covered (i : S4x2048x2048.Idx) : ∃ t : Fin cfg0.N, (cfg0.win 2).flush t = true ∧ i ∈ ((cfg0.win 2).blk t).view.set := by
  obtain ⟨p, q, n, rfl⟩ := Mm.at3 i
  refine ⟨⟨4 * (8 * (q.val / 1024) + 2 * p.val + n.val / 1024) + 3, lt_of_lt_of_eq (by omega) N_0.symm⟩, (flush0_2 _).mpr (by dsimp only; omega), ?_⟩
  show _ ∈ ((View.whole main_v0).slice (win0_2.rect _)).set
  rw [View.set_slice_whole, Rect.mem_set_unit]
  intro a
  match a with
  | ⟨0, _⟩ => show win0_2.index _ 0 * 1 ≤ p.val ∧ p.val < win0_2.index _ 0 * 1 + 1; rw [(at0 _).2.2]; dsimp only [Matrix.cons_val]; omega
  | ⟨1, _⟩ => show win0_2.index _ 1 * 1024 ≤ q.val ∧ q.val < win0_2.index _ 1 * 1024 + 1024; rw [(at0 _).2.2]; dsimp only [Matrix.cons_val]; omega
  | ⟨2, _⟩ => show win0_2.index _ 2 * 1024 ≤ n.val ∧ n.val < win0_2.index _ 2 * 1024 + 1024; rw [(at0 _).2.2]; dsimp only [Matrix.cons_val]; omega

/-- The result array after the run. -/
theorem result_eq : (dats m 0 c).arrAt 2 cfg0.N = Cert.Ff1DwRefIdeal.Prod.out (x m c) (da m c) :=
  (dats m 0 c).arrAt_eq_of_cover 2 _ (fun t hf => flushed_eq m c t hf) covered

theorem value : Cert.algebraic_Ff1DwIdeal_Ff1DwRefIdeal := fun m g m' g' _ ha =>
  ⟨fun c => (dats m 0 c).arrAt 2 cfg0.N, Value.run_blocks m g, (θ_run Cert.Ff1DwRefIdeal.defs _ _).mono (fun r h c => ⟨(h c).1.trans (by
    obtain ⟨a0, a1⟩ := ha c
    rw [a0, a1]
    exact (result_eq m c).symm), (h c).2⟩) (Cert.Ff1DwRefIdeal.Value.run m' g')⟩

end Cert.Ff1DwIdeal.Prod

end
-- ==== Proof.GateDwValue.lean ====
/-
  The gradient of the gates' weights: what the call leaves in its result.
-/
module

public import proofs.«01_k».proof.Proof.Gen.GateDwIdeal.Value
public import proofs.«01_k».proof.Proof.Gen.GateDwRefIdeal.Run
public import proofs.«01_k».proof.Proof.Mm
public import proofs.«01_k».proof.Defs

@[expose] public section

set_option maxRecDepth 16384

noncomputable section

namespace Cert.GateDwRefIdeal.Prod

open Idealize.ShloMosaic
open Cert.GateDwRefIdeal Cert.GateDwRefIdeal.Gen
open scoped BigOperators

/-- The reference's result, of its arguments. -/
def out (x : FVec Ideal S8192x2048 .bf16) (y : FVec Ideal S8192x8192 .bf16) : FVec Ideal S4x4x512x2048 .f32 :=
  transpose S4x4x512x2048 [1, 0, 2, 3] (shapeCast _ (transpose S4x2048x2048 [0, 2, 1]
    (Host.dotGeneral dot_S8192x4x2048_S8192x2048_S4x2048x2048_0_0_12_1_n_n none
      (shapeCast _ (extf .f32 y bitsLt_bf16_f32) shapeCasts_S8192x8192_S8192x4x2048) (extf .f32 x bitsLt_bf16_f32))
    transposes_S4x2048x2048_S4x2048x2048_0_2_1) shapeCasts_S4x2048x2048_S4x4x512x2048) transposes_S4x4x512x2048_S4x4x512x2048_1_0_2_3

theorem out_apply (x : FVec Ideal S8192x2048 .bf16) (y : FVec Ideal S8192x8192 .bf16) (s n : Fin 4) (r : Fin 512) (q : Fin 2048) :
    (out x y (ix4 s n r q) : EReal) =
      ∑ k : Fin 8192, (y (ix2 k ⟨n.val * 2048 + q.val, by omega⟩) : EReal) * x (ix2 k ⟨s.val * 512 + r.val, by omega⟩) := by
  pointwise [out]

end Cert.GateDwRefIdeal.Prod

namespace Cert.GateDwIdeal.Prod

open Idealize.ShloMosaic Idealize.ShloMosaic.TcCoe Idealize.SL.Sem
open Cert.GateDwIdeal Cert.GateDwIdeal.Gen
open scoped BigOperators

section cases

variable {F : FTy → Type} [FloatOps F]
variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S2x1x512x1024 .f32) (h5 : a5.IsWhole) (a6 : Memref sig .tc .vmem S1024x1024 .f32) (h6 : a6.IsWhole)
  (x y : Vec F S2048x1024 .bf16) (s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero Mm.hz]
  unfold k0_pay2
  simp only [View.readAt_eq_ld, h3.read_unread, h4.read_unread, View.ld_unit_zero (S := S2048x1024) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero Mm.hz]
  unfold k0_pay3
  simp only [View.readAt_eq_ld, h3.read_unread, h4.read_unread, h6.read_unread, View.ld_unit_zero (S := S2048x1024) Mm.hz,
    View.ld_unit_zero (S := S1024x1024) Mm.hz, shapeCast_self]

/-- and the last too, and the result's block is the sum, laid out by column shard. -/
theorem last (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero Mm.hz4, View.readCov_unit_zero (S := S1024x1024) _ Mm.hz]
  unfold k0_pay3
  simp only [View.readAt_eq_ld, h3.read_unread, h4.read_unread, h6.read_unread, View.ld_unit_zero (S := S2048x1024) Mm.hz,
    View.ld_unit_zero (S := S1024x1024) Mm.hz, shapeCast_self]

end cases

variable (m : (ℓ : Loc nD τ sig) → Buf (Elt Ideal) ℓ) (c : Dev nD)

theorem pay1_apply (x y : Vec Ideal S2048x1024 .bf16) (r n : Fin 1024) :
    (k0_pay1 x y (ix2 r n) : EReal) = ∑ k : Fin 2048, (x (ix2 k r) : EReal) * y (ix2 k n) := by
  pointwise [k0_pay1]

theorem pay4_apply (v : Vec Ideal S1024x1024 .f32) (s : Fin 2) (n : Fin 1) (r : Fin 512) (q : Fin 1024) :
    (k0_pay4 v (ix4 s n r q) : EReal) = v (ix2 (⟨s.val * 512 + r.val, by omega⟩ : Fin 1024) q) := by
  pointwise [k0_pay4]

theorem at0 : ∀ t : Fin cfg0.N, win0_0.index t = ![t.val % 4, t.val / 32] ∧ win0_1.index t = ![t.val % 4, t.val / 4 % 8] :=
  (by decide +kernel : ∀ t : Fin grid0.N, _)

/-- The arguments. -/
abbrev x : FVec Ideal S8192x2048 .bf16 := m ((c.tc : Thread nD τ).loc main_arg0)
abbrev dz : FVec Ideal S8192x8192 .bf16 := m ((c.tc : Thread nD τ).loc main_arg1)

theorem iblk0_apply (t : Fin cfg0.N) (k : Fin 2048) (r : Fin 1024) (i : Fin 8192) (j : Fin 2048) (hi : i.val = 2048 * (t.val % 4) + k.val) (hj : j.val = 1024 * (t.val / 32) + r.val) :
    (iblk m c 0 t : Vec Ideal S2048x1024 .bf16) (ix2 k r) = x m c (ix2 i j) := by
  unfold iblk
  rw [View.read_apply]
  refine congrArg (x m c) (funext fun a => Fin.ext ?_)
  match a with
  | ⟨0, _⟩ => show win0_0.index t 0 * 2048 + 1 * k.val = i.val; rw [(at0 t).1, hi]; show t.val % 4 * 2048 + 1 * k.val = _; omega
  | ⟨1, _⟩ => show win0_0.index t 1 * 1024 + 1 * r.val = j.val; rw [(at0 t).1, hj]; show t.val / 32 * 1024 + 1 * r.val = _; omega

theorem iblk1_apply (t : Fin cfg0.N) (k : Fin 2048) (r : Fin 1024) (i j : Fin 8192) (hi : i.val = 2048 * (t.val % 4) + k.val) (hj : j.val = 1024 * (t.val / 4 % 8) + r.val) :
    (iblk m c 1 t : Vec Ideal S2048x1024 .bf16) (ix2 k r) = dz m c (ix2 i j) := by
  unfold iblk
  rw [View.read_apply]
  refine congrArg (dz m c) (funext fun a => Fin.ext ?_)
  match a with
  | ⟨0, _⟩ => show win0_1.index t 0 * 2048 + 1 * k.val = i.val; rw [(at0 t).2, hi]; show t.val % 4 * 2048 + 1 * k.val = _; omega
  | ⟨1, _⟩ => show win0_1.index t 1 * 1024 + 1 * r.val = j.val; rw [(at0 t).2, hj]; show t.val / 4 % 8 * 1024 + 1 * r.val = _; omega

/-- The terms of an entry of the product. -/
def terms (i : Fin 2048) (j : Fin 8192) (k : Fin 8192) : EReal := (x m c (ix2 k i) : EReal) * dz m c (ix2 k j)

theorem part_apply (t : Fin cfg0.N) (r n : Fin 1024) (i : Fin 2048) (j : Fin 8192) (hi : i.val = 1024 * (t.val / 32) + r.val) (hj : j.val = 1024 * (t.val / 4 % 8) + n.val) :
    (k0_pay1 (iblk m c 0 t : Vec Ideal S2048x1024 .bf16) (iblk m c 1 t : Vec Ideal S2048x1024 .bf16) (ix2 r n) : EReal) = Mm.part (terms m c i j) 2048 (t.val % 4) := by
  rw [pay1_apply]
  refine Mm.part_eq _ _ (by omega) fun k => ?_
  rw [iblk0_apply m c t k r ⟨2048 * (t.val % 4) + k.val, by omega⟩ i rfl hi, iblk1_apply m c t k n ⟨2048 * (t.val % 4) + k.val, by omega⟩ j rfl hj]
  rfl

/-- The block a last step writes is the product's. -/
theorem block (t : Fin cfg0.N) (ht : t.val % 4 = 3) (s : Fin 2) (u : Fin 1) (r : Fin 512) (n : Fin 1024) (i : Fin 2048) (j : Fin 8192)
    (hi : i.val = 1024 * (t.val / 32) + (s.val * 512 + r.val)) (hj : j.val = 1024 * (t.val / 4 % 8) + n.val) :
    ((outsAt0 m c t.val t.isLt).1 (ix4 s u r n) : EReal) = ∑ k : Fin 8192, terms m c i j k := by
  refine Mm.out_eq (terms m c i j) (N := cfg0.N) (B := 2048) (K := 4) rfl (by omega)
    (fun n' h => (outsAt0 m c n' h).2 (ix2 (⟨s.val * 512 + r.val, by omega⟩ : Fin 1024) n))
    (fun n' h => (outsAt0 m c n' h).1 (ix4 s u r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ _ n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ _ n i j (by dsimp only; omega) (by dsimp only; omega))
  · intro p h hq hl
    rw [outsAt0_C m c ⟨p + 1, h⟩ (by dsimp only; omega) (by dsimp only; omega) (by dsimp only; omega)]
    dsimp only
    rw [last, pay4_apply]
    exact congrArg _ (part_apply m c ⟨p + 1, h⟩ _ n i j (by dsimp only; omega) (by dsimp only; omega))

/-- The result array after the run. -/
theorem result (s b : Fin 4) (r : Fin 512) (q : Fin 2048) (i : Fin 2048) (j : Fin 8192) (hi : i.val = s.val * 512 + r.val) (hj : j.val = b.val * 2048 + q.val) :
    (Value.G2 m c (ix4 s b r q) : EReal) = ∑ k : Fin 8192, terms m c i j k := by
  have hN : cfg0.N = 64 := N_0
  have hp : Value.pt2Of (ix4 s b r q) = 4 * (8 * (s.val / 2) + 2 * b.val + q.val / 1024) + 3 := by
    show 4 * (8 * (s.val / 2 - 0) + 2 * (b.val / 1 - 0) + 2 * (r.val / 512 - 0) + 1 * (q.val / 1024 - 0)) + 3 = _
    omega
  have hl : Value.pt2Of (ix4 s b r q) < cfg0.N := by rw [hp, hN]; omega
  have hx : Value.loc2Of (ix4 s b r q) = ix4 (⟨s.val % 2, by omega⟩ : Fin 2) (⟨b.val % 1, by omega⟩ : Fin 1) (⟨r.val % 512, by omega⟩ : Fin 512) (⟨q.val % 1024, by omega⟩ : Fin 1024) := by
    funext a
    match a with
    | ⟨0, _⟩ => rfl
    | ⟨1, _⟩ => rfl
    | ⟨2, _⟩ => rfl
    | ⟨3, _⟩ => rfl
  unfold Value.G2
  rw [dif_pos hl, ← Value.outsAt0_sweep m c _ hl, hx]
  exact block m c ⟨Value.pt2Of (ix4 s b r q), hl⟩ (by dsimp only; omega) _ _ _ _ i j (by dsimp only; omega) (by dsimp only; omega)

theorem result_eq : Value.G2 m c = Cert.GateDwRefIdeal.Prod.out (x m c) (dz m c) := funext fun i => by
  obtain ⟨s, b, r, q, rfl⟩ := Mm.at4 i
  rw [Cert.GateDwRefIdeal.Prod.out_apply]
  exact (result m c s b r q ⟨s.val * 512 + r.val, by omega⟩ ⟨b.val * 2048 + q.val, by omega⟩ rfl rfl).trans
    (Finset.sum_congr (M := EReal) rfl fun k _ => EReal.mul_comm _ _)

theorem value : Cert.algebraic_GateDwIdeal_GateDwRefIdeal := fun m g m' g' _ ha =>
  ⟨Value.G2 m, Value.run m g, (θ_run Cert.GateDwRefIdeal.defs _ _).mono (fun r h c => ⟨(h c).1.trans (by
    obtain ⟨a0, a1⟩ := ha c
    rw [a0, a1]
    exact (result_eq m c).symm), (h c).2⟩) (Cert.GateDwRefIdeal.Value.run m' g')⟩

end Cert.GateDwIdeal.Prod

end
-- ==== Proof.GateDxValue.lean ====
/-
  The gradient of what the gates are of: what the call leaves in its result.
-/
module

public import proofs.«01_k».proof.Proof.Gen.GateDxIdeal.Value
public import proofs.«01_k».proof.Proof.Gen.GateDxRefIdeal.Run
public import proofs.«01_k».proof.Proof.Mm
public import proofs.«01_k».proof.Defs

@[expose] public section

set_option maxRecDepth 16384

noncomputable section

namespace Cert.GateDxRefIdeal.Prod

open Idealize.ShloMosaic
open Cert.GateDxRefIdeal Cert.GateDxRefIdeal.Gen
open scoped BigOperators

/-- The reference's result, of its arguments. -/
def out (dz : FVec Ideal S8192x8192 .bf16) (w : FVec Ideal S2048x8192 .bf16) (dh : FVec Ideal S8192x2048 .f32) : FVec Ideal S8192x2048 .f32 :=
  addf (Host.dotGeneral dot_S8192x8192_S2048x8192_S8192x2048_1_1_0_0_n_n none (extf .f32 dz bitsLt_bf16_f32) (extf .f32 w bitsLt_bf16_f32))
    (mulf (broadcastInDim S8192x2048 ![] bcast_S_S8192x2048 (constant S_ .f32 0x3FB504F3#32)) dh)

theorem out_apply (dz : FVec Ideal S8192x8192 .bf16) (w : FVec Ideal S2048x8192 .bf16) (dh : FVec Ideal S8192x2048 .f32) (i : Fin 8192) (j : Fin 2048) :
    (out dz w dh (ix2 i j) : EReal) =
      (∑ k : Fin 8192, (dz (ix2 i k) : EReal) * w (ix2 j k)) + (Scalar.ofBits .f32 0x3FB504F3#32 : Ideal .f32) * dh (ix2 i j) := by
  pointwise [out]

end Cert.GateDxRefIdeal.Prod

namespace Cert.GateDxIdeal.Prod

open Idealize.ShloMosaic Idealize.ShloMosaic.TcCoe Idealize.SL.Sem
open Cert.GateDxIdeal Cert.GateDxIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x y : Vec F S1024x2048 .bf16) (d s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 a7 h7 hc0 hc1 hc2 x y d = k0_pay1 x y := by
  unfold sout0_A_0
  rw [View.read_writes_eq_canon _ _ _ (scover0_A_0 c i a3 h3 a4 h4 a5 h5 a6 h6 a7 h7 hc0 hc1 hc2 x y d)]
  unfold kernelRun0_A
  dsimp only
  sl_unfold_words
  rw [View.canon_unit_zero Mm.hz]
  unfold k0_pay2
  simp only [View.readAt_eq_ld, h3.read_unread, h4.read_unread, View.ld_unit_zero (S := S1024x2048) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 a7 h7 hc0 hc1 hc2 x y d s = addf s (k0_pay1 x y) := by
  unfold sout0_B_0
  rw [View.read_writes_eq_canon _ _ _ (scover0_B_0 c i a3 h3 a4 h4 a5 h5 a6 h6 a7 h7 hc0 hc1 hc2 x y d s)]
  unfold kernelRun0_B
  dsimp only
  sl_unfold_words
  rw [View.canon_unit_zero Mm.hz]
  unfold k0_pay3
  simp only [View.readAt_eq_ld, h3.read_unread, h4.read_unread, h7.read_unread, View.ld_unit_zero (S := S1024x2048) Mm.hz,
    View.ld_unit_zero (S := S1024x1024) Mm.hz, shapeCast_self]

/-- and the last too, and the result's block is the sum with what came beside it. -/
theorem last (hc0 : ¬cond0_0 i) (hc1 : cond0_1 i) (hc2 : cond0_2 i) :
    out0_C_3 c i a3 h3 a4 h4 a5 h5 a6 h6 a7 h7 hc0 hc1 hc2 x y d s = k0_pay4 (addf s (k0_pay1 x y)) d := by
  unfold out0_C_3
  rw [View.read_writes_eq_canon _ _ _ (cover0_C_3 c i a3 h3 a4 h4 a5 h5 a6 h6 a7 h7 hc0 hc1 hc2 x y d s)]
  unfold kernelRun0_C
  dsimp only
  sl_unfold_words
  rw [View.canon_unit_zero Mm.hz, View.readCov_unit_zero (S := S1024x1024) _ Mm.hz]
  unfold k0_pay3
  simp only [View.readAt_eq_ld, h3.read_unread, h4.read_unread, h5.read_unread, h7.read_unread, View.ld_unit_zero (S := S1024x2048) Mm.hz,
    View.ld_unit_zero (S := S1024x1024) Mm.hz, shapeCast_self]

end cases

variable (m : (ℓ : Loc nD τ sig) → Buf (Elt Ideal) ℓ) (c : Dev nD)

theorem pay1_apply (x y : Vec Ideal S1024x2048 .bf16) (r n : Fin 1024) :
    (k0_pay1 x y (ix2 r n) : EReal) = ∑ k : Fin 2048, (x (ix2 r k) : EReal) * y (ix2 n k) := by
  pointwise [k0_pay1]

theorem pay4_apply (s d : Vec Ideal S1024x1024 .f32) (r n : Fin 1024) :
    (k0_pay4 s d (ix2 r n) : EReal) = (Scalar.ofBits .f32 0x3FB504F3#32 : Ideal .f32) * d (ix2 r n) + s (ix2 r n) := by
  pointwise [k0_pay4]

theorem at0 : ∀ t : Fin cfg0.N, win0_0.index t = ![t.val / 8, t.val % 4] ∧ win0_1.index t = ![t.val / 4 % 2, t.val % 4] ∧ win0_2.index t = ![t.val / 8, t.val / 4 % 2] :=
  (by decide +kernel : ∀ t : Fin grid0.N, _)

/-- The arguments. -/
abbrev dz : FVec Ideal S8192x8192 .bf16 := m ((c.tc : Thread nD τ).loc main_arg0)
abbrev w : FVec Ideal S2048x8192 .bf16 := m ((c.tc : Thread nD τ).loc main_arg1)
abbrev dh : FVec Ideal S8192x2048 .f32 := m ((c.tc : Thread nD τ).loc main_arg2)

theorem iblk0_apply (t : Fin cfg0.N) (r : Fin 1024) (k : Fin 2048) (i j : Fin 8192) (hi : i.val = 1024 * (t.val / 8) + r.val) (hj : j.val = 2048 * (t.val % 4) + k.val) :
    (iblk m c 0 t : Vec Ideal S1024x2048 .bf16) (ix2 r k) = dz m c (ix2 i j) := by
  unfold iblk
  rw [View.read_apply]
  refine congrArg (dz m c) (funext fun a => Fin.ext ?_)
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = j.val; rw [(at0 t).1, hj]; show t.val % 4 * 2048 + 1 * k.val = _; omega

theorem iblk1_apply (t : Fin cfg0.N) (r : Fin 1024) (k : Fin 2048) (i : Fin 2048) (j : Fin 8192) (hi : i.val = 1024 * (t.val / 4 % 2) + r.val) (hj : j.val = 2048 * (t.val % 4) + k.val) :
    (iblk m c 1 t : Vec Ideal S1024x2048 .bf16) (ix2 r k) = w m c (ix2 i j) := by
  unfold iblk
  rw [View.read_apply]
  refine congrArg (w m c) (funext fun a => Fin.ext ?_)
  match a with
  | ⟨0, _⟩ => show win0_1.index t 0 * 1024 + 1 * r.val = i.val; rw [(at0 t).2.1, hi]; show t.val / 4 % 2 * 1024 + 1 * r.val = _; omega
  | ⟨1, _⟩ => show win0_1.index t 1 * 2048 + 1 * k.val = j.val; rw [(at0 t).2.1, hj]; show t.val % 4 * 2048 + 1 * k.val = _; omega

theorem iblk2_apply (t : Fin cfg0.N) (r n : Fin 1024) (i : Fin 8192) (j : Fin 2048) (hi : i.val = 1024 * (t.val / 8) + r.val) (hj : j.val = 1024 * (t.val / 4 % 2) + n.val) :
    (iblk m c 2 t : Vec Ideal S1024x1024 .f32) (ix2 r n) = dh m c (ix2 i j) := by
  unfold iblk
  rw [View.read_apply]
  refine congrArg (dh m c) (funext fun a => Fin.ext ?_)
  match a with
  | ⟨0, _⟩ => show win0_2.index t 0 * 1024 + 1 * r.val = i.val; rw [(at0 t).2.2, hi]; show t.val / 8 * 1024 + 1 * r.val = _; omega
  | ⟨1, _⟩ => show win0_2.index t 1 * 1024 + 1 * n.val = j.val; rw [(at0 t).2.2, hj]; show t.val / 4 % 2 * 1024 + 1 * n.val = _; omega

/-- The terms of an entry of the product, and what the last step makes of their sum. -/
def terms (i : Fin 8192) (j : Fin 2048) (k : Fin 8192) : EReal := (dz m c (ix2 i k) : EReal) * w m c (ix2 j k)
def withDh (i : Fin 8192) (j : Fin 2048) (a : EReal) : EReal := (Scalar.ofBits .f32 0x3FB504F3#32 : Ideal .f32) * dh m c (ix2 i j) + a

theorem part_apply (t : Fin cfg0.N) (r n : Fin 1024) (i : Fin 8192) (j : Fin 2048) (hi : i.val = 1024 * (t.val / 8) + r.val) (hj : j.val = 1024 * (t.val / 4 % 2) + n.val) :
    (k0_pay1 (iblk m c 0 t : Vec Ideal S1024x2048 .bf16) (iblk m c 1 t : Vec Ideal S1024x2048 .bf16) (ix2 r n) : EReal) = Mm.part (terms m c i j) 2048 (t.val % 4) := by
  rw [pay1_apply]
  refine Mm.part_eq _ _ (by omega) fun k => ?_
  rw [iblk0_apply m c t r k i ⟨2048 * (t.val % 4) + k.val, by omega⟩ hi rfl, iblk1_apply m c t n k j ⟨2048 * (t.val % 4) + k.val, by omega⟩ hj rfl]
  rfl

/-- The block a last step writes. -/
theorem block (t : Fin cfg0.N) (ht : t.val % 4 = 3) (r n : Fin 1024) (i : Fin 8192) (j : Fin 2048) (hi : i.val = 1024 * (t.val / 8) + r.val) (hj : j.val = 1024 * (t.val / 4 % 2) + n.val) :
    ((outsAt0 m c t.val t.isLt).1 (ix2 r n) : EReal) = withDh m c i j (∑ k : Fin 8192, terms m c i j k) := by
  refine Mm.out_eq_of (terms m c i j) (withDh m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last, pay4_apply, iblk2_apply m c ⟨p + 1, h⟩ r n i j (by dsimp only; omega) (by dsimp only; omega)]
    exact congrArg (fun a => withDh m c i j (_ + a)) (part_apply m c ⟨p + 1, h⟩ r n i j (by dsimp only; omega) (by dsimp only; omega))

/-- The result array after the run. -/
theorem result (i : Fin 8192) (j : Fin 2048) : (Value.G3 m c (ix2 i j) : EReal) = withDh m c i j (∑ k : Fin 8192, terms m c i j k) := by
  have hN : cfg0.N = 64 := N_0
  have hp : Value.pt3Of (ix2 i j) = 4 * (2 * (i.val / 1024) + j.val / 1024) + 3 := by
    show 4 * (2 * (i.val / 1024 - 0) + 1 * (j.val / 1024 - 0)) + 3 = _
    omega
  have hl : Value.pt3Of (ix2 i j) < cfg0.N := by rw [hp, hN]; omega
  have hi : Value.loc3Of (ix2 i j) = ix2 (⟨i.val % 1024, by omega⟩ : Fin 1024) (⟨j.val % 1024, by omega⟩ : Fin 1024) := by
    funext a
    match a with
    | ⟨0, _⟩ => rfl
    | ⟨1, _⟩ => rfl
  unfold Value.G3
  rw [dif_pos hl, ← Value.outsAt0_sweep m c _ hl, hi]
  exact block m c ⟨Value.pt3Of (ix2 i j), hl⟩ (by dsimp only; omega) _ _ i j (by dsimp only; omega) (by dsimp only; omega)

theorem result_eq : Value.G3 m c = Cert.GateDxRefIdeal.Prod.out (dz m c) (w m c) (dh m c) := funext fun i => by
  obtain ⟨p, q, rfl⟩ := Mm.at2 i
  rw [Cert.GateDxRefIdeal.Prod.out_apply]
  exact (result m c p q).trans (add_comm (G := EReal) _ _)

theorem value : Cert.algebraic_GateDxIdeal_GateDxRefIdeal := fun m g m' g' _ ha =>
  ⟨Value.G3 m, Value.run m g, (θ_run Cert.GateDxRefIdeal.defs _ _).mono (fun r h c => ⟨(h c).1.trans (by
    obtain ⟨a0, a1, a2⟩ := ha c
    rw [a0, a1, a2]
    exact (result_eq m c).symm), (h c).2⟩) (Cert.GateDxRefIdeal.Value.run m' g')⟩

end Cert.GateDxIdeal.Prod

end
-- ==== Proof.InAttDwValue.lean ====
/-
  The gradient of the attention columns of the input projection: what the call leaves in its result.
-/
module

public import proofs.«01_k».proof.Proof.Gen.InAttDwIdeal.Value
public import proofs.«01_k».proof.Proof.Gen.InAttDwRefIdeal.Run
public import proofs.«01_k».proof.Proof.Mm
public import proofs.«01_k».proof.Defs

@[expose] public section

set_option maxRecDepth 16384

noncomputable section

namespace Cert.InAttDwRefIdeal.Prod

open Idealize.ShloMosaic
open Cert.InAttDwRefIdeal Cert.InAttDwRefIdeal.Gen
open scoped BigOperators

/-- The reference's result, of its arguments. -/
def out (x : FVec Ideal S8192x2048 .bf16) (y : FVec Ideal S8192x4608 .bf16) : FVec Ideal S2048x4608 .f32 :=
  transpose S2048x4608 [1, 0] (Host.dotGeneral dot_S8192x4608_S8192x2048_S4608x2048_0_0_1_1_n_n none
    (extf .f32 y bitsLt_bf16_f32) (extf .f32 x bitsLt_bf16_f32)) transposes_S4608x2048_S2048x4608_1_0

theorem out_apply (x : FVec Ideal S8192x2048 .bf16) (y : FVec Ideal S8192x4608 .bf16) (i : Fin 2048) (j : Fin 4608) :
    (out x y (ix2 i j) : EReal) = ∑ k : Fin 8192, (y (ix2 k j) : EReal) * x (ix2 k i) := by
  pointwise [out]

end Cert.InAttDwRefIdeal.Prod

namespace Cert.InAttDwIdeal.Prod

open Idealize.ShloMosaic Idealize.ShloMosaic.TcCoe Idealize.SL.Sem
open Cert.InAttDwIdeal Cert.InAttDwIdeal.Gen
open scoped BigOperators

section cases

variable {F : FTy → Type} [FloatOps F]
variable (c : Dev nD) (i : grid0.Coords)
  (a3 : Memref sig .tc .vmem S2048x1024 .bf16) (h3 : a3.IsWhole) (a4 : Memref sig .tc .vmem S2048x1536 .bf16) (h4 : a4.IsWhole)
  (a5 : Memref sig .tc .vmem S1024x1536 .f32) (h5 : a5.IsWhole) (a6 : Memref sig .tc .vmem S1024x1536 .f32) (h6 : a6.IsWhole)
  (x : Vec F S2048x1024 .bf16) (y : Vec F S2048x1536 .bf16) (s : Vec F S1024x1536 .f32)

/-- The first step leaves its product in the accumulator, -/
theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero Mm.hz]
  unfold k0_pay2
  simp only [View.readAt_eq_ld, h3.read_unread, h4.read_unread, View.ld_unit_zero (S := S2048x1024) Mm.hz, View.ld_unit_zero (S := S2048x1536) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero Mm.hz]
  unfold k0_pay3
  simp only [View.readAt_eq_ld, h3.read_unread, h4.read_unread, h6.read_unread, View.ld_unit_zero (S := S2048x1024) Mm.hz, View.ld_unit_zero (S := S2048x1536) Mm.hz,
    View.ld_unit_zero (S := S1024x1536) Mm.hz, shapeCast_self]

/-- and the last too, and the sum is the result's block. -/
theorem last (hc0 : ¬cond0_0 i) (hc1 : cond0_1 i) (hc2 : cond0_2 i) :
    out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero Mm.hz, View.readCov_unit_zero (S := S1024x1536) _ Mm.hz]
  unfold k0_pay3
  simp only [View.readAt_eq_ld, h3.read_unread, h4.read_unread, h6.read_unread, View.ld_unit_zero (S := S2048x1024) Mm.hz, View.ld_unit_zero (S := S2048x1536) Mm.hz,
    View.ld_unit_zero (S := S1024x1536) Mm.hz, shapeCast_self]

end cases

variable (m : (ℓ : Loc nD τ sig) → Buf (Elt Ideal) ℓ) (c : Dev nD)

theorem pay1_apply (x : Vec Ideal S2048x1024 .bf16) (y : Vec Ideal S2048x1536 .bf16) (r : Fin 1024) (n : Fin 1536) :
    (k0_pay1 x y (ix2 r n) : EReal) = ∑ k : Fin 2048, (x (ix2 k r) : EReal) * y (ix2 k n) := by
  pointwise [k0_pay1]

theorem at0 : ∀ t : Fin cfg0.N, win0_0.index t = ![t.val % 4, t.val / 12] ∧ win0_1.index t = ![t.val % 4, t.val / 4 % 3] :=
  (by decide +kernel : ∀ t : Fin grid0.N, _)

/-- The arguments. -/
abbrev x : FVec Ideal S8192x2048 .bf16 := m ((c.tc : Thread nD τ).loc main_arg0)
abbrev du : FVec Ideal S8192x4608 .bf16 := m ((c.tc : Thread nD τ).loc main_arg1)

theorem iblk0_apply (t : Fin cfg0.N) (k : Fin 2048) (r : Fin 1024) (i : Fin 8192) (j : Fin 2048) (hi : i.val = 2048 * (t.val % 4) + k.val) (hj : j.val = 1024 * (t.val / 12) + r.val) :
    (iblk m c 0 t : Vec Ideal S2048x1024 .bf16) (ix2 k r) = x m c (ix2 i j) := by
  unfold iblk
  rw [View.read_apply]
  refine congrArg (x m c) (funext fun a => Fin.ext ?_)
  match a with
  | ⟨0, _⟩ => show win0_0.index t 0 * 2048 + 1 * k.val = i.val; rw [(at0 t).1, hi]; show t.val % 4 * 2048 + 1 * k.val = _; omega
  | ⟨1, _⟩ => show win0_0.index t 1 * 1024 + 1 * r.val = j.val; rw [(at0 t).1, hj]; show t.val / 12 * 1024 + 1 * r.val = _; omega

theorem iblk1_apply (t : Fin cfg0.N) (k : Fin 2048) (r : Fin 1536) (i : Fin 8192) (j : Fin 4608) (hi : i.val = 2048 * (t.val % 4) + k.val) (hj : j.val = 1536 * (t.val / 4 % 3) + r.val) :
    (iblk m c 1 t : Vec Ideal S2048x1536 .bf16) (ix2 k r) = du m c (ix2 i j) := by
  unfold iblk
  rw [View.read_apply]
  refine congrArg (du m c) (funext fun a => Fin.ext ?_)
  match a with
  | ⟨0, _⟩ => show win0_1.index t 0 * 2048 + 1 * k.val = i.val; rw [(at0 t).2, hi]; show t.val % 4 * 2048 + 1 * k.val = _; omega
  | ⟨1, _⟩ => show win0_1.index t 1 * 1536 + 1 * r.val = j.val; rw [(at0 t).2, hj]; show t.val / 4 % 3 * 1536 + 1 * r.val = _; omega

/-- The terms of an entry of the result. -/
def terms (i : Fin 2048) (j : Fin 4608) (k : Fin 8192) : EReal := (x m c (ix2 k i) : EReal) * du m c (ix2 k j)

theorem part_apply (t : Fin cfg0.N) (r : Fin 1024) (n : Fin 1536) (i : Fin 2048) (j : Fin 4608) (hi : i.val = 1024 * (t.val / 12) + r.val) (hj : j.val = 1536 * (t.val / 4 % 3) + n.val) :
    (k0_pay1 (iblk m c 0 t : Vec Ideal S2048x1024 .bf16) (iblk m c 1 t : Vec Ideal S2048x1536 .bf16) (ix2 r n) : EReal) = Mm.part (terms m c i j) 2048 (t.val % 4) := by
  rw [pay1_apply]
  refine Mm.part_eq _ _ (by omega) fun k => ?_
  rw [iblk0_apply m c t k r ⟨2048 * (t.val % 4) + k.val, by omega⟩ i rfl hi, iblk1_apply m c t k n ⟨2048 * (t.val % 4) + k.val, by omega⟩ j rfl hj]
  rfl

/-- The block a last step writes is the product's. -/
theorem block (t : Fin cfg0.N) (ht : t.val % 4 = 3) (r : Fin 1024) (n : Fin 1536) (i : Fin 2048) (j : Fin 4608) (hi : i.val = 1024 * (t.val / 12) + r.val) (hj : j.val = 1536 * (t.val / 4 % 3) + n.val) :
    ((outsAt0 m c t.val t.isLt).1 (ix2 r n) : EReal) = ∑ k : Fin 8192, terms m c i j k := by
  refine Mm.out_eq (terms m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last]
    exact congrArg _ (part_apply m c ⟨p + 1, h⟩ r n i j (by dsimp only; omega) (by dsimp only; omega))

/-- The result array after the run. -/
theorem result (i : Fin 2048) (j : Fin 4608) : (Value.G2 m c (ix2 i j) : EReal) = ∑ k : Fin 8192, terms m c i j k := by
  have hN : cfg0.N = 24 := N_0
  have hp : Value.pt2Of (ix2 i j) = 4 * (3 * (i.val / 1024) + j.val / 1536) + 3 := by
    show 4 * (3 * (i.val / 1024 - 0) + 1 * (j.val / 1536 - 0)) + 3 = _
    omega
  have hl : Value.pt2Of (ix2 i j) < cfg0.N := by rw [hp, hN]; omega
  have hi : Value.loc2Of (ix2 i j) = ix2 (⟨i.val % 1024, by omega⟩ : Fin 1024) (⟨j.val % 1536, by omega⟩ : Fin 1536) := by
    funext a
    match a with
    | ⟨0, _⟩ => rfl
    | ⟨1, _⟩ => rfl
  unfold Value.G2
  rw [dif_pos hl, ← Value.outsAt0_sweep m c _ hl, hi]
  exact block m c ⟨Value.pt2Of (ix2 i j), hl⟩ (by dsimp only; omega) _ _ i j (by dsimp only; omega) (by dsimp only; omega)

theorem result_eq : Value.G2 m c = Cert.InAttDwRefIdeal.Prod.out (x m c) (du m c) := funext fun i => by
  obtain ⟨p, q, rfl⟩ := Mm.at2 i
  rw [Cert.InAttDwRefIdeal.Prod.out_apply]
  exact (result m c p q).trans (Finset.sum_congr (M := EReal) rfl fun k _ => EReal.mul_comm _ _)

theorem value : Cert.algebraic_InAttDwIdeal_InAttDwRefIdeal := fun m g m' g' _ ha =>
  ⟨Value.G2 m, Value.run m g, (θ_run Cert.InAttDwRefIdeal.defs _ _).mono (fun r h c => ⟨(h c).1.trans (by
    obtain ⟨a0, a1⟩ := ha c
    rw [a0, a1]
    exact (result_eq m c).symm), (h c).2⟩) (Cert.InAttDwRefIdeal.Value.run m' g')⟩

end Cert.InAttDwIdeal.Prod

end
-- ==== Proof.InAttDxValue.lean ====
/-
  The gradient of what the attention projects: what the call leaves in its result.
-/
module

public import proofs.«01_k».proof.Proof.Gen.InAttDxIdeal.Value
public import proofs.«01_k».proof.Proof.Gen.InAttDxRefIdeal.Run
public import proofs.«01_k».proof.Proof.Mm
public import proofs.«01_k».proof.Defs

@[expose] public section

set_option maxRecDepth 16384

noncomputable section

namespace Cert.InAttDxRefIdeal.Prod

open Idealize.ShloMosaic
open Cert.InAttDxRefIdeal Cert.InAttDxRefIdeal.Gen
open scoped BigOperators

/-- The reference's result, of its arguments. -/
def out (du : FVec Ideal S8192x4608 .bf16) (w : FVec Ideal S2048x4608 .bf16) (t : FVec Ideal S8192x2048 .f32) : FVec Ideal S8192x2048 .f32 :=
  addf t (Host.dotGeneral dot_S8192x4608_S2048x4608_S8192x2048_1_1_0_0_n_n none (extf .f32 du bitsLt_bf16_f32) (extf .f32 w bitsLt_bf16_f32))

theorem out_apply (du : FVec Ideal S8192x4608 .bf16) (w : FVec Ideal S2048x4608 .bf16) (t : FVec Ideal S8192x2048 .f32) (i : Fin 8192) (j : Fin 2048) :
    (out du w t (ix2 i j) : EReal) =
      (t (ix2 i j) : EReal) + ∑ k : Fin 4608, (du (ix2 i k) : EReal) * w (ix2 j k) := by
  pointwise [out]

end Cert.InAttDxRefIdeal.Prod

namespace Cert.InAttDxIdeal.Prod

open Idealize.ShloMosaic Idealize.ShloMosaic.TcCoe Idealize.SL.Sem
open Cert.InAttDxIdeal Cert.InAttDxIdeal.Gen
open scoped BigOperators

section cases

variable {F : FTy → Type} [FloatOps F]
variable (c : Dev nD) (i : grid0.Coords)
  (a3 : Memref sig .tc .vmem S1024x1536 .bf16) (h3 : a3.IsWhole) (a4 : Memref sig .tc .vmem S1024x1536 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x y : Vec F S1024x1536 .bf16) (d s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 a7 h7 hc0 hc1 hc2 x y d = k0_pay1 x y := by
  unfold sout0_A_0
  rw [View.read_writes_eq_canon _ _ _ (scover0_A_0 c i a3 h3 a4 h4 a5 h5 a6 h6 a7 h7 hc0 hc1 hc2 x y d)]
  unfold kernelRun0_A
  dsimp only
  sl_unfold_words
  rw [View.canon_unit_zero Mm.hz]
  unfold k0_pay2
  simp only [View.readAt_eq_ld, h3.read_unread, h4.read_unread, View.ld_unit_zero (S := S1024x1536) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 a7 h7 hc0 hc1 hc2 x y d s = addf s (k0_pay1 x y) := by
  unfold sout0_B_0
  rw [View.read_writes_eq_canon _ _ _ (scover0_B_0 c i a3 h3 a4 h4 a5 h5 a6 h6 a7 h7 hc0 hc1 hc2 x y d s)]
  unfold kernelRun0_B
  dsimp only
  sl_unfold_words
  rw [View.canon_unit_zero Mm.hz]
  unfold k0_pay3
  simp only [View.readAt_eq_ld, h3.read_unread, h4.read_unread, h7.read_unread, View.ld_unit_zero (S := S1024x1536) Mm.hz,
    View.ld_unit_zero (S := S1024x1024) Mm.hz, shapeCast_self]

/-- and the last too, and the result's block is the sum with what came beside it. -/
theorem last (hc0 : ¬cond0_0 i) (hc1 : cond0_1 i) (hc2 : cond0_2 i) :
    out0_C_3 c i a3 h3 a4 h4 a5 h5 a6 h6 a7 h7 hc0 hc1 hc2 x y d s = k0_pay4 (addf s (k0_pay1 x y)) d := by
  unfold out0_C_3
  rw [View.read_writes_eq_canon _ _ _ (cover0_C_3 c i a3 h3 a4 h4 a5 h5 a6 h6 a7 h7 hc0 hc1 hc2 x y d s)]
  unfold kernelRun0_C
  dsimp only
  sl_unfold_words
  rw [View.canon_unit_zero Mm.hz, View.readCov_unit_zero (S := S1024x1024) _ Mm.hz]
  unfold k0_pay3
  simp only [View.readAt_eq_ld, h3.read_unread, h4.read_unread, h5.read_unread, h7.read_unread, View.ld_unit_zero (S := S1024x1536) Mm.hz,
    View.ld_unit_zero (S := S1024x1024) Mm.hz, shapeCast_self]

end cases

variable (m : (ℓ : Loc nD τ sig) → Buf (Elt Ideal) ℓ) (c : Dev nD)

theorem pay1_apply (x y : Vec Ideal S1024x1536 .bf16) (r n : Fin 1024) :
    (k0_pay1 x y (ix2 r n) : EReal) = ∑ k : Fin 1536, (x (ix2 r k) : EReal) * y (ix2 n k) := by
  pointwise [k0_pay1]

theorem pay4_apply (s d : Vec Ideal S1024x1024 .f32) (r n : Fin 1024) :
    (k0_pay4 s d (ix2 r n) : EReal) = (d (ix2 r n) : EReal) + s (ix2 r n) := by
  pointwise [k0_pay4]

theorem at0 : ∀ t : Fin cfg0.N, win0_0.index t = ![t.val / 6, t.val % 3] ∧ win0_1.index t = ![t.val / 3 % 2, t.val % 3] ∧ win0_2.index t = ![t.val / 6, t.val / 3 % 2] :=
  (by decide +kernel : ∀ t : Fin grid0.N, _)

/-- The arguments. -/
abbrev du : FVec Ideal S8192x4608 .bf16 := m ((c.tc : Thread nD τ).loc main_arg0)
abbrev w : FVec Ideal S2048x4608 .bf16 := m ((c.tc : Thread nD τ).loc main_arg1)
abbrev tt : FVec Ideal S8192x2048 .f32 := m ((c.tc : Thread nD τ).loc main_arg2)

theorem iblk0_apply (t : Fin cfg0.N) (r : Fin 1024) (k : Fin 1536) (i : Fin 8192) (j : Fin 4608) (hi : i.val = 1024 * (t.val / 6) + r.val) (hj : j.val = 1536 * (t.val % 3) + k.val) :
    (iblk m c 0 t : Vec Ideal S1024x1536 .bf16) (ix2 r k) = du m c (ix2 i j) := by
  unfold iblk
  rw [View.read_apply]
  refine congrArg (du m c) (funext fun a => Fin.ext ?_)
  match a with
  | ⟨0, _⟩ => show win0_0.index t 0 * 1024 + 1 * r.val = i.val; rw [(at0 t).1, hi]; show t.val / 6 * 1024 + 1 * r.val = _; omega
  | ⟨1, _⟩ => show win0_0.index t 1 * 1536 + 1 * k.val = j.val; rw [(at0 t).1, hj]; show t.val % 3 * 1536 + 1 * k.val = _; omega

theorem iblk1_apply (t : Fin cfg0.N) (r : Fin 1024) (k : Fin 1536) (i : Fin 2048) (j : Fin 4608) (hi : i.val = 1024 * (t.val / 3 % 2) + r.val) (hj : j.val = 1536 * (t.val % 3) + k.val) :
    (iblk m c 1 t : Vec Ideal S1024x1536 .bf16) (ix2 r k) = w m c (ix2 i j) := by
  unfold iblk
  rw [View.read_apply]
  refine congrArg (w m c) (funext fun a => Fin.ext ?_)
  match a with
  | ⟨0, _⟩ => show win0_1.index t 0 * 1024 + 1 * r.val = i.val; rw [(at0 t).2.1, hi]; show t.val / 3 % 2 * 1024 + 1 * r.val = _; omega
  | ⟨1, _⟩ => show win0_1.index t 1 * 1536 + 1 * k.val = j.val; rw [(at0 t).2.1, hj]; show t.val % 3 * 1536 + 1 * k.val = _; omega

theorem iblk2_apply (t : Fin cfg0.N) (r n : Fin 1024) (i : Fin 8192) (j : Fin 2048) (hi : i.val = 1024 * (t.val / 6) + r.val) (hj : j.val = 1024 * (t.val / 3 % 2) + n.val) :
    (iblk m c 2 t : Vec Ideal S1024x1024 .f32) (ix2 r n) = tt m c (ix2 i j) := by
  unfold iblk
  rw [View.read_apply]
  refine congrArg (tt m c) (funext fun a => Fin.ext ?_)
  match a with
  | ⟨0, _⟩ => show win0_2.index t 0 * 1024 + 1 * r.val = i.val; rw [(at0 t).2.2, hi]; show t.val / 6 * 1024 + 1 * r.val = _; omega
  | ⟨1, _⟩ => show win0_2.index t 1 * 1024 + 1 * n.val = j.val; rw [(at0 t).2.2, hj]; show t.val / 3 % 2 * 1024 + 1 * n.val = _; omega

/-- The terms of an entry of the product, and what the last step makes of their sum. -/
def terms (i : Fin 8192) (j : Fin 2048) (k : Fin 4608) : EReal := (du m c (ix2 i k) : EReal) * w m c (ix2 j k)
def withT (i : Fin 8192) (j : Fin 2048) (a : EReal) : EReal := (tt m c (ix2 i j) : EReal) + a

theorem part_apply (t : Fin cfg0.N) (r n : Fin 1024) (i : Fin 8192) (j : Fin 2048) (hi : i.val = 1024 * (t.val / 6) + r.val) (hj : j.val = 1024 * (t.val / 3 % 2) + n.val) :
    (k0_pay1 (iblk m c 0 t : Vec Ideal S1024x1536 .bf16) (iblk m c 1 t : Vec Ideal S1024x1536 .bf16) (ix2 r n) : EReal) = Mm.part (terms m c i j) 1536 (t.val % 3) := by
  rw [pay1_apply]
  refine Mm.part_eq _ _ (by omega) fun k => ?_
  rw [iblk0_apply m c t r k i ⟨1536 * (t.val % 3) + k.val, by omega⟩ hi rfl, iblk1_apply m c t n k j ⟨1536 * (t.val % 3) + k.val, by omega⟩ hj rfl]
  rfl

/-- The block a last step writes. -/
theorem block (t : Fin cfg0.N) (ht : t.val % 3 = 2) (r n : Fin 1024) (i : Fin 8192) (j : Fin 2048) (hi : i.val = 1024 * (t.val / 6) + r.val) (hj : j.val = 1024 * (t.val / 3 % 2) + n.val) :
    ((outsAt0 m c t.val t.isLt).1 (ix2 r n) : EReal) = withT m c i j (∑ k : Fin 4608, terms m c i j k) := by
  refine Mm.out_eq_of (terms m c i j) (withT m c i j) (N := cfg0.N) (B := 1536) (K := 3) rfl (by omega) (fun n' h => (outsAt0 m c n' h).2 (ix2 r n))
    (fun n' h => (outsAt0 m c n' h).1 (ix2 r n)) (t.val / 3) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last, pay4_apply, iblk2_apply m c ⟨p + 1, h⟩ r n i j (by dsimp only; omega) (by dsimp only; omega)]
    exact congrArg (fun a => withT m c i j (_ + a)) (part_apply m c ⟨p + 1, h⟩ r n i j (by dsimp only; omega) (by dsimp only; omega))

/-- The result array after the run. -/
theorem result (i : Fin 8192) (j : Fin 2048) : (Value.G3 m c (ix2 i j) : EReal) = withT m c i j (∑ k : Fin 4608, terms m c i j k) := by
  have hN : cfg0.N = 48 := N_0
  have hp : Value.pt3Of (ix2 i j) = 3 * (2 * (i.val / 1024) + j.val / 1024) + 2 := by
    show 3 * (2 * (i.val / 1024 - 0) + 1 * (j.val / 1024 - 0)) + 2 = _
    omega
  have hl : Value.pt3Of (ix2 i j) < cfg0.N := by rw [hp, hN]; omega
  have hi : Value.loc3Of (ix2 i j) = ix2 (⟨i.val % 1024, by omega⟩ : Fin 1024) (⟨j.val % 1024, by omega⟩ : Fin 1024) := by
    funext a
    match a with
    | ⟨0, _⟩ => rfl
    | ⟨1, _⟩ => rfl
  unfold Value.G3
  rw [dif_pos hl, ← Value.outsAt0_sweep m c _ hl, hi]
  exact block m c ⟨Value.pt3Of (ix2 i j), hl⟩ (by dsimp only; omega) _ _ i j (by dsimp only; omega) (by dsimp only; omega)

theorem result_eq : Value.G3 m c = Cert.InAttDxRefIdeal.Prod.out (du m c) (w m c) (tt m c) := funext fun i => by
  obtain ⟨p, q, rfl⟩ := Mm.at2 i
  rw [Cert.InAttDxRefIdeal.Prod.out_apply]
  exact result m c p q

theorem value : Cert.algebraic_InAttDxIdeal_InAttDxRefIdeal := fun m g m' g' _ ha =>
  ⟨Value.G3 m, Value.run m g, (θ_run Cert.InAttDxRefIdeal.defs _ _).mono (fun r h c => ⟨(h c).1.trans (by
    obtain ⟨a0, a1, a2⟩ := ha c
    rw [a0, a1, a2]
    exact (result_eq m c).symm), (h c).2⟩) (Cert.InAttDxRefIdeal.Value.run m' g')⟩

end Cert.InAttDxIdeal.Prod

end
-- ==== Proof.GateProjValue.lean ====
/-
  The gates: what the call leaves in its result.
-/
module

public import proofs.«01_k».proof.Proof.Gen.GateProjIdeal.Value
public import proofs.«01_k».proof.Proof.Gen.GateProjRefIdeal.Run
public import proofs.«01_k».proof.Proof.Mm
public import proofs.«01_k».proof.Defs

@[expose] public section

set_option maxRecDepth 16384

noncomputable section

namespace Cert.GateProjRefIdeal.Prod

open Idealize.ShloMosaic
open Cert.GateProjRefIdeal Cert.GateProjRefIdeal.Gen
open scoped BigOperators

/-- The reference's result, of its arguments. -/
def out (x : FVec Ideal S8192x2048 .bf16) (w : FVec Ideal S2048x8192 .bf16) (b : FVec Ideal S1x8192 .f32) : FVec Ideal S8192x8192 .bf16 :=
  truncf .bf16 (Host.divf (broadcastInDim S8192x8192 ![] bcast_S_S8192x8192 (constant S_ .f32 0x3F800000#32))
    (addf (broadcastInDim S8192x8192 ![] bcast_S_S8192x8192 (constant S_ .f32 0x3F800000#32)) (Host.exp (Host.negf
      (addf (Host.dotGeneral dot_S8192x2048_S2048x8192_S8192x8192_1_0_0_1_n_n none (extf .f32 x bitsLt_bf16_f32) (extf .f32 w bitsLt_bf16_f32))
        (broadcastInDim S8192x8192 ![0, 1] bcast_S1x8192_S8192x8192_0_1 b)))))) bitsLt_bf16_f32

theorem out_apply (x : FVec Ideal S8192x2048 .bf16) (w : FVec Ideal S2048x8192 .bf16) (b : FVec Ideal S1x8192 .f32) (i j : Fin 8192) :
    (out x w b (ix2 i j) : EReal) = Mm.logistic ((∑ k : Fin 2048, (x (ix2 i k) : EReal) * w (ix2 k j)) + b (ix2 0 j)) := by
  pointwise [out, Mm.logistic]

end Cert.GateProjRefIdeal.Prod

namespace Cert.GateProjIdeal.Prod

open Idealize.ShloMosaic Idealize.ShloMosaic.TcCoe Idealize.SL.Sem
open Cert.GateProjIdeal Cert.GateProjIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S2048x1024 .bf16) (h4 : a4.IsWhole)
  (a5 : Memref sig .tc .vmem S1x1024 .f32) (h5 : a5.IsWhole) (a6 : Memref sig .tc .vmem S1024x1024 .bf16) (h6 : a6.IsWhole)
  (a7 : Memref sig .tc .vmem S1024x1024 .f32) (h7 : a7.IsWhole)
  (x : Vec F S1024x2048 .bf16) (y : Vec F S2048x1024 .bf16) (b : Vec F S1x1024 .f32)

/-- The one step of a block writes its product. -/
theorem only (hc0 : cond0_0 i) (hc1 : ¬cond0_1 i) (hc2 : cond0_2 i) :
    out0_A_3 c i a3 h3 a4 h4 a5 h5 a6 h6 a7 h7 hc0 hc1 hc2 x y b = k0_pay4 (k0_pay1 x y) b := by
  unfold out0_A_3
  rw [View.read_writes_eq_canon _ _ _ (cover0_A_3 c i a3 h3 a4 h4 a5 h5 a6 h6 a7 h7 hc0 hc1 hc2 x y b)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, h5.read_unread, View.ld_unit_zero (S := S1024x2048) Mm.hz, View.ld_unit_zero (S := S2048x1024) Mm.hz, View.ld_unit_zero (S := S1x1024) Mm.hz, shapeCast_self]

end cases

variable (m : (ℓ : Loc nD τ sig) → Buf (Elt Ideal) ℓ) (c : Dev nD)

theorem pay1_apply (x : Vec Ideal S1024x2048 .bf16) (y : Vec Ideal S2048x1024 .bf16) (b : Vec Ideal S1x1024 .f32) (r n : Fin 1024) :
    (k0_pay4 (k0_pay1 x y) b (ix2 r n) : EReal) = Mm.logistic ((∑ k : Fin 2048, (x (ix2 r k) : EReal) * y (ix2 k n)) + b (ix2 0 n)) := by
  pointwise [k0_pay4, k0_pay1, Mm.logistic]
  rw [zero_sub]

theorem at0 : ∀ t : Fin cfg0.N, win0_0.index t = ![t.val / 8, 0] ∧ win0_1.index t = ![0, t.val % 8] ∧ win0_2.index t = ![0, t.val % 8] ∧ win0_3.index t = ![t.val / 8, t.val % 8] :=
  (by decide +kernel : ∀ t : Fin grid0.N, _)

/-- The arguments. -/
abbrev x : FVec Ideal S8192x2048 .bf16 := m ((c.tc : Thread nD τ).loc main_arg0)
abbrev w : FVec Ideal S2048x8192 .bf16 := m ((c.tc : Thread nD τ).loc main_arg1)
abbrev b : FVec Ideal S1x8192 .f32 := m ((c.tc : Thread nD τ).loc main_arg2)

theorem iblk0_apply (t : Fin cfg0.N) (r : Fin 1024) (k : Fin 2048) (i : Fin 8192) (hi : i.val = 1024 * (t.val / 8) + r.val) :
    (iblk m c 0 t : Vec Ideal S1024x2048 .bf16) (ix2 r k) = x m c (ix2 i k) := by
  unfold iblk
  rw [View.read_apply]
  refine congrArg (x m c) (funext fun a => Fin.ext ?_)
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = k.val; rw [(at0 t).1]; show 0 * 2048 + 1 * k.val = _; omega

theorem iblk1_apply (t : Fin cfg0.N) (k : Fin 2048) (r : Fin 1024) (j : Fin 8192) (hj : j.val = 1024 * (t.val % 8) + r.val) :
    (iblk m c 1 t : Vec Ideal S2048x1024 .bf16) (ix2 k r) = w m c (ix2 k j) := by
  unfold iblk
  rw [View.read_apply]
  refine congrArg (w m c) (funext fun a => Fin.ext ?_)
  match a with
  | ⟨0, _⟩ => show win0_1.index t 0 * 2048 + 1 * k.val = k.val; rw [(at0 t).2.1]; show 0 * 2048 + 1 * k.val = _; omega
  | ⟨1, _⟩ => show win0_1.index t 1 * 1024 + 1 * r.val = j.val; rw [(at0 t).2.1, hj]; show t.val % 8 * 1024 + 1 * r.val = _; omega

theorem iblk2_apply (t : Fin cfg0.N) (r : Fin 1) (n : Fin 1024) (j : Fin 8192) (hj : j.val = 1024 * (t.val % 8) + n.val) :
    (iblk m c 2 t : Vec Ideal S1x1024 .f32) (ix2 r n) = b m c (ix2 0 j) := by
  unfold iblk
  rw [View.read_apply]
  refine congrArg (b m c) (funext fun a => Fin.ext ?_)
  match a with
  | ⟨0, _⟩ => show win0_2.index t 0 * 1 + 1 * r.val = 0; rw [(at0 t).2.2.1]; show 0 * 1 + 1 * r.val = _; omega
  | ⟨1, _⟩ => show win0_2.index t 1 * 1024 + 1 * n.val = j.val; rw [(at0 t).2.2.1, hj]; show t.val % 8 * 1024 + 1 * n.val = _; omega

/-- What a point writes back is its block of the reference's result, -/
theorem flushed_eq (t : Fin cfg0.N) :
    (dats m 0 c).flushed 3 t = ((cfg0.win 3).blk t).view.read (Elt Ideal) (Cert.GateProjRefIdeal.Prod.out (x m c) (w m c) (b m c)) := by
  have hN : t.val < 64 := lt_of_lt_of_eq t.isLt N_0
  rw [Value.flushed3_A, only]
  funext y
  obtain ⟨r, n, rfl⟩ := Mm.at2 (a := 1024) (b := 1024) y
  have he : ((cfg0.win 3).blk t).view.emb (ix2 r n) = (ix2 (⟨1024 * (t.val / 8) + r.val, by omega⟩ : Fin 8192) (⟨1024 * (t.val % 8) + n.val, by omega⟩ : Fin 8192)) := by
    funext a
    apply Fin.ext
    match a with
    | ⟨0, _⟩ => show win0_3.index t 0 * 1024 + 1 * r.val = _; rw [(at0 t).2.2.2]; show t.val / 8 * 1024 + 1 * r.val = 1024 * (t.val / 8) + r.val; omega
    | ⟨1, _⟩ => show win0_3.index t 1 * 1024 + 1 * n.val = _; rw [(at0 t).2.2.2]; show t.val % 8 * 1024 + 1 * n.val = 1024 * (t.val % 8) + n.val; omega
  show k0_pay4 (k0_pay1 (iblk m c 0 t : Vec Ideal S1024x2048 .bf16) (iblk m c 1 t : Vec Ideal S2048x1024 .bf16)) (iblk m c 2 t : Vec Ideal S1x1024 .f32) (ix2 r n) = Cert.GateProjRefIdeal.Prod.out (x m c) (w m c) (b m c) (((cfg0.win 3).blk t).view.emb (ix2 r n))
  rw [he, Cert.GateProjRefIdeal.Prod.out_apply, pay1_apply]
  rw [iblk2_apply m c t 0 n ⟨1024 * (t.val % 8) + n.val, by omega⟩ rfl]
  refine congrArg (fun a => Mm.logistic (a + _)) (Finset.sum_congr rfl fun k _ => ?_)
  rw [iblk0_apply m c t r k ⟨1024 * (t.val / 8) + r.val, by omega⟩ rfl, iblk1_apply m c t k n ⟨1024 * (t.val % 8) + n.val, by omega⟩ rfl]

/-- and the points between them write every entry. -/
theorem covered (i : S8192x8192.Idx) : ∃ t : Fin cfg0.N, (cfg0.win 3).flush t = true ∧ i ∈ ((cfg0.win 3).blk t).view.set := by
  obtain ⟨p, q, rfl⟩ := Mm.at2 i
  refine ⟨⟨8 * (p.val / 1024) + q.val / 1024, lt_of_lt_of_eq (by omega) N_0.symm⟩, flush0_3 _, ?_⟩
  show _ ∈ ((View.whole main_v0).slice (win0_3.rect _)).set
  rw [View.set_slice_whole, Rect.mem_set_unit]
  intro a
  match a with
  | ⟨0, _⟩ => show win0_3.index _ 0 * 1024 ≤ p.val ∧ p.val < win0_3.index _ 0 * 1024 + 1024; rw [(at0 _).2.2.2]; dsimp only [Matrix.cons_val]; omega
  | ⟨1, _⟩ => show win0_3.index _ 1 * 1024 ≤ q.val ∧ q.val < win0_3.index _ 1 * 1024 + 1024; rw [(at0 _).2.2.2]; dsimp only [Matrix.cons_val]; omega

/-- The result array after the run. -/
theorem result_eq : (dats m 0 c).arrAt 3 cfg0.N = Cert.GateProjRefIdeal.Prod.out (x m c) (w m c) (b m c) :=
  (dats m 0 c).arrAt_eq_of_cover 3 _ (fun t _ => flushed_eq m c t) covered

theorem value : Cert.algebraic_GateProjIdeal_GateProjRefIdeal := fun m g m' g' _ ha =>
  ⟨fun c => (dats m 0 c).arrAt 3 cfg0.N, Value.run_blocks m g, (θ_run Cert.GateProjRefIdeal.defs _ _).mono (fun r h c => ⟨(h c).1.trans (by
    obtain ⟨a0, a1, a2⟩ := ha c
    rw [a0, a1, a2]
    exact (result_eq m c).symm), (h c).2⟩) (Cert.GateProjRefIdeal.Value.run m' g')⟩

end Cert.GateProjIdeal.Prod

end
-- ==== Proof.InProjAttValue.lean ====
/-
  The attention columns of the input projection: what the call leaves in its result.
-/
module

public import proofs.«01_k».proof.Proof.Gen.InProjAttIdeal.Value
public import proofs.«01_k».proof.Proof.Gen.InProjAttRefIdeal.Run
public import proofs.«01_k».proof.Proof.Mm
public import proofs.«01_k».proof.Defs

@[expose] public section

set_option maxRecDepth 16384

noncomputable section

namespace Cert.InProjAttRefIdeal.Prod

open Idealize.ShloMosaic
open Cert.InProjAttRefIdeal Cert.InProjAttRefIdeal.Gen
open scoped BigOperators

/-- The reference's result, of its arguments. -/
def out (x : FVec Ideal S8192x2048 .bf16) (w : FVec Ideal S2048x4608 .bf16) : FVec Ideal S8192x4608 .bf16 :=
  truncf .bf16 (Host.dotGeneral dot_S8192x2048_S2048x4608_S8192x4608_1_0_0_1_n_n none (extf .f32 x bitsLt_bf16_f32) (extf .f32 w bitsLt_bf16_f32)) bitsLt_bf16_f32

theorem out_apply (x : FVec Ideal S8192x2048 .bf16) (w : FVec Ideal S2048x4608 .bf16) (i : Fin 8192) (j : Fin 4608) :
    (out x w (ix2 i j) : EReal) = ∑ k : Fin 2048, (x (ix2 i k) : EReal) * w (ix2 k j) := by
  pointwise [out]

end Cert.InProjAttRefIdeal.Prod

namespace Cert.InProjAttIdeal.Prod

open Idealize.ShloMosaic Idealize.ShloMosaic.TcCoe Idealize.SL.Sem
open Cert.InProjAttIdeal Cert.InProjAttIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S2048x1536 .bf16) (h4 : a4.IsWhole)
  (a5 : Memref sig .tc .vmem S1024x1536 .bf16) (h5 : a5.IsWhole) (a6 : Memref sig .tc .vmem S1024x1536 .f32) (h6 : a6.IsWhole)
  (x : Vec F S1024x2048 .bf16) (y : Vec F S2048x1536 .bf16)

/-- The one step of a block writes its product. -/
theorem only (hc0 : cond0_0 i) (hc1 : ¬cond0_1 i) (hc2 : cond0_2 i) :
    out0_A_2 c i a3 h3 a4 h4 a5 h5 a6 h6 hc0 hc1 hc2 x y = k0_pay4 (k0_pay1 x y) := by
  unfold out0_A_2
  rw [View.read_writes_eq_canon _ _ _ (cover0_A_2 c i a3 h3 a4 h4 a5 h5 a6 h6 hc0 hc1 hc2 x y)]
  unfold kernelRun0_A
  dsimp only
  sl_unfold_words
  rw [View.canon_unit_zero Mm.hz, View.readCov_unit_zero (S := S1024x1536) _ Mm.hz]
  unfold k0_pay2
  simp only [View.readAt_eq_ld, h3.read_unread, h4.read_unread, View.ld_unit_zero (S := S1024x2048) Mm.hz, View.ld_unit_zero (S := S2048x1536) Mm.hz, shapeCast_self]

end cases

variable (m : (ℓ : Loc nD τ sig) → Buf (Elt Ideal) ℓ) (c : Dev nD)

theorem pay1_apply (x : Vec Ideal S1024x2048 .bf16) (y : Vec Ideal S2048x1536 .bf16) (r : Fin 1024) (n : Fin 1536) :
    (k0_pay4 (k0_pay1 x y) (ix2 r n) : EReal) = ∑ k : Fin 2048, (x (ix2 r k) : EReal) * y (ix2 k n) := by
  pointwise [k0_pay4, k0_pay1]

theorem at0 : ∀ t : Fin cfg0.N, win0_0.index t = ![t.val / 3, 0] ∧ win0_1.index t = ![0, t.val % 3] ∧ win0_2.index t = ![t.val / 3, t.val % 3] :=
  (by decide +kernel : ∀ t : Fin grid0.N, _)

/-- The arguments. -/
abbrev x : FVec Ideal S8192x2048 .bf16 := m ((c.tc : Thread nD τ).loc main_arg0)
abbrev w : FVec Ideal S2048x4608 .bf16 := m ((c.tc : Thread nD τ).loc main_arg1)

theorem iblk0_apply (t : Fin cfg0.N) (r : Fin 1024) (k : Fin 2048) (i : Fin 8192) (hi : i.val = 1024 * (t.val / 3) + r.val) :
    (iblk m c 0 t : Vec Ideal S1024x2048 .bf16) (ix2 r k) = x m c (ix2 i k) := by
  unfold iblk
  rw [View.read_apply]
  refine congrArg (x m c) (funext fun a => Fin.ext ?_)
  match a with
  | ⟨0, _⟩ => show win0_0.index t 0 * 1024 + 1 * r.val = i.val; rw [(at0 t).1, hi]; show t.val / 3 * 1024 + 1 * r.val = _; omega
  | ⟨1, _⟩ => show win0_0.index t 1 * 2048 + 1 * k.val = k.val; rw [(at0 t).1]; show 0 * 2048 + 1 * k.val = _; omega

theorem iblk1_apply (t : Fin cfg0.N) (k : Fin 2048) (r : Fin 1536) (j : Fin 4608) (hj : j.val = 1536 * (t.val % 3) + r.val) :
    (iblk m c 1 t : Vec Ideal S2048x1536 .bf16) (ix2 k r) = w m c (ix2 k j) := by
  unfold iblk
  rw [View.read_apply]
  refine congrArg (w m c) (funext fun a => Fin.ext ?_)
  match a with
  | ⟨0, _⟩ => show win0_1.index t 0 * 2048 + 1 * k.val = k.val; rw [(at0 t).2.1]; show 0 * 2048 + 1 * k.val = _; omega
  | ⟨1, _⟩ => show win0_1.index t 1 * 1536 + 1 * r.val = j.val; rw [(at0 t).2.1, hj]; show t.val % 3 * 1536 + 1 * r.val = _; omega

/-- What a point writes back is its block of the reference's result, -/
theorem flushed_eq (t : Fin cfg0.N) :
    (dats m 0 c).flushed 2 t = ((cfg0.win 2).blk t).view.read (Elt Ideal) (Cert.InProjAttRefIdeal.Prod.out (x m c) (w m c)) := by
  have hN : t.val < 24 := lt_of_lt_of_eq t.isLt N_0
  rw [Value.flushed2_A, only]
  funext y
  obtain ⟨r, n, rfl⟩ := Mm.at2 (a := 1024) (b := 1536) y
  have he : ((cfg0.win 2).blk t).view.emb (ix2 r n) = (ix2 (⟨1024 * (t.val / 3) + r.val, by omega⟩ : Fin 8192) (⟨1536 * (t.val % 3) + n.val, by omega⟩ : Fin 4608)) := by
    funext a
    apply Fin.ext
    match a with
    | ⟨0, _⟩ => show win0_2.index t 0 * 1024 + 1 * r.val = _; rw [(at0 t).2.2]; show t.val / 3 * 1024 + 1 * r.val = 1024 * (t.val / 3) + r.val; omega
    | ⟨1, _⟩ => show win0_2.index t 1 * 1536 + 1 * n.val = _; rw [(at0 t).2.2]; show t.val % 3 * 1536 + 1 * n.val = 1536 * (t.val % 3) + n.val; omega
  show k0_pay4 (k0_pay1 (iblk m c 0 t : Vec Ideal S1024x2048 .bf16) (iblk m c 1 t : Vec Ideal S2048x1536 .bf16)) (ix2 r n) = Cert.InProjAttRefIdeal.Prod.out (x m c) (w m c) (((cfg0.win 2).blk t).view.emb (ix2 r n))
  rw [he, Cert.InProjAttRefIdeal.Prod.out_apply, pay1_apply]
  refine Finset.sum_congr rfl fun k _ => ?_
  rw [iblk0_apply m c t r k ⟨1024 * (t.val / 3) + r.val, by omega⟩ rfl, iblk1_apply m c t k n ⟨1536 * (t.val % 3) + n.val, by omega⟩ rfl]

/-- and the points between them write every entry. -/
theorem covered (i : S8192x4608.Idx) : ∃ t : Fin cfg0.N, (cfg0.win 2).flush t = true ∧ i ∈ ((cfg0.win 2).blk t).view.set := by
  obtain ⟨p, q, rfl⟩ := Mm.at2 i
  refine ⟨⟨3 * (p.val / 1024) + q.val / 1536, lt_of_lt_of_eq (by omega) N_0.symm⟩, flush0_2 _, ?_⟩
  show _ ∈ ((View.whole main_v0).slice (win0_2.rect _)).set
  rw [View.set_slice_whole, Rect.mem_set_unit]
  intro a
  match a with
  | ⟨0, _⟩ => show win0_2.index _ 0 * 1024 ≤ p.val ∧ p.val < win0_2.index _ 0 * 1024 + 1024; rw [(at0 _).2.2]; dsimp only [Matrix.cons_val]; omega
  | ⟨1, _⟩ => show win0_2.index _ 1 * 1536 ≤ q.val ∧ q.val < win0_2.index _ 1 * 1536 + 1536; rw [(at0 _).2.2]; dsimp only [Matrix.cons_val]; omega

/-- The result array after the run. -/
theorem result_eq : (dats m 0 c).arrAt 2 cfg0.N = Cert.InProjAttRefIdeal.Prod.out (x m c) (w m c) :=
  (dats m 0 c).arrAt_eq_of_cover 2 _ (fun t _ => flushed_eq m c t) covered

theorem value : Cert.algebraic_InProjAttIdeal_InProjAttRefIdeal := fun m g m' g' _ ha =>
  ⟨fun c => (dats m 0 c).arrAt 2 cfg0.N, Value.run_blocks m g, (θ_run Cert.InProjAttRefIdeal.defs _ _).mono (fun r h c => ⟨(h c).1.trans (by
    obtain ⟨a0, a1⟩ := ha c
    rw [a0, a1]
    exact (result_eq m c).symm), (h c).2⟩) (Cert.InProjAttRefIdeal.Value.run m' g')⟩

end Cert.InProjAttIdeal.Prod

end
-- ==== Proof.OutDxValue.lean ====
/-
  The gradient of what the output projection is of: what the call leaves in its result.
-/
module

public import proofs.«01_k».proof.Proof.Gen.OutDxIdeal.Value
public import proofs.«01_k».proof.Proof.Gen.OutDxRefIdeal.Run
public import proofs.«01_k».proof.Proof.Mm
public import proofs.«01_k».proof.Defs

@[expose] public section

set_option maxRecDepth 16384

noncomputable section

namespace Cert.OutDxRefIdeal.Prod

open Idealize.ShloMosaic
open Cert.OutDxRefIdeal Cert.OutDxRefIdeal.Gen
open scoped BigOperators

/-- The reference's result, of its arguments. -/
def out (dh : FVec Ideal S8192x2048 .bf16) (w : FVec Ideal S2048x2048 .bf16) : FVec Ideal S8192x2048 .f32 :=
  Host.dotGeneral dot_S8192x2048_S2048x2048_S8192x2048_1_1_0_0_n_n none (extf .f32 dh bitsLt_bf16_f32) (extf .f32 w bitsLt_bf16_f32)

theorem out_apply (dh : FVec Ideal S8192x2048 .bf16) (w : FVec Ideal S2048x2048 .bf16) (i : Fin 8192) (j : Fin 2048) :
    (out dh w (ix2 i j) : EReal) = ∑ k : Fin 2048, (dh (ix2 i k) : EReal) * w (ix2 j k) := by
  pointwise [out]

end Cert.OutDxRefIdeal.Prod

namespace Cert.OutDxIdeal.Prod

open Idealize.ShloMosaic Idealize.ShloMosaic.TcCoe Idealize.SL.Sem
open Cert.OutDxIdeal Cert.OutDxIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (x y : Vec F S1024x2048 .bf16)

/-- The one step of a block writes its product. -/
theorem only (hc0 : cond0_0 i) (hc1 : ¬cond0_1 i) (hc2 : cond0_2 i) :
    out0_A_2 c i a3 h3 a4 h4 a5 h5 a6 h6 hc0 hc1 hc2 x y = k0_pay1 x y := by
  unfold out0_A_2
  rw [View.read_writes_eq_canon _ _ _ (cover0_A_2 c i a3 h3 a4 h4 a5 h5 a6 h6 hc0 hc1 hc2 x y)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, View.ld_unit_zero (S := S1024x2048) Mm.hz, shapeCast_self]

end cases

variable (m : (ℓ : Loc nD τ sig) → Buf (Elt Ideal) ℓ) (c : Dev nD)

theorem pay1_apply (x y : Vec Ideal S1024x2048 .bf16) (r n : Fin 1024) :
    (k0_pay1 x y (ix2 r n) : EReal) = ∑ k : Fin 2048, (x (ix2 r k) : EReal) * y (ix2 n k) := by
  pointwise [k0_pay1]

theorem at0 : ∀ t : Fin cfg0.N, win0_0.index t = ![t.val / 2, 0] ∧ win0_1.index t = ![t.val % 2, 0] ∧ win0_2.index t = ![t.val / 2, t.val % 2] :=
  (by decide +kernel : ∀ t : Fin grid0.N, _)

/-- The arguments. -/
abbrev dh : FVec Ideal S8192x2048 .bf16 := m ((c.tc : Thread nD τ).loc main_arg0)
abbrev w : FVec Ideal S2048x2048 .bf16 := m ((c.tc : Thread nD τ).loc main_arg1)

theorem iblk0_apply (t : Fin cfg0.N) (r : Fin 1024) (k : Fin 2048) (i : Fin 8192) (hi : i.val = 1024 * (t.val / 2) + r.val) :
    (iblk m c 0 t : Vec Ideal S1024x2048 .bf16) (ix2 r k) = dh m c (ix2 i k) := by
  unfold iblk
  rw [View.read_apply]
  refine congrArg (dh m c) (funext fun a => Fin.ext ?_)
  match a with
  | ⟨0, _⟩ => show win0_0.index t 0 * 1024 + 1 * r.val = i.val; rw [(at0 t).1, hi]; show t.val / 2 * 1024 + 1 * r.val = _; omega
  | ⟨1, _⟩ => show win0_0.index t 1 * 2048 + 1 * k.val = k.val; rw [(at0 t).1]; show 0 * 2048 + 1 * k.val = _; omega

theorem iblk1_apply (t : Fin cfg0.N) (r : Fin 1024) (k : Fin 2048) (j : Fin 2048) (hj : j.val = 1024 * (t.val % 2) + r.val) :
    (iblk m c 1 t : Vec Ideal S1024x2048 .bf16) (ix2 r k) = w m c (ix2 j k) := by
  unfold iblk
  rw [View.read_apply]
  refine congrArg (w m c) (funext fun a => Fin.ext ?_)
  match a with
  | ⟨0, _⟩ => show win0_1.index t 0 * 1024 + 1 * r.val = j.val; rw [(at0 t).2.1, hj]; show t.val % 2 * 1024 + 1 * r.val = _; omega
  | ⟨1, _⟩ => show win0_1.index t 1 * 2048 + 1 * k.val = k.val; rw [(at0 t).2.1]; show 0 * 2048 + 1 * k.val = _; omega

/-- What a point writes back is its block of the reference's result, -/
theorem flushed_eq (t : Fin cfg0.N) :
    (dats m 0 c).flushed 2 t = ((cfg0.win 2).blk t).view.read (Elt Ideal) (Cert.OutDxRefIdeal.Prod.out (dh m c) (w m c)) := by
  have hN : t.val < 16 := lt_of_lt_of_eq t.isLt N_0
  rw [Value.flushed2_A, only]
  funext y
  obtain ⟨r, n, rfl⟩ := Mm.at2 (a := 1024) (b := 1024) y
  have he : ((cfg0.win 2).blk t).view.emb (ix2 r n) = (ix2 (⟨1024 * (t.val / 2) + r.val, by omega⟩ : Fin 8192) (⟨1024 * (t.val % 2) + n.val, by omega⟩ : Fin 2048)) := by
    funext a
    apply Fin.ext
    match a with
    | ⟨0, _⟩ => show win0_2.index t 0 * 1024 + 1 * r.val = _; rw [(at0 t).2.2]; show t.val / 2 * 1024 + 1 * r.val = 1024 * (t.val / 2) + r.val; omega
    | ⟨1, _⟩ => show win0_2.index t 1 * 1024 + 1 * n.val = _; rw [(at0 t).2.2]; show t.val % 2 * 1024 + 1 * n.val = 1024 * (t.val % 2) + n.val; omega
  show k0_pay1 (iblk m c 0 t : Vec Ideal S1024x2048 .bf16) (iblk m c 1 t : Vec Ideal S1024x2048 .bf16) (ix2 r n) = Cert.OutDxRefIdeal.Prod.out (dh m c) (w m c) (((cfg0.win 2).blk t).view.emb (ix2 r n))
  rw [he, Cert.OutDxRefIdeal.Prod.out_apply, pay1_apply]
  refine Finset.sum_congr rfl fun k _ => ?_
  rw [iblk0_apply m c t r k ⟨1024 * (t.val / 2) + r.val, by omega⟩ rfl, iblk1_apply m c t n k ⟨1024 * (t.val % 2) + n.val, by omega⟩ rfl]

/-- and the points between them write every entry. -/
theorem covered (i : S8192x2048.Idx) : ∃ t : Fin cfg0.N, (cfg0.win 2).flush t = true ∧ i ∈ ((cfg0.win 2).blk t).view.set := by
  obtain ⟨p, q, rfl⟩ := Mm.at2 i
  refine ⟨⟨2 * (p.val / 1024) + q.val / 1024, lt_of_lt_of_eq (by omega) N_0.symm⟩, flush0_2 _, ?_⟩
  show _ ∈ ((View.whole main_v0).slice (win0_2.rect _)).set
  rw [View.set_slice_whole, Rect.mem_set_unit]
  intro a
  match a with
  | ⟨0, _⟩ => show win0_2.index _ 0 * 1024 ≤ p.val ∧ p.val < win0_2.index _ 0 * 1024 + 1024; rw [(at0 _).2.2]; dsimp only [Matrix.cons_val]; omega
  | ⟨1, _⟩ => show win0_2.index _ 1 * 1024 ≤ q.val ∧ q.val < win0_2.index _ 1 * 1024 + 1024; rw [(at0 _).2.2]; dsimp only [Matrix.cons_val]; omega

/-- The result array after the run. -/
theorem result_eq : (dats m 0 c).arrAt 2 cfg0.N = Cert.OutDxRefIdeal.Prod.out (dh m c) (w m c) :=
  (dats m 0 c).arrAt_eq_of_cover 2 _ (fun t _ => flushed_eq m c t) covered

theorem value : Cert.algebraic_OutDxIdeal_OutDxRefIdeal := fun m g m' g' _ ha =>
  ⟨fun c => (dats m 0 c).arrAt 2 cfg0.N, Value.run_blocks m g, (θ_run Cert.OutDxRefIdeal.defs _ _).mono (fun r h c => ⟨(h c).1.trans (by
    obtain ⟨a0, a1⟩ := ha c
    rw [a0, a1]
    exact (result_eq m c).symm), (h c).2⟩) (Cert.OutDxRefIdeal.Value.run m' g')⟩

end Cert.OutDxIdeal.Prod

end
-- ==== Proof.OutProjValue.lean ====
/-
  The output projection: what the call leaves in its result.
-/
module

public import proofs.«01_k».proof.Proof.Gen.OutProjIdeal.Value
public import proofs.«01_k».proof.Proof.Gen.OutProjRefIdeal.Run
public import proofs.«01_k».proof.Proof.Mm
public import proofs.«01_k».proof.Defs

@[expose] public section

set_option maxRecDepth 16384

noncomputable section

namespace Cert.OutProjRefIdeal.Prod

open Idealize.ShloMosaic
open Cert.OutProjRefIdeal Cert.OutProjRefIdeal.Gen
open scoped BigOperators

/-- The reference's result, of its arguments. -/
def out (x : FVec Ideal S8192x2048 .bf16) (w : FVec Ideal S2048x2048 .bf16) (b : FVec Ideal S8192x2048 .f32) : FVec Ideal S8192x2048 .f32 :=
  addf (mulf (broadcastInDim S8192x2048 ![] bcast_S_S8192x2048 (constant S_ .f32 0x3FB504F3#32)) b)
    (Host.dotGeneral dot_S8192x2048_S2048x2048_S8192x2048_1_0_0_1_n_n none (extf .f32 x bitsLt_bf16_f32) (extf .f32 w bitsLt_bf16_f32))

theorem out_apply (x : FVec Ideal S8192x2048 .bf16) (w : FVec Ideal S2048x2048 .bf16) (b : FVec Ideal S8192x2048 .f32) (i : Fin 8192) (j : Fin 2048) :
    (out x w b (ix2 i j) : EReal) = (Scalar.ofBits .f32 0x3FB504F3#32 : Ideal .f32) * b (ix2 i j) + ∑ k : Fin 2048, (x (ix2 i k) : EReal) * w (ix2 k j) := by
  pointwise [out]

end Cert.OutProjRefIdeal.Prod

namespace Cert.OutProjIdeal.Prod

open Idealize.ShloMosaic Idealize.ShloMosaic.TcCoe Idealize.SL.Sem
open Cert.OutProjIdeal Cert.OutProjIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x2048 .bf16) (y : Vec F S2048x1024 .bf16) (b : Vec F S1024x1024 .f32)

/-- The one step of a block writes its product. -/
theorem only (hc0 : cond0_0 i) (hc1 : ¬cond0_1 i) (hc2 : cond0_2 i) :
    out0_A_3 c i a3 h3 a4 h4 a5 h5 a6 h6 a7 h7 hc0 hc1 hc2 x y b = k0_pay4 (k0_pay1 x y) b := by
  unfold out0_A_3
  rw [View.read_writes_eq_canon _ _ _ (cover0_A_3 c i a3 h3 a4 h4 a5 h5 a6 h6 a7 h7 hc0 hc1 hc2 x y b)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, h5.read_unread, View.ld_unit_zero (S := S1024x2048) Mm.hz, View.ld_unit_zero (S := S2048x1024) Mm.hz, View.ld_unit_zero (S := S1024x1024) Mm.hz, shapeCast_self]

end cases

variable (m : (ℓ : Loc nD τ sig) → Buf (Elt Ideal) ℓ) (c : Dev nD)

theorem pay1_apply (x : Vec Ideal S1024x2048 .bf16) (y : Vec Ideal S2048x1024 .bf16) (b : Vec Ideal S1024x1024 .f32) (r n : Fin 1024) :
    (k0_pay4 (k0_pay1 x y) b (ix2 r n) : EReal) = (Scalar.ofBits .f32 0x3FB504F3#32 : Ideal .f32) * b (ix2 r n) + ∑ k : Fin 2048, (x (ix2 r k) : EReal) * y (ix2 k n) := by
  pointwise [k0_pay4, k0_pay1]

theorem at0 : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The arguments. -/
abbrev x : FVec Ideal S8192x2048 .bf16 := m ((c.tc : Thread nD τ).loc main_arg0)
abbrev w : FVec Ideal S2048x2048 .bf16 := m ((c.tc : Thread nD τ).loc main_arg1)
abbrev b : FVec Ideal S8192x2048 .f32 := m ((c.tc : Thread nD τ).loc main_arg2)

theorem iblk0_apply (t : Fin cfg0.N) (r : Fin 1024) (k : Fin 2048) (i : Fin 8192) (hi : i.val = 1024 * (t.val / 2) + r.val) :
    (iblk m c 0 t : Vec Ideal S1024x2048 .bf16) (ix2 r k) = x m c (ix2 i k) := by
  unfold iblk
  rw [View.read_apply]
  refine congrArg (x m c) (funext fun a => Fin.ext ?_)
  match a with
  | ⟨0, _⟩ => show win0_0.index t 0 * 1024 + 1 * r.val = i.val; rw [(at0 t).1, hi]; show t.val / 2 * 1024 + 1 * r.val = _; omega
  | ⟨1, _⟩ => show win0_0.index t 1 * 2048 + 1 * k.val = k.val; rw [(at0 t).1]; show 0 * 2048 + 1 * k.val = _; omega

theorem iblk1_apply (t : Fin cfg0.N) (k : Fin 2048) (r : Fin 1024) (j : Fin 2048) (hj : j.val = 1024 * (t.val % 2) + r.val) :
    (iblk m c 1 t : Vec Ideal S2048x1024 .bf16) (ix2 k r) = w m c (ix2 k j) := by
  unfold iblk
  rw [View.read_apply]
  refine congrArg (w m c) (funext fun a => Fin.ext ?_)
  match a with
  | ⟨0, _⟩ => show win0_1.index t 0 * 2048 + 1 * k.val = k.val; rw [(at0 t).2.1]; show 0 * 2048 + 1 * k.val = _; omega
  | ⟨1, _⟩ => show win0_1.index t 1 * 1024 + 1 * r.val = j.val; rw [(at0 t).2.1, hj]; show t.val % 2 * 1024 + 1 * r.val = _; omega

theorem iblk2_apply (t : Fin cfg0.N) (r n : Fin 1024) (i : Fin 8192) (j : Fin 2048) (hi : i.val = 1024 * (t.val / 2) + r.val) (hj : j.val = 1024 * (t.val % 2) + n.val) :
    (iblk m c 2 t : Vec Ideal S1024x1024 .f32) (ix2 r n) = b m c (ix2 i j) := by
  unfold iblk
  rw [View.read_apply]
  refine congrArg (b m c) (funext fun a => Fin.ext ?_)
  match a with
  | ⟨0, _⟩ => show win0_2.index t 0 * 1024 + 1 * r.val = i.val; rw [(at0 t).2.2.1, hi]; show t.val / 2 * 1024 + 1 * r.val = _; omega
  | ⟨1, _⟩ => show win0_2.index t 1 * 1024 + 1 * n.val = j.val; rw [(at0 t).2.2.1, hj]; show t.val % 2 * 1024 + 1 * n.val = _; omega

/-- What a point writes back is its block of the reference's result, -/
theorem flushed_eq (t : Fin cfg0.N) :
    (dats m 0 c).flushed 3 t = ((cfg0.win 3).blk t).view.read (Elt Ideal) (Cert.OutProjRefIdeal.Prod.out (x m c) (w m c) (b m c)) := by
  have hN : t.val < 16 := lt_of_lt_of_eq t.isLt N_0
  rw [Value.flushed3_A, only]
  funext y
  obtain ⟨r, n, rfl⟩ := Mm.at2 (a := 1024) (b := 1024) y
  have he : ((cfg0.win 3).blk t).view.emb (ix2 r n) = (ix2 (⟨1024 * (t.val / 2) + r.val, by omega⟩ : Fin 8192) (⟨1024 * (t.val % 2) + n.val, by omega⟩ : Fin 2048)) := by
    funext a
    apply Fin.ext
    match a with
    | ⟨0, _⟩ => show win0_3.index t 0 * 1024 + 1 * r.val = _; rw [(at0 t).2.2.2]; show t.val / 2 * 1024 + 1 * r.val = 1024 * (t.val / 2) + r.val; omega
    | ⟨1, _⟩ => show win0_3.index t 1 * 1024 + 1 * n.val = _; rw [(at0 t).2.2.2]; show t.val % 2 * 1024 + 1 * n.val = 1024 * (t.val % 2) + n.val; omega
  show k0_pay4 (k0_pay1 (iblk m c 0 t : Vec Ideal S1024x2048 .bf16) (iblk m c 1 t : Vec Ideal S2048x1024 .bf16)) (iblk m c 2 t : Vec Ideal S1024x1024 .f32) (ix2 r n) = Cert.OutProjRefIdeal.Prod.out (x m c) (w m c) (b m c) (((cfg0.win 3).blk t).view.emb (ix2 r n))
  rw [he, Cert.OutProjRefIdeal.Prod.out_apply, pay1_apply]
  rw [iblk2_apply m c t r n ⟨1024 * (t.val / 2) + r.val, by omega⟩ ⟨1024 * (t.val % 2) + n.val, by omega⟩ rfl rfl]
  refine congrArg (_ + ·) (Finset.sum_congr rfl fun k _ => ?_)
  rw [iblk0_apply m c t r k ⟨1024 * (t.val / 2) + r.val, by omega⟩ rfl, iblk1_apply m c t k n ⟨1024 * (t.val % 2) + n.val, by omega⟩ rfl]

/-- and the points between them write every entry. -/
theorem covered (i : S8192x2048.Idx) : ∃ t : Fin cfg0.N, (cfg0.win 3).flush t = true ∧ i ∈ ((cfg0.win 3).blk t).view.set := by
  obtain ⟨p, q, rfl⟩ := Mm.at2 i
  refine ⟨⟨2 * (p.val / 1024) + q.val / 1024, lt_of_lt_of_eq (by omega) N_0.symm⟩, flush0_3 _, ?_⟩
  show _ ∈ ((View.whole main_v0).slice (win0_3.rect _)).set
  rw [View.set_slice_whole, Rect.mem_set_unit]
  intro a
  match a with
  | ⟨0, _⟩ => show win0_3.index _ 0 * 1024 ≤ p.val ∧ p.val < win0_3.index _ 0 * 1024 + 1024; rw [(at0 _).2.2.2]; dsimp only [Matrix.cons_val]; omega
  | ⟨1, _⟩ => show win0_3.index _ 1 * 1024 ≤ q.val ∧ q.val < win0_3.index _ 1 * 1024 + 1024; rw [(at0 _).2.2.2]; dsimp only [Matrix.cons_val]; omega

/-- The result array after the run. -/
theorem result_eq : (dats m 0 c).arrAt 3 cfg0.N = Cert.OutProjRefIdeal.Prod.out (x m c) (w m c) (b m c) :=
  (dats m 0 c).arrAt_eq_of_cover 3 _ (fun t _ => flushed_eq m c t) covered

theorem value : Cert.algebraic_OutProjIdeal_OutProjRefIdeal := fun m g m' g' _ ha =>
  ⟨fun c => (dats m 0 c).arrAt 3 cfg0.N, Value.run_blocks m g, (θ_run Cert.OutProjRefIdeal.defs _ _).mono (fun r h c => ⟨(h c).1.trans (by
    obtain ⟨a0, a1, a2⟩ := ha c
    rw [a0, a1, a2]
    exact (result_eq m c).symm), (h c).2⟩) (Cert.OutProjRefIdeal.Value.run m' g')⟩

end Cert.OutProjIdeal.Prod

end
-- ==== Proof.OutDwValue.lean ====
/-
  The gradient of the output projection: what the call leaves in its result.
-/
module

public import proofs.«01_k».proof.Proof.Gen.OutDwIdeal.Value
public import proofs.«01_k».proof.Proof.Gen.OutDwRefIdeal.Run
public import proofs.«01_k».proof.Proof.Mm
public import proofs.«01_k».proof.Defs

@[expose] public section

set_option maxRecDepth 16384

noncomputable section

namespace Cert.OutDwRefIdeal.Prod

open Idealize.ShloMosaic
open Cert.OutDwRefIdeal Cert.OutDwRefIdeal.Gen
open scoped BigOperators

/-- The reference's result, of its arguments. -/
def out (x : FVec Ideal S8192x2048 .bf16) (y : FVec Ideal S8192x2048 .bf16) : FVec Ideal S2048x2048 .f32 :=
  transpose S2048x2048 [1, 0] (Host.dotGeneral dot_S8192x2048_S8192x2048_S2048x2048_0_0_1_1_n_n none
    (extf .f32 y bitsLt_bf16_f32) (extf .f32 x bitsLt_bf16_f32)) transposes_S2048x2048_S2048x2048_1_0

theorem out_apply (x : FVec Ideal S8192x2048 .bf16) (y : FVec Ideal S8192x2048 .bf16) (i j : Fin 2048) :
    (out x y (ix2 i j) : EReal) = ∑ k : Fin 8192, (y (ix2 k j) : EReal) * x (ix2 k i) := by
  pointwise [out]

end Cert.OutDwRefIdeal.Prod

namespace Cert.OutDwIdeal.Prod

open Idealize.ShloMosaic Idealize.ShloMosaic.TcCoe Idealize.SL.Sem
open Cert.OutDwIdeal Cert.OutDwIdeal.Gen
open scoped BigOperators

section cases

variable {F : FTy → Type} [FloatOps F]
variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x y : Vec F S2048x1024 .bf16) (s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero Mm.hz]
  unfold k0_pay2
  simp only [View.readAt_eq_ld, h3.read_unread, h4.read_unread, View.ld_unit_zero (S := S2048x1024) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero Mm.hz]
  unfold k0_pay3
  simp only [View.readAt_eq_ld, h3.read_unread, h4.read_unread, h6.read_unread, View.ld_unit_zero (S := S2048x1024) Mm.hz,
    View.ld_unit_zero (S := S1024x1024) Mm.hz, shapeCast_self]

/-- and the last too, and the sum is the result's block. -/
theorem last (hc0 : ¬cond0_0 i) (hc1 : cond0_1 i) (hc2 : cond0_2 i) :
    out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero Mm.hz, View.readCov_unit_zero (S := S1024x1024) _ Mm.hz]
  unfold k0_pay3
  simp only [View.readAt_eq_ld, h3.read_unread, h4.read_unread, h6.read_unread, View.ld_unit_zero (S := S2048x1024) Mm.hz,
    View.ld_unit_zero (S := S1024x1024) Mm.hz, shapeCast_self]

end cases

variable (m : (ℓ : Loc nD τ sig) → Buf (Elt Ideal) ℓ) (c : Dev nD)

theorem pay1_apply (x y : Vec Ideal S2048x1024 .bf16) (r n : Fin 1024) :
    (k0_pay1 x y (ix2 r n) : EReal) = ∑ k : Fin 2048, (x (ix2 k r) : EReal) * y (ix2 k n) := by
  pointwise [k0_pay1]

theorem at0 : ∀ t : Fin cfg0.N, win0_0.index t = ![t.val % 4, t.val / 8] ∧ win0_1.index t = ![t.val % 4, t.val / 4 % 2] :=
  (by decide +kernel : ∀ t : Fin grid0.N, _)

/-- The arguments. -/
abbrev mg : FVec Ideal S8192x2048 .bf16 := m ((c.tc : Thread nD τ).loc main_arg0)
abbrev dh : FVec Ideal S8192x2048 .bf16 := m ((c.tc : Thread nD τ).loc main_arg1)

theorem iblk0_apply (t : Fin cfg0.N) (k : Fin 2048) (r : Fin 1024) (i : Fin 8192) (j : Fin 2048) (hi : i.val = 2048 * (t.val % 4) + k.val) (hj : j.val = 1024 * (t.val / 8) + r.val) :
    (iblk m c 0 t : Vec Ideal S2048x1024 .bf16) (ix2 k r) = mg m c (ix2 i j) := by
  unfold iblk
  rw [View.read_apply]
  refine congrArg (mg m c) (funext fun a => Fin.ext ?_)
  match a with
  | ⟨0, _⟩ => show win0_0.index t 0 * 2048 + 1 * k.val = i.val; rw [(at0 t).1, hi]; show t.val % 4 * 2048 + 1 * k.val = _; omega
  | ⟨1, _⟩ => show win0_0.index t 1 * 1024 + 1 * r.val = j.val; rw [(at0 t).1, hj]; show t.val / 8 * 1024 + 1 * r.val = _; omega

theorem iblk1_apply (t : Fin cfg0.N) (k : Fin 2048) (r : Fin 1024) (i : Fin 8192) (j : Fin 2048) (hi : i.val = 2048 * (t.val % 4) + k.val) (hj : j.val = 1024 * (t.val / 4 % 2) + r.val) :
    (iblk m c 1 t : Vec Ideal S2048x1024 .bf16) (ix2 k r) = dh m c (ix2 i j) := by
  unfold iblk
  rw [View.read_apply]
  refine congrArg (dh m c) (funext fun a => Fin.ext ?_)
  match a with
  | ⟨0, _⟩ => show win0_1.index t 0 * 2048 + 1 * k.val = i.val; rw [(at0 t).2, hi]; show t.val % 4 * 2048 + 1 * k.val = _; omega
  | ⟨1, _⟩ => show win0_1.index t 1 * 1024 + 1 * r.val = j.val; rw [(at0 t).2, hj]; show t.val / 4 % 2 * 1024 + 1 * r.val = _; omega

/-- The terms of an entry of the result. -/
def terms (i j : Fin 2048) (k : Fin 8192) : EReal := (mg m c (ix2 k i) : EReal) * dh m c (ix2 k j)

theorem part_apply (t : Fin cfg0.N) (r n : Fin 1024) (i j : Fin 2048) (hi : i.val = 1024 * (t.val / 8) + r.val) (hj : j.val = 1024 * (t.val / 4 % 2) + n.val) :
    (k0_pay1 (iblk m c 0 t : Vec Ideal S2048x1024 .bf16) (iblk m c 1 t : Vec Ideal S2048x1024 .bf16) (ix2 r n) : EReal) = Mm.part (terms m c i j) 2048 (t.val % 4) := by
  rw [pay1_apply]
  refine Mm.part_eq _ _ (by omega) fun k => ?_
  rw [iblk0_apply m c t k r ⟨2048 * (t.val % 4) + k.val, by omega⟩ i rfl hi, iblk1_apply m c t k n ⟨2048 * (t.val % 4) + k.val, by omega⟩ j rfl hj]
  rfl

/-- The block a last step writes is the product's. -/
theorem block (t : Fin cfg0.N) (ht : t.val % 4 = 3) (r n : Fin 1024) (i j : Fin 2048) (hi : i.val = 1024 * (t.val / 8) + r.val) (hj : j.val = 1024 * (t.val / 4 % 2) + n.val) :
    ((outsAt0 m c t.val t.isLt).1 (ix2 r n) : EReal) = ∑ k : Fin 8192, terms m c i j k := by
  refine Mm.out_eq (terms m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last]
    exact congrArg _ (part_apply m c ⟨p + 1, h⟩ r n i j (by dsimp only; omega) (by dsimp only; omega))

/-- The result array after the run. -/
theorem result (i j : Fin 2048) : (Value.G2 m c (ix2 i j) : EReal) = ∑ k : Fin 8192, terms m c i j k := by
  have hN : cfg0.N = 16 := N_0
  have hp : Value.pt2Of (ix2 i j) = 4 * (2 * (i.val / 1024) + j.val / 1024) + 3 := by
    show 4 * (2 * (i.val / 1024 - 0) + 1 * (j.val / 1024 - 0)) + 3 = _
    omega
  have hl : Value.pt2Of (ix2 i j) < cfg0.N := by rw [hp, hN]; omega
  have hi : Value.loc2Of (ix2 i j) = ix2 (⟨i.val % 1024, by omega⟩ : Fin 1024) (⟨j.val % 1024, by omega⟩ : Fin 1024) := by
    funext a
    match a with
    | ⟨0, _⟩ => rfl
    | ⟨1, _⟩ => rfl
  unfold Value.G2
  rw [dif_pos hl, ← Value.outsAt0_sweep m c _ hl, hi]
  exact block m c ⟨Value.pt2Of (ix2 i j), hl⟩ (by dsimp only; omega) _ _ i j (by dsimp only; omega) (by dsimp only; omega)

theorem result_eq : Value.G2 m c = Cert.OutDwRefIdeal.Prod.out (mg m c) (dh m c) := funext fun i => by
  obtain ⟨p, q, rfl⟩ := Mm.at2 i
  rw [Cert.OutDwRefIdeal.Prod.out_apply]
  exact (result m c p q).trans (Finset.sum_congr (M := EReal) rfl fun k _ => EReal.mul_comm _ _)

theorem value : Cert.algebraic_OutDwIdeal_OutDwRefIdeal := fun m g m' g' _ ha =>
  ⟨Value.G2 m, Value.run m g, (θ_run Cert.OutDwRefIdeal.defs _ _).mono (fun r h c => ⟨(h c).1.trans (by
    obtain ⟨a0, a1⟩ := ha c
    rw [a0, a1]
    exact (result_eq m c).symm), (h c).2⟩) (Cert.OutDwRefIdeal.Value.run m' g')⟩

end Cert.OutDwIdeal.Prod

end
-- ==== Proof.InProjRecValue.lean ====
/-
  The recurrent columns of the input projection: what the call leaves in its result.
-/
module

public import proofs.«01_k».proof.Proof.Gen.InProjRecIdeal.Value
public import proofs.«01_k».proof.Proof.Gen.InProjRecRefIdeal.Run
public import proofs.«01_k».proof.Proof.Mm
public import proofs.«01_k».proof.Defs

@[expose] public section

set_option maxRecDepth 16384

noncomputable section

namespace Cert.InProjRecRefIdeal.Prod

open Idealize.ShloMosaic
open Cert.InProjRecRefIdeal Cert.InProjRecRefIdeal.Gen
open scoped BigOperators

/-- The reference's result, of its arguments. -/
def out (x : FVec Ideal S8192x2048 .bf16) (w : FVec Ideal S2048x1152 .bf16) : FVec Ideal S8192x1152 .f32 :=
  Host.dotGeneral dot_S8192x2048_S2048x1152_S8192x1152_1_0_0_1_n_n none (extf .f32 x bitsLt_bf16_f32) (extf .f32 w bitsLt_bf16_f32)

theorem out_apply (x : FVec Ideal S8192x2048 .bf16) (w : FVec Ideal S2048x1152 .bf16) (i : Fin 8192) (j : Fin 1152) :
    (out x w (ix2 i j) : EReal) = ∑ k : Fin 2048, (x (ix2 i k) : EReal) * w (ix2 k j) := by
  pointwise [out]

end Cert.InProjRecRefIdeal.Prod

namespace Cert.InProjRecIdeal.Prod

open Idealize.ShloMosaic Idealize.ShloMosaic.TcCoe Idealize.SL.Sem
open Cert.InProjRecIdeal Cert.InProjRecIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S2048x1152 .bf16) (h4 : a4.IsWhole)
  (a5 : Memref sig .tc .vmem S1024x1152 .f32) (h5 : a5.IsWhole) (a6 : Memref sig .tc .vmem S1024x1152 .f32) (h6 : a6.IsWhole)
  (x : Vec F S1024x2048 .bf16) (y : Vec F S2048x1152 .bf16)

/-- The one step of a block writes its product. -/
theorem only (hc0 : cond0_0 i) (hc1 : ¬cond0_1 i) (hc2 : cond0_2 i) :
    out0_A_2 c i a3 h3 a4 h4 a5 h5 a6 h6 hc0 hc1 hc2 x y = k0_pay1 x y := by
  unfold out0_A_2
  rw [View.read_writes_eq_canon _ _ _ (cover0_A_2 c i a3 h3 a4 h4 a5 h5 a6 h6 hc0 hc1 hc2 x y)]
  unfold kernelRun0_A
  dsimp only
  sl_unfold_words
  rw [View.canon_unit_zero Mm.hz, View.readCov_unit_zero (S := S1024x1152) _ Mm.hz]
  unfold k0_pay2
  simp only [View.readAt_eq_ld, h3.read_unread, h4.read_unread, View.ld_unit_zero (S := S1024x2048) Mm.hz, View.ld_unit_zero (S := S2048x1152) Mm.hz, shapeCast_self]

end cases

variable (m : (ℓ : Loc nD τ sig) → Buf (Elt Ideal) ℓ) (c : Dev nD)

theorem pay1_apply (x : Vec Ideal S1024x2048 .bf16) (y : Vec Ideal S2048x1152 .bf16) (r : Fin 1024) (n : Fin 1152) :
    (k0_pay1 x y (ix2 r n) : EReal) = ∑ k : Fin 2048, (x (ix2 r k) : EReal) * y (ix2 k n) := by
  pointwise [k0_pay1]

theorem at0 : ∀ t : Fin cfg0.N, win0_0.index t = ![t.val, 0] ∧ win0_1.index t = ![0, 0] ∧ win0_2.index t = ![t.val, 0] :=
  (by decide +kernel : ∀ t : Fin grid0.N, _)

/-- The arguments. -/
abbrev x : FVec Ideal S8192x2048 .bf16 := m ((c.tc : Thread nD τ).loc main_arg0)
abbrev w : FVec Ideal S2048x1152 .bf16 := m ((c.tc : Thread nD τ).loc main_arg1)

theorem iblk0_apply (t : Fin cfg0.N) (r : Fin 1024) (k : Fin 2048) (i : Fin 8192) (hi : i.val = 1024 * (t.val) + r.val) :
    (iblk m c 0 t : Vec Ideal S1024x2048 .bf16) (ix2 r k) = x m c (ix2 i k) := by
  unfold iblk
  rw [View.read_apply]
  refine congrArg (x m c) (funext fun a => Fin.ext ?_)
  match a with
  | ⟨0, _⟩ => show win0_0.index t 0 * 1024 + 1 * r.val = i.val; rw [(at0 t).1, hi]; show t.val * 1024 + 1 * r.val = _; omega
  | ⟨1, _⟩ => show win0_0.index t 1 * 2048 + 1 * k.val = k.val; rw [(at0 t).1]; show 0 * 2048 + 1 * k.val = _; omega

theorem iblk1_apply (t : Fin cfg0.N) (k : Fin 2048) (r : Fin 1152) (j : Fin 1152) (hj : j.val = r.val) :
    (iblk m c 1 t : Vec Ideal S2048x1152 .bf16) (ix2 k r) = w m c (ix2 k j) := by
  unfold iblk
  rw [View.read_apply]
  refine congrArg (w m c) (funext fun a => Fin.ext ?_)
  match a with
  | ⟨0, _⟩ => show win0_1.index t 0 * 2048 + 1 * k.val = k.val; rw [(at0 t).2.1]; show 0 * 2048 + 1 * k.val = _; omega
  | ⟨1, _⟩ => show win0_1.index t 1 * 1152 + 1 * r.val = j.val; rw [(at0 t).2.1, hj]; show 0 * 1152 + 1 * r.val = _; omega

/-- What a point writes back is its block of the reference's result, -/
theorem flushed_eq (t : Fin cfg0.N) :
    (dats m 0 c).flushed 2 t = ((cfg0.win 2).blk t).view.read (Elt Ideal) (Cert.InProjRecRefIdeal.Prod.out (x m c) (w m c)) := by
  have hN : t.val < 8 := lt_of_lt_of_eq t.isLt N_0
  rw [Value.flushed2_A, only]
  funext y
  obtain ⟨r, n, rfl⟩ := Mm.at2 (a := 1024) (b := 1152) y
  have he : ((cfg0.win 2).blk t).view.emb (ix2 r n) = (ix2 (⟨1024 * (t.val) + r.val, by omega⟩ : Fin 8192) n) := by
    funext a
    apply Fin.ext
    match a with
    | ⟨0, _⟩ => show win0_2.index t 0 * 1024 + 1 * r.val = _; rw [(at0 t).2.2]; show t.val * 1024 + 1 * r.val = 1024 * (t.val) + r.val; omega
    | ⟨1, _⟩ => show win0_2.index t 1 * 1152 + 1 * n.val = _; rw [(at0 t).2.2]; show 0 * 1152 + 1 * n.val = n.val; omega
  show k0_pay1 (iblk m c 0 t : Vec Ideal S1024x2048 .bf16) (iblk m c 1 t : Vec Ideal S2048x1152 .bf16) (ix2 r n) = Cert.InProjRecRefIdeal.Prod.out (x m c) (w m c) (((cfg0.win 2).blk t).view.emb (ix2 r n))
  rw [he, Cert.InProjRecRefIdeal.Prod.out_apply, pay1_apply]
  refine Finset.sum_congr rfl fun k _ => ?_
  rw [iblk0_apply m c t r k ⟨1024 * (t.val) + r.val, by omega⟩ rfl, iblk1_apply m c t k n n rfl]

/-- and the points between them write every entry. -/
theorem covered (i : S8192x1152.Idx) : ∃ t : Fin cfg0.N, (cfg0.win 2).flush t = true ∧ i ∈ ((cfg0.win 2).blk t).view.set := by
  obtain ⟨p, q, rfl⟩ := Mm.at2 i
  refine ⟨⟨p.val / 1024, lt_of_lt_of_eq (by omega) N_0.symm⟩, flush0_2 _, ?_⟩
  show _ ∈ ((View.whole main_v0).slice (win0_2.rect _)).set
  rw [View.set_slice_whole, Rect.mem_set_unit]
  intro a
  match a with
  | ⟨0, _⟩ => show win0_2.index _ 0 * 1024 ≤ p.val ∧ p.val < win0_2.index _ 0 * 1024 + 1024; rw [(at0 _).2.2]; dsimp only [Matrix.cons_val]; omega
  | ⟨1, _⟩ => show win0_2.index _ 1 * 1152 ≤ q.val ∧ q.val < win0_2.index _ 1 * 1152 + 1152; rw [(at0 _).2.2]; dsimp only [Matrix.cons_val]; omega

/-- The result array after the run. -/
theorem result_eq : (dats m 0 c).arrAt 2 cfg0.N = Cert.InProjRecRefIdeal.Prod.out (x m c) (w m c) :=
  (dats m 0 c).arrAt_eq_of_cover 2 _ (fun t _ => flushed_eq m c t) covered

theorem value : Cert.algebraic_InProjRecIdeal_InProjRecRefIdeal := fun m g m' g' _ ha =>
  ⟨fun c => (dats m 0 c).arrAt 2 cfg0.N, Value.run_blocks m g, (θ_run Cert.InProjRecRefIdeal.defs _ _).mono (fun r h c => ⟨(h c).1.trans (by
    obtain ⟨a0, a1⟩ := ha c
    rw [a0, a1]
    exact (result_eq m c).symm), (h c).2⟩) (Cert.InProjRecRefIdeal.Value.run m' g')⟩

end Cert.InProjRecIdeal.Prod

end
-- ==== Proof.InRecDwValue.lean ====
/-
  The gradient of the recurrent columns of the input projection: what the call leaves in its result.
-/
module

public import proofs.«01_k».proof.Proof.Gen.InRecDwIdeal.Value
public import proofs.«01_k».proof.Proof.Gen.InRecDwRefIdeal.Run
public import proofs.«01_k».proof.Proof.Mm
public import proofs.«01_k».proof.Defs

@[expose] public section

set_option maxRecDepth 16384

noncomputable section

namespace Cert.InRecDwRefIdeal.Prod

open Idealize.ShloMosaic
open Cert.InRecDwRefIdeal Cert.InRecDwRefIdeal.Gen
open scoped BigOperators

/-- The reference's result, of its arguments. -/
def out (x : FVec Ideal S8192x2048 .bf16) (y : FVec Ideal S8192x1152 .bf16) : FVec Ideal S2048x1152 .f32 :=
  transpose S2048x1152 [1, 0] (Host.dotGeneral dot_S8192x1152_S8192x2048_S1152x2048_0_0_1_1_n_n none
    (extf .f32 y bitsLt_bf16_f32) (extf .f32 x bitsLt_bf16_f32)) transposes_S1152x2048_S2048x1152_1_0

theorem out_apply (x : FVec Ideal S8192x2048 .bf16) (y : FVec Ideal S8192x1152 .bf16) (i : Fin 2048) (j : Fin 1152) :
    (out x y (ix2 i j) : EReal) = ∑ k : Fin 8192, (y (ix2 k j) : EReal) * x (ix2 k i) := by
  pointwise [out]

end Cert.InRecDwRefIdeal.Prod

namespace Cert.InRecDwIdeal.Prod

open Idealize.ShloMosaic Idealize.ShloMosaic.TcCoe Idealize.SL.Sem
open Cert.InRecDwIdeal Cert.InRecDwIdeal.Gen
open scoped BigOperators

section cases

variable {F : FTy → Type} [FloatOps F]
variable (c : Dev nD) (i : grid0.Coords)
  (a3 : Memref sig .tc .vmem S2048x1024 .bf16) (h3 : a3.IsWhole) (a4 : Memref sig .tc .vmem S2048x1152 .bf16) (h4 : a4.IsWhole)
  (a5 : Memref sig .tc .vmem S1024x1152 .f32) (h5 : a5.IsWhole) (a6 : Memref sig .tc .vmem S1024x1152 .f32) (h6 : a6.IsWhole)
  (x : Vec F S2048x1024 .bf16) (y : Vec F S2048x1152 .bf16) (s : Vec F S1024x1152 .f32)

/-- The first step leaves its product in the accumulator, -/
theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero Mm.hz]
  unfold k0_pay2
  simp only [View.readAt_eq_ld, h3.read_unread, h4.read_unread, View.ld_unit_zero (S := S2048x1024) Mm.hz, View.ld_unit_zero (S := S2048x1152) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero Mm.hz]
  unfold k0_pay3
  simp only [View.readAt_eq_ld, h3.read_unread, h4.read_unread, h6.read_unread, View.ld_unit_zero (S := S2048x1024) Mm.hz, View.ld_unit_zero (S := S2048x1152) Mm.hz,
    View.ld_unit_zero (S := S1024x1152) Mm.hz, shapeCast_self]

/-- and the last too, and the sum is the result's block. -/
theorem last (hc0 : ¬cond0_0 i) (hc1 : cond0_1 i) (hc2 : cond0_2 i) :
    out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero Mm.hz, View.readCov_unit_zero (S := S1024x1152) _ Mm.hz]
  unfold k0_pay3
  simp only [View.readAt_eq_ld, h3.read_unread, h4.read_unread, h6.read_unread, View.ld_unit_zero (S := S2048x1024) Mm.hz, View.ld_unit_zero (S := S2048x1152) Mm.hz,
    View.ld_unit_zero (S := S1024x1152) Mm.hz, shapeCast_self]

end cases

variable (m : (ℓ : Loc nD τ sig) → Buf (Elt Ideal) ℓ) (c : Dev nD)

theorem pay1_apply (x : Vec Ideal S2048x1024 .bf16) (y : Vec Ideal S2048x1152 .bf16) (r : Fin 1024) (n : Fin 1152) :
    (k0_pay1 x y (ix2 r n) : EReal) = ∑ k : Fin 2048, (x (ix2 k r) : EReal) * y (ix2 k n) := by
  pointwise [k0_pay1]

theorem at0 : ∀ t : Fin cfg0.N, win0_0.index t = ![t.val % 4, t.val / 4] ∧ win0_1.index t = ![t.val % 4, 0] :=
  (by decide +kernel : ∀ t : Fin grid0.N, _)

/-- The arguments. -/
abbrev x : FVec Ideal S8192x2048 .bf16 := m ((c.tc : Thread nD τ).loc main_arg0)
abbrev du : FVec Ideal S8192x1152 .bf16 := m ((c.tc : Thread nD τ).loc main_arg1)

theorem iblk0_apply (t : Fin cfg0.N) (k : Fin 2048) (r : Fin 1024) (i : Fin 8192) (j : Fin 2048) (hi : i.val = 2048 * (t.val % 4) + k.val) (hj : j.val = 1024 * (t.val / 4) + r.val) :
    (iblk m c 0 t : Vec Ideal S2048x1024 .bf16) (ix2 k r) = x m c (ix2 i j) := by
  unfold iblk
  rw [View.read_apply]
  refine congrArg (x m c) (funext fun a => Fin.ext ?_)
  match a with
  | ⟨0, _⟩ => show win0_0.index t 0 * 2048 + 1 * k.val = i.val; rw [(at0 t).1, hi]; show t.val % 4 * 2048 + 1 * k.val = _; omega
  | ⟨1, _⟩ => show win0_0.index t 1 * 1024 + 1 * r.val = j.val; rw [(at0 t).1, hj]; show t.val / 4 * 1024 + 1 * r.val = _; omega

theorem iblk1_apply (t : Fin cfg0.N) (k : Fin 2048) (r : Fin 1152) (i : Fin 8192) (j : Fin 1152) (hi : i.val = 2048 * (t.val % 4) + k.val) (hj : j.val = r.val) :
    (iblk m c 1 t : Vec Ideal S2048x1152 .bf16) (ix2 k r) = du m c (ix2 i j) := by
  unfold iblk
  rw [View.read_apply]
  refine congrArg (du m c) (funext fun a => Fin.ext ?_)
  match a with
  | ⟨0, _⟩ => show win0_1.index t 0 * 2048 + 1 * k.val = i.val; rw [(at0 t).2, hi]; show t.val % 4 * 2048 + 1 * k.val = _; omega
  | ⟨1, _⟩ => show win0_1.index t 1 * 1152 + 1 * r.val = j.val; rw [(at0 t).2, hj]; show 0 * 1152 + 1 * r.val = _; omega

/-- The terms of an entry of the result. -/
def terms (i : Fin 2048) (j : Fin 1152) (k : Fin 8192) : EReal := (x m c (ix2 k i) : EReal) * du m c (ix2 k j)

theorem part_apply (t : Fin cfg0.N) (r : Fin 1024) (n : Fin 1152) (i : Fin 2048) (j : Fin 1152) (hi : i.val = 1024 * (t.val / 4) + r.val) (hj : j.val = n.val) :
    (k0_pay1 (iblk m c 0 t : Vec Ideal S2048x1024 .bf16) (iblk m c 1 t : Vec Ideal S2048x1152 .bf16) (ix2 r n) : EReal) = Mm.part (terms m c i j) 2048 (t.val % 4) := by
  rw [pay1_apply]
  refine Mm.part_eq _ _ (by omega) fun k => ?_
  rw [iblk0_apply m c t k r ⟨2048 * (t.val % 4) + k.val, by omega⟩ i rfl hi, iblk1_apply m c t k n ⟨2048 * (t.val % 4) + k.val, by omega⟩ j rfl hj]
  rfl

/-- The block a last step writes is the product's. -/
theorem block (t : Fin cfg0.N) (ht : t.val % 4 = 3) (r : Fin 1024) (n : Fin 1152) (i : Fin 2048) (j : Fin 1152) (hi : i.val = 1024 * (t.val / 4) + r.val) (hj : j.val = n.val) :
    ((outsAt0 m c t.val t.isLt).1 (ix2 r n) : EReal) = ∑ k : Fin 8192, terms m c i j k := by
  refine Mm.out_eq (terms m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) hj
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) hj)
  · intro p h hq hl
    rw [outsAt0_C m c ⟨p + 1, h⟩ (by dsimp only; omega) (by dsimp only; omega) (by dsimp only; omega)]
    dsimp only
    rw [last]
    exact congrArg _ (part_apply m c ⟨p + 1, h⟩ r n i j (by dsimp only; omega) hj)

/-- The result array after the run. -/
theorem result (i : Fin 2048) (j : Fin 1152) : (Value.G2 m c (ix2 i j) : EReal) = ∑ k : Fin 8192, terms m c i j k := by
  have hN : cfg0.N = 8 := N_0
  have hp : Value.pt2Of (ix2 i j) = 4 * (i.val / 1024) + 3 := by
    show 4 * (1 * (i.val / 1024 - 0) + 1 * (j.val / 1152 - 0)) + 3 = _
    omega
  have hl : Value.pt2Of (ix2 i j) < cfg0.N := by rw [hp, hN]; omega
  have hi : Value.loc2Of (ix2 i j) = ix2 (⟨i.val % 1024, by omega⟩ : Fin 1024) (⟨j.val % 1152, by omega⟩ : Fin 1152) := by
    funext a
    match a with
    | ⟨0, _⟩ => rfl
    | ⟨1, _⟩ => rfl
  unfold Value.G2
  rw [dif_pos hl, ← Value.outsAt0_sweep m c _ hl, hi]
  exact block m c ⟨Value.pt2Of (ix2 i j), hl⟩ (by dsimp only; omega) _ _ i j (by dsimp only; omega) (by dsimp only; omega)

theorem result_eq : Value.G2 m c = Cert.InRecDwRefIdeal.Prod.out (x m c) (du m c) := funext fun i => by
  obtain ⟨p, q, rfl⟩ := Mm.at2 i
  rw [Cert.InRecDwRefIdeal.Prod.out_apply]
  exact (result m c p q).trans (Finset.sum_congr (M := EReal) rfl fun k _ => EReal.mul_comm _ _)

theorem value : Cert.algebraic_InRecDwIdeal_InRecDwRefIdeal := fun m g m' g' _ ha =>
  ⟨Value.G2 m, Value.run m g, (θ_run Cert.InRecDwRefIdeal.defs _ _).mono (fun r h c => ⟨(h c).1.trans (by
    obtain ⟨a0, a1⟩ := ha c
    rw [a0, a1]
    exact (result_eq m c).symm), (h c).2⟩) (Cert.InRecDwRefIdeal.Value.run m' g')⟩

end Cert.InRecDwIdeal.Prod

end
-- ==== Proof.InRecDxValue.lean ====
/-
  The gradient of the recurrent columns of the input projection into its input: what the call leaves in its result.
-/
module

public import proofs.«01_k».proof.Proof.Gen.InRecDxIdeal.Value
public import proofs.«01_k».proof.Proof.Gen.InRecDxRefIdeal.Run
public import proofs.«01_k».proof.Proof.Mm
public import proofs.«01_k».proof.Defs

@[expose] public section

set_option maxRecDepth 16384

noncomputable section

namespace Cert.InRecDxRefIdeal.Prod

open Idealize.ShloMosaic
open Cert.InRecDxRefIdeal Cert.InRecDxRefIdeal.Gen
open scoped BigOperators

/-- The reference's result, of its arguments. -/
def out (x : FVec Ideal S8192x1152 .bf16) (w : FVec Ideal S2048x1152 .bf16) (b : FVec Ideal S8192x2048 .f32) : FVec Ideal S8192x2048 .f32 :=
  addf b (Host.dotGeneral dot_S8192x1152_S2048x1152_S8192x2048_1_1_0_0_n_n none (extf .f32 x bitsLt_bf16_f32) (extf .f32 w bitsLt_bf16_f32))

theorem out_apply (x : FVec Ideal S8192x1152 .bf16) (w : FVec Ideal S2048x1152 .bf16) (b : FVec Ideal S8192x2048 .f32) (i : Fin 8192) (j : Fin 2048) :
    (out x w b (ix2 i j) : EReal) = b (ix2 i j) + ∑ k : Fin 1152, (x (ix2 i k) : EReal) * w (ix2 j k) := by
  pointwise [out]

end Cert.InRecDxRefIdeal.Prod

namespace Cert.InRecDxIdeal.Prod

open Idealize.ShloMosaic Idealize.ShloMosaic.TcCoe Idealize.SL.Sem
open Cert.InRecDxIdeal Cert.InRecDxIdeal.Gen
open scoped BigOperators

section cases

variable {F : FTy → Type} [FloatOps F]
variable (c : Dev nD) (i : grid0.Coords)
  (a3 : Memref sig .tc .vmem S1024x1152 .bf16) (h3 : a3.IsWhole) (a4 : Memref sig .tc .vmem S1024x1152 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x1152 .bf16) (y : Vec F S1024x1152 .bf16) (b : Vec F S1024x1024 .f32)

/-- The one step of a block writes its product. -/
theorem only (hc0 : cond0_0 i) (hc1 : ¬cond0_1 i) (hc2 : cond0_2 i) :
    out0_A_3 c i a3 h3 a4 h4 a5 h5 a6 h6 a7 h7 hc0 hc1 hc2 x y b = k0_pay4 (k0_pay1 x y) b := by
  unfold out0_A_3
  rw [View.read_writes_eq_canon _ _ _ (cover0_A_3 c i a3 h3 a4 h4 a5 h5 a6 h6 a7 h7 hc0 hc1 hc2 x y b)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, h5.read_unread, View.ld_unit_zero (S := S1024x1152) Mm.hz, View.ld_unit_zero (S := S1024x1152) Mm.hz, View.ld_unit_zero (S := S1024x1024) Mm.hz, shapeCast_self]

end cases

variable (m : (ℓ : Loc nD τ sig) → Buf (Elt Ideal) ℓ) (c : Dev nD)

theorem pay1_apply (x : Vec Ideal S1024x1152 .bf16) (y : Vec Ideal S1024x1152 .bf16) (b : Vec Ideal S1024x1024 .f32) (r n : Fin 1024) :
    (k0_pay4 (k0_pay1 x y) b (ix2 r n) : EReal) = b (ix2 r n) + ∑ k : Fin 1152, (x (ix2 r k) : EReal) * y (ix2 n k) := by
  pointwise [k0_pay4, k0_pay1]

theorem at0 : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

/-- The arguments. -/
abbrev x : FVec Ideal S8192x1152 .bf16 := m ((c.tc : Thread nD τ).loc main_arg0)
abbrev w : FVec Ideal S2048x1152 .bf16 := m ((c.tc : Thread nD τ).loc main_arg1)
abbrev b : FVec Ideal S8192x2048 .f32 := m ((c.tc : Thread nD τ).loc main_arg2)

theorem iblk0_apply (t : Fin cfg0.N) (r : Fin 1024) (k : Fin 1152) (i : Fin 8192) (hi : i.val = 1024 * (t.val / 2) + r.val) :
    (iblk m c 0 t : Vec Ideal S1024x1152 .bf16) (ix2 r k) = x m c (ix2 i k) := by
  unfold iblk
  rw [View.read_apply]
  refine congrArg (x m c) (funext fun a => Fin.ext ?_)
  match a with
  | ⟨0, _⟩ => show win0_0.index t 0 * 1024 + 1 * r.val = i.val; rw [(at0 t).1, hi]; show t.val / 2 * 1024 + 1 * r.val = _; omega
  | ⟨1, _⟩ => show win0_0.index t 1 * 1152 + 1 * k.val = k.val; rw [(at0 t).1]; show 0 * 1152 + 1 * k.val = _; omega

theorem iblk1_apply (t : Fin cfg0.N) (r : Fin 1024) (k : Fin 1152) (j : Fin 2048) (hj : j.val = 1024 * (t.val % 2) + r.val) :
    (iblk m c 1 t : Vec Ideal S1024x1152 .bf16) (ix2 r k) = w m c (ix2 j k) := by
  unfold iblk
  rw [View.read_apply]
  refine congrArg (w m c) (funext fun a => Fin.ext ?_)
  match a with
  | ⟨0, _⟩ => show win0_1.index t 0 * 1024 + 1 * r.val = j.val; rw [(at0 t).2.1, hj]; show t.val % 2 * 1024 + 1 * r.val = _; omega
  | ⟨1, _⟩ => show win0_1.index t 1 * 1152 + 1 * k.val = k.val; rw [(at0 t).2.1]; show 0 * 1152 + 1 * k.val = _; omega

theorem iblk2_apply (t : Fin cfg0.N) (r n : Fin 1024) (i : Fin 8192) (j : Fin 2048) (hi : i.val = 1024 * (t.val / 2) + r.val) (hj : j.val = 1024 * (t.val % 2) + n.val) :
    (iblk m c 2 t : Vec Ideal S1024x1024 .f32) (ix2 r n) = b m c (ix2 i j) := by
  unfold iblk
  rw [View.read_apply]
  refine congrArg (b m c) (funext fun a => Fin.ext ?_)
  match a with
  | ⟨0, _⟩ => show win0_2.index t 0 * 1024 + 1 * r.val = i.val; rw [(at0 t).2.2.1, hi]; show t.val / 2 * 1024 + 1 * r.val = _; omega
  | ⟨1, _⟩ => show win0_2.index t 1 * 1024 + 1 * n.val = j.val; rw [(at0 t).2.2.1, hj]; show t.val % 2 * 1024 + 1 * n.val = _; omega

/-- What a point writes back is its block of the reference's result, -/
theorem flushed_eq (t : Fin cfg0.N) :
    (dats m 0 c).flushed 3 t = ((cfg0.win 3).blk t).view.read (Elt Ideal) (Cert.InRecDxRefIdeal.Prod.out (x m c) (w m c) (b m c)) := by
  have hN : t.val < 16 := lt_of_lt_of_eq t.isLt N_0
  rw [Value.flushed3_A, only]
  funext y
  obtain ⟨r, n, rfl⟩ := Mm.at2 (a := 1024) (b := 1024) y
  have he : ((cfg0.win 3).blk t).view.emb (ix2 r n) = (ix2 (⟨1024 * (t.val / 2) + r.val, by omega⟩ : Fin 8192) (⟨1024 * (t.val % 2) + n.val, by omega⟩ : Fin 2048)) := by
    funext a
    apply Fin.ext
    match a with
    | ⟨0, _⟩ => show win0_3.index t 0 * 1024 + 1 * r.val = _; rw [(at0 t).2.2.2]; show t.val / 2 * 1024 + 1 * r.val = 1024 * (t.val / 2) + r.val; omega
    | ⟨1, _⟩ => show win0_3.index t 1 * 1024 + 1 * n.val = _; rw [(at0 t).2.2.2]; show t.val % 2 * 1024 + 1 * n.val = 1024 * (t.val % 2) + n.val; omega
  show k0_pay4 (k0_pay1 (iblk m c 0 t : Vec Ideal S1024x1152 .bf16) (iblk m c 1 t : Vec Ideal S1024x1152 .bf16)) (iblk m c 2 t : Vec Ideal S1024x1024 .f32) (ix2 r n) = Cert.InRecDxRefIdeal.Prod.out (x m c) (w m c) (b m c) (((cfg0.win 3).blk t).view.emb (ix2 r n))
  rw [he, Cert.InRecDxRefIdeal.Prod.out_apply, pay1_apply]
  rw [iblk2_apply m c t r n ⟨1024 * (t.val / 2) + r.val, by omega⟩ ⟨1024 * (t.val % 2) + n.val, by omega⟩ rfl rfl]
  refine congrArg (_ + ·) (Finset.sum_congr rfl fun k _ => ?_)
  rw [iblk0_apply m c t r k ⟨1024 * (t.val / 2) + r.val, by omega⟩ rfl, iblk1_apply m c t n k ⟨1024 * (t.val % 2) + n.val, by omega⟩ rfl]

/-- and the points between them write every entry. -/
theorem covered (i : S8192x2048.Idx) : ∃ t : Fin cfg0.N, (cfg0.win 3).flush t = true ∧ i ∈ ((cfg0.win 3).blk t).view.set := by
  obtain ⟨p, q, rfl⟩ := Mm.at2 i
  refine ⟨⟨2 * (p.val / 1024) + q.val / 1024, lt_of_lt_of_eq (by omega) N_0.symm⟩, flush0_3 _, ?_⟩
  show _ ∈ ((View.whole main_v0).slice (win0_3.rect _)).set
  rw [View.set_slice_whole, Rect.mem_set_unit]
  intro a
  match a with
  | ⟨0, _⟩ => show win0_3.index _ 0 * 1024 ≤ p.val ∧ p.val < win0_3.index _ 0 * 1024 + 1024; rw [(at0 _).2.2.2]; dsimp only [Matrix.cons_val]; omega
  | ⟨1, _⟩ => show win0_3.index _ 1 * 1024 ≤ q.val ∧ q.val < win0_3.index _ 1 * 1024 + 1024; rw [(at0 _).2.2.2]; dsimp only [Matrix.cons_val]; omega

/-- The result array after the run. -/
theorem result_eq : (dats m 0 c).arrAt 3 cfg0.N = Cert.InRecDxRefIdeal.Prod.out (x m c) (w m c) (b m c) :=
  (dats m 0 c).arrAt_eq_of_cover 3 _ (fun t _ => flushed_eq m c t) covered

theorem value : Cert.algebraic_InRecDxIdeal_InRecDxRefIdeal := fun m g m' g' _ ha =>
  ⟨fun c => (dats m 0 c).arrAt 3 cfg0.N, Value.run_blocks m g, (θ_run Cert.InRecDxRefIdeal.defs _ _).mono (fun r h c => ⟨(h c).1.trans (by
    obtain ⟨a0, a1, a2⟩ := ha c
    rw [a0, a1, a2]
    exact (result_eq m c).symm), (h c).2⟩) (Cert.InRecDxRefIdeal.Value.run m' g')⟩

end Cert.InRecDxIdeal.Prod

end
-- ==== Proof.BranchDxValue.lean ====
/-
  The gradient into a branch's output: what the call leaves in its result.
-/
module

public import proofs.«01_k».proof.Proof.Gen.BranchDxIdeal.Value
public import proofs.«01_k».proof.Proof.Gen.BranchDxRefIdeal.Run
public import proofs.«01_k».proof.Proof.Mm
public import proofs.«01_k».proof.Defs

@[expose] public section

set_option maxRecDepth 16384

noncomputable section

namespace Cert.BranchDxRefIdeal.Prod

open Idealize.ShloMosaic
open Cert.BranchDxRefIdeal Cert.BranchDxRefIdeal.Gen
open scoped BigOperators

/-- The reference's result, of its arguments. -/
def out (dp : FVec Ideal S8192x2048 .bf16) (w : FVec Ideal S512x2048 .bf16) : FVec Ideal S8192x512 .bf16 :=
  truncf .bf16 (Host.dotGeneral dot_S8192x2048_S512x2048_S8192x512_1_1_0_0_n_n none (extf .f32 dp bitsLt_bf16_f32) (extf .f32 w bitsLt_bf16_f32)) bitsLt_bf16_f32

theorem out_apply (dp : FVec Ideal S8192x2048 .bf16) (w : FVec Ideal S512x2048 .bf16) (i : Fin 8192) (j : Fin 512) :
    (out dp w (ix2 i j) : EReal) = ∑ k : Fin 2048, (dp (ix2 i k) : EReal) * w (ix2 j k) := by
  pointwise [out]

end Cert.BranchDxRefIdeal.Prod

namespace Cert.BranchDxIdeal.Prod

open Idealize.ShloMosaic Idealize.ShloMosaic.TcCoe Idealize.SL.Sem
open Cert.BranchDxIdeal Cert.BranchDxIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S512x2048 .bf16) (h4 : a4.IsWhole)
  (a5 : Memref sig .tc .vmem S1024x512 .bf16) (h5 : a5.IsWhole) (a6 : Memref sig .tc .vmem S1024x512 .f32) (h6 : a6.IsWhole)
  (x : Vec F S1024x2048 .bf16) (y : Vec F S512x2048 .bf16)

/-- The one step of a block writes its product. -/
theorem only (hc0 : cond0_0 i) (hc1 : ¬cond0_1 i) (hc2 : cond0_2 i) :
    out0_A_2 c i a3 h3 a4 h4 a5 h5 a6 h6 hc0 hc1 hc2 x y = k0_pay4 (k0_pay1 x y) := by
  unfold out0_A_2
  rw [View.read_writes_eq_canon _ _ _ (cover0_A_2 c i a3 h3 a4 h4 a5 h5 a6 h6 hc0 hc1 hc2 x y)]
  unfold kernelRun0_A
  dsimp only
  sl_unfold_words
  rw [View.canon_unit_zero Mm.hz, View.readCov_unit_zero (S := S1024x512) _ Mm.hz]
  unfold k0_pay2
  simp only [View.readAt_eq_ld, h3.read_unread, h4.read_unread, View.ld_unit_zero (S := S1024x2048) Mm.hz, View.ld_unit_zero (S := S512x2048) Mm.hz, shapeCast_self]

end cases

variable (m : (ℓ : Loc nD τ sig) → Buf (Elt Ideal) ℓ) (c : Dev nD)

theorem pay1_apply (x : Vec Ideal S1024x2048 .bf16) (y : Vec Ideal S512x2048 .bf16) (r : Fin 1024) (n : Fin 512) :
    (k0_pay4 (k0_pay1 x y) (ix2 r n) : EReal) = ∑ k : Fin 2048, (x (ix2 r k) : EReal) * y (ix2 n k) := by
  pointwise [k0_pay4, k0_pay1]

theorem at0 : ∀ t : Fin cfg0.N, win0_0.index t = ![t.val, 0] ∧ win0_1.index t = ![0, 0] ∧ win0_2.index t = ![t.val, 0] :=
  (by decide +kernel : ∀ t : Fin grid0.N, _)

/-- The arguments. -/
abbrev dp : FVec Ideal S8192x2048 .bf16 := m ((c.tc : Thread nD τ).loc main_arg0)
abbrev w : FVec Ideal S512x2048 .bf16 := m ((c.tc : Thread nD τ).loc main_arg1)

theorem iblk0_apply (t : Fin cfg0.N) (r : Fin 1024) (k : Fin 2048) (i : Fin 8192) (hi : i.val = 1024 * (t.val) + r.val) :
    (iblk m c 0 t : Vec Ideal S1024x2048 .bf16) (ix2 r k) = dp m c (ix2 i k) := by
  unfold iblk
  rw [View.read_apply]
  refine congrArg (dp m c) (funext fun a => Fin.ext ?_)
  match a with
  | ⟨0, _⟩ => show win0_0.index t 0 * 1024 + 1 * r.val = i.val; rw [(at0 t).1, hi]; show t.val * 1024 + 1 * r.val = _; omega
  | ⟨1, _⟩ => show win0_0.index t 1 * 2048 + 1 * k.val = k.val; rw [(at0 t).1]; show 0 * 2048 + 1 * k.val = _; omega

theorem iblk1_apply (t : Fin cfg0.N) (r : Fin 512) (k : Fin 2048) (j : Fin 512) (hj : j.val = r.val) :
    (iblk m c 1 t : Vec Ideal S512x2048 .bf16) (ix2 r k) = w m c (ix2 j k) := by
  unfold iblk
  rw [View.read_apply]
  refine congrArg (w m c) (funext fun a => Fin.ext ?_)
  match a with
  | ⟨0, _⟩ => show win0_1.index t 0 * 512 + 1 * r.val = j.val; rw [(at0 t).2.1, hj]; show 0 * 512 + 1 * r.val = _; omega
  | ⟨1, _⟩ => show win0_1.index t 1 * 2048 + 1 * k.val = k.val; rw [(at0 t).2.1]; show 0 * 2048 + 1 * k.val = _; omega

/-- What a point writes back is its block of the reference's result, -/
theorem flushed_eq (t : Fin cfg0.N) :
    (dats m 0 c).flushed 2 t = ((cfg0.win 2).blk t).view.read (Elt Ideal) (Cert.BranchDxRefIdeal.Prod.out (dp m c) (w m c)) := by
  have hN : t.val < 8 := lt_of_lt_of_eq t.isLt N_0
  rw [Value.flushed2_A, only]
  funext y
  obtain ⟨r, n, rfl⟩ := Mm.at2 (a := 1024) (b := 512) y
  have he : ((cfg0.win 2).blk t).view.emb (ix2 r n) = (ix2 (⟨1024 * (t.val) + r.val, by omega⟩ : Fin 8192) n) := by
    funext a
    apply Fin.ext
    match a with
    | ⟨0, _⟩ => show win0_2.index t 0 * 1024 + 1 * r.val = _; rw [(at0 t).2.2]; show t.val * 1024 + 1 * r.val = 1024 * (t.val) + r.val; omega
    | ⟨1, _⟩ => show win0_2.index t 1 * 512 + 1 * n.val = _; rw [(at0 t).2.2]; show 0 * 512 + 1 * n.val = n.val; omega
  show k0_pay4 (k0_pay1 (iblk m c 0 t : Vec Ideal S1024x2048 .bf16) (iblk m c 1 t : Vec Ideal S512x2048 .bf16)) (ix2 r n) = Cert.BranchDxRefIdeal.Prod.out (dp m c) (w m c) (((cfg0.win 2).blk t).view.emb (ix2 r n))
  rw [he, Cert.BranchDxRefIdeal.Prod.out_apply, pay1_apply]
  refine Finset.sum_congr rfl fun k _ => ?_
  rw [iblk0_apply m c t r k ⟨1024 * (t.val) + r.val, by omega⟩ rfl, iblk1_apply m c t n k n rfl]

/-- and the points between them write every entry. -/
theorem covered (i : S8192x512.Idx) : ∃ t : Fin cfg0.N, (cfg0.win 2).flush t = true ∧ i ∈ ((cfg0.win 2).blk t).view.set := by
  obtain ⟨p, q, rfl⟩ := Mm.at2 i
  refine ⟨⟨p.val / 1024, lt_of_lt_of_eq (by omega) N_0.symm⟩, flush0_2 _, ?_⟩
  show _ ∈ ((View.whole main_v0).slice (win0_2.rect _)).set
  rw [View.set_slice_whole, Rect.mem_set_unit]
  intro a
  match a with
  | ⟨0, _⟩ => show win0_2.index _ 0 * 1024 ≤ p.val ∧ p.val < win0_2.index _ 0 * 1024 + 1024; rw [(at0 _).2.2]; dsimp only [Matrix.cons_val]; omega
  | ⟨1, _⟩ => show win0_2.index _ 1 * 512 ≤ q.val ∧ q.val < win0_2.index _ 1 * 512 + 512; rw [(at0 _).2.2]; dsimp only [Matrix.cons_val]; omega

/-- The result array after the run. -/
theorem result_eq : (dats m 0 c).arrAt 2 cfg0.N = Cert.BranchDxRefIdeal.Prod.out (dp m c) (w m c) :=
  (dats m 0 c).arrAt_eq_of_cover 2 _ (fun t _ => flushed_eq m c t) covered

theorem value : Cert.algebraic_BranchDxIdeal_BranchDxRefIdeal := fun m g m' g' _ ha =>
  ⟨fun c => (dats m 0 c).arrAt 2 cfg0.N, Value.run_blocks m g, (θ_run Cert.BranchDxRefIdeal.defs _ _).mono (fun r h c => ⟨(h c).1.trans (by
    obtain ⟨a0, a1⟩ := ha c
    rw [a0, a1]
    exact (result_eq m c).symm), (h c).2⟩) (Cert.BranchDxRefIdeal.Value.run m' g')⟩

end Cert.BranchDxIdeal.Prod

end
-- ==== Proof.BranchDwValue.lean ====
/-
  The gradient of a branch's projection: what the call leaves in its result.
-/
module

public import proofs.«01_k».proof.Proof.Gen.BranchDwIdeal.Value
public import proofs.«01_k».proof.Proof.Gen.BranchDwRefIdeal.Run
public import proofs.«01_k».proof.Proof.Mm
public import proofs.«01_k».proof.Defs

@[expose] public section

set_option maxRecDepth 16384

noncomputable section

namespace Cert.BranchDwRefIdeal.Prod

open Idealize.ShloMosaic
open Cert.BranchDwRefIdeal Cert.BranchDwRefIdeal.Gen
open scoped BigOperators

/-- The reference's result, of its arguments. -/
def out (x : FVec Ideal S8192x512 .bf16) (y : FVec Ideal S8192x2048 .bf16) : FVec Ideal S4x512x512 .f32 :=
  transpose S4x512x512 [1, 0, 2] (shapeCast _ (transpose S512x2048 [1, 0]
    (Host.dotGeneral dot_S8192x2048_S8192x512_S2048x512_0_0_1_1_n_n none (extf .f32 y bitsLt_bf16_f32) (extf .f32 x bitsLt_bf16_f32))
    transposes_S2048x512_S512x2048_1_0) shapeCasts_S512x2048_S512x4x512) transposes_S512x4x512_S4x512x512_1_0_2

theorem out_apply (x : FVec Ideal S8192x512 .bf16) (y : FVec Ideal S8192x2048 .bf16) (s : Fin 4) (i q : Fin 512) :
    (out x y (ix3 s i q) : EReal) = ∑ k : Fin 8192, (y (ix2 k ⟨s.val * 512 + q.val, by omega⟩) : EReal) * x (ix2 k i) := by
  pointwise [out]

end Cert.BranchDwRefIdeal.Prod

namespace Cert.BranchDwIdeal.Prod

open Idealize.ShloMosaic Idealize.ShloMosaic.TcCoe Idealize.SL.Sem
open Cert.BranchDwIdeal Cert.BranchDwIdeal.Gen
open scoped BigOperators

section cases

variable {F : FTy → Type} [FloatOps F]
variable (c : Dev nD) (i : grid0.Coords)
  (a3 : Memref sig .tc .vmem S2048x512 .bf16) (h3 : a3.IsWhole) (a4 : Memref sig .tc .vmem S2048x512 .bf16) (h4 : a4.IsWhole)
  (a5 : Memref sig .tc .vmem S1x512x512 .f32) (h5 : a5.IsWhole) (a6 : Memref sig .tc .vmem S512x512 .f32) (h6 : a6.IsWhole)
  (x y : Vec F S2048x512 .bf16) (s : Vec F S512x512 .f32)

/-- The first step leaves its product in the accumulator, -/
theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero Mm.hz]
  unfold k0_pay2
  simp only [View.readAt_eq_ld, h3.read_unread, h4.read_unread, View.ld_unit_zero (S := S2048x512) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero Mm.hz]
  unfold k0_pay3
  simp only [View.readAt_eq_ld, h3.read_unread, h4.read_unread, h6.read_unread, View.ld_unit_zero (S := S2048x512) Mm.hz,
    View.ld_unit_zero (S := S512x512) Mm.hz, shapeCast_self]

/-- and the last too, and the result's block is the sum, laid out by column shard. -/
theorem last (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero Mm.hz3, View.readCov_unit_zero (S := S512x512) _ Mm.hz]
  unfold k0_pay3
  simp only [View.readAt_eq_ld, h3.read_unread, h4.read_unread, h6.read_unread, View.ld_unit_zero (S := S2048x512) Mm.hz,
    View.ld_unit_zero (S := S512x512) Mm.hz, shapeCast_self]

end cases

variable (m : (ℓ : Loc nD τ sig) → Buf (Elt Ideal) ℓ) (c : Dev nD)

theorem pay1_apply (x y : Vec Ideal S2048x512 .bf16) (r n : Fin 512) :
    (k0_pay1 x y (ix2 r n) : EReal) = ∑ k : Fin 2048, (x (ix2 k r) : EReal) * y (ix2 k n) := by
  pointwise [k0_pay1]

theorem pay4_apply (v : Vec Ideal S512x512 .f32) (u : Fin 1) (r q : Fin 512) :
    (k0_pay4 v (ix3 u r q) : EReal) = v (ix2 r q) := by
  pointwise [k0_pay4]

theorem at0 : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The arguments. -/
abbrev x : FVec Ideal S8192x512 .bf16 := m ((c.tc : Thread nD τ).loc main_arg0)
abbrev da : FVec Ideal S8192x2048 .bf16 := m ((c.tc : Thread nD τ).loc main_arg1)

theorem iblk0_apply (t : Fin cfg0.N) (k : Fin 2048) (r : Fin 512) (i : Fin 8192) (j : Fin 512) (hi : i.val = 2048 * (t.val % 4) + k.val) (hj : j.val = r.val) :
    (iblk m c 0 t : Vec Ideal S2048x512 .bf16) (ix2 k r) = x m c (ix2 i j) := by
  unfold iblk
  rw [View.read_apply]
  refine congrArg (x m c) (funext fun a => Fin.ext ?_)
  match a with
  | ⟨0, _⟩ => show win0_0.index t 0 * 2048 + 1 * k.val = i.val; rw [(at0 t).1, hi]; show t.val % 4 * 2048 + 1 * k.val = _; omega
  | ⟨1, _⟩ => show win0_0.index t 1 * 512 + 1 * r.val = j.val; rw [(at0 t).1, hj]; show 0 * 512 + 1 * r.val = _; omega

theorem iblk1_apply (t : Fin cfg0.N) (k : Fin 2048) (r : Fin 512) (i : Fin 8192) (j : Fin 2048) (hi : i.val = 2048 * (t.val % 4) + k.val) (hj : j.val = 512 * (t.val / 4) + r.val) :
    (iblk m c 1 t : Vec Ideal S2048x512 .bf16) (ix2 k r) = da m c (ix2 i j) := by
  unfold iblk
  rw [View.read_apply]
  refine congrArg (da m c) (funext fun a => Fin.ext ?_)
  match a with
  | ⟨0, _⟩ => show win0_1.index t 0 * 2048 + 1 * k.val = i.val; rw [(at0 t).2.1, hi]; show t.val % 4 * 2048 + 1 * k.val = _; omega
  | ⟨1, _⟩ => show win0_1.index t 1 * 512 + 1 * r.val = j.val; rw [(at0 t).2.1, hj]; show t.val / 4 * 512 + 1 * r.val = _; omega

/-- The terms of an entry of the product. -/
def terms (i : Fin 512) (j : Fin 2048) (k : Fin 8192) : EReal := (x m c (ix2 k i) : EReal) * da m c (ix2 k j)

theorem part_apply (t : Fin cfg0.N) (r n : Fin 512) (i : Fin 512) (j : Fin 2048) (hi : i.val = r.val) (hj : j.val = 512 * (t.val / 4) + n.val) :
    (k0_pay1 (iblk m c 0 t : Vec Ideal S2048x512 .bf16) (iblk m c 1 t : Vec Ideal S2048x512 .bf16) (ix2 r n) : EReal) = Mm.part (terms m c i j) 2048 (t.val % 4) := by
  rw [pay1_apply]
  refine Mm.part_eq _ _ (by omega) fun k => ?_
  rw [iblk0_apply m c t k r ⟨2048 * (t.val % 4) + k.val, by omega⟩ i rfl hi, iblk1_apply m c t k n ⟨2048 * (t.val % 4) + k.val, by omega⟩ j rfl hj]
  rfl

/-- The block a last step writes is the product's. -/
theorem block (t : Fin cfg0.N) (ht : t.val % 4 = 3) (u : Fin 1) (r n : Fin 512) (i : Fin 512) (j : Fin 2048)
    (hi : i.val = r.val) (hj : j.val = 512 * (t.val / 4) + n.val) :
    ((outsAt0 m c t.val t.isLt).1 (ix3 u r n) : EReal) = ∑ k : Fin 8192, terms m c i j k := by
  refine Mm.out_eq (terms m c i j) (N := cfg0.N) (B := 2048) (K := 4) rfl (by omega)
    (fun n' h => (outsAt0 m c n' h).2 (ix2 r n))
    (fun n' h => (outsAt0 m c n' h).1 (ix3 u r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ _ n i j hi (by dsimp only; omega)
  · intro p h hq h0 hl
    rw [outsAt0_B m c ⟨p + 1, h⟩ h0 (by dsimp only; omega) (by dsimp only; omega)]
    dsimp only
    rw [next]
    exact congrArg _ (part_apply m c ⟨p + 1, h⟩ _ n i j hi (by dsimp only; omega))
  · intro p h hq hl
    rw [outsAt0_C m c ⟨p + 1, h⟩ (by dsimp only; omega) (by dsimp only; omega) (by dsimp only; omega)]
    dsimp only
    rw [last, pay4_apply]
    exact congrArg _ (part_apply m c ⟨p + 1, h⟩ _ n i j hi (by dsimp only; omega))

/-- What a point writes back is its block of the reference's result, -/
theorem flushed_eq (t : Fin cfg0.N) (hf : (cfg0.win 2).flush t = true) :
    (dats m 0 c).flushed 2 t = ((cfg0.win 2).blk t).view.read (Elt Ideal) (Cert.BranchDwRefIdeal.Prod.out (x m c) (da m c)) := by
  have ht : t.val % 4 = 3 := (flush0_2 t).mp hf
  have hN : t.val < 16 := lt_of_lt_of_eq t.isLt N_0
  rw [Value.flushed2]
  funext y
  obtain ⟨u, r, n, rfl⟩ := Mm.at3 (a := 1) (b := 512) (e := 512) y
  have he : ((cfg0.win 2).blk t).view.emb (ix3 u r n) = (ix3 (⟨t.val / 4, by omega⟩ : Fin 4) r n) := by
    funext a
    apply Fin.ext
    match a with
    | ⟨0, _⟩ => show win0_2.index t 0 * 1 + 1 * u.val = _; rw [(at0 t).2.2]; show t.val / 4 * 1 + 1 * u.val = t.val / 4; omega
    | ⟨1, _⟩ => show win0_2.index t 1 * 512 + 1 * r.val = _; rw [(at0 t).2.2]; show 0 * 512 + 1 * r.val = r.val; omega
    | ⟨2, _⟩ => show win0_2.index t 2 * 512 + 1 * n.val = _; rw [(at0 t).2.2]; show 0 * 512 + 1 * n.val = n.val; omega
  show (outsAt0 m c t.val t.isLt).1 (ix3 u r n) = Cert.BranchDwRefIdeal.Prod.out (x m c) (da m c) (((cfg0.win 2).blk t).view.emb (ix3 u r n))
  rw [he, Cert.BranchDwRefIdeal.Prod.out_apply]
  exact (block m c t ht u r n _ ⟨t.val / 4 * 512 + n.val, by omega⟩ rfl (by dsimp only; omega)).trans
    (Finset.sum_congr (M := EReal) rfl fun k _ => EReal.mul_comm _ _)

/-- and the points between them write every entry. -/
theorem covered (i : S4x512x512.Idx) : ∃ t : Fin cfg0.N, (cfg0.win 2).flush t = true ∧ i ∈ ((cfg0.win 2).blk t).view.set := by
  obtain ⟨p, q, n, rfl⟩ := Mm.at3 i
  refine ⟨⟨4 * p.val + 3, lt_of_lt_of_eq (by omega) N_0.symm⟩, (flush0_2 _).mpr (by dsimp only; omega), ?_⟩
  show _ ∈ ((View.whole main_v0).slice (win0_2.rect _)).set
  rw [View.set_slice_whole, Rect.mem_set_unit]
  intro a
  match a with
  | ⟨0, _⟩ => show win0_2.index _ 0 * 1 ≤ p.val ∧ p.val < win0_2.index _ 0 * 1 + 1; rw [(at0 _).2.2]; dsimp only [Matrix.cons_val]; omega
  | ⟨1, _⟩ => show win0_2.index _ 1 * 512 ≤ q.val ∧ q.val < win0_2.index _ 1 * 512 + 512; rw [(at0 _).2.2]; dsimp only [Matrix.cons_val]; omega
  | ⟨2, _⟩ => show win0_2.index _ 2 * 512 ≤ n.val ∧ n.val < win0_2.index _ 2 * 512 + 512; rw [(at0 _).2.2]; dsimp only [Matrix.cons_val]; omega

/-- The result array after the run. -/
theorem result_eq : (dats m 0 c).arrAt 2 cfg0.N = Cert.BranchDwRefIdeal.Prod.out (x m c) (da m c) :=
  (dats m 0 c).arrAt_eq_of_cover 2 _ (fun t hf => flushed_eq m c t hf) covered

theorem value : Cert.algebraic_BranchDwIdeal_BranchDwRefIdeal := fun m g m' g' _ ha =>
  ⟨fun c => (dats m 0 c).arrAt 2 cfg0.N, Value.run_blocks m g, (θ_run Cert.BranchDwRefIdeal.defs _ _).mono (fun r h c => ⟨(h c).1.trans (by
    obtain ⟨a0, a1⟩ := ha c
    rw [a0, a1]
    exact (result_eq m c).symm), (h c).2⟩) (Cert.BranchDwRefIdeal.Value.run m' g')⟩

end Cert.BranchDwIdeal.Prod

end
-- ==== Proof.LnFwdValue.lean ====
/-
  The layer norm: what the call leaves in its two results. The normalised rows are those of the norm's backward pass.
-/
module

public import proofs.«01_k».proof.Proof.Gen.LnFwdIdeal.Value
public import proofs.«01_k».proof.Proof.Gen.LnFwdRefIdeal.Run
public import proofs.«01_k».proof.Proof.LnBwdValue
public import proofs.«01_k».proof.Defs

@[expose] public section

set_option maxRecDepth 16384

noncomputable section

namespace Cert.LnFwdRefIdeal.Prod

open Idealize.ShloMosaic
open Cert.LnFwdRefIdeal Cert.LnFwdRefIdeal.Gen
open Cert.LnBwdRefIdeal.Prod (hat row hat_apply)
open scoped BigOperators

variable (h : FVec Ideal S8192x2048 .f32) (g b : FVec Ideal S2048 .f32)

/-- The reference's results. -/
def y : FVec Ideal S8192x2048 .f32 :=
  addf (mulf (hat h) (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))
def yb : FVec Ideal S8192x2048 .bf16 := truncf .bf16 (y h g b) bitsLt_bf16_f32

theorem y_apply (i : Fin 8192) (j : Fin 2048) : (y h g b (ix2 i j) : EReal) = Norm.ehat (row h i) j * g (ix1 j) + b (ix1 j) := by
  have e : (y h g b (ix2 i j) : EReal) = (hat h (ix2 i j) : EReal) * g (ix1 j) + b (ix1 j) := by
    pointwise [y]
  rw [e, hat_apply]

theorem yb_apply (i : Fin 8192) (j : Fin 2048) : (yb h g b (ix2 i j) : EReal) = y h g b (ix2 i j) := by
  pointwise [yb]

end Cert.LnFwdRefIdeal.Prod

namespace Cert.LnFwdIdeal.Prod

open Idealize.ShloMosaic Idealize.ShloMosaic.TcCoe Idealize.SL.Sem
open Cert.LnFwdIdeal Cert.LnFwdIdeal.Gen
open Cert.LnFwdRefIdeal.Prod (y yb y_apply yb_apply)
open scoped BigOperators

section payloads

variable (x : Vec Ideal S512x2048 .f32) (g b : Vec Ideal S1x2048 .f32)

theorem pay1_apply (r : Fin 512) (n : Fin 2048) : (k0_pay1 x g b (ix2 r n) : EReal) = Norm.ehat (Cert.LnBwdIdeal.Prod.brow x r) n * g (ix2 0 n) + b (ix2 0 n) := by
  have e : (k0_pay1 x g b (ix2 r n) : EReal) = (Cert.LnBwdIdeal.Gen.k0_pay7 x (ix2 r n) : EReal) * g (ix2 0 n) + b (ix2 0 n) := by
    pointwise [k0_pay1, Cert.LnBwdIdeal.Gen.k0_pay7, Cert.LnBwdIdeal.Gen.k0_pay6, Cert.LnBwdIdeal.Gen.k0_pay5]
  rw [e, Cert.LnBwdIdeal.Prod.pay7_apply]

theorem pay2_apply (r : Fin 512) (n : Fin 2048) : (k0_pay2 x g b (ix2 r n) : EReal) = k0_pay1 x g b (ix2 r n) := by
  pointwise [k0_pay2]

/-- What a point leaves in its blocks. -/
theorem out3_eq : out0_3 x g b = k0_pay1 x g b := by
  unfold out0_3
  rw [View.canon_unit_zero Mm.hz]
  simp only [View.ld_unit_zero (S := S512x2048) Mm.hz, View.ld_unit_zero (S := S1x2048) Mm.hz]

theorem out4_eq : out0_4 x g b = k0_pay2 x g b := by
  unfold out0_4
  rw [View.canon_unit_zero Mm.hz]
  simp only [View.ld_unit_zero (S := S512x2048) Mm.hz, View.ld_unit_zero (S := S1x2048) Mm.hz]

end payloads

variable (m : (ℓ : Loc nD τ sig) → Buf (Elt Ideal) ℓ) (c : Dev nD)

theorem at0 : ∀ t : Fin cfg0.N, win0_0.index t = ![t.val, 0] ∧ win0_1.index t = ![0, 0] ∧ win0_2.index t = ![0, 0] ∧
    win0_3.index t = ![t.val, 0] ∧ win0_4.index t = ![t.val, 0] :=
  (by decide +kernel : ∀ t : Fin grid0.N, _)

/-- The arguments. -/
abbrev h : FVec Ideal S8192x2048 .f32 := m ((c.tc : Thread nD τ).loc main_arg0)
abbrev g : FVec Ideal S2048 .f32 := m ((c.tc : Thread nD τ).loc main_arg1)
abbrev b : FVec Ideal S2048 .f32 := m ((c.tc : Thread nD τ).loc main_arg2)

/-- The blocks a point reads. -/
abbrev bx (t : Fin cfg0.N) : Vec Ideal S512x2048 .f32 := iblk m c 0 t
abbrev bg (t : Fin cfg0.N) : Vec Ideal S1x2048 .f32 := iblk m c 1 t
abbrev bb (t : Fin cfg0.N) : Vec Ideal S1x2048 .f32 := iblk m c 2 t

theorem bx_apply (t : Fin cfg0.N) (r : Fin 512) (n : Fin 2048) (i : Fin 8192) (hi : i.val = 512 * t.val + r.val) : bx m c t (ix2 r n) = h m c (ix2 i n) := by
  unfold bx iblk
  rw [View.read_apply]
  refine (congrFun (V_main_arg0 m c) _).trans (congrArg (h m c) (funext fun a => Fin.ext ?_))
  match a with
  | ⟨0, _⟩ => show win0_0.index t 0 * 512 + 1 * r.val = i.val; rw [(at0 t).1, hi]; show t.val * 512 + 1 * r.val = _; omega
  | ⟨1, _⟩ => show win0_0.index t 1 * 2048 + 1 * n.val = n.val; rw [(at0 t).1]; show 0 * 2048 + 1 * n.val = _; omega

theorem V_main_v0 : (V m c main_v0 : FVec Ideal S1x2048 .f32) = shapeCast _ (g m c) shapeCasts_S2048_S1x2048 := by
  unfold V
  after_results <;> rfl

theorem V_main_v1 : (V m c main_v1 : FVec Ideal S1x2048 .f32) = shapeCast _ (b m c) shapeCasts_S2048_S1x2048 := by
  unfold V
  after_results <;> rfl

theorem bg_apply (t : Fin cfg0.N) (n : Fin 2048) : (bg m c t (ix2 0 n) : EReal) = g m c (ix1 n) := by
  have e : bg m c t (ix2 0 n) = (V m c main_v0 : FVec Ideal S1x2048 .f32) (ix2 0 n) := by
    unfold bg iblk
    rw [View.read_apply]
    refine congrArg (V m c main_v0 : FVec Ideal S1x2048 .f32) (funext fun a => Fin.ext ?_)
    match a with
    | ⟨0, _⟩ => show win0_1.index t 0 * 1 + 1 * 0 = 0; rw [(at0 t).2.1]; rfl
    | ⟨1, _⟩ => show win0_1.index t 1 * 2048 + 1 * n.val = n.val; rw [(at0 t).2.1]; show 0 * 2048 + 1 * n.val = _; omega
  rw [e, V_main_v0]
  pointwise

theorem bb_apply (t : Fin cfg0.N) (n : Fin 2048) : (bb m c t (ix2 0 n) : EReal) = b m c (ix1 n) := by
  have e : bb m c t (ix2 0 n) = (V m c main_v1 : FVec Ideal S1x2048 .f32) (ix2 0 n) := by
    unfold bb iblk
    rw [View.read_apply]
    refine congrArg (V m c main_v1 : FVec Ideal S1x2048 .f32) (funext fun a => Fin.ext ?_)
    match a with
    | ⟨0, _⟩ => show win0_2.index t 0 * 1 + 1 * 0 = 0; rw [(at0 t).2.2.1]; rfl
    | ⟨1, _⟩ => show win0_2.index t 1 * 2048 + 1 * n.val = n.val; rw [(at0 t).2.2.1]; show 0 * 2048 + 1 * n.val = _; omega
  rw [e, V_main_v1]
  pointwise

theorem block (t : Fin cfg0.N) (r : Fin 512) (n : Fin 2048) (i : Fin 8192) (hi : i.val = 512 * t.val + r.val) :
    (k0_pay1 (bx m c t) (bg m c t) (bb m c t) (ix2 r n) : EReal) = y (h m c) (g m c) (b m c) (ix2 i n) := by
  have e : Cert.LnBwdIdeal.Prod.brow (bx m c t) r = Cert.LnBwdRefIdeal.Prod.row (h m c) i := funext fun n => bx_apply m c t r n i hi
  rw [pay1_apply, y_apply, bg_apply, bb_apply, e]

/-- What a point writes back is its block of the reference's results, -/
theorem flushed_y (t : Fin cfg0.N) : (dats m 0 c).flushed 3 t = ((cfg0.win 3).blk t).view.read (Elt Ideal) (y (h m c) (g m c) (b m c)) := by
  have hN : t.val < 16 := lt_of_lt_of_eq t.isLt N_0
  rw [Value.flushed3, out3_eq]
  funext y'
  obtain ⟨r, n, rfl⟩ := Mm.at2 (a := 512) (b := 2048) y'
  have he : ((cfg0.win 3).blk t).view.emb (ix2 r n) = (ix2 (⟨512 * t.val + r.val, by omega⟩ : Fin 8192) n) := by
    funext a
    apply Fin.ext
    match a with
    | ⟨0, _⟩ => show win0_3.index t 0 * 512 + 1 * r.val = _; rw [(at0 t).2.2.2.1]; show t.val * 512 + 1 * r.val = 512 * t.val + r.val; omega
    | ⟨1, _⟩ => show win0_3.index t 1 * 2048 + 1 * n.val = _; rw [(at0 t).2.2.2.1]; show 0 * 2048 + 1 * n.val = n.val; omega
  show k0_pay1 (bx m c t) (bg m c t) (bb m c t) (ix2 r n) = y (h m c) (g m c) (b m c) (((cfg0.win 3).blk t).view.emb (ix2 r n))
  rw [he]
  exact block m c t r n _ rfl

theorem flushed_yb (t : Fin cfg0.N) : (dats m 0 c).flushed 4 t = ((cfg0.win 4).blk t).view.read (Elt Ideal) (yb (h m c) (g m c) (b m c)) := by
  have hN : t.val < 16 := lt_of_lt_of_eq t.isLt N_0
  rw [Value.flushed4, out4_eq]
  funext y'
  obtain ⟨r, n, rfl⟩ := Mm.at2 (a := 512) (b := 2048) y'
  have he : ((cfg0.win 4).blk t).view.emb (ix2 r n) = (ix2 (⟨512 * t.val + r.val, by omega⟩ : Fin 8192) n) := by
    funext a
    apply Fin.ext
    match a with
    | ⟨0, _⟩ => show win0_4.index t 0 * 512 + 1 * r.val = _; rw [(at0 t).2.2.2.2]; show t.val * 512 + 1 * r.val = 512 * t.val + r.val; omega
    | ⟨1, _⟩ => show win0_4.index t 1 * 2048 + 1 * n.val = _; rw [(at0 t).2.2.2.2]; show 0 * 2048 + 1 * n.val = n.val; omega
  show k0_pay2 (bx m c t) (bg m c t) (bb m c t) (ix2 r n) = yb (h m c) (g m c) (b m c) (((cfg0.win 4).blk t).view.emb (ix2 r n))
  rw [he, pay2_apply, yb_apply]
  exact block m c t r n _ rfl

/-- and the points between them write every entry of each. -/
theorem covered_y (i : S8192x2048.Idx) : ∃ t : Fin cfg0.N, (cfg0.win 3).flush t = true ∧ i ∈ ((cfg0.win 3).blk t).view.set := by
  obtain ⟨q, n, rfl⟩ := Mm.at2 i
  refine ⟨⟨q.val / 512, lt_of_lt_of_eq (by omega) N_0.symm⟩, flush0_3 _, ?_⟩
  show _ ∈ ((View.whole main_v2_0).slice (win0_3.rect _)).set
  rw [View.set_slice_whole, Rect.mem_set_unit]
  intro a
  match a with
  | ⟨0, _⟩ => show win0_3.index _ 0 * 512 ≤ q.val ∧ q.val < win0_3.index _ 0 * 512 + 512; rw [(at0 _).2.2.2.1]; dsimp only [Matrix.cons_val]; omega
  | ⟨1, _⟩ => show win0_3.index _ 1 * 2048 ≤ n.val ∧ n.val < win0_3.index _ 1 * 2048 + 2048; rw [(at0 _).2.2.2.1]; dsimp only [Matrix.cons_val]; omega

theorem covered_yb (i : S8192x2048.Idx) : ∃ t : Fin cfg0.N, (cfg0.win 4).flush t = true ∧ i ∈ ((cfg0.win 4).blk t).view.set := by
  obtain ⟨q, n, rfl⟩ := Mm.at2 i
  refine ⟨⟨q.val / 512, lt_of_lt_of_eq (by omega) N_0.symm⟩, flush0_4 _, ?_⟩
  show _ ∈ ((View.whole main_v2_1).slice (win0_4.rect _)).set
  rw [View.set_slice_whole, Rect.mem_set_unit]
  intro a
  match a with
  | ⟨0, _⟩ => show win0_4.index _ 0 * 512 ≤ q.val ∧ q.val < win0_4.index _ 0 * 512 + 512; rw [(at0 _).2.2.2.2]; dsimp only [Matrix.cons_val]; omega
  | ⟨1, _⟩ => show win0_4.index _ 1 * 2048 ≤ n.val ∧ n.val < win0_4.index _ 1 * 2048 + 2048; rw [(at0 _).2.2.2.2]; dsimp only [Matrix.cons_val]; omega

/-- The result arrays after the run are the reference's. -/
theorem value : Cert.algebraic_LnFwdIdeal_LnFwdRefIdeal := fun m g m' g' _ ha => by
  refine ⟨fun c => (dats m 0 c).arrAt 3 cfg0.N, fun c => (dats m 0 c).arrAt 4 cfg0.N, Value.run_blocks m g,
    (θ_run Cert.LnFwdRefIdeal.defs _ _).mono (fun r h c => ?_) (Cert.LnFwdRefIdeal.Value.run m' g')⟩
  obtain ⟨a0, a1, a2⟩ := ha c
  obtain ⟨h0, h1, hargs⟩ := h c
  refine ⟨h0.trans ?_, h1.trans ?_, hargs⟩
  · rw [a0, a1, a2]
    exact ((dats m 0 c).arrAt_eq_of_cover 3 _ (fun t _ => flushed_y m c t) covered_y).symm
  · rw [a0, a1, a2]
    exact ((dats m 0 c).arrAt_eq_of_cover 4 _ (fun t _ => flushed_yb m c t) covered_yb).symm

end Cert.LnFwdIdeal.Prod

end
-- ==== Proof.LossHeadValue.lean ====
/-
  The loss and the gradient it sends back: what the call leaves in its two results.
-/
module

public import proofs.«01_k».proof.Proof.Gen.LossHeadIdeal.Value
public import proofs.«01_k».proof.Proof.Gen.LossHeadRefIdeal.Run
public import proofs.«01_k».proof.Proof.Mm
public import proofs.«01_k».proof.Proof.Norm
public import proofs.«01_k».proof.Defs

@[expose] public section

set_option maxRecDepth 16384

noncomputable section

namespace Cert.LossHeadRefIdeal.Prod

open Idealize.ShloMosaic
open Cert.LossHeadRefIdeal Cert.LossHeadRefIdeal.Gen
open scoped BigOperators

/-! The constants, and a finite scale of a sum of entries that need not be finite. -/

theorem bits_half : Ideal.ofBits .f32 0x3F000000#32 = ((1 / 2 : ℝ) : EReal) := by
  unfold Ideal.ofBits Ideal.ieee
  norm_num [Nat.shiftRight_eq_div_pow, show ¬BitVec.extractLsb' 31 1 (0x3F000000#32 : BitVec 32) = 1#1 by decide]

theorem bits_inv : Ideal.ofBits .f32 0x3A000000#32 = ((1 / 2048 : ℝ) : EReal) := by
  unfold Ideal.ofBits Ideal.ieee
  norm_num [Nat.shiftRight_eq_div_pow, show ¬BitVec.extractLsb' 31 1 (0x3A000000#32 : BitVec 32) = 1#1 by decide]

theorem scale_sum {n : ℕ} (a : ℝ) (ha : 0 ≤ a) (f : Fin n → EReal) : (a : EReal) * ∑ i, f i = ∑ i, (a : EReal) * f i := by
  have h : ∀ s : Finset (Fin n), (a : EReal) * ∑ i ∈ s, f i = ∑ i ∈ s, (a : EReal) * f i := fun s => by
    induction s using Finset.induction_on with
    | empty => simp
    | insert i s hi ih => rw [Finset.sum_insert hi, Finset.sum_insert hi, EReal.left_distrib_of_nonneg_of_ne_top (EReal.coe_nonneg.mpr ha) (EReal.coe_ne_top a), ih]
  exact h Finset.univ

variable (y t : FVec Ideal S8192x2048 .f32)

/-- The reference's results: the gradient, and the loss. -/
def dy : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32)))
    (broadcastInDim S8192 ![] bcast_S_S8192 (constant S_ .f32 0x45000000#32)))) (mulf (broadcastInDim S8192x2048 ![] bcast_S_S8192x2048 (constant S_ .f32 0x40000000#32)) (subf y t))
def loss : FVec Ideal S8x128 .f32 :=
  broadcastInDim S8x128 ![] bcast_S_S8x128 (mulf (constant S_ .f32 0x3F000000#32) (Host.reduceAdd (Host.divf (Host.reduceAdd (mulf (subf y t) (subf y t)) (constant S_ .f32 0x00000000#32)
    reducesTo_S8192x2048_S8192_d1 h_S_) (broadcastInDim S8192 ![] bcast_S_S8192 (constant S_ .f32 0x45000000#32))) (constant S_ .f32 0x00000000#32) reducesTo_S8192_S_d0 h_S_))

/-- What a row adds to the loss. -/
def term (i : Fin 8192) : EReal :=
  ((1 / 2 : ℝ) : EReal) * ((∑ k : Fin 2048, ((y (ix2 i k) : EReal) - t (ix2 i k)) * ((y (ix2 i k) : EReal) - t (ix2 i k))) * ((1 / 2048 : ℝ) : EReal))

theorem dy_apply (i : Fin 8192) (j : Fin 2048) : (dy y t (ix2 i j) : EReal) = ((y (ix2 i j) : EReal) - t (ix2 i j)) * ((1 / 2048 : ℝ) : EReal) := by
  have e : (dy y t (ix2 i j) : EReal) = Ideal.div (Ideal.ofBits .f32 0x3F000000#32) (Ideal.ofBits .f32 0x45000000#32) * (Ideal.ofBits .f32 0x40000000#32 * ((y (ix2 i j) : EReal) - t (ix2 i j))) := by
    pointwise [dy]
  rw [e, bits_half, Norm.bits_2048, Norm.bits_2, Ideal.div_coe (by norm_num), ← EReal.coe_mul, ← mul_assoc, ← EReal.coe_mul, EReal.mul_comm]
  norm_num

theorem loss_apply (u : Fin 8) (v : Fin 128) : (loss y t (ix2 u v) : EReal) = ∑ i : Fin 8192, term y t i := by
  have e : (loss y t (ix2 u v) : EReal) = Ideal.ofBits .f32 0x3F000000#32 * ∑ i : Fin 8192,
      Ideal.div (∑ k : Fin 2048, ((y (ix2 i k) : EReal) - t (ix2 i k)) * ((y (ix2 i k) : EReal) - t (ix2 i k))) (Ideal.ofBits .f32 0x45000000#32) := by
    pointwise [loss]
  rw [e, bits_half, Norm.bits_2048, scale_sum _ (by norm_num)]
  simp only [Ideal.div_coe (show (2048 : ℝ) ≠ 0 by norm_num)]
  rfl

end Cert.LossHeadRefIdeal.Prod

namespace Cert.LossHeadIdeal.Prod

open Idealize.ShloMosaic Idealize.ShloMosaic.TcCoe Idealize.SL.Sem
open Cert.LossHeadIdeal Cert.LossHeadIdeal.Gen
open Cert.LossHeadRefIdeal.Prod (dy loss term dy_apply loss_apply bits_half bits_inv scale_sum)
open scoped BigOperators

section cases

variable {F : FTy → Type} [FloatOps F]
variable (c : Dev nD) (i : grid0.Coords)
  (a1 : Memref sig .tc .vmem S512x2048 .f32) (h1 : a1.IsWhole) (a2 : Memref sig .tc .vmem S512x2048 .f32) (h2 : a2.IsWhole)
  (a3 : Memref sig .tc .vmem S512x2048 .f32) (h3 : a3.IsWhole) (a4 : Memref sig .tc .vmem S8x128 .f32) (h4 : a4.IsWhole)
  (x y : Vec F S512x2048 .f32) (s : Vec F S8x128 .f32)

/-- Every point leaves the gradient its rows give; the first leaves its rows' loss, and the others add theirs. -/
theorem first2 (hc0 : cond0_0 i) (hc1 : ¬cond0_1 i) :
    out0_A_2 c i a1 h1 a2 h2 a3 h3 a4 h4 hc0 hc1 x y = k0_pay2 x y := by
  unfold out0_A_2
  rw [View.read_writes_eq_canon _ _ _ (cover0_A_2 c i a1 h1 a2 h2 a3 h3 a4 h4 hc0 hc1 x y)]
  unfold kernelRun0_A
  dsimp only
  sl_unfold_words
  rw [View.canon_unit_zero Mm.hz]
  simp only [View.readAt_eq_ld, h1.read_unread, h2.read_unread, View.ld_unit_zero (S := S512x2048) Mm.hz]

theorem first3 (hc0 : cond0_0 i) (hc1 : ¬cond0_1 i) :
    out0_A_3 c i a1 h1 a2 h2 a3 h3 a4 h4 hc0 hc1 x y = k0_pay3 x y := by
  unfold out0_A_3
  rw [View.read_writes_eq_canon _ _ _ (cover0_A_3 c i a1 h1 a2 h2 a3 h3 a4 h4 hc0 hc1 x y)]
  unfold kernelRun0_A
  dsimp only
  sl_unfold_words
  rw [View.canon_unit_zero Mm.hz]
  simp only [View.readAt_eq_ld, h1.read_unread, h2.read_unread, View.ld_unit_zero (S := S512x2048) Mm.hz]

theorem next2 (hc0 : ¬cond0_0 i) (hc1 : cond0_1 i) :
    out0_B_2 c i a1 h1 a2 h2 a3 h3 a4 h4 hc0 hc1 x y s = k0_pay2 x y := by
  unfold out0_B_2
  rw [View.read_writes_eq_canon _ _ _ (cover0_B_2 c i a1 h1 a2 h2 a3 h3 a4 h4 hc0 hc1 x y s)]
  unfold kernelRun0_B
  dsimp only
  sl_unfold_words
  rw [View.canon_unit_zero Mm.hz]
  simp only [View.readAt_eq_ld, h1.read_unread, h2.read_unread, View.ld_unit_zero (S := S512x2048) Mm.hz]

theorem next3 (hc0 : ¬cond0_0 i) (hc1 : cond0_1 i) :
    out0_B_3 c i a1 h1 a2 h2 a3 h3 a4 h4 hc0 hc1 x y s = addf s (k0_pay3 x y) := by
  unfold out0_B_3
  rw [View.read_writes_eq_canon _ _ _ (cover0_B_3 c i a1 h1 a2 h2 a3 h3 a4 h4 hc0 hc1 x y s)]
  unfold kernelRun0_B
  dsimp only
  sl_unfold_words
  rw [View.canon_unit_zero Mm.hz]
  unfold k0_pay4
  simp only [View.readAt_eq_ld, h1.read_unread, h2.read_unread, h4.read_unread, View.ld_unit_zero (S := S512x2048) Mm.hz, View.ld_unit_zero (S := S8x128) Mm.hz, shapeCast_self]

end cases

section payloads

variable (x y : Vec Ideal S512x2048 .f32)

theorem pay2_apply (r : Fin 512) (n : Fin 2048) : (k0_pay2 x y (ix2 r n) : EReal) = ((x (ix2 r n) : EReal) - y (ix2 r n)) * ((1 / 2048 : ℝ) : EReal) := by
  have e : (k0_pay2 x y (ix2 r n) : EReal) = ((x (ix2 r n) : EReal) - y (ix2 r n)) * Ideal.ofBits .f32 0x3A000000#32 := by
    pointwise [k0_pay2, k0_pay1]
  rw [e, bits_inv]

theorem pay3_apply (u : Fin 8) (v : Fin 128) : (k0_pay3 x y (ix2 u v) : EReal) = ∑ r : Fin 512,
    ((1 / 2 : ℝ) : EReal) * ((∑ k : Fin 2048, ((x (ix2 r k) : EReal) - y (ix2 r k)) * ((x (ix2 r k) : EReal) - y (ix2 r k))) * ((1 / 2048 : ℝ) : EReal)) := by
  have e : (k0_pay3 x y (ix2 u v) : EReal) = Ideal.ofBits .f32 0x3F000000#32 * ∑ r : Fin 512,
      (∑ k : Fin 2048, ((x (ix2 r k) : EReal) - y (ix2 r k)) * ((x (ix2 r k) : EReal) - y (ix2 r k))) * Ideal.ofBits .f32 0x3A000000#32 := by
    pointwise [k0_pay3, k0_pay1]
  rw [e, bits_half, bits_inv, scale_sum _ (by norm_num)]

end payloads

variable (m : (ℓ : Loc nD τ sig) → Buf (Elt Ideal) ℓ) (c : Dev nD)

theorem at0 : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The arguments. -/
abbrev y : FVec Ideal S8192x2048 .f32 := m ((c.tc : Thread nD τ).loc main_arg0)
abbrev tgt : FVec Ideal S8192x2048 .f32 := m ((c.tc : Thread nD τ).loc main_arg1)

/-- The blocks a point reads. -/
abbrev bx (t : Fin cfg0.N) : Vec Ideal S512x2048 .f32 := iblk m c 0 t
abbrev bt (t : Fin cfg0.N) : Vec Ideal S512x2048 .f32 := iblk m c 1 t

theorem bx_apply (t : Fin cfg0.N) (r : Fin 512) (n : Fin 2048) (i : Fin 8192) (hi : i.val = 512 * t.val + r.val) : bx m c t (ix2 r n) = y m c (ix2 i n) := by
  unfold bx iblk
  rw [View.read_apply]
  refine (congrFun (V_main_arg0 m c) _).trans (congrArg (y m c) (funext fun a => Fin.ext ?_))
  match a with
  | ⟨0, _⟩ => show win0_0.index t 0 * 512 + 1 * r.val = i.val; rw [(at0 t).1, hi]; show t.val * 512 + 1 * r.val = _; omega
  | ⟨1, _⟩ => show win0_0.index t 1 * 2048 + 1 * n.val = n.val; rw [(at0 t).1]; show 0 * 2048 + 1 * n.val = _; omega

theorem bt_apply (t : Fin cfg0.N) (r : Fin 512) (n : Fin 2048) (i : Fin 8192) (hi : i.val = 512 * t.val + r.val) : bt m c t (ix2 r n) = tgt m c (ix2 i n) := by
  unfold bt iblk
  rw [View.read_apply]
  refine (congrFun (V_main_arg1 m c) _).trans (congrArg (tgt m c) (funext fun a => Fin.ext ?_))
  match a with
  | ⟨0, _⟩ => show win0_1.index t 0 * 512 + 1 * r.val = i.val; rw [(at0 t).2.1, hi]; show t.val * 512 + 1 * r.val = _; omega
  | ⟨1, _⟩ => show win0_1.index t 1 * 2048 + 1 * n.val = n.val; rw [(at0 t).2.1]; show 0 * 2048 + 1 * n.val = _; omega

/-- What a point leaves in its block of the gradient, and what it adds to the loss. -/
theorem outs2 (t : Fin cfg0.N) : (outsAt0 m c t.val t.isLt).1 = k0_pay2 (bx m c t) (bt m c t) := by
  have hN : t.val < 16 := lt_of_lt_of_eq t.isLt N_0
  by_cases h : t.val % 16 = 0
  · rw [outsAt0_A m c t h (by omega)]
    dsimp only
    rw [first2]
  · rw [outsAt0_B m c t h (by omega)]
    dsimp only
    rw [next2]

theorem part (t : Fin cfg0.N) (u : Fin 8) (v : Fin 128) : (k0_pay3 (bx m c t) (bt m c t) (ix2 u v) : EReal) = Mm.part (term (y m c) (tgt m c)) 512 t.val := by
  have hN : t.val < 16 := lt_of_lt_of_eq t.isLt N_0
  rw [pay3_apply]
  refine Mm.part_eq _ _ (by omega) fun k => ?_
  simp only [fun n => bx_apply m c t k n ⟨512 * t.val + k.val, by omega⟩ rfl, fun n => bt_apply m c t k n ⟨512 * t.val + k.val, by omega⟩ rfl]
  rfl

theorem total (t : Fin cfg0.N) (ht : t.val % 16 = 15) (u : Fin 8) (v : Fin 128) : ((outsAt0 m c t.val t.isLt).2 (ix2 u v) : EReal) = ∑ i : Fin 8192, term (y m c) (tgt m c) i := by
  refine Mm.out_eq (term (y m c) (tgt m c)) (N := cfg0.N) (B := 512) (K := 16) rfl (by omega) (fun n' h => (outsAt0 m c n' h).2 (ix2 u v))
    (fun n' h => (outsAt0 m c n' h).2 (ix2 u v)) (t.val / 16) ?_ ?_ ?_ t.val t.isLt rfl (by omega)
  · intro q h hq h0
    have hN : q < 16 := lt_of_lt_of_eq h N_0
    rw [outsAt0_A m c ⟨q, h⟩ h0 (by dsimp only; omega)]
    dsimp only
    rw [first3, Nat.mod_eq_of_lt hN]
    exact part m c ⟨q, h⟩ u v
  · intro q h hq h0 _
    have hN : q + 1 < 16 := lt_of_lt_of_eq h N_0
    rw [outsAt0_B m c ⟨q + 1, h⟩ h0 (by dsimp only; omega)]
    dsimp only
    rw [next3, Nat.mod_eq_of_lt hN]
    exact congrArg _ (part m c ⟨q + 1, h⟩ u v)
  · intro q h hq hl
    have hN : q + 1 < 16 := lt_of_lt_of_eq h N_0
    rw [outsAt0_B m c ⟨q + 1, h⟩ (by dsimp only; omega) (by dsimp only; omega)]
    dsimp only
    rw [next3, Nat.mod_eq_of_lt hN]
    exact congrArg _ (part m c ⟨q + 1, h⟩ u v)

/-- What a point writes back is its block of the reference's results, -/
theorem flushed_dy (t : Fin cfg0.N) : (dats m 0 c).flushed 2 t = ((cfg0.win 2).blk t).view.read (Elt Ideal) (dy (y m c) (tgt m c)) := by
  have hN : t.val < 16 := lt_of_lt_of_eq t.isLt N_0
  rw [Value.flushed2, outs2]
  funext y'
  obtain ⟨r, n, rfl⟩ := Mm.at2 (a := 512) (b := 2048) y'
  have he : ((cfg0.win 2).blk t).view.emb (ix2 r n) = (ix2 (⟨512 * t.val + r.val, by omega⟩ : Fin 8192) n) := by
    funext a
    apply Fin.ext
    match a with
    | ⟨0, _⟩ => show win0_2.index t 0 * 512 + 1 * r.val = _; rw [(at0 t).2.2.1]; show t.val * 512 + 1 * r.val = 512 * t.val + r.val; omega
    | ⟨1, _⟩ => show win0_2.index t 1 * 2048 + 1 * n.val = _; rw [(at0 t).2.2.1]; show 0 * 2048 + 1 * n.val = n.val; omega
  show k0_pay2 (bx m c t) (bt m c t) (ix2 r n) = dy (y m c) (tgt m c) (((cfg0.win 2).blk t).view.emb (ix2 r n))
  rw [he]
  refine (pay2_apply _ _ r n).trans (Eq.trans ?_ (dy_apply _ _ _ n).symm)
  rw [bx_apply m c t r n ⟨512 * t.val + r.val, by omega⟩ rfl, bt_apply m c t r n ⟨512 * t.val + r.val, by omega⟩ rfl]

theorem emb3 (t : Fin cfg0.N) (u : Fin 8) (v : Fin 128) : ((cfg0.win 3).blk t).view.emb (ix2 u v) = (ix2 u v : S8x128.Idx) := by
  funext a
  apply Fin.ext
  match a with
  | ⟨0, _⟩ => show win0_3.index t 0 * 8 + 1 * u.val = _; rw [(at0 t).2.2.2]; show 0 * 8 + 1 * u.val = u.val; omega
  | ⟨1, _⟩ => show win0_3.index t 1 * 128 + 1 * v.val = _; rw [(at0 t).2.2.2]; show 0 * 128 + 1 * v.val = v.val; omega

theorem flushed_loss (t : Fin cfg0.N) (hf : (cfg0.win 3).flush t = true) :
    (dats m 0 c).flushed 3 t = ((cfg0.win 3).blk t).view.read (Elt Ideal) (loss (y m c) (tgt m c)) := by
  rw [Value.flushed3]
  funext y'
  obtain ⟨u, v, rfl⟩ := Mm.at2 (a := 8) (b := 128) y'
  show (outsAt0 m c t.val t.isLt).2 (ix2 u v) = loss (y m c) (tgt m c) (((cfg0.win 3).blk t).view.emb (ix2 u v))
  rw [emb3]
  exact (total m c t ((flush0_3 t).mp hf) u v).trans (loss_apply _ _ u v).symm

/-- and the points between them write every entry of each. -/
theorem covered_dy (i : S8192x2048.Idx) : ∃ t : Fin cfg0.N, (cfg0.win 2).flush t = true ∧ i ∈ ((cfg0.win 2).blk t).view.set := by
  obtain ⟨q, n, rfl⟩ := Mm.at2 i
  refine ⟨⟨q.val / 512, lt_of_lt_of_eq (by omega) N_0.symm⟩, flush0_2 _, ?_⟩
  show _ ∈ ((View.whole main_v0_0).slice (win0_2.rect _)).set
  rw [View.set_slice_whole, Rect.mem_set_unit]
  intro a
  match a with
  | ⟨0, _⟩ => show win0_2.index _ 0 * 512 ≤ q.val ∧ q.val < win0_2.index _ 0 * 512 + 512; rw [(at0 _).2.2.1]; dsimp only [Matrix.cons_val]; omega
  | ⟨1, _⟩ => show win0_2.index _ 1 * 2048 ≤ n.val ∧ n.val < win0_2.index _ 1 * 2048 + 2048; rw [(at0 _).2.2.1]; dsimp only [Matrix.cons_val]; omega

theorem covered_loss (i : S8x128.Idx) : ∃ t : Fin cfg0.N, (cfg0.win 3).flush t = true ∧ i ∈ ((cfg0.win 3).blk t).view.set := by
  obtain ⟨u, v, rfl⟩ := Mm.at2 i
  refine ⟨⟨15, lt_of_lt_of_eq (by omega) N_0.symm⟩, (flush0_3 _).mpr (by dsimp only), ?_⟩
  show _ ∈ ((View.whole main_v0_1).slice (win0_3.rect _)).set
  rw [View.set_slice_whole, Rect.mem_set_unit]
  intro a
  match a with
  | ⟨0, _⟩ => show win0_3.index _ 0 * 8 ≤ u.val ∧ u.val < win0_3.index _ 0 * 8 + 8; rw [(at0 _).2.2.2]; dsimp only [Matrix.cons_val]; omega
  | ⟨1, _⟩ => show win0_3.index _ 1 * 128 ≤ v.val ∧ v.val < win0_3.index _ 1 * 128 + 128; rw [(at0 _).2.2.2]; dsimp only [Matrix.cons_val]; omega

/-- The result arrays after the run are the reference's. -/
theorem value : Cert.algebraic_LossHeadIdeal_LossHeadRefIdeal := fun m g m' g' _ ha => by
  refine ⟨fun c => (dats m 0 c).arrAt 2 cfg0.N, fun c => (dats m 0 c).arrAt 3 cfg0.N, Value.run_blocks m g,
    (θ_run Cert.LossHeadRefIdeal.defs _ _).mono (fun r h c => ?_) (Cert.LossHeadRefIdeal.Value.run m' g')⟩
  obtain ⟨a0, a1⟩ := ha c
  obtain ⟨h0, h1, hargs⟩ := h c
  refine ⟨h0.trans ?_, h1.trans ?_, hargs⟩
  · rw [a0, a1]
    exact ((dats m 0 c).arrAt_eq_of_cover 2 _ (fun t _ => flushed_dy m c t) covered_dy).symm
  · rw [a0, a1]
    exact ((dats m 0 c).arrAt_eq_of_cover 3 _ (fun t hf => flushed_loss m c t hf) covered_loss).symm

end Cert.LossHeadIdeal.Prod

end
-- ==== Proof.RowDotValue.lean ====
/-
  The row sums of a gradient times a head's output: what the call leaves in its result.
-/
module

public import proofs.«01_k».proof.Proof.Gen.RowDotIdeal.Value
public import proofs.«01_k».proof.Proof.Gen.RowDotRefIdeal.Run
public import proofs.«01_k».proof.Proof.Mm
public import proofs.«01_k».proof.Defs

@[expose] public section

set_option maxRecDepth 16384

noncomputable section

namespace Cert.RowDotRefIdeal.Prod

open Idealize.ShloMosaic
open Cert.RowDotRefIdeal Cert.RowDotRefIdeal.Gen
open scoped BigOperators

variable (a b : FVec Ideal S8192x512 .bf16)

/-- The reference's products by head, their row sums, and its result. -/
def prods : FVec Ideal S8192x4x128 .f32 := shapeCast _ (mulf (extf .f32 a bitsLt_bf16_f32) (extf .f32 b bitsLt_bf16_f32)) shapeCasts_S8192x512_S8192x4x128
def sums : FVec Ideal S4x8192 .f32 :=
  transpose S4x8192 [1, 0] (Host.reduceAdd (prods a b) (constant S_ .f32 0x00000000#32) reducesTo_S8192x4x128_S8192x4_d2 h_S_) transposes_S8192x4_S4x8192_1_0
def dots : FVec Ideal S4x8192x1 .f32 := shapeCast _ (sums a b) shapeCasts_S4x8192_S4x8192x1

/-- An entry of it. -/
def dot (h : Fin 4) (i : Fin 8192) : EReal :=
  ∑ d : Fin 128, (a (ix2 i (⟨h.val * 128 + d.val, by omega⟩ : Fin 512)) : EReal) * b (ix2 i (⟨h.val * 128 + d.val, by omega⟩ : Fin 512))

theorem prods_apply (i : Fin 8192) (h : Fin 4) (d : Fin 128) : (prods a b (ix3 i h d) : EReal) =
    (a (ix2 i (⟨h.val * 128 + d.val, by omega⟩ : Fin 512)) : EReal) * b (ix2 i (⟨h.val * 128 + d.val, by omega⟩ : Fin 512)) := by
  unfold prods
  refine (shapeCast_apply _ _ _ (ix2 i (⟨h.val * 128 + d.val, by omega⟩ : Fin 512)) ?_).trans rfl
  rw [Shape.rowMajor_val_three, Shape.rowMajor_val_two]
  show i.val * 512 + (h.val * 128 + d.val) = (i.val * 4 + h.val) * 128 + d.val
  omega

theorem sums_apply (h : Fin 4) (i : Fin 8192) : (sums a b (ix2 h i) : EReal) = dot a b h i := by
  have e : (sums a b (ix2 h i) : EReal) = ∑ d : Fin 128, (prods a b (ix3 i h d) : EReal) := by
    pointwise [sums]
  rw [e]
  simp only [prods_apply]
  rfl

theorem dots_apply (h : Fin 4) (i : Fin 8192) (u : Fin 1) : (dots a b (ix3 h i u) : EReal) = dot a b h i := by
  unfold dots
  refine (shapeCast_apply _ _ _ (ix2 h i) ?_).trans (sums_apply a b h i)
  rw [Shape.rowMajor_val_three, Shape.rowMajor_val_two]
  show h.val * 8192 + i.val = (h.val * 8192 + i.val) * 1 + u.val
  omega

end Cert.RowDotRefIdeal.Prod

namespace Cert.RowDotIdeal.Prod

open Idealize.ShloMosaic Idealize.ShloMosaic.TcCoe Idealize.SL.Sem
open Cert.RowDotIdeal Cert.RowDotIdeal.Gen
open Cert.RowDotRefIdeal.Prod (dots dot dots_apply)
open scoped BigOperators

/-- What a point leaves in its block: a head's row sums in each of its four slabs. -/
theorem out2_apply (x y : Vec Ideal S512x512 .bf16) (h : Fin 4) (r : Fin 512) (u : Fin 1) : (out0_2 x y (ix3 h r u) : EReal) =
    ∑ d : Fin 128, (x (ix2 r (⟨h.val * 128 + d.val, by omega⟩ : Fin 512)) : EReal) * y (ix2 r (⟨h.val * 128 + d.val, by omega⟩ : Fin 512)) := by
  unfold out0_2
  rw [Value.canon2_eq]
  simp only [View.ld_unit_zero (S := S512x512) Mm.hz]
  have e : Value.ix2_0 (ix3 h r u) = ix1 r := funext fun a => match a with | ⟨0, _⟩ => rfl
  show (Value.Fam2_0 x y h (Value.ix2_0 (ix3 h r u)) : EReal) = _
  rw [e]
  match h with
  | ⟨0, _⟩ => pointwise [Value.Fam2_0]
  | ⟨1, _⟩ => pointwise [Value.Fam2_0]
  | ⟨2, _⟩ => pointwise [Value.Fam2_0]
  | ⟨3, _⟩ => pointwise [Value.Fam2_0]

variable (m : (ℓ : Loc nD τ sig) → Buf (Elt Ideal) ℓ) (c : Dev nD)

theorem at0 : ∀ t : Fin cfg0.N, win0_0.index t = ![t.val, 0] ∧ win0_1.index t = ![t.val, 0] ∧ win0_2.index t = ![0, t.val, 0] :=
  (by decide +kernel : ∀ t : Fin grid0.N, _)

/-- The arguments. -/
abbrev a : FVec Ideal S8192x512 .bf16 := m ((c.tc : Thread nD τ).loc main_arg0)
abbrev b : FVec Ideal S8192x512 .bf16 := m ((c.tc : Thread nD τ).loc main_arg1)

/-- The blocks a point reads. -/
abbrev ba (t : Fin cfg0.N) : Vec Ideal S512x512 .bf16 := iblk m c 0 t
abbrev bb (t : Fin cfg0.N) : Vec Ideal S512x512 .bf16 := iblk m c 1 t

theorem ba_apply (t : Fin cfg0.N) (r : Fin 512) (n : Fin 512) (i : Fin 8192) (hi : i.val = 512 * t.val + r.val) : ba m c t (ix2 r n) = a m c (ix2 i n) := by
  unfold ba iblk
  rw [View.read_apply]
  refine (congrFun (V_main_arg0 m c) _).trans (congrArg (a m c) (funext fun a => Fin.ext ?_))
  match a with
  | ⟨0, _⟩ => show win0_0.index t 0 * 512 + 1 * r.val = i.val; rw [(at0 t).1, hi]; show t.val * 512 + 1 * r.val = _; omega
  | ⟨1, _⟩ => show win0_0.index t 1 * 512 + 1 * n.val = n.val; rw [(at0 t).1]; show 0 * 512 + 1 * n.val = _; omega

theorem bb_apply (t : Fin cfg0.N) (r : Fin 512) (n : Fin 512) (i : Fin 8192) (hi : i.val = 512 * t.val + r.val) : bb m c t (ix2 r n) = b m c (ix2 i n) := by
  unfold bb iblk
  rw [View.read_apply]
  refine (congrFun (V_main_arg1 m c) _).trans (congrArg (b m c) (funext fun a => Fin.ext ?_))
  match a with
  | ⟨0, _⟩ => show win0_1.index t 0 * 512 + 1 * r.val = i.val; rw [(at0 t).2.1, hi]; show t.val * 512 + 1 * r.val = _; omega
  | ⟨1, _⟩ => show win0_1.index t 1 * 512 + 1 * n.val = n.val; rw [(at0 t).2.1]; show 0 * 512 + 1 * n.val = _; omega

/-- What a point writes back is its block of the reference's result, -/
theorem flushed_dots (t : Fin cfg0.N) : (dats m 0 c).flushed 2 t = ((cfg0.win 2).blk t).view.read (Elt Ideal) (dots (a m c) (b m c)) := by
  have hN : t.val < 16 := lt_of_lt_of_eq t.isLt N_0
  rw [Value.flushed2]
  funext y
  obtain ⟨h, r, u, rfl⟩ := Mm.at3 (a := 4) (b := 512) (e := 1) y
  have he : ((cfg0.win 2).blk t).view.emb (ix3 h r u) = (ix3 h (⟨512 * t.val + r.val, by omega⟩ : Fin 8192) u) := by
    funext a
    apply Fin.ext
    match a with
    | ⟨0, _⟩ => show win0_2.index t 0 * 4 + 1 * h.val = _; rw [(at0 t).2.2]; show 0 * 4 + 1 * h.val = h.val; omega
    | ⟨1, _⟩ => show win0_2.index t 1 * 512 + 1 * r.val = _; rw [(at0 t).2.2]; show t.val * 512 + 1 * r.val = 512 * t.val + r.val; omega
    | ⟨2, _⟩ => show win0_2.index t 2 * 1 + 1 * u.val = _; rw [(at0 t).2.2]; show 0 * 1 + 1 * u.val = u.val; omega
  show out0_2 (ba m c t) (bb m c t) (ix3 h r u) = dots (a m c) (b m c) (((cfg0.win 2).blk t).view.emb (ix3 h r u))
  rw [he]
  refine (out2_apply _ _ h r u).trans (Eq.trans ?_ (dots_apply _ _ h _ u).symm)
  simp only [fun n => ba_apply m c t r n ⟨512 * t.val + r.val, by omega⟩ rfl, fun n => bb_apply m c t r n ⟨512 * t.val + r.val, by omega⟩ rfl]
  rfl

/-- and the points between them write every entry. -/
theorem covered_dots (i : S4x8192x1.Idx) : ∃ t : Fin cfg0.N, (cfg0.win 2).flush t = true ∧ i ∈ ((cfg0.win 2).blk t).view.set := by
  obtain ⟨h, q, u, rfl⟩ := Mm.at3 i
  refine ⟨⟨q.val / 512, lt_of_lt_of_eq (by omega) N_0.symm⟩, flush0_2 _, ?_⟩
  show _ ∈ ((View.whole main_v0).slice (win0_2.rect _)).set
  rw [View.set_slice_whole, Rect.mem_set_unit]
  intro a
  match a with
  | ⟨0, _⟩ => show win0_2.index _ 0 * 4 ≤ h.val ∧ h.val < win0_2.index _ 0 * 4 + 4; rw [(at0 _).2.2]; dsimp only [Matrix.cons_val]; omega
  | ⟨1, _⟩ => show win0_2.index _ 1 * 512 ≤ q.val ∧ q.val < win0_2.index _ 1 * 512 + 512; rw [(at0 _).2.2]; dsimp only [Matrix.cons_val]; omega
  | ⟨2, _⟩ => show win0_2.index _ 2 * 1 ≤ u.val ∧ u.val < win0_2.index _ 2 * 1 + 1; rw [(at0 _).2.2]; dsimp only [Matrix.cons_val]; omega

/-- The result array after the run is the reference's. -/
theorem value : Cert.algebraic_RowDotIdeal_RowDotRefIdeal := fun m g m' g' _ ha =>
  ⟨fun c => (dats m 0 c).arrAt 2 cfg0.N, Value.run_blocks m g, (θ_run Cert.RowDotRefIdeal.defs _ _).mono (fun r h c => ⟨(h c).1.trans (by
    obtain ⟨a0, a1⟩ := ha c
    rw [a0, a1]
    exact ((dats m 0 c).arrAt_eq_of_cover 2 _ (fun t _ => flushed_dots m c t) covered_dots).symm), (h c).2⟩) (Cert.RowDotRefIdeal.Value.run m' g')⟩

end Cert.RowDotIdeal.Prod

end
-- ==== Proof.MergeFwdValue.lean ====
/-
  The branches' projections and their gated sum: what the call leaves in its two results.
-/
module

public import proofs.«01_k».proof.Proof.Gen.MergeFwdIdeal.Value
public import proofs.«01_k».proof.Proof.Gen.MergeFwdRefIdeal.Run
public import proofs.«01_k».proof.Proof.Mm
public import proofs.«01_k».proof.Defs

@[expose] public section

set_option maxRecDepth 16384

noncomputable section

namespace Cert.MergeFwdRefIdeal.Prod

open Idealize.ShloMosaic
open Cert.MergeFwdRefIdeal Cert.MergeFwdRefIdeal.Gen
open scoped BigOperators

/-- The branches' projections, of the reference's arguments, -/
def proj (o : FVec Ideal S4x8192x512 .bf16) (w : FVec Ideal S4x512x2048 .bf16) : FVec Ideal S8192x4x2048 .f32 :=
  transpose S8192x4x2048 [2, 0, 1] (Host.dotGeneral dot_S4x512x2048_S4x8192x512_S4x2048x8192_1_2_2_1_0_0 none
    (extf .f32 w bitsLt_bf16_f32) (extf .f32 o bitsLt_bf16_f32)) transposes_S4x2048x8192_S8192x4x2048_2_0_1

/-- and the two results made of them. -/
def merged (o : FVec Ideal S4x8192x512 .bf16) (w : FVec Ideal S4x512x2048 .bf16) (g : FVec Ideal S8192x8192 .bf16) : FVec Ideal S8192x2048 .bf16 :=
  truncf .bf16 (Host.reduceAdd (mulf (shapeCast _ (extf .f32 g bitsLt_bf16_f32) shapeCasts_S8192x8192_S8192x4x2048) (proj o w))
    (constant S_ .f32 0x00000000#32) reducesTo_S8192x4x2048_S8192x2048_d1 h_S_) bitsLt_bf16_f32
def pb (o : FVec Ideal S4x8192x512 .bf16) (w : FVec Ideal S4x512x2048 .bf16) : FVec Ideal S8192x8192 .bf16 :=
  truncf .bf16 (shapeCast _ (proj o w) shapeCasts_S8192x4x2048_S8192x8192) bitsLt_bf16_f32

theorem proj_apply (o : FVec Ideal S4x8192x512 .bf16) (w : FVec Ideal S4x512x2048 .bf16) (i : Fin 8192) (b : Fin 4) (j : Fin 2048) :
    (proj o w (ix3 i b j) : EReal) = ∑ k : Fin 512, (w (ix3 b k j) : EReal) * o (ix3 b i k) := by
  pointwise [proj]

theorem merged_apply (o : FVec Ideal S4x8192x512 .bf16) (w : FVec Ideal S4x512x2048 .bf16) (g : FVec Ideal S8192x8192 .bf16) (i : Fin 8192) (j : Fin 2048) :
    (merged o w g (ix2 i j) : EReal) = ∑ b : Fin 4, (g (ix2 i ⟨b.val * 2048 + j.val, by omega⟩) : EReal) * proj o w (ix3 i b j) := by
  pointwise [merged]

theorem pb_apply (o : FVec Ideal S4x8192x512 .bf16) (w : FVec Ideal S4x512x2048 .bf16) (i j : Fin 8192) :
    (pb o w (ix2 i j) : EReal) = proj o w (ix3 i (⟨j.val / 2048, by omega⟩ : Fin 4) (⟨j.val % 2048, by omega⟩ : Fin 2048)) := by
  pointwise [pb]

end Cert.MergeFwdRefIdeal.Prod

namespace Cert.MergeFwdIdeal.Prod

open Idealize.ShloMosaic Idealize.ShloMosaic.TcCoe Idealize.SL.Sem
open Cert.MergeFwdIdeal Cert.MergeFwdIdeal.Gen
open scoped BigOperators

section cases

variable {F : FTy → Type} [FloatOps F]
variable (c : Dev nD) (i : grid0.Coords)
  (a3 : Memref sig .tc .vmem S1x1024x512 .bf16) (h3 : a3.IsWhole) (a4 : Memref sig .tc .vmem S1x512x1024 .bf16) (h4 : a4.IsWhole)
  (a5 : Memref sig .tc .vmem S1024x1024 .bf16) (h5 : a5.IsWhole) (a6 : Memref sig .tc .vmem S1024x1024 .bf16) (h6 : a6.IsWhole)
  (a7 : Memref sig .tc .vmem S1024x1024 .bf16) (h7 : a7.IsWhole) (a8 : Memref sig .tc .vmem S1024x1024 .f32) (h8 : a8.IsWhole)
  (x : Vec F S1x1024x512 .bf16) (y : Vec F S1x512x1024 .bf16) (g : Vec F S1024x1024 .bf16) (s : Vec F S1024x1024 .f32)

/-- The first branch leaves its gated product in the accumulator, -/
theorem first (hc0 : cond0_0 i) (hc1 : ¬cond0_1 i) (hc2 : ¬cond0_2 i) :
    sout0_A_0 c i a3 h3 a4 h4 a5 h5 a6 h6 a7 h7 a8 h8 hc0 hc1 hc2 x y g = k0_pay3 x y g := by
  unfold sout0_A_0
  rw [View.read_writes_eq_canon _ _ _ (scover0_A_0 c i a3 h3 a4 h4 a5 h5 a6 h6 a7 h7 a8 h8 hc0 hc1 hc2 x y g)]
  unfold kernelRun0_A
  dsimp only
  sl_unfold_words
  rw [View.canon_unit_zero Mm.hz]
  unfold k0_pay4
  simp only [View.readAt_eq_ld, h3.read_unread, h4.read_unread, h5.read_unread, h8.read_unread, View.ld_unit_zero (S := S1x1024x512) Mm.hz3, View.ld_unit_zero (S := S1x512x1024) Mm.hz3, View.ld_unit_zero (S := S1024x1024) Mm.hz, shapeCast_self]

/-- a middle one adds its own to what was there, -/
theorem next (hc0 : ¬cond0_0 i) (hc1 : cond0_1 i) (hc2 : ¬cond0_2 i) :
    sout0_B_0 c i a3 h3 a4 h4 a5 h5 a6 h6 a7 h7 a8 h8 hc0 hc1 hc2 x y g s = addf s (k0_pay3 x y g) := by
  unfold sout0_B_0
  rw [View.read_writes_eq_canon _ _ _ (scover0_B_0 c i a3 h3 a4 h4 a5 h5 a6 h6 a7 h7 a8 h8 hc0 hc1 hc2 x y g s)]
  unfold kernelRun0_B
  dsimp only
  sl_unfold_words
  rw [View.canon_unit_zero Mm.hz]
  unfold k0_pay5
  simp only [View.readAt_eq_ld, h3.read_unread, h4.read_unread, h5.read_unread, h8.read_unread, View.ld_unit_zero (S := S1x1024x512) Mm.hz3, View.ld_unit_zero (S := S1x512x1024) Mm.hz3, View.ld_unit_zero (S := S1024x1024) Mm.hz, shapeCast_self]

/-- and the last too, and the sum is the result's block; -/
theorem last (hc0 : ¬cond0_0 i) (hc1 : cond0_1 i) (hc2 : cond0_2 i) :
    out0_C_3 c i a3 h3 a4 h4 a5 h5 a6 h6 a7 h7 a8 h8 hc0 hc1 hc2 x y g s = k0_pay6 (addf s (k0_pay3 x y g)) := by
  unfold out0_C_3
  rw [View.read_writes_eq_canon _ _ _ (cover0_C_3 c i a3 h3 a4 h4 a5 h5 a6 h6 a7 h7 a8 h8 hc0 hc1 hc2 x y g s)]
  unfold kernelRun0_C
  dsimp only
  sl_unfold_words
  rw [View.canon_unit_zero Mm.hz, View.readCov_unit_zero (S := S1024x1024) _ Mm.hz]
  unfold k0_pay5
  simp only [View.readAt_eq_ld, h3.read_unread, h4.read_unread, h5.read_unread, h8.read_unread, View.ld_unit_zero (S := S1x1024x512) Mm.hz3, View.ld_unit_zero (S := S1x512x1024) Mm.hz3, View.ld_unit_zero (S := S1024x1024) Mm.hz, shapeCast_self]

/-- each writes its product without the gate. -/
theorem firstPb (hc0 : cond0_0 i) (hc1 : ¬cond0_1 i) (hc2 : ¬cond0_2 i) :
    out0_A_4 c i a3 h3 a4 h4 a5 h5 a6 h6 a7 h7 a8 h8 hc0 hc1 hc2 x y g = k0_pay2 x y := by
  unfold out0_A_4
  rw [View.read_writes_eq_canon _ _ _ (cover0_A_4 c i a3 h3 a4 h4 a5 h5 a6 h6 a7 h7 a8 h8 hc0 hc1 hc2 x y g)]
  unfold kernelRun0_A
  dsimp only
  sl_unfold_words
  rw [View.canon_unit_zero Mm.hz]
  simp only [View.readAt_eq_ld, h3.read_unread, h4.read_unread, h5.read_unread, h8.read_unread, View.ld_unit_zero (S := S1x1024x512) Mm.hz3, View.ld_unit_zero (S := S1x512x1024) Mm.hz3, View.ld_unit_zero (S := S1024x1024) Mm.hz, shapeCast_self]

theorem nextPb (hc0 : ¬cond0_0 i) (hc1 : cond0_1 i) (hc2 : ¬cond0_2 i) :
    out0_B_4 c i a3 h3 a4 h4 a5 h5 a6 h6 a7 h7 a8 h8 hc0 hc1 hc2 x y g s = k0_pay2 x y := by
  unfold out0_B_4
  rw [View.read_writes_eq_canon _ _ _ (cover0_B_4 c i a3 h3 a4 h4 a5 h5 a6 h6 a7 h7 a8 h8 hc0 hc1 hc2 x y g s)]
  unfold kernelRun0_B
  dsimp only
  sl_unfold_words
  rw [View.canon_unit_zero Mm.hz]
  simp only [View.readAt_eq_ld, h3.read_unread, h4.read_unread, h5.read_unread, h8.read_unread, View.ld_unit_zero (S := S1x1024x512) Mm.hz3, View.ld_unit_zero (S := S1x512x1024) Mm.hz3, View.ld_unit_zero (S := S1024x1024) Mm.hz, shapeCast_self]

theorem lastPb (hc0 : ¬cond0_0 i) (hc1 : cond0_1 i) (hc2 : cond0_2 i) :
    out0_C_4 c i a3 h3 a4 h4 a5 h5 a6 h6 a7 h7 a8 h8 hc0 hc1 hc2 x y g s = k0_pay2 x y := by
  unfold out0_C_4
  rw [View.read_writes_eq_canon _ _ _ (cover0_C_4 c i a3 h3 a4 h4 a5 h5 a6 h6 a7 h7 a8 h8 hc0 hc1 hc2 x y g s)]
  unfold kernelRun0_C
  dsimp only
  sl_unfold_words
  rw [View.canon_unit_zero Mm.hz]
  simp only [View.readAt_eq_ld, h3.read_unread, h4.read_unread, h5.read_unread, h8.read_unread, View.ld_unit_zero (S := S1x1024x512) Mm.hz3, View.ld_unit_zero (S := S1x512x1024) Mm.hz3, View.ld_unit_zero (S := S1024x1024) Mm.hz, shapeCast_self]

end cases

variable (m : (ℓ : Loc nD τ sig) → Buf (Elt Ideal) ℓ) (c : Dev nD)

theorem pay1_apply (x : Vec Ideal S1x1024x512 .bf16) (y : Vec Ideal S1x512x1024 .bf16) (r n : Fin 1024) :
    (k0_pay1 x y (ix2 r n) : EReal) = ∑ k : Fin 512, (x (ix3 0 r k) : EReal) * y (ix3 0 k n) := by
  pointwise [k0_pay1]

theorem pay2_apply (x : Vec Ideal S1x1024x512 .bf16) (y : Vec Ideal S1x512x1024 .bf16) (r n : Fin 1024) : (k0_pay2 x y (ix2 r n) : EReal) = k0_pay1 x y (ix2 r n) := by
  pointwise [k0_pay2]

theorem pay3_apply (x : Vec Ideal S1x1024x512 .bf16) (y : Vec Ideal S1x512x1024 .bf16) (g : Vec Ideal S1024x1024 .bf16) (r n : Fin 1024) :
    (k0_pay3 x y g (ix2 r n) : EReal) = (g (ix2 r n) : EReal) * k0_pay1 x y (ix2 r n) := by
  pointwise [k0_pay3]

theorem pay6_apply (s : Vec Ideal S1024x1024 .f32) (r n : Fin 1024) : (k0_pay6 s (ix2 r n) : EReal) = s (ix2 r n) := by
  pointwise [k0_pay6]

theorem at0 : ∀ t : Fin cfg0.N, win0_0.index t = ![t.val % 4, t.val / 8, 0] ∧ win0_1.index t = ![t.val % 4, 0, t.val / 4 % 2] ∧ win0_2.index t = ![t.val / 8, 2 * (t.val % 4) + t.val / 4 % 2] ∧
    win0_3.index t = ![t.val / 8, t.val / 4 % 2] ∧ win0_4.index t = ![t.val / 8, 2 * (t.val % 4) + t.val / 4 % 2] :=
  (by decide +kernel : ∀ t : Fin grid0.N, _)

/-- The arguments. -/
abbrev o : FVec Ideal S4x8192x512 .bf16 := m ((c.tc : Thread nD τ).loc main_arg0)
abbrev w : FVec Ideal S4x512x2048 .bf16 := m ((c.tc : Thread nD τ).loc main_arg1)
abbrev gate : FVec Ideal S8192x8192 .bf16 := m ((c.tc : Thread nD τ).loc main_arg2)

theorem iblk0_apply (t : Fin cfg0.N) (r : Fin 1024) (k : Fin 512) (b : Fin 4) (i : Fin 8192) (hb : b.val = t.val % 4) (hi : i.val = 1024 * (t.val / 8) + r.val) :
    (iblk m c 0 t : Vec Ideal S1x1024x512 .bf16) (ix3 0 r k) = o m c (ix3 b i k) := by
  unfold iblk
  rw [View.read_apply]
  refine congrArg (o m c) (funext fun a => Fin.ext ?_)
  match a with
  | ⟨0, _⟩ => show win0_0.index t 0 * 1 + 1 * 0 = b.val; rw [(at0 t).1, hb]; show t.val % 4 * 1 + 1 * 0 = _; omega
  | ⟨1, _⟩ => show win0_0.index t 1 * 1024 + 1 * r.val = i.val; rw [(at0 t).1, hi]; show t.val / 8 * 1024 + 1 * r.val = _; omega
  | ⟨2, _⟩ => show win0_0.index t 2 * 512 + 1 * k.val = k.val; rw [(at0 t).1]; show 0 * 512 + 1 * k.val = _; omega

theorem iblk1_apply (t : Fin cfg0.N) (k : Fin 512) (n : Fin 1024) (b : Fin 4) (j : Fin 2048) (hb : b.val = t.val % 4) (hj : j.val = 1024 * (t.val / 4 % 2) + n.val) :
    (iblk m c 1 t : Vec Ideal S1x512x1024 .bf16) (ix3 0 k n) = w m c (ix3 b k j) := by
  unfold iblk
  rw [View.read_apply]
  refine congrArg (w m c) (funext fun a => Fin.ext ?_)
  match a with
  | ⟨0, _⟩ => show win0_1.index t 0 * 1 + 1 * 0 = b.val; rw [(at0 t).2.1, hb]; show t.val % 4 * 1 + 1 * 0 = _; omega
  | ⟨1, _⟩ => show win0_1.index t 1 * 512 + 1 * k.val = k.val; rw [(at0 t).2.1]; show 0 * 512 + 1 * k.val = _; omega
  | ⟨2, _⟩ => show win0_1.index t 2 * 1024 + 1 * n.val = j.val; rw [(at0 t).2.1, hj]; show t.val / 4 % 2 * 1024 + 1 * n.val = _; omega

theorem iblk2_apply (t : Fin cfg0.N) (r n : Fin 1024) (i j : Fin 8192) (hi : i.val = 1024 * (t.val / 8) + r.val) (hj : j.val = t.val % 4 * 2048 + (1024 * (t.val / 4 % 2) + n.val)) :
    (iblk m c 2 t : Vec Ideal S1024x1024 .bf16) (ix2 r n) = gate m c (ix2 i j) := by
  unfold iblk
  rw [View.read_apply]
  refine congrArg (gate m c) (funext fun a => Fin.ext ?_)
  match a with
  | ⟨0, _⟩ => show win0_2.index t 0 * 1024 + 1 * r.val = i.val; rw [(at0 t).2.2.1, hi]; show t.val / 8 * 1024 + 1 * r.val = _; omega
  | ⟨1, _⟩ => show win0_2.index t 1 * 1024 + 1 * n.val = j.val; rw [(at0 t).2.2.1, hj]; show (2 * (t.val % 4) + t.val / 4 % 2) * 1024 + 1 * n.val = _; omega

/-- A point's block of its branch's projection, -/
theorem pay1_eq (t : Fin cfg0.N) (r n : Fin 1024) (i : Fin 8192) (b : Fin 4) (j : Fin 2048) (hi : i.val = 1024 * (t.val / 8) + r.val) (hb : b.val = t.val % 4) (hj : j.val = 1024 * (t.val / 4 % 2) + n.val) :
    (k0_pay1 (iblk m c 0 t : Vec Ideal S1x1024x512 .bf16) (iblk m c 1 t : Vec Ideal S1x512x1024 .bf16) (ix2 r n) : EReal) = Cert.MergeFwdRefIdeal.Prod.proj (o m c) (w m c) (ix3 i b j) := by
  rw [pay1_apply, Cert.MergeFwdRefIdeal.Prod.proj_apply]
  refine Finset.sum_congr (M := EReal) rfl fun k _ => ?_
  rw [iblk0_apply m c t r k b i hb hi, iblk1_apply m c t k n b j hb hj]
  exact EReal.mul_comm _ _

/-- and what a branch adds to an entry of the sum. -/
def terms (i : Fin 8192) (j : Fin 2048) (b : Fin 4) : EReal := (gate m c (ix2 i ⟨b.val * 2048 + j.val, by omega⟩) : EReal) * Cert.MergeFwdRefIdeal.Prod.proj (o m c) (w m c) (ix3 i b j)

theorem part_apply (t : Fin cfg0.N) (r n : Fin 1024) (i : Fin 8192) (j : Fin 2048) (hi : i.val = 1024 * (t.val / 8) + r.val) (hj : j.val = 1024 * (t.val / 4 % 2) + n.val) :
    (k0_pay3 (iblk m c 0 t : Vec Ideal S1x1024x512 .bf16) (iblk m c 1 t : Vec Ideal S1x512x1024 .bf16) (iblk m c 2 t : Vec Ideal S1024x1024 .bf16) (ix2 r n) : EReal) = Mm.part (terms m c i j) 1 (t.val % 4) := by
  refine Eq.trans ?_ (Mm.part_eq (terms m c i j) (fun _ : Fin 1 => terms m c i j ⟨t.val % 4, by omega⟩) (by omega) fun k => congrArg (terms m c i j) (Fin.ext (by show t.val % 4 = 1 * (t.val % 4) + k.val; omega)))
  rw [Fin.sum_univ_one, pay3_apply, pay1_eq m c t r n i ⟨t.val % 4, by omega⟩ j hi rfl hj, iblk2_apply m c t r n i ⟨t.val % 4 * 2048 + j.val, by omega⟩ hi (by dsimp only; omega)]
  rfl

/-- The block a last branch writes is the sum. -/
theorem block (t : Fin cfg0.N) (ht : t.val % 4 = 3) (r n : Fin 1024) (i : Fin 8192) (j : Fin 2048) (hi : i.val = 1024 * (t.val / 8) + r.val) (hj : j.val = 1024 * (t.val / 4 % 2) + n.val) :
    ((outsAt0 m c t.val t.isLt).1 (ix2 r n) : EReal) = ∑ b : Fin 4, terms m c i j b := by
  refine Mm.out_eq (terms m c i j) (N := cfg0.N) (B := 1) (K := 4) rfl (by omega) (fun n' h => (outsAt0 m c n' h).2.2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last, pay6_apply]
    exact congrArg _ (part_apply m c ⟨p + 1, h⟩ r n i j (by dsimp only; omega) (by dsimp only; omega))

theorem outsPb (t : Fin cfg0.N) : (outsAt0 m c t.val t.isLt).2.1 = k0_pay2 (iblk m c 0 t : Vec Ideal S1x1024x512 .bf16) (iblk m c 1 t : Vec Ideal S1x512x1024 .bf16) := by
  by_cases h0 : t.val % 4 = 0
  · rw [outsAt0_A m c t h0 (by omega) (by omega)]
    dsimp only
    rw [firstPb]
  by_cases h2 : t.val % 4 = 3
  · rw [outsAt0_C m c t h0 (by omega) h2]
    dsimp only
    rw [lastPb]
  · rw [outsAt0_B m c t h0 (by omega) h2]
    dsimp only
    rw [nextPb]

/-- What a point writes back is its block of the reference's results, -/
theorem flushed_merged (t : Fin cfg0.N) (hf : (cfg0.win 3).flush t = true) :
    (dats m 0 c).flushed 3 t = ((cfg0.win 3).blk t).view.read (Elt Ideal) (Cert.MergeFwdRefIdeal.Prod.merged (o m c) (w m c) (gate m c)) := by
  have ht : t.val % 4 = 3 := (flush0_3 t).mp hf
  have hN : t.val < 64 := lt_of_lt_of_eq t.isLt N_0
  rw [Value.flushed3]
  funext y
  obtain ⟨r, n, rfl⟩ := Mm.at2 (a := 1024) (b := 1024) y
  have he : ((cfg0.win 3).blk t).view.emb (ix2 r n) = (ix2 (⟨1024 * (t.val / 8) + r.val, by omega⟩ : Fin 8192) (⟨1024 * (t.val / 4 % 2) + n.val, by omega⟩ : Fin 2048)) := by
    funext a
    apply Fin.ext
    match a with
    | ⟨0, _⟩ => show win0_3.index t 0 * 1024 + 1 * r.val = _; rw [(at0 t).2.2.2.1]; show t.val / 8 * 1024 + 1 * r.val = 1024 * (t.val / 8) + r.val; omega
    | ⟨1, _⟩ => show win0_3.index t 1 * 1024 + 1 * n.val = _; rw [(at0 t).2.2.2.1]; show t.val / 4 % 2 * 1024 + 1 * n.val = 1024 * (t.val / 4 % 2) + n.val; omega
  show (outsAt0 m c t.val t.isLt).1 (ix2 r n) = Cert.MergeFwdRefIdeal.Prod.merged (o m c) (w m c) (gate m c) (((cfg0.win 3).blk t).view.emb (ix2 r n))
  rw [he, Cert.MergeFwdRefIdeal.Prod.merged_apply]
  exact block m c t ht r n _ _ rfl rfl

theorem flushed_pb (t : Fin cfg0.N) : (dats m 0 c).flushed 4 t = ((cfg0.win 4).blk t).view.read (Elt Ideal) (Cert.MergeFwdRefIdeal.Prod.pb (o m c) (w m c)) := by
  have hN : t.val < 64 := lt_of_lt_of_eq t.isLt N_0
  rw [Value.flushed4, outsPb]
  funext y
  obtain ⟨r, n, rfl⟩ := Mm.at2 (a := 1024) (b := 1024) y
  have he : ((cfg0.win 4).blk t).view.emb (ix2 r n) = (ix2 (⟨1024 * (t.val / 8) + r.val, by omega⟩ : Fin 8192) (⟨2048 * (t.val % 4) + (1024 * (t.val / 4 % 2) + n.val), by omega⟩ : Fin 8192)) := by
    funext a
    apply Fin.ext
    match a with
    | ⟨0, _⟩ => show win0_4.index t 0 * 1024 + 1 * r.val = _; rw [(at0 t).2.2.2.2]; show t.val / 8 * 1024 + 1 * r.val = 1024 * (t.val / 8) + r.val; omega
    | ⟨1, _⟩ => show win0_4.index t 1 * 1024 + 1 * n.val = _; rw [(at0 t).2.2.2.2]; show (2 * (t.val % 4) + t.val / 4 % 2) * 1024 + 1 * n.val = 2048 * (t.val % 4) + (1024 * (t.val / 4 % 2) + n.val); omega
  show k0_pay2 (iblk m c 0 t : Vec Ideal S1x1024x512 .bf16) (iblk m c 1 t : Vec Ideal S1x512x1024 .bf16) (ix2 r n) = Cert.MergeFwdRefIdeal.Prod.pb (o m c) (w m c) (((cfg0.win 4).blk t).view.emb (ix2 r n))
  rw [he, Cert.MergeFwdRefIdeal.Prod.pb_apply, pay2_apply, pay1_eq m c t r n ⟨1024 * (t.val / 8) + r.val, by omega⟩ ⟨t.val % 4, by omega⟩ ⟨1024 * (t.val / 4 % 2) + n.val, by omega⟩ rfl rfl rfl]
  refine congrArg (Cert.MergeFwdRefIdeal.Prod.proj (o m c) (w m c)) (funext fun a => Fin.ext ?_)
  match a with
  | ⟨0, _⟩ => rfl
  | ⟨1, _⟩ => show t.val % 4 = (2048 * (t.val % 4) + (1024 * (t.val / 4 % 2) + n.val)) / 2048; omega
  | ⟨2, _⟩ => show 1024 * (t.val / 4 % 2) + n.val = (2048 * (t.val % 4) + (1024 * (t.val / 4 % 2) + n.val)) % 2048; omega

/-- and the points between them write every entry of each. -/
theorem covered_merged (i : S8192x2048.Idx) : ∃ t : Fin cfg0.N, (cfg0.win 3).flush t = true ∧ i ∈ ((cfg0.win 3).blk t).view.set := by
  obtain ⟨p, q, rfl⟩ := Mm.at2 i
  refine ⟨⟨8 * (p.val / 1024) + 4 * (q.val / 1024) + 3, lt_of_lt_of_eq (by omega) N_0.symm⟩, (flush0_3 _).mpr (by dsimp only; omega), ?_⟩
  show _ ∈ ((View.whole main_v0_0).slice (win0_3.rect _)).set
  rw [View.set_slice_whole, Rect.mem_set_unit]
  intro a
  match a with
  | ⟨0, _⟩ => show win0_3.index _ 0 * 1024 ≤ p.val ∧ p.val < win0_3.index _ 0 * 1024 + 1024; rw [(at0 _).2.2.2.1]; dsimp only [Matrix.cons_val]; omega
  | ⟨1, _⟩ => show win0_3.index _ 1 * 1024 ≤ q.val ∧ q.val < win0_3.index _ 1 * 1024 + 1024; rw [(at0 _).2.2.2.1]; dsimp only [Matrix.cons_val]; omega

theorem covered_pb (i : S8192x8192.Idx) : ∃ t : Fin cfg0.N, (cfg0.win 4).flush t = true ∧ i ∈ ((cfg0.win 4).blk t).view.set := by
  obtain ⟨p, q, rfl⟩ := Mm.at2 i
  have hb : (8 * (p.val / 1024) + 4 * (q.val / 1024 % 2) + q.val / 2048) % 4 = q.val / 2048 := by omega
  have hj : (8 * (p.val / 1024) + 4 * (q.val / 1024 % 2) + q.val / 2048) / 4 % 2 = q.val / 1024 % 2 := by omega
  refine ⟨⟨8 * (p.val / 1024) + 4 * (q.val / 1024 % 2) + q.val / 2048, lt_of_lt_of_eq (by omega) N_0.symm⟩, flush0_4 _, ?_⟩
  show _ ∈ ((View.whole main_v0_1).slice (win0_4.rect _)).set
  rw [View.set_slice_whole, Rect.mem_set_unit]
  intro a
  match a with
  | ⟨0, _⟩ => show win0_4.index _ 0 * 1024 ≤ p.val ∧ p.val < win0_4.index _ 0 * 1024 + 1024; rw [(at0 _).2.2.2.2]; dsimp only [Matrix.cons_val]; omega
  | ⟨1, _⟩ => show win0_4.index _ 1 * 1024 ≤ q.val ∧ q.val < win0_4.index _ 1 * 1024 + 1024; rw [(at0 _).2.2.2.2]; dsimp only [Matrix.cons_val]; rw [hb, hj]; omega

/-- The result arrays after the run. -/
theorem merged_eq : (dats m 0 c).arrAt 3 cfg0.N = Cert.MergeFwdRefIdeal.Prod.merged (o m c) (w m c) (gate m c) :=
  (dats m 0 c).arrAt_eq_of_cover 3 _ (fun t hf => flushed_merged m c t hf) covered_merged

theorem pb_eq : (dats m 0 c).arrAt 4 cfg0.N = Cert.MergeFwdRefIdeal.Prod.pb (o m c) (w m c) :=
  (dats m 0 c).arrAt_eq_of_cover 4 _ (fun t _ => flushed_pb m c t) covered_pb

theorem value : Cert.algebraic_MergeFwdIdeal_MergeFwdRefIdeal := fun m g m' g' _ ha =>
  ⟨fun c => (dats m 0 c).arrAt 3 cfg0.N, fun c => (dats m 0 c).arrAt 4 cfg0.N, Value.run_blocks m g, (θ_run Cert.MergeFwdRefIdeal.defs _ _).mono (fun r h c => ⟨(h c).1.trans (by
    obtain ⟨a0, a1, a2⟩ := ha c
    rw [a0, a1, a2]
    exact (merged_eq m c).symm), (h c).2.1.trans (by
    obtain ⟨a0, a1, a2⟩ := ha c
    rw [a0, a1]
    exact (pb_eq m c).symm), (h c).2.2⟩) (Cert.MergeFwdRefIdeal.Value.run m' g')⟩

end Cert.MergeFwdIdeal.Prod

end
-- ==== Proof.MergeBwdValue.lean ====
/-
  The backward pass of the branches' gated sum: what the call leaves in its three results.
-/
module

public import proofs.«01_k».proof.Proof.Gen.MergeBwdIdeal.Value
public import proofs.«01_k».proof.Proof.Gen.MergeBwdRefIdeal.Run
public import proofs.«01_k».proof.Proof.Mm
public import proofs.«01_k».proof.Defs

@[expose] public section

set_option maxRecDepth 16384

noncomputable section

namespace Cert.MergeBwdRefIdeal.Prod

open Idealize.ShloMosaic
open Cert.MergeBwdRefIdeal Cert.MergeBwdRefIdeal.Gen
open scoped BigOperators

/-- The gates, of the reference's arguments, -/
def gate (z : FVec Ideal S8192x8192 .f32) : FVec Ideal S8192x4x2048 .f32 :=
  Host.divf (broadcastInDim S8192x4x2048 ![] bcast_S_S8192x4x2048 (constant S_ .f32 0x3F800000#32)) (addf (broadcastInDim S8192x4x2048 ![] bcast_S_S8192x4x2048 (constant S_ .f32 0x3F800000#32))
    (Host.exp (Host.negf (addf (shapeCast _ z shapeCasts_S8192x8192_S8192x4x2048) (broadcastInDim S8192x4x2048 ![0, 1, 2] bcast_S1x4x2048_S8192x4x2048_0_1_2
      (broadcastInDim S1x4x2048 ![1, 2] bcast_S4x2048_S1x4x2048_1_2 (broadcastInDim S4x2048 ![] bcast_S_S4x2048 (constant S_ .f32 0x00000000#32))))))))

/-- the gradient by what they are made of, -/
def dz (d : FVec Ideal S8192x2048 .f32) (z : FVec Ideal S8192x8192 .f32) (p : FVec Ideal S8192x8192 .bf16) : FVec Ideal S8192x4x2048 .f32 :=
  mulf (mulf (broadcastInDim S8192x4x2048 ![0, 2] bcast_S8192x2048_S8192x4x2048_0_2 d) (shapeCast _ (extf .f32 p bitsLt_bf16_f32) shapeCasts_S8192x8192_S8192x4x2048))
    (mulf (gate z) (subf (broadcastInDim S8192x4x2048 ![] bcast_S_S8192x4x2048 (constant S_ .f32 0x3F800000#32)) (gate z)))

/-- and the three results. -/
def dp (d : FVec Ideal S8192x2048 .f32) (z : FVec Ideal S8192x8192 .f32) : FVec Ideal S4x8192x2048 .bf16 :=
  truncf .bf16 (transpose S4x8192x2048 [1, 0, 2] (mulf (gate z) (broadcastInDim S8192x4x2048 ![0, 2] bcast_S8192x2048_S8192x4x2048_0_2 d)) transposes_S8192x4x2048_S4x8192x2048_1_0_2) bitsLt_bf16_f32
def dzg (d : FVec Ideal S8192x2048 .f32) (z : FVec Ideal S8192x8192 .f32) (p : FVec Ideal S8192x8192 .bf16) : FVec Ideal S8192x8192 .bf16 :=
  truncf .bf16 (shapeCast _ (dz d z p) shapeCasts_S8192x4x2048_S8192x8192) bitsLt_bf16_f32
def dbg (d : FVec Ideal S8192x2048 .f32) (z : FVec Ideal S8192x8192 .f32) (p : FVec Ideal S8192x8192 .bf16) : FVec Ideal S1x8192 .f32 :=
  shapeCast _ (Host.reduceAdd (shapeCast _ (Host.reduceAdd (dz d z p) (constant S_ .f32 0x00000000#32) reducesTo_S8192x4x2048_S4x2048_d0 h_S_) shapeCasts_S4x2048_S1x4x2048)
    (constant S_ .f32 0x00000000#32) reducesTo_S1x4x2048_S4x2048_d0 h_S_) shapeCasts_S4x2048_S1x8192

theorem gate_apply (z : FVec Ideal S8192x8192 .f32) (i : Fin 8192) (b : Fin 4) (j : Fin 2048) :
    (gate z (ix3 i b j) : EReal) = Mm.logistic (z (ix2 i ⟨b.val * 2048 + j.val, by omega⟩)) := by
  pointwise [gate, Mm.logistic]

/-- The gradient at one entry, of the result's gradient, the branch and the gate. -/
def entry (d p g : EReal) : EReal := d * p * (g * (1 - g))

theorem dz_apply (d : FVec Ideal S8192x2048 .f32) (z : FVec Ideal S8192x8192 .f32) (p : FVec Ideal S8192x8192 .bf16) (i : Fin 8192) (b : Fin 4) (j : Fin 2048) :
    (dz d z p (ix3 i b j) : EReal) = entry (d (ix2 i j)) (p (ix2 i ⟨b.val * 2048 + j.val, by omega⟩)) (gate z (ix3 i b j)) := by
  pointwise [dz, entry]

theorem dp_apply (d : FVec Ideal S8192x2048 .f32) (z : FVec Ideal S8192x8192 .f32) (b : Fin 4) (i : Fin 8192) (j : Fin 2048) :
    (dp d z (ix3 b i j) : EReal) = gate z (ix3 i b j) * d (ix2 i j) := by
  pointwise [dp]

theorem dzg_apply (d : FVec Ideal S8192x2048 .f32) (z : FVec Ideal S8192x8192 .f32) (p : FVec Ideal S8192x8192 .bf16) (i j : Fin 8192) :
    (dzg d z p (ix2 i j) : EReal) = dz d z p (ix3 i (⟨j.val / 2048, by omega⟩ : Fin 4) (⟨j.val % 2048, by omega⟩ : Fin 2048)) := by
  pointwise [dzg]

theorem dbg_apply (d : FVec Ideal S8192x2048 .f32) (z : FVec Ideal S8192x8192 .f32) (p : FVec Ideal S8192x8192 .bf16) (u : Fin 1) (j : Fin 8192) :
    (dbg d z p (ix2 u j) : EReal) = ∑ i : Fin 8192, (dz d z p (ix3 i (⟨j.val / 2048, by omega⟩ : Fin 4) (⟨j.val % 2048, by omega⟩ : Fin 2048)) : EReal) := by
  pointwise [dbg]
  exact Fin.sum_univ_one _

end Cert.MergeBwdRefIdeal.Prod

namespace Cert.MergeBwdIdeal.Prod

open Idealize.ShloMosaic Idealize.ShloMosaic.TcCoe Idealize.SL.Sem
open Cert.MergeBwdIdeal Cert.MergeBwdIdeal.Gen
open scoped BigOperators

section cases

variable {F : FTy → Type} [FloatOps F]
variable (c : Dev nD) (i : grid0.Coords)
  (a2 : Memref sig .tc .vmem S256x2048 .f32) (h2 : a2.IsWhole) (a3 : Memref sig .tc .vmem S256x2048 .bf16) (h3 : a3.IsWhole)
  (a4 : Memref sig .tc .vmem S256x2048 .bf16) (h4 : a4.IsWhole) (a5 : Memref sig .tc .vmem S1x256x2048 .bf16) (h5 : a5.IsWhole)
  (a6 : Memref sig .tc .vmem S256x2048 .bf16) (h6 : a6.IsWhole) (a7 : Memref sig .tc .vmem S1x2048 .f32) (h7 : a7.IsWhole)
  (d : Vec F S256x2048 .f32) (g p : Vec F S256x2048 .bf16) (s : Vec F S1x2048 .f32)

/-- The first point of a branch leaves the three blocks its rows give, -/
theorem first3 (hc0 : cond0_0 i) (hc1 : ¬cond0_1 i) :
    out0_A_3 c i a2 h2 a3 h3 a4 h4 a5 h5 a6 h6 a7 h7 hc0 hc1 d g p = k0_pay2 d g := by
  unfold out0_A_3
  rw [View.read_writes_eq_canon _ _ _ (cover0_A_3 c i a2 h2 a3 h3 a4 h4 a5 h5 a6 h6 a7 h7 hc0 hc1 d g p)]
  unfold kernelRun0_A
  dsimp only
  sl_unfold_words
  rw [View.canon_unit_zero Mm.hz3]
  simp only [View.readAt_eq_ld, h2.read_unread, h3.read_unread, h4.read_unread, View.ld_unit_zero (S := S256x2048) Mm.hz]

theorem first4 (hc0 : cond0_0 i) (hc1 : ¬cond0_1 i) :
    out0_A_4 c i a2 h2 a3 h3 a4 h4 a5 h5 a6 h6 a7 h7 hc0 hc1 d g p = k0_pay4 d g p := by
  unfold out0_A_4
  rw [View.read_writes_eq_canon _ _ _ (cover0_A_4 c i a2 h2 a3 h3 a4 h4 a5 h5 a6 h6 a7 h7 hc0 hc1 d g p)]
  unfold kernelRun0_A
  dsimp only
  sl_unfold_words
  rw [View.canon_unit_zero Mm.hz]
  simp only [View.readAt_eq_ld, h2.read_unread, h3.read_unread, h4.read_unread, View.ld_unit_zero (S := S256x2048) Mm.hz]

theorem first5 (hc0 : cond0_0 i) (hc1 : ¬cond0_1 i) :
    out0_A_5 c i a2 h2 a3 h3 a4 h4 a5 h5 a6 h6 a7 h7 hc0 hc1 d g p = k0_pay5 d g p := by
  unfold out0_A_5
  rw [View.read_writes_eq_canon _ _ _ (cover0_A_5 c i a2 h2 a3 h3 a4 h4 a5 h5 a6 h6 a7 h7 hc0 hc1 d g p)]
  unfold kernelRun0_A
  dsimp only
  sl_unfold_words
  rw [View.canon_unit_zero Mm.hz]
  simp only [View.readAt_eq_ld, h2.read_unread, h3.read_unread, h4.read_unread, View.ld_unit_zero (S := S256x2048) Mm.hz]

/-- and the others too, but that they add theirs to the bias gradient that was there. -/
theorem next3 (hc0 : ¬cond0_0 i) (hc1 : cond0_1 i) :
    out0_B_3 c i a2 h2 a3 h3 a4 h4 a5 h5 a6 h6 a7 h7 hc0 hc1 d g p s = k0_pay2 d g := by
  unfold out0_B_3
  rw [View.read_writes_eq_canon _ _ _ (cover0_B_3 c i a2 h2 a3 h3 a4 h4 a5 h5 a6 h6 a7 h7 hc0 hc1 d g p s)]
  unfold kernelRun0_B
  dsimp only
  sl_unfold_words
  rw [View.canon_unit_zero Mm.hz3]
  simp only [View.readAt_eq_ld, h2.read_unread, h3.read_unread, h4.read_unread, View.ld_unit_zero (S := S256x2048) Mm.hz]

theorem next4 (hc0 : ¬cond0_0 i) (hc1 : cond0_1 i) :
    out0_B_4 c i a2 h2 a3 h3 a4 h4 a5 h5 a6 h6 a7 h7 hc0 hc1 d g p s = k0_pay4 d g p := by
  unfold out0_B_4
  rw [View.read_writes_eq_canon _ _ _ (cover0_B_4 c i a2 h2 a3 h3 a4 h4 a5 h5 a6 h6 a7 h7 hc0 hc1 d g p s)]
  unfold kernelRun0_B
  dsimp only
  sl_unfold_words
  rw [View.canon_unit_zero Mm.hz]
  simp only [View.readAt_eq_ld, h2.read_unread, h3.read_unread, h4.read_unread, View.ld_unit_zero (S := S256x2048) Mm.hz]

theorem next5 (hc0 : ¬cond0_0 i) (hc1 : cond0_1 i) :
    out0_B_5 c i a2 h2 a3 h3 a4 h4 a5 h5 a6 h6 a7 h7 hc0 hc1 d g p s = addf s (k0_pay5 d g p) := by
  unfold out0_B_5
  rw [View.read_writes_eq_canon _ _ _ (cover0_B_5 c i a2 h2 a3 h3 a4 h4 a5 h5 a6 h6 a7 h7 hc0 hc1 d g p s)]
  unfold kernelRun0_B
  dsimp only
  sl_unfold_words
  rw [View.canon_unit_zero Mm.hz]
  unfold k0_pay6
  simp only [View.readAt_eq_ld, h2.read_unread, h3.read_unread, h4.read_unread, h7.read_unread, View.ld_unit_zero (S := S256x2048) Mm.hz, View.ld_unit_zero (S := S1x2048) Mm.hz, shapeCast_self]

end cases

variable (m : (ℓ : Loc nD τ sig) → Buf (Elt Ideal) ℓ) (c : Dev nD)

theorem pay2_apply (d : Vec Ideal S256x2048 .f32) (g : Vec Ideal S256x2048 .bf16) (u : Fin 1) (r : Fin 256) (n : Fin 2048) :
    (k0_pay2 d g (ix3 u r n) : EReal) = (d (ix2 r n) : EReal) * g (ix2 r n) := by
  pointwise [k0_pay2, k0_pay1]

theorem pay3_apply (d : Vec Ideal S256x2048 .f32) (g p : Vec Ideal S256x2048 .bf16) (r : Fin 256) (n : Fin 2048) :
    (k0_pay3 d g p (ix2 r n) : EReal) = (d (ix2 r n) : EReal) * p (ix2 r n) * g (ix2 r n) * (1 - g (ix2 r n)) := by
  pointwise [k0_pay3, k0_pay1]

theorem pay4_apply (d : Vec Ideal S256x2048 .f32) (g p : Vec Ideal S256x2048 .bf16) (r : Fin 256) (n : Fin 2048) :
    (k0_pay4 d g p (ix2 r n) : EReal) = k0_pay3 d g p (ix2 r n) := by
  pointwise [k0_pay4]

theorem pay5_apply (d : Vec Ideal S256x2048 .f32) (g p : Vec Ideal S256x2048 .bf16) (u : Fin 1) (n : Fin 2048) :
    (k0_pay5 d g p (ix2 u n) : EReal) = ∑ r : Fin 256, (k0_pay3 d g p (ix2 r n) : EReal) := by
  pointwise [k0_pay5]

theorem at0 : ∀ t : Fin cfg0.N, win0_0.index t = ![t.val % 32, 0] ∧ win0_1.index t = ![t.val % 32, t.val / 32] ∧ win0_2.index t = ![t.val % 32, t.val / 32] ∧
    win0_3.index t = ![t.val / 32, t.val % 32, 0] ∧ win0_4.index t = ![t.val % 32, t.val / 32] ∧ win0_5.index t = ![0, t.val / 32] :=
  (by decide +kernel : ∀ t : Fin grid0.N, _)

/-- The arguments. -/
abbrev d : FVec Ideal S8192x2048 .f32 := m ((c.tc : Thread nD τ).loc main_arg0)
abbrev z : FVec Ideal S8192x8192 .f32 := m ((c.tc : Thread nD τ).loc main_arg1)
abbrev p : FVec Ideal S8192x8192 .bf16 := m ((c.tc : Thread nD τ).loc main_arg2)

theorem iblk0_apply (t : Fin cfg0.N) (r : Fin 256) (n : Fin 2048) (i : Fin 8192) (hi : i.val = 256 * (t.val % 32) + r.val) :
    (iblk m c 0 t : Vec Ideal S256x2048 .f32) (ix2 r n) = d m c (ix2 i n) := by
  unfold iblk
  rw [View.read_apply]
  refine (congrFun (V_main_arg0 m c) _).trans (congrArg (d m c) (funext fun a => Fin.ext ?_))
  match a with
  | ⟨0, _⟩ => show win0_0.index t 0 * 256 + 1 * r.val = i.val; rw [(at0 t).1, hi]; show t.val % 32 * 256 + 1 * r.val = _; omega
  | ⟨1, _⟩ => show win0_0.index t 1 * 2048 + 1 * n.val = n.val; rw [(at0 t).1]; show 0 * 2048 + 1 * n.val = _; omega

theorem V_main_v6 : (V m c main_v6 : FVec Ideal S8192x8192 .bf16) = truncf .bf16 (Host.divf (broadcastInDim S8192x8192 ![] bcast_S_S8192x8192 (constant S_ .f32 0x3F800000#32))
    (addf (broadcastInDim S8192x8192 ![] bcast_S_S8192x8192 (constant S_ .f32 0x3F800000#32)) (Host.exp (Host.negf (z m c))))) bitsLt_bf16_f32 := by
  unfold V
  after_results <;> rfl

theorem iblk1_apply (t : Fin cfg0.N) (r : Fin 256) (n : Fin 2048) (i j : Fin 8192) (hi : i.val = 256 * (t.val % 32) + r.val) (hj : j.val = t.val / 32 * 2048 + n.val) :
    ((iblk m c 1 t : Vec Ideal S256x2048 .bf16) (ix2 r n) : EReal) = Mm.logistic (z m c (ix2 i j)) := by
  have h : (iblk m c 1 t : Vec Ideal S256x2048 .bf16) (ix2 r n) = (V m c main_v6 : FVec Ideal S8192x8192 .bf16) (ix2 i j) := by
    unfold iblk
    rw [View.read_apply]
    refine congrArg (V m c main_v6 : FVec Ideal S8192x8192 .bf16) (funext fun a => Fin.ext ?_)
    match a with
    | ⟨0, _⟩ => show win0_1.index t 0 * 256 + 1 * r.val = i.val; rw [(at0 t).2.1, hi]; show t.val % 32 * 256 + 1 * r.val = _; omega
    | ⟨1, _⟩ => show win0_1.index t 1 * 2048 + 1 * n.val = j.val; rw [(at0 t).2.1, hj]; show t.val / 32 * 2048 + 1 * n.val = _; omega
  rw [h, V_main_v6]
  pointwise [Mm.logistic]

theorem iblk2_apply (t : Fin cfg0.N) (r : Fin 256) (n : Fin 2048) (i j : Fin 8192) (hi : i.val = 256 * (t.val % 32) + r.val) (hj : j.val = t.val / 32 * 2048 + n.val) :
    (iblk m c 2 t : Vec Ideal S256x2048 .bf16) (ix2 r n) = p m c (ix2 i j) := by
  unfold iblk
  rw [View.read_apply]
  refine (congrFun (V_main_arg2 m c) _).trans (congrArg (p m c) (funext fun a => Fin.ext ?_))
  match a with
  | ⟨0, _⟩ => show win0_2.index t 0 * 256 + 1 * r.val = i.val; rw [(at0 t).2.2.1, hi]; show t.val % 32 * 256 + 1 * r.val = _; omega
  | ⟨1, _⟩ => show win0_2.index t 1 * 2048 + 1 * n.val = j.val; rw [(at0 t).2.2.1, hj]; show t.val / 32 * 2048 + 1 * n.val = _; omega

/-- The gradient's block of a point, -/
theorem pay3_eq (t : Fin cfg0.N) (r : Fin 256) (n : Fin 2048) (i : Fin 8192) (b : Fin 4) (hi : i.val = 256 * (t.val % 32) + r.val) (hb : b.val = t.val / 32) :
    (k0_pay3 (iblk m c 0 t : Vec Ideal S256x2048 .f32) (iblk m c 1 t : Vec Ideal S256x2048 .bf16) (iblk m c 2 t : Vec Ideal S256x2048 .bf16) (ix2 r n) : EReal) =
      Cert.MergeBwdRefIdeal.Prod.dz (d m c) (z m c) (p m c) (ix3 i b n) := by
  have hj : b.val * 2048 + n.val = t.val / 32 * 2048 + n.val := by omega
  rw [pay3_apply, Cert.MergeBwdRefIdeal.Prod.dz_apply, Cert.MergeBwdRefIdeal.Prod.gate_apply, Cert.MergeBwdRefIdeal.Prod.entry, iblk0_apply m c t r n i hi,
    iblk1_apply m c t r n i ⟨b.val * 2048 + n.val, by omega⟩ hi hj, iblk2_apply m c t r n i ⟨b.val * 2048 + n.val, by omega⟩ hi hj]
  exact mul_assoc (G := EReal) _ _ _

/-- what a point leaves in its blocks of the first two results, -/
theorem outs3 (t : Fin cfg0.N) : (outsAt0 m c t.val t.isLt).1 = k0_pay2 (iblk m c 0 t : Vec Ideal S256x2048 .f32) (iblk m c 1 t : Vec Ideal S256x2048 .bf16) := by
  by_cases h : t.val % 32 = 0
  · rw [outsAt0_A m c t h (by omega)]
    dsimp only
    rw [first3]
  · rw [outsAt0_B m c t h (by omega)]
    dsimp only
    rw [next3]

theorem outs4 (t : Fin cfg0.N) : (outsAt0 m c t.val t.isLt).2.1 =
    k0_pay4 (iblk m c 0 t : Vec Ideal S256x2048 .f32) (iblk m c 1 t : Vec Ideal S256x2048 .bf16) (iblk m c 2 t : Vec Ideal S256x2048 .bf16) := by
  by_cases h : t.val % 32 = 0
  · rw [outsAt0_A m c t h (by omega)]
    dsimp only
    rw [first4]
  · rw [outsAt0_B m c t h (by omega)]
    dsimp only
    rw [next4]

/-- and what a point adds to the bias gradient. -/
def terms (b : Fin 4) (n : Fin 2048) (i : Fin 8192) : EReal := Cert.MergeBwdRefIdeal.Prod.dz (d m c) (z m c) (p m c) (ix3 i b n)

theorem part_apply (t : Fin cfg0.N) (u : Fin 1) (n : Fin 2048) (b : Fin 4) (hb : b.val = t.val / 32) :
    (k0_pay5 (iblk m c 0 t : Vec Ideal S256x2048 .f32) (iblk m c 1 t : Vec Ideal S256x2048 .bf16) (iblk m c 2 t : Vec Ideal S256x2048 .bf16) (ix2 u n) : EReal) =
      Mm.part (terms m c b n) 256 (t.val % 32) := by
  rw [pay5_apply]
  refine Mm.part_eq _ _ (by omega) fun k => ?_
  exact pay3_eq m c t k n ⟨256 * (t.val % 32) + k.val, by omega⟩ b rfl hb

theorem block (t : Fin cfg0.N) (ht : t.val % 32 = 31) (u : Fin 1) (n : Fin 2048) (b : Fin 4) (hb : b.val = t.val / 32) :
    ((outsAt0 m c t.val t.isLt).2.2 (ix2 u n) : EReal) = ∑ i : Fin 8192, terms m c b n i := by
  refine Mm.out_eq (terms m c b n) (N := cfg0.N) (B := 256) (K := 32) rfl (by omega) (fun n' h => (outsAt0 m c n' h).2.2 (ix2 u n))
    (fun n' h => (outsAt0 m c n' h).2.2 (ix2 u n)) (t.val / 32) ?_ ?_ ?_ t.val t.isLt rfl (by omega)
  · intro q h hq h0
    rw [outsAt0_A m c ⟨q, h⟩ h0 (by dsimp only; omega)]
    dsimp only
    rw [first5]
    exact part_apply m c ⟨q, h⟩ u n b (by dsimp only; omega)
  · intro q h hq h0 _
    rw [outsAt0_B m c ⟨q + 1, h⟩ h0 (by dsimp only; omega)]
    dsimp only
    rw [next5]
    exact congrArg _ (part_apply m c ⟨q + 1, h⟩ u n b (by dsimp only; omega))
  · intro q h hq hl
    rw [outsAt0_B m c ⟨q + 1, h⟩ (by dsimp only; omega) (by dsimp only; omega)]
    dsimp only
    rw [next5]
    exact congrArg _ (part_apply m c ⟨q + 1, h⟩ u n b (by dsimp only; omega))

/-- What a point writes back is its block of the reference's results, -/
theorem flushed_dp (t : Fin cfg0.N) : (dats m 0 c).flushed 3 t = ((cfg0.win 3).blk t).view.read (Elt Ideal) (Cert.MergeBwdRefIdeal.Prod.dp (d m c) (z m c)) := by
  have hN : t.val < 128 := lt_of_lt_of_eq t.isLt N_0
  rw [Value.flushed3, outs3]
  funext y
  obtain ⟨u, r, n, rfl⟩ := Mm.at3 (a := 1) (b := 256) (e := 2048) y
  have he : ((cfg0.win 3).blk t).view.emb (ix3 u r n) = (ix3 (⟨t.val / 32, by omega⟩ : Fin 4) (⟨256 * (t.val % 32) + r.val, by omega⟩ : Fin 8192) n) := by
    funext a
    apply Fin.ext
    match a with
    | ⟨0, _⟩ => show win0_3.index t 0 * 1 + 1 * u.val = _; rw [(at0 t).2.2.2.1]; show t.val / 32 * 1 + 1 * u.val = t.val / 32; omega
    | ⟨1, _⟩ => show win0_3.index t 1 * 256 + 1 * r.val = _; rw [(at0 t).2.2.2.1]; show t.val % 32 * 256 + 1 * r.val = 256 * (t.val % 32) + r.val; omega
    | ⟨2, _⟩ => show win0_3.index t 2 * 2048 + 1 * n.val = _; rw [(at0 t).2.2.2.1]; show 0 * 2048 + 1 * n.val = n.val; omega
  show k0_pay2 (iblk m c 0 t : Vec Ideal S256x2048 .f32) (iblk m c 1 t : Vec Ideal S256x2048 .bf16) (ix3 u r n) = Cert.MergeBwdRefIdeal.Prod.dp (d m c) (z m c) (((cfg0.win 3).blk t).view.emb (ix3 u r n))
  rw [he, Cert.MergeBwdRefIdeal.Prod.dp_apply, Cert.MergeBwdRefIdeal.Prod.gate_apply, pay2_apply, iblk0_apply m c t r n ⟨256 * (t.val % 32) + r.val, by omega⟩ rfl,
    iblk1_apply m c t r n ⟨256 * (t.val % 32) + r.val, by omega⟩ ⟨t.val / 32 * 2048 + n.val, by omega⟩ rfl rfl]
  exact EReal.mul_comm _ _

theorem flushed_dzg (t : Fin cfg0.N) : (dats m 0 c).flushed 4 t = ((cfg0.win 4).blk t).view.read (Elt Ideal) (Cert.MergeBwdRefIdeal.Prod.dzg (d m c) (z m c) (p m c)) := by
  have hN : t.val < 128 := lt_of_lt_of_eq t.isLt N_0
  rw [Value.flushed4, outs4]
  funext y
  obtain ⟨r, n, rfl⟩ := Mm.at2 (a := 256) (b := 2048) y
  have he : ((cfg0.win 4).blk t).view.emb (ix2 r n) = (ix2 (⟨256 * (t.val % 32) + r.val, by omega⟩ : Fin 8192) (⟨2048 * (t.val / 32) + n.val, by omega⟩ : Fin 8192)) := by
    funext a
    apply Fin.ext
    match a with
    | ⟨0, _⟩ => show win0_4.index t 0 * 256 + 1 * r.val = _; rw [(at0 t).2.2.2.2.1]; show t.val % 32 * 256 + 1 * r.val = 256 * (t.val % 32) + r.val; omega
    | ⟨1, _⟩ => show win0_4.index t 1 * 2048 + 1 * n.val = _; rw [(at0 t).2.2.2.2.1]; show t.val / 32 * 2048 + 1 * n.val = 2048 * (t.val / 32) + n.val; omega
  show k0_pay4 (iblk m c 0 t : Vec Ideal S256x2048 .f32) (iblk m c 1 t : Vec Ideal S256x2048 .bf16) (iblk m c 2 t : Vec Ideal S256x2048 .bf16) (ix2 r n) =
    Cert.MergeBwdRefIdeal.Prod.dzg (d m c) (z m c) (p m c) (((cfg0.win 4).blk t).view.emb (ix2 r n))
  rw [he, Cert.MergeBwdRefIdeal.Prod.dzg_apply, pay4_apply, pay3_eq m c t r n ⟨256 * (t.val % 32) + r.val, by omega⟩ ⟨t.val / 32, by omega⟩ rfl rfl]
  refine congrArg (Cert.MergeBwdRefIdeal.Prod.dz (d m c) (z m c) (p m c)) (funext fun a => Fin.ext ?_)
  match a with
  | ⟨0, _⟩ => rfl
  | ⟨1, _⟩ => show t.val / 32 = (2048 * (t.val / 32) + n.val) / 2048; omega
  | ⟨2, _⟩ => show n.val = (2048 * (t.val / 32) + n.val) % 2048; omega

theorem flushed_dbg (t : Fin cfg0.N) (hf : (cfg0.win 5).flush t = true) :
    (dats m 0 c).flushed 5 t = ((cfg0.win 5).blk t).view.read (Elt Ideal) (Cert.MergeBwdRefIdeal.Prod.dbg (d m c) (z m c) (p m c)) := by
  have ht : t.val % 32 = 31 := (flush0_5 t).mp hf
  have hN : t.val < 128 := lt_of_lt_of_eq t.isLt N_0
  rw [Value.flushed5]
  funext y
  obtain ⟨u, n, rfl⟩ := Mm.at2 (a := 1) (b := 2048) y
  have he : ((cfg0.win 5).blk t).view.emb (ix2 u n) = (ix2 (0 : Fin 1) (⟨2048 * (t.val / 32) + n.val, by omega⟩ : Fin 8192)) := by
    funext a
    apply Fin.ext
    match a with
    | ⟨0, _⟩ => show win0_5.index t 0 * 1 + 1 * u.val = _; rw [(at0 t).2.2.2.2.2]; show 0 * 1 + 1 * u.val = 0; omega
    | ⟨1, _⟩ => show win0_5.index t 1 * 2048 + 1 * n.val = _; rw [(at0 t).2.2.2.2.2]; show t.val / 32 * 2048 + 1 * n.val = 2048 * (t.val / 32) + n.val; omega
  show (outsAt0 m c t.val t.isLt).2.2 (ix2 u n) = Cert.MergeBwdRefIdeal.Prod.dbg (d m c) (z m c) (p m c) (((cfg0.win 5).blk t).view.emb (ix2 u n))
  rw [he, Cert.MergeBwdRefIdeal.Prod.dbg_apply]
  refine (block m c t ht u n ⟨t.val / 32, by omega⟩ rfl).trans (Finset.sum_congr (M := EReal) rfl fun k _ => ?_)
  refine congrArg (Cert.MergeBwdRefIdeal.Prod.dz (d m c) (z m c) (p m c)) (funext fun a => Fin.ext ?_)
  match a with
  | ⟨0, _⟩ => rfl
  | ⟨1, _⟩ => show t.val / 32 = (2048 * (t.val / 32) + n.val) / 2048; omega
  | ⟨2, _⟩ => show n.val = (2048 * (t.val / 32) + n.val) % 2048; omega

/-- and the points between them write every entry of each. -/
theorem covered_dp (i : S4x8192x2048.Idx) : ∃ t : Fin cfg0.N, (cfg0.win 3).flush t = true ∧ i ∈ ((cfg0.win 3).blk t).view.set := by
  obtain ⟨b, q, n, rfl⟩ := Mm.at3 i
  refine ⟨⟨32 * b.val + q.val / 256, lt_of_lt_of_eq (by omega) N_0.symm⟩, flush0_3 _, ?_⟩
  show _ ∈ ((View.whole main_v7_0).slice (win0_3.rect _)).set
  rw [View.set_slice_whole, Rect.mem_set_unit]
  intro a
  match a with
  | ⟨0, _⟩ => show win0_3.index _ 0 * 1 ≤ b.val ∧ b.val < win0_3.index _ 0 * 1 + 1; rw [(at0 _).2.2.2.1]; dsimp only [Matrix.cons_val]; omega
  | ⟨1, _⟩ => show win0_3.index _ 1 * 256 ≤ q.val ∧ q.val < win0_3.index _ 1 * 256 + 256; rw [(at0 _).2.2.2.1]; dsimp only [Matrix.cons_val]; omega
  | ⟨2, _⟩ => show win0_3.index _ 2 * 2048 ≤ n.val ∧ n.val < win0_3.index _ 2 * 2048 + 2048; rw [(at0 _).2.2.2.1]; dsimp only [Matrix.cons_val]; omega

theorem covered_dzg (i : S8192x8192.Idx) : ∃ t : Fin cfg0.N, (cfg0.win 4).flush t = true ∧ i ∈ ((cfg0.win 4).blk t).view.set := by
  obtain ⟨q, n, rfl⟩ := Mm.at2 i
  refine ⟨⟨32 * (n.val / 2048) + q.val / 256, lt_of_lt_of_eq (by omega) N_0.symm⟩, flush0_4 _, ?_⟩
  show _ ∈ ((View.whole main_v7_1).slice (win0_4.rect _)).set
  rw [View.set_slice_whole, Rect.mem_set_unit]
  intro a
  match a with
  | ⟨0, _⟩ => show win0_4.index _ 0 * 256 ≤ q.val ∧ q.val < win0_4.index _ 0 * 256 + 256; rw [(at0 _).2.2.2.2.1]; dsimp only [Matrix.cons_val]; omega
  | ⟨1, _⟩ => show win0_4.index _ 1 * 2048 ≤ n.val ∧ n.val < win0_4.index _ 1 * 2048 + 2048; rw [(at0 _).2.2.2.2.1]; dsimp only [Matrix.cons_val]; omega

theorem covered_dbg (i : S1x8192.Idx) : ∃ t : Fin cfg0.N, (cfg0.win 5).flush t = true ∧ i ∈ ((cfg0.win 5).blk t).view.set := by
  obtain ⟨u, n, rfl⟩ := Mm.at2 i
  refine ⟨⟨32 * (n.val / 2048) + 31, lt_of_lt_of_eq (by omega) N_0.symm⟩, (flush0_5 _).mpr (by dsimp only; omega), ?_⟩
  show _ ∈ ((View.whole main_v7_2).slice (win0_5.rect _)).set
  rw [View.set_slice_whole, Rect.mem_set_unit]
  intro a
  match a with
  | ⟨0, _⟩ => show win0_5.index _ 0 * 1 ≤ u.val ∧ u.val < win0_5.index _ 0 * 1 + 1; rw [(at0 _).2.2.2.2.2]; dsimp only [Matrix.cons_val]; omega
  | ⟨1, _⟩ => show win0_5.index _ 1 * 2048 ≤ n.val ∧ n.val < win0_5.index _ 1 * 2048 + 2048; rw [(at0 _).2.2.2.2.2]; dsimp only [Matrix.cons_val]; omega

/-- The result arrays after the run. -/
theorem dp_eq : (dats m 0 c).arrAt 3 cfg0.N = Cert.MergeBwdRefIdeal.Prod.dp (d m c) (z m c) :=
  (dats m 0 c).arrAt_eq_of_cover 3 _ (fun t _ => flushed_dp m c t) covered_dp

theorem dzg_eq : (dats m 0 c).arrAt 4 cfg0.N = Cert.MergeBwdRefIdeal.Prod.dzg (d m c) (z m c) (p m c) :=
  (dats m 0 c).arrAt_eq_of_cover 4 _ (fun t _ => flushed_dzg m c t) covered_dzg

theorem dbg_eq : (dats m 0 c).arrAt 5 cfg0.N = Cert.MergeBwdRefIdeal.Prod.dbg (d m c) (z m c) (p m c) :=
  (dats m 0 c).arrAt_eq_of_cover 5 _ (fun t hf => flushed_dbg m c t hf) covered_dbg

theorem value : Cert.algebraic_MergeBwdIdeal_MergeBwdRefIdeal := fun m g m' g' _ ha =>
  ⟨fun c => (dats m 0 c).arrAt 3 cfg0.N, fun c => (dats m 0 c).arrAt 4 cfg0.N, fun c => (dats m 0 c).arrAt 5 cfg0.N, Value.run_blocks m g,
    (θ_run Cert.MergeBwdRefIdeal.defs _ _).mono (fun r h c => ⟨(h c).1.trans (by
    obtain ⟨a0, a1, a2⟩ := ha c
    rw [a0, a1]
    exact (dp_eq m c).symm), (h c).2.1.trans (by
    obtain ⟨a0, a1, a2⟩ := ha c
    rw [a0, a1, a2]
    exact (dzg_eq m c).symm), (h c).2.2.1.trans (by
    obtain ⟨a0, a1, a2⟩ := ha c
    rw [a0, a1, a2]
    exact (dbg_eq m c).symm), (h c).2.2.2⟩) (Cert.MergeBwdRefIdeal.Value.run m' g')⟩

end Cert.MergeBwdIdeal.Prod

end
-- ==== Proof.Ff1Value.lean ====
/-
  The feed-forward layer's hidden units: what the call leaves in its two results.
-/
module

public import proofs.«01_k».proof.Proof.Gen.Ff1Ideal.Value
public import proofs.«01_k».proof.Proof.Gen.Ff1RefIdeal.Run
public import proofs.«01_k».proof.Proof.Mm
public import proofs.«01_k».proof.Defs

@[expose] public section

set_option maxRecDepth 16384

noncomputable section

namespace Cert.Ff1RefIdeal.Prod

open Idealize.ShloMosaic
open Cert.Ff1RefIdeal Cert.Ff1RefIdeal.Gen
open scoped BigOperators

/-- The hidden units before the nonlinearity, of the reference's arguments, -/
def pre (x : FVec Ideal S8192x2048 .bf16) (w : FVec Ideal S4x2x2048x2048 .bf16) : FVec Ideal S8192x8192 .f32 :=
  Host.dotGeneral dot_S8192x2048_S2048x8192_S8192x8192_1_0_0_1_n_n none (extf .f32 x bitsLt_bf16_f32)
    (extf .f32 (shapeCast _ (extractStridedSlice S1x2048x8192 ![0, 0, 0] (shapeCast _ (transpose S2x2048x4x2048 [1, 2, 0, 3] w
      transposes_S4x2x2048x2048_S2x2048x4x2048_1_2_0_3) shapeCasts_S2x2048x4x2048_S2x2048x8192) slices_S2x2048x8192_S1x2048x8192_0_0_0)
      shapeCasts_S1x2048x8192_S2048x8192) bitsLt_bf16_f32)

/-- and the two results made of them. -/
def relu (x : FVec Ideal S8192x2048 .bf16) (w : FVec Ideal S4x2x2048x2048 .bf16) : FVec Ideal S8192x8192 .bf16 :=
  truncf .bf16 (maximumf (pre x w) (broadcastInDim S8192x8192 ![] bcast_S_S8192x8192 (constant S_ .f32 0x00000000#32))) bitsLt_bf16_f32
def sq (x : FVec Ideal S8192x2048 .bf16) (w : FVec Ideal S4x2x2048x2048 .bf16) : FVec Ideal S8192x8192 .bf16 :=
  truncf .bf16 (mulf (maximumf (pre x w) (broadcastInDim S8192x8192 ![] bcast_S_S8192x8192 (constant S_ .f32 0x00000000#32))) (maximumf (pre x w) (broadcastInDim S8192x8192 ![] bcast_S_S8192x8192 (constant S_ .f32 0x00000000#32)))) bitsLt_bf16_f32

theorem pre_apply (x : FVec Ideal S8192x2048 .bf16) (w : FVec Ideal S4x2x2048x2048 .bf16) (i j : Fin 8192) :
    (pre x w (ix2 i j) : EReal) = ∑ k : Fin 2048, (x (ix2 i k) : EReal) * w (ix4 (⟨j.val / 2048, by omega⟩ : Fin 4) 0 k ⟨j.val % 2048, by omega⟩) := by
  pointwise [pre]

theorem relu_apply (x : FVec Ideal S8192x2048 .bf16) (w : FVec Ideal S4x2x2048x2048 .bf16) (i j : Fin 8192) :
    (relu x w (ix2 i j) : EReal) = max (pre x w (ix2 i j) : EReal) 0 := by
  pointwise [relu]

theorem sq_apply (x : FVec Ideal S8192x2048 .bf16) (w : FVec Ideal S4x2x2048x2048 .bf16) (i j : Fin 8192) :
    (sq x w (ix2 i j) : EReal) = max (pre x w (ix2 i j) : EReal) 0 * max (pre x w (ix2 i j) : EReal) 0 := by
  pointwise [sq]

end Cert.Ff1RefIdeal.Prod

namespace Cert.Ff1Ideal.Prod

open Idealize.ShloMosaic Idealize.ShloMosaic.TcCoe Idealize.SL.Sem
open Cert.Ff1Ideal Cert.Ff1Ideal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1x1x2048x1024 .bf16) (h4 : a4.IsWhole)
  (a5 : Memref sig .tc .vmem S1024x1024 .bf16) (h5 : a5.IsWhole) (a6 : Memref sig .tc .vmem S1024x1024 .bf16) (h6 : a6.IsWhole)
  (a7 : Memref sig .tc .vmem S1024x1024 .f32) (h7 : a7.IsWhole)
  (x : Vec F S1024x2048 .bf16) (y : Vec F S1x1x2048x1024 .bf16)

/-- The one step of a block writes the square of its hidden units, -/
theorem only2 (hc0 : cond0_0 i) (hc1 : ¬cond0_1 i) (hc2 : cond0_2 i) :
    out0_A_2 c i a3 h3 a4 h4 a5 h5 a6 h6 a7 h7 hc0 hc1 hc2 x y = k0_pay4 (k0_pay1 x y) := by
  unfold out0_A_2
  rw [View.read_writes_eq_canon _ _ _ (cover0_A_2 c i a3 h3 a4 h4 a5 h5 a6 h6 a7 h7 hc0 hc1 hc2 x y)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, View.ld_unit_zero (S := S1024x2048) Mm.hz, View.ld_unit_zero (S := S1x1x2048x1024) Mm.hz4, shapeCast_self]

/-- and the units. -/
theorem only3 (hc0 : cond0_0 i) (hc1 : ¬cond0_1 i) (hc2 : cond0_2 i) :
    out0_A_3 c i a3 h3 a4 h4 a5 h5 a6 h6 a7 h7 hc0 hc1 hc2 x y = k0_pay5 (k0_pay1 x y) := by
  unfold out0_A_3
  rw [View.read_writes_eq_canon _ _ _ (cover0_A_3 c i a3 h3 a4 h4 a5 h5 a6 h6 a7 h7 hc0 hc1 hc2 x y)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, View.ld_unit_zero (S := S1024x2048) Mm.hz, View.ld_unit_zero (S := S1x1x2048x1024) Mm.hz4, shapeCast_self]

end cases

variable (m : (ℓ : Loc nD τ sig) → Buf (Elt Ideal) ℓ) (c : Dev nD)

theorem pay1_apply (x : Vec Ideal S1024x2048 .bf16) (y : Vec Ideal S1x1x2048x1024 .bf16) (r n : Fin 1024) :
    (k0_pay1 x y (ix2 r n) : EReal) = ∑ k : Fin 2048, (x (ix2 r k) : EReal) * y (ix4 0 0 k n) := by
  pointwise [k0_pay1]

theorem pay4_apply (z : Vec Ideal S1024x1024 .f32) (r n : Fin 1024) : (k0_pay4 z (ix2 r n) : EReal) = max (z (ix2 r n) : EReal) 0 * max (z (ix2 r n) : EReal) 0 := by
  pointwise [k0_pay4]

theorem pay5_apply (z : Vec Ideal S1024x1024 .f32) (r n : Fin 1024) : (k0_pay5 z (ix2 r n) : EReal) = max (z (ix2 r n) : EReal) 0 := by
  pointwise [k0_pay5]

theorem at0 : ∀ t : Fin cfg0.N, win0_0.index t = ![t.val / 8, 0] ∧ win0_1.index t = ![t.val % 8 / 2, 0, 0, t.val % 8 % 2] ∧ win0_2.index t = ![t.val / 8, t.val % 8] ∧ win0_3.index t = ![t.val / 8, t.val % 8] :=
  (by decide +kernel : ∀ t : Fin grid0.N, _)

/-- The arguments. -/
abbrev x : FVec Ideal S8192x2048 .bf16 := m ((c.tc : Thread nD τ).loc main_arg0)
abbrev w : FVec Ideal S4x2x2048x2048 .bf16 := m ((c.tc : Thread nD τ).loc main_arg1)

theorem iblk0_apply (t : Fin cfg0.N) (r : Fin 1024) (k : Fin 2048) (i : Fin 8192) (hi : i.val = 1024 * (t.val / 8) + r.val) :
    (iblk m c 0 t : Vec Ideal S1024x2048 .bf16) (ix2 r k) = x m c (ix2 i k) := by
  unfold iblk
  rw [View.read_apply]
  refine congrArg (x m c) (funext fun a => Fin.ext ?_)
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = k.val; rw [(at0 t).1]; show 0 * 2048 + 1 * k.val = _; omega

theorem iblk1_apply (t : Fin cfg0.N) (k : Fin 2048) (r : Fin 1024) (j : Fin 8192) (hj : j.val = 1024 * (t.val % 8) + r.val) :
    (iblk m c 1 t : Vec Ideal S1x1x2048x1024 .bf16) (ix4 0 0 k r) = w m c (ix4 (⟨j.val / 2048, by omega⟩ : Fin 4) 0 k ⟨j.val % 2048, by omega⟩) := by
  unfold iblk
  rw [View.read_apply]
  refine congrArg (w m c) (funext fun a => Fin.ext ?_)
  match a with
  | ⟨0, _⟩ => show win0_1.index t 0 * 1 + 1 * 0 = j.val / 2048; rw [(at0 t).2.1, hj]; show t.val % 8 / 2 * 1 + 1 * 0 = _; omega
  | ⟨1, _⟩ => show win0_1.index t 1 * 1 + 1 * 0 = 0; rw [(at0 t).2.1]; rfl
  | ⟨2, _⟩ => show win0_1.index t 2 * 2048 + 1 * k.val = k.val; rw [(at0 t).2.1]; show 0 * 2048 + 1 * k.val = _; omega
  | ⟨3, _⟩ => show win0_1.index t 3 * 1024 + 1 * r.val = j.val % 2048; rw [(at0 t).2.1, hj]; show t.val % 8 % 2 * 1024 + 1 * r.val = _; omega

/-- Where a result's block lies, -/
theorem emb_eq (t : Fin cfg0.N) (r n : Fin 1024) (i : Fin 8192) (hi : i.val = 1024 * (t.val / 8) + r.val) (j : Fin 8192) (hj : j.val = 1024 * (t.val % 8) + n.val) :
    ((cfg0.win 2).blk t).view.emb (ix2 r n) = (ix2 i j : S8192x8192.Idx) := by
  funext a
  apply Fin.ext
  match a with
  | ⟨0, _⟩ => show win0_2.index t 0 * 1024 + 1 * r.val = i.val; rw [(at0 t).2.2.1, hi]; show t.val / 8 * 1024 + 1 * r.val = _; omega
  | ⟨1, _⟩ => show win0_2.index t 1 * 1024 + 1 * n.val = j.val; rw [(at0 t).2.2.1, hj]; show t.val % 8 * 1024 + 1 * n.val = _; omega

/-- the hidden units of a block, -/
theorem pay1_eq (t : Fin cfg0.N) (r n : Fin 1024) (i : Fin 8192) (hi : i.val = 1024 * (t.val / 8) + r.val) (j : Fin 8192) (hj : j.val = 1024 * (t.val % 8) + n.val) :
    k0_pay1 (iblk m c 0 t : Vec Ideal S1024x2048 .bf16) (iblk m c 1 t : Vec Ideal S1x1x2048x1024 .bf16) (ix2 r n) = Cert.Ff1RefIdeal.Prod.pre (x m c) (w m c) (ix2 i j) := by
  refine (pay1_apply _ _ r n).trans (Eq.trans (Finset.sum_congr rfl fun k _ => ?_) (Cert.Ff1RefIdeal.Prod.pre_apply (x m c) (w m c) i j).symm)
  rw [iblk0_apply m c t r k i hi, iblk1_apply m c t k n j hj]

/-- what a point writes back, -/
theorem flushed_sq (t : Fin cfg0.N) : (dats m 0 c).flushed 2 t = ((cfg0.win 2).blk t).view.read (Elt Ideal) (Cert.Ff1RefIdeal.Prod.sq (x m c) (w m c)) := by
  have hN : t.val < 64 := lt_of_lt_of_eq t.isLt N_0
  rw [Value.flushed2_A, only2]
  funext y
  obtain ⟨r, n, rfl⟩ := Mm.at2 (a := 1024) (b := 1024) y
  show k0_pay4 (k0_pay1 (iblk m c 0 t : Vec Ideal S1024x2048 .bf16) (iblk m c 1 t : Vec Ideal S1x1x2048x1024 .bf16)) (ix2 r n) =
    Cert.Ff1RefIdeal.Prod.sq (x m c) (w m c) (((cfg0.win 2).blk t).view.emb (ix2 r n))
  rw [show ((cfg0.win 2).blk t).view.emb (ix2 r n) = _ from emb_eq t r n ⟨1024 * (t.val / 8) + r.val, by omega⟩ rfl ⟨1024 * (t.val % 8) + n.val, by omega⟩ rfl,
    Cert.Ff1RefIdeal.Prod.sq_apply, pay4_apply, pay1_eq m c t r n ⟨1024 * (t.val / 8) + r.val, by omega⟩ rfl ⟨1024 * (t.val % 8) + n.val, by omega⟩ rfl]

theorem flushed_relu (t : Fin cfg0.N) : (dats m 0 c).flushed 3 t = ((cfg0.win 3).blk t).view.read (Elt Ideal) (Cert.Ff1RefIdeal.Prod.relu (x m c) (w m c)) := by
  have hN : t.val < 64 := lt_of_lt_of_eq t.isLt N_0
  rw [Value.flushed3_A, only3]
  funext y
  obtain ⟨r, n, rfl⟩ := Mm.at2 (a := 1024) (b := 1024) y
  show k0_pay5 (k0_pay1 (iblk m c 0 t : Vec Ideal S1024x2048 .bf16) (iblk m c 1 t : Vec Ideal S1x1x2048x1024 .bf16)) (ix2 r n) =
    Cert.Ff1RefIdeal.Prod.relu (x m c) (w m c) (((cfg0.win 3).blk t).view.emb (ix2 r n))
  rw [show ((cfg0.win 3).blk t).view.emb (ix2 r n) = _ from emb_eq t r n ⟨1024 * (t.val / 8) + r.val, by omega⟩ rfl ⟨1024 * (t.val % 8) + n.val, by omega⟩ rfl,
    Cert.Ff1RefIdeal.Prod.relu_apply, pay5_apply, pay1_eq m c t r n ⟨1024 * (t.val / 8) + r.val, by omega⟩ rfl ⟨1024 * (t.val % 8) + n.val, by omega⟩ rfl]

/-- and the points between them write every entry. -/
theorem covered (i : S8192x8192.Idx) : ∃ t : Fin cfg0.N, i ∈ ((cfg0.win 2).blk t).view.set := by
  obtain ⟨p, q, rfl⟩ := Mm.at2 i
  refine ⟨⟨8 * (p.val / 1024) + q.val / 1024, lt_of_lt_of_eq (by omega) N_0.symm⟩, ?_⟩
  show _ ∈ ((View.whole main_v0_0).slice (win0_2.rect _)).set
  rw [View.set_slice_whole, Rect.mem_set_unit]
  intro a
  match a with
  | ⟨0, _⟩ => show win0_2.index _ 0 * 1024 ≤ p.val ∧ p.val < win0_2.index _ 0 * 1024 + 1024; rw [(at0 _).2.2.1]; dsimp only [Matrix.cons_val]; omega
  | ⟨1, _⟩ => show win0_2.index _ 1 * 1024 ≤ q.val ∧ q.val < win0_2.index _ 1 * 1024 + 1024; rw [(at0 _).2.2.1]; dsimp only [Matrix.cons_val]; omega

/-- The result arrays after the run. -/
theorem sq_eq : (dats m 0 c).arrAt 2 cfg0.N = Cert.Ff1RefIdeal.Prod.sq (x m c) (w m c) :=
  (dats m 0 c).arrAt_eq_of_cover 2 _ (fun t _ => flushed_sq m c t) fun i => (covered i).imp fun t h => ⟨flush0_2 t, h⟩

theorem relu_eq : (dats m 0 c).arrAt 3 cfg0.N = Cert.Ff1RefIdeal.Prod.relu (x m c) (w m c) :=
  (dats m 0 c).arrAt_eq_of_cover 3 _ (fun t _ => flushed_relu m c t) fun i => (covered i).imp fun t h => ⟨flush0_3 t, h⟩

theorem value : Cert.algebraic_Ff1Ideal_Ff1RefIdeal := fun m g m' g' _ ha =>
  ⟨fun c => (dats m 0 c).arrAt 2 cfg0.N, fun c => (dats m 0 c).arrAt 3 cfg0.N, Value.run_blocks m g, (θ_run Cert.Ff1RefIdeal.defs _ _).mono (fun r h c => ⟨(h c).1.trans (by
    obtain ⟨a0, a1⟩ := ha c
    rw [a0, a1]
    exact (sq_eq m c).symm), (h c).2.1.trans (by
    obtain ⟨a0, a1⟩ := ha c
    rw [a0, a1]
    exact (relu_eq m c).symm), (h c).2.2⟩) (Cert.Ff1RefIdeal.Value.run m' g')⟩

end Cert.Ff1Ideal.Prod

end
-- ==== Proof.Ff2Value.lean ====
/-
  The second feed-forward product: what the call leaves in its result.
-/
module

public import proofs.«01_k».proof.Proof.Gen.Ff2Ideal.Value
public import proofs.«01_k».proof.Proof.Gen.Ff2RefIdeal.Run
public import proofs.«01_k».proof.Proof.Mm
public import proofs.«01_k».proof.Defs

@[expose] public section

set_option maxRecDepth 16384

noncomputable section

namespace Cert.Ff2RefIdeal.Prod

open Idealize.ShloMosaic
open Cert.Ff2RefIdeal Cert.Ff2RefIdeal.Gen
open scoped BigOperators

/-- The reference's result, of its arguments. -/
def out (hid : FVec Ideal S8192x8192 .bf16) (w : FVec Ideal S4x2x2048x2048 .bf16) (x : FVec Ideal S8192x2048 .f32) : FVec Ideal S8192x2048 .f32 :=
  addf (mulf (broadcastInDim S8192x2048 ![] bcast_S_S8192x2048 (constant S_ .f32 0x3FB504F3#32)) x)
    (Host.dotGeneral dot_S8192x8192_S8192x2048_S8192x2048_1_0_0_1_n_n none (extf .f32 hid bitsLt_bf16_f32)
      (extf .f32 (shapeCast _ (extractStridedSlice S1x8192x2048 ![0, 0, 0] (shapeCast _ (transpose S2x4x2048x2048 [1, 0, 2, 3] w
        transposes_S4x2x2048x2048_S2x4x2048x2048_1_0_2_3) shapeCasts_S2x4x2048x2048_S2x8192x2048) slices_S2x8192x2048_S1x8192x2048_0_0_0)
        shapeCasts_S1x8192x2048_S8192x2048) bitsLt_bf16_f32))

theorem out_apply (hid : FVec Ideal S8192x8192 .bf16) (w : FVec Ideal S4x2x2048x2048 .bf16) (x : FVec Ideal S8192x2048 .f32) (i : Fin 8192) (j : Fin 2048) :
    (out hid w x (ix2 i j) : EReal) = (Scalar.ofBits .f32 0x3FB504F3#32 : Ideal .f32) * x (ix2 i j) +
      ∑ k : Fin 8192, (hid (ix2 i k) : EReal) * w (ix4 (⟨k.val / 2048, by omega⟩ : Fin 4) 0 ⟨k.val % 2048, by omega⟩ j) := by
  pointwise [out]

end Cert.Ff2RefIdeal.Prod

namespace Cert.Ff2Ideal.Prod

open Idealize.ShloMosaic Idealize.ShloMosaic.TcCoe Idealize.SL.Sem
open Cert.Ff2Ideal Cert.Ff2Ideal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1x1x2048x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x2048 .bf16) (y : Vec F S1x1x2048x1024 .bf16) (d s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 a7 h7 hc0 hc1 hc2 x y d = k0_pay1 x y := by
  unfold sout0_A_0
  rw [View.read_writes_eq_canon _ _ _ (scover0_A_0 c i a3 h3 a4 h4 a5 h5 a6 h6 a7 h7 hc0 hc1 hc2 x y d)]
  unfold kernelRun0_A
  dsimp only
  sl_unfold_words
  rw [View.canon_unit_zero Mm.hz]
  unfold k0_pay2
  simp only [View.readAt_eq_ld, h3.read_unread, h4.read_unread, View.ld_unit_zero (S := S1024x2048) Mm.hz, View.ld_unit_zero (S := S1x1x2048x1024) Mm.hz4, shapeCast_self]

/-- a middle one adds its own to what was there, -/
theorem next (hc0 : ¬cond0_0 i) (hc1 : cond0_1 i) (hc2 : ¬cond0_2 i) :
    sout0_B_0 c i a3 h3 a4 h4 a5 h5 a6 h6 a7 h7 hc0 hc1 hc2 x y d s = addf s (k0_pay1 x y) := by
  unfold sout0_B_0
  rw [View.read_writes_eq_canon _ _ _ (scover0_B_0 c i a3 h3 a4 h4 a5 h5 a6 h6 a7 h7 hc0 hc1 hc2 x y d s)]
  unfold kernelRun0_B
  dsimp only
  sl_unfold_words
  rw [View.canon_unit_zero Mm.hz]
  unfold k0_pay3
  simp only [View.readAt_eq_ld, h3.read_unread, h4.read_unread, h7.read_unread, View.ld_unit_zero (S := S1024x2048) Mm.hz, View.ld_unit_zero (S := S1x1x2048x1024) Mm.hz4,
    View.ld_unit_zero (S := S1024x1024) Mm.hz, shapeCast_self]

/-- and the last too, and the result's block is the sum with what came beside it. -/
theorem last (hc0 : ¬cond0_0 i) (hc1 : cond0_1 i) (hc2 : cond0_2 i) :
    out0_C_3 c i a3 h3 a4 h4 a5 h5 a6 h6 a7 h7 hc0 hc1 hc2 x y d s = k0_pay4 (addf s (k0_pay1 x y)) d := by
  unfold out0_C_3
  rw [View.read_writes_eq_canon _ _ _ (cover0_C_3 c i a3 h3 a4 h4 a5 h5 a6 h6 a7 h7 hc0 hc1 hc2 x y d s)]
  unfold kernelRun0_C
  dsimp only
  sl_unfold_words
  rw [View.canon_unit_zero Mm.hz, View.readCov_unit_zero (S := S1024x1024) _ Mm.hz]
  unfold k0_pay3
  simp only [View.readAt_eq_ld, h3.read_unread, h4.read_unread, h5.read_unread, h7.read_unread, View.ld_unit_zero (S := S1024x2048) Mm.hz, View.ld_unit_zero (S := S1x1x2048x1024) Mm.hz4,
    View.ld_unit_zero (S := S1024x1024) Mm.hz, shapeCast_self]

end cases

variable (m : (ℓ : Loc nD τ sig) → Buf (Elt Ideal) ℓ) (c : Dev nD)

theorem pay1_apply (x : Vec Ideal S1024x2048 .bf16) (y : Vec Ideal S1x1x2048x1024 .bf16) (r n : Fin 1024) :
    (k0_pay1 x y (ix2 r n) : EReal) = ∑ k : Fin 2048, (x (ix2 r k) : EReal) * y (ix4 0 0 k n) := by
  pointwise [k0_pay1]

theorem pay4_apply (s d : Vec Ideal S1024x1024 .f32) (r n : Fin 1024) :
    (k0_pay4 s d (ix2 r n) : EReal) = (Scalar.ofBits .f32 0x3FB504F3#32 : Ideal .f32) * d (ix2 r n) + s (ix2 r n) := by
  pointwise [k0_pay4]

theorem at0 : ∀ t : Fin cfg0.N, win0_0.index t = ![t.val / 8, t.val % 4] ∧ win0_1.index t = ![t.val % 4, 0, 0, t.val / 4 % 2] ∧ win0_2.index t = ![t.val / 8, t.val / 4 % 2] :=
  (by decide +kernel : ∀ t : Fin grid0.N, _)

/-- The arguments. -/
abbrev hid : FVec Ideal S8192x8192 .bf16 := m ((c.tc : Thread nD τ).loc main_arg0)
abbrev w : FVec Ideal S4x2x2048x2048 .bf16 := m ((c.tc : Thread nD τ).loc main_arg1)
abbrev x : FVec Ideal S8192x2048 .f32 := m ((c.tc : Thread nD τ).loc main_arg2)

theorem iblk0_apply (t : Fin cfg0.N) (r : Fin 1024) (k : Fin 2048) (i j : Fin 8192) (hi : i.val = 1024 * (t.val / 8) + r.val) (hj : j.val = 2048 * (t.val % 4) + k.val) :
    (iblk m c 0 t : Vec Ideal S1024x2048 .bf16) (ix2 r k) = hid m c (ix2 i j) := by
  unfold iblk
  rw [View.read_apply]
  refine congrArg (hid m c) (funext fun a => Fin.ext ?_)
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = j.val; rw [(at0 t).1, hj]; show t.val % 4 * 2048 + 1 * k.val = _; omega

theorem iblk1_apply (t : Fin cfg0.N) (r : Fin 1024) (k : Fin 2048) (p : Fin 4) (q j : Fin 2048) (hp : p.val = t.val % 4) (hq : q = k) (hj : j.val = 1024 * (t.val / 4 % 2) + r.val) :
    (iblk m c 1 t : Vec Ideal S1x1x2048x1024 .bf16) (ix4 0 0 k r) = w m c (ix4 p 0 q j) := by
  subst hq
  unfold iblk
  rw [View.read_apply]
  refine congrArg (w m c) (funext fun a => Fin.ext ?_)
  match a with
  | ⟨0, _⟩ => show win0_1.index t 0 * 1 + 1 * 0 = p.val; rw [(at0 t).2.1, hp]; show t.val % 4 * 1 + 1 * 0 = _; omega
  | ⟨1, _⟩ => show win0_1.index t 1 * 1 + 1 * 0 = 0; rw [(at0 t).2.1]; rfl
  | ⟨2, _⟩ => show win0_1.index t 2 * 2048 + 1 * q.val = q.val; rw [(at0 t).2.1]; show 0 * 2048 + 1 * q.val = _; omega
  | ⟨3, _⟩ => show win0_1.index t 3 * 1024 + 1 * r.val = j.val; rw [(at0 t).2.1, hj]; show t.val / 4 % 2 * 1024 + 1 * r.val = _; omega

theorem iblk2_apply (t : Fin cfg0.N) (r n : Fin 1024) (i : Fin 8192) (j : Fin 2048) (hi : i.val = 1024 * (t.val / 8) + r.val) (hj : j.val = 1024 * (t.val / 4 % 2) + n.val) :
    (iblk m c 2 t : Vec Ideal S1024x1024 .f32) (ix2 r n) = x m c (ix2 i j) := by
  unfold iblk
  rw [View.read_apply]
  refine congrArg (x m c) (funext fun a => Fin.ext ?_)
  match a with
  | ⟨0, _⟩ => show win0_2.index t 0 * 1024 + 1 * r.val = i.val; rw [(at0 t).2.2, hi]; show t.val / 8 * 1024 + 1 * r.val = _; omega
  | ⟨1, _⟩ => show win0_2.index t 1 * 1024 + 1 * n.val = j.val; rw [(at0 t).2.2, hj]; show t.val / 4 % 2 * 1024 + 1 * n.val = _; omega

/-- The terms of an entry of the product, and what the last step makes of their sum. -/
def terms (i : Fin 8192) (j : Fin 2048) (k : Fin 8192) : EReal := (hid m c (ix2 i k) : EReal) * w m c (ix4 (⟨k.val / 2048, by omega⟩ : Fin 4) 0 ⟨k.val % 2048, by omega⟩ j)
def withX (i : Fin 8192) (j : Fin 2048) (a : EReal) : EReal := (Scalar.ofBits .f32 0x3FB504F3#32 : Ideal .f32) * x m c (ix2 i j) + a

theorem part_apply (t : Fin cfg0.N) (r n : Fin 1024) (i : Fin 8192) (j : Fin 2048) (hi : i.val = 1024 * (t.val / 8) + r.val) (hj : j.val = 1024 * (t.val / 4 % 2) + n.val) :
    (k0_pay1 (iblk m c 0 t : Vec Ideal S1024x2048 .bf16) (iblk m c 1 t : Vec Ideal S1x1x2048x1024 .bf16) (ix2 r n) : EReal) = Mm.part (terms m c i j) 2048 (t.val % 4) := by
  rw [pay1_apply]
  refine Mm.part_eq _ _ (by omega) fun k => ?_
  rw [iblk0_apply m c t r k i ⟨2048 * (t.val % 4) + k.val, by omega⟩ hi rfl,
    iblk1_apply m c t n k ⟨(2048 * (t.val % 4) + k.val) / 2048, by omega⟩ ⟨(2048 * (t.val % 4) + k.val) % 2048, by omega⟩ j (by dsimp only; omega) (Fin.ext (by dsimp only; omega)) hj]
  rfl

/-- The block a last step writes. -/
theorem block (t : Fin cfg0.N) (ht : t.val % 4 = 3) (r n : Fin 1024) (i : Fin 8192) (j : Fin 2048) (hi : i.val = 1024 * (t.val / 8) + r.val) (hj : j.val = 1024 * (t.val / 4 % 2) + n.val) :
    ((outsAt0 m c t.val t.isLt).1 (ix2 r n) : EReal) = withX m c i j (∑ k : Fin 8192, terms m c i j k) := by
  refine Mm.out_eq_of (terms m c i j) (withX m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last, pay4_apply, iblk2_apply m c ⟨p + 1, h⟩ r n i j (by dsimp only; omega) (by dsimp only; omega)]
    exact congrArg (fun a => withX m c i j (_ + a)) (part_apply m c ⟨p + 1, h⟩ r n i j (by dsimp only; omega) (by dsimp only; omega))

/-- The result array after the run. -/
theorem result (i : Fin 8192) (j : Fin 2048) : (Value.G3 m c (ix2 i j) : EReal) = withX m c i j (∑ k : Fin 8192, terms m c i j k) := by
  have hN : cfg0.N = 64 := N_0
  have hp : Value.pt3Of (ix2 i j) = 4 * (2 * (i.val / 1024) + j.val / 1024) + 3 := by
    show 4 * (2 * (i.val / 1024 - 0) + 1 * (j.val / 1024 - 0)) + 3 = _
    omega
  have hl : Value.pt3Of (ix2 i j) < cfg0.N := by rw [hp, hN]; omega
  have hi : Value.loc3Of (ix2 i j) = ix2 (⟨i.val % 1024, by omega⟩ : Fin 1024) (⟨j.val % 1024, by omega⟩ : Fin 1024) := by
    funext a
    match a with
    | ⟨0, _⟩ => rfl
    | ⟨1, _⟩ => rfl
  unfold Value.G3
  rw [dif_pos hl, ← Value.outsAt0_sweep m c _ hl, hi]
  exact block m c ⟨Value.pt3Of (ix2 i j), hl⟩ (by dsimp only; omega) _ _ i j (by dsimp only; omega) (by dsimp only; omega)

theorem result_eq : Value.G3 m c = Cert.Ff2RefIdeal.Prod.out (hid m c) (w m c) (x m c) := funext fun i => by
  obtain ⟨p, q, rfl⟩ := Mm.at2 i
  rw [Cert.Ff2RefIdeal.Prod.out_apply]
  exact result m c p q

theorem value : Cert.algebraic_Ff2Ideal_Ff2RefIdeal := fun m g m' g' _ ha =>
  ⟨Value.G3 m, Value.run m g, (θ_run Cert.Ff2RefIdeal.defs _ _).mono (fun r h c => ⟨(h c).1.trans (by
    obtain ⟨a0, a1, a2⟩ := ha c
    rw [a0, a1, a2]
    exact (result_eq m c).symm), (h c).2⟩) (Cert.Ff2RefIdeal.Value.run m' g')⟩

end Cert.Ff2Ideal.Prod

end
-- ==== Proof.Ff2DxValue.lean ====
/-
  The gradient of the feed-forward layer's hidden units: what the call leaves in its result.
-/
module

public import proofs.«01_k».proof.Proof.Gen.Ff2DxIdeal.Value
public import proofs.«01_k».proof.Proof.Gen.Ff2DxRefIdeal.Run
public import proofs.«01_k».proof.Proof.Mm
public import proofs.«01_k».proof.Defs

@[expose] public section

set_option maxRecDepth 16384

noncomputable section

namespace Cert.Ff2DxRefIdeal.Prod

open Idealize.ShloMosaic
open Cert.Ff2DxRefIdeal Cert.Ff2DxRefIdeal.Gen
open scoped BigOperators

/-- The reference's result, of its arguments. -/
def out (dh : FVec Ideal S8192x2048 .bf16) (w : FVec Ideal S4x2x2048x2048 .bf16) (a : FVec Ideal S8192x8192 .f32) : FVec Ideal S8192x8192 .bf16 :=
  truncf .bf16 (select (cmpf .ogt a (broadcastInDim S8192x8192 ![] bcast_S_S8192x8192 (constant S_ .f32 0x00000000#32)))
    (mulf (Host.dotGeneral dot_S8192x2048_S8192x2048_S8192x8192_1_1_0_0_n_n none (extf .f32 dh bitsLt_bf16_f32)
        (extf .f32 (shapeCast _ (extractStridedSlice S1x8192x2048 ![0, 0, 0] (shapeCast _ (transpose S2x4x2048x2048 [1, 0, 2, 3] w
          transposes_S4x2x2048x2048_S2x4x2048x2048_1_0_2_3) shapeCasts_S2x4x2048x2048_S2x8192x2048) slices_S2x8192x2048_S1x8192x2048_0_0_0)
          shapeCasts_S1x8192x2048_S8192x2048) bitsLt_bf16_f32))
      (mulf (broadcastInDim S8192x8192 ![] bcast_S_S8192x8192 (constant S_ .f32 0x40000000#32))
        (maximumf a (broadcastInDim S8192x8192 ![] bcast_S_S8192x8192 (constant S_ .f32 0x00000000#32)))))
    (broadcastInDim S8192x8192 ![] bcast_S_S8192x8192 (constant S_ .f32 0x00000000#32))) bitsLt_bf16_f32

theorem out_apply (dh : FVec Ideal S8192x2048 .bf16) (w : FVec Ideal S4x2x2048x2048 .bf16) (a : FVec Ideal S8192x8192 .f32) (i j : Fin 8192) :
    (out dh w a (ix2 i j) : EReal) =
      (∑ k : Fin 2048, (dh (ix2 i k) : EReal) * w (ix4 (⟨j.val / 2048, by omega⟩ : Fin 4) 0 ⟨j.val % 2048, by omega⟩ k)) *
        ((Scalar.ofBits .f32 0x40000000#32 : Ideal .f32) * max (a (ix2 i j) : EReal) 0) := by
  pointwise [out]
  split
  · rfl
  · rw [max_eq_right (not_lt.1 ‹_›), mul_zero, mul_zero]

end Cert.Ff2DxRefIdeal.Prod

namespace Cert.Ff2DxIdeal.Prod

open Idealize.ShloMosaic Idealize.ShloMosaic.TcCoe Idealize.SL.Sem
open Cert.Ff2DxIdeal Cert.Ff2DxIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1x1x1024x2048 .bf16) (h4 : a4.IsWhole)
  (a5 : Memref sig .tc .vmem S1024x1024 .bf16) (h5 : a5.IsWhole) (a6 : Memref sig .tc .vmem S1024x1024 .bf16) (h6 : a6.IsWhole)
  (a7 : Memref sig .tc .vmem S1024x1024 .f32) (h7 : a7.IsWhole)
  (x : Vec F S1024x2048 .bf16) (y : Vec F S1x1x1024x2048 .bf16) (b : Vec F S1024x1024 .bf16)

/-- The one step of a block writes its product. -/
theorem only (hc0 : cond0_0 i) (hc1 : ¬cond0_1 i) (hc2 : cond0_2 i) :
    out0_A_3 c i a3 h3 a4 h4 a5 h5 a6 h6 a7 h7 hc0 hc1 hc2 x y b = k0_pay4 (k0_pay1 x y) b := by
  unfold out0_A_3
  rw [View.read_writes_eq_canon _ _ _ (cover0_A_3 c i a3 h3 a4 h4 a5 h5 a6 h6 a7 h7 hc0 hc1 hc2 x y b)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, h5.read_unread, View.ld_unit_zero (S := S1024x2048) Mm.hz, View.ld_unit_zero (S := S1x1x1024x2048) Mm.hz4, View.ld_unit_zero (S := S1024x1024) Mm.hz, shapeCast_self]

end cases

variable (m : (ℓ : Loc nD τ sig) → Buf (Elt Ideal) ℓ) (c : Dev nD)

theorem pay1_apply (x : Vec Ideal S1024x2048 .bf16) (y : Vec Ideal S1x1x1024x2048 .bf16) (b : Vec Ideal S1024x1024 .bf16) (r n : Fin 1024) :
    (k0_pay4 (k0_pay1 x y) b (ix2 r n) : EReal) = (∑ k : Fin 2048, (x (ix2 r k) : EReal) * y (ix4 0 0 n k)) * ((Scalar.ofBits .f32 0x40000000#32 : Ideal .f32) * b (ix2 r n)) := by
  pointwise [k0_pay4, k0_pay1]

theorem at0 : ∀ t : Fin cfg0.N, win0_0.index t = ![t.val / 8, 0] ∧ win0_1.index t = ![t.val % 8 / 2, 0, t.val % 8 % 2, 0] ∧ win0_2.index t = ![t.val / 8, t.val % 8] ∧ win0_3.index t = ![t.val / 8, t.val % 8] :=
  (by decide +kernel : ∀ t : Fin grid0.N, _)

/-- The arguments. -/
abbrev dh : FVec Ideal S8192x2048 .bf16 := m ((c.tc : Thread nD τ).loc main_arg0)
abbrev w : FVec Ideal S4x2x2048x2048 .bf16 := m ((c.tc : Thread nD τ).loc main_arg1)
abbrev a : FVec Ideal S8192x8192 .f32 := m ((c.tc : Thread nD τ).loc main_arg2)

theorem iblk0_apply (t : Fin cfg0.N) (r : Fin 1024) (k : Fin 2048) (i : Fin 8192) (hi : i.val = 1024 * (t.val / 8) + r.val) :
    (iblk m c 0 t : Vec Ideal S1024x2048 .bf16) (ix2 r k) = dh m c (ix2 i k) := by
  unfold iblk
  rw [View.read_apply]
  refine (congrFun (V_main_arg0 m c) _).trans (congrArg (dh m c) (funext fun a => Fin.ext ?_))
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = k.val; rw [(at0 t).1]; show 0 * 2048 + 1 * k.val = _; omega

theorem iblk1_apply (t : Fin cfg0.N) (r : Fin 1024) (k : Fin 2048) (j : Fin 8192) (hj : j.val = 1024 * (t.val % 8) + r.val) :
    (iblk m c 1 t : Vec Ideal S1x1x1024x2048 .bf16) (ix4 0 0 r k) = w m c (ix4 (⟨j.val / 2048, by omega⟩ : Fin 4) 0 ⟨j.val % 2048, by omega⟩ k) := by
  unfold iblk
  rw [View.read_apply]
  refine (congrFun (V_main_arg1 m c) _).trans (congrArg (w m c) (funext fun a => Fin.ext ?_))
  match a with
  | ⟨0, _⟩ => show win0_1.index t 0 * 1 + 1 * 0 = j.val / 2048; rw [(at0 t).2.1, hj]; show t.val % 8 / 2 * 1 + 1 * 0 = _; omega
  | ⟨1, _⟩ => show win0_1.index t 1 * 1 + 1 * 0 = 0; rw [(at0 t).2.1]; rfl
  | ⟨2, _⟩ => show win0_1.index t 2 * 1024 + 1 * r.val = j.val % 2048; rw [(at0 t).2.1, hj]; show t.val % 8 % 2 * 1024 + 1 * r.val = _; omega
  | ⟨3, _⟩ => show win0_1.index t 3 * 2048 + 1 * k.val = k.val; rw [(at0 t).2.1]; show 0 * 2048 + 1 * k.val = _; omega

theorem V_main_v2 : (V m c main_v2 : FVec Ideal S8192x8192 .bf16) = truncf .bf16 (maximumf (a m c)
    (broadcastInDim S8192x8192 ![] bcast_S_S8192x8192 (constant S_ .f32 0x00000000#32))) bitsLt_bf16_f32 := by
  unfold V
  after_results <;> rfl

theorem iblk2_apply (t : Fin cfg0.N) (r n : Fin 1024) (i j : Fin 8192) (hi : i.val = 1024 * (t.val / 8) + r.val) (hj : j.val = 1024 * (t.val % 8) + n.val) :
    ((iblk m c 2 t : Vec Ideal S1024x1024 .bf16) (ix2 r n) : EReal) = max (a m c (ix2 i j) : EReal) 0 := by
  have h : (iblk m c 2 t : Vec Ideal S1024x1024 .bf16) (ix2 r n) = (V m c main_v2 : FVec Ideal S8192x8192 .bf16) (ix2 i j) := by
    unfold iblk
    rw [View.read_apply]
    refine congrArg (V m c main_v2 : FVec Ideal S8192x8192 .bf16) (funext fun a => Fin.ext ?_)
    match a with
    | ⟨0, _⟩ => show win0_2.index t 0 * 1024 + 1 * r.val = i.val; rw [(at0 t).2.2.1, hi]; show t.val / 8 * 1024 + 1 * r.val = _; omega
    | ⟨1, _⟩ => show win0_2.index t 1 * 1024 + 1 * n.val = j.val; rw [(at0 t).2.2.1, hj]; show t.val % 8 * 1024 + 1 * n.val = _; omega
  rw [h, V_main_v2]
  pointwise

/-- What a point writes back is its block of the reference's result, -/
theorem flushed_eq (t : Fin cfg0.N) :
    (dats m 0 c).flushed 3 t = ((cfg0.win 3).blk t).view.read (Elt Ideal) (Cert.Ff2DxRefIdeal.Prod.out (dh m c) (w m c) (a m c)) := by
  have hN : t.val < 64 := lt_of_lt_of_eq t.isLt N_0
  rw [Value.flushed3_A, only]
  funext y
  obtain ⟨r, n, rfl⟩ := Mm.at2 (a := 1024) (b := 1024) y
  have he : ((cfg0.win 3).blk t).view.emb (ix2 r n) = (ix2 (⟨1024 * (t.val / 8) + r.val, by omega⟩ : Fin 8192) (⟨1024 * (t.val % 8) + n.val, by omega⟩ : Fin 8192)) := by
    funext a
    apply Fin.ext
    match a with
    | ⟨0, _⟩ => show win0_3.index t 0 * 1024 + 1 * r.val = _; rw [(at0 t).2.2.2]; show t.val / 8 * 1024 + 1 * r.val = 1024 * (t.val / 8) + r.val; omega
    | ⟨1, _⟩ => show win0_3.index t 1 * 1024 + 1 * n.val = _; rw [(at0 t).2.2.2]; show t.val % 8 * 1024 + 1 * n.val = 1024 * (t.val % 8) + n.val; omega
  show k0_pay4 (k0_pay1 (iblk m c 0 t : Vec Ideal S1024x2048 .bf16) (iblk m c 1 t : Vec Ideal S1x1x1024x2048 .bf16)) (iblk m c 2 t : Vec Ideal S1024x1024 .bf16) (ix2 r n) = Cert.Ff2DxRefIdeal.Prod.out (dh m c) (w m c) (a m c) (((cfg0.win 3).blk t).view.emb (ix2 r n))
  rw [he, Cert.Ff2DxRefIdeal.Prod.out_apply, pay1_apply]
  rw [iblk2_apply m c t r n ⟨1024 * (t.val / 8) + r.val, by omega⟩ ⟨1024 * (t.val % 8) + n.val, by omega⟩ rfl rfl]
  refine congrArg (· * ((Scalar.ofBits .f32 0x40000000#32 : Ideal .f32) * max (a m c _ : EReal) 0)) (Finset.sum_congr rfl fun k _ => ?_)
  rw [iblk0_apply m c t r k ⟨1024 * (t.val / 8) + r.val, by omega⟩ rfl, iblk1_apply m c t n k ⟨1024 * (t.val % 8) + n.val, by omega⟩ rfl]

/-- and the points between them write every entry. -/
theorem covered (i : S8192x8192.Idx) : ∃ t : Fin cfg0.N, (cfg0.win 3).flush t = true ∧ i ∈ ((cfg0.win 3).blk t).view.set := by
  obtain ⟨p, q, rfl⟩ := Mm.at2 i
  refine ⟨⟨8 * (p.val / 1024) + q.val / 1024, lt_of_lt_of_eq (by omega) N_0.symm⟩, flush0_3 _, ?_⟩
  show _ ∈ ((View.whole main_v3).slice (win0_3.rect _)).set
  rw [View.set_slice_whole, Rect.mem_set_unit]
  intro a
  match a with
  | ⟨0, _⟩ => show win0_3.index _ 0 * 1024 ≤ p.val ∧ p.val < win0_3.index _ 0 * 1024 + 1024; rw [(at0 _).2.2.2]; dsimp only [Matrix.cons_val]; omega
  | ⟨1, _⟩ => show win0_3.index _ 1 * 1024 ≤ q.val ∧ q.val < win0_3.index _ 1 * 1024 + 1024; rw [(at0 _).2.2.2]; dsimp only [Matrix.cons_val]; omega

/-- The result array after the run. -/
theorem result_eq : (dats m 0 c).arrAt 3 cfg0.N = Cert.Ff2DxRefIdeal.Prod.out (dh m c) (w m c) (a m c) :=
  (dats m 0 c).arrAt_eq_of_cover 3 _ (fun t _ => flushed_eq m c t) covered

theorem value : Cert.algebraic_Ff2DxIdeal_Ff2DxRefIdeal := fun m g m' g' _ ha =>
  ⟨fun c => (dats m 0 c).arrAt 3 cfg0.N, Value.run_blocks m g, (θ_run Cert.Ff2DxRefIdeal.defs _ _).mono (fun r h c => ⟨(h c).1.trans (by
    obtain ⟨a0, a1, a2⟩ := ha c
    rw [a0, a1, a2]
    exact (result_eq m c).symm), (h c).2⟩) (Cert.Ff2DxRefIdeal.Value.run m' g')⟩

end Cert.Ff2DxIdeal.Prod

end
-- ==== Proof.Ff1DxValue.lean ====
/-
  The gradient of the feed-forward's input: what the call leaves in its result.
-/
module

public import proofs.«01_k».proof.Proof.Gen.Ff1DxIdeal.Value
public import proofs.«01_k».proof.Proof.Gen.Ff1DxRefIdeal.Run
public import proofs.«01_k».proof.Proof.Mm
public import proofs.«01_k».proof.Defs

@[expose] public section

set_option maxRecDepth 16384

noncomputable section

namespace Cert.Ff1DxRefIdeal.Prod

open Idealize.ShloMosaic
open Cert.Ff1DxRefIdeal Cert.Ff1DxRefIdeal.Gen
open scoped BigOperators

/-- The reference's result, of its arguments. -/
def out (da : FVec Ideal S8192x8192 .bf16) (w : FVec Ideal S4x2x2048x2048 .bf16) (dh : FVec Ideal S8192x2048 .f32) : FVec Ideal S8192x2048 .f32 :=
  addf (Host.dotGeneral dot_S8192x8192_S2048x8192_S8192x2048_1_1_0_0_n_n none (extf .f32 da bitsLt_bf16_f32)
      (extf .f32 (shapeCast _ (extractStridedSlice S1x2048x8192 ![0, 0, 0] (shapeCast _ (transpose S2x2048x4x2048 [1, 2, 0, 3] w
        transposes_S4x2x2048x2048_S2x2048x4x2048_1_2_0_3) shapeCasts_S2x2048x4x2048_S2x2048x8192) slices_S2x2048x8192_S1x2048x8192_0_0_0)
        shapeCasts_S1x2048x8192_S2048x8192) bitsLt_bf16_f32))
    (mulf (broadcastInDim S8192x2048 ![] bcast_S_S8192x2048 (constant S_ .f32 0x3FB504F3#32)) dh)

theorem out_apply (da : FVec Ideal S8192x8192 .bf16) (w : FVec Ideal S4x2x2048x2048 .bf16) (dh : FVec Ideal S8192x2048 .f32) (i : Fin 8192) (j : Fin 2048) :
    (out da w dh (ix2 i j) : EReal) =
      (∑ k : Fin 8192, (da (ix2 i k) : EReal) * w (ix4 (⟨k.val / 2048, by omega⟩ : Fin 4) 0 j ⟨k.val % 2048, by omega⟩)) +
        (Scalar.ofBits .f32 0x3FB504F3#32 : Ideal .f32) * dh (ix2 i j) := by
  pointwise [out]

end Cert.Ff1DxRefIdeal.Prod

namespace Cert.Ff1DxIdeal.Prod

open Idealize.ShloMosaic Idealize.ShloMosaic.TcCoe Idealize.SL.Sem
open Cert.Ff1DxIdeal Cert.Ff1DxIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1x1x1024x2048 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x2048 .bf16) (y : Vec F S1x1x1024x2048 .bf16) (d s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 a7 h7 hc0 hc1 hc2 x y d = k0_pay1 x y := by
  unfold sout0_A_0
  rw [View.read_writes_eq_canon _ _ _ (scover0_A_0 c i a3 h3 a4 h4 a5 h5 a6 h6 a7 h7 hc0 hc1 hc2 x y d)]
  unfold kernelRun0_A
  dsimp only
  sl_unfold_words
  rw [View.canon_unit_zero Mm.hz]
  unfold k0_pay2
  simp only [View.readAt_eq_ld, h3.read_unread, h4.read_unread, View.ld_unit_zero (S := S1024x2048) Mm.hz, View.ld_unit_zero (S := S1x1x1024x2048) Mm.hz4, shapeCast_self]

/-- a middle one adds its own to what was there, -/
theorem next (hc0 : ¬cond0_0 i) (hc1 : cond0_1 i) (hc2 : ¬cond0_2 i) :
    sout0_B_0 c i a3 h3 a4 h4 a5 h5 a6 h6 a7 h7 hc0 hc1 hc2 x y d s = addf s (k0_pay1 x y) := by
  unfold sout0_B_0
  rw [View.read_writes_eq_canon _ _ _ (scover0_B_0 c i a3 h3 a4 h4 a5 h5 a6 h6 a7 h7 hc0 hc1 hc2 x y d s)]
  unfold kernelRun0_B
  dsimp only
  sl_unfold_words
  rw [View.canon_unit_zero Mm.hz]
  unfold k0_pay3
  simp only [View.readAt_eq_ld, h3.read_unread, h4.read_unread, h7.read_unread, View.ld_unit_zero (S := S1024x2048) Mm.hz, View.ld_unit_zero (S := S1x1x1024x2048) Mm.hz4,
    View.ld_unit_zero (S := S1024x1024) Mm.hz, shapeCast_self]

/-- and the last too, and the result's block is the sum with what came beside it. -/
theorem last (hc0 : ¬cond0_0 i) (hc1 : cond0_1 i) (hc2 : cond0_2 i) :
    out0_C_3 c i a3 h3 a4 h4 a5 h5 a6 h6 a7 h7 hc0 hc1 hc2 x y d s = k0_pay4 (addf s (k0_pay1 x y)) d := by
  unfold out0_C_3
  rw [View.read_writes_eq_canon _ _ _ (cover0_C_3 c i a3 h3 a4 h4 a5 h5 a6 h6 a7 h7 hc0 hc1 hc2 x y d s)]
  unfold kernelRun0_C
  dsimp only
  sl_unfold_words
  rw [View.canon_unit_zero Mm.hz, View.readCov_unit_zero (S := S1024x1024) _ Mm.hz]
  unfold k0_pay3
  simp only [View.readAt_eq_ld, h3.read_unread, h4.read_unread, h5.read_unread, h7.read_unread, View.ld_unit_zero (S := S1024x2048) Mm.hz, View.ld_unit_zero (S := S1x1x1024x2048) Mm.hz4,
    View.ld_unit_zero (S := S1024x1024) Mm.hz, shapeCast_self]

end cases

variable (m : (ℓ : Loc nD τ sig) → Buf (Elt Ideal) ℓ) (c : Dev nD)

theorem pay1_apply (x : Vec Ideal S1024x2048 .bf16) (y : Vec Ideal S1x1x1024x2048 .bf16) (r n : Fin 1024) :
    (k0_pay1 x y (ix2 r n) : EReal) = ∑ k : Fin 2048, (x (ix2 r k) : EReal) * y (ix4 0 0 n k) := by
  pointwise [k0_pay1]

theorem pay4_apply (s d : Vec Ideal S1024x1024 .f32) (r n : Fin 1024) :
    (k0_pay4 s d (ix2 r n) : EReal) = (Scalar.ofBits .f32 0x3FB504F3#32 : Ideal .f32) * d (ix2 r n) + s (ix2 r n) := by
  pointwise [k0_pay4]

theorem at0 : ∀ t : Fin cfg0.N, win0_0.index t = ![t.val / 8, t.val % 4] ∧ win0_1.index t = ![t.val % 4, 0, t.val / 4 % 2, 0] ∧ win0_2.index t = ![t.val / 8, t.val / 4 % 2] :=
  (by decide +kernel : ∀ t : Fin grid0.N, _)

/-- The arguments. -/
abbrev da : FVec Ideal S8192x8192 .bf16 := m ((c.tc : Thread nD τ).loc main_arg0)
abbrev w : FVec Ideal S4x2x2048x2048 .bf16 := m ((c.tc : Thread nD τ).loc main_arg1)
abbrev dh : FVec Ideal S8192x2048 .f32 := m ((c.tc : Thread nD τ).loc main_arg2)

theorem iblk0_apply (t : Fin cfg0.N) (r : Fin 1024) (k : Fin 2048) (i j : Fin 8192) (hi : i.val = 1024 * (t.val / 8) + r.val) (hj : j.val = 2048 * (t.val % 4) + k.val) :
    (iblk m c 0 t : Vec Ideal S1024x2048 .bf16) (ix2 r k) = da m c (ix2 i j) := by
  unfold iblk
  rw [View.read_apply]
  refine congrArg (da m c) (funext fun a => Fin.ext ?_)
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = j.val; rw [(at0 t).1, hj]; show t.val % 4 * 2048 + 1 * k.val = _; omega

theorem iblk1_apply (t : Fin cfg0.N) (r : Fin 1024) (k : Fin 2048) (p : Fin 4) (q j : Fin 2048) (hp : p.val = t.val % 4) (hq : q = k) (hj : j.val = 1024 * (t.val / 4 % 2) + r.val) :
    (iblk m c 1 t : Vec Ideal S1x1x1024x2048 .bf16) (ix4 0 0 r k) = w m c (ix4 p 0 j q) := by
  subst hq
  unfold iblk
  rw [View.read_apply]
  refine congrArg (w m c) (funext fun a => Fin.ext ?_)
  match a with
  | ⟨0, _⟩ => show win0_1.index t 0 * 1 + 1 * 0 = p.val; rw [(at0 t).2.1, hp]; show t.val % 4 * 1 + 1 * 0 = _; omega
  | ⟨1, _⟩ => show win0_1.index t 1 * 1 + 1 * 0 = 0; rw [(at0 t).2.1]; rfl
  | ⟨2, _⟩ => show win0_1.index t 2 * 1024 + 1 * r.val = j.val; rw [(at0 t).2.1, hj]; show t.val / 4 % 2 * 1024 + 1 * r.val = _; omega
  | ⟨3, _⟩ => show win0_1.index t 3 * 2048 + 1 * q.val = q.val; rw [(at0 t).2.1]; show 0 * 2048 + 1 * q.val = _; omega

theorem iblk2_apply (t : Fin cfg0.N) (r n : Fin 1024) (i : Fin 8192) (j : Fin 2048) (hi : i.val = 1024 * (t.val / 8) + r.val) (hj : j.val = 1024 * (t.val / 4 % 2) + n.val) :
    (iblk m c 2 t : Vec Ideal S1024x1024 .f32) (ix2 r n) = dh m c (ix2 i j) := by
  unfold iblk
  rw [View.read_apply]
  refine congrArg (dh m c) (funext fun a => Fin.ext ?_)
  match a with
  | ⟨0, _⟩ => show win0_2.index t 0 * 1024 + 1 * r.val = i.val; rw [(at0 t).2.2, hi]; show t.val / 8 * 1024 + 1 * r.val = _; omega
  | ⟨1, _⟩ => show win0_2.index t 1 * 1024 + 1 * n.val = j.val; rw [(at0 t).2.2, hj]; show t.val / 4 % 2 * 1024 + 1 * n.val = _; omega

/-- The terms of an entry of the product, and what the last step makes of their sum. -/
def terms (i : Fin 8192) (j : Fin 2048) (k : Fin 8192) : EReal := (da m c (ix2 i k) : EReal) * w m c (ix4 (⟨k.val / 2048, by omega⟩ : Fin 4) 0 j ⟨k.val % 2048, by omega⟩)
def withDh (i : Fin 8192) (j : Fin 2048) (a : EReal) : EReal := (Scalar.ofBits .f32 0x3FB504F3#32 : Ideal .f32) * dh m c (ix2 i j) + a

theorem part_apply (t : Fin cfg0.N) (r n : Fin 1024) (i : Fin 8192) (j : Fin 2048) (hi : i.val = 1024 * (t.val / 8) + r.val) (hj : j.val = 1024 * (t.val / 4 % 2) + n.val) :
    (k0_pay1 (iblk m c 0 t : Vec Ideal S1024x2048 .bf16) (iblk m c 1 t : Vec Ideal S1x1x1024x2048 .bf16) (ix2 r n) : EReal) = Mm.part (terms m c i j) 2048 (t.val % 4) := by
  rw [pay1_apply]
  refine Mm.part_eq _ _ (by omega) fun k => ?_
  rw [iblk0_apply m c t r k i ⟨2048 * (t.val % 4) + k.val, by omega⟩ hi rfl,
    iblk1_apply m c t n k ⟨(2048 * (t.val % 4) + k.val) / 2048, by omega⟩ ⟨(2048 * (t.val % 4) + k.val) % 2048, by omega⟩ j (by dsimp only; omega) (Fin.ext (by dsimp only; omega)) hj]
  rfl

/-- The block a last step writes. -/
theorem block (t : Fin cfg0.N) (ht : t.val % 4 = 3) (r n : Fin 1024) (i : Fin 8192) (j : Fin 2048) (hi : i.val = 1024 * (t.val / 8) + r.val) (hj : j.val = 1024 * (t.val / 4 % 2) + n.val) :
    ((outsAt0 m c t.val t.isLt).1 (ix2 r n) : EReal) = withDh m c i j (∑ k : Fin 8192, terms m c i j k) := by
  refine Mm.out_eq_of (terms m c i j) (withDh m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last, pay4_apply, iblk2_apply m c ⟨p + 1, h⟩ r n i j (by dsimp only; omega) (by dsimp only; omega)]
    exact congrArg (fun a => withDh m c i j (_ + a)) (part_apply m c ⟨p + 1, h⟩ r n i j (by dsimp only; omega) (by dsimp only; omega))

/-- The result array after the run. -/
theorem result (i : Fin 8192) (j : Fin 2048) : (Value.G3 m c (ix2 i j) : EReal) = withDh m c i j (∑ k : Fin 8192, terms m c i j k) := by
  have hN : cfg0.N = 64 := N_0
  have hp : Value.pt3Of (ix2 i j) = 4 * (2 * (i.val / 1024) + j.val / 1024) + 3 := by
    show 4 * (2 * (i.val / 1024 - 0) + 1 * (j.val / 1024 - 0)) + 3 = _
    omega
  have hl : Value.pt3Of (ix2 i j) < cfg0.N := by rw [hp, hN]; omega
  have hi : Value.loc3Of (ix2 i j) = ix2 (⟨i.val % 1024, by omega⟩ : Fin 1024) (⟨j.val % 1024, by omega⟩ : Fin 1024) := by
    funext a
    match a with
    | ⟨0, _⟩ => rfl
    | ⟨1, _⟩ => rfl
  unfold Value.G3
  rw [dif_pos hl, ← Value.outsAt0_sweep m c _ hl, hi]
  exact block m c ⟨Value.pt3Of (ix2 i j), hl⟩ (by dsimp only; omega) _ _ i j (by dsimp only; omega) (by dsimp only; omega)

theorem result_eq : Value.G3 m c = Cert.Ff1DxRefIdeal.Prod.out (da m c) (w m c) (dh m c) := funext fun i => by
  obtain ⟨p, q, rfl⟩ := Mm.at2 i
  rw [Cert.Ff1DxRefIdeal.Prod.out_apply]
  exact (result m c p q).trans (add_comm (G := EReal) _ _)

theorem value : Cert.algebraic_Ff1DxIdeal_Ff1DxRefIdeal := fun m g m' g' _ ha =>
  ⟨Value.G3 m, Value.run m g, (θ_run Cert.Ff1DxRefIdeal.defs _ _).mono (fun r h c => ⟨(h c).1.trans (by
    obtain ⟨a0, a1, a2⟩ := ha c
    rw [a0, a1, a2]
    exact (result_eq m c).symm), (h c).2⟩) (Cert.Ff1DxRefIdeal.Value.run m' g')⟩

end Cert.Ff1DxIdeal.Prod

end
-- ==== Proof.Ff1NextValue.lean ====
/-
  The feed-forward layer's hidden units: what the call leaves in its two results, in the second layer.
-/
module

public import proofs.«01_k».proof.Proof.Gen.Ff1NextIdeal.Value
public import proofs.«01_k».proof.Proof.Gen.Ff1NextRefIdeal.Run
public import proofs.«01_k».proof.Proof.Mm
public import proofs.«01_k».proof.Defs

@[expose] public section

set_option maxRecDepth 16384

noncomputable section

namespace Cert.Ff1NextRefIdeal.Prod

open Idealize.ShloMosaic
open Cert.Ff1NextRefIdeal Cert.Ff1NextRefIdeal.Gen
open scoped BigOperators

/-- The hidden units before the nonlinearity, of the reference's arguments, -/
def pre (x : FVec Ideal S8192x2048 .bf16) (w : FVec Ideal S4x2x2048x2048 .bf16) : FVec Ideal S8192x8192 .f32 :=
  Host.dotGeneral dot_S8192x2048_S2048x8192_S8192x8192_1_0_0_1_n_n none (extf .f32 x bitsLt_bf16_f32)
    (extf .f32 (shapeCast _ (extractStridedSlice S1x2048x8192 ![1, 0, 0] (shapeCast _ (transpose S2x2048x4x2048 [1, 2, 0, 3] w
      transposes_S4x2x2048x2048_S2x2048x4x2048_1_2_0_3) shapeCasts_S2x2048x4x2048_S2x2048x8192) slices_S2x2048x8192_S1x2048x8192_1_0_0)
      shapeCasts_S1x2048x8192_S2048x8192) bitsLt_bf16_f32)

/-- and the two results made of them. -/
def relu (x : FVec Ideal S8192x2048 .bf16) (w : FVec Ideal S4x2x2048x2048 .bf16) : FVec Ideal S8192x8192 .bf16 :=
  truncf .bf16 (maximumf (pre x w) (broadcastInDim S8192x8192 ![] bcast_S_S8192x8192 (constant S_ .f32 0x00000000#32))) bitsLt_bf16_f32
def sq (x : FVec Ideal S8192x2048 .bf16) (w : FVec Ideal S4x2x2048x2048 .bf16) : FVec Ideal S8192x8192 .bf16 :=
  truncf .bf16 (mulf (maximumf (pre x w) (broadcastInDim S8192x8192 ![] bcast_S_S8192x8192 (constant S_ .f32 0x00000000#32))) (maximumf (pre x w) (broadcastInDim S8192x8192 ![] bcast_S_S8192x8192 (constant S_ .f32 0x00000000#32)))) bitsLt_bf16_f32

theorem pre_apply (x : FVec Ideal S8192x2048 .bf16) (w : FVec Ideal S4x2x2048x2048 .bf16) (i j : Fin 8192) :
    (pre x w (ix2 i j) : EReal) = ∑ k : Fin 2048, (x (ix2 i k) : EReal) * w (ix4 (⟨j.val / 2048, by omega⟩ : Fin 4) 1 k ⟨j.val % 2048, by omega⟩) := by
  pointwise [pre]

theorem relu_apply (x : FVec Ideal S8192x2048 .bf16) (w : FVec Ideal S4x2x2048x2048 .bf16) (i j : Fin 8192) :
    (relu x w (ix2 i j) : EReal) = max (pre x w (ix2 i j) : EReal) 0 := by
  pointwise [relu]

theorem sq_apply (x : FVec Ideal S8192x2048 .bf16) (w : FVec Ideal S4x2x2048x2048 .bf16) (i j : Fin 8192) :
    (sq x w (ix2 i j) : EReal) = max (pre x w (ix2 i j) : EReal) 0 * max (pre x w (ix2 i j) : EReal) 0 := by
  pointwise [sq]

end Cert.Ff1NextRefIdeal.Prod

namespace Cert.Ff1NextIdeal.Prod

open Idealize.ShloMosaic Idealize.ShloMosaic.TcCoe Idealize.SL.Sem
open Cert.Ff1NextIdeal Cert.Ff1NextIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1x1x2048x1024 .bf16) (h4 : a4.IsWhole)
  (a5 : Memref sig .tc .vmem S1024x1024 .bf16) (h5 : a5.IsWhole) (a6 : Memref sig .tc .vmem S1024x1024 .bf16) (h6 : a6.IsWhole)
  (a7 : Memref sig .tc .vmem S1024x1024 .f32) (h7 : a7.IsWhole)
  (x : Vec F S1024x2048 .bf16) (y : Vec F S1x1x2048x1024 .bf16)

/-- The one step of a block writes the square of its hidden units, -/
theorem only2 (hc0 : cond0_0 i) (hc1 : ¬cond0_1 i) (hc2 : cond0_2 i) :
    out0_A_2 c i a3 h3 a4 h4 a5 h5 a6 h6 a7 h7 hc0 hc1 hc2 x y = k0_pay4 (k0_pay1 x y) := by
  unfold out0_A_2
  rw [View.read_writes_eq_canon _ _ _ (cover0_A_2 c i a3 h3 a4 h4 a5 h5 a6 h6 a7 h7 hc0 hc1 hc2 x y)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, View.ld_unit_zero (S := S1024x2048) Mm.hz, View.ld_unit_zero (S := S1x1x2048x1024) Mm.hz4, shapeCast_self]

/-- and the units. -/
theorem only3 (hc0 : cond0_0 i) (hc1 : ¬cond0_1 i) (hc2 : cond0_2 i) :
    out0_A_3 c i a3 h3 a4 h4 a5 h5 a6 h6 a7 h7 hc0 hc1 hc2 x y = k0_pay5 (k0_pay1 x y) := by
  unfold out0_A_3
  rw [View.read_writes_eq_canon _ _ _ (cover0_A_3 c i a3 h3 a4 h4 a5 h5 a6 h6 a7 h7 hc0 hc1 hc2 x y)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, View.ld_unit_zero (S := S1024x2048) Mm.hz, View.ld_unit_zero (S := S1x1x2048x1024) Mm.hz4, shapeCast_self]

end cases

variable (m : (ℓ : Loc nD τ sig) → Buf (Elt Ideal) ℓ) (c : Dev nD)

theorem pay1_apply (x : Vec Ideal S1024x2048 .bf16) (y : Vec Ideal S1x1x2048x1024 .bf16) (r n : Fin 1024) :
    (k0_pay1 x y (ix2 r n) : EReal) = ∑ k : Fin 2048, (x (ix2 r k) : EReal) * y (ix4 0 0 k n) := by
  pointwise [k0_pay1]

theorem pay4_apply (z : Vec Ideal S1024x1024 .f32) (r n : Fin 1024) : (k0_pay4 z (ix2 r n) : EReal) = max (z (ix2 r n) : EReal) 0 * max (z (ix2 r n) : EReal) 0 := by
  pointwise [k0_pay4]

theorem pay5_apply (z : Vec Ideal S1024x1024 .f32) (r n : Fin 1024) : (k0_pay5 z (ix2 r n) : EReal) = max (z (ix2 r n) : EReal) 0 := by
  pointwise [k0_pay5]

theorem at0 : ∀ t : Fin cfg0.N, win0_0.index t = ![t.val / 8, 0] ∧ win0_1.index t = ![t.val % 8 / 2, 1, 0, t.val % 8 % 2] ∧ win0_2.index t = ![t.val / 8, t.val % 8] ∧ win0_3.index t = ![t.val / 8, t.val % 8] :=
  (by decide +kernel : ∀ t : Fin grid0.N, _)

/-- The arguments. -/
abbrev x : FVec Ideal S8192x2048 .bf16 := m ((c.tc : Thread nD τ).loc main_arg0)
abbrev w : FVec Ideal S4x2x2048x2048 .bf16 := m ((c.tc : Thread nD τ).loc main_arg1)

theorem iblk0_apply (t : Fin cfg0.N) (r : Fin 1024) (k : Fin 2048) (i : Fin 8192) (hi : i.val = 1024 * (t.val / 8) + r.val) :
    (iblk m c 0 t : Vec Ideal S1024x2048 .bf16) (ix2 r k) = x m c (ix2 i k) := by
  unfold iblk
  rw [View.read_apply]
  refine congrArg (x m c) (funext fun a => Fin.ext ?_)
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = k.val; rw [(at0 t).1]; show 0 * 2048 + 1 * k.val = _; omega

theorem iblk1_apply (t : Fin cfg0.N) (k : Fin 2048) (r : Fin 1024) (j : Fin 8192) (hj : j.val = 1024 * (t.val % 8) + r.val) :
    (iblk m c 1 t : Vec Ideal S1x1x2048x1024 .bf16) (ix4 0 0 k r) = w m c (ix4 (⟨j.val / 2048, by omega⟩ : Fin 4) 1 k ⟨j.val % 2048, by omega⟩) := by
  unfold iblk
  rw [View.read_apply]
  refine congrArg (w m c) (funext fun a => Fin.ext ?_)
  match a with
  | ⟨0, _⟩ => show win0_1.index t 0 * 1 + 1 * 0 = j.val / 2048; rw [(at0 t).2.1, hj]; show t.val % 8 / 2 * 1 + 1 * 0 = _; omega
  | ⟨1, _⟩ => show win0_1.index t 1 * 1 + 1 * 0 = 1; rw [(at0 t).2.1]; rfl
  | ⟨2, _⟩ => show win0_1.index t 2 * 2048 + 1 * k.val = k.val; rw [(at0 t).2.1]; show 0 * 2048 + 1 * k.val = _; omega
  | ⟨3, _⟩ => show win0_1.index t 3 * 1024 + 1 * r.val = j.val % 2048; rw [(at0 t).2.1, hj]; show t.val % 8 % 2 * 1024 + 1 * r.val = _; omega

/-- Where a result's block lies, -/
theorem emb_eq (t : Fin cfg0.N) (r n : Fin 1024) (i : Fin 8192) (hi : i.val = 1024 * (t.val / 8) + r.val) (j : Fin 8192) (hj : j.val = 1024 * (t.val % 8) + n.val) :
    ((cfg0.win 2).blk t).view.emb (ix2 r n) = (ix2 i j : S8192x8192.Idx) := by
  funext a
  apply Fin.ext
  match a with
  | ⟨0, _⟩ => show win0_2.index t 0 * 1024 + 1 * r.val = i.val; rw [(at0 t).2.2.1, hi]; show t.val / 8 * 1024 + 1 * r.val = _; omega
  | ⟨1, _⟩ => show win0_2.index t 1 * 1024 + 1 * n.val = j.val; rw [(at0 t).2.2.1, hj]; show t.val % 8 * 1024 + 1 * n.val = _; omega

/-- the hidden units of a block, -/
theorem pay1_eq (t : Fin cfg0.N) (r n : Fin 1024) (i : Fin 8192) (hi : i.val = 1024 * (t.val / 8) + r.val) (j : Fin 8192) (hj : j.val = 1024 * (t.val % 8) + n.val) :
    k0_pay1 (iblk m c 0 t : Vec Ideal S1024x2048 .bf16) (iblk m c 1 t : Vec Ideal S1x1x2048x1024 .bf16) (ix2 r n) = Cert.Ff1NextRefIdeal.Prod.pre (x m c) (w m c) (ix2 i j) := by
  refine (pay1_apply _ _ r n).trans (Eq.trans (Finset.sum_congr rfl fun k _ => ?_) (Cert.Ff1NextRefIdeal.Prod.pre_apply (x m c) (w m c) i j).symm)
  rw [iblk0_apply m c t r k i hi, iblk1_apply m c t k n j hj]

/-- what a point writes back, -/
theorem flushed_sq (t : Fin cfg0.N) : (dats m 0 c).flushed 2 t = ((cfg0.win 2).blk t).view.read (Elt Ideal) (Cert.Ff1NextRefIdeal.Prod.sq (x m c) (w m c)) := by
  have hN : t.val < 64 := lt_of_lt_of_eq t.isLt N_0
  rw [Value.flushed2_A, only2]
  funext y
  obtain ⟨r, n, rfl⟩ := Mm.at2 (a := 1024) (b := 1024) y
  show k0_pay4 (k0_pay1 (iblk m c 0 t : Vec Ideal S1024x2048 .bf16) (iblk m c 1 t : Vec Ideal S1x1x2048x1024 .bf16)) (ix2 r n) =
    Cert.Ff1NextRefIdeal.Prod.sq (x m c) (w m c) (((cfg0.win 2).blk t).view.emb (ix2 r n))
  rw [show ((cfg0.win 2).blk t).view.emb (ix2 r n) = _ from emb_eq t r n ⟨1024 * (t.val / 8) + r.val, by omega⟩ rfl ⟨1024 * (t.val % 8) + n.val, by omega⟩ rfl,
    Cert.Ff1NextRefIdeal.Prod.sq_apply, pay4_apply, pay1_eq m c t r n ⟨1024 * (t.val / 8) + r.val, by omega⟩ rfl ⟨1024 * (t.val % 8) + n.val, by omega⟩ rfl]

theorem flushed_relu (t : Fin cfg0.N) : (dats m 0 c).flushed 3 t = ((cfg0.win 3).blk t).view.read (Elt Ideal) (Cert.Ff1NextRefIdeal.Prod.relu (x m c) (w m c)) := by
  have hN : t.val < 64 := lt_of_lt_of_eq t.isLt N_0
  rw [Value.flushed3_A, only3]
  funext y
  obtain ⟨r, n, rfl⟩ := Mm.at2 (a := 1024) (b := 1024) y
  show k0_pay5 (k0_pay1 (iblk m c 0 t : Vec Ideal S1024x2048 .bf16) (iblk m c 1 t : Vec Ideal S1x1x2048x1024 .bf16)) (ix2 r n) =
    Cert.Ff1NextRefIdeal.Prod.relu (x m c) (w m c) (((cfg0.win 3).blk t).view.emb (ix2 r n))
  rw [show ((cfg0.win 3).blk t).view.emb (ix2 r n) = _ from emb_eq t r n ⟨1024 * (t.val / 8) + r.val, by omega⟩ rfl ⟨1024 * (t.val % 8) + n.val, by omega⟩ rfl,
    Cert.Ff1NextRefIdeal.Prod.relu_apply, pay5_apply, pay1_eq m c t r n ⟨1024 * (t.val / 8) + r.val, by omega⟩ rfl ⟨1024 * (t.val % 8) + n.val, by omega⟩ rfl]

/-- and the points between them write every entry. -/
theorem covered (i : S8192x8192.Idx) : ∃ t : Fin cfg0.N, i ∈ ((cfg0.win 2).blk t).view.set := by
  obtain ⟨p, q, rfl⟩ := Mm.at2 i
  refine ⟨⟨8 * (p.val / 1024) + q.val / 1024, lt_of_lt_of_eq (by omega) N_0.symm⟩, ?_⟩
  show _ ∈ ((View.whole main_v0_0).slice (win0_2.rect _)).set
  rw [View.set_slice_whole, Rect.mem_set_unit]
  intro a
  match a with
  | ⟨0, _⟩ => show win0_2.index _ 0 * 1024 ≤ p.val ∧ p.val < win0_2.index _ 0 * 1024 + 1024; rw [(at0 _).2.2.1]; dsimp only [Matrix.cons_val]; omega
  | ⟨1, _⟩ => show win0_2.index _ 1 * 1024 ≤ q.val ∧ q.val < win0_2.index _ 1 * 1024 + 1024; rw [(at0 _).2.2.1]; dsimp only [Matrix.cons_val]; omega

/-- The result arrays after the run. -/
theorem sq_eq : (dats m 0 c).arrAt 2 cfg0.N = Cert.Ff1NextRefIdeal.Prod.sq (x m c) (w m c) :=
  (dats m 0 c).arrAt_eq_of_cover 2 _ (fun t _ => flushed_sq m c t) fun i => (covered i).imp fun t h => ⟨flush0_2 t, h⟩

theorem relu_eq : (dats m 0 c).arrAt 3 cfg0.N = Cert.Ff1NextRefIdeal.Prod.relu (x m c) (w m c) :=
  (dats m 0 c).arrAt_eq_of_cover 3 _ (fun t _ => flushed_relu m c t) fun i => (covered i).imp fun t h => ⟨flush0_3 t, h⟩

theorem value : Cert.algebraic_Ff1NextIdeal_Ff1NextRefIdeal := fun m g m' g' _ ha =>
  ⟨fun c => (dats m 0 c).arrAt 2 cfg0.N, fun c => (dats m 0 c).arrAt 3 cfg0.N, Value.run_blocks m g, (θ_run Cert.Ff1NextRefIdeal.defs _ _).mono (fun r h c => ⟨(h c).1.trans (by
    obtain ⟨a0, a1⟩ := ha c
    rw [a0, a1]
    exact (sq_eq m c).symm), (h c).2.1.trans (by
    obtain ⟨a0, a1⟩ := ha c
    rw [a0, a1]
    exact (relu_eq m c).symm), (h c).2.2⟩) (Cert.Ff1NextRefIdeal.Value.run m' g')⟩

end Cert.Ff1NextIdeal.Prod

end
-- ==== Proof.Ff2NextValue.lean ====
/-
  The second feed-forward product: what the call leaves in its result, in the second layer.
-/
module

public import proofs.«01_k».proof.Proof.Gen.Ff2NextIdeal.Value
public import proofs.«01_k».proof.Proof.Gen.Ff2NextRefIdeal.Run
public import proofs.«01_k».proof.Proof.Mm
public import proofs.«01_k».proof.Defs

@[expose] public section

set_option maxRecDepth 16384

noncomputable section

namespace Cert.Ff2NextRefIdeal.Prod

open Idealize.ShloMosaic
open Cert.Ff2NextRefIdeal Cert.Ff2NextRefIdeal.Gen
open scoped BigOperators

/-- The reference's result, of its arguments. -/
def out (hid : FVec Ideal S8192x8192 .bf16) (w : FVec Ideal S4x2x2048x2048 .bf16) (x : FVec Ideal S8192x2048 .f32) : FVec Ideal S8192x2048 .f32 :=
  addf (mulf (broadcastInDim S8192x2048 ![] bcast_S_S8192x2048 (constant S_ .f32 0x3FB504F3#32)) x)
    (Host.dotGeneral dot_S8192x8192_S8192x2048_S8192x2048_1_0_0_1_n_n none (extf .f32 hid bitsLt_bf16_f32)
      (extf .f32 (shapeCast _ (extractStridedSlice S1x8192x2048 ![1, 0, 0] (shapeCast _ (transpose S2x4x2048x2048 [1, 0, 2, 3] w
        transposes_S4x2x2048x2048_S2x4x2048x2048_1_0_2_3) shapeCasts_S2x4x2048x2048_S2x8192x2048) slices_S2x8192x2048_S1x8192x2048_1_0_0)
        shapeCasts_S1x8192x2048_S8192x2048) bitsLt_bf16_f32))

theorem out_apply (hid : FVec Ideal S8192x8192 .bf16) (w : FVec Ideal S4x2x2048x2048 .bf16) (x : FVec Ideal S8192x2048 .f32) (i : Fin 8192) (j : Fin 2048) :
    (out hid w x (ix2 i j) : EReal) = (Scalar.ofBits .f32 0x3FB504F3#32 : Ideal .f32) * x (ix2 i j) +
      ∑ k : Fin 8192, (hid (ix2 i k) : EReal) * w (ix4 (⟨k.val / 2048, by omega⟩ : Fin 4) 1 ⟨k.val % 2048, by omega⟩ j) := by
  pointwise [out]

end Cert.Ff2NextRefIdeal.Prod

namespace Cert.Ff2NextIdeal.Prod

open Idealize.ShloMosaic Idealize.ShloMosaic.TcCoe Idealize.SL.Sem
open Cert.Ff2NextIdeal Cert.Ff2NextIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1x1x2048x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x2048 .bf16) (y : Vec F S1x1x2048x1024 .bf16) (d s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 a7 h7 hc0 hc1 hc2 x y d = k0_pay1 x y := by
  unfold sout0_A_0
  rw [View.read_writes_eq_canon _ _ _ (scover0_A_0 c i a3 h3 a4 h4 a5 h5 a6 h6 a7 h7 hc0 hc1 hc2 x y d)]
  unfold kernelRun0_A
  dsimp only
  sl_unfold_words
  rw [View.canon_unit_zero Mm.hz]
  unfold k0_pay2
  simp only [View.readAt_eq_ld, h3.read_unread, h4.read_unread, View.ld_unit_zero (S := S1024x2048) Mm.hz, View.ld_unit_zero (S := S1x1x2048x1024) Mm.hz4, shapeCast_self]

/-- a middle one adds its own to what was there, -/
theorem next (hc0 : ¬cond0_0 i) (hc1 : cond0_1 i) (hc2 : ¬cond0_2 i) :
    sout0_B_0 c i a3 h3 a4 h4 a5 h5 a6 h6 a7 h7 hc0 hc1 hc2 x y d s = addf s (k0_pay1 x y) := by
  unfold sout0_B_0
  rw [View.read_writes_eq_canon _ _ _ (scover0_B_0 c i a3 h3 a4 h4 a5 h5 a6 h6 a7 h7 hc0 hc1 hc2 x y d s)]
  unfold kernelRun0_B
  dsimp only
  sl_unfold_words
  rw [View.canon_unit_zero Mm.hz]
  unfold k0_pay3
  simp only [View.readAt_eq_ld, h3.read_unread, h4.read_unread, h7.read_unread, View.ld_unit_zero (S := S1024x2048) Mm.hz, View.ld_unit_zero (S := S1x1x2048x1024) Mm.hz4,
    View.ld_unit_zero (S := S1024x1024) Mm.hz, shapeCast_self]

/-- and the last too, and the result's block is the sum with what came beside it. -/
theorem last (hc0 : ¬cond0_0 i) (hc1 : cond0_1 i) (hc2 : cond0_2 i) :
    out0_C_3 c i a3 h3 a4 h4 a5 h5 a6 h6 a7 h7 hc0 hc1 hc2 x y d s = k0_pay4 (addf s (k0_pay1 x y)) d := by
  unfold out0_C_3
  rw [View.read_writes_eq_canon _ _ _ (cover0_C_3 c i a3 h3 a4 h4 a5 h5 a6 h6 a7 h7 hc0 hc1 hc2 x y d s)]
  unfold kernelRun0_C
  dsimp only
  sl_unfold_words
  rw [View.canon_unit_zero Mm.hz, View.readCov_unit_zero (S := S1024x1024) _ Mm.hz]
  unfold k0_pay3
  simp only [View.readAt_eq_ld, h3.read_unread, h4.read_unread, h5.read_unread, h7.read_unread, View.ld_unit_zero (S := S1024x2048) Mm.hz, View.ld_unit_zero (S := S1x1x2048x1024) Mm.hz4,
    View.ld_unit_zero (S := S1024x1024) Mm.hz, shapeCast_self]

end cases

variable (m : (ℓ : Loc nD τ sig) → Buf (Elt Ideal) ℓ) (c : Dev nD)

theorem pay1_apply (x : Vec Ideal S1024x2048 .bf16) (y : Vec Ideal S1x1x2048x1024 .bf16) (r n : Fin 1024) :
    (k0_pay1 x y (ix2 r n) : EReal) = ∑ k : Fin 2048, (x (ix2 r k) : EReal) * y (ix4 0 0 k n) := by
  pointwise [k0_pay1]

theorem pay4_apply (s d : Vec Ideal S1024x1024 .f32) (r n : Fin 1024) :
    (k0_pay4 s d (ix2 r n) : EReal) = (Scalar.ofBits .f32 0x3FB504F3#32 : Ideal .f32) * d (ix2 r n) + s (ix2 r n) := by
  pointwise [k0_pay4]

theorem at0 : ∀ t : Fin cfg0.N, win0_0.index t = ![t.val / 8, t.val % 4] ∧ win0_1.index t = ![t.val % 4, 1, 0, t.val / 4 % 2] ∧ win0_2.index t = ![t.val / 8, t.val / 4 % 2] :=
  (by decide +kernel : ∀ t : Fin grid0.N, _)

/-- The arguments. -/
abbrev hid : FVec Ideal S8192x8192 .bf16 := m ((c.tc : Thread nD τ).loc main_arg0)
abbrev w : FVec Ideal S4x2x2048x2048 .bf16 := m ((c.tc : Thread nD τ).loc main_arg1)
abbrev x : FVec Ideal S8192x2048 .f32 := m ((c.tc : Thread nD τ).loc main_arg2)

theorem iblk0_apply (t : Fin cfg0.N) (r : Fin 1024) (k : Fin 2048) (i j : Fin 8192) (hi : i.val = 1024 * (t.val / 8) + r.val) (hj : j.val = 2048 * (t.val % 4) + k.val) :
    (iblk m c 0 t : Vec Ideal S1024x2048 .bf16) (ix2 r k) = hid m c (ix2 i j) := by
  unfold iblk
  rw [View.read_apply]
  refine congrArg (hid m c) (funext fun a => Fin.ext ?_)
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = j.val; rw [(at0 t).1, hj]; show t.val % 4 * 2048 + 1 * k.val = _; omega

theorem iblk1_apply (t : Fin cfg0.N) (r : Fin 1024) (k : Fin 2048) (p : Fin 4) (q j : Fin 2048) (hp : p.val = t.val % 4) (hq : q = k) (hj : j.val = 1024 * (t.val / 4 % 2) + r.val) :
    (iblk m c 1 t : Vec Ideal S1x1x2048x1024 .bf16) (ix4 0 0 k r) = w m c (ix4 p 1 q j) := by
  subst hq
  unfold iblk
  rw [View.read_apply]
  refine congrArg (w m c) (funext fun a => Fin.ext ?_)
  match a with
  | ⟨0, _⟩ => show win0_1.index t 0 * 1 + 1 * 0 = p.val; rw [(at0 t).2.1, hp]; show t.val % 4 * 1 + 1 * 0 = _; omega
  | ⟨1, _⟩ => show win0_1.index t 1 * 1 + 1 * 0 = 1; rw [(at0 t).2.1]; rfl
  | ⟨2, _⟩ => show win0_1.index t 2 * 2048 + 1 * q.val = q.val; rw [(at0 t).2.1]; show 0 * 2048 + 1 * q.val = _; omega
  | ⟨3, _⟩ => show win0_1.index t 3 * 1024 + 1 * r.val = j.val; rw [(at0 t).2.1, hj]; show t.val / 4 % 2 * 1024 + 1 * r.val = _; omega

theorem iblk2_apply (t : Fin cfg0.N) (r n : Fin 1024) (i : Fin 8192) (j : Fin 2048) (hi : i.val = 1024 * (t.val / 8) + r.val) (hj : j.val = 1024 * (t.val / 4 % 2) + n.val) :
    (iblk m c 2 t : Vec Ideal S1024x1024 .f32) (ix2 r n) = x m c (ix2 i j) := by
  unfold iblk
  rw [View.read_apply]
  refine congrArg (x m c) (funext fun a => Fin.ext ?_)
  match a with
  | ⟨0, _⟩ => show win0_2.index t 0 * 1024 + 1 * r.val = i.val; rw [(at0 t).2.2, hi]; show t.val / 8 * 1024 + 1 * r.val = _; omega
  | ⟨1, _⟩ => show win0_2.index t 1 * 1024 + 1 * n.val = j.val; rw [(at0 t).2.2, hj]; show t.val / 4 % 2 * 1024 + 1 * n.val = _; omega

/-- The terms of an entry of the product, and what the last step makes of their sum. -/
def terms (i : Fin 8192) (j : Fin 2048) (k : Fin 8192) : EReal := (hid m c (ix2 i k) : EReal) * w m c (ix4 (⟨k.val / 2048, by omega⟩ : Fin 4) 1 ⟨k.val % 2048, by omega⟩ j)
def withX (i : Fin 8192) (j : Fin 2048) (a : EReal) : EReal := (Scalar.ofBits .f32 0x3FB504F3#32 : Ideal .f32) * x m c (ix2 i j) + a

theorem part_apply (t : Fin cfg0.N) (r n : Fin 1024) (i : Fin 8192) (j : Fin 2048) (hi : i.val = 1024 * (t.val / 8) + r.val) (hj : j.val = 1024 * (t.val / 4 % 2) + n.val) :
    (k0_pay1 (iblk m c 0 t : Vec Ideal S1024x2048 .bf16) (iblk m c 1 t : Vec Ideal S1x1x2048x1024 .bf16) (ix2 r n) : EReal) = Mm.part (terms m c i j) 2048 (t.val % 4) := by
  rw [pay1_apply]
  refine Mm.part_eq _ _ (by omega) fun k => ?_
  rw [iblk0_apply m c t r k i ⟨2048 * (t.val % 4) + k.val, by omega⟩ hi rfl,
    iblk1_apply m c t n k ⟨(2048 * (t.val % 4) + k.val) / 2048, by omega⟩ ⟨(2048 * (t.val % 4) + k.val) % 2048, by omega⟩ j (by dsimp only; omega) (Fin.ext (by dsimp only; omega)) hj]
  rfl

/-- The block a last step writes. -/
theorem block (t : Fin cfg0.N) (ht : t.val % 4 = 3) (r n : Fin 1024) (i : Fin 8192) (j : Fin 2048) (hi : i.val = 1024 * (t.val / 8) + r.val) (hj : j.val = 1024 * (t.val / 4 % 2) + n.val) :
    ((outsAt0 m c t.val t.isLt).1 (ix2 r n) : EReal) = withX m c i j (∑ k : Fin 8192, terms m c i j k) := by
  refine Mm.out_eq_of (terms m c i j) (withX m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last, pay4_apply, iblk2_apply m c ⟨p + 1, h⟩ r n i j (by dsimp only; omega) (by dsimp only; omega)]
    exact congrArg (fun a => withX m c i j (_ + a)) (part_apply m c ⟨p + 1, h⟩ r n i j (by dsimp only; omega) (by dsimp only; omega))

/-- The result array after the run. -/
theorem result (i : Fin 8192) (j : Fin 2048) : (Value.G3 m c (ix2 i j) : EReal) = withX m c i j (∑ k : Fin 8192, terms m c i j k) := by
  have hN : cfg0.N = 64 := N_0
  have hp : Value.pt3Of (ix2 i j) = 4 * (2 * (i.val / 1024) + j.val / 1024) + 3 := by
    show 4 * (2 * (i.val / 1024 - 0) + 1 * (j.val / 1024 - 0)) + 3 = _
    omega
  have hl : Value.pt3Of (ix2 i j) < cfg0.N := by rw [hp, hN]; omega
  have hi : Value.loc3Of (ix2 i j) = ix2 (⟨i.val % 1024, by omega⟩ : Fin 1024) (⟨j.val % 1024, by omega⟩ : Fin 1024) := by
    funext a
    match a with
    | ⟨0, _⟩ => rfl
    | ⟨1, _⟩ => rfl
  unfold Value.G3
  rw [dif_pos hl, ← Value.outsAt0_sweep m c _ hl, hi]
  exact block m c ⟨Value.pt3Of (ix2 i j), hl⟩ (by dsimp only; omega) _ _ i j (by dsimp only; omega) (by dsimp only; omega)

theorem result_eq : Value.G3 m c = Cert.Ff2NextRefIdeal.Prod.out (hid m c) (w m c) (x m c) := funext fun i => by
  obtain ⟨p, q, rfl⟩ := Mm.at2 i
  rw [Cert.Ff2NextRefIdeal.Prod.out_apply]
  exact result m c p q

theorem value : Cert.algebraic_Ff2NextIdeal_Ff2NextRefIdeal := fun m g m' g' _ ha =>
  ⟨Value.G3 m, Value.run m g, (θ_run Cert.Ff2NextRefIdeal.defs _ _).mono (fun r h c => ⟨(h c).1.trans (by
    obtain ⟨a0, a1, a2⟩ := ha c
    rw [a0, a1, a2]
    exact (result_eq m c).symm), (h c).2⟩) (Cert.Ff2NextRefIdeal.Value.run m' g')⟩

end Cert.Ff2NextIdeal.Prod

end
-- ==== Proof.Ff2DxNextValue.lean ====
/-
  The gradient of the feed-forward layer's hidden units: what the call leaves in its result, in the second layer.
-/
module

public import proofs.«01_k».proof.Proof.Gen.Ff2DxNextIdeal.Value
public import proofs.«01_k».proof.Proof.Gen.Ff2DxNextRefIdeal.Run
public import proofs.«01_k».proof.Proof.Mm
public import proofs.«01_k».proof.Defs

@[expose] public section

set_option maxRecDepth 16384

noncomputable section

namespace Cert.Ff2DxNextRefIdeal.Prod

open Idealize.ShloMosaic
open Cert.Ff2DxNextRefIdeal Cert.Ff2DxNextRefIdeal.Gen
open scoped BigOperators

/-- The reference's result, of its arguments. -/
def out (dh : FVec Ideal S8192x2048 .bf16) (w : FVec Ideal S4x2x2048x2048 .bf16) (a : FVec Ideal S8192x8192 .f32) : FVec Ideal S8192x8192 .bf16 :=
  truncf .bf16 (select (cmpf .ogt a (broadcastInDim S8192x8192 ![] bcast_S_S8192x8192 (constant S_ .f32 0x00000000#32)))
    (mulf (Host.dotGeneral dot_S8192x2048_S8192x2048_S8192x8192_1_1_0_0_n_n none (extf .f32 dh bitsLt_bf16_f32)
        (extf .f32 (shapeCast _ (extractStridedSlice S1x8192x2048 ![1, 0, 0] (shapeCast _ (transpose S2x4x2048x2048 [1, 0, 2, 3] w
          transposes_S4x2x2048x2048_S2x4x2048x2048_1_0_2_3) shapeCasts_S2x4x2048x2048_S2x8192x2048) slices_S2x8192x2048_S1x8192x2048_1_0_0)
          shapeCasts_S1x8192x2048_S8192x2048) bitsLt_bf16_f32))
      (mulf (broadcastInDim S8192x8192 ![] bcast_S_S8192x8192 (constant S_ .f32 0x40000000#32))
        (maximumf a (broadcastInDim S8192x8192 ![] bcast_S_S8192x8192 (constant S_ .f32 0x00000000#32)))))
    (broadcastInDim S8192x8192 ![] bcast_S_S8192x8192 (constant S_ .f32 0x00000000#32))) bitsLt_bf16_f32

theorem out_apply (dh : FVec Ideal S8192x2048 .bf16) (w : FVec Ideal S4x2x2048x2048 .bf16) (a : FVec Ideal S8192x8192 .f32) (i j : Fin 8192) :
    (out dh w a (ix2 i j) : EReal) =
      (∑ k : Fin 2048, (dh (ix2 i k) : EReal) * w (ix4 (⟨j.val / 2048, by omega⟩ : Fin 4) 1 ⟨j.val % 2048, by omega⟩ k)) *
        ((Scalar.ofBits .f32 0x40000000#32 : Ideal .f32) * max (a (ix2 i j) : EReal) 0) := by
  pointwise [out]
  split
  · rfl
  · rw [max_eq_right (not_lt.1 ‹_›), mul_zero, mul_zero]

end Cert.Ff2DxNextRefIdeal.Prod

namespace Cert.Ff2DxNextIdeal.Prod

open Idealize.ShloMosaic Idealize.ShloMosaic.TcCoe Idealize.SL.Sem
open Cert.Ff2DxNextIdeal Cert.Ff2DxNextIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1x1x1024x2048 .bf16) (h4 : a4.IsWhole)
  (a5 : Memref sig .tc .vmem S1024x1024 .bf16) (h5 : a5.IsWhole) (a6 : Memref sig .tc .vmem S1024x1024 .bf16) (h6 : a6.IsWhole)
  (a7 : Memref sig .tc .vmem S1024x1024 .f32) (h7 : a7.IsWhole)
  (x : Vec F S1024x2048 .bf16) (y : Vec F S1x1x1024x2048 .bf16) (b : Vec F S1024x1024 .bf16)

/-- The one step of a block writes its product. -/
theorem only (hc0 : cond0_0 i) (hc1 : ¬cond0_1 i) (hc2 : cond0_2 i) :
    out0_A_3 c i a3 h3 a4 h4 a5 h5 a6 h6 a7 h7 hc0 hc1 hc2 x y b = k0_pay4 (k0_pay1 x y) b := by
  unfold out0_A_3
  rw [View.read_writes_eq_canon _ _ _ (cover0_A_3 c i a3 h3 a4 h4 a5 h5 a6 h6 a7 h7 hc0 hc1 hc2 x y b)]
  unfold kernelRun0_A
  dsimp only
  sl_unfold_words
  rw [View.canon_unit_zero Mm.hz, View.readCov_unit_zero (S := S1024x1024) _ Mm.hz]
  unfold k0_pay2
  simp only [View.readAt_eq_ld, h3.read_unread, h4.read_unread, h5.read_unread, View.ld_unit_zero (S := S1024x2048) Mm.hz, View.ld_unit_zero (S := S1x1x1024x2048) Mm.hz4, View.ld_unit_zero (S := S1024x1024) Mm.hz, shapeCast_self]

end cases

variable (m : (ℓ : Loc nD τ sig) → Buf (Elt Ideal) ℓ) (c : Dev nD)

theorem pay1_apply (x : Vec Ideal S1024x2048 .bf16) (y : Vec Ideal S1x1x1024x2048 .bf16) (b : Vec Ideal S1024x1024 .bf16) (r n : Fin 1024) :
    (k0_pay4 (k0_pay1 x y) b (ix2 r n) : EReal) = (∑ k : Fin 2048, (x (ix2 r k) : EReal) * y (ix4 0 0 n k)) * ((Scalar.ofBits .f32 0x40000000#32 : Ideal .f32) * b (ix2 r n)) := by
  pointwise [k0_pay4, k0_pay1]

theorem at0 : ∀ t : Fin cfg0.N, win0_0.index t = ![t.val / 8, 0] ∧ win0_1.index t = ![t.val % 8 / 2, 1, t.val % 8 % 2, 0] ∧ win0_2.index t = ![t.val / 8, t.val % 8] ∧ win0_3.index t = ![t.val / 8, t.val % 8] :=
  (by decide +kernel : ∀ t : Fin grid0.N, _)

/-- The arguments. -/
abbrev dh : FVec Ideal S8192x2048 .bf16 := m ((c.tc : Thread nD τ).loc main_arg0)
abbrev w : FVec Ideal S4x2x2048x2048 .bf16 := m ((c.tc : Thread nD τ).loc main_arg1)
abbrev a : FVec Ideal S8192x8192 .f32 := m ((c.tc : Thread nD τ).loc main_arg2)

theorem iblk0_apply (t : Fin cfg0.N) (r : Fin 1024) (k : Fin 2048) (i : Fin 8192) (hi : i.val = 1024 * (t.val / 8) + r.val) :
    (iblk m c 0 t : Vec Ideal S1024x2048 .bf16) (ix2 r k) = dh m c (ix2 i k) := by
  unfold iblk
  rw [View.read_apply]
  refine (congrFun (V_main_arg0 m c) _).trans (congrArg (dh m c) (funext fun a => Fin.ext ?_))
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = k.val; rw [(at0 t).1]; show 0 * 2048 + 1 * k.val = _; omega

theorem iblk1_apply (t : Fin cfg0.N) (r : Fin 1024) (k : Fin 2048) (j : Fin 8192) (hj : j.val = 1024 * (t.val % 8) + r.val) :
    (iblk m c 1 t : Vec Ideal S1x1x1024x2048 .bf16) (ix4 0 0 r k) = w m c (ix4 (⟨j.val / 2048, by omega⟩ : Fin 4) 1 ⟨j.val % 2048, by omega⟩ k) := by
  unfold iblk
  rw [View.read_apply]
  refine (congrFun (V_main_arg1 m c) _).trans (congrArg (w m c) (funext fun a => Fin.ext ?_))
  match a with
  | ⟨0, _⟩ => show win0_1.index t 0 * 1 + 1 * 0 = j.val / 2048; rw [(at0 t).2.1, hj]; show t.val % 8 / 2 * 1 + 1 * 0 = _; omega
  | ⟨1, _⟩ => show win0_1.index t 1 * 1 + 1 * 0 = 1; rw [(at0 t).2.1]; rfl
  | ⟨2, _⟩ => show win0_1.index t 2 * 1024 + 1 * r.val = j.val % 2048; rw [(at0 t).2.1, hj]; show t.val % 8 % 2 * 1024 + 1 * r.val = _; omega
  | ⟨3, _⟩ => show win0_1.index t 3 * 2048 + 1 * k.val = k.val; rw [(at0 t).2.1]; show 0 * 2048 + 1 * k.val = _; omega

theorem V_main_v2 : (V m c main_v2 : FVec Ideal S8192x8192 .bf16) = truncf .bf16 (maximumf (a m c)
    (broadcastInDim S8192x8192 ![] bcast_S_S8192x8192 (constant S_ .f32 0x00000000#32))) bitsLt_bf16_f32 := by
  unfold V
  after_results <;> rfl

theorem iblk2_apply (t : Fin cfg0.N) (r n : Fin 1024) (i j : Fin 8192) (hi : i.val = 1024 * (t.val / 8) + r.val) (hj : j.val = 1024 * (t.val % 8) + n.val) :
    ((iblk m c 2 t : Vec Ideal S1024x1024 .bf16) (ix2 r n) : EReal) = max (a m c (ix2 i j) : EReal) 0 := by
  have h : (iblk m c 2 t : Vec Ideal S1024x1024 .bf16) (ix2 r n) = (V m c main_v2 : FVec Ideal S8192x8192 .bf16) (ix2 i j) := by
    unfold iblk
    rw [View.read_apply]
    refine congrArg (V m c main_v2 : FVec Ideal S8192x8192 .bf16) (funext fun a => Fin.ext ?_)
    match a with
    | ⟨0, _⟩ => show win0_2.index t 0 * 1024 + 1 * r.val = i.val; rw [(at0 t).2.2.1, hi]; show t.val / 8 * 1024 + 1 * r.val = _; omega
    | ⟨1, _⟩ => show win0_2.index t 1 * 1024 + 1 * n.val = j.val; rw [(at0 t).2.2.1, hj]; show t.val % 8 * 1024 + 1 * n.val = _; omega
  rw [h, V_main_v2]
  pointwise

/-- What a point writes back is its block of the reference's result, -/
theorem flushed_eq (t : Fin cfg0.N) :
    (dats m 0 c).flushed 3 t = ((cfg0.win 3).blk t).view.read (Elt Ideal) (Cert.Ff2DxNextRefIdeal.Prod.out (dh m c) (w m c) (a m c)) := by
  have hN : t.val < 64 := lt_of_lt_of_eq t.isLt N_0
  rw [Value.flushed3_A, only]
  funext y
  obtain ⟨r, n, rfl⟩ := Mm.at2 (a := 1024) (b := 1024) y
  have he : ((cfg0.win 3).blk t).view.emb (ix2 r n) = (ix2 (⟨1024 * (t.val / 8) + r.val, by omega⟩ : Fin 8192) (⟨1024 * (t.val % 8) + n.val, by omega⟩ : Fin 8192)) := by
    funext a
    apply Fin.ext
    match a with
    | ⟨0, _⟩ => show win0_3.index t 0 * 1024 + 1 * r.val = _; rw [(at0 t).2.2.2]; show t.val / 8 * 1024 + 1 * r.val = 1024 * (t.val / 8) + r.val; omega
    | ⟨1, _⟩ => show win0_3.index t 1 * 1024 + 1 * n.val = _; rw [(at0 t).2.2.2]; show t.val % 8 * 1024 + 1 * n.val = 1024 * (t.val % 8) + n.val; omega
  show k0_pay4 (k0_pay1 (iblk m c 0 t : Vec Ideal S1024x2048 .bf16) (iblk m c 1 t : Vec Ideal S1x1x1024x2048 .bf16)) (iblk m c 2 t : Vec Ideal S1024x1024 .bf16) (ix2 r n) = Cert.Ff2DxNextRefIdeal.Prod.out (dh m c) (w m c) (a m c) (((cfg0.win 3).blk t).view.emb (ix2 r n))
  rw [he, Cert.Ff2DxNextRefIdeal.Prod.out_apply, pay1_apply]
  rw [iblk2_apply m c t r n ⟨1024 * (t.val / 8) + r.val, by omega⟩ ⟨1024 * (t.val % 8) + n.val, by omega⟩ rfl rfl]
  refine congrArg (· * ((Scalar.ofBits .f32 0x40000000#32 : Ideal .f32) * max (a m c _ : EReal) 0)) (Finset.sum_congr rfl fun k _ => ?_)
  rw [iblk0_apply m c t r k ⟨1024 * (t.val / 8) + r.val, by omega⟩ rfl, iblk1_apply m c t n k ⟨1024 * (t.val % 8) + n.val, by omega⟩ rfl]

/-- and the points between them write every entry. -/
theorem covered (i : S8192x8192.Idx) : ∃ t : Fin cfg0.N, (cfg0.win 3).flush t = true ∧ i ∈ ((cfg0.win 3).blk t).view.set := by
  obtain ⟨p, q, rfl⟩ := Mm.at2 i
  refine ⟨⟨8 * (p.val / 1024) + q.val / 1024, lt_of_lt_of_eq (by omega) N_0.symm⟩, flush0_3 _, ?_⟩
  show _ ∈ ((View.whole main_v3).slice (win0_3.rect _)).set
  rw [View.set_slice_whole, Rect.mem_set_unit]
  intro a
  match a with
  | ⟨0, _⟩ => show win0_3.index _ 0 * 1024 ≤ p.val ∧ p.val < win0_3.index _ 0 * 1024 + 1024; rw [(at0 _).2.2.2]; dsimp only [Matrix.cons_val]; omega
  | ⟨1, _⟩ => show win0_3.index _ 1 * 1024 ≤ q.val ∧ q.val < win0_3.index _ 1 * 1024 + 1024; rw [(at0 _).2.2.2]; dsimp only [Matrix.cons_val]; omega

/-- The result array after the run. -/
theorem result_eq : (dats m 0 c).arrAt 3 cfg0.N = Cert.Ff2DxNextRefIdeal.Prod.out (dh m c) (w m c) (a m c) :=
  (dats m 0 c).arrAt_eq_of_cover 3 _ (fun t _ => flushed_eq m c t) covered

theorem value : Cert.algebraic_Ff2DxNextIdeal_Ff2DxNextRefIdeal := fun m g m' g' _ ha =>
  ⟨fun c => (dats m 0 c).arrAt 3 cfg0.N, Value.run_blocks m g, (θ_run Cert.Ff2DxNextRefIdeal.defs _ _).mono (fun r h c => ⟨(h c).1.trans (by
    obtain ⟨a0, a1, a2⟩ := ha c
    rw [a0, a1, a2]
    exact (result_eq m c).symm), (h c).2⟩) (Cert.Ff2DxNextRefIdeal.Value.run m' g')⟩

end Cert.Ff2DxNextIdeal.Prod

end
-- ==== Proof.Ff1DxNextValue.lean ====
/-
  The gradient of the feed-forward's input: what the call leaves in its result, in the second layer.
-/
module

public import proofs.«01_k».proof.Proof.Gen.Ff1DxNextIdeal.Value
public import proofs.«01_k».proof.Proof.Gen.Ff1DxNextRefIdeal.Run
public import proofs.«01_k».proof.Proof.Mm
public import proofs.«01_k».proof.Defs

@[expose] public section

set_option maxRecDepth 16384

noncomputable section

namespace Cert.Ff1DxNextRefIdeal.Prod

open Idealize.ShloMosaic
open Cert.Ff1DxNextRefIdeal Cert.Ff1DxNextRefIdeal.Gen
open scoped BigOperators

/-- The reference's result, of its arguments. -/
def out (da : FVec Ideal S8192x8192 .bf16) (w : FVec Ideal S4x2x2048x2048 .bf16) (dh : FVec Ideal S8192x2048 .f32) : FVec Ideal S8192x2048 .f32 :=
  addf (Host.dotGeneral dot_S8192x8192_S2048x8192_S8192x2048_1_1_0_0_n_n none (extf .f32 da bitsLt_bf16_f32)
      (extf .f32 (shapeCast _ (extractStridedSlice S1x2048x8192 ![1, 0, 0] (shapeCast _ (transpose S2x2048x4x2048 [1, 2, 0, 3] w
        transposes_S4x2x2048x2048_S2x2048x4x2048_1_2_0_3) shapeCasts_S2x2048x4x2048_S2x2048x8192) slices_S2x2048x8192_S1x2048x8192_1_0_0)
        shapeCasts_S1x2048x8192_S2048x8192) bitsLt_bf16_f32))
    (mulf (broadcastInDim S8192x2048 ![] bcast_S_S8192x2048 (constant S_ .f32 0x3FB504F3#32)) dh)

theorem out_apply (da : FVec Ideal S8192x8192 .bf16) (w : FVec Ideal S4x2x2048x2048 .bf16) (dh : FVec Ideal S8192x2048 .f32) (i : Fin 8192) (j : Fin 2048) :
    (out da w dh (ix2 i j) : EReal) =
      (∑ k : Fin 8192, (da (ix2 i k) : EReal) * w (ix4 (⟨k.val / 2048, by omega⟩ : Fin 4) 1 j ⟨k.val % 2048, by omega⟩)) +
        (Scalar.ofBits .f32 0x3FB504F3#32 : Ideal .f32) * dh (ix2 i j) := by
  pointwise [out]

end Cert.Ff1DxNextRefIdeal.Prod

namespace Cert.Ff1DxNextIdeal.Prod

open Idealize.ShloMosaic Idealize.ShloMosaic.TcCoe Idealize.SL.Sem
open Cert.Ff1DxNextIdeal Cert.Ff1DxNextIdeal.Gen
open scoped BigOperators

section cases

variable {F : FTy → Type} [FloatOps F]
variable (c : Dev nD) (i : grid0.Coords)
  (a3 : Memref sig .tc .vmem S1024x2048 .bf16) (h3 : a3.IsWhole) (a4 : Memref sig .tc .vmem S1x1x1024x2048 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x2048 .bf16) (y : Vec F S1x1x1024x2048 .bf16) (d s : Vec F S1024x1024 .f32)

/-- The first step leaves its product in the accumulator, -/
theorem first (hc0 : cond0_0 i) (hc1 : ¬cond0_1 i) (hc2 : ¬cond0_2 i) :
    sout0_A_0 c i a3 h3 a4 h4 a5 h5 a6 h6 a7 h7 hc0 hc1 hc2 x y d = k0_pay1 x y := by
  unfold sout0_A_0
  rw [View.read_writes_eq_canon _ _ _ (scover0_A_0 c i a3 h3 a4 h4 a5 h5 a6 h6 a7 h7 hc0 hc1 hc2 x y d)]
  unfold kernelRun0_A
  dsimp only
  sl_unfold_words
  rw [View.canon_unit_zero Mm.hz]
  unfold k0_pay2
  simp only [View.readAt_eq_ld, h3.read_unread, h4.read_unread, View.ld_unit_zero (S := S1024x2048) Mm.hz, View.ld_unit_zero (S := S1x1x1024x2048) Mm.hz4, shapeCast_self]

/-- a middle one adds its own to what was there, -/
theorem next (hc0 : ¬cond0_0 i) (hc1 : cond0_1 i) (hc2 : ¬cond0_2 i) :
    sout0_B_0 c i a3 h3 a4 h4 a5 h5 a6 h6 a7 h7 hc0 hc1 hc2 x y d s = addf s (k0_pay1 x y) := by
  unfold sout0_B_0
  rw [View.read_writes_eq_canon _ _ _ (scover0_B_0 c i a3 h3 a4 h4 a5 h5 a6 h6 a7 h7 hc0 hc1 hc2 x y d s)]
  unfold kernelRun0_B
  dsimp only
  sl_unfold_words
  rw [View.canon_unit_zero Mm.hz]
  unfold k0_pay3
  simp only [View.readAt_eq_ld, h3.read_unread, h4.read_unread, h7.read_unread, View.ld_unit_zero (S := S1024x2048) Mm.hz, View.ld_unit_zero (S := S1x1x1024x2048) Mm.hz4,
    View.ld_unit_zero (S := S1024x1024) Mm.hz, shapeCast_self]

/-- and the last too, and the result's block is the sum with what came beside it. -/
theorem last (hc0 : ¬cond0_0 i) (hc1 : cond0_1 i) (hc2 : cond0_2 i) :
    out0_C_3 c i a3 h3 a4 h4 a5 h5 a6 h6 a7 h7 hc0 hc1 hc2 x y d s = k0_pay4 (addf s (k0_pay1 x y)) d := by
  unfold out0_C_3
  rw [View.read_writes_eq_canon _ _ _ (cover0_C_3 c i a3 h3 a4 h4 a5 h5 a6 h6 a7 h7 hc0 hc1 hc2 x y d s)]
  unfold kernelRun0_C
  dsimp only
  sl_unfold_words
  rw [View.canon_unit_zero Mm.hz, View.readCov_unit_zero (S := S1024x1024) _ Mm.hz]
  unfold k0_pay3
  simp only [View.readAt_eq_ld, h3.read_unread, h4.read_unread, h5.read_unread, h7.read_unread, View.ld_unit_zero (S := S1024x2048) Mm.hz, View.ld_unit_zero (S := S1x1x1024x2048) Mm.hz4,
    View.ld_unit_zero (S := S1024x1024) Mm.hz, shapeCast_self]

end cases

variable (m : (ℓ : Loc nD τ sig) → Buf (Elt Ideal) ℓ) (c : Dev nD)

theorem pay1_apply (x : Vec Ideal S1024x2048 .bf16) (y : Vec Ideal S1x1x1024x2048 .bf16) (r n : Fin 1024) :
    (k0_pay1 x y (ix2 r n) : EReal) = ∑ k : Fin 2048, (x (ix2 r k) : EReal) * y (ix4 0 0 n k) := by
  pointwise [k0_pay1]

theorem pay4_apply (s d : Vec Ideal S1024x1024 .f32) (r n : Fin 1024) :
    (k0_pay4 s d (ix2 r n) : EReal) = (Scalar.ofBits .f32 0x3FB504F3#32 : Ideal .f32) * d (ix2 r n) + s (ix2 r n) := by
  pointwise [k0_pay4]

theorem at0 : ∀ t : Fin cfg0.N, win0_0.index t = ![t.val / 8, t.val % 4] ∧ win0_1.index t = ![t.val % 4, 1, t.val / 4 % 2, 0] ∧ win0_2.index t = ![t.val / 8, t.val / 4 % 2] :=
  (by decide +kernel : ∀ t : Fin grid0.N, _)

/-- The arguments. -/
abbrev da : FVec Ideal S8192x8192 .bf16 := m ((c.tc : Thread nD τ).loc main_arg0)
abbrev w : FVec Ideal S4x2x2048x2048 .bf16 := m ((c.tc : Thread nD τ).loc main_arg1)
abbrev dh : FVec Ideal S8192x2048 .f32 := m ((c.tc : Thread nD τ).loc main_arg2)

theorem iblk0_apply (t : Fin cfg0.N) (r : Fin 1024) (k : Fin 2048) (i j : Fin 8192) (hi : i.val = 1024 * (t.val / 8) + r.val) (hj : j.val = 2048 * (t.val % 4) + k.val) :
    (iblk m c 0 t : Vec Ideal S1024x2048 .bf16) (ix2 r k) = da m c (ix2 i j) := by
  unfold iblk
  rw [View.read_apply]
  refine congrArg (da m c) (funext fun a => Fin.ext ?_)
  match a with
  | ⟨0, _⟩ => show win0_0.index t 0 * 1024 + 1 * r.val = i.val; rw [(at0 t).1, hi]; show t.val / 8 * 1024 + 1 * r.val = _; omega
  | ⟨1, _⟩ => show win0_0.index t 1 * 2048 + 1 * k.val = j.val; rw [(at0 t).1, hj]; show t.val % 4 * 2048 + 1 * k.val = _; omega

theorem iblk1_apply (t : Fin cfg0.N) (r : Fin 1024) (k : Fin 2048) (p : Fin 4) (q j : Fin 2048) (hp : p.val = t.val % 4) (hq : q = k) (hj : j.val = 1024 * (t.val / 4 % 2) + r.val) :
    (iblk m c 1 t : Vec Ideal S1x1x1024x2048 .bf16) (ix4 0 0 r k) = w m c (ix4 p 1 j q) := by
  subst hq
  unfold iblk
  rw [View.read_apply]
  refine congrArg (w m c) (funext fun a => Fin.ext ?_)
  match a with
  | ⟨0, _⟩ => show win0_1.index t 0 * 1 + 1 * 0 = p.val; rw [(at0 t).2.1, hp]; show t.val % 4 * 1 + 1 * 0 = _; omega
  | ⟨1, _⟩ => show win0_1.index t 1 * 1 + 1 * 0 = 1; rw [(at0 t).2.1]; rfl
  | ⟨2, _⟩ => show win0_1.index t 2 * 1024 + 1 * r.val = j.val; rw [(at0 t).2.1, hj]; show t.val / 4 % 2 * 1024 + 1 * r.val = _; omega
  | ⟨3, _⟩ => show win0_1.index t 3 * 2048 + 1 * q.val = q.val; rw [(at0 t).2.1]; show 0 * 2048 + 1 * q.val = _; omega

theorem iblk2_apply (t : Fin cfg0.N) (r n : Fin 1024) (i : Fin 8192) (j : Fin 2048) (hi : i.val = 1024 * (t.val / 8) + r.val) (hj : j.val = 1024 * (t.val / 4 % 2) + n.val) :
    (iblk m c 2 t : Vec Ideal S1024x1024 .f32) (ix2 r n) = dh m c (ix2 i j) := by
  unfold iblk
  rw [View.read_apply]
  refine congrArg (dh m c) (funext fun a => Fin.ext ?_)
  match a with
  | ⟨0, _⟩ => show win0_2.index t 0 * 1024 + 1 * r.val = i.val; rw [(at0 t).2.2, hi]; show t.val / 8 * 1024 + 1 * r.val = _; omega
  | ⟨1, _⟩ => show win0_2.index t 1 * 1024 + 1 * n.val = j.val; rw [(at0 t).2.2, hj]; show t.val / 4 % 2 * 1024 + 1 * n.val = _; omega

/-- The terms of an entry of the product, and what the last step makes of their sum. -/
def terms (i : Fin 8192) (j : Fin 2048) (k : Fin 8192) : EReal := (da m c (ix2 i k) : EReal) * w m c (ix4 (⟨k.val / 2048, by omega⟩ : Fin 4) 1 j ⟨k.val % 2048, by omega⟩)
def withDh (i : Fin 8192) (j : Fin 2048) (a : EReal) : EReal := (Scalar.ofBits .f32 0x3FB504F3#32 : Ideal .f32) * dh m c (ix2 i j) + a

theorem part_apply (t : Fin cfg0.N) (r n : Fin 1024) (i : Fin 8192) (j : Fin 2048) (hi : i.val = 1024 * (t.val / 8) + r.val) (hj : j.val = 1024 * (t.val / 4 % 2) + n.val) :
    (k0_pay1 (iblk m c 0 t : Vec Ideal S1024x2048 .bf16) (iblk m c 1 t : Vec Ideal S1x1x1024x2048 .bf16) (ix2 r n) : EReal) = Mm.part (terms m c i j) 2048 (t.val % 4) := by
  rw [pay1_apply]
  refine Mm.part_eq _ _ (by omega) fun k => ?_
  rw [iblk0_apply m c t r k i ⟨2048 * (t.val % 4) + k.val, by omega⟩ hi rfl,
    iblk1_apply m c t n k ⟨(2048 * (t.val % 4) + k.val) / 2048, by omega⟩ ⟨(2048 * (t.val % 4) + k.val) % 2048, by omega⟩ j (by dsimp only; omega) (Fin.ext (by dsimp only; omega)) hj]
  rfl

/-- The block a last step writes. -/
theorem block (t : Fin cfg0.N) (ht : t.val % 4 = 3) (r n : Fin 1024) (i : Fin 8192) (j : Fin 2048) (hi : i.val = 1024 * (t.val / 8) + r.val) (hj : j.val = 1024 * (t.val / 4 % 2) + n.val) :
    ((outsAt0 m c t.val t.isLt).1 (ix2 r n) : EReal) = withDh m c i j (∑ k : Fin 8192, terms m c i j k) := by
  refine Mm.out_eq_of (terms m c i j) (withDh m c i j) (N := cfg0.N) (B := 2048) (K := 4) rfl (by omega) (fun n' h => (outsAt0 m c n' h).2 (ix2 r n))
    (fun n' h => (outsAt0 m c n' h).1 (ix2 r n)) (t.val / 4) ?_ ?_ ?_ t.val t.isLt rfl (by omega)
  · intro p h hq h0
    rw [outsAt0_A m c ⟨p, h⟩ h0 (by dsimp only; omega) (by dsimp only; omega)]
    dsimp only
    rw [first]
    exact part_apply m c ⟨p, h⟩ r n i j (by dsimp only; omega) (by dsimp only; omega)
  · intro p h hq h0 hl
    rw [outsAt0_B m c ⟨p + 1, h⟩ h0 (by dsimp only; omega) (by dsimp only; omega)]
    dsimp only
    rw [next]
    exact congrArg _ (part_apply m c ⟨p + 1, h⟩ r n i j (by dsimp only; omega) (by dsimp only; omega))
  · intro p h hq hl
    rw [outsAt0_C m c ⟨p + 1, h⟩ (by dsimp only; omega) (by dsimp only; omega) (by dsimp only; omega)]
    dsimp only
    rw [last, pay4_apply, iblk2_apply m c ⟨p + 1, h⟩ r n i j (by dsimp only; omega) (by dsimp only; omega)]
    exact congrArg (fun a => withDh m c i j (_ + a)) (part_apply m c ⟨p + 1, h⟩ r n i j (by dsimp only; omega) (by dsimp only; omega))

/-- The result array after the run. -/
theorem result (i : Fin 8192) (j : Fin 2048) : (Value.G3 m c (ix2 i j) : EReal) = withDh m c i j (∑ k : Fin 8192, terms m c i j k) := by
  have hN : cfg0.N = 64 := N_0
  have hp : Value.pt3Of (ix2 i j) = 4 * (2 * (i.val / 1024) + j.val / 1024) + 3 := by
    show 4 * (2 * (i.val / 1024 - 0) + 1 * (j.val / 1024 - 0)) + 3 = _
    omega
  have hl : Value.pt3Of (ix2 i j) < cfg0.N := by rw [hp, hN]; omega
  have hi : Value.loc3Of (ix2 i j) = ix2 (⟨i.val % 1024, by omega⟩ : Fin 1024) (⟨j.val % 1024, by omega⟩ : Fin 1024) := by
    funext a
    match a with
    | ⟨0, _⟩ => rfl
    | ⟨1, _⟩ => rfl
  unfold Value.G3
  rw [dif_pos hl, ← Value.outsAt0_sweep m c _ hl, hi]
  exact block m c ⟨Value.pt3Of (ix2 i j), hl⟩ (by dsimp only; omega) _ _ i j (by dsimp only; omega) (by dsimp only; omega)

theorem result_eq : Value.G3 m c = Cert.Ff1DxNextRefIdeal.Prod.out (da m c) (w m c) (dh m c) := funext fun i => by
  obtain ⟨p, q, rfl⟩ := Mm.at2 i
  rw [Cert.Ff1DxNextRefIdeal.Prod.out_apply]
  exact (result m c p q).trans (add_comm (G := EReal) _ _)

theorem value : Cert.algebraic_Ff1DxNextIdeal_Ff1DxNextRefIdeal := fun m g m' g' _ ha =>
  ⟨Value.G3 m, Value.run m g, (θ_run Cert.Ff1DxNextRefIdeal.defs _ _).mono (fun r h c => ⟨(h c).1.trans (by
    obtain ⟨a0, a1, a2⟩ := ha c
    rw [a0, a1, a2]
    exact (result_eq m c).symm), (h c).2⟩) (Cert.Ff1DxNextRefIdeal.Value.run m' g')⟩

end Cert.Ff1DxNextIdeal.Prod

end
-- ==== Proof.Host.lean ====
/-
  What the kernel's host lines hand the launch: the saved logarithms, the rows' products of gradient and output, and the
  gates, at an index over the real numbers.
-/
module

public import proofs.«01_k».proof.Proof.Fwd
public import proofs.«01_k».proof.Proof.Gen.KernelIdeal.Frame
public import Idealize.ShloMosaic.Lib.StableHlo.RunRead

@[expose] public section

set_option maxRecDepth 16384

noncomputable section

namespace Cert.KernelIdeal.Fox

open Idealize.ShloMosaic Idealize.ShloMosaic.TcCoe
open Cert.KernelIdeal Cert.KernelIdeal.Gen
open Cert.FoxModel (Data)
open scoped BigOperators

section lines

variable {F : FTy → Type} [FloatOps F]
variable (u : FVec F S8192x4608 .bf16) (cum : FVec F S8192x4 .f32) (dy : FVec F S8192x512 .bf16)

def expsOf : FVec F S4x8192x8192 .f32 := FoxHost.exps u cum (FoxHost.tops u cum)
/-- The saved logarithms. -/
def lses (x : FVec F S4x8192 .f32) (e : FVec F S4x8192x8192 .f32) : FVec F S4x8192x1 .f32 :=
  addf (FoxHost.col x) (Host.log (FoxHost.col (FoxHost.sums e)))
/-- The output of the attention. -/
def outs (v : FVec F S8192x4x128 .f32) (p : FVec F S4x8192x8192 .f32) : FVec F S8192x4x128 .f32 :=
  transpose S8192x4x128 [2, 0, 1] (Host.dotGeneral dot_S8192x4x128_S4x8192x8192_S4x128x8192_0_2_2_1_1_0 none v p) transposes_S4x128x8192_S8192x4x128_2_0_1
def dyHeads : FVec F S8192x4x128 .f32 := extf .f32 (shapeCast _ dy shapeCasts_S8192x512_S8192x4x128) bitsLt_bf16_f32
/-- The rows' products of gradient and output. -/
def deltas (y o : FVec F S8192x4x128 .f32) : FVec F S4x8192x1 .f32 :=
  broadcastInDim S4x8192x1 ![0, 1] bcast_S4x8192_S4x8192x1_0_1
    (transpose S4x8192 [1, 0] (Host.reduceAdd (mulf y o) (constant S_ .f32 0x00000000#32) reducesTo_S8192x4x128_S8192x4_d2 h_S_) transposes_S8192x4_S4x8192_1_0)
def gateRows : FVec F S4x8x1x1024 .f32 := shapeCast _ (transpose S4x8192 [1, 0] cum transposes_S8192x4_S4x8192_1_0) shapeCasts_S4x8192_S4x8x1x1024
def gatePad (z : FVec F S_ .f32) : FVec F S8192x128 .f32 := pad S8192x128 ![0, 0] ![0, 124] ![0, 0] cum z pads_S8192x4_S8192x128_000_01240 h_S_

variable (m : (ℓ : Loc nD τ sig) → Buf (Elt F) ℓ) (c : Dev nD)

set_option maxHeartbeats 4000000 in
theorem V_lse : V m c main_v43 = lses (FoxHost.tops (m ((c : Thread nD τ).loc main_arg0)) (m ((c : Thread nD τ).loc main_arg1)))
    (expsOf (m ((c : Thread nD τ).loc main_arg0)) (m ((c : Thread nD τ).loc main_arg1))) := by
  unfold V
  simp only [hostOps0, hostOps0_1, hostOps0_2, hostOps0_3, List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl

set_option maxHeartbeats 4000000 in
theorem V_delta : V m c main_v45 = deltas (dyHeads (m ((c : Thread nD τ).loc main_arg2))) (outs (FoxHost.vs (m ((c : Thread nD τ).loc main_arg0)))
    (FoxHost.probs (expsOf (m ((c : Thread nD τ).loc main_arg0)) (m ((c : Thread nD τ).loc main_arg1))))) := by
  unfold V
  simp only [hostOps0, hostOps0_1, hostOps0_2, hostOps0_3, List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl

set_option maxHeartbeats 4000000 in
theorem V_gateRows : V m c main_v47 = gateRows (m ((c : Thread nD τ).loc main_arg1)) := by
  unfold V
  simp only [hostOps0, hostOps0_1, hostOps0_2, hostOps0_3, List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl

set_option maxHeartbeats 4000000 in
theorem V_gatePad : V m c main_v48 = gatePad (m ((c : Thread nD τ).loc main_arg1)) (sitofp .f32 (constantI S_ 32 0#32)) := by
  unfold V
  simp only [hostOps0, hostOps0_1, hostOps0_2, hostOps0_3, List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl

end lines

variable (u : FVec Ideal S8192x4608 .bf16) (cum : FVec Ideal S8192x4 .f32) (dy : FVec Ideal S8192x512 .bf16)

theorem lses_apply (x : FVec Ideal S4x8192 .f32) (e : FVec Ideal S4x8192x8192 .f32) (h : Fin 4) (i : Fin 8192) :
    (lses x e (ix3 h i 0) : EReal) = x (ix2 h i) + Ideal.log (FoxHost.sums e (ix2 h i)) := by
  pointwise [lses, FoxHost.col]
theorem outs_apply (v : FVec Ideal S8192x4x128 .f32) (p : FVec Ideal S4x8192x8192 .f32) (i : Fin 8192) (h : Fin 4) (e : Fin 128) :
    (outs v p (ix3 i h e) : EReal) = ∑ j : Fin 8192, (v (ix3 j h e) : EReal) * p (ix3 h i j) := by
  pointwise [outs]
theorem dyHeads_apply (i : Fin 8192) (h : Fin 4) (e : Fin 128) : dyHeads dy (ix3 i h e) = dy (ix2 i (⟨h.val * 128 + e.val, by omega⟩ : Fin 512)) := by
  pointwise [dyHeads]
theorem deltas_apply (y o : FVec Ideal S8192x4x128 .f32) (h : Fin 4) (i : Fin 8192) :
    (deltas y o (ix3 h i 0) : EReal) = ∑ e : Fin 128, (y (ix3 i h e) : EReal) * o (ix3 i h e) := by
  pointwise [deltas]
theorem gateRows_apply (h : Fin 4) (j : Fin 8) (l : Fin 1024) :
    gateRows cum (ix4 h j 0 l) = cum (ix2 (⟨j.val * 1024 + l.val, by omega⟩ : Fin 8192) h) := by
  pointwise [gateRows]
theorem gatePad_apply (z : FVec Ideal S_ .f32) (i : Fin 8192) (l : Fin 128) (hl : l.val < 4) : gatePad cum z (ix2 i l) = cum (ix2 i (⟨l.val, hl⟩ : Fin 4)) := by
  pointwise [gatePad]
  exact dif_pos hl

/-! ## Over the real numbers -/

section values

variable {u cum dy} (H : FoxHost.Fin3 u cum dy)
include H

theorem expsOf_eq (h : Fin 4) (i j : Fin 8192) : (expsOf u cum (ix3 h i j) : EReal) = (FoxModel.E (FoxHost.data u cum dy) h.val i.val j.val : EReal) :=
  FoxHost.exps_eq H _ (fun _ _ => rfl) h i j

theorem lses_eq (h : Fin 4) (i : Fin 8192) :
    (lses (FoxHost.tops u cum) (expsOf u cum) (ix3 h i 0) : EReal) = (FoxModel.lse (FoxHost.data u cum dy) h.val i.val : EReal) := by
  rw [lses_apply, FoxHost.sums_eq H _ h i (fun j => expsOf_eq H h i j), Ideal.log_coe,
    if_neg (not_le.mpr (FoxModel.L_pos (FoxHost.data u cum dy) h.val i.isLt)), FoxHost.tops_eq H, ← EReal.coe_add]
  rfl

theorem outs_eq (i : Fin 8192) (h : Fin 4) (e : Fin 128) :
    (outs (FoxHost.vs u) (FoxHost.probs (expsOf u cum)) (ix3 i h e) : EReal) = (FoxModel.O (FoxHost.data u cum dy) h.val i.val e.val : EReal) := by
  rw [outs_apply, FoxModel.sum_fin _ (fun j => FoxModel.P (FoxHost.data u cum dy) h.val i.val j * (FoxHost.data u cum dy).V h.val j e.val)
    (fun j => by rw [FoxHost.vs_eq H, FoxHost.probs_eq H _ h i (fun j => expsOf_eq H h i j), ← EReal.coe_mul, mul_comm])]
  rfl

theorem deltas_eq (h : Fin 4) (i : Fin 8192) :
    (deltas (dyHeads dy) (outs (FoxHost.vs u) (FoxHost.probs (expsOf u cum))) (ix3 h i 0) : EReal) = (FoxModel.dl (FoxHost.data u cum dy) h.val i.val : EReal) := by
  rw [deltas_apply]
  exact FoxModel.coe_mul_sum _ _ (fun e => (FoxHost.data u cum dy).D h.val i.val e) (fun e => FoxModel.O (FoxHost.data u cum dy) h.val i.val e)
    (fun e => by rw [dyHeads_apply]; exact FoxHost.dy_eq H i h e) (fun e => outs_eq H i h e)

end values

end Cert.KernelIdeal.Fox

end
-- ==== Proof.Step.lean ====
/-
  What one grid point of the kernel computes, as plain functions of vectors: the point reads its query block, the whole
  key and value columns and the saved row statistics, and updates the three accumulators one key block after another.
  A key block enters through its probabilities only, so the unmasked and the masked step are one function (`step`) at
  two probabilities.
-/
module

public import proofs.«01_k».proof.Proof.Gen.KernelIdeal.Skeleton
public import proofs.«01_k».proof.Proof.Gen.KernelIdeal.Points
public import Idealize.ShloMosaic.Lib.VecWindow
public import Idealize.ShloMosaic.Lib.Pointwise.Index
public import Idealize.ShloMosaic.Lib.Pipeline.Value

@[expose] public section

set_option maxRecDepth 16384

noncomputable section

namespace Cert.KernelIdeal.Fox

open Idealize.ShloMosaic Idealize.ShloMosaic.TcCoe Idealize.SL.Sem
open Cert.KernelIdeal Cert.KernelIdeal.Gen

variable {F : FTy → Type} [FloatOps F]

/-- What a grid point reads: the query block, the key and value columns of its head, the incoming gradient's block, the
    saved log-sums and row sums of the block, the block's cumulative gates (one lane per head) and the head's gates by
    key block. -/
structure Ins (F : FTy → Type) where
  q : Vec F S256x128 .bf16
  k : Vec F S8192x128 .bf16
  v : Vec F S8192x128 .bf16
  dy : Vec F S256x128 .bf16
  lse : Vec F S1x256x1 .f32
  dl : Vec F S1x256x1 .f32
  fc : Vec F S256x128 .f32
  fr : Vec F S1x8x1x1024 .f32

/-- The accumulators carried from point to point: the gradients of the keys, of the values and of the gates by key. -/
structure Acc (F : FTy → Type) where
  dk : Vec F S8192x128 .f32
  dv : Vec F S8192x128 .f32
  df : Vec F S8x1x1024 .f32

/-- The state inside a point: the accumulators, and the block's gradients of the queries and of the gates by query. -/
structure St (F : FTy → Type) where
  acc : Acc F
  dq : FVec F S256x128 .f32
  dg : FVec F S256x1 .f32

/-- Key block `j` of a column of 8192 rows. -/
def rows {e : EltTy} (x : Vec F S8192x128 e) (j : ℕ) : Vec F S1024x128 e :=
  fun y => x (ix2 (⟨(1024 * j + (y 0).val) % 8192, Nat.mod_lt _ (by decide)⟩ : Fin 8192) (y 1 : Fin 128))

/-- Key block `j` of the gates read by key. -/
def gates (x : Vec F S1x8x1x1024 .f32) (j : ℕ) : Vec F S1x1x1x1024 .f32 :=
  fun y => x (ix4 (0 : Fin 1) (⟨j % 8, Nat.mod_lt _ (by decide)⟩ : Fin 8) (0 : Fin 1) (y 3 : Fin 1024))

/-- Key block `j` of the gates' accumulator. -/
def slab (x : Vec F S8x1x1024 .f32) (j : ℕ) : Vec F S1x1x1024 .f32 :=
  fun y => x (ix3 (⟨j % 8, Nat.mod_lt _ (by decide)⟩ : Fin 8) (0 : Fin 1) (y 2 : Fin 1024))

/-- The zero block the products start from. -/
abbrev zblk : FVec F S256x1024 .f32 := constant S256x1024 .f32 0x00000000#32

/-- A point's step over key block `j` whose probabilities are `p`. -/
def step (x : Ins F) (j : ℕ) (p : FVec F S256x1024 .f32) (s : St F) : St F where
  acc :=
    { dk := VecWindow.put s.acc.dk ![1024 * j, 0] S1024x128.size (k0_pay34 x.q x.dy (k0_pay22 x.dl) (rows x.v j) p zblk (rows s.acc.dk j))
      dv := VecWindow.put s.acc.dv ![1024 * j, 0] S1024x128.size (k0_pay35 x.dy p (rows s.acc.dv j))
      df := VecWindow.put s.acc.df ![j, 0, 0] S1x1x1024.size (k0_pay36 x.dy (k0_pay22 x.dl) (rows x.v j) p zblk (slab s.acc.df j)) }
  dq := addf s.dq (matmul dot_S256x1024_S1024x128_S256x128_1_0_0_1_n_n none (k0_pay33 x.dy (k0_pay22 x.dl) (rows x.v j) p zblk) (rows x.k j)
    (constant S256x128 .f32 0x00000000#32))
  dg := k0_pay37 x.dy (k0_pay22 x.dl) s.dg (rows x.v j) p zblk

/-- The unmasked probabilities of key block `j`. -/
def probs (i : grid0.Coords) (x : Ins F) (j : ℕ) : FVec F S256x1024 .f32 :=
  k0_pay5 x.q (k0_pay20 i x.fc) (k0_pay21 x.lse) (rows x.k j) (gates x.fr j)

/-- The row's first position over 1024, and whether the division is to be lowered by one: the two words the block number
    of the masked step is made of. -/
def w19 (i : grid0.Coords) : BitVec 32 := Scalar.divsi (Scalar.muli (BitVec.ofNat 32 (i 1).val) 256#32) 1024#32

/-- Whether the rounded division is to be lowered by one. -/
def w33 (i : grid0.Coords) : BitVec 1 :=
  Scalar.andi
    (Scalar.cmpi .ne
      (Scalar.subi (Scalar.extui (Scalar.cmpi .sgt (Scalar.muli (BitVec.ofNat 32 (i 1).val) 256#32) 0#32))
        (Scalar.extui (Scalar.cmpi .slt (Scalar.muli (BitVec.ofNat 32 (i 1).val) 256#32) 0#32)))
      (Scalar.subi (Scalar.extui (Scalar.cmpi .sgt 1024#32 0#32)) (Scalar.extui (Scalar.cmpi .slt 1024#32 0#32))))
    (Scalar.cmpi .ne (Scalar.remsi (Scalar.muli (BitVec.ofNat 32 (i 1).val) 256#32) 1024#32) 0#32)

/-- The number of unmasked key blocks of query block `i`, which is also the masked block's number. -/
def nfull (i : grid0.Coords) : ℕ := (i 1).val / 4

theorem nfull_lt (i : grid0.Coords) : nfull i < 8 := by
  have : (i 1).val < 32 := (i 1).isLt
  unfold nfull; omega

/-- The masked probabilities of the block's last key block. -/
def probsM (i : grid0.Coords) (x : Ins F) : FVec F S256x1024 .f32 :=
  k0_pay31 (BitVec.ofNat 32 (i 1).val) x.q (k0_pay20 i x.fc) (k0_pay21 x.lse) (w19 i) (w33 i) (rows x.k (nfull i)) (gates x.fr (nfull i))

/-- The state before the unmasked step `j`. -/
def loopSt (i : grid0.Coords) (x : Ins F) (a : Acc F) : ℕ → St F
  | 0 => ⟨a, k0_pay23, k0_pay24⟩
  | j + 1 => step x j (probs i x j) (loopSt i x a j)

/-- The state a point ends with, from the accumulators it finds. -/
def pointSt (i : grid0.Coords) (x : Ins F) (a : Acc F) : St F :=
  step x (nfull i) (probsM i x) (loopSt i x a (nfull i))

/-- The accumulators at a head's first point. -/
def zeroAcc : Acc F := ⟨k0_pay17, k0_pay18, k0_pay19⟩

/-- The block's gradient of the queries as stored: scaled and rounded. -/
def outQ (s : St F) : FVec F S256x128 .bf16 :=
  truncf .bf16 (mulf s.dq (broadcast S256x128 (Scalar.ofBits .f32 0x3DB504F3#32))) bitsLt_bf16_f32

/-! ## The offsets in closed form -/

theorem off7_eq : ∀ i : grid0.Coords, k0_off7 i = ![1024 * nfull i, 0] := by decide +kernel
theorem off8_eq : ∀ i : grid0.Coords, k0_off8 i = ![0, nfull i, 0, 0] := by decide +kernel
theorem off9_eq : ∀ i : grid0.Coords, k0_off9 i = ![nfull i, 0, 0] := by decide +kernel
theorem trips_eq : ∀ i : grid0.Coords, (k0_t1_loop i).trips = nfull i := by decide +kernel
theorem off1_eq : ∀ (i : grid0.Coords) (j : Fin (k0_t1_loop i).trips), k0_off1 i j = ![1024 * j.val, 0] := by decide +kernel
theorem off2_eq : ∀ (i : grid0.Coords) (j : Fin (k0_t1_loop i).trips), k0_off2 i j = ![0, j.val, 0, 0] := by decide +kernel
theorem off3_eq : ∀ (i : grid0.Coords) (j : Fin (k0_t1_loop i).trips), k0_off3 i j = ![j.val, 0, 0] := by decide +kernel

/-! ## Loads and stores of the blocks -/

section Blocks

variable {sg : RefSig} {κ : Kind} {sp : Space}

theorem read_rows {e : EltTy} (w : View sg κ sp S8192x128 e) (f : w.ty.Contents (Elt F)) {off : Fin 2 → ℕ} {j : ℕ} (hj : j < 8)
    (h : off = ![1024 * j, 0]) (inb : ∀ a, off a + S1024x128.size a ≤ S8192x128.size a) :
    w.readAt (Elt F) (Rect.unit (s := S8192x128) off S1024x128.size inb).toLoadRect f = rows (w.read (Elt F) f) j := by
  subst h
  funext y
  refine congrArg (w.read (Elt F) f) (funext fun a => Fin.ext ?_)
  have h0 : (y 0).val < 1024 := (y 0).isLt
  match a with
  | ⟨0, _⟩ => show 1024 * j + 1 * (y 0).val = (1024 * j + (y 0).val) % 8192; omega
  | ⟨1, _⟩ => show 0 + 1 * (y 1).val = (y 1).val; omega

theorem read_gates (w : View sg κ sp S1x8x1x1024 .f32) (f : w.ty.Contents (Elt F)) {off : Fin 4 → ℕ} {j : ℕ} (hj : j < 8)
    (h : off = ![0, j, 0, 0]) (inb : ∀ a, off a + S1x1x1x1024.size a ≤ S1x8x1x1024.size a) :
    w.readAt (Elt F) (Rect.unit (s := S1x8x1x1024) off S1x1x1x1024.size inb).toLoadRect f = gates (w.read (Elt F) f) j := by
  subst h
  funext y
  refine congrArg (w.read (Elt F) f) (funext fun a => Fin.ext ?_)
  have h0 : (y 0).val < 1 := (y 0).isLt
  have h1 : (y 1).val < 1 := (y 1).isLt
  have h2 : (y 2).val < 1 := (y 2).isLt
  match a with
  | ⟨0, _⟩ => show 0 + 1 * (y 0).val = 0; omega
  | ⟨1, _⟩ => show j + 1 * (y 1).val = j % 8; omega
  | ⟨2, _⟩ => show 0 + 1 * (y 2).val = 0; omega
  | ⟨3, _⟩ => show 0 + 1 * (y 3).val = (y 3).val; omega

theorem read_slab (w : View sg κ sp S8x1x1024 .f32) (f : w.ty.Contents (Elt F)) {off : Fin 3 → ℕ} {j : ℕ} (hj : j < 8)
    (h : off = ![j, 0, 0]) (inb : ∀ a, off a + S1x1x1024.size a ≤ S8x1x1024.size a) :
    w.readAt (Elt F) (Rect.unit (s := S8x1x1024) off S1x1x1024.size inb).toLoadRect f = slab (w.read (Elt F) f) j := by
  subst h
  funext y
  refine congrArg (w.read (Elt F) f) (funext fun a => Fin.ext ?_)
  have h0 : (y 0).val < 1 := (y 0).isLt
  have h1 : (y 1).val < 1 := (y 1).isLt
  match a with
  | ⟨0, _⟩ => show j + 1 * (y 0).val = j % 8; omega
  | ⟨1, _⟩ => show 0 + 1 * (y 1).val = 0; omega
  | ⟨2, _⟩ => show 0 + 1 * (y 2).val = (y 2).val; omega

end Blocks

end Cert.KernelIdeal.Fox

end
-- ==== Proof.Loop.lean ====
/-
  The loop over the unmasked key blocks of one grid point: before trip `k` the accumulators hold what the steps before `k`
  leave (`loopSt`), and the loop carries the block's two gradients.
-/
module

public import proofs.«01_k».proof.Proof.Step
public import Idealize.ShloMosaic.Lib.Pipeline.FrameBody
public import Idealize.ShloMosaic.Lib.Tactic

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- One store of a block into a whole buffer that holds `A`. -/
theorem writes_unread {s : Shape} {e : EltTy} {sp : Space} {M : Memref sig .tc sp s e} (h : M.IsWhole) (A : s.Idx → Elt F e)
    {off off' size : Fin s.rank → ℕ} (inb : ∀ a, off a + size a ≤ s.size a) {w w' : (Rect.unit off size inb).shape.Idx → Elt F e}
    (ho : off = off') (hw : w = w') :
    M.view.writes (Elt F) (h.unread A) [⟨Rect.unit off size inb, w⟩] = h.unread (VecWindow.put A off' size w') := by
  subst hw
  refine h.eq_unread ?_
  rw [View.read_writes_cons_put M.view _ inb w [] ho, View.writes_nil, h.read_unread]

/-- Two blocks stored at the same place are one when what they hold is. -/
theorem unread_congr {s : Shape} {e : EltTy} {sp : Space} {M : Memref sig .tc sp s e} (h : M.IsWhole) {A B : s.Idx → Elt F e} (hAB : A = B) :
    (h.unread A : M.view.ty.Contents (Elt F)) = h.unread B := by rw [hAB]

local notation "𝕄" => MT nD τ sig Unit (Elt F) ℕ (UR sig nD τ) ℕ

variable (arg2 : Memref sig .tc .vmem S256x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S256x128 .bf16) (harg5 : arg5.IsWhole)
  (arg6 : Memref sig .tc .vmem S1x256x1 .f32) (harg6 : arg6.IsWhole)
  (arg7 : Memref sig .tc .vmem S1x256x1 .f32) (harg7 : arg7.IsWhole)
  (arg8 : Memref sig .tc .vmem S256x128 .f32) (harg8 : arg8.IsWhole)
  (arg9 : Memref sig .tc .vmem S1x8x1x1024 .f32) (harg9 : arg9.IsWhole)
  (arg10 : Memref sig .tc .vmem S256x128 .bf16) (harg10 : arg10.IsWhole)
  (arg11 : Memref sig .tc .vmem S8192x128 .bf16) (harg11 : arg11.IsWhole)
  (arg12 : Memref sig .tc .vmem S8192x128 .bf16) (harg12 : arg12.IsWhole)
  (arg13 : Memref sig .tc .vmem S1x8x1x1024 .f32) (harg13 : arg13.IsWhole)
  (arg14 : Memref sig .tc .vmem S1x256x1 .f32) (harg14 : arg14.IsWhole)
  (arg15 : Memref sig .tc .vmem S8192x128 .f32) (harg15 : arg15.IsWhole)
  (arg16 : Memref sig .tc .vmem S8192x128 .f32) (harg16 : arg16.IsWhole)
  (arg17 : Memref sig .tc .vmem S8x1x1024 .f32) (harg17 : arg17.IsWhole)

/-- Before trip `k`: the keys, the values and the gates as read, the accumulators at the state before step `k`, and the
    carried values the state's. -/
def inv (c : Dev nD) (i : grid0.Coords) (x : Ins F) (a : Acc F) (k : ℕ) (cr : FVec F S256x128 .f32 × FVec F S256x1 .f32) : sProp 𝕄 :=
  iprop((arg3.view.loc (c : Thread nD τ) ↦[arg3.view.set]{fullShare} harg3.unread x.k)
    ∗ (arg4.view.loc (c : Thread nD τ) ↦[arg4.view.set]{fullShare} harg4.unread x.v)
    ∗ (arg9.view.loc (c : Thread nD τ) ↦[arg9.view.set]{fullShare} harg9.unread x.fr)
    ∗ (∃ f, (arg15.view.loc (c : Thread nD τ) ↦[arg15.view.set]{fullShare} f) ∗ ⌜f = harg15.unread (loopSt i x a k).acc.dk⌝)
    ∗ (∃ f, (arg16.view.loc (c : Thread nD τ) ↦[arg16.view.set]{fullShare} f) ∗ ⌜f = harg16.unread (loopSt i x a k).acc.dv⌝)
    ∗ (∃ f, (arg17.view.loc (c : Thread nD τ) ↦[arg17.view.set]{fullShare} f) ∗ ⌜f = harg17.unread (loopSt i x a k).acc.df⌝)
    ∗ ⌜cr = ((loopSt i x a k).dq, (loopSt i x a k).dg)⌝)

set_option maxHeartbeats 1600000 in
theorem inv_step (c : Dev nD) (E : Set ℕ) (i : grid0.Coords) (x : Ins F) (a : Acc F) (arg1 : BitVec 32) (v19 : BitVec 32) (v33 : BitVec 1)
    (k : Fin (k0_t1_loop i).trips) (cr : FVec F S256x128 .f32 × FVec F S256x1 .f32) :
    inv arg3 harg3 arg4 harg4 arg9 harg9 arg15 harg15 arg16 harg16 arg17 harg17 c i x a k.val cr
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 x.q x.dy (k0_pay20 i x.fc) (k0_pay21 x.lse) (k0_pay22 x.dl) v19 v33 k cr)
          (inv arg3 harg3 arg4 harg4 arg9 harg9 arg15 harg15 arg16 harg16 arg17 harg17 c i x a (k.val + 1)) := by
  have hk : k.val < 8 := lt_of_lt_of_le k.isLt (by rw [trips_eq]; exact (nfull_lt i).le)
  unfold inv k0_t1_body
  iintro ⟨H3, H4, H9, ⟨%f15, H15, %h15⟩, ⟨%f16, H16, %h16⟩, ⟨%f17, H17, %h17⟩, %hcr⟩
  subst h15 h16 h17 hcr
  sl_exec
  sl_step
  have e3 := (read_rows arg3.view (harg3.unread x.k) hk (off1_eq i k) (k0_off1_inb i k)).trans (congrArg (rows · k.val) (harg3.read_unread x.k))
  have e4 := (read_rows arg4.view (harg4.unread x.v) hk (off1_eq i k) (k0_off1_inb i k)).trans (congrArg (rows · k.val) (harg4.read_unread x.v))
  have e9 := (read_gates arg9.view (harg9.unread x.fr) hk (off2_eq i k) (k0_off2_inb i k)).trans (congrArg (gates · k.val) (harg9.read_unread x.fr))
  have e15 := (read_rows arg15.view (harg15.unread (loopSt i x a k.val).acc.dk) hk (off1_eq i k) (k0_off1_inb i k)).trans
    (congrArg (rows · k.val) (harg15.read_unread _))
  have e16 := (read_rows arg16.view (harg16.unread (loopSt i x a k.val).acc.dv) hk (off1_eq i k) (k0_off1_inb i k)).trans
    (congrArg (rows · k.val) (harg16.read_unread _))
  have e17 := (read_slab arg17.view (harg17.unread (loopSt i x a k.val).acc.df) hk (off3_eq i k) (k0_off3_inb i k)).trans
    (congrArg (slab · k.val) (harg17.read_unread _))
  sl_unfold_run_names
  rw [e3, e4, e9, e15, e16, e17]
  isplitl [H3]; · iexact H3
  isplitl [H4]; · iexact H4
  isplitl [H9]; · iexact H9
  isplitl [H15]
  · iexists _
    isplitl [H15]; · iexact H15
    ipureintro
    exact writes_unread harg15 _ _ (off1_eq i k) rfl
  isplitl [H16]
  · iexists _
    isplitl [H16]; · iexact H16
    ipureintro
    exact writes_unread harg16 _ _ (off1_eq i k) rfl
  isplitl [H17]
  · iexists _
    isplitl [H17]; · iexact H17
    ipureintro
    exact writes_unread harg17 _ _ (off3_eq i k) rfl
  ipureintro
  rfl

set_option warn.classDefReducibility false in
/-- The loop's invariant as the executor takes it: the values the point loaded before the loop are the inputs', and the
    carried values start from the zero blocks. -/
def foxLoop (c : Dev nD) (E : Set ℕ) (i : grid0.Coords) (x : Ins F) (a : Acc F) (arg1 : BitVec 32) (v19 : BitVec 32) (v33 : BitVec 1)
    {v3 : Vec F S256x128 .bf16} {v4 : Vec F S256x128 .bf16} {v13 : FVec F S256x1 .f32} {v15 v17 : FVec F S256x1 .f32}
    {init : FVec F S256x128 .f32 × FVec F S256x1 .f32}
    (h3 : v3 = x.q) (h4 : v4 = x.dy) (h13 : v13 = k0_pay20 i x.fc) (h15 : v15 = k0_pay21 x.lse) (h17 : v17 = k0_pay22 x.dl) :
    Idealize.ShloMosaic.LoopInv (M := 𝕄) Idealize.ShloMosaic.frame (wpE (defs₀ (F := F)) Variants.none (c : Thread nD τ) none) E
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v4 v13 v15 v17 v19 v33) where
  inv := inv arg3 harg3 arg4 harg4 arg9 harg9 arg15 harg15 arg16 harg16 arg17 harg17 c i x a
  step k cr := by subst h3 h4 h13 h15 h17; exact inv_step arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c E i x a arg1 v19 v33 k cr

end Cert.KernelIdeal.Fox

end
-- ==== Proof.Point.lean ====
/-
  One grid point's run: from the windows' blocks and the accumulators to the state of `pointSt`. Three cases: a head's first
  point, which clears the accumulators; a point between; and a head's last point, which writes the accumulators out.
-/
module

public import proofs.«01_k».proof.Proof.Loop
public import Idealize.ShloMosaic.Lib.LoopRemainder

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The point is a head's first. -/
abbrev isFirst (i : grid0.Coords) : Prop :=
  (Scalar.cmpi .ne (Scalar.extui (Scalar.cmpi .eq (BitVec.ofNat 32 (i 1).val) 0#32)) 0#32) = 1#1

/-- The point is a head's last. -/
abbrev isLast (i : grid0.Coords) : Prop := k0_cond2 i = 1#1

variable (arg2 : Memref sig .tc .vmem S256x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S256x128 .bf16) (harg5 : arg5.IsWhole)
  (arg6 : Memref sig .tc .vmem S1x256x1 .f32) (harg6 : arg6.IsWhole)
  (arg7 : Memref sig .tc .vmem S1x256x1 .f32) (harg7 : arg7.IsWhole)
  (arg8 : Memref sig .tc .vmem S256x128 .f32) (harg8 : arg8.IsWhole)
  (arg9 : Memref sig .tc .vmem S1x8x1x1024 .f32) (harg9 : arg9.IsWhole)
  (arg10 : Memref sig .tc .vmem S256x128 .bf16) (harg10 : arg10.IsWhole)
  (arg11 : Memref sig .tc .vmem S8192x128 .bf16) (harg11 : arg11.IsWhole)
  (arg12 : Memref sig .tc .vmem S8192x128 .bf16) (harg12 : arg12.IsWhole)
  (arg13 : Memref sig .tc .vmem S1x8x1x1024 .f32) (harg13 : arg13.IsWhole)
  (arg14 : Memref sig .tc .vmem S1x256x1 .f32) (harg14 : arg14.IsWhole)
  (arg15 : Memref sig .tc .vmem S8192x128 .f32) (harg15 : arg15.IsWhole)
  (arg16 : Memref sig .tc .vmem S8192x128 .f32) (harg16 : arg16.IsWhole)
  (arg17 : Memref sig .tc .vmem S8x1x1024 .f32) (harg17 : arg17.IsWhole)

set_option maxHeartbeats 4000000 in
/-- A head's first point. -/
theorem run_first (c : Dev nD) (E : Set ℕ) (i : grid0.Coords) (x : Ins F) (hc0 : isFirst i) (hc1 : ¬ isLast i) (K : PUnit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.dy ∗ owns (c : Thread nD τ) arg6 fullShare x.lse ∗ owns (c : Thread nD τ) arg7 fullShare x.dl ∗ owns (c : Thread nD τ) arg8 fullShare x.fc ∗ owns (c : Thread nD τ) arg9 fullShare x.fr ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ ((owns (c : Thread nD τ) arg2 fullShare x.q ∗ owns (c : Thread nD τ) arg3 fullShare x.k ∗ owns (c : Thread nD τ) arg4 fullShare x.v ∗ owns (c : Thread nD τ) arg5 fullShare x.dy ∗ owns (c : Thread nD τ) arg6 fullShare x.lse ∗ owns (c : Thread nD τ) arg7 fullShare x.dl ∗ owns (c : Thread nD τ) arg8 fullShare x.fc ∗ owns (c : Thread nD τ) arg9 fullShare x.fr ∗ owns (c : Thread nD τ) arg10 fullShare (outQ (pointSt i x zeroAcc)) ∗ owns (c : Thread nD τ) arg14 fullShare (k0_pay1 (pointSt i x zeroAcc).dg) ∗ owns (c : Thread nD τ) arg15 fullShare (pointSt i x zeroAcc).acc.dk ∗ owns (c : Thread nD τ) arg16 fullShare (pointSt i x zeroAcc).acc.dv ∗ owns (c : Thread nD τ) arg17 fullShare (pointSt i x zeroAcc).acc.df) -∗ K ⟨⟩))
      ⊢ wp frame (wpE (defs₀ (F := F)) Variants.none (c : Thread nD τ) none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_fox_bwd_eq_skeleton]; unfold cc0_fox_bwd_skel
  simp only [k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%e10, %f10, %hf10, H10⟩, ⟨%e14, %f14, %hf14, H14⟩, ⟨%e15, %f15, %hf15, H15⟩, ⟨%e16, %f16, %hf16, H16⟩, ⟨%e17, %f17, %hf17, H17⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | sl_exact hc0 | sl_exact hc1)
  have h3 : run_first.sl.r arg2 harg2 c x = x.q := (View.readAt_full arg2.view (harg2.unread x.q) _).trans (harg2.read_unread x.q)
  have h4 : run_first.sl.r_1 arg5 harg5 c x = x.dy := (View.readAt_full arg5.view (harg5.unread x.dy) _).trans (harg5.read_unread x.dy)
  have h13 : run_first.sl.r_2 arg8 harg8 c i x = k0_pay20 i x.fc :=
    congrArg (k0_pay20 i) ((View.readAt_full arg8.view (harg8.unread x.fc) _).trans (harg8.read_unread x.fc))
  have h15 : run_first.sl.r_3 arg6 harg6 c x = k0_pay21 x.lse :=
    congrArg k0_pay21 ((View.readAt_full arg6.view (harg6.unread x.lse) _).trans (harg6.read_unread x.lse))
  have h17 : run_first.sl.r_4 arg7 harg7 c x = k0_pay22 x.dl :=
    congrArg k0_pay22 ((View.readAt_full arg7.view (harg7.unread x.dl) _).trans (harg7.read_unread x.dl))
  have z15 : arg15.view.writes (Elt F) arg15.view.junk run_first.sl.H15_1 = harg15.unread (k0_pay17 (F := F)) :=
    harg15.eq_unread (View.read_writes_full arg15.view _ _ _ [])
  have z16 : arg16.view.writes (Elt F) arg16.view.junk run_first.sl.H16_1 = harg16.unread (k0_pay18 (F := F)) :=
    harg16.eq_unread (View.read_writes_full arg16.view _ _ _ [])
  have z17 : arg17.view.writes (Elt F) arg17.view.junk run_first.sl.H17_1 = harg17.unread (k0_pay19 (F := F)) :=
    harg17.eq_unread (View.read_writes_full arg17.view _ _ _ [])
  rw [z15, z16, z17]
  let L := foxLoop arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c E i x zeroAcc (BitVec.ofNat 32 (i 1).val) (run_first.sl.v19 i) (run_first.sl.v33 i)
    (init := (k0_pay23 (F := F), k0_pay24 (F := F))) h3 h4 h13 h15 h17
  sl_exec (disch := first | sl_exact hc0 | sl_exact hc1)
  sl_step
  have ht : Scf.trips (k0_t1_loop i).lb (k0_t1_loop i).ub (k0_t1_loop i).st = nfull i := trips_eq i
  have hn := nfull_lt i
  have e3 := (read_rows arg3.view (harg3.unread x.k) hn (off7_eq i) (k0_off7_inb i)).trans (congrArg (rows · (nfull i)) (harg3.read_unread x.k))
  have e4 : run_first.sl.r_8 arg4 harg4 i x = rows x.v (nfull i) :=
    (read_rows arg4.view (harg4.unread x.v) hn (off7_eq i) (k0_off7_inb i)).trans (congrArg (rows · (nfull i)) (harg4.read_unread x.v))
  have e9 := (read_gates arg9.view (harg9.unread x.fr) hn (off8_eq i) (k0_off8_inb i)).trans (congrArg (gates · (nfull i)) (harg9.read_unread x.fr))
  have ep : run_first.sl.r_9 arg2 harg2 arg3 harg3 arg6 harg6 arg8 harg8 arg9 harg9 c i x = probsM i x := by
    show k0_pay31 (BitVec.ofNat 32 (i 1).val) (run_first.sl.r arg2 harg2 c x) (run_first.sl.r_2 arg8 harg8 c i x) (run_first.sl.r_3 arg6 harg6 c x)
      (w19 i) (w33 i) (arg3.view.readAt (Elt F) (Rect.unit (s := S8192x128) (k0_off7 i) S1024x128.size (k0_off7_inb i)).toLoadRect (harg3.unread x.k))
      (arg9.view.readAt (Elt F) (Rect.unit (s := S1x8x1x1024) (k0_off8 i) S1x1x1x1024.size (k0_off8_inb i)).toLoadRect (harg9.unread x.fr)) = _
    rw [h3, h13, h15, e3, e9]; rfl
  have ed : ∀ b : Vec F S8192x128 .f32, arg15.view.readAt (Elt F) (Rect.unit (s := S8192x128) (k0_off7 i) S1024x128.size (k0_off7_inb i)).toLoadRect
      (harg15.unread b) = rows b (nfull i) := fun b =>
    (read_rows arg15.view (harg15.unread b) hn (off7_eq i) (k0_off7_inb i)).trans (congrArg (rows · (nfull i)) (harg15.read_unread _))
  have ev : ∀ b : Vec F S8192x128 .f32, arg16.view.readAt (Elt F) (Rect.unit (s := S8192x128) (k0_off7 i) S1024x128.size (k0_off7_inb i)).toLoadRect
      (harg16.unread b) = rows b (nfull i) := fun b =>
    (read_rows arg16.view (harg16.unread b) hn (off7_eq i) (k0_off7_inb i)).trans (congrArg (rows · (nfull i)) (harg16.read_unread _))
  have ef : ∀ b : Vec F S8x1x1024 .f32, arg17.view.readAt (Elt F) (Rect.unit (s := S8x1x1024) (k0_off9 i) S1x1x1024.size (k0_off9_inb i)).toLoadRect
      (harg17.unread b) = slab b (nfull i) := fun b =>
    (read_slab arg17.view (harg17.unread b) hn (off9_eq i) (k0_off9_inb i)).trans (congrArg (slab · (nfull i)) (harg17.read_unread _))
  have E15 : arg15.view.writes (Elt F) (harg15.unread (loopSt i x zeroAcc (Scf.trips (k0_t1_loop i).lb (k0_t1_loop i).ub (k0_t1_loop i).st)).acc.dk)
      [⟨Rect.unit (s := S8192x128) (k0_off7 i) S1024x128.size (k0_off7_inb i), k0_pay34 (run_first.sl.r arg2 harg2 c x) (run_first.sl.r_1 arg5 harg5 c x) (run_first.sl.r_4 arg7 harg7 c x) (run_first.sl.r_8 arg4 harg4 i x) (run_first.sl.r_9 arg2 harg2 arg3 harg3 arg6 harg6 arg8 harg8 arg9 harg9 c i x) run_first.sl.cst_35 (arg15.view.readAt (Elt F)
        (Rect.unit (s := S8192x128) (k0_off7 i) S1024x128.size (k0_off7_inb i)).toLoadRect (harg15.unread (loopSt i x zeroAcc (Scf.trips (k0_t1_loop i).lb (k0_t1_loop i).ub (k0_t1_loop i).st)).acc.dk))⟩]
      = harg15.unread (pointSt i x zeroAcc).acc.dk := by
    rw [ht, h3, h4, h17, e4, ep, ed]; exact writes_unread harg15 _ _ (off7_eq i) rfl
  have E16 : arg16.view.writes (Elt F) (harg16.unread (loopSt i x zeroAcc (Scf.trips (k0_t1_loop i).lb (k0_t1_loop i).ub (k0_t1_loop i).st)).acc.dv)
      [⟨Rect.unit (s := S8192x128) (k0_off7 i) S1024x128.size (k0_off7_inb i), k0_pay35 (run_first.sl.r_1 arg5 harg5 c x) (run_first.sl.r_9 arg2 harg2 arg3 harg3 arg6 harg6 arg8 harg8 arg9 harg9 c i x) (arg16.view.readAt (Elt F)
        (Rect.unit (s := S8192x128) (k0_off7 i) S1024x128.size (k0_off7_inb i)).toLoadRect (harg16.unread (loopSt i x zeroAcc (Scf.trips (k0_t1_loop i).lb (k0_t1_loop i).ub (k0_t1_loop i).st)).acc.dv))⟩]
      = harg16.unread (pointSt i x zeroAcc).acc.dv := by
    rw [ht, h4, ep, ev]; exact writes_unread harg16 _ _ (off7_eq i) rfl
  have E17 : arg17.view.writes (Elt F) (harg17.unread (loopSt i x zeroAcc (Scf.trips (k0_t1_loop i).lb (k0_t1_loop i).ub (k0_t1_loop i).st)).acc.df)
      [⟨Rect.unit (s := S8x1x1024) (k0_off9 i) S1x1x1024.size (k0_off9_inb i), k0_pay36 (run_first.sl.r_1 arg5 harg5 c x) (run_first.sl.r_4 arg7 harg7 c x) (run_first.sl.r_8 arg4 harg4 i x) (run_first.sl.r_9 arg2 harg2 arg3 harg3 arg6 harg6 arg8 harg8 arg9 harg9 c i x) run_first.sl.cst_35 (arg17.view.readAt (Elt F)
        (Rect.unit (s := S8x1x1024) (k0_off9 i) S1x1x1024.size (k0_off9_inb i)).toLoadRect (harg17.unread (loopSt i x zeroAcc (Scf.trips (k0_t1_loop i).lb (k0_t1_loop i).ub (k0_t1_loop i).st)).acc.df))⟩]
      = harg17.unread (pointSt i x zeroAcc).acc.df := by
    rw [ht, h4, h17, e4, ep, ef]; exact writes_unread harg17 _ _ (off9_eq i) rfl
  iapply Hk
  isplitl [H2]
  · iexists _
    isplitr [H2]
    rotate_left
    · iexact H2
    ipureintro
    exact harg2.read_unread _
  isplitl [H3]
  · iexists _
    isplitr [H3]
    rotate_left
    · iexact H3
    ipureintro
    exact harg3.read_unread _
  isplitl [H4]
  · iexists _
    isplitr [H4]
    rotate_left
    · iexact H4
    ipureintro
    exact harg4.read_unread _
  isplitl [H5]
  · iexists _
    isplitr [H5]
    rotate_left
    · iexact H5
    ipureintro
    exact harg5.read_unread _
  isplitl [H6]
  · iexists _
    isplitr [H6]
    rotate_left
    · iexact H6
    ipureintro
    exact harg6.read_unread _
  isplitl [H7]
  · iexists _
    isplitr [H7]
    rotate_left
    · iexact H7
    ipureintro
    exact harg7.read_unread _
  isplitl [H8]
  · iexists _
    isplitr [H8]
    rotate_left
    · iexact H8
    ipureintro
    exact harg8.read_unread _
  isplitl [H9]
  · iexists _
    isplitr [H9]
    rotate_left
    · iexact H9
    ipureintro
    exact harg9.read_unread _
  isplitl [H10]
  · iexists _
    isplitr [H10]
    rotate_left
    · iexact H10
    ipureintro
    refine (View.read_writes_full arg10.view f10 _ _ []).trans ?_
    show k0_pay38 (run_first.sl.r_1 arg5 harg5 c x) (run_first.sl.r_4 arg7 harg7 c x) (loopSt i x zeroAcc (Scf.trips (k0_t1_loop i).lb (k0_t1_loop i).ub (k0_t1_loop i).st)).dq
      (arg3.view.readAt (Elt F) (Rect.unit (s := S8192x128) (k0_off7 i) S1024x128.size (k0_off7_inb i)).toLoadRect (harg3.unread x.k))
      (run_first.sl.r_8 arg4 harg4 i x) (run_first.sl.r_9 arg2 harg2 arg3 harg3 arg6 harg6 arg8 harg8 arg9 harg9 c i x) run_first.sl.cst_35 = _
    rw [ht, h4, h17, e3, e4, ep]; rfl
  isplitl [H14]
  · iexists _
    isplitr [H14]
    rotate_left
    · iexact H14
    ipureintro
    refine (View.read_writes_full arg14.view f14 _ _ []).trans ?_
    show k0_pay1 (k0_pay37 (run_first.sl.r_1 arg5 harg5 c x) (run_first.sl.r_4 arg7 harg7 c x) (loopSt i x zeroAcc (Scf.trips (k0_t1_loop i).lb (k0_t1_loop i).ub (k0_t1_loop i).st)).dg
      (run_first.sl.r_8 arg4 harg4 i x) (run_first.sl.r_9 arg2 harg2 arg3 harg3 arg6 harg6 arg8 harg8 arg9 harg9 c i x) run_first.sl.cst_35) = _
    rw [ht, h4, h17, e4, ep]; rfl
  isplitl [H15]
  · iexists _
    isplitr [H15]
    rotate_left
    · iexact H15
    ipureintro
    exact (congrArg (arg15.view.read (Elt F)) E15).trans (harg15.read_unread _)
  isplitl [H16]
  · iexists _
    isplitr [H16]
    rotate_left
    · iexact H16
    ipureintro
    exact (congrArg (arg16.view.read (Elt F)) E16).trans (harg16.read_unread _)
  iexists _
  isplitr [H17]
  rotate_left
  · iexact H17
  ipureintro
  exact (congrArg (arg17.view.read (Elt F)) E17).trans (harg17.read_unread _)

set_option maxHeartbeats 4000000 in
/-- A point between a head's first and last. -/
theorem run_mid (c : Dev nD) (E : Set ℕ) (i : grid0.Coords) (x : Ins F) (a : Acc F) (hc0 : ¬ isFirst i) (hc1 : ¬ isLast i) (K : PUnit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.dy ∗ owns (c : Thread nD τ) arg6 fullShare x.lse ∗ owns (c : Thread nD τ) arg7 fullShare x.dl ∗ owns (c : Thread nD τ) arg8 fullShare x.fc ∗ owns (c : Thread nD τ) arg9 fullShare x.fr ∗ (∃ d, owns (c : Thread nD τ) arg10 fullShare d) ∗ (∃ d, owns (c : Thread nD τ) arg14 fullShare d) ∗ owns (c : Thread nD τ) arg15 fullShare a.dk ∗ owns (c : Thread nD τ) arg16 fullShare a.dv ∗ owns (c : Thread nD τ) arg17 fullShare a.df
        ∗ ((owns (c : Thread nD τ) arg2 fullShare x.q ∗ owns (c : Thread nD τ) arg3 fullShare x.k ∗ owns (c : Thread nD τ) arg4 fullShare x.v ∗ owns (c : Thread nD τ) arg5 fullShare x.dy ∗ owns (c : Thread nD τ) arg6 fullShare x.lse ∗ owns (c : Thread nD τ) arg7 fullShare x.dl ∗ owns (c : Thread nD τ) arg8 fullShare x.fc ∗ owns (c : Thread nD τ) arg9 fullShare x.fr ∗ owns (c : Thread nD τ) arg10 fullShare (outQ (pointSt i x a)) ∗ owns (c : Thread nD τ) arg14 fullShare (k0_pay1 (pointSt i x a).dg) ∗ owns (c : Thread nD τ) arg15 fullShare (pointSt i x a).acc.dk ∗ owns (c : Thread nD τ) arg16 fullShare (pointSt i x a).acc.dv ∗ owns (c : Thread nD τ) arg17 fullShare (pointSt i x a).acc.df) -∗ K ⟨⟩))
      ⊢ wp frame (wpE (defs₀ (F := F)) Variants.none (c : Thread nD τ) none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_fox_bwd_eq_skeleton]; unfold cc0_fox_bwd_skel
  simp only [k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%e10, %f10, %hf10, H10⟩, ⟨%e14, %f14, %hf14, H14⟩, ⟨%f15, %hf15, H15⟩, ⟨%f16, %hf16, H16⟩, ⟨%f17, %hf17, H17⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg15.eq_unread hf15
  obtain rfl := harg16.eq_unread hf16
  obtain rfl := harg17.eq_unread hf17
  sl_exec (disch := first | sl_exact hc0 | sl_exact hc1)
  have h3 : run_mid.sl.r arg2 harg2 c x = x.q := (View.readAt_full arg2.view (harg2.unread x.q) _).trans (harg2.read_unread x.q)
  have h4 : run_mid.sl.r_1 arg5 harg5 c x = x.dy := (View.readAt_full arg5.view (harg5.unread x.dy) _).trans (harg5.read_unread x.dy)
  have h13 : run_mid.sl.r_2 arg8 harg8 c i x = k0_pay20 i x.fc :=
    congrArg (k0_pay20 i) ((View.readAt_full arg8.view (harg8.unread x.fc) _).trans (harg8.read_unread x.fc))
  have h15 : run_mid.sl.r_3 arg6 harg6 c x = k0_pay21 x.lse :=
    congrArg k0_pay21 ((View.readAt_full arg6.view (harg6.unread x.lse) _).trans (harg6.read_unread x.lse))
  have h17 : run_mid.sl.r_4 arg7 harg7 c x = k0_pay22 x.dl :=
    congrArg k0_pay22 ((View.readAt_full arg7.view (harg7.unread x.dl) _).trans (harg7.read_unread x.dl))
  let L := foxLoop arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c E i x a (BitVec.ofNat 32 (i 1).val) (run_mid.sl.v19 i) (run_mid.sl.v33 i)
    (init := (k0_pay23 (F := F), k0_pay24 (F := F))) h3 h4 h13 h15 h17
  sl_exec (disch := first | sl_exact hc0 | sl_exact hc1)
  sl_step
  have ht : Scf.trips (k0_t1_loop i).lb (k0_t1_loop i).ub (k0_t1_loop i).st = nfull i := trips_eq i
  have hn := nfull_lt i
  have e3 := (read_rows arg3.view (harg3.unread x.k) hn (off7_eq i) (k0_off7_inb i)).trans (congrArg (rows · (nfull i)) (harg3.read_unread x.k))
  have e4 : run_mid.sl.r_8 arg4 harg4 i x = rows x.v (nfull i) :=
    (read_rows arg4.view (harg4.unread x.v) hn (off7_eq i) (k0_off7_inb i)).trans (congrArg (rows · (nfull i)) (harg4.read_unread x.v))
  have e9 := (read_gates arg9.view (harg9.unread x.fr) hn (off8_eq i) (k0_off8_inb i)).trans (congrArg (gates · (nfull i)) (harg9.read_unread x.fr))
  have ep : run_mid.sl.r_9 arg2 harg2 arg3 harg3 arg6 harg6 arg8 harg8 arg9 harg9 c i x = probsM i x := by
    show k0_pay31 (BitVec.ofNat 32 (i 1).val) (run_mid.sl.r arg2 harg2 c x) (run_mid.sl.r_2 arg8 harg8 c i x) (run_mid.sl.r_3 arg6 harg6 c x)
      (w19 i) (w33 i) (arg3.view.readAt (Elt F) (Rect.unit (s := S8192x128) (k0_off7 i) S1024x128.size (k0_off7_inb i)).toLoadRect (harg3.unread x.k))
      (arg9.view.readAt (Elt F) (Rect.unit (s := S1x8x1x1024) (k0_off8 i) S1x1x1x1024.size (k0_off8_inb i)).toLoadRect (harg9.unread x.fr)) = _
    rw [h3, h13, h15, e3, e9]; rfl
  have ed : ∀ b : Vec F S8192x128 .f32, arg15.view.readAt (Elt F) (Rect.unit (s := S8192x128) (k0_off7 i) S1024x128.size (k0_off7_inb i)).toLoadRect
      (harg15.unread b) = rows b (nfull i) := fun b =>
    (read_rows arg15.view (harg15.unread b) hn (off7_eq i) (k0_off7_inb i)).trans (congrArg (rows · (nfull i)) (harg15.read_unread _))
  have ev : ∀ b : Vec F S8192x128 .f32, arg16.view.readAt (Elt F) (Rect.unit (s := S8192x128) (k0_off7 i) S1024x128.size (k0_off7_inb i)).toLoadRect
      (harg16.unread b) = rows b (nfull i) := fun b =>
    (read_rows arg16.view (harg16.unread b) hn (off7_eq i) (k0_off7_inb i)).trans (congrArg (rows · (nfull i)) (harg16.read_unread _))
  have ef : ∀ b : Vec F S8x1x1024 .f32, arg17.view.readAt (Elt F) (Rect.unit (s := S8x1x1024) (k0_off9 i) S1x1x1024.size (k0_off9_inb i)).toLoadRect
      (harg17.unread b) = slab b (nfull i) := fun b =>
    (read_slab arg17.view (harg17.unread b) hn (off9_eq i) (k0_off9_inb i)).trans (congrArg (slab · (nfull i)) (harg17.read_unread _))
  have E15 : arg15.view.writes (Elt F) (harg15.unread (loopSt i x a (Scf.trips (k0_t1_loop i).lb (k0_t1_loop i).ub (k0_t1_loop i).st)).acc.dk)
      [⟨Rect.unit (s := S8192x128) (k0_off7 i) S1024x128.size (k0_off7_inb i), k0_pay34 (run_mid.sl.r arg2 harg2 c x) (run_mid.sl.r_1 arg5 harg5 c x) (run_mid.sl.r_4 arg7 harg7 c x) (run_mid.sl.r_8 arg4 harg4 i x) (run_mid.sl.r_9 arg2 harg2 arg3 harg3 arg6 harg6 arg8 harg8 arg9 harg9 c i x) run_mid.sl.cst_35 (arg15.view.readAt (Elt F)
        (Rect.unit (s := S8192x128) (k0_off7 i) S1024x128.size (k0_off7_inb i)).toLoadRect (harg15.unread (loopSt i x a (Scf.trips (k0_t1_loop i).lb (k0_t1_loop i).ub (k0_t1_loop i).st)).acc.dk))⟩]
      = harg15.unread (pointSt i x a).acc.dk := by
    rw [ht, h3, h4, h17, e4, ep, ed]; exact writes_unread harg15 _ _ (off7_eq i) rfl
  have E16 : arg16.view.writes (Elt F) (harg16.unread (loopSt i x a (Scf.trips (k0_t1_loop i).lb (k0_t1_loop i).ub (k0_t1_loop i).st)).acc.dv)
      [⟨Rect.unit (s := S8192x128) (k0_off7 i) S1024x128.size (k0_off7_inb i), k0_pay35 (run_mid.sl.r_1 arg5 harg5 c x) (run_mid.sl.r_9 arg2 harg2 arg3 harg3 arg6 harg6 arg8 harg8 arg9 harg9 c i x) (arg16.view.readAt (Elt F)
        (Rect.unit (s := S8192x128) (k0_off7 i) S1024x128.size (k0_off7_inb i)).toLoadRect (harg16.unread (loopSt i x a (Scf.trips (k0_t1_loop i).lb (k0_t1_loop i).ub (k0_t1_loop i).st)).acc.dv))⟩]
      = harg16.unread (pointSt i x a).acc.dv := by
    rw [ht, h4, ep, ev]; exact writes_unread harg16 _ _ (off7_eq i) rfl
  have E17 : arg17.view.writes (Elt F) (harg17.unread (loopSt i x a (Scf.trips (k0_t1_loop i).lb (k0_t1_loop i).ub (k0_t1_loop i).st)).acc.df)
      [⟨Rect.unit (s := S8x1x1024) (k0_off9 i) S1x1x1024.size (k0_off9_inb i), k0_pay36 (run_mid.sl.r_1 arg5 harg5 c x) (run_mid.sl.r_4 arg7 harg7 c x) (run_mid.sl.r_8 arg4 harg4 i x) (run_mid.sl.r_9 arg2 harg2 arg3 harg3 arg6 harg6 arg8 harg8 arg9 harg9 c i x) run_mid.sl.cst_35 (arg17.view.readAt (Elt F)
        (Rect.unit (s := S8x1x1024) (k0_off9 i) S1x1x1024.size (k0_off9_inb i)).toLoadRect (harg17.unread (loopSt i x a (Scf.trips (k0_t1_loop i).lb (k0_t1_loop i).ub (k0_t1_loop i).st)).acc.df))⟩]
      = harg17.unread (pointSt i x a).acc.df := by
    rw [ht, h4, h17, e4, ep, ef]; exact writes_unread harg17 _ _ (off9_eq i) rfl
  iapply Hk
  isplitl [H2]
  · iexists _
    isplitr [H2]
    rotate_left
    · iexact H2
    ipureintro
    exact harg2.read_unread _
  isplitl [H3]
  · iexists _
    isplitr [H3]
    rotate_left
    · iexact H3
    ipureintro
    exact harg3.read_unread _
  isplitl [H4]
  · iexists _
    isplitr [H4]
    rotate_left
    · iexact H4
    ipureintro
    exact harg4.read_unread _
  isplitl [H5]
  · iexists _
    isplitr [H5]
    rotate_left
    · iexact H5
    ipureintro
    exact harg5.read_unread _
  isplitl [H6]
  · iexists _
    isplitr [H6]
    rotate_left
    · iexact H6
    ipureintro
    exact harg6.read_unread _
  isplitl [H7]
  · iexists _
    isplitr [H7]
    rotate_left
    · iexact H7
    ipureintro
    exact harg7.read_unread _
  isplitl [H8]
  · iexists _
    isplitr [H8]
    rotate_left
    · iexact H8
    ipureintro
    exact harg8.read_unread _
  isplitl [H9]
  · iexists _
    isplitr [H9]
    rotate_left
    · iexact H9
    ipureintro
    exact harg9.read_unread _
  isplitl [H10]
  · iexists _
    isplitr [H10]
    rotate_left
    · iexact H10
    ipureintro
    refine (View.read_writes_full arg10.view f10 _ _ []).trans ?_
    show k0_pay38 (run_mid.sl.r_1 arg5 harg5 c x) (run_mid.sl.r_4 arg7 harg7 c x) (loopSt i x a (Scf.trips (k0_t1_loop i).lb (k0_t1_loop i).ub (k0_t1_loop i).st)).dq
      (arg3.view.readAt (Elt F) (Rect.unit (s := S8192x128) (k0_off7 i) S1024x128.size (k0_off7_inb i)).toLoadRect (harg3.unread x.k))
      (run_mid.sl.r_8 arg4 harg4 i x) (run_mid.sl.r_9 arg2 harg2 arg3 harg3 arg6 harg6 arg8 harg8 arg9 harg9 c i x) run_mid.sl.cst_35 = _
    rw [ht, h4, h17, e3, e4, ep]; rfl
  isplitl [H14]
  · iexists _
    isplitr [H14]
    rotate_left
    · iexact H14
    ipureintro
    refine (View.read_writes_full arg14.view f14 _ _ []).trans ?_
    show k0_pay1 (k0_pay37 (run_mid.sl.r_1 arg5 harg5 c x) (run_mid.sl.r_4 arg7 harg7 c x) (loopSt i x a (Scf.trips (k0_t1_loop i).lb (k0_t1_loop i).ub (k0_t1_loop i).st)).dg
      (run_mid.sl.r_8 arg4 harg4 i x) (run_mid.sl.r_9 arg2 harg2 arg3 harg3 arg6 harg6 arg8 harg8 arg9 harg9 c i x) run_mid.sl.cst_35) = _
    rw [ht, h4, h17, e4, ep]; rfl
  isplitl [H15]
  · iexists _
    isplitr [H15]
    rotate_left
    · iexact H15
    ipureintro
    exact (congrArg (arg15.view.read (Elt F)) E15).trans (harg15.read_unread _)
  isplitl [H16]
  · iexists _
    isplitr [H16]
    rotate_left
    · iexact H16
    ipureintro
    exact (congrArg (arg16.view.read (Elt F)) E16).trans (harg16.read_unread _)
  iexists _
  isplitr [H17]
  rotate_left
  · iexact H17
  ipureintro
  exact (congrArg (arg17.view.read (Elt F)) E17).trans (harg17.read_unread _)

/-- The masked block's offsets in closed form, for the run to read. -/
local instance closed7 (i : grid0.Coords) : ClosedOff (k0_off7 i) := ⟨![1024 * nfull i, 0], off7_eq i⟩
local instance closed9 (i : grid0.Coords) : ClosedOff (k0_off9 i) := ⟨![nfull i, 0, 0], off9_eq i⟩

set_option maxHeartbeats 4000000 in
/-- A head's last point. -/
theorem run_last (c : Dev nD) (E : Set ℕ) (i : grid0.Coords) (x : Ins F) (a : Acc F) (hc0 : ¬ isFirst i) (hc1 : isLast i) (K : PUnit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.dy ∗ owns (c : Thread nD τ) arg6 fullShare x.lse ∗ owns (c : Thread nD τ) arg7 fullShare x.dl ∗ owns (c : Thread nD τ) arg8 fullShare x.fc ∗ owns (c : Thread nD τ) arg9 fullShare x.fr ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare a.dk ∗ owns (c : Thread nD τ) arg16 fullShare a.dv ∗ owns (c : Thread nD τ) arg17 fullShare a.df
        ∗ ((owns (c : Thread nD τ) arg2 fullShare x.q ∗ owns (c : Thread nD τ) arg3 fullShare x.k ∗ owns (c : Thread nD τ) arg4 fullShare x.v ∗ owns (c : Thread nD τ) arg5 fullShare x.dy ∗ owns (c : Thread nD τ) arg6 fullShare x.lse ∗ owns (c : Thread nD τ) arg7 fullShare x.dl ∗ owns (c : Thread nD τ) arg8 fullShare x.fc ∗ owns (c : Thread nD τ) arg9 fullShare x.fr ∗ owns (c : Thread nD τ) arg10 fullShare (outQ (pointSt i x a)) ∗ owns (c : Thread nD τ) arg11 fullShare (k0_pay2 (pointSt i x a).acc.dk) ∗ owns (c : Thread nD τ) arg12 fullShare (k0_pay3 (pointSt i x a).acc.dv) ∗ owns (c : Thread nD τ) arg13 fullShare (k0_pay4 (pointSt i x a).acc.df) ∗ owns (c : Thread nD τ) arg14 fullShare (k0_pay1 (pointSt i x a).dg) ∗ owns (c : Thread nD τ) arg15 fullShare (pointSt i x a).acc.dk ∗ owns (c : Thread nD τ) arg16 fullShare (pointSt i x a).acc.dv ∗ owns (c : Thread nD τ) arg17 fullShare (pointSt i x a).acc.df) -∗ K ⟨⟩))
      ⊢ wp frame (wpE (defs₀ (F := F)) Variants.none (c : Thread nD τ) none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_fox_bwd_eq_skeleton]; unfold cc0_fox_bwd_skel
  simp only [k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%e10, %f10, %hf10, H10⟩, ⟨%e11, %f11, %hf11, H11⟩, ⟨%e12, %f12, %hf12, H12⟩, ⟨%e13, %f13, %hf13, H13⟩, ⟨%e14, %f14, %hf14, H14⟩, ⟨%f15, %hf15, H15⟩, ⟨%f16, %hf16, H16⟩, ⟨%f17, %hf17, H17⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg15.eq_unread hf15
  obtain rfl := harg16.eq_unread hf16
  obtain rfl := harg17.eq_unread hf17
  sl_exec (disch := first | sl_exact hc0 | sl_exact hc1)
  have h3 : run_last.sl.r arg2 harg2 c x = x.q := (View.readAt_full arg2.view (harg2.unread x.q) _).trans (harg2.read_unread x.q)
  have h4 : run_last.sl.r_1 arg5 harg5 c x = x.dy := (View.readAt_full arg5.view (harg5.unread x.dy) _).trans (harg5.read_unread x.dy)
  have h13 : run_last.sl.r_2 arg8 harg8 c i x = k0_pay20 i x.fc :=
    congrArg (k0_pay20 i) ((View.readAt_full arg8.view (harg8.unread x.fc) _).trans (harg8.read_unread x.fc))
  have h15 : run_last.sl.r_3 arg6 harg6 c x = k0_pay21 x.lse :=
    congrArg k0_pay21 ((View.readAt_full arg6.view (harg6.unread x.lse) _).trans (harg6.read_unread x.lse))
  have h17 : run_last.sl.r_4 arg7 harg7 c x = k0_pay22 x.dl :=
    congrArg k0_pay22 ((View.readAt_full arg7.view (harg7.unread x.dl) _).trans (harg7.read_unread x.dl))
  let L := foxLoop arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c E i x a (BitVec.ofNat 32 (i 1).val) (run_last.sl.v19 i) (run_last.sl.v33 i)
    (init := (k0_pay23 (F := F), k0_pay24 (F := F))) h3 h4 h13 h15 h17
  sl_exec (disch := first | sl_exact hc0 | sl_exact hc1)
  sl_step
  have ht : Scf.trips (k0_t1_loop i).lb (k0_t1_loop i).ub (k0_t1_loop i).st = nfull i := trips_eq i
  have hn := nfull_lt i
  have e3 := (read_rows arg3.view (harg3.unread x.k) hn (off7_eq i) (k0_off7_inb i)).trans (congrArg (rows · (nfull i)) (harg3.read_unread x.k))
  have e4 : run_last.sl.r_8 arg4 harg4 i x = rows x.v (nfull i) :=
    (read_rows arg4.view (harg4.unread x.v) hn (off7_eq i) (k0_off7_inb i)).trans (congrArg (rows · (nfull i)) (harg4.read_unread x.v))
  have e9 := (read_gates arg9.view (harg9.unread x.fr) hn (off8_eq i) (k0_off8_inb i)).trans (congrArg (gates · (nfull i)) (harg9.read_unread x.fr))
  have ep : run_last.sl.r_9 arg2 harg2 arg3 harg3 arg6 harg6 arg8 harg8 arg9 harg9 c i x = probsM i x := by
    show k0_pay31 (BitVec.ofNat 32 (i 1).val) (run_last.sl.r arg2 harg2 c x) (run_last.sl.r_2 arg8 harg8 c i x) (run_last.sl.r_3 arg6 harg6 c x)
      (w19 i) (w33 i) (arg3.view.readAt (Elt F) (Rect.unit (s := S8192x128) (k0_off7 i) S1024x128.size (k0_off7_inb i)).toLoadRect (harg3.unread x.k))
      (arg9.view.readAt (Elt F) (Rect.unit (s := S1x8x1x1024) (k0_off8 i) S1x1x1x1024.size (k0_off8_inb i)).toLoadRect (harg9.unread x.fr)) = _
    rw [h3, h13, h15, e3, e9]; rfl
  have ed : ∀ b : Vec F S8192x128 .f32, arg15.view.readAt (Elt F) (Rect.unit (s := S8192x128) (k0_off7 i) S1024x128.size (k0_off7_inb i)).toLoadRect
      (harg15.unread b) = rows b (nfull i) := fun b =>
    (read_rows arg15.view (harg15.unread b) hn (off7_eq i) (k0_off7_inb i)).trans (congrArg (rows · (nfull i)) (harg15.read_unread _))
  have ev : ∀ b : Vec F S8192x128 .f32, arg16.view.readAt (Elt F) (Rect.unit (s := S8192x128) (k0_off7 i) S1024x128.size (k0_off7_inb i)).toLoadRect
      (harg16.unread b) = rows b (nfull i) := fun b =>
    (read_rows arg16.view (harg16.unread b) hn (off7_eq i) (k0_off7_inb i)).trans (congrArg (rows · (nfull i)) (harg16.read_unread _))
  have ef : ∀ b : Vec F S8x1x1024 .f32, arg17.view.readAt (Elt F) (Rect.unit (s := S8x1x1024) (k0_off9 i) S1x1x1024.size (k0_off9_inb i)).toLoadRect
      (harg17.unread b) = slab b (nfull i) := fun b =>
    (read_slab arg17.view (harg17.unread b) hn (off9_eq i) (k0_off9_inb i)).trans (congrArg (slab · (nfull i)) (harg17.read_unread _))
  have E15 : arg15.view.writes (Elt F) (harg15.unread (loopSt i x a (Scf.trips (k0_t1_loop i).lb (k0_t1_loop i).ub (k0_t1_loop i).st)).acc.dk)
      [⟨Rect.unit (s := S8192x128) (k0_off7 i) S1024x128.size (k0_off7_inb i), k0_pay34 (run_last.sl.r arg2 harg2 c x) (run_last.sl.r_1 arg5 harg5 c x) (run_last.sl.r_4 arg7 harg7 c x) (run_last.sl.r_8 arg4 harg4 i x) (run_last.sl.r_9 arg2 harg2 arg3 harg3 arg6 harg6 arg8 harg8 arg9 harg9 c i x) run_last.sl.cst_35 (arg15.view.readAt (Elt F)
        (Rect.unit (s := S8192x128) (k0_off7 i) S1024x128.size (k0_off7_inb i)).toLoadRect (harg15.unread (loopSt i x a (Scf.trips (k0_t1_loop i).lb (k0_t1_loop i).ub (k0_t1_loop i).st)).acc.dk))⟩]
      = harg15.unread (pointSt i x a).acc.dk := by
    rw [ht, h3, h4, h17, e4, ep, ed]; exact writes_unread harg15 _ _ (off7_eq i) rfl
  have E16 : arg16.view.writes (Elt F) (harg16.unread (loopSt i x a (Scf.trips (k0_t1_loop i).lb (k0_t1_loop i).ub (k0_t1_loop i).st)).acc.dv)
      [⟨Rect.unit (s := S8192x128) (k0_off7 i) S1024x128.size (k0_off7_inb i), k0_pay35 (run_last.sl.r_1 arg5 harg5 c x) (run_last.sl.r_9 arg2 harg2 arg3 harg3 arg6 harg6 arg8 harg8 arg9 harg9 c i x) (arg16.view.readAt (Elt F)
        (Rect.unit (s := S8192x128) (k0_off7 i) S1024x128.size (k0_off7_inb i)).toLoadRect (harg16.unread (loopSt i x a (Scf.trips (k0_t1_loop i).lb (k0_t1_loop i).ub (k0_t1_loop i).st)).acc.dv))⟩]
      = harg16.unread (pointSt i x a).acc.dv := by
    rw [ht, h4, ep, ev]; exact writes_unread harg16 _ _ (off7_eq i) rfl
  have E17 : arg17.view.writes (Elt F) (harg17.unread (loopSt i x a (Scf.trips (k0_t1_loop i).lb (k0_t1_loop i).ub (k0_t1_loop i).st)).acc.df)
      [⟨Rect.unit (s := S8x1x1024) (k0_off9 i) S1x1x1024.size (k0_off9_inb i), k0_pay36 (run_last.sl.r_1 arg5 harg5 c x) (run_last.sl.r_4 arg7 harg7 c x) (run_last.sl.r_8 arg4 harg4 i x) (run_last.sl.r_9 arg2 harg2 arg3 harg3 arg6 harg6 arg8 harg8 arg9 harg9 c i x) run_last.sl.cst_35 (arg17.view.readAt (Elt F)
        (Rect.unit (s := S8x1x1024) (k0_off9 i) S1x1x1024.size (k0_off9_inb i)).toLoadRect (harg17.unread (loopSt i x a (Scf.trips (k0_t1_loop i).lb (k0_t1_loop i).ub (k0_t1_loop i).st)).acc.df))⟩]
      = harg17.unread (pointSt i x a).acc.df := by
    rw [ht, h4, h17, e4, ep, ef]; exact writes_unread harg17 _ _ (off9_eq i) rfl
  iapply Hk
  isplitl [H2]
  · iexists _
    isplitr [H2]
    rotate_left
    · iexact H2
    ipureintro
    exact harg2.read_unread _
  isplitl [H3]
  · iexists _
    isplitr [H3]
    rotate_left
    · iexact H3
    ipureintro
    exact harg3.read_unread _
  isplitl [H4]
  · iexists _
    isplitr [H4]
    rotate_left
    · iexact H4
    ipureintro
    exact harg4.read_unread _
  isplitl [H5]
  · iexists _
    isplitr [H5]
    rotate_left
    · iexact H5
    ipureintro
    exact harg5.read_unread _
  isplitl [H6]
  · iexists _
    isplitr [H6]
    rotate_left
    · iexact H6
    ipureintro
    exact harg6.read_unread _
  isplitl [H7]
  · iexists _
    isplitr [H7]
    rotate_left
    · iexact H7
    ipureintro
    exact harg7.read_unread _
  isplitl [H8]
  · iexists _
    isplitr [H8]
    rotate_left
    · iexact H8
    ipureintro
    exact harg8.read_unread _
  isplitl [H9]
  · iexists _
    isplitr [H9]
    rotate_left
    · iexact H9
    ipureintro
    exact harg9.read_unread _
  isplitl [H10]
  · iexists _
    isplitr [H10]
    rotate_left
    · iexact H10
    ipureintro
    refine (View.read_writes_full arg10.view f10 _ _ []).trans ?_
    show k0_pay38 (run_last.sl.r_1 arg5 harg5 c x) (run_last.sl.r_4 arg7 harg7 c x) (loopSt i x a (Scf.trips (k0_t1_loop i).lb (k0_t1_loop i).ub (k0_t1_loop i).st)).dq
      (arg3.view.readAt (Elt F) (Rect.unit (s := S8192x128) (k0_off7 i) S1024x128.size (k0_off7_inb i)).toLoadRect (harg3.unread x.k))
      (run_last.sl.r_8 arg4 harg4 i x) (run_last.sl.r_9 arg2 harg2 arg3 harg3 arg6 harg6 arg8 harg8 arg9 harg9 c i x) run_last.sl.cst_35 = _
    rw [ht, h4, h17, e3, e4, ep]; rfl
  isplitl [H11]
  · iexists _
    isplitr [H11]
    rotate_left
    · iexact H11
    ipureintro
    refine (View.read_writes_full arg11.view f11 _ _ []).trans ?_
    exact congrArg k0_pay2 ((View.readAt_full arg15.view _ _).trans
      ((congrArg (arg15.view.read (Elt F)) E15).trans (harg15.read_unread _)))
  isplitl [H12]
  · iexists _
    isplitr [H12]
    rotate_left
    · iexact H12
    ipureintro
    refine (View.read_writes_full arg12.view f12 _ _ []).trans ?_
    exact congrArg k0_pay3 ((View.readAt_full arg16.view _ _).trans
      ((congrArg (arg16.view.read (Elt F)) E16).trans (harg16.read_unread _)))
  isplitl [H13]
  · iexists _
    isplitr [H13]
    rotate_left
    · iexact H13
    ipureintro
    refine (View.read_writes_full arg13.view f13 _ _ []).trans ?_
    exact congrArg k0_pay4 ((View.readAt_full arg17.view _ _).trans
      ((congrArg (arg17.view.read (Elt F)) E17).trans (harg17.read_unread _)))
  isplitl [H14]
  · iexists _
    isplitr [H14]
    rotate_left
    · iexact H14
    ipureintro
    refine (View.read_writes_full arg14.view f14 _ _ []).trans ?_
    show k0_pay1 (k0_pay37 (run_last.sl.r_1 arg5 harg5 c x) (run_last.sl.r_4 arg7 harg7 c x) (loopSt i x a (Scf.trips (k0_t1_loop i).lb (k0_t1_loop i).ub (k0_t1_loop i).st)).dg
      (run_last.sl.r_8 arg4 harg4 i x) (run_last.sl.r_9 arg2 harg2 arg3 harg3 arg6 harg6 arg8 harg8 arg9 harg9 c i x) run_last.sl.cst_35) = _
    rw [ht, h4, h17, e4, ep]; rfl
  isplitl [H15]
  · iexists _
    isplitr [H15]
    rotate_left
    · iexact H15
    ipureintro
    exact (congrArg (arg15.view.read (Elt F)) E15).trans (harg15.read_unread _)
  isplitl [H16]
  · iexists _
    isplitr [H16]
    rotate_left
    · iexact H16
    ipureintro
    exact (congrArg (arg16.view.read (Elt F)) E16).trans (harg16.read_unread _)
  iexists _
  isplitr [H17]
  rotate_left
  · iexact H17
  ipureintro
  exact (congrArg (arg17.view.read (Elt F)) E17).trans (harg17.read_unread _)

end Cert.KernelIdeal.Fox

end
-- ==== Proof.Frame.lean ====
/-
  The whole launch: the state the grid's points leave one after another, the pipeline's proof data over it, the obligation
  of each point, and the run — at any values `F`.
-/
module

public import proofs.«01_k».proof.Proof.Point
public import proofs.«01_k».proof.Proof.Gen.KernelIdeal.Frame
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points: a head's first, its last, and the blocks written at the last alone -/

theorem isFirst_iff (t : Fin cfg0.N) : isFirst (grid0.coords t) ↔ t.val % 32 = 0 :=
  (fun t => by
    have ht : t.val < 128 := Nat.lt_of_lt_of_eq t.isLt N_0
    have e1 : (grid0.coords t 1).val = t.val / 1 % 32 := Pipeline.Grid.coords_val t 1 (by decide) rfl
    simp only [isFirst, e1]
    word_cmp
   : ∀ t : Fin grid0.N, isFirst (grid0.coords t) ↔ t.val % 32 = 0) t

theorem isLast_iff (t : Fin cfg0.N) : isLast (grid0.coords t) ↔ t.val % 32 = 31 :=
  (fun t => by
    have ht : t.val < 128 := Nat.lt_of_lt_of_eq t.isLt N_0
    have e1 : (grid0.coords t 1).val = t.val / 1 % 32 := Pipeline.Grid.coords_val t 1 (by decide) rfl
    simp only [isLast, k0_cond2, e1]
    word_cmp
   : ∀ t : Fin grid0.N, isLast (grid0.coords t) ↔ t.val % 32 = 31) t

theorem idle9 : ∀ t : Fin cfg0.N, ¬ isLast (grid0.coords t) → cfg0.idle 9 (grid0.coords t) = true := by decide +kernel
theorem live9 : ∀ t : Fin cfg0.N, isLast (grid0.coords t) → cfg0.idle 9 (grid0.coords t) = false := by decide +kernel
theorem noFlush9 : ∀ t : Fin cfg0.N, ¬ isLast (grid0.coords t) → (cfg0.win 9).flush t = false := by decide +kernel
theorem idle10 : ∀ t : Fin cfg0.N, ¬ isLast (grid0.coords t) → cfg0.idle 10 (grid0.coords t) = true := by decide +kernel
theorem live10 : ∀ t : Fin cfg0.N, isLast (grid0.coords t) → cfg0.idle 10 (grid0.coords t) = false := by decide +kernel
theorem noFlush10 : ∀ t : Fin cfg0.N, ¬ isLast (grid0.coords t) → (cfg0.win 10).flush t = false := by decide +kernel
theorem idle11 : ∀ t : Fin cfg0.N, ¬ isLast (grid0.coords t) → cfg0.idle 11 (grid0.coords t) = true := by decide +kernel
theorem live11 : ∀ t : Fin cfg0.N, isLast (grid0.coords t) → cfg0.idle 11 (grid0.coords t) = false := by decide +kernel
theorem noFlush11 : ∀ t : Fin cfg0.N, ¬ isLast (grid0.coords t) → (cfg0.win 11).flush t = false := by decide +kernel

/-! ## The buffers of a point -/

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S8192x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S8192x128 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x8x1x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256x1 .f32 := win0_12.stage (cfg0.slots t 12)
abbrev hs12 (t : Fin cfg0.N) : (ms12 t).IsWhole := hstage0_12 ((cfg0.slots t 12).cast nbuf0_12)
abbrev scK : Memref sig .tc .vmem S8192x128 .f32 := Memref.whole cc0_scratch0
abbrev scV : Memref sig .tc .vmem S8192x128 .f32 := Memref.whole cc0_scratch1
abbrev scF : Memref sig .tc .vmem S8x1x1024 .f32 := Memref.whole cc0_scratch2

/-- The launch's invariant with the accumulators as buffers owned at some contents. -/
theorem PhiA_eq (c : Dev nD) :
    (Pipeline.ΦA spec0 c : sProp 𝕄)
      = iprop(iprop((∃ d, owns (c : Thread nD τ) scK fullShare d) ∗ (∃ d, owns (c : Thread nD τ) scV fullShare d)
          ∗ (∃ d, owns (c : Thread nD τ) scF fullShare d)) ∗ (∃ r, prngReg c r)) := by
  unfold Pipeline.ΦA; rw [scopedRest0_eq]; simp only [scK, scV, scF, owns_whole]; try rfl

/-! ## The state over the points -/

/-- What point `t` reads: its windows' blocks. -/
def ins (c : Dev nD) (t : Fin cfg0.N) : Ins F where
  q := iblk m c 0 t
  k := iblk m c 1 t
  v := iblk m c 2 t
  dy := iblk m c 3 t
  lse := iblk m c 4 t
  dl := iblk m c 5 t
  fc := iblk m c 6 t
  fr := iblk m c 7 t

/-- The grid's `n`-th point. -/
def pt (n : ℕ) : Fin cfg0.N := ⟨n % 128, lt_of_lt_of_eq (Nat.mod_lt _ (by decide)) (N_0 : cfg0.N = 128).symm⟩

theorem pt_val (t : Fin cfg0.N) : pt t.val = t := by
  have ht : t.val < 128 := lt_of_lt_of_eq t.isLt (N_0 : cfg0.N = 128)
  exact Fin.ext (Nat.mod_eq_of_lt ht)

/-- The state after the `n`-th point: a head's first point starts from cleared accumulators, every other from what the point
    before left. -/
def stAt (c : Dev nD) : ℕ → St F
  | 0 => pointSt (grid0.coords (pt 0)) (ins m c (pt 0)) zeroAcc
  | n + 1 => pointSt (grid0.coords (pt (n + 1))) (ins m c (pt (n + 1))) (if (n + 1) % 32 = 0 then zeroAcc else (stAt c n).acc)

theorem stAt_first (c : Dev nD) (t : Fin cfg0.N) (h : t.val % 32 = 0) :
    stAt m c t.val = pointSt (grid0.coords t) (ins m c t) zeroAcc := by
  rcases hn : t.val with _ | n
  · have e : pt 0 = t := by rw [← hn]; exact pt_val t
    simp only [stAt, e]
  · have e : pt (n + 1) = t := by rw [← hn]; exact pt_val t
    have h' : (n + 1) % 32 = 0 := by rw [← hn]; exact h
    simp only [stAt, e, if_pos h']

theorem stAt_next (c : Dev nD) (t : Fin cfg0.N) (h : ¬ t.val % 32 = 0) :
    stAt m c t.val = pointSt (grid0.coords t) (ins m c t) (stAt m c (t.val - 1)).acc := by
  rcases hn : t.val with _ | n
  · exact absurd (by rw [hn]) h
  · have e : pt (n + 1) = t := by rw [← hn]; exact pt_val t
    have h' : ¬ (n + 1) % 32 = 0 := by rw [← hn]; exact h
    simp only [stAt, e, if_neg h', Nat.add_sub_cancel]

/-- The accumulators of state `s`, owned. -/
abbrev holds (c : Dev nD) (a : Acc F) : sProp 𝕄 :=
  iprop(owns (c : Thread nD τ) scK fullShare a.dk ∗ owns (c : Thread nD τ) scV fullShare a.dv ∗ owns (c : Thread nD τ) scF fullShare a.df)

/-- Before the `n`-th point: at the launch anything; afterwards the accumulators at what the point before left. -/
def Inv (c : Dev nD) : ℕ → sProp 𝕄
  | 0 => Pipeline.ΦA spec0 c
  | n + 1 => iprop(holds c (stAt m c n).acc ∗ (∃ r, prngReg c r))

theorem Inv_pos (c : Dev nD) (n : ℕ) (h : n ≠ 0) : Inv m c n = iprop(holds c (stAt m c (n - 1)).acc ∗ (∃ r, prngReg c r)) := by
  cases n with
  | zero => exact absurd rfl h
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (stAt m c t.val)
    | ⟨9, _⟩ => k0_pay2 (stAt m c t.val).acc.dk
    | ⟨10, _⟩ => k0_pay3 (stAt m c t.val).acc.dv
    | ⟨11, _⟩ => k0_pay4 (stAt m c t.val).acc.df
    | ⟨12, _⟩ => k0_pay1 (stAt m c t.val).dg
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outQ (stAt m c t.val) := by dsimp only [dats]
theorem after9 (c : Dev nD) (t : Fin cfg0.N) : (dats m 0 c).after 9 t = k0_pay2 (stAt m c t.val).acc.dk := by dsimp only [dats]
theorem after10 (c : Dev nD) (t : Fin cfg0.N) : (dats m 0 c).after 10 t = k0_pay3 (stAt m c t.val).acc.dv := by dsimp only [dats]
theorem after11 (c : Dev nD) (t : Fin cfg0.N) : (dats m 0 c).after 11 t = k0_pay4 (stAt m c t.val).acc.df := by dsimp only [dats]
theorem after12 (c : Dev nD) (t : Fin cfg0.N) : (dats m 0 c).after 12 t = k0_pay1 (stAt m c t.val).dg := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What a window that is live at the point is handed back with. -/
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (ms8 t) fullShare (outQ (stAt m c t.val)) := by
  unfold Dat.leavesExact; rw [show cfg0.idle 8 (grid0.coords t) = false from rfl, after8]
theorem leaves12 (c : Dev nD) (t : Fin cfg0.N) : (dats m 0 c).leavesExact 12 t = owns (c : Thread nD τ) (ms12 t) fullShare (k0_pay1 (stAt m c t.val).dg) := by
  unfold Dat.leavesExact; rw [show cfg0.idle 12 (grid0.coords t) = false from rfl, after12]
theorem leaves9 (c : Dev nD) (t : Fin cfg0.N) (h : isLast (grid0.coords t)) :
    (dats m 0 c).leavesExact 9 t = owns (c : Thread nD τ) (ms9 t) fullShare (k0_pay2 (stAt m c t.val).acc.dk) := by
  unfold Dat.leavesExact; rw [live9 t h, after9]
theorem leaves10 (c : Dev nD) (t : Fin cfg0.N) (h : isLast (grid0.coords t)) :
    (dats m 0 c).leavesExact 10 t = owns (c : Thread nD τ) (ms10 t) fullShare (k0_pay3 (stAt m c t.val).acc.dv) := by
  unfold Dat.leavesExact; rw [live10 t h, after10]
theorem leaves11 (c : Dev nD) (t : Fin cfg0.N) (h : isLast (grid0.coords t)) :
    (dats m 0 c).leavesExact 11 t = owns (c : Thread nD τ) (ms11 t) fullShare (k0_pay4 (stAt m c t.val).acc.df) := by
  unfold Dat.leavesExact; rw [live11 t h, after11]

/-! ## A point's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
theorem sound_first (c : Dev nD) (t : Fin cfg0.N) (h0 : t.val % 32 = 0) (h1 : ¬ t.val % 32 = 31) :
    iprop(iprop(((∃ d, owns (c : Thread nD τ) scK fullShare d) ∗ (∃ d, owns (c : Thread nD τ) scV fullShare d) ∗ (∃ d, owns (c : Thread nD τ) scF fullShare d)) ∗ (∃ r, prngReg c r)) ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
      ⊢ wp frame (wpE (defs₀ (F := F)) Variants.none c none) Set.univ (bodyAt0 t) (fun _ => bodyPost m c t) := by
  unfold bodyPost bodyAt0
  simp only [before0, before1, before2, before3, before4, before5, before6, before7]
  rw [show (dats m 0 c).owesAt () t.succ = (dats m 0 c).owesAt () t.castSucc from rfl,
    show (dats m 0 c).Φ t.succ = iprop(holds c (stAt m c t.val).acc ∗ (∃ r, prngReg c r)) from rfl]
  rw [leaves0, leaves1, leaves2, leaves3, leaves4, leaves5, leaves6, leaves7, leaves8, leaves12]
  rw [Dat.leavesExact_idle (dats m 0 c) 9 t (idle9 t (fun h => h1 ((isLast_iff t).mp h))) (noFlush9 t (fun h => h1 ((isLast_iff t).mp h)))]
  rw [Dat.leavesExact_idle (dats m 0 c) 10 t (idle10 t (fun h => h1 ((isLast_iff t).mp h))) (noFlush10 t (fun h => h1 ((isLast_iff t).mp h)))]
  rw [Dat.leavesExact_idle (dats m 0 c) 11 t (idle11 t (fun h => h1 ((isLast_iff t).mp h))) (noFlush11 t (fun h => h1 ((isLast_iff t).mp h)))]
  rw [stAt_first m c t h0]
  iintro ⟨⟨⟨⟨%e13, H13⟩, ⟨%e14, H14⟩, ⟨%e15, H15⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_first (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scK (Memref.isWhole_whole _) scV (Memref.isWhole_whole _) scF (Memref.isWhole_whole _) c Set.univ (grid0.coords t) (ins m c t) ((isFirst_iff t).mpr h0) (fun h => h1 ((isLast_iff t).mp h)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H12, H13, H14, H15⟩
  isplitl [H13 H14 H15 Hg]
  · isplitl [H13 H14 H15]
    · isplitl [H13]; · iexact H13
      isplitl [H14]; · iexact H14
      iexact H15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexact H12

set_option maxHeartbeats 4000000 in
theorem sound_mid (c : Dev nD) (t : Fin cfg0.N) (h0 : ¬ t.val % 32 = 0) (h1 : ¬ t.val % 32 = 31) :
    iprop(iprop(holds c (stAt m c (t.val - 1)).acc ∗ (∃ r, prngReg c r)) ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
      ⊢ wp frame (wpE (defs₀ (F := F)) Variants.none c none) Set.univ (bodyAt0 t) (fun _ => bodyPost m c t) := by
  unfold bodyPost bodyAt0
  simp only [before0, before1, before2, before3, before4, before5, before6, before7]
  rw [show (dats m 0 c).owesAt () t.succ = (dats m 0 c).owesAt () t.castSucc from rfl,
    show (dats m 0 c).Φ t.succ = iprop(holds c (stAt m c t.val).acc ∗ (∃ r, prngReg c r)) from rfl]
  rw [leaves0, leaves1, leaves2, leaves3, leaves4, leaves5, leaves6, leaves7, leaves8, leaves12]
  rw [Dat.leavesExact_idle (dats m 0 c) 9 t (idle9 t (fun h => h1 ((isLast_iff t).mp h))) (noFlush9 t (fun h => h1 ((isLast_iff t).mp h)))]
  rw [Dat.leavesExact_idle (dats m 0 c) 10 t (idle10 t (fun h => h1 ((isLast_iff t).mp h))) (noFlush10 t (fun h => h1 ((isLast_iff t).mp h)))]
  rw [Dat.leavesExact_idle (dats m 0 c) 11 t (idle11 t (fun h => h1 ((isLast_iff t).mp h))) (noFlush11 t (fun h => h1 ((isLast_iff t).mp h)))]
  rw [stAt_next m c t h0]
  iintro ⟨⟨⟨H13, H14, H15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_mid (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scK (Memref.isWhole_whole _) scV (Memref.isWhole_whole _) scF (Memref.isWhole_whole _) c Set.univ (grid0.coords t) (ins m c t) (stAt m c (t.val - 1)).acc (fun h => h0 ((isFirst_iff t).mp h)) (fun h => h1 ((isLast_iff t).mp h)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H12]; · iexists _; iexact H12
  isplitl [H13]; · iexact H13
  isplitl [H14]; · iexact H14
  isplitl [H15]; · iexact H15
  iintro ⟨H0, H1, H2, H3, H4, H5, H6, H7, H8, H12, H13, H14, H15⟩
  isplitl [H13 H14 H15 Hg]
  · isplitl [H13 H14 H15]
    · isplitl [H13]; · iexact H13
      isplitl [H14]; · iexact H14
      iexact H15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexact H12

set_option maxHeartbeats 4000000 in
theorem sound_last (c : Dev nD) (t : Fin cfg0.N) (h0 : ¬ t.val % 32 = 0) (h1 : t.val % 32 = 31) :
    iprop(iprop(holds c (stAt m c (t.val - 1)).acc ∗ (∃ r, prngReg c r)) ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
      ⊢ wp frame (wpE (defs₀ (F := F)) Variants.none c none) Set.univ (bodyAt0 t) (fun _ => bodyPost m c t) := by
  unfold bodyPost bodyAt0
  simp only [before0, before1, before2, before3, before4, before5, before6, before7]
  rw [show (dats m 0 c).owesAt () t.succ = (dats m 0 c).owesAt () t.castSucc from rfl,
    show (dats m 0 c).Φ t.succ = iprop(holds c (stAt m c t.val).acc ∗ (∃ r, prngReg c r)) from rfl]
  rw [leaves0, leaves1, leaves2, leaves3, leaves4, leaves5, leaves6, leaves7, leaves8, leaves12]
  rw [leaves9 m c t ((isLast_iff t).mpr h1), leaves10 m c t ((isLast_iff t).mpr h1), leaves11 m c t ((isLast_iff t).mpr h1)]
  rw [stAt_next m c t h0]
  iintro ⟨⟨⟨H13, H14, H15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_last (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scK (Memref.isWhole_whole _) scV (Memref.isWhole_whole _) scF (Memref.isWhole_whole _) c Set.univ (grid0.coords t) (ins m c t) (stAt m c (t.val - 1)).acc (fun h => h0 ((isFirst_iff t).mp h)) ((isLast_iff t).mpr h1) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexact H14
  isplitl [H15]; · iexact H15
  iintro ⟨H0, H1, H2, H3, H4, H5, H6, H7, H8, H9, H10, H11, H12, H13, H14, H15⟩
  isplitl [H13 H14 H15 Hg]
  · isplitl [H13 H14 H15]
    · isplitl [H13]; · iexact H13
      isplitl [H14]; · iexact H14
      iexact H15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem forget (c : Dev nD) (a : Acc F) : iprop(holds c a ∗ (∃ r, prngReg c r)) ⊢ (Pipeline.ΦA spec0 c : sProp 𝕄) := by
  rw [PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = Inv m c t.val from rfl]
  by_cases h0 : t.val % 32 = 0
  · have h1 : ¬ t.val % 32 = 31 := by omega
    refine Entails.trans (sep_mono ?_ (Entails.refl _)) (sound_first m c t h0 h1)
    rw [← PhiA_eq]
    by_cases hz : t.val = 0
    · rw [hz]; exact Entails.refl _
    · rw [Inv_pos m c _ hz]; exact forget c _
  · rw [Inv_pos m c _ (by intro hz; exact h0 (by rw [hz]))]
    by_cases h1 : t.val % 32 = 31
    · exact sound_last m c t h0 h1
    · exact sound_mid m c t h0 h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl]
  exact Entails.refl _

theorem hout (c : Dev nD) : (dats m 0 c).Φ (Fin.last cfg0.N) ⊢ Pipeline.ΦA spec0 c := by
  rw [show (dats m 0 c).Φ (Fin.last cfg0.N) = Inv m c cfg0.N from rfl, Inv_pos m c _ (by rw [show cfg0.N = 128 from N_0]; decide)]
  exact forget c _

/-! ## The run -/

set_option backward.isDefEq.respectTransparency.types false in
/-- Every run ends with every array at what the proof data says and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the run ends, the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Fox

end
-- ==== Proof.PointVal.lean ====
/-
  One grid point over the real numbers: where the blocks a point reads are those of real inputs, what it leaves in its
  accumulators and its results are the partial sums of the attention's gradients.
-/
module

public import proofs.«01_k».proof.Proof.Step
public import proofs.«01_k».proof.Proof.Model
public import Idealize.ShloMosaic.Lib.Pointwise
public import Idealize.ShloMosaic.Lib.WordCmp

@[expose] public section

set_option maxRecDepth 16384

noncomputable section

namespace Cert.KernelIdeal.Fox

open Idealize.ShloMosaic
open Cert.KernelIdeal Cert.KernelIdeal.Gen
open Cert.FoxModel (Data)
open scoped BigOperators

/-- The scale's word as the real number it is. -/
theorem scale_real : ∃ c : ℝ, Ideal.ofBits .f32 0x3DB504F3#32 = (c : EReal) := by
  unfold Ideal.ofBits Ideal.ieee
  dsimp only
  rw [if_neg (by decide), if_neg (by decide)]
  exact ⟨_, rfl⟩

/-- What a point of head `h` and query block `b` reads, as real inputs. -/
structure Reads (X : Data) (h b : ℕ) (x : Ins Ideal) : Prop where
  hb : b < 32
  c0 : Ideal.ofBits .f32 0x3DB504F3#32 = (X.c0 : EReal)
  q : ∀ (r : Fin 256) (e : Fin 128), x.q (ix2 r e) = (X.Q h (256 * b + r.val) e.val : EReal)
  k : ∀ (j : Fin 8192) (e : Fin 128), x.k (ix2 j e) = (X.K h j.val e.val : EReal)
  v : ∀ (j : Fin 8192) (e : Fin 128), x.v (ix2 j e) = (X.V h j.val e.val : EReal)
  dy : ∀ (r : Fin 256) (e : Fin 128), x.dy (ix2 r e) = (X.D h (256 * b + r.val) e.val : EReal)
  lse : ∀ r : Fin 256, x.lse (ix3 0 r 0) = (FoxModel.lse X h (256 * b + r.val) : EReal)
  dl : ∀ r : Fin 256, x.dl (ix3 0 r 0) = (FoxModel.dl X h (256 * b + r.val) : EReal)
  fc : ∀ (r : Fin 256) (l : Fin 128), l.val = h → x.fc (ix2 r l) = (X.C h (256 * b + r.val) : EReal)
  fr : ∀ (j : Fin 8) (l : Fin 1024), x.fr (ix4 0 j 0 l) = (X.C h (1024 * j.val + l.val) : EReal)

/-! ## The payloads at an index -/

theorem rows_apply {e : EltTy} (x : Vec Ideal S8192x128 e) {j : ℕ} (hj : j < 8) (r : Fin 1024) (l : Fin 128) :
    rows x j (ix2 r l) = x (ix2 (⟨1024 * j + r.val, by omega⟩ : Fin 8192) l) := by
  refine congrArg x (funext fun a => Fin.ext ?_)
  have h0 : r.val < 1024 := r.isLt
  match a with
  | ⟨0, _⟩ => show (1024 * j + r.val) % 8192 = 1024 * j + r.val; omega
  | ⟨1, _⟩ => rfl

theorem gates_apply (x : Vec Ideal S1x8x1x1024 .f32) {j : ℕ} (hj : j < 8) (l : Fin 1024) :
    gates x j (ix4 0 0 0 l) = x (ix4 0 (⟨j, hj⟩ : Fin 8) 0 l) := by
  refine congrArg x (funext fun a => Fin.ext ?_)
  match a with
  | ⟨0, _⟩ => rfl
  | ⟨1, _⟩ => show j % 8 = j; omega
  | ⟨2, _⟩ => rfl
  | ⟨3, _⟩ => rfl

theorem slab_apply (x : Vec Ideal S8x1x1024 .f32) {j : ℕ} (hj : j < 8) (l : Fin 1024) :
    slab x j (ix3 0 0 l) = x (ix3 (⟨j, hj⟩ : Fin 8) 0 l) := by
  refine congrArg x (funext fun a => Fin.ext ?_)
  match a with
  | ⟨0, _⟩ => show j % 8 = j; omega
  | ⟨1, _⟩ => rfl
  | ⟨2, _⟩ => rfl

theorem pay5_apply (q : Vec Ideal S256x128 .bf16) (a b : FVec Ideal S256x1 .f32) (k : Vec Ideal S1024x128 .bf16)
    (g : Vec Ideal S1x1x1x1024 .f32) (r : Fin 256) (l : Fin 1024) :
    k0_pay5 q a b k g (ix2 r l)
      = Ideal.exp ((∑ x : Fin 128, q (ix2 r x) * k (ix2 l x)) * Ideal.ofBits FTy.f32 0x3DB504F3#32 + (a (ix2 r 0) - g (ix4 0 0 0 l)) - b (ix2 r 0)) := by
  pointwise [k0_pay5]

theorem pay20_apply (i : grid0.Coords) (x : Vec Ideal S256x128 .f32) (r : Fin 256) :
    k0_pay20 i x (ix2 r 0)
      = ∑ l : Fin 128, Scalar.select (IntOp.cmpi .eq (BitVec.ofNat 32 l.val) (BitVec.ofNat 32 (i 0).val)) (x (ix2 r l)) 0 := by
  pointwise [k0_pay20]

theorem pay31_apply (w1 w : BitVec 32) (w' : BitVec 1) (q : Vec Ideal S256x128 .bf16) (a b : FVec Ideal S256x1 .f32) (k : Vec Ideal S1024x128 .bf16)
    (g : Vec Ideal S1x1x1x1024 .f32) (r : Fin 256) (l : Fin 1024) :
    k0_pay31 w1 q a b w w' k g (ix2 r l)
      = Scalar.select
          (IntOp.cmpi .sle (IntOp.addi (Scalar.muli (Scalar.select w' (Scalar.subi w 1#32) w) 1024#32) (BitVec.ofNat 32 l.val))
            (IntOp.addi (Scalar.muli w1 256#32) (BitVec.ofNat 32 r.val)))
          (k0_pay5 q a b k g (ix2 r l)) 0 := by
  rw [pay5_apply]
  pointwise [k0_pay31]

theorem pay32_apply (dy : Vec Ideal S256x128 .bf16) (dl : Vec Ideal S1x256x1 .f32) (v : Vec Ideal S1024x128 .bf16)
    (p : FVec Ideal S256x1024 .f32) (r : Fin 256) (l : Fin 1024) :
    k0_pay32 dy (k0_pay22 dl) v p zblk (ix2 r l) = p (ix2 r l) * (∑ x : Fin 128, dy (ix2 r x) * v (ix2 l x) - dl (ix3 0 r 0)) := by
  pointwise [k0_pay32, k0_pay22, zblk]

theorem pay33_apply (dy : Vec Ideal S256x128 .bf16) (dl : FVec Ideal S256x1 .f32) (v : Vec Ideal S1024x128 .bf16)
    (p : FVec Ideal S256x1024 .f32) (r : Fin 256) (l : Fin 1024) :
    k0_pay33 dy dl v p zblk (ix2 r l) = k0_pay32 dy dl v p zblk (ix2 r l) := by
  pointwise [k0_pay33]

theorem pay34_apply (q dy : Vec Ideal S256x128 .bf16) (dl : FVec Ideal S256x1 .f32) (v : Vec Ideal S1024x128 .bf16)
    (p : FVec Ideal S256x1024 .f32) (o : Vec Ideal S1024x128 .f32) (r : Fin 1024) (l : Fin 128) :
    k0_pay34 q dy dl v p zblk o (ix2 r l) = o (ix2 r l) + ∑ x : Fin 256, k0_pay33 dy dl v p zblk (ix2 x r) * q (ix2 x l) := by
  pointwise [k0_pay34]

theorem pay35_apply (dy : Vec Ideal S256x128 .bf16) (p : FVec Ideal S256x1024 .f32) (o : Vec Ideal S1024x128 .f32) (r : Fin 1024) (l : Fin 128) :
    k0_pay35 dy p o (ix2 r l) = o (ix2 r l) + ∑ x : Fin 256, p (ix2 x r) * dy (ix2 x l) := by
  pointwise [k0_pay35]

theorem pay36_apply (dy : Vec Ideal S256x128 .bf16) (dl : FVec Ideal S256x1 .f32) (v : Vec Ideal S1024x128 .bf16)
    (p : FVec Ideal S256x1024 .f32) (o : Vec Ideal S1x1x1024 .f32) (l : Fin 1024) :
    k0_pay36 dy dl v p zblk o (ix3 0 0 l) = o (ix3 0 0 l) + (0 - ∑ x : Fin 256, k0_pay32 dy dl v p zblk (ix2 x l)) := by
  pointwise [k0_pay36]

theorem pay37_apply (dy : Vec Ideal S256x128 .bf16) (dl : FVec Ideal S256x1 .f32) (v : Vec Ideal S1024x128 .bf16)
    (p : FVec Ideal S256x1024 .f32) (o : FVec Ideal S256x1 .f32) (r : Fin 256) :
    k0_pay37 dy dl o v p zblk (ix2 r 0) = o (ix2 r 0) + ∑ x : Fin 1024, k0_pay32 dy dl v p zblk (ix2 r x) := by
  pointwise [k0_pay37]

theorem mmq_apply (s : FVec Ideal S256x128 .f32) (d : FVec Ideal S256x1024 .bf16) (k : FVec Ideal S1024x128 .bf16) (r : Fin 256) (e : Fin 128) :
    addf s (matmul dot_S256x1024_S1024x128_S256x128_1_0_0_1_n_n none d k (constant S256x128 .f32 0x00000000#32)) (ix2 r e)
      = s (ix2 r e) + ∑ x : Fin 1024, d (ix2 r x) * k (ix2 x e) := by
  pointwise

/-! ## The probabilities -/

variable {X : Data} {h b : ℕ} {x : Ins Ideal} {i : grid0.Coords}

theorem head_gate (R : Reads X h b x) (hi0 : (i 0).val = h) (r : Fin 256) :
    k0_pay20 i x.fc (ix2 r 0) = (X.C h (256 * b + r.val) : EReal) := by
  have hh : h < 4 := by rw [← hi0]; exact (i 0).isLt
  rw [pay20_apply, hi0, Finset.sum_eq_single (⟨h, by omega⟩ : Fin 128)]
  · have e : IntOp.cmpi .eq (BitVec.ofNat 32 h) (BitVec.ofNat 32 h) = 1#1 := by word_cmp
    show Scalar.select (IntOp.cmpi .eq (BitVec.ofNat 32 h) (BitVec.ofNat 32 h)) _ _ = _
    rw [e]
    exact R.fc r ⟨h, by omega⟩ rfl
  · intro l _ hl
    have hl' : l.val ≠ h := fun e => hl (Fin.ext e)
    have e : IntOp.cmpi .eq (BitVec.ofNat 32 l.val) (BitVec.ofNat 32 h) = 0#1 := by
      have := l.isLt
      word_cmp
    rw [e]; rfl
  · intro hn; exact absurd (Finset.mem_univ _) hn

theorem pay21_apply (y : Vec Ideal S1x256x1 .f32) (r : Fin 256) : k0_pay21 y (ix2 r 0) = y (ix3 0 r 0) := by
  pointwise [k0_pay21]

/-- The exponentials a step recomputes are the probabilities, at and below the diagonal. -/
theorem expo (R : Reads X h b x) (hi0 : (i 0).val = h) {j : ℕ} (hj : j < 8) (r : Fin 256) (l : Fin 1024)
    (hd : 1024 * j + l.val ≤ 256 * b + r.val) :
    k0_pay5 x.q (k0_pay20 i x.fc) (k0_pay21 x.lse) (rows x.k j) (gates x.fr j) (ix2 r l)
      = (FoxModel.P X h (256 * b + r.val) (1024 * j + l.val) : EReal) := by
  have hb := R.hb
  rw [pay5_apply, head_gate R hi0, pay21_apply, gates_apply _ hj, R.fr, R.lse, R.c0,
    FoxModel.coe_mul_sum _ _ (X.Q h (256 * b + r.val)) (X.K h (1024 * j + l.val)) (R.q r) (fun e => by rw [rows_apply _ hj]; exact R.k _ e)]
  rw [← EReal.coe_mul, ← EReal.coe_sub, ← EReal.coe_add, ← EReal.coe_sub, Ideal.exp_coe, ← FoxModel.exp_lse X h (by omega) hd]
  unfold FoxModel.S
  rw [← add_sub_assoc]

theorem probs_apply (R : Reads X h b x) (hi0 : (i 0).val = h) (hi1 : (i 1).val = b) {j : ℕ} (hj : j < nfull i) (r : Fin 256) (l : Fin 1024) :
    probs i x j (ix2 r l) = (FoxModel.P X h (256 * b + r.val) (1024 * j + l.val) : EReal) := by
  have hn := nfull_lt i
  refine expo R hi0 (by omega) r l ?_
  unfold nfull at hj; rw [hi1] at hj
  omega

theorem wsel : ∀ i : grid0.Coords, Scalar.select (w33 i) (Scalar.subi (w19 i) 1#32) (w19 i) = BitVec.ofNat 32 (nfull i) := by
  decide +kernel

theorem mask_iff (n b r l : ℕ) (hn : n < 8) (hb : b < 32) (hr : r < 256) (hl : l < 1024) :
    IntOp.cmpi .sle (IntOp.addi (Scalar.muli (BitVec.ofNat 32 n) 1024#32) (BitVec.ofNat 32 l))
      (IntOp.addi (Scalar.muli (BitVec.ofNat 32 b) 256#32) (BitVec.ofNat 32 r)) = 1#1 ↔ 1024 * n + l ≤ 256 * b + r := by
  have e : ∀ k a c : ℕ, IntOp.addi (Scalar.muli (BitVec.ofNat 32 a) (BitVec.ofNat 32 k)) (BitVec.ofNat 32 c) = BitVec.ofNat 32 (k * a + c) := by
    intro k a c
    show BitVec.ofNat 32 a * BitVec.ofNat 32 k + BitVec.ofNat 32 c = _
    rw [← BitVec.ofNat_mul, ← BitVec.ofNat_add, Nat.mul_comm]
  rw [show (1024#32) = BitVec.ofNat 32 1024 from rfl, show (256#32) = BitVec.ofNat 32 256 from rfl, e, e]
  exact WordCmp.cmpi_sle_ofNat_eq_one_iff (by omega) (by omega)

theorem probsM_apply (R : Reads X h b x) (hi0 : (i 0).val = h) (hi1 : (i 1).val = b) (r : Fin 256) (l : Fin 1024) :
    probsM i x (ix2 r l) = (FoxModel.P X h (256 * b + r.val) (1024 * nfull i + l.val) : EReal) := by
  have hn := nfull_lt i
  have hm := mask_iff (nfull i) b r.val l.val hn R.hb r.isLt l.isLt
  unfold probsM
  rw [pay31_apply, wsel, hi1]
  by_cases hd : 1024 * nfull i + l.val ≤ 256 * b + r.val
  · rw [hm.mpr hd]
    exact expo R hi0 hn r l hd
  · have e : ∀ w : BitVec 1, ¬ w = 1#1 → w = 0#1 := by decide
    rw [e _ (fun h1 => hd (hm.mp h1)), FoxModel.P_above X (by omega)]
    rfl

/-! ## A step -/

theorem ds_apply (R : Reads X h b x) {j : ℕ} (hj : j < 8) {p : FVec Ideal S256x1024 .f32}
    (hp : ∀ (r : Fin 256) (l : Fin 1024), p (ix2 r l) = (FoxModel.P X h (256 * b + r.val) (1024 * j + l.val) : EReal)) (r : Fin 256) (l : Fin 1024) :
    k0_pay32 x.dy (k0_pay22 x.dl) (rows x.v j) p zblk (ix2 r l) = (FoxModel.DS X h (256 * b + r.val) (1024 * j + l.val) : EReal) := by
  rw [pay32_apply, hp, R.dl,
    FoxModel.coe_mul_sum _ _ (X.D h (256 * b + r.val)) (X.V h (1024 * j + l.val)) (R.dy r) (fun e => by rw [rows_apply _ hj]; exact R.v _ e)]
  rw [← EReal.coe_sub, ← EReal.coe_mul]
  rfl

/-- How many rows key `y` has gathered before step `j` of block `b`: the block's own where its key block is done. -/
def upto (b j y : ℕ) : ℕ := 256 * (if y < 1024 * j then b + 1 else b)

/-- The state before step `j` of block `b` holds the partial sums. -/
structure Holds (X : Data) (h b j : ℕ) (s : St Ideal) : Prop where
  dk : ∀ (y : Fin 8192) (e : Fin 128), s.acc.dk (ix2 y e)
    = ((∑ r ∈ Finset.range (upto b j y.val), FoxModel.DS X h r y.val * X.Q h r e.val : ℝ) : EReal)
  dv : ∀ (y : Fin 8192) (e : Fin 128), s.acc.dv (ix2 y e)
    = ((∑ r ∈ Finset.range (upto b j y.val), FoxModel.P X h r y.val * X.D h r e.val : ℝ) : EReal)
  df : ∀ (y : Fin 8) (l : Fin 1024), s.acc.df (ix3 y 0 l)
    = ((∑ r ∈ Finset.range (upto b j (1024 * y.val + l.val)), -FoxModel.DS X h r (1024 * y.val + l.val) : ℝ) : EReal)
  dq : ∀ (r : Fin 256) (e : Fin 128), s.dq (ix2 r e)
    = ((∑ y ∈ Finset.range (1024 * j), FoxModel.DS X h (256 * b + r.val) y * X.K h y e.val : ℝ) : EReal)
  dg : ∀ r : Fin 256, s.dg (ix2 r 0) = ((∑ y ∈ Finset.range (1024 * j), FoxModel.DS X h (256 * b + r.val) y : ℝ) : EReal)

theorem put_rows (w : Vec Ideal S8192x128 .f32) (z : Vec Ideal S1024x128 .f32) {j : ℕ} (hj : j < 8) (y : Fin 8192) (e : Fin 128) :
    VecWindow.put w ![1024 * j, 0] S1024x128.size z (ix2 y e)
      = if hy : 1024 * j ≤ y.val ∧ y.val < 1024 * j + 1024 then z (ix2 (⟨y.val - 1024 * j, by omega⟩ : Fin 1024) e) else w (ix2 y e) := by
  unfold VecWindow.put
  by_cases hy : 1024 * j ≤ y.val ∧ y.val < 1024 * j + 1024
  · have hall : ∀ a : Fin 2, (![1024 * j, 0] : Fin 2 → ℕ) a ≤ (ix2 y e a).val ∧ (ix2 y e a).val < (![1024 * j, 0] : Fin 2 → ℕ) a + S1024x128.size a := fun a => by
      match a with
      | ⟨0, _⟩ => exact hy
      | ⟨1, _⟩ => exact ⟨Nat.zero_le _, by show e.val < 0 + 128; have := e.isLt; omega⟩
    rw [dif_pos hall, dif_pos hy]
    refine congrArg z (funext fun a => Fin.ext ?_)
    match a with
    | ⟨0, _⟩ => rfl
    | ⟨1, _⟩ => rfl
  · rw [dif_neg (fun hall => hy (hall 0)), dif_neg hy]

theorem put_slab (w : Vec Ideal S8x1x1024 .f32) (z : Vec Ideal S1x1x1024 .f32) {j : ℕ} (hj : j < 8) (y : Fin 8) (l : Fin 1024) :
    VecWindow.put w ![j, 0, 0] S1x1x1024.size z (ix3 y 0 l) = if y.val = j then z (ix3 0 0 l) else w (ix3 y 0 l) := by
  unfold VecWindow.put
  by_cases hy : y.val = j
  · have hall : ∀ a : Fin 3, (![j, 0, 0] : Fin 3 → ℕ) a ≤ (ix3 y (0 : Fin 1) l a).val ∧ (ix3 y (0 : Fin 1) l a).val < (![j, 0, 0] : Fin 3 → ℕ) a + S1x1x1024.size a := fun a => by
      match a with
      | ⟨0, _⟩ => exact ⟨by show j ≤ y.val; omega, by show y.val < j + 1; omega⟩
      | ⟨1, _⟩ => exact ⟨Nat.zero_le _, by show 0 < 0 + 1; omega⟩
      | ⟨2, _⟩ => exact ⟨Nat.zero_le _, by show l.val < 0 + 1024; have := l.isLt; omega⟩
    rw [dif_pos hall, if_pos hy]
    refine congrArg z (funext fun a => Fin.ext ?_)
    match a with
    | ⟨0, _⟩ => show y.val - j = 0; omega
    | ⟨1, _⟩ => rfl
    | ⟨2, _⟩ => rfl
  · rw [dif_neg, if_neg hy]
    intro hall
    have h0 : j ≤ y.val ∧ y.val < j + 1 := hall 0
    omega

theorem upto_same {b j y : ℕ} (hy : ¬ (1024 * j ≤ y ∧ y < 1024 * j + 1024)) : upto b (j + 1) y = upto b j y := by
  unfold upto; congr 1; by_cases h1 : y < 1024 * j
  · rw [if_pos h1, if_pos (by omega)]
  · rw [if_neg h1, if_neg (by omega)]

theorem upto_before {b j y : ℕ} (hy : 1024 * j ≤ y) : upto b j y = 256 * b := by
  unfold upto; rw [if_neg (by omega)]

theorem upto_after {b j y : ℕ} (hy : y < 1024 * j + 1024) : upto b (j + 1) y = 256 * b + 256 := by
  unfold upto; rw [if_pos (by omega)]; omega

theorem step_holds (R : Reads X h b x) {j : ℕ} (hj : j < 8) {p : FVec Ideal S256x1024 .f32}
    (hp : ∀ (r : Fin 256) (l : Fin 1024), p (ix2 r l) = (FoxModel.P X h (256 * b + r.val) (1024 * j + l.val) : EReal))
    {s : St Ideal} (H : Holds X h b j s) : Holds X h b (j + 1) (step x j p s) where
  dk y e := by
    show VecWindow.put s.acc.dk ![1024 * j, 0] S1024x128.size _ (ix2 y e) = _
    rw [put_rows _ _ hj]
    split
    · rename_i hy
      rw [pay34_apply, rows_apply _ hj, upto_after hy.2, Finset.sum_range_add, EReal.coe_add]
      have ey : (⟨1024 * j + (⟨y.val - 1024 * j, by omega⟩ : Fin 1024).val, by show 1024 * j + (y.val - 1024 * j) < 8192; omega⟩ : Fin 8192) = y := Fin.ext (by show 1024 * j + (y.val - 1024 * j) = y.val; omega)
      rw [ey, H.dk, upto_before hy.1]
      refine congrArg _ (FoxModel.coe_mul_sum _ _ (fun r => FoxModel.DS X h (256 * b + r) y.val) (fun r => X.Q h (256 * b + r) e.val) (fun r => ?_) (fun r => R.q r e))
      rw [pay33_apply, ds_apply R hj hp]
      show ((FoxModel.DS X h (256 * b + r.val) (1024 * j + (y.val - 1024 * j)) : ℝ) : EReal) = _
      rw [show 1024 * j + (y.val - 1024 * j) = y.val by omega]
    · rename_i hy
      rw [H.dk, upto_same hy]
  dv y e := by
    show VecWindow.put s.acc.dv ![1024 * j, 0] S1024x128.size _ (ix2 y e) = _
    rw [put_rows _ _ hj]
    split
    · rename_i hy
      rw [pay35_apply, rows_apply _ hj, upto_after hy.2, Finset.sum_range_add, EReal.coe_add]
      have ey : (⟨1024 * j + (⟨y.val - 1024 * j, by omega⟩ : Fin 1024).val, by show 1024 * j + (y.val - 1024 * j) < 8192; omega⟩ : Fin 8192) = y := Fin.ext (by show 1024 * j + (y.val - 1024 * j) = y.val; omega)
      rw [ey, H.dv, upto_before hy.1]
      refine congrArg _ (FoxModel.coe_mul_sum _ _ (fun r => FoxModel.P X h (256 * b + r) y.val) (fun r => X.D h (256 * b + r) e.val) (fun r => ?_) (fun r => R.dy r e))
      rw [hp]
      show ((FoxModel.P X h (256 * b + r.val) (1024 * j + (y.val - 1024 * j)) : ℝ) : EReal) = _
      rw [show 1024 * j + (y.val - 1024 * j) = y.val by omega]
    · rename_i hy
      rw [H.dv, upto_same hy]
  df y l := by
    show VecWindow.put s.acc.df ![j, 0, 0] S1x1x1024.size _ (ix3 y 0 l) = _
    rw [put_slab _ _ hj]
    have hl := l.isLt
    split
    · rename_i hy
      rw [pay36_apply, slab_apply _ hj, upto_after (by rw [hy]; omega), Finset.sum_range_add, EReal.coe_add]
      have ey : (⟨j, hj⟩ : Fin 8) = y := Fin.ext hy.symm
      rw [ey, H.df, upto_before (by rw [hy]; omega)]
      refine congrArg _ ?_
      rw [FoxModel.sum_fin _ (fun r => FoxModel.DS X h (256 * b + r) (1024 * y.val + l.val)) (fun r => by rw [ds_apply R hj hp, hy]),
        ← EReal.coe_zero, ← EReal.coe_sub, zero_sub, Finset.sum_neg_distrib]
    · rename_i hy
      rw [H.df, upto_same (by omega)]
  dq r e := by
    show addf s.dq _ (ix2 r e) = _
    rw [mmq_apply, H.dq, show 1024 * (j + 1) = 1024 * j + 1024 by omega, Finset.sum_range_add, EReal.coe_add]
    refine congrArg _ (FoxModel.coe_mul_sum _ _ (fun y => FoxModel.DS X h (256 * b + r.val) (1024 * j + y)) (fun y => X.K h (1024 * j + y) e.val) (fun y => ?_) (fun y => ?_))
    · rw [pay33_apply, ds_apply R hj hp]
    · rw [rows_apply _ hj]; exact R.k _ e
  dg r := by
    show k0_pay37 x.dy (k0_pay22 x.dl) s.dg (rows x.v j) p zblk (ix2 r 0) = _
    rw [pay37_apply, H.dg, show 1024 * (j + 1) = 1024 * j + 1024 by omega, Finset.sum_range_add, EReal.coe_add]
    exact congrArg _ (FoxModel.sum_fin _ (fun y => FoxModel.DS X h (256 * b + r.val) (1024 * j + y)) (fun y => ds_apply R hj hp r y))

/-! ## A point -/

/-- The accumulators before query block `b` hold the sums over the rows above it. -/
structure AccHolds (X : Data) (h b : ℕ) (a : Acc Ideal) : Prop where
  dk : ∀ (y : Fin 8192) (e : Fin 128), a.dk (ix2 y e) = ((∑ r ∈ Finset.range (256 * b), FoxModel.DS X h r y.val * X.Q h r e.val : ℝ) : EReal)
  dv : ∀ (y : Fin 8192) (e : Fin 128), a.dv (ix2 y e) = ((∑ r ∈ Finset.range (256 * b), FoxModel.P X h r y.val * X.D h r e.val : ℝ) : EReal)
  df : ∀ (y : Fin 8) (l : Fin 1024), a.df (ix3 y 0 l) = ((∑ r ∈ Finset.range (256 * b), -FoxModel.DS X h r (1024 * y.val + l.val) : ℝ) : EReal)

theorem zeroAcc_holds : AccHolds X h 0 zeroAcc where
  dk y e := by
    show k0_pay17 (ix2 y e) = _
    rw [show k0_pay17 (F := Ideal) (ix2 y e) = 0 by pointwise [k0_pay17]]; simp
  dv y e := by
    show k0_pay18 (ix2 y e) = _
    rw [show k0_pay18 (F := Ideal) (ix2 y e) = 0 by pointwise [k0_pay18]]; simp
  df y l := by
    show k0_pay19 (ix3 y 0 l) = _
    rw [show k0_pay19 (F := Ideal) (ix3 y 0 l) = 0 by pointwise [k0_pay19]]; simp

theorem loop_holds (R : Reads X h b x) (hi0 : (i 0).val = h) (hi1 : (i 1).val = b) {a : Acc Ideal} (A : AccHolds X h b a) :
    ∀ j : ℕ, j ≤ nfull i → Holds X h b j (loopSt i x a j)
  | 0, _ => by
    refine ⟨fun y e => ?_, fun y e => ?_, fun y l => ?_, fun r e => ?_, fun r => ?_⟩
    · rw [upto_before (by omega)]; exact A.dk y e
    · rw [upto_before (by omega)]; exact A.dv y e
    · rw [upto_before (by omega)]; exact A.df y l
    · show k0_pay23 (ix2 r e) = _
      rw [show k0_pay23 (F := Ideal) (ix2 r e) = 0 by pointwise [k0_pay23]]; simp
    · show k0_pay24 (ix2 r 0) = _
      rw [show k0_pay24 (F := Ideal) (ix2 r 0) = 0 by pointwise [k0_pay24]]; simp
  | j + 1, hj => step_holds R (lt_of_lt_of_le (Nat.lt_of_succ_le hj) (nfull_lt i).le) (probs_apply R hi0 hi1 (Nat.lt_of_succ_le hj))
      (loop_holds R hi0 hi1 A j (Nat.le_of_succ_le hj))

theorem point_holds (R : Reads X h b x) (hi0 : (i 0).val = h) (hi1 : (i 1).val = b) {a : Acc Ideal} (A : AccHolds X h b a) :
    Holds X h b (nfull i + 1) (pointSt i x a) :=
  step_holds R (nfull_lt i) (probsM_apply R hi0 hi1) (loop_holds R hi0 hi1 A _ le_rfl)

/-- A key beyond a point's key blocks gathers nothing from the point's rows. -/
theorem sum_upto (f : ℕ → ℕ → ℝ) (hf : ∀ r y, r < y → f r y = 0) (hi1 : (i 1).val = b) (y : ℕ) :
    ∑ r ∈ Finset.range (upto b (nfull i + 1) y), f r y = ∑ r ∈ Finset.range (256 * (b + 1)), f r y := by
  unfold upto
  split
  · rfl
  · rename_i hy
    have hn : nfull i = b / 4 := by unfold nfull; rw [hi1]
    refine Finset.sum_subset (Finset.range_subset_range.mpr (by omega)) fun r hr _ => hf r y ?_
    have := Finset.mem_range.mp hr
    omega

theorem point_acc (R : Reads X h b x) (hi0 : (i 0).val = h) (hi1 : (i 1).val = b) {a : Acc Ideal} (A : AccHolds X h b a) :
    AccHolds X h (b + 1) (pointSt i x a).acc where
  dk y e := by
    rw [(point_holds R hi0 hi1 A).dk, sum_upto (fun r y => FoxModel.DS X h r y * X.Q h r e.val)
      (fun r y hr => by rw [FoxModel.DS_above X hr, zero_mul]) hi1]
  dv y e := by
    rw [(point_holds R hi0 hi1 A).dv, sum_upto (fun r y => FoxModel.P X h r y * X.D h r e.val)
      (fun r y hr => by rw [FoxModel.P_above X hr, zero_mul]) hi1]
  df y l := by
    rw [(point_holds R hi0 hi1 A).df, sum_upto (fun r y => -FoxModel.DS X h r y)
      (fun r y hr => by rw [FoxModel.DS_above X hr, neg_zero]) hi1]

/-- The point's gradient of the queries, as it is stored. -/
theorem point_dq (R : Reads X h b x) (hi0 : (i 0).val = h) (hi1 : (i 1).val = b) {a : Acc Ideal} (A : AccHolds X h b a)
    (r : Fin 256) (e : Fin 128) : outQ (pointSt i x a) (ix2 r e) = (FoxModel.gq X h (256 * b + r.val) e.val : EReal) := by
  have hn : nfull i = b / 4 := by unfold nfull; rw [hi1]
  have hb := R.hb
  have hr := r.isLt
  rw [show outQ (pointSt i x a) (ix2 r e) = (pointSt i x a).dq (ix2 r e) * Ideal.ofBits .f32 0x3DB504F3#32 by pointwise [outQ],
    (point_holds R hi0 hi1 A).dq, R.c0, ← EReal.coe_mul]
  unfold FoxModel.gq
  rw [FoxModel.sum_range_of_zero (fun y => FoxModel.DS X h (256 * b + r.val) y * X.K h y e.val) (n := 1024 * (nfull i + 1)) (N := 8192) (by omega)
    (fun y hy => by rw [FoxModel.DS_above X (by omega), zero_mul])]

/-- The point's gradient of the gates by query, as it is stored. -/
theorem point_dg (R : Reads X h b x) (hi0 : (i 0).val = h) (hi1 : (i 1).val = b) {a : Acc Ideal} (A : AccHolds X h b a)
    (r : Fin 256) : k0_pay1 (pointSt i x a).dg (ix3 0 r 0) = (FoxModel.gcQ X h (256 * b + r.val) : EReal) := by
  have hn : nfull i = b / 4 := by unfold nfull; rw [hi1]
  have hb := R.hb
  have hr := r.isLt
  rw [show k0_pay1 (pointSt i x a).dg (ix3 0 r 0) = (pointSt i x a).dg (ix2 r 0) by pointwise [k0_pay1], (point_holds R hi0 hi1 A).dg]
  unfold FoxModel.gcQ
  rw [FoxModel.sum_range_of_zero (fun y => FoxModel.DS X h (256 * b + r.val) y) (n := 1024 * (nfull i + 1)) (N := 8192) (by omega)
    (fun y hy => FoxModel.DS_above X (by omega))]

/-- What is stored of the accumulators once every row is in. -/
theorem last_dk {a : Acc Ideal} (hc : Ideal.ofBits .f32 0x3DB504F3#32 = (X.c0 : EReal)) (A : AccHolds X h 32 a) (y : Fin 8192) (e : Fin 128) :
    k0_pay2 a.dk (ix2 y e) = (FoxModel.gk X h y.val e.val : EReal) := by
  rw [show k0_pay2 a.dk (ix2 y e) = a.dk (ix2 y e) * Ideal.ofBits .f32 0x3DB504F3#32 by pointwise [k0_pay2], A.dk, hc, ← EReal.coe_mul]
  rfl

theorem last_dv {a : Acc Ideal} (A : AccHolds X h 32 a) (y : Fin 8192) (e : Fin 128) :
    k0_pay3 a.dv (ix2 y e) = (FoxModel.gv X h y.val e.val : EReal) := by
  rw [show k0_pay3 a.dv (ix2 y e) = a.dv (ix2 y e) by pointwise [k0_pay3], A.dv]
  rfl

theorem last_df {a : Acc Ideal} (A : AccHolds X h 32 a) (y : Fin 8) (l : Fin 1024) :
    k0_pay4 a.df (ix4 0 y 0 l) = (FoxModel.gcK X h (1024 * y.val + l.val) : EReal) := by
  rw [show k0_pay4 a.df (ix4 0 y 0 l) = a.df (ix3 y 0 l) by pointwise [k0_pay4], A.df]
  rfl

end Cert.KernelIdeal.Fox

end
-- ==== Proof.Fill.lean ====
/-
  What a grid point reads, over the real numbers, and by induction over the points of a head what the accumulators hold.
-/
module

public import proofs.«01_k».proof.Proof.Host
public import proofs.«01_k».proof.Proof.Frame
public import proofs.«01_k».proof.Proof.PointVal

@[expose] public section

set_option maxRecDepth 16384

noncomputable section

namespace Cert.KernelIdeal.Fox

open Idealize.ShloMosaic Idealize.ShloMosaic.TcCoe
open Cert.KernelIdeal Cert.KernelIdeal.Gen
open Cert.FoxModel (Data)
open scoped BigOperators

/-! ## The blocks -/

section blocks

variable {F : FTy → Type} [FloatOps F]
variable (m : (ℓ : Loc nD τ sig) → Buf (Elt F) ℓ) (c : Dev nD)

theorem index0 : ∀ t : Fin cfg0.N, win0_0.index t (0 : Fin 2) = t.val % 32 ∧ win0_0.index t (1 : Fin 2) = t.val / 32 :=
  (by decide +kernel : ∀ t : Fin grid0.N, _)
theorem read_q (t : Fin cfg0.N) (ht : t.val < 128) (r : Fin 256) (e : Fin 128) : (ins m c t).q (ix2 r e) = V m c main_arg0 (ix2 (⟨256 * (t.val % 32) + r.val, by omega⟩ : Fin 8192) (⟨t.val / 32 * 128 + e.val, by omega⟩ : Fin 4608)) := by
  obtain ⟨e0, e1⟩ := index0 t
  show V m c main_arg0 (((cfg0.win 0).blk t).view.emb (ix2 r e)) = _
  refine congrArg (V m c main_arg0) (funext fun a => Fin.ext ?_)
  match a with
  | ⟨0, _⟩ => show win0_0.index t (0 : Fin 2) * 256 + 1 * r.val = 256 * (t.val % 32) + r.val; rw [e0] <;> omega
  | ⟨1, _⟩ => show win0_0.index t (1 : Fin 2) * 128 + 1 * e.val = t.val / 32 * 128 + e.val; rw [e1] <;> omega

theorem index1 : ∀ t : Fin cfg0.N, win0_1.index t (0 : Fin 2) = 0 ∧ win0_1.index t (1 : Fin 2) = 4 + t.val / 32 :=
  (by decide +kernel : ∀ t : Fin grid0.N, _)
theorem read_k (t : Fin cfg0.N) (ht : t.val < 128) (r : Fin 8192) (e : Fin 128) : (ins m c t).k (ix2 r e) = V m c main_arg0 (ix2 r (⟨512 + (t.val / 32 * 128 + e.val), by omega⟩ : Fin 4608)) := by
  obtain ⟨e0, e1⟩ := index1 t
  show V m c main_arg0 (((cfg0.win 1).blk t).view.emb (ix2 r e)) = _
  refine congrArg (V m c main_arg0) (funext fun a => Fin.ext ?_)
  match a with
  | ⟨0, _⟩ => show win0_1.index t (0 : Fin 2) * 8192 + 1 * r.val = r.val; rw [e0] <;> omega
  | ⟨1, _⟩ => show win0_1.index t (1 : Fin 2) * 128 + 1 * e.val = 512 + (t.val / 32 * 128 + e.val); rw [e1] <;> omega

theorem index2 : ∀ t : Fin cfg0.N, win0_2.index t (0 : Fin 2) = 0 ∧ win0_2.index t (1 : Fin 2) = 8 + t.val / 32 :=
  (by decide +kernel : ∀ t : Fin grid0.N, _)
theorem read_v (t : Fin cfg0.N) (ht : t.val < 128) (r : Fin 8192) (e : Fin 128) : (ins m c t).v (ix2 r e) = V m c main_arg0 (ix2 r (⟨1024 + (t.val / 32 * 128 + e.val), by omega⟩ : Fin 4608)) := by
  obtain ⟨e0, e1⟩ := index2 t
  show V m c main_arg0 (((cfg0.win 2).blk t).view.emb (ix2 r e)) = _
  refine congrArg (V m c main_arg0) (funext fun a => Fin.ext ?_)
  match a with
  | ⟨0, _⟩ => show win0_2.index t (0 : Fin 2) * 8192 + 1 * r.val = r.val; rw [e0] <;> omega
  | ⟨1, _⟩ => show win0_2.index t (1 : Fin 2) * 128 + 1 * e.val = 1024 + (t.val / 32 * 128 + e.val); rw [e1] <;> omega

theorem index3 : ∀ t : Fin cfg0.N, win0_3.index t (0 : Fin 2) = t.val % 32 ∧ win0_3.index t (1 : Fin 2) = t.val / 32 :=
  (by decide +kernel : ∀ t : Fin grid0.N, _)
theorem read_dy (t : Fin cfg0.N) (ht : t.val < 128) (r : Fin 256) (e : Fin 128) : (ins m c t).dy (ix2 r e) = V m c main_arg2 (ix2 (⟨256 * (t.val % 32) + r.val, by omega⟩ : Fin 8192) (⟨t.val / 32 * 128 + e.val, by omega⟩ : Fin 512)) := by
  obtain ⟨e0, e1⟩ := index3 t
  show V m c main_arg2 (((cfg0.win 3).blk t).view.emb (ix2 r e)) = _
  refine congrArg (V m c main_arg2) (funext fun a => Fin.ext ?_)
  match a with
  | ⟨0, _⟩ => show win0_3.index t (0 : Fin 2) * 256 + 1 * r.val = 256 * (t.val % 32) + r.val; rw [e0] <;> omega
  | ⟨1, _⟩ => show win0_3.index t (1 : Fin 2) * 128 + 1 * e.val = t.val / 32 * 128 + e.val; rw [e1] <;> omega

theorem index4 : ∀ t : Fin cfg0.N, win0_4.index t (0 : Fin 3) = t.val / 32 ∧ win0_4.index t (1 : Fin 3) = t.val % 32 ∧ win0_4.index t (2 : Fin 3) = 0 :=
  (by decide +kernel : ∀ t : Fin grid0.N, _)
theorem read_lse (t : Fin cfg0.N) (ht : t.val < 128) (r : Fin 256) : (ins m c t).lse (ix3 0 r 0) = V m c main_v43 (ix3 (⟨t.val / 32, by omega⟩ : Fin 4) (⟨256 * (t.val % 32) + r.val, by omega⟩ : Fin 8192) 0) := by
  obtain ⟨e0, e1, e2⟩ := index4 t
  show V m c main_v43 (((cfg0.win 4).blk t).view.emb (ix3 0 r 0)) = _
  refine congrArg (V m c main_v43) (funext fun a => Fin.ext ?_)
  match a with
  | ⟨0, _⟩ => show win0_4.index t (0 : Fin 3) * 1 + 1 * 0 = t.val / 32; rw [e0] <;> omega
  | ⟨1, _⟩ => show win0_4.index t (1 : Fin 3) * 256 + 1 * r.val = 256 * (t.val % 32) + r.val; rw [e1] <;> omega
  | ⟨2, _⟩ => show win0_4.index t (2 : Fin 3) * 1 + 1 * 0 = 0; rw [e2] <;> omega

theorem index5 : ∀ t : Fin cfg0.N, win0_5.index t (0 : Fin 3) = t.val / 32 ∧ win0_5.index t (1 : Fin 3) = t.val % 32 ∧ win0_5.index t (2 : Fin 3) = 0 :=
  (by decide +kernel : ∀ t : Fin grid0.N, _)
theorem read_dl (t : Fin cfg0.N) (ht : t.val < 128) (r : Fin 256) : (ins m c t).dl (ix3 0 r 0) = V m c main_v45 (ix3 (⟨t.val / 32, by omega⟩ : Fin 4) (⟨256 * (t.val % 32) + r.val, by omega⟩ : Fin 8192) 0) := by
  obtain ⟨e0, e1, e2⟩ := index5 t
  show V m c main_v45 (((cfg0.win 5).blk t).view.emb (ix3 0 r 0)) = _
  refine congrArg (V m c main_v45) (funext fun a => Fin.ext ?_)
  match a with
  | ⟨0, _⟩ => show win0_5.index t (0 : Fin 3) * 1 + 1 * 0 = t.val / 32; rw [e0] <;> omega
  | ⟨1, _⟩ => show win0_5.index t (1 : Fin 3) * 256 + 1 * r.val = 256 * (t.val % 32) + r.val; rw [e1] <;> omega
  | ⟨2, _⟩ => show win0_5.index t (2 : Fin 3) * 1 + 1 * 0 = 0; rw [e2] <;> omega

theorem index6 : ∀ t : Fin cfg0.N, win0_6.index t (0 : Fin 2) = t.val % 32 ∧ win0_6.index t (1 : Fin 2) = 0 :=
  (by decide +kernel : ∀ t : Fin grid0.N, _)
theorem read_fc (t : Fin cfg0.N) (ht : t.val < 128) (r : Fin 256) (e : Fin 128) : (ins m c t).fc (ix2 r e) = V m c main_v48 (ix2 (⟨256 * (t.val % 32) + r.val, by omega⟩ : Fin 8192) e) := by
  obtain ⟨e0, e1⟩ := index6 t
  show V m c main_v48 (((cfg0.win 6).blk t).view.emb (ix2 r e)) = _
  refine congrArg (V m c main_v48) (funext fun a => Fin.ext ?_)
  match a with
  | ⟨0, _⟩ => show win0_6.index t (0 : Fin 2) * 256 + 1 * r.val = 256 * (t.val % 32) + r.val; rw [e0] <;> omega
  | ⟨1, _⟩ => show win0_6.index t (1 : Fin 2) * 128 + 1 * e.val = e.val; rw [e1] <;> omega

theorem index7 : ∀ t : Fin cfg0.N, win0_7.index t (0 : Fin 4) = t.val / 32 ∧ win0_7.index t (1 : Fin 4) = 0 ∧ win0_7.index t (2 : Fin 4) = 0 ∧ win0_7.index t (3 : Fin 4) = 0 :=
  (by decide +kernel : ∀ t : Fin grid0.N, _)
theorem read_fr (t : Fin cfg0.N) (ht : t.val < 128) (j : Fin 8) (l : Fin 1024) : (ins m c t).fr (ix4 0 j 0 l) = V m c main_v47 (ix4 (⟨t.val / 32, by omega⟩ : Fin 4) j 0 l) := by
  obtain ⟨e0, e1, e2, e3⟩ := index7 t
  show V m c main_v47 (((cfg0.win 7).blk t).view.emb (ix4 0 j 0 l)) = _
  refine congrArg (V m c main_v47) (funext fun a => Fin.ext ?_)
  match a with
  | ⟨0, _⟩ => show win0_7.index t (0 : Fin 4) * 1 + 1 * 0 = t.val / 32; rw [e0] <;> omega
  | ⟨1, _⟩ => show win0_7.index t (1 : Fin 4) * 8 + 1 * j.val = j.val; rw [e1] <;> omega
  | ⟨2, _⟩ => show win0_7.index t (2 : Fin 4) * 1 + 1 * 0 = 0; rw [e2] <;> omega
  | ⟨3, _⟩ => show win0_7.index t (3 : Fin 4) * 1024 + 1 * l.val = l.val; rw [e3] <;> omega

end blocks

/-! ## The inputs a point reads -/

theorem coords0 : ∀ t : Fin cfg0.N, (grid0.coords t 0).val = t.val / 32 ∧ (grid0.coords t 1).val = t.val % 32 :=
  (by decide +kernel : ∀ t : Fin grid0.N, _)

variable (m : (ℓ : Loc nD τ sig) → Buf (Elt Ideal) ℓ) (c : Dev nD)
variable {u : FVec Ideal S8192x4608 .bf16} {cum : FVec Ideal S8192x4 .f32} {dy : FVec Ideal S8192x512 .bf16} (H : FoxHost.Fin3 u cum dy)
variable (hu : m ((c : Thread nD τ).loc main_arg0) = u) (hc : m ((c : Thread nD τ).loc main_arg1) = cum) (hd : m ((c : Thread nD τ).loc main_arg2) = dy)
include H hu hc hd

theorem reads (t : Fin cfg0.N) (ht : t.val < 128) : Reads (FoxHost.data u cum dy) (t.val / 32) (t.val % 32) (ins m c t) where
  hb := by omega
  c0 := FoxHost.c0_eq
  q r e := by
    rw [read_q m c t ht, V_main_arg0, hu]
    exact (FoxHost.qs_apply u _ (⟨t.val / 32, by omega⟩ : Fin 4) e).symm.trans (FoxHost.qs_eq H _ _ _)
  k j e := by
    rw [read_k m c t ht, V_main_arg0, hu]
    exact (FoxHost.ks_apply u _ (⟨t.val / 32, by omega⟩ : Fin 4) e).symm.trans (FoxHost.ks_eq H _ _ _)
  v j e := by
    rw [read_v m c t ht, V_main_arg0, hu]
    exact (FoxHost.vs_apply u _ (⟨t.val / 32, by omega⟩ : Fin 4) e).symm.trans (FoxHost.vs_eq H _ _ _)
  dy r e := by
    rw [read_dy m c t ht, V_main_arg2, hd]
    exact FoxHost.dy_eq H _ (⟨t.val / 32, by omega⟩ : Fin 4) e
  lse r := by
    rw [read_lse m c t ht, V_lse, hu, hc]
    exact lses_eq H (⟨t.val / 32, by omega⟩ : Fin 4) _
  dl r := by
    rw [read_dl m c t ht, V_delta, hu, hc, hd]
    exact deltas_eq H (⟨t.val / 32, by omega⟩ : Fin 4) _
  fc r l hl := by
    rw [read_fc m c t ht, V_gatePad, hc, gatePad_apply cum _ _ l (by omega)]
    refine (FoxHost.cum_eq H _ _).trans ?_
    rw [hl]
  fr j l := by
    rw [read_fr m c t ht, V_gateRows, hc, gateRows_apply]
    refine (FoxHost.cum_eq H _ _).trans ?_
    exact congrArg (fun n => (((FoxHost.data u cum dy).C (t.val / 32) n : ℝ) : EReal)) (show j.val * 1024 + l.val = 1024 * j.val + l.val by omega)

/-- After point `n` the accumulators hold the sums over the query blocks of the head up to this one. -/
theorem acc_holds (n : ℕ) (hn : n < 128) : AccHolds (FoxHost.data u cum dy) (n / 32) (n % 32 + 1) (stAt m c n).acc := by
  induction n with
  | zero =>
    have e := stAt_first m c (⟨0, lt_of_lt_of_eq hn N_0.symm⟩ : Fin cfg0.N) rfl
    have R := reads m c H hu hc hd (⟨0, lt_of_lt_of_eq hn N_0.symm⟩ : Fin cfg0.N) hn
    have C := coords0 (⟨0, lt_of_lt_of_eq hn N_0.symm⟩ : Fin cfg0.N)
    rw [show stAt m c 0 = _ from e]
    exact point_acc R C.1 C.2 zeroAcc_holds
  | succ n ih =>
    have R := reads m c H hu hc hd (⟨n + 1, lt_of_lt_of_eq hn N_0.symm⟩ : Fin cfg0.N) hn
    have C := coords0 (⟨n + 1, lt_of_lt_of_eq hn N_0.symm⟩ : Fin cfg0.N)
    by_cases h0 : (n + 1) % 32 = 0
    · have e := stAt_first m c (⟨n + 1, lt_of_lt_of_eq hn N_0.symm⟩ : Fin cfg0.N) h0
      rw [show stAt m c (n + 1) = _ from e]
      refine point_acc R C.1 C.2 ?_
      rw [show ((⟨n + 1, lt_of_lt_of_eq hn N_0.symm⟩ : Fin cfg0.N).val % 32) = 0 from h0]
      exact zeroAcc_holds
    · have e := stAt_next m c (⟨n + 1, lt_of_lt_of_eq hn N_0.symm⟩ : Fin cfg0.N) h0
      rw [show stAt m c (n + 1) = _ from e]
      refine point_acc R C.1 C.2 ?_
      have A := ih (by omega)
      rw [show n / 32 = (n + 1) / 32 by omega, show n % 32 + 1 = (n + 1) % 32 by omega] at A
      exact A

/-- What a point leaves in the accumulators before it started. -/
theorem before_holds (t : Fin cfg0.N) (ht : t.val < 128) : ∃ a, AccHolds (FoxHost.data u cum dy) (t.val / 32) (t.val % 32) a
    ∧ stAt m c t.val = pointSt (grid0.coords t) (ins m c t) a := by
  by_cases h0 : t.val % 32 = 0
  · exact ⟨zeroAcc, by rw [h0]; exact zeroAcc_holds, stAt_first m c t h0⟩
  · refine ⟨_, ?_, stAt_next m c t h0⟩
    have A := acc_holds m c H hu hc hd (t.val - 1) (by omega)
    rw [show (t.val - 1) / 32 = t.val / 32 by omega, show (t.val - 1) % 32 + 1 = t.val % 32 by omega] at A
    exact A

end Cert.KernelIdeal.Fox

end
-- ==== Proof.Value.lean ====
/-
  What the five result arrays hold after the launch: every block was written by one point of the grid, so an index of an
  array reads the state that point left (`stAt`), at the index's place in the block.
-/
module

public import proofs.«01_k».proof.Proof.Frame
public import Idealize.ShloMosaic.Lib.Pipeline.Value

@[expose] public section

set_option maxRecDepth 16384

noncomputable section

namespace Cert.KernelIdeal.Fox

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## Window 8: the gradient of the queries -/

abbrev at8 (i : S8192x512.Idx) : ℕ := 32 * ((i 1).val / 128) + (i 0).val / 256
set_option backward.proofsInPublic true in
abbrev in8 (i : S8192x512.Idx) : S256x128.Idx := fun a => match a with
  | ⟨0, _⟩ => ⟨(i 0).val % 256, Nat.mod_lt _ (by decide)⟩
  | ⟨1, _⟩ => ⟨(i 1).val % 128, Nat.mod_lt _ (by decide)⟩
/-- The array after the launch. -/
def end8 (c : Dev nD) : Buf (Elt F) ((c : Thread nD τ).loc main_v49_0) := fun i => outQ (stAt m c (at8 i)) (in8 i)

theorem index8 : ∀ t : Fin cfg0.N, win0_8.index t (0 : Fin 2) = t.val % 32 ∧ win0_8.index t (1 : Fin 2) = t.val / 32 :=
  (by decide +kernel : ∀ t : Fin grid0.N, _)
theorem flush8 : ∀ t : Fin cfg0.N, (cfg0.win 8).flush t = true :=
  (by decide +kernel : ∀ t : Fin grid0.N, _)

theorem written8 (c : Dev nD) (t : Fin cfg0.N) (hf : (cfg0.win 8).flush t = true) :
    (dats m 0 c).flushed 8 t = ((cfg0.win 8).blk t).view.read (Elt F) (end8 m c) := by
  show (cfg0.win 8).cut (grid0.coords t) ((dats m 0 c).after 8 t) = _
  rw [after8]
  obtain ⟨e0, e1⟩ := index8 t
  have ht : t.val < 128 := lt_of_lt_of_eq t.isLt N_0
  funext y
  have y0 : (y 0).val < 256 := (y 0).isLt
  have y1 : (y 1).val < 128 := (y 1).isLt
  have b0 : (((cfg0.win 8).blk t).view.emb y 0).val = win0_8.index t (0 : Fin 2) * 256 + 1 * (y 0).val := rfl
  have b1 : (((cfg0.win 8).blk t).view.emb y 1).val = win0_8.index t (1 : Fin 2) * 128 + 1 * (y 1).val := rfl
  have hp : at8 (((cfg0.win 8).blk t).view.emb y) = t.val := by
    show 32 * ((((cfg0.win 8).blk t).view.emb y 1).val / 128) + (((cfg0.win 8).blk t).view.emb y 0).val / 256 = t.val
    rw [b0, b1]; omega
  have hl : in8 (((cfg0.win 8).blk t).view.emb y) = (cfg0.win 8).xinj (grid0.coords t) y := by
    funext a; apply Fin.ext
    match a with
    | ⟨0, _⟩ => show (((cfg0.win 8).blk t).view.emb y 0).val % 256 = (y 0).val; rw [b0]; omega
    | ⟨1, _⟩ => show (((cfg0.win 8).blk t).view.emb y 1).val % 128 = (y 1).val; rw [b1]; omega
  show outQ (stAt m c t.val) ((cfg0.win 8).xinj (grid0.coords t) y) = end8 m c (((cfg0.win 8).blk t).view.emb y)
  unfold end8
  rw [hl, hp]

theorem mem8 (t : Fin cfg0.N) (i : S8192x512.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v49_0).slice (win0_8.rect t)).set ↔ _
  rw [View.set_slice_whole, Rect.mem_set_unit]
  exact Iff.rfl

theorem arr8 (c : Dev nD) : (dats m 0 c).arrAt 8 cfg0.N = end8 m c := by
  refine (dats m 0 c).arrAt_eq_of_cover 8 _ (fun t hf => written8 m c t hf) fun i => ?_
  have h0 : (i 0).val < 8192 := (i 0).isLt
  have h1 : (i 1).val < 512 := (i 1).isLt
  have hb : at8 i < cfg0.N := lt_of_lt_of_eq (by show 32 * ((i 1).val / 128) + (i 0).val / 256 < 128; omega) N_0.symm
  have hv : (⟨at8 i, hb⟩ : Fin cfg0.N).val = 32 * ((i 1).val / 128) + (i 0).val / 256 := rfl
  obtain ⟨e0, e1⟩ := index8 ⟨at8 i, hb⟩
  refine ⟨⟨at8 i, hb⟩, flush8 _, ?_⟩
  rw [hv] at e0 e1
  rw [mem8]
  intro a
  match a with
  | ⟨0, _⟩ => show win0_8.index ⟨at8 i, hb⟩ (0 : Fin 2) * 256 ≤ (i 0).val ∧ (i 0).val < win0_8.index ⟨at8 i, hb⟩ (0 : Fin 2) * 256 + 256; rw [e0]; omega
  | ⟨1, _⟩ => show win0_8.index ⟨at8 i, hb⟩ (1 : Fin 2) * 128 ≤ (i 1).val ∧ (i 1).val < win0_8.index ⟨at8 i, hb⟩ (1 : Fin 2) * 128 + 128; rw [e1]; omega

/-! ## Window 9: the gradient of the keys -/

abbrev at9 (i : S8192x512.Idx) : ℕ := 32 * ((i 1).val / 128) + 31
set_option backward.proofsInPublic true in
abbrev in9 (i : S8192x512.Idx) : S8192x128.Idx := fun a => match a with
  | ⟨0, _⟩ => ⟨(i 0).val % 8192, Nat.mod_lt _ (by decide)⟩
  | ⟨1, _⟩ => ⟨(i 1).val % 128, Nat.mod_lt _ (by decide)⟩
/-- The array after the launch. -/
def end9 (c : Dev nD) : Buf (Elt F) ((c : Thread nD τ).loc main_v49_1) := fun i => k0_pay2 (stAt m c (at9 i)).acc.dk (in9 i)

theorem index9 : ∀ t : Fin cfg0.N, win0_9.index t (0 : Fin 2) = 0 ∧ win0_9.index t (1 : Fin 2) = t.val / 32 :=
  (by decide +kernel : ∀ t : Fin grid0.N, _)
theorem flush9 : ∀ t : Fin cfg0.N, ((cfg0.win 9).flush t = true ↔ t.val % 32 = 31) :=
  (by decide +kernel : ∀ t : Fin grid0.N, _)

theorem written9 (c : Dev nD) (t : Fin cfg0.N) (hf : (cfg0.win 9).flush t = true) :
    (dats m 0 c).flushed 9 t = ((cfg0.win 9).blk t).view.read (Elt F) (end9 m c) := by
  show (cfg0.win 9).cut (grid0.coords t) ((dats m 0 c).after 9 t) = _
  rw [after9]
  obtain ⟨e0, e1⟩ := index9 t
  have hm := (flush9 t).mp hf
  have ht : t.val < 128 := lt_of_lt_of_eq t.isLt N_0
  funext y
  have y0 : (y 0).val < 8192 := (y 0).isLt
  have y1 : (y 1).val < 128 := (y 1).isLt
  have b0 : (((cfg0.win 9).blk t).view.emb y 0).val = win0_9.index t (0 : Fin 2) * 8192 + 1 * (y 0).val := rfl
  have b1 : (((cfg0.win 9).blk t).view.emb y 1).val = win0_9.index t (1 : Fin 2) * 128 + 1 * (y 1).val := rfl
  have hp : at9 (((cfg0.win 9).blk t).view.emb y) = t.val := by
    show 32 * ((((cfg0.win 9).blk t).view.emb y 1).val / 128) + 31 = t.val
    rw [b1]; omega
  have hl : in9 (((cfg0.win 9).blk t).view.emb y) = (cfg0.win 9).xinj (grid0.coords t) y := by
    funext a; apply Fin.ext
    match a with
    | ⟨0, _⟩ => show (((cfg0.win 9).blk t).view.emb y 0).val % 8192 = (y 0).val; rw [b0]; omega
    | ⟨1, _⟩ => show (((cfg0.win 9).blk t).view.emb y 1).val % 128 = (y 1).val; rw [b1]; omega
  show k0_pay2 (stAt m c t.val).acc.dk ((cfg0.win 9).xinj (grid0.coords t) y) = end9 m c (((cfg0.win 9).blk t).view.emb y)
  unfold end9
  rw [hl, hp]

theorem mem9 (t : Fin cfg0.N) (i : S8192x512.Idx) :
    i ∈ ((cfg0.win 9).blk t).view.set ↔ ∀ a : Fin 2, win0_9.index t a * S8192x128.size a ≤ (i a).val ∧ (i a).val < win0_9.index t a * S8192x128.size a + S8192x128.size a := by
  show i ∈ ((View.whole main_v49_1).slice (win0_9.rect t)).set ↔ _
  rw [View.set_slice_whole, Rect.mem_set_unit]
  exact Iff.rfl

theorem arr9 (c : Dev nD) : (dats m 0 c).arrAt 9 cfg0.N = end9 m c := by
  refine (dats m 0 c).arrAt_eq_of_cover 9 _ (fun t hf => written9 m c t hf) fun i => ?_
  have h0 : (i 0).val < 8192 := (i 0).isLt
  have h1 : (i 1).val < 512 := (i 1).isLt
  have hb : at9 i < cfg0.N := lt_of_lt_of_eq (by show 32 * ((i 1).val / 128) + 31 < 128; omega) N_0.symm
  have hv : (⟨at9 i, hb⟩ : Fin cfg0.N).val = 32 * ((i 1).val / 128) + 31 := rfl
  obtain ⟨e0, e1⟩ := index9 ⟨at9 i, hb⟩
  refine ⟨⟨at9 i, hb⟩, (flush9 _).mpr (by rw [hv]; omega), ?_⟩
  rw [hv] at e1
  rw [mem9]
  intro a
  match a with
  | ⟨0, _⟩ => show win0_9.index ⟨at9 i, hb⟩ (0 : Fin 2) * 8192 ≤ (i 0).val ∧ (i 0).val < win0_9.index ⟨at9 i, hb⟩ (0 : Fin 2) * 8192 + 8192; rw [e0]; omega
  | ⟨1, _⟩ => show win0_9.index ⟨at9 i, hb⟩ (1 : Fin 2) * 128 ≤ (i 1).val ∧ (i 1).val < win0_9.index ⟨at9 i, hb⟩ (1 : Fin 2) * 128 + 128; rw [e1]; omega

/-! ## Window 10: the gradient of the values -/

abbrev at10 (i : S8192x512.Idx) : ℕ := 32 * ((i 1).val / 128) + 31
set_option backward.proofsInPublic true in
abbrev in10 (i : S8192x512.Idx) : S8192x128.Idx := fun a => match a with
  | ⟨0, _⟩ => ⟨(i 0).val % 8192, Nat.mod_lt _ (by decide)⟩
  | ⟨1, _⟩ => ⟨(i 1).val % 128, Nat.mod_lt _ (by decide)⟩
/-- The array after the launch. -/
def end10 (c : Dev nD) : Buf (Elt F) ((c : Thread nD τ).loc main_v49_2) := fun i => k0_pay3 (stAt m c (at10 i)).acc.dv (in10 i)

theorem index10 : ∀ t : Fin cfg0.N, win0_10.index t (0 : Fin 2) = 0 ∧ win0_10.index t (1 : Fin 2) = t.val / 32 :=
  (by decide +kernel : ∀ t : Fin grid0.N, _)
theorem flush10 : ∀ t : Fin cfg0.N, ((cfg0.win 10).flush t = true ↔ t.val % 32 = 31) :=
  (by decide +kernel : ∀ t : Fin grid0.N, _)

theorem written10 (c : Dev nD) (t : Fin cfg0.N) (hf : (cfg0.win 10).flush t = true) :
    (dats m 0 c).flushed 10 t = ((cfg0.win 10).blk t).view.read (Elt F) (end10 m c) := by
  show (cfg0.win 10).cut (grid0.coords t) ((dats m 0 c).after 10 t) = _
  rw [after10]
  obtain ⟨e0, e1⟩ := index10 t
  have hm := (flush10 t).mp hf
  have ht : t.val < 128 := lt_of_lt_of_eq t.isLt N_0
  funext y
  have y0 : (y 0).val < 8192 := (y 0).isLt
  have y1 : (y 1).val < 128 := (y 1).isLt
  have b0 : (((cfg0.win 10).blk t).view.emb y 0).val = win0_10.index t (0 : Fin 2) * 8192 + 1 * (y 0).val := rfl
  have b1 : (((cfg0.win 10).blk t).view.emb y 1).val = win0_10.index t (1 : Fin 2) * 128 + 1 * (y 1).val := rfl
  have hp : at10 (((cfg0.win 10).blk t).view.emb y) = t.val := by
    show 32 * ((((cfg0.win 10).blk t).view.emb y 1).val / 128) + 31 = t.val
    rw [b1]; omega
  have hl : in10 (((cfg0.win 10).blk t).view.emb y) = (cfg0.win 10).xinj (grid0.coords t) y := by
    funext a; apply Fin.ext
    match a with
    | ⟨0, _⟩ => show (((cfg0.win 10).blk t).view.emb y 0).val % 8192 = (y 0).val; rw [b0]; omega
    | ⟨1, _⟩ => show (((cfg0.win 10).blk t).view.emb y 1).val % 128 = (y 1).val; rw [b1]; omega
  show k0_pay3 (stAt m c t.val).acc.dv ((cfg0.win 10).xinj (grid0.coords t) y) = end10 m c (((cfg0.win 10).blk t).view.emb y)
  unfold end10
  rw [hl, hp]

theorem mem10 (t : Fin cfg0.N) (i : S8192x512.Idx) :
    i ∈ ((cfg0.win 10).blk t).view.set ↔ ∀ a : Fin 2, win0_10.index t a * S8192x128.size a ≤ (i a).val ∧ (i a).val < win0_10.index t a * S8192x128.size a + S8192x128.size a := by
  show i ∈ ((View.whole main_v49_2).slice (win0_10.rect t)).set ↔ _
  rw [View.set_slice_whole, Rect.mem_set_unit]
  exact Iff.rfl

theorem arr10 (c : Dev nD) : (dats m 0 c).arrAt 10 cfg0.N = end10 m c := by
  refine (dats m 0 c).arrAt_eq_of_cover 10 _ (fun t hf => written10 m c t hf) fun i => ?_
  have h0 : (i 0).val < 8192 := (i 0).isLt
  have h1 : (i 1).val < 512 := (i 1).isLt
  have hb : at10 i < cfg0.N := lt_of_lt_of_eq (by show 32 * ((i 1).val / 128) + 31 < 128; omega) N_0.symm
  have hv : (⟨at10 i, hb⟩ : Fin cfg0.N).val = 32 * ((i 1).val / 128) + 31 := rfl
  obtain ⟨e0, e1⟩ := index10 ⟨at10 i, hb⟩
  refine ⟨⟨at10 i, hb⟩, (flush10 _).mpr (by rw [hv]; omega), ?_⟩
  rw [hv] at e1
  rw [mem10]
  intro a
  match a with
  | ⟨0, _⟩ => show win0_10.index ⟨at10 i, hb⟩ (0 : Fin 2) * 8192 ≤ (i 0).val ∧ (i 0).val < win0_10.index ⟨at10 i, hb⟩ (0 : Fin 2) * 8192 + 8192; rw [e0]; omega
  | ⟨1, _⟩ => show win0_10.index ⟨at10 i, hb⟩ (1 : Fin 2) * 128 ≤ (i 1).val ∧ (i 1).val < win0_10.index ⟨at10 i, hb⟩ (1 : Fin 2) * 128 + 128; rw [e1]; omega

/-! ## Window 11: the gradient of the gates by key -/

abbrev at11 (i : S4x8x1x1024.Idx) : ℕ := 32 * (i 0).val + 31
set_option backward.proofsInPublic true in
abbrev in11 (i : S4x8x1x1024.Idx) : S1x8x1x1024.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 1, Nat.mod_lt _ (by decide)⟩
  | ⟨3, _⟩ => ⟨(i 3).val % 1024, Nat.mod_lt _ (by decide)⟩
/-- The array after the launch. -/
def end11 (c : Dev nD) : Buf (Elt F) ((c : Thread nD τ).loc main_v49_3) := fun i => k0_pay4 (stAt m c (at11 i)).acc.df (in11 i)

theorem index11 : ∀ t : Fin cfg0.N, win0_11.index t (0 : Fin 4) = t.val / 32 ∧ win0_11.index t (1 : Fin 4) = 0 ∧ win0_11.index t (2 : Fin 4) = 0 ∧ win0_11.index t (3 : Fin 4) = 0 :=
  (by decide +kernel : ∀ t : Fin grid0.N, _)
theorem flush11 : ∀ t : Fin cfg0.N, ((cfg0.win 11).flush t = true ↔ t.val % 32 = 31) :=
  (by decide +kernel : ∀ t : Fin grid0.N, _)

theorem written11 (c : Dev nD) (t : Fin cfg0.N) (hf : (cfg0.win 11).flush t = true) :
    (dats m 0 c).flushed 11 t = ((cfg0.win 11).blk t).view.read (Elt F) (end11 m c) := by
  show (cfg0.win 11).cut (grid0.coords t) ((dats m 0 c).after 11 t) = _
  rw [after11]
  obtain ⟨e0, e1, e2, e3⟩ := index11 t
  have hm := (flush11 t).mp hf
  have ht : t.val < 128 := lt_of_lt_of_eq t.isLt N_0
  funext y
  have y0 : (y 0).val < 1 := (y 0).isLt
  have y1 : (y 1).val < 8 := (y 1).isLt
  have y2 : (y 2).val < 1 := (y 2).isLt
  have y3 : (y 3).val < 1024 := (y 3).isLt
  have b0 : (((cfg0.win 11).blk t).view.emb y 0).val = win0_11.index t (0 : Fin 4) * 1 + 1 * (y 0).val := rfl
  have b1 : (((cfg0.win 11).blk t).view.emb y 1).val = win0_11.index t (1 : Fin 4) * 8 + 1 * (y 1).val := rfl
  have b2 : (((cfg0.win 11).blk t).view.emb y 2).val = win0_11.index t (2 : Fin 4) * 1 + 1 * (y 2).val := rfl
  have b3 : (((cfg0.win 11).blk t).view.emb y 3).val = win0_11.index t (3 : Fin 4) * 1024 + 1 * (y 3).val := rfl
  have hp : at11 (((cfg0.win 11).blk t).view.emb y) = t.val := by
    show 32 * (((cfg0.win 11).blk t).view.emb y 0).val + 31 = t.val
    rw [b0]; omega
  have hl : in11 (((cfg0.win 11).blk t).view.emb y) = (cfg0.win 11).xinj (grid0.coords t) y := by
    funext a; apply Fin.ext
    match a with
    | ⟨0, _⟩ => show (((cfg0.win 11).blk t).view.emb y 0).val % 1 = (y 0).val; rw [b0]; omega
    | ⟨1, _⟩ => show (((cfg0.win 11).blk t).view.emb y 1).val % 8 = (y 1).val; rw [b1]; omega
    | ⟨2, _⟩ => show (((cfg0.win 11).blk t).view.emb y 2).val % 1 = (y 2).val; rw [b2]; omega
    | ⟨3, _⟩ => show (((cfg0.win 11).blk t).view.emb y 3).val % 1024 = (y 3).val; rw [b3]; omega
  show k0_pay4 (stAt m c t.val).acc.df ((cfg0.win 11).xinj (grid0.coords t) y) = end11 m c (((cfg0.win 11).blk t).view.emb y)
  unfold end11
  rw [hl, hp]

theorem mem11 (t : Fin cfg0.N) (i : S4x8x1x1024.Idx) :
    i ∈ ((cfg0.win 11).blk t).view.set ↔ ∀ a : Fin 4, win0_11.index t a * S1x8x1x1024.size a ≤ (i a).val ∧ (i a).val < win0_11.index t a * S1x8x1x1024.size a + S1x8x1x1024.size a := by
  show i ∈ ((View.whole main_v49_3).slice (win0_11.rect t)).set ↔ _
  rw [View.set_slice_whole, Rect.mem_set_unit]
  exact Iff.rfl

theorem arr11 (c : Dev nD) : (dats m 0 c).arrAt 11 cfg0.N = end11 m c := by
  refine (dats m 0 c).arrAt_eq_of_cover 11 _ (fun t hf => written11 m c t hf) fun i => ?_
  have h0 : (i 0).val < 4 := (i 0).isLt
  have h1 : (i 1).val < 8 := (i 1).isLt
  have h2 : (i 2).val < 1 := (i 2).isLt
  have h3 : (i 3).val < 1024 := (i 3).isLt
  have hb : at11 i < cfg0.N := lt_of_lt_of_eq (by show 32 * (i 0).val + 31 < 128; omega) N_0.symm
  have hv : (⟨at11 i, hb⟩ : Fin cfg0.N).val = 32 * (i 0).val + 31 := rfl
  obtain ⟨e0, e1, e2, e3⟩ := index11 ⟨at11 i, hb⟩
  refine ⟨⟨at11 i, hb⟩, (flush11 _).mpr (by rw [hv]; omega), ?_⟩
  rw [hv] at e0
  rw [mem11]
  intro a
  match a with
  | ⟨0, _⟩ => show win0_11.index ⟨at11 i, hb⟩ (0 : Fin 4) * 1 ≤ (i 0).val ∧ (i 0).val < win0_11.index ⟨at11 i, hb⟩ (0 : Fin 4) * 1 + 1; rw [e0]; omega
  | ⟨1, _⟩ => show win0_11.index ⟨at11 i, hb⟩ (1 : Fin 4) * 8 ≤ (i 1).val ∧ (i 1).val < win0_11.index ⟨at11 i, hb⟩ (1 : Fin 4) * 8 + 8; rw [e1]; omega
  | ⟨2, _⟩ => show win0_11.index ⟨at11 i, hb⟩ (2 : Fin 4) * 1 ≤ (i 2).val ∧ (i 2).val < win0_11.index ⟨at11 i, hb⟩ (2 : Fin 4) * 1 + 1; rw [e2]; omega
  | ⟨3, _⟩ => show win0_11.index ⟨at11 i, hb⟩ (3 : Fin 4) * 1024 ≤ (i 3).val ∧ (i 3).val < win0_11.index ⟨at11 i, hb⟩ (3 : Fin 4) * 1024 + 1024; rw [e3]; omega

/-! ## Window 12: the gradient of the gates by query -/

abbrev at12 (i : S4x8192x1.Idx) : ℕ := 32 * (i 0).val + (i 1).val / 256
set_option backward.proofsInPublic true in
abbrev in12 (i : S4x8192x1.Idx) : S1x256x1.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 1, Nat.mod_lt _ (by decide)⟩
/-- The array after the launch. -/
def end12 (c : Dev nD) : Buf (Elt F) ((c : Thread nD τ).loc main_v49_4) := fun i => k0_pay1 (stAt m c (at12 i)).dg (in12 i)

theorem index12 : ∀ t : Fin cfg0.N, win0_12.index t (0 : Fin 3) = t.val / 32 ∧ win0_12.index t (1 : Fin 3) = t.val % 32 ∧ win0_12.index t (2 : Fin 3) = 0 :=
  (by decide +kernel : ∀ t : Fin grid0.N, _)
theorem flush12 : ∀ t : Fin cfg0.N, (cfg0.win 12).flush t = true :=
  (by decide +kernel : ∀ t : Fin grid0.N, _)

theorem written12 (c : Dev nD) (t : Fin cfg0.N) (hf : (cfg0.win 12).flush t = true) :
    (dats m 0 c).flushed 12 t = ((cfg0.win 12).blk t).view.read (Elt F) (end12 m c) := by
  show (cfg0.win 12).cut (grid0.coords t) ((dats m 0 c).after 12 t) = _
  rw [after12]
  obtain ⟨e0, e1, e2⟩ := index12 t
  have ht : t.val < 128 := lt_of_lt_of_eq t.isLt N_0
  funext y
  have y0 : (y 0).val < 1 := (y 0).isLt
  have y1 : (y 1).val < 256 := (y 1).isLt
  have y2 : (y 2).val < 1 := (y 2).isLt
  have b0 : (((cfg0.win 12).blk t).view.emb y 0).val = win0_12.index t (0 : Fin 3) * 1 + 1 * (y 0).val := rfl
  have b1 : (((cfg0.win 12).blk t).view.emb y 1).val = win0_12.index t (1 : Fin 3) * 256 + 1 * (y 1).val := rfl
  have b2 : (((cfg0.win 12).blk t).view.emb y 2).val = win0_12.index t (2 : Fin 3) * 1 + 1 * (y 2).val := rfl
  have hp : at12 (((cfg0.win 12).blk t).view.emb y) = t.val := by
    show 32 * (((cfg0.win 12).blk t).view.emb y 0).val + (((cfg0.win 12).blk t).view.emb y 1).val / 256 = t.val
    rw [b0, b1]; omega
  have hl : in12 (((cfg0.win 12).blk t).view.emb y) = (cfg0.win 12).xinj (grid0.coords t) y := by
    funext a; apply Fin.ext
    match a with
    | ⟨0, _⟩ => show (((cfg0.win 12).blk t).view.emb y 0).val % 1 = (y 0).val; rw [b0]; omega
    | ⟨1, _⟩ => show (((cfg0.win 12).blk t).view.emb y 1).val % 256 = (y 1).val; rw [b1]; omega
    | ⟨2, _⟩ => show (((cfg0.win 12).blk t).view.emb y 2).val % 1 = (y 2).val; rw [b2]; omega
  show k0_pay1 (stAt m c t.val).dg ((cfg0.win 12).xinj (grid0.coords t) y) = end12 m c (((cfg0.win 12).blk t).view.emb y)
  unfold end12
  rw [hl, hp]

theorem mem12 (t : Fin cfg0.N) (i : S4x8192x1.Idx) :
    i ∈ ((cfg0.win 12).blk t).view.set ↔ ∀ a : Fin 3, win0_12.index t a * S1x256x1.size a ≤ (i a).val ∧ (i a).val < win0_12.index t a * S1x256x1.size a + S1x256x1.size a := by
  show i ∈ ((View.whole main_v49_4).slice (win0_12.rect t)).set ↔ _
  rw [View.set_slice_whole, Rect.mem_set_unit]
  exact Iff.rfl

theorem arr12 (c : Dev nD) : (dats m 0 c).arrAt 12 cfg0.N = end12 m c := by
  refine (dats m 0 c).arrAt_eq_of_cover 12 _ (fun t hf => written12 m c t hf) fun i => ?_
  have h0 : (i 0).val < 4 := (i 0).isLt
  have h1 : (i 1).val < 8192 := (i 1).isLt
  have h2 : (i 2).val < 1 := (i 2).isLt
  have hb : at12 i < cfg0.N := lt_of_lt_of_eq (by show 32 * (i 0).val + (i 1).val / 256 < 128; omega) N_0.symm
  have hv : (⟨at12 i, hb⟩ : Fin cfg0.N).val = 32 * (i 0).val + (i 1).val / 256 := rfl
  obtain ⟨e0, e1, e2⟩ := index12 ⟨at12 i, hb⟩
  refine ⟨⟨at12 i, hb⟩, flush12 _, ?_⟩
  rw [hv] at e0 e1
  rw [mem12]
  intro a
  match a with
  | ⟨0, _⟩ => show win0_12.index ⟨at12 i, hb⟩ (0 : Fin 3) * 1 ≤ (i 0).val ∧ (i 0).val < win0_12.index ⟨at12 i, hb⟩ (0 : Fin 3) * 1 + 1; rw [e0]; omega
  | ⟨1, _⟩ => show win0_12.index ⟨at12 i, hb⟩ (1 : Fin 3) * 256 ≤ (i 1).val ∧ (i 1).val < win0_12.index ⟨at12 i, hb⟩ (1 : Fin 3) * 256 + 256; rw [e1]; omega
  | ⟨2, _⟩ => show win0_12.index ⟨at12 i, hb⟩ (2 : Fin 3) * 1 ≤ (i 2).val ∧ (i 2).val < win0_12.index ⟨at12 i, hb⟩ (2 : Fin 3) * 1 + 1; rw [e2]; omega

/-! ## The run -/

/-- The launch ends with the results at `end8` … `end12` and the arguments as they were. -/
theorem run : θ_run defs (onTc (τ := τ) (main (F := F))) ⟨m, fun _ => 0, ρ⟩ fun r => ∀ c : Dev nD,
      r.2.mem ((c : Thread nD τ).loc main_v49_0) = end8 m c
      ∧ r.2.mem ((c : Thread nD τ).loc main_v49_1) = end9 m c
      ∧ r.2.mem ((c : Thread nD τ).loc main_v49_2) = end10 m c
      ∧ r.2.mem ((c : Thread nD τ).loc main_v49_3) = end11 m c
      ∧ r.2.mem ((c : Thread nD τ).loc main_v49_4) = end12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 8).trans (arr8 m c),
      ((h.1 c).1 9).trans (arr9 m c),
      ((h.1 c).1 10).trans (arr10 m c),
      ((h.1 c).1 11).trans (arr11 m c),
      ((h.1 c).1 12).trans (arr12 m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 3).trans (((dats m 0 c).arrAt_in 3 rfl _).trans ((A_eq m c 3).trans (V_main_arg2 m c)))⟩)
    (run_main m ρ)

end Cert.KernelIdeal.Fox

end
-- ==== Proof.Ref.lean ====
/-
  The reference's results at an index, over the real numbers: the gradients of `FoxModel`.
-/
module

public import proofs.«01_k».proof.Proof.Fwd
public import proofs.«01_k».proof.Proof.Gen.ReferenceIdeal.Run
public import Idealize.ShloMosaic.Lib.Pipeline.Value

@[expose] public section

set_option maxRecDepth 16384

noncomputable section

namespace Cert.FoxHost

open Idealize.ShloMosaic Idealize.ShloMosaic.TcCoe
open Cert.ReferenceIdeal Cert.ReferenceIdeal.Gen
open Cert.FoxModel (Data)
open scoped BigOperators

/-! ## The lines -/

section lines

variable {F : FTy → Type} [FloatOps F]
variable (u : FVec F S8192x4608 .bf16) (cum : FVec F S8192x4 .f32) (dy : FVec F S8192x512 .bf16)

/-- The rows' shifts, of their greatest scores. -/
def shifts (x : FVec F S4x8192 .f32) : FVec F S4x8192 .f32 :=
  maximumf (broadcastInDim S4x8192 ![] bcast_S_S4x8192 (constant S_ .f32 0xFF800000#32)) x
def es : FVec F S4x8192x8192 .f32 := exps u cum (shifts (tops u cum))
/-- The incoming gradient, by head. -/
def heads (x : FVec F S8192x512 .f32) : FVec F S8192x4x128 .f32 := shapeCast _ x shapeCasts_S8192x512_S8192x4x128
def dys : FVec F S4x128x8192 .f32 :=
  transpose S4x128x8192 [1, 2, 0] (heads (extf .f32 dy bitsLt_bf16_f32)) transposes_S8192x4x128_S4x128x8192_1_2_0
/-- The gradient of the probabilities. -/
def dps (y : FVec F S4x128x8192 .f32) (v : FVec F S8192x4x128 .f32) : FVec F S4x8192x8192 .f32 :=
  Host.dotGeneral dot_S4x128x8192_S8192x4x128_S4x8192x8192_1_2_2_0_0_1 none y v
/-- One over the square of the rows' sums. -/
def inv2 (x : FVec F S4x8192x8192 .f32) : FVec F S4x8192x1 .f32 :=
  Host.divf (broadcastInDim S4x8192x1 ![] bcast_S_S4x8192x1 (constant S_ .f32 0x3F800000#32)) (mulf (col (sums x)) (col (sums x)))
/-- What the rows' sums receive. -/
def dsums (p x : FVec F S4x8192x8192 .f32) : FVec F S4x8192 .f32 :=
  Host.reduceAdd (Host.negf (shapeCast _ (sums (mulf (mulf p (spread (inv2 x))) x)) shapeCasts_S4x8192_S4x8192x1))
    (constant S_ .f32 0x00000000#32) reducesTo_S4x8192x1_S4x8192_d2 h_S_
/-- The gradient of the scores, of the gradient `p` of the probabilities and the exponentials `x`. -/
def dss (p x : FVec F S4x8192x8192 .f32) : FVec F S4x8192x8192 .f32 :=
  select (mask (F := F))
    (mulf (addf (Host.divf p (spread (col (sums x)))) (broadcastInDim S4x8192x8192 ![0, 1] bcast_S4x8192_S4x8192x8192_0_1 (dsums p x))) x)
    (broadcastInDim S4x8192x8192 ![] bcast_S_S4x8192x8192 (constant S_ .f32 0x00000000#32))
def scaled (d : FVec F S4x8192x8192 .f32) : FVec F S4x8192x8192 .f32 :=
  mulf d (broadcastInDim S4x8192x8192 ![] bcast_S_S4x8192x8192 (constant S_ .f32 0x3DB504F3#32))

def dq (d : FVec F S4x8192x8192 .f32) (k : FVec F S8192x4x128 .f32) : FVec F S8192x512 .bf16 :=
  truncf .bf16 (shapeCast _ (transpose S8192x4x128 [1, 0, 2] (Host.dotGeneral dot_S4x8192x8192_S8192x4x128_S4x8192x128_2_0_1_2_0_1 none (scaled d) k)
    transposes_S4x8192x128_S8192x4x128_1_0_2) shapeCasts_S8192x4x128_S8192x512) bitsLt_bf16_f32
def dk (d : FVec F S4x8192x8192 .f32) (q : FVec F S8192x4x128 .f32) : FVec F S8192x512 .bf16 :=
  truncf .bf16 (shapeCast _ (transpose S8192x4x128 [1, 0, 2] (Host.dotGeneral dot_S4x8192x8192_S8192x4x128_S4x8192x128_1_0_2_2_0_1 none (scaled d) q)
    transposes_S4x8192x128_S8192x4x128_1_0_2) shapeCasts_S8192x4x128_S8192x512) bitsLt_bf16_f32
def dv (y : FVec F S4x128x8192 .f32) (p : FVec F S4x8192x8192 .f32) : FVec F S8192x512 .bf16 :=
  truncf .bf16 (shapeCast _ (transpose S8192x4x128 [2, 0, 1] (Host.dotGeneral dot_S4x128x8192_S4x8192x8192_S4x128x8192_2_1_1_2_0_0 none y p)
    transposes_S4x128x8192_S8192x4x128_2_0_1) shapeCasts_S8192x4x128_S8192x512) bitsLt_bf16_f32
def df (d : FVec F S4x8192x8192 .f32) : FVec F S4x8x1x1024 .f32 :=
  shapeCast _ (transpose S4x8192 [1, 0] (transpose S8192x4 [1, 0]
    (Host.reduceAdd (shapeCast _ (Host.reduceAdd (Host.negf d) (constant S_ .f32 0x00000000#32) reducesTo_S4x8192x8192_S4x8192_d1 h_S_) shapeCasts_S4x8192_S4x1x8192)
      (constant S_ .f32 0x00000000#32) reducesTo_S4x1x8192_S4x8192_d1 h_S_) transposes_S4x8192_S8192x4_1_0) transposes_S8192x4_S4x8192_1_0) shapeCasts_S4x8192_S4x8x1x1024
def dg (d : FVec F S4x8192x8192 .f32) : FVec F S4x8192x1 .f32 :=
  broadcastInDim S4x8192x1 ![0, 1] bcast_S4x8192_S4x8192x1_0_1 (transpose S4x8192 [1, 0] (transpose S8192x4 [1, 0]
    (Host.reduceAdd (shapeCast _ (Host.reduceAdd d (constant S_ .f32 0x00000000#32) reducesTo_S4x8192x8192_S4x8192_d2 h_S_) shapeCasts_S4x8192_S4x8192x1)
      (constant S_ .f32 0x00000000#32) reducesTo_S4x8192x1_S4x8192_d2 h_S_) transposes_S4x8192_S8192x4_1_0) transposes_S8192x4_S4x8192_1_0)

variable (m : (ℓ : Loc nD τ sig) → Buf (Elt F) ℓ) (c : Dev nD)

theorem res0 : Value.res_out0 m c = dq (dss (dps (dys (m ((c.tc : Thread nD τ).loc main_arg2))) (vs (m ((c.tc : Thread nD τ).loc main_arg0)))) (es (m ((c.tc : Thread nD τ).loc main_arg0)) (m ((c.tc : Thread nD τ).loc main_arg1)))) (ks (m ((c.tc : Thread nD τ).loc main_arg0))) := rfl
theorem res1 : Value.res_out1 m c = dk (dss (dps (dys (m ((c.tc : Thread nD τ).loc main_arg2))) (vs (m ((c.tc : Thread nD τ).loc main_arg0)))) (es (m ((c.tc : Thread nD τ).loc main_arg0)) (m ((c.tc : Thread nD τ).loc main_arg1)))) (qs (m ((c.tc : Thread nD τ).loc main_arg0))) := rfl
theorem res2 : Value.res_out2 m c = dv (dys (m ((c.tc : Thread nD τ).loc main_arg2))) (probs (es (m ((c.tc : Thread nD τ).loc main_arg0)) (m ((c.tc : Thread nD τ).loc main_arg1)))) := rfl
theorem res3 : Value.res_out3 m c = df (dss (dps (dys (m ((c.tc : Thread nD τ).loc main_arg2))) (vs (m ((c.tc : Thread nD τ).loc main_arg0)))) (es (m ((c.tc : Thread nD τ).loc main_arg0)) (m ((c.tc : Thread nD τ).loc main_arg1)))) := rfl
theorem res4 : Value.res_out4 m c = dg (dss (dps (dys (m ((c.tc : Thread nD τ).loc main_arg2))) (vs (m ((c.tc : Thread nD τ).loc main_arg0)))) (es (m ((c.tc : Thread nD τ).loc main_arg0)) (m ((c.tc : Thread nD τ).loc main_arg1)))) := rfl

end lines

/-! ## Their values -/

section apply

variable (u : FVec Ideal S8192x4608 .bf16) (cum : FVec Ideal S8192x4 .f32) (dy : FVec Ideal S8192x512 .bf16)
variable (p x d : FVec Ideal S4x8192x8192 .f32)

theorem shifts_apply (x : FVec Ideal S4x8192 .f32) (h : Fin 4) (i : Fin 8192) : (shifts x (ix2 h i) : EReal) = max (Ideal.ofBits .f32 0xFF800000#32) (x (ix2 h i) : EReal) := by
  pointwise [shifts]
theorem heads_apply (x : FVec Ideal S8192x512 .f32) (i : Fin 8192) (h : Fin 4) (e : Fin 128) :
    heads x (ix3 i h e) = x (ix2 i (⟨h.val * 128 + e.val, by omega⟩ : Fin 512)) := by
  unfold heads
  refine shapeCast_apply x _ _ _ ?_
  rw [Shape.rowMajor_val_three, Shape.rowMajor_val_two]
  show i.val * 512 + (h.val * 128 + e.val) = (i.val * 4 + h.val) * 128 + e.val
  omega
theorem dys_apply (h : Fin 4) (e : Fin 128) (i : Fin 8192) : dys dy (ix3 h e i) = dy (ix2 i (⟨h.val * 128 + e.val, by omega⟩ : Fin 512)) := by
  have e : dys dy (ix3 h e i) = heads (extf .f32 dy bitsLt_bf16_f32) (ix3 i h e) := by pointwise [dys]
  rw [e, heads_apply]
  rfl
theorem dps_apply (y : FVec Ideal S4x128x8192 .f32) (v : FVec Ideal S8192x4x128 .f32) (h : Fin 4) (i j : Fin 8192) :
    (dps y v (ix3 h i j) : EReal) = ∑ e : Fin 128, (y (ix3 h e i) : EReal) * v (ix3 j h e) := by
  pointwise [dps]
theorem inv2_apply (h : Fin 4) (i : Fin 8192) : (inv2 x (ix3 h i 0) : EReal) = Ideal.div (Ideal.ofBits .f32 0x3F800000#32) ((sums x (ix2 h i) : EReal) * sums x (ix2 h i)) := by
  pointwise [inv2, col]
theorem dsums_apply (h : Fin 4) (i : Fin 8192) : (dsums p x (ix2 h i) : EReal) =
     -(∑ j : Fin 8192, (p (ix3 h i j) : EReal) * inv2 x (ix3 h i 0) * x (ix3 h i j)) := by
  pointwise [dsums, sums, spread]
  exact Fin.sum_univ_one _
theorem dss_apply (h : Fin 4) (i j : Fin 8192) : (dss p x (ix3 h i j) : EReal) =
    Scalar.select (mask (F := Ideal) (ix3 h i j)) ((Ideal.div (p (ix3 h i j)) (sums x (ix2 h i)) + dsums p x (ix2 h i) : EReal) * x (ix3 h i j) : EReal) (0 : EReal) := by
  pointwise [dss, spread, col]
theorem dq_apply (k : FVec Ideal S8192x4x128 .f32) (h : Fin 4) (i : Fin 8192) (e : Fin 128) :
    (dq d k (ix2 i (⟨h.val * 128 + e.val, by omega⟩ : Fin 512)) : EReal) = ∑ j : Fin 8192, ((d (ix3 h i j) : EReal) * Ideal.ofBits .f32 0x3DB504F3#32) * k (ix3 j h e) := by
  pointwise [dq, scaled]
theorem dk_apply (q : FVec Ideal S8192x4x128 .f32) (h : Fin 4) (j : Fin 8192) (e : Fin 128) :
    (dk d q (ix2 j (⟨h.val * 128 + e.val, by omega⟩ : Fin 512)) : EReal) = ∑ i : Fin 8192, ((d (ix3 h i j) : EReal) * Ideal.ofBits .f32 0x3DB504F3#32) * q (ix3 i h e) := by
  pointwise [dk, scaled]
theorem dv_apply (y : FVec Ideal S4x128x8192 .f32) (h : Fin 4) (j : Fin 8192) (e : Fin 128) :
    (dv y p (ix2 j (⟨h.val * 128 + e.val, by omega⟩ : Fin 512)) : EReal) = ∑ i : Fin 8192, (y (ix3 h e i) : EReal) * p (ix3 h i j) := by
  pointwise [dv]
theorem df_apply (h : Fin 4) (j : Fin 8) (l : Fin 1024) :
    (df d (ix4 h j 0 l) : EReal) = ∑ i : Fin 8192, -(d (ix3 h i (⟨j.val * 1024 + l.val, by omega⟩ : Fin 8192)) : EReal) := by
  pointwise [df]
  exact Fin.sum_univ_one _
theorem dg_apply (h : Fin 4) (i : Fin 8192) :
    (dg d (ix3 h i 0) : EReal) = ∑ j : Fin 8192, (d (ix3 h i j) : EReal) := by
  pointwise [dg]
  exact Fin.sum_univ_one _

end apply

variable {u : FVec Ideal S8192x4608 .bf16} {cum : FVec Ideal S8192x4 .f32} {dy : FVec Ideal S8192x512 .bf16} (H : Fin3 u cum dy)
include H

theorem es_eq (h : Fin 4) (i j : Fin 8192) : (es u cum (ix3 h i j) : EReal) = (FoxModel.E (data u cum dy) h.val i.val j.val : EReal) :=
  exps_eq H _ (fun h i => by rw [shifts_apply, neg_inf]; exact max_eq_right bot_le) h i j

theorem dys_eq (h : Fin 4) (e : Fin 128) (i : Fin 8192) : (dys dy (ix3 h e i) : EReal) = ((data u cum dy).D h.val i.val e.val : EReal) := by
  rw [dys_apply]; exact dy_eq H i h e

theorem dps_eq (h : Fin 4) (i j : Fin 8192) : (dps (dys dy) (vs u) (ix3 h i j) : EReal) = (FoxModel.DP (data u cum dy) h.val i.val j.val : EReal) := by
  rw [dps_apply]
  exact FoxModel.coe_mul_sum _ _ (fun e => (data u cum dy).D h.val i.val e) (fun e => (data u cum dy).V h.val j.val e)
    (fun e => dys_eq H h e i) (fun e => vs_eq H j h e)

theorem inv2_eq (h : Fin 4) (i : Fin 8192) : (inv2 (es u cum) (ix3 h i 0) : EReal)
    = ((1 / (FoxModel.L (data u cum dy) h.val i.val * FoxModel.L (data u cum dy) h.val i.val) : ℝ) : EReal) := by
  have hL := (FoxModel.L_pos (data u cum dy) h.val i.isLt).ne'
  rw [inv2_apply, sums_eq H _ h i (fun j => es_eq H h i j), ← EReal.coe_mul, Ideal.div_coe (mul_ne_zero hL hL), Ideal.ofBits_one_f32, one_mul]

theorem dsums_eq (h : Fin 4) (i : Fin 8192) : (dsums (dps (dys dy) (vs u)) (es u cum) (ix2 h i) : EReal)
    = ((-(FoxModel.dl (data u cum dy) h.val i.val / FoxModel.L (data u cum dy) h.val i.val) : ℝ) : EReal) := by
  have hL := (FoxModel.L_pos (data u cum dy) h.val i.isLt).ne'
  rw [dsums_apply, FoxModel.sum_fin _ (fun j => FoxModel.DP (data u cum dy) h.val i.val j
    * (1 / (FoxModel.L (data u cum dy) h.val i.val * FoxModel.L (data u cum dy) h.val i.val)) * FoxModel.E (data u cum dy) h.val i.val j)
    (fun j => by rw [dps_eq H, inv2_eq H, es_eq H, ← EReal.coe_mul, ← EReal.coe_mul]), ← EReal.coe_neg, FoxModel.dl_eq, Finset.sum_div]
  congr 2
  refine Finset.sum_congr rfl fun j _ => ?_
  unfold FoxModel.P
  field_simp

theorem dss_eq (h : Fin 4) (i j : Fin 8192) : (dss (dps (dys dy) (vs u)) (es u cum) (ix3 h i j) : EReal)
    = (FoxModel.DS (data u cum dy) h.val i.val j.val : EReal) := by
  have hL := (FoxModel.L_pos (data u cum dy) h.val i.isLt).ne'
  rw [dss_apply, dps_eq H, sums_eq H _ h i (fun j => es_eq H h i j), dsums_eq H, es_eq H, Ideal.div_coe hL,
    ← EReal.coe_mul, ← EReal.coe_add, ← EReal.coe_mul]
  by_cases hm : j.val ≤ i.val
  · rw [(mask_apply h i j).mpr hm]
    show ((_ : ℝ) : EReal) = _
    congr 1
    unfold FoxModel.DS FoxModel.P
    field_simp
    ring
  · rw [FoxModel.DS_above _ (by omega)]
    exact if_neg ((not_congr (mask_apply h i j)).mpr hm)

variable (d : FVec Ideal S4x8192x8192 .f32) (hd : ∀ h i j, (d (ix3 h i j) : EReal) = (FoxModel.DS (data u cum dy) h.val i.val j.val : EReal))
include hd

theorem dq_eq (h : Fin 4) (i : Fin 8192) (e : Fin 128) :
    (dq d (ks u) (ix2 i (⟨h.val * 128 + e.val, by omega⟩ : Fin 512)) : EReal) = (FoxModel.gq (data u cum dy) h.val i.val e.val : EReal) := by
  rw [dq_apply, FoxModel.sum_fin _ (fun j => FoxModel.DS (data u cum dy) h.val i.val j * (data u cum dy).c0 * (data u cum dy).K h.val j e.val)
    (fun j => by rw [hd, ks_eq H, c0_eq (u := u) (cum := cum) (dy := dy), ← EReal.coe_mul, ← EReal.coe_mul])]
  congr 1
  unfold FoxModel.gq
  rw [Finset.sum_mul]
  exact Finset.sum_congr rfl fun j _ => by ring

theorem dk_eq (h : Fin 4) (j : Fin 8192) (e : Fin 128) :
    (dk d (qs u) (ix2 j (⟨h.val * 128 + e.val, by omega⟩ : Fin 512)) : EReal) = (FoxModel.gk (data u cum dy) h.val j.val e.val : EReal) := by
  rw [dk_apply, FoxModel.sum_fin _ (fun i => FoxModel.DS (data u cum dy) h.val i j.val * (data u cum dy).c0 * (data u cum dy).Q h.val i e.val)
    (fun i => by rw [hd, qs_eq H, c0_eq (u := u) (cum := cum) (dy := dy), ← EReal.coe_mul, ← EReal.coe_mul])]
  congr 1
  unfold FoxModel.gk
  rw [Finset.sum_mul]
  exact Finset.sum_congr rfl fun j _ => by ring

theorem df_eq (h : Fin 4) (j : Fin 8) (l : Fin 1024) :
    (df d (ix4 h j 0 l) : EReal) = (FoxModel.gcK (data u cum dy) h.val (j.val * 1024 + l.val) : EReal) := by
  rw [df_apply]
  exact FoxModel.sum_fin _ (fun i => -FoxModel.DS (data u cum dy) h.val i (j.val * 1024 + l.val)) (fun i => by rw [hd, ← EReal.coe_neg])

theorem dg_eq (h : Fin 4) (i : Fin 8192) : (dg d (ix3 h i 0) : EReal) = (FoxModel.gcQ (data u cum dy) h.val i.val : EReal) := by
  rw [dg_apply]
  exact FoxModel.sum_fin _ (fun j => FoxModel.DS (data u cum dy) h.val i.val j) (fun j => hd h i j)

omit hd
theorem dv_eq (p : FVec Ideal S4x8192x8192 .f32) (hp : ∀ h i j, (p (ix3 h i j) : EReal) = (FoxModel.P (data u cum dy) h.val i.val j.val : EReal))
    (h : Fin 4) (j : Fin 8192) (e : Fin 128) :
    (dv (dys dy) p (ix2 j (⟨h.val * 128 + e.val, by omega⟩ : Fin 512)) : EReal) = (FoxModel.gv (data u cum dy) h.val j.val e.val : EReal) := by
  rw [dv_apply, FoxModel.sum_fin _ (fun i => FoxModel.P (data u cum dy) h.val i j.val * (data u cum dy).D h.val i e.val)
    (fun i => by rw [hp, dys_eq H, ← EReal.coe_mul, mul_comm])]
  rfl

end Cert.FoxHost

end
-- ==== Proof.Final.lean ====
/-
  The five result arrays after the launch are the reference's: both are the model's gradients, index by index.
-/
module

public import proofs.«01_k».proof.Proof.Fill
public import proofs.«01_k».proof.Proof.Value
public import proofs.«01_k».proof.Proof.Ref

@[expose] public section

set_option maxRecDepth 16384

noncomputable section

namespace Cert.KernelIdeal.Fox

open Idealize.ShloMosaic Idealize.ShloMosaic.TcCoe
open Cert.KernelIdeal Cert.KernelIdeal.Gen

open Cert.FoxModel

/-! ## An index by its head and its place in the head -/

theorem head2 (i : S8192x512.Idx) : ∃ (h : Fin 4) (r : Fin 8192) (e : Fin 128), i = ix2 r (⟨h.val * 128 + e.val, by omega⟩ : Fin 512) := by
  have h0 : (i 0).val < 8192 := (i 0).isLt
  have h1 : (i 1).val < 512 := (i 1).isLt
  refine ⟨⟨(i 1).val / 128, by omega⟩, ⟨(i 0).val, h0⟩, ⟨(i 1).val % 128, by omega⟩, funext fun a => ?_⟩
  match a with
  | ⟨0, _⟩ => rfl
  | ⟨1, _⟩ => exact Fin.ext (show (i 1).val = (i 1).val / 128 * 128 + (i 1).val % 128 by omega)

theorem head3 (i : S4x8192x1.Idx) : ∃ (h : Fin 4) (r : Fin 8192), i = ix3 h r (0 : Fin 1) := by
  have h2 : (i 2).val < 1 := (i 2).isLt
  refine ⟨⟨(i 0).val, (i 0).isLt⟩, ⟨(i 1).val, (i 1).isLt⟩, funext fun a => ?_⟩
  match a with
  | ⟨0, _⟩ => rfl
  | ⟨1, _⟩ => rfl
  | ⟨2, _⟩ => exact Fin.ext (show (i 2).val = 0 by omega)

theorem head4 (i : S4x8x1x1024.Idx) : ∃ (h : Fin 4) (j : Fin 8) (l : Fin 1024), i = ix4 h j (0 : Fin 1) l := by
  have h2 : (i 2).val < 1 := (i 2).isLt
  refine ⟨⟨(i 0).val, (i 0).isLt⟩, ⟨(i 1).val, (i 1).isLt⟩, ⟨(i 3).val, (i 3).isLt⟩, funext fun a => ?_⟩
  match a with
  | ⟨0, _⟩ => rfl
  | ⟨1, _⟩ => rfl
  | ⟨2, _⟩ => exact Fin.ext (show (i 2).val = 0 by omega)
  | ⟨3, _⟩ => rfl

variable (m : (ℓ : Loc nD τ sig) → Buf (Elt Ideal) ℓ) (c : Dev nD)
variable {u : FVec Ideal S8192x4608 .bf16} {cum : FVec Ideal S8192x4 .f32} {dy : FVec Ideal S8192x512 .bf16} (H : FoxHost.Fin3 u cum dy)
variable (hu : m ((c : Thread nD τ).loc main_arg0) = u) (hc : m ((c : Thread nD τ).loc main_arg1) = cum) (hd : m ((c : Thread nD τ).loc main_arg2) = dy)
include H hu hc hd

/-! ## The gradients by query -/

theorem end8_at (h : Fin 4) (r : Fin 8192) (e : Fin 128) :
    end8 m c (ix2 r (⟨h.val * 128 + e.val, by omega⟩ : Fin 512)) = ((gq (FoxHost.data u cum dy) h.val r.val e.val : ℝ) : EReal) := by
  have ht : 32 * h.val + r.val / 256 < 128 := by omega
  obtain ⟨a, A, e'⟩ := before_holds m c H hu hc hd (⟨32 * h.val + r.val / 256, lt_of_lt_of_eq ht N_0.symm⟩ : Fin cfg0.N) ht
  have R := reads m c H hu hc hd (⟨32 * h.val + r.val / 256, lt_of_lt_of_eq ht N_0.symm⟩ : Fin cfg0.N) ht
  have C := coords0 (⟨32 * h.val + r.val / 256, lt_of_lt_of_eq ht N_0.symm⟩ : Fin cfg0.N)
  have P := point_dq R C.1 C.2 A (⟨r.val % 256, Nat.mod_lt _ (by decide)⟩ : Fin 256) e
  have hs : stAt m c (at8 (ix2 r (⟨h.val * 128 + e.val, by omega⟩ : Fin 512))) = pointSt (grid0.coords (⟨32 * h.val + r.val / 256, lt_of_lt_of_eq ht N_0.symm⟩ : Fin cfg0.N)) (ins m c (⟨32 * h.val + r.val / 256, lt_of_lt_of_eq ht N_0.symm⟩ : Fin cfg0.N)) a := by
    rw [← e']
    exact congrArg (stAt m c) (show 32 * ((h.val * 128 + e.val) / 128) + r.val / 256 = 32 * h.val + r.val / 256 by omega)
  have hi : in8 (ix2 r (⟨h.val * 128 + e.val, by omega⟩ : Fin 512)) = ix2 (⟨r.val % 256, Nat.mod_lt _ (by decide)⟩ : Fin 256) e := funext fun a => by
    match a with
    | ⟨0, _⟩ => rfl
    | ⟨1, _⟩ => exact Fin.ext (show (h.val * 128 + e.val) % 128 = e.val by omega)
  show outQ (stAt m c (at8 _)) (in8 _) = _
  rw [hs, hi, P]
  have q0 : (32 * h.val + r.val / 256) / 32 = h.val := by omega
  have q1 : 256 * ((32 * h.val + r.val / 256) % 32) + r.val % 256 = r.val := by omega
  exact congrArg₂ (fun a b => ((gq (FoxHost.data u cum dy) a b e.val : ℝ) : EReal)) q0 q1

theorem end12_at (h : Fin 4) (r : Fin 8192) :
    end12 m c (ix3 h r (0 : Fin 1)) = ((gcQ (FoxHost.data u cum dy) h.val r.val : ℝ) : EReal) := by
  have ht : 32 * h.val + r.val / 256 < 128 := by omega
  obtain ⟨a, A, e'⟩ := before_holds m c H hu hc hd (⟨32 * h.val + r.val / 256, lt_of_lt_of_eq ht N_0.symm⟩ : Fin cfg0.N) ht
  have R := reads m c H hu hc hd (⟨32 * h.val + r.val / 256, lt_of_lt_of_eq ht N_0.symm⟩ : Fin cfg0.N) ht
  have C := coords0 (⟨32 * h.val + r.val / 256, lt_of_lt_of_eq ht N_0.symm⟩ : Fin cfg0.N)
  have P := point_dg R C.1 C.2 A (⟨r.val % 256, Nat.mod_lt _ (by decide)⟩ : Fin 256)
  have hi : in12 (ix3 h r (0 : Fin 1)) = ix3 (0 : Fin 1) (⟨r.val % 256, Nat.mod_lt _ (by decide)⟩ : Fin 256) (0 : Fin 1) := funext fun a => by
    match a with
    | ⟨0, _⟩ => exact Fin.ext (show h.val % 1 = 0 by omega)
    | ⟨1, _⟩ => rfl
    | ⟨2, _⟩ => rfl
  show k0_pay1 (stAt m c (32 * h.val + r.val / 256)).dg (in12 _) = _
  rw [hi, show stAt m c (32 * h.val + r.val / 256) = _ from e', P]
  have q0 : (32 * h.val + r.val / 256) / 32 = h.val := by omega
  have q1 : 256 * ((32 * h.val + r.val / 256) % 32) + r.val % 256 = r.val := by omega
  exact congrArg₂ (fun a b => ((gcQ (FoxHost.data u cum dy) a b : ℝ) : EReal)) q0 q1

/-! ## The gradients by key -/

/-- The last point of a head holds the whole sums. -/
theorem whole (h : Fin 4) : AccHolds (FoxHost.data u cum dy) h.val 32 (stAt m c (32 * h.val + 31)).acc := by
  have A := acc_holds m c H hu hc hd (32 * h.val + 31) (by omega)
  rw [show (32 * h.val + 31) / 32 = h.val by omega, show (32 * h.val + 31) % 32 + 1 = 32 by omega] at A
  exact A

theorem end9_at (h : Fin 4) (r : Fin 8192) (e : Fin 128) :
    end9 m c (ix2 r (⟨h.val * 128 + e.val, by omega⟩ : Fin 512)) = ((gk (FoxHost.data u cum dy) h.val r.val e.val : ℝ) : EReal) := by
  have hs : stAt m c (at9 (ix2 r (⟨h.val * 128 + e.val, by omega⟩ : Fin 512))) = stAt m c (32 * h.val + 31) :=
    congrArg (stAt m c) (show 32 * ((h.val * 128 + e.val) / 128) + 31 = 32 * h.val + 31 by omega)
  have hi : in9 (ix2 r (⟨h.val * 128 + e.val, by omega⟩ : Fin 512)) = ix2 r e := funext fun a => by
    match a with
    | ⟨0, _⟩ => exact Fin.ext (show r.val % 8192 = r.val by omega)
    | ⟨1, _⟩ => exact Fin.ext (show (h.val * 128 + e.val) % 128 = e.val by omega)
  show k0_pay2 (stAt m c (at9 _)).acc.dk (in9 _) = _
  rw [hs, hi]
  exact last_dk FoxHost.c0_eq (whole m c H hu hc hd h) r e

theorem end10_at (h : Fin 4) (r : Fin 8192) (e : Fin 128) :
    end10 m c (ix2 r (⟨h.val * 128 + e.val, by omega⟩ : Fin 512)) = ((gv (FoxHost.data u cum dy) h.val r.val e.val : ℝ) : EReal) := by
  have hs : stAt m c (at10 (ix2 r (⟨h.val * 128 + e.val, by omega⟩ : Fin 512))) = stAt m c (32 * h.val + 31) :=
    congrArg (stAt m c) (show 32 * ((h.val * 128 + e.val) / 128) + 31 = 32 * h.val + 31 by omega)
  have hi : in10 (ix2 r (⟨h.val * 128 + e.val, by omega⟩ : Fin 512)) = ix2 r e := funext fun a => by
    match a with
    | ⟨0, _⟩ => exact Fin.ext (show r.val % 8192 = r.val by omega)
    | ⟨1, _⟩ => exact Fin.ext (show (h.val * 128 + e.val) % 128 = e.val by omega)
  show k0_pay3 (stAt m c (at10 _)).acc.dv (in10 _) = _
  rw [hs, hi]
  exact last_dv (whole m c H hu hc hd h) r e

theorem end11_at (h : Fin 4) (j : Fin 8) (l : Fin 1024) :
    end11 m c (ix4 h j (0 : Fin 1) l) = ((gcK (FoxHost.data u cum dy) h.val (1024 * j.val + l.val) : ℝ) : EReal) := by
  have hi : in11 (ix4 h j (0 : Fin 1) l) = ix4 (0 : Fin 1) j (0 : Fin 1) l := funext fun a => by
    match a with
    | ⟨0, _⟩ => exact Fin.ext (show h.val % 1 = 0 by omega)
    | ⟨1, _⟩ => exact Fin.ext (show j.val % 8 = j.val by omega)
    | ⟨2, _⟩ => rfl
    | ⟨3, _⟩ => exact Fin.ext (show l.val % 1024 = l.val by omega)
  show k0_pay4 (stAt m c (32 * h.val + 31)).acc.df (in11 _) = _
  rw [hi]
  exact last_df (whole m c H hu hc hd h) j l

/-! ## The arrays -/

theorem end8_eq : end8 m c = FoxHost.dq (FoxHost.dss (FoxHost.dps (FoxHost.dys dy) (FoxHost.vs u)) (FoxHost.es u cum)) (FoxHost.ks u) := funext fun i => by
  obtain ⟨h, r, e, rfl⟩ := head2 i
  exact (end8_at m c H hu hc hd h r e).trans (FoxHost.dq_eq H _ (FoxHost.dss_eq H) h r e).symm

theorem end9_eq : end9 m c = FoxHost.dk (FoxHost.dss (FoxHost.dps (FoxHost.dys dy) (FoxHost.vs u)) (FoxHost.es u cum)) (FoxHost.qs u) := funext fun i => by
  obtain ⟨h, r, e, rfl⟩ := head2 i
  exact (end9_at m c H hu hc hd h r e).trans (FoxHost.dk_eq H _ (FoxHost.dss_eq H) h r e).symm

theorem end10_eq : end10 m c = FoxHost.dv (FoxHost.dys dy) (FoxHost.probs (FoxHost.es u cum)) := funext fun i => by
  obtain ⟨h, r, e, rfl⟩ := head2 i
  exact (end10_at m c H hu hc hd h r e).trans
    (FoxHost.dv_eq H _ (fun h i j => FoxHost.probs_eq H _ h i (fun j => FoxHost.es_eq H h i j) j) h r e).symm

theorem end11_eq : end11 m c = FoxHost.df (FoxHost.dss (FoxHost.dps (FoxHost.dys dy) (FoxHost.vs u)) (FoxHost.es u cum)) := funext fun i => by
  obtain ⟨h, j, l, rfl⟩ := head4 i
  refine (end11_at m c H hu hc hd h j l).trans ((FoxHost.df_eq H _ (FoxHost.dss_eq H) h j l).trans ?_).symm
  rw [show j.val * 1024 + l.val = 1024 * j.val + l.val by omega]

theorem end12_eq : end12 m c = FoxHost.dg (FoxHost.dss (FoxHost.dps (FoxHost.dys dy) (FoxHost.vs u)) (FoxHost.es u cum)) := funext fun i => by
  obtain ⟨h, r, rfl⟩ := head3 i
  exact (end12_at m c H hu hc hd h r).trans (FoxHost.dg_eq H _ (FoxHost.dss_eq H) h r).symm

end Cert.KernelIdeal.Fox

end
-- ==== Proof.lean ====
module

public import proofs.«01_k».proof.Proof.Gen.LnBwd.Frame
public import proofs.«01_k».proof.Proof.Gen.LnBwdIdeal.Value
public import proofs.«01_k».proof.Proof.Gen.LnBwdRefIdeal.Run
public import proofs.«01_k».proof.Proof.Gen.Ff2Dw.Frame
public import proofs.«01_k».proof.Proof.Gen.Ff2DwIdeal.Value
public import proofs.«01_k».proof.Proof.Gen.Ff2DwRefIdeal.Run
public import proofs.«01_k».proof.Proof.Gen.Ff1Dw.Frame
public import proofs.«01_k».proof.Proof.Gen.Ff1DwIdeal.Value
public import proofs.«01_k».proof.Proof.Gen.Ff1DwRefIdeal.Run
public import proofs.«01_k».proof.Proof.Gen.GateDw.Frame
public import proofs.«01_k».proof.Proof.Gen.GateDwIdeal.Value
public import proofs.«01_k».proof.Proof.Gen.GateDwRefIdeal.Run
public import proofs.«01_k».proof.Proof.Gen.GateDx.Frame
public import proofs.«01_k».proof.Proof.Gen.GateDxIdeal.Value
public import proofs.«01_k».proof.Proof.Gen.GateDxRefIdeal.Run
public import proofs.«01_k».proof.Proof.Gen.InAttDw.Frame
public import proofs.«01_k».proof.Proof.Gen.InAttDwIdeal.Value
public import proofs.«01_k».proof.Proof.Gen.InAttDwRefIdeal.Run
public import proofs.«01_k».proof.Proof.Gen.InAttDx.Frame
public import proofs.«01_k».proof.Proof.Gen.InAttDxIdeal.Value
public import proofs.«01_k».proof.Proof.Gen.InAttDxRefIdeal.Run
public import proofs.«01_k».proof.Proof.Gen.GateProj.Frame
public import proofs.«01_k».proof.Proof.Gen.GateProjIdeal.Value
public import proofs.«01_k».proof.Proof.Gen.GateProjRefIdeal.Run
public import proofs.«01_k».proof.Proof.Gen.InProjAtt.Frame
public import proofs.«01_k».proof.Proof.Gen.InProjAttIdeal.Value
public import proofs.«01_k».proof.Proof.Gen.InProjAttRefIdeal.Run
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutDw.Frame
public import proofs.«01_k».proof.Proof.Gen.OutDwIdeal.Value
public import proofs.«01_k».proof.Proof.Gen.OutDwRefIdeal.Run
public import proofs.«01_k».proof.Proof.Gen.InProjRec.Frame
public import proofs.«01_k».proof.Proof.Gen.InProjRecIdeal.Value
public import proofs.«01_k».proof.Proof.Gen.InProjRecRefIdeal.Run
public import proofs.«01_k».proof.Proof.Gen.InRecDw.Frame
public import proofs.«01_k».proof.Proof.Gen.InRecDwIdeal.Value
public import proofs.«01_k».proof.Proof.Gen.InRecDwRefIdeal.Run
public import proofs.«01_k».proof.Proof.Gen.InRecDx.Frame
public import proofs.«01_k».proof.Proof.Gen.InRecDxIdeal.Value
public import proofs.«01_k».proof.Proof.Gen.InRecDxRefIdeal.Run
public import proofs.«01_k».proof.Proof.Gen.BranchDx.Frame
public import proofs.«01_k».proof.Proof.Gen.BranchDxIdeal.Value
public import proofs.«01_k».proof.Proof.Gen.BranchDxRefIdeal.Run
public import proofs.«01_k».proof.Proof.Gen.BranchDw.Frame
public import proofs.«01_k».proof.Proof.Gen.BranchDwIdeal.Value
public import proofs.«01_k».proof.Proof.Gen.BranchDwRefIdeal.Run
public import proofs.«01_k».proof.Proof.Gen.LnFwd.Frame
public import proofs.«01_k».proof.Proof.Gen.LnFwdIdeal.Value
public import proofs.«01_k».proof.Proof.Gen.LnFwdRefIdeal.Run
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.RowDot.Frame
public import proofs.«01_k».proof.Proof.Gen.RowDotIdeal.Value
public import proofs.«01_k».proof.Proof.Gen.RowDotRefIdeal.Run
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.Ff1.Frame
public import proofs.«01_k».proof.Proof.Gen.Ff1Ideal.Value
public import proofs.«01_k».proof.Proof.Gen.Ff1RefIdeal.Run
public import proofs.«01_k».proof.Proof.Gen.Ff2.Frame
public import proofs.«01_k».proof.Proof.Gen.Ff2Ideal.Value
public import proofs.«01_k».proof.Proof.Gen.Ff2RefIdeal.Run
public import proofs.«01_k».proof.Proof.Gen.Ff2Dx.Frame
public import proofs.«01_k».proof.Proof.Gen.Ff2DxIdeal.Value
public import proofs.«01_k».proof.Proof.Gen.Ff2DxRefIdeal.Run
public import proofs.«01_k».proof.Proof.Gen.Ff1Dx.Frame
public import proofs.«01_k».proof.Proof.Gen.Ff1DxIdeal.Value
public import proofs.«01_k».proof.Proof.Gen.Ff1DxRefIdeal.Run
public import proofs.«01_k».proof.Proof.Gen.Ff1Next.Frame
public import proofs.«01_k».proof.Proof.Gen.Ff1NextIdeal.Value
public import proofs.«01_k».proof.Proof.Gen.Ff1NextRefIdeal.Run
public import proofs.«01_k».proof.Proof.Gen.Ff2Next.Frame
public import proofs.«01_k».proof.Proof.Gen.Ff2NextIdeal.Value
public import proofs.«01_k».proof.Proof.Gen.Ff2NextRefIdeal.Run
public import proofs.«01_k».proof.Proof.Gen.Ff2DxNext.Frame
public import proofs.«01_k».proof.Proof.Gen.Ff2DxNextIdeal.Value
public import proofs.«01_k».proof.Proof.Gen.Ff2DxNextRefIdeal.Run
public import proofs.«01_k».proof.Proof.Gen.Ff1DxNext.Frame
public import proofs.«01_k».proof.Proof.Gen.Ff1DxNextIdeal.Value
public import proofs.«01_k».proof.Proof.Gen.Ff1DxNextRefIdeal.Run
public import proofs.«01_k».proof.Proof.Gen.LnBwd
public import proofs.«01_k».proof.Proof.Gen.LnBwdIdeal
public import proofs.«01_k».proof.Proof.Gen.LnBwdRefIdeal
public import proofs.«01_k».proof.Proof.LnBwdValue
public import proofs.«01_k».proof.Proof.Gen.Ff2Dw
public import proofs.«01_k».proof.Proof.Gen.Ff2DwIdeal
public import proofs.«01_k».proof.Proof.Gen.Ff2DwRefIdeal
public import proofs.«01_k».proof.Proof.Ff2DwValue
public import proofs.«01_k».proof.Proof.Gen.Ff1Dw
public import proofs.«01_k».proof.Proof.Gen.Ff1DwIdeal
public import proofs.«01_k».proof.Proof.Gen.Ff1DwRefIdeal
public import proofs.«01_k».proof.Proof.Ff1DwValue
public import proofs.«01_k».proof.Proof.Gen.GateDw
public import proofs.«01_k».proof.Proof.Gen.GateDwIdeal
public import proofs.«01_k».proof.Proof.Gen.GateDwRefIdeal
public import proofs.«01_k».proof.Proof.GateDwValue
public import proofs.«01_k».proof.Proof.Gen.GateDx
public import proofs.«01_k».proof.Proof.Gen.GateDxIdeal
public import proofs.«01_k».proof.Proof.Gen.GateDxRefIdeal
public import proofs.«01_k».proof.Proof.GateDxValue
public import proofs.«01_k».proof.Proof.Gen.InAttDw
public import proofs.«01_k».proof.Proof.Gen.InAttDwIdeal
public import proofs.«01_k».proof.Proof.Gen.InAttDwRefIdeal
public import proofs.«01_k».proof.Proof.InAttDwValue
public import proofs.«01_k».proof.Proof.Gen.InAttDx
public import proofs.«01_k».proof.Proof.Gen.InAttDxIdeal
public import proofs.«01_k».proof.Proof.Gen.InAttDxRefIdeal
public import proofs.«01_k».proof.Proof.InAttDxValue
public import proofs.«01_k».proof.Proof.Gen.GateProj
public import proofs.«01_k».proof.Proof.Gen.GateProjIdeal
public import proofs.«01_k».proof.Proof.Gen.GateProjRefIdeal
public import proofs.«01_k».proof.Proof.GateProjValue
public import proofs.«01_k».proof.Proof.Gen.InProjAtt
public import proofs.«01_k».proof.Proof.Gen.InProjAttIdeal
public import proofs.«01_k».proof.Proof.Gen.InProjAttRefIdeal
public import proofs.«01_k».proof.Proof.InProjAttValue
public import proofs.«01_k».proof.Proof.Gen.OutDx
public import proofs.«01_k».proof.Proof.Gen.OutDxIdeal
public import proofs.«01_k».proof.Proof.Gen.OutDxRefIdeal
public import proofs.«01_k».proof.Proof.OutDxValue
public import proofs.«01_k».proof.Proof.Gen.OutProj
public import proofs.«01_k».proof.Proof.Gen.OutProjIdeal
public import proofs.«01_k».proof.Proof.Gen.OutProjRefIdeal
public import proofs.«01_k».proof.Proof.OutProjValue
public import proofs.«01_k».proof.Proof.Gen.OutDw
public import proofs.«01_k».proof.Proof.Gen.OutDwIdeal
public import proofs.«01_k».proof.Proof.Gen.OutDwRefIdeal
public import proofs.«01_k».proof.Proof.OutDwValue
public import proofs.«01_k».proof.Proof.Gen.InProjRec
public import proofs.«01_k».proof.Proof.Gen.InProjRecIdeal
public import proofs.«01_k».proof.Proof.Gen.InProjRecRefIdeal
public import proofs.«01_k».proof.Proof.InProjRecValue
public import proofs.«01_k».proof.Proof.Gen.InRecDw
public import proofs.«01_k».proof.Proof.Gen.InRecDwIdeal
public import proofs.«01_k».proof.Proof.Gen.InRecDwRefIdeal
public import proofs.«01_k».proof.Proof.InRecDwValue
public import proofs.«01_k».proof.Proof.Gen.InRecDx
public import proofs.«01_k».proof.Proof.Gen.InRecDxIdeal
public import proofs.«01_k».proof.Proof.Gen.InRecDxRefIdeal
public import proofs.«01_k».proof.Proof.InRecDxValue
public import proofs.«01_k».proof.Proof.Gen.BranchDx
public import proofs.«01_k».proof.Proof.Gen.BranchDxIdeal
public import proofs.«01_k».proof.Proof.Gen.BranchDxRefIdeal
public import proofs.«01_k».proof.Proof.BranchDxValue
public import proofs.«01_k».proof.Proof.Gen.BranchDw
public import proofs.«01_k».proof.Proof.Gen.BranchDwIdeal
public import proofs.«01_k».proof.Proof.Gen.BranchDwRefIdeal
public import proofs.«01_k».proof.Proof.BranchDwValue
public import proofs.«01_k».proof.Proof.Gen.LnFwd
public import proofs.«01_k».proof.Proof.Gen.LnFwdIdeal
public import proofs.«01_k».proof.Proof.Gen.LnFwdRefIdeal
public import proofs.«01_k».proof.Proof.LnFwdValue
public import proofs.«01_k».proof.Proof.Gen.LossHead
public import proofs.«01_k».proof.Proof.Gen.LossHeadIdeal
public import proofs.«01_k».proof.Proof.Gen.LossHeadRefIdeal
public import proofs.«01_k».proof.Proof.LossHeadValue
public import proofs.«01_k».proof.Proof.Gen.RowDot
public import proofs.«01_k».proof.Proof.Gen.RowDotIdeal
public import proofs.«01_k».proof.Proof.Gen.RowDotRefIdeal
public import proofs.«01_k».proof.Proof.RowDotValue
public import proofs.«01_k».proof.Proof.Gen.MergeFwd
public import proofs.«01_k».proof.Proof.Gen.MergeFwdIdeal
public import proofs.«01_k».proof.Proof.Gen.MergeFwdRefIdeal
public import proofs.«01_k».proof.Proof.MergeFwdValue
public import proofs.«01_k».proof.Proof.Gen.MergeBwd
public import proofs.«01_k».proof.Proof.Gen.MergeBwdIdeal
public import proofs.«01_k».proof.Proof.Gen.MergeBwdRefIdeal
public import proofs.«01_k».proof.Proof.MergeBwdValue
public import proofs.«01_k».proof.Proof.Gen.Ff1
public import proofs.«01_k».proof.Proof.Gen.Ff1Ideal
public import proofs.«01_k».proof.Proof.Gen.Ff1RefIdeal
public import proofs.«01_k».proof.Proof.Ff1Value
public import proofs.«01_k».proof.Proof.Gen.Ff2
public import proofs.«01_k».proof.Proof.Gen.Ff2Ideal
public import proofs.«01_k».proof.Proof.Gen.Ff2RefIdeal
public import proofs.«01_k».proof.Proof.Ff2Value
public import proofs.«01_k».proof.Proof.Gen.Ff2Dx
public import proofs.«01_k».proof.Proof.Gen.Ff2DxIdeal
public import proofs.«01_k».proof.Proof.Gen.Ff2DxRefIdeal
public import proofs.«01_k».proof.Proof.Ff2DxValue
public import proofs.«01_k».proof.Proof.Gen.Ff1Dx
public import proofs.«01_k».proof.Proof.Gen.Ff1DxIdeal
public import proofs.«01_k».proof.Proof.Gen.Ff1DxRefIdeal
public import proofs.«01_k».proof.Proof.Ff1DxValue
public import proofs.«01_k».proof.Proof.Gen.Ff1Next
public import proofs.«01_k».proof.Proof.Gen.Ff1NextIdeal
public import proofs.«01_k».proof.Proof.Gen.Ff1NextRefIdeal
public import proofs.«01_k».proof.Proof.Ff1NextValue
public import proofs.«01_k».proof.Proof.Gen.Ff2Next
public import proofs.«01_k».proof.Proof.Gen.Ff2NextIdeal
public import proofs.«01_k».proof.Proof.Gen.Ff2NextRefIdeal
public import proofs.«01_k».proof.Proof.Ff2NextValue
public import proofs.«01_k».proof.Proof.Gen.Ff2DxNext
public import proofs.«01_k».proof.Proof.Gen.Ff2DxNextIdeal
public import proofs.«01_k».proof.Proof.Gen.Ff2DxNextRefIdeal
public import proofs.«01_k».proof.Proof.Ff2DxNextValue
public import proofs.«01_k».proof.Proof.Gen.Ff1DxNext
public import proofs.«01_k».proof.Proof.Gen.Ff1DxNextIdeal
public import proofs.«01_k».proof.Proof.Gen.Ff1DxNextRefIdeal
public import proofs.«01_k».proof.Proof.Ff1DxNextValue
public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Final
public import proofs.«01_k».proof.Proof.Finite
public import Idealize.ShloMosaic.Adequacy
public import Idealize.ShloMosaic.Init

@[expose] public section

noncomputable section

namespace Cert.Proof

open Idealize.ShloMosaic Idealize.SL.Sem

/-! The two programs have one text, so the run of the one is the run of the other. -/

set_option maxHeartbeats 20000000 in
theorem main_eq : Cert.Kernel.main (F := Bits) = Cert.KernelIdeal.main (F := Bits) := rfl
set_option maxHeartbeats 4000000 in
theorem body_eq : Cert.Kernel.cc0_fox_bwd (F := Bits) = Cert.KernelIdeal.cc0_fox_bwd (F := Bits) := rfl
set_option maxHeartbeats 4000000 in
theorem defs₀_eq : Cert.Kernel.defs₀ (F := Bits) = Cert.KernelIdeal.defs₀ (F := Bits) := funext fun k => by
  cases k with
  | tc =>
    funext l a
    match l, a with
    | ⟨0, _⟩, (t, s) =>
      show Cert.Kernel.cc0_fox_bwd (F := Bits) _ _ _ _ _ _ _ _ _ _ _ _ _ _ _ _ _ _ _ _ _ _ _ _ _ _ _ _ _ _ _ _ _ = _
      rw [body_eq]
      rfl
    | ⟨n + 1, h⟩, _ => exact absurd h (Nat.not_lt.2 (Nat.le_add_left _ _))
  | _ => rfl
theorem defs_eq : Cert.Kernel.defs (F := Bits) = Cert.KernelIdeal.defs (F := Bits) :=
  congrArg (Pipeline.defs (Cert.Kernel.pcfgs (F := Bits))) defs₀_eq
theorem run_eq : θ_run (Cert.Kernel.defs (F := Bits)) (onTc (τ := Cert.Kernel.τ) Cert.Kernel.main)
    = θ_run (Cert.KernelIdeal.defs (F := Bits)) (onTc (τ := Cert.KernelIdeal.τ) Cert.KernelIdeal.main) :=
  congrArg₂ (fun d p => θ_run d (onTc (τ := Cert.Kernel.τ) p)) defs_eq main_eq
theorem frame_kernel : Cert.quiescent_Kernel := fun m ρ _ => by
  rw [run_eq]
  exact Cert.KernelIdeal.Fox.frame (F := Bits) m ρ

theorem frame_ideal : Cert.quiescent_KernelIdeal := fun m ρ _ => Cert.KernelIdeal.Fox.frame m ρ
theorem frame_ideal_finite : Cert.quiescent_KernelIdeal_pre_finite := fun m ρ _ => Cert.KernelIdeal.Fox.frame m ρ

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run m ρ)
theorem frame_reference_finite : Cert.quiescent_ReferenceIdeal_pre_finite := fun m ρ _ => frame_reference m ρ trivial

theorem value : Cert.algebraic_KernelIdeal_ReferenceIdeal_pre_finite := fun m g m' g' hp ha => by
  have H := fun c => FoxHost.fin3_of (hp c)
  refine ⟨Cert.KernelIdeal.Fox.end8 m, Cert.KernelIdeal.Fox.end9 m, Cert.KernelIdeal.Fox.end10 m, Cert.KernelIdeal.Fox.end11 m,
    Cert.KernelIdeal.Fox.end12 m, Cert.KernelIdeal.Fox.run m g, (θ_run Cert.ReferenceIdeal.defs _ _).mono (fun r h c => ?_) (Cert.ReferenceIdeal.Value.run m' g')⟩
  obtain ⟨a0, a1, a2⟩ := ha c
  obtain ⟨h0, h1, h2, h3, h4, hargs⟩ := h c
  refine ⟨h0.trans ?_, h1.trans ?_, h2.trans ?_, h3.trans ?_, h4.trans ?_, hargs⟩
  · refine (FoxHost.res0 m' c).trans ?_
    rw [a0, a1, a2]
    exact (Cert.KernelIdeal.Fox.end8_eq m c (H c) rfl rfl rfl).symm
  · refine (FoxHost.res1 m' c).trans ?_
    rw [a0, a1, a2]
    exact (Cert.KernelIdeal.Fox.end9_eq m c (H c) rfl rfl rfl).symm
  · refine (FoxHost.res2 m' c).trans ?_
    rw [a0, a1, a2]
    exact (Cert.KernelIdeal.Fox.end10_eq m c (H c) rfl rfl rfl).symm
  · refine (FoxHost.res3 m' c).trans ?_
    rw [a0, a1, a2]
    exact (Cert.KernelIdeal.Fox.end11_eq m c (H c) rfl rfl rfl).symm
  · refine (FoxHost.res4 m' c).trans ?_
    rw [a0, a1, a2]
    exact (Cert.KernelIdeal.Fox.end12_eq m c (H c) rfl rfl rfl).symm

/-! The references of the products. -/

theorem frame_LnBwdRef : Cert.quiescent_LnBwdRefIdeal := fun m ρ _ =>
  (θ_run Cert.LnBwdRefIdeal.defs _ _).mono (fun r h => ⟨fun c => (h c).2.2.2.2, sem_eq_zero_of_no_sems (by decide) r.2⟩) (Cert.LnBwdRefIdeal.Value.run m ρ)
theorem frame_Ff2DwRef : Cert.quiescent_Ff2DwRefIdeal := fun m ρ _ =>
  (θ_run Cert.Ff2DwRefIdeal.defs _ _).mono (fun r h => ⟨fun c => (h c).2, sem_eq_zero_of_no_sems (by decide) r.2⟩) (Cert.Ff2DwRefIdeal.Value.run m ρ)
theorem frame_Ff1DwRef : Cert.quiescent_Ff1DwRefIdeal := fun m ρ _ =>
  (θ_run Cert.Ff1DwRefIdeal.defs _ _).mono (fun r h => ⟨fun c => (h c).2, sem_eq_zero_of_no_sems (by decide) r.2⟩) (Cert.Ff1DwRefIdeal.Value.run m ρ)
theorem frame_GateDwRef : Cert.quiescent_GateDwRefIdeal := fun m ρ _ =>
  (θ_run Cert.GateDwRefIdeal.defs _ _).mono (fun r h => ⟨fun c => (h c).2, sem_eq_zero_of_no_sems (by decide) r.2⟩) (Cert.GateDwRefIdeal.Value.run m ρ)
theorem frame_GateDxRef : Cert.quiescent_GateDxRefIdeal := fun m ρ _ =>
  (θ_run Cert.GateDxRefIdeal.defs _ _).mono (fun r h => ⟨fun c => (h c).2, sem_eq_zero_of_no_sems (by decide) r.2⟩) (Cert.GateDxRefIdeal.Value.run m ρ)
theorem frame_InAttDwRef : Cert.quiescent_InAttDwRefIdeal := fun m ρ _ =>
  (θ_run Cert.InAttDwRefIdeal.defs _ _).mono (fun r h => ⟨fun c => (h c).2, sem_eq_zero_of_no_sems (by decide) r.2⟩) (Cert.InAttDwRefIdeal.Value.run m ρ)
theorem frame_InAttDxRef : Cert.quiescent_InAttDxRefIdeal := fun m ρ _ =>
  (θ_run Cert.InAttDxRefIdeal.defs _ _).mono (fun r h => ⟨fun c => (h c).2, sem_eq_zero_of_no_sems (by decide) r.2⟩) (Cert.InAttDxRefIdeal.Value.run m ρ)
theorem frame_GateProjRef : Cert.quiescent_GateProjRefIdeal := fun m ρ _ =>
  (θ_run Cert.GateProjRefIdeal.defs _ _).mono (fun r h => ⟨fun c => (h c).2, sem_eq_zero_of_no_sems (by decide) r.2⟩) (Cert.GateProjRefIdeal.Value.run m ρ)
theorem frame_InProjAttRef : Cert.quiescent_InProjAttRefIdeal := fun m ρ _ =>
  (θ_run Cert.InProjAttRefIdeal.defs _ _).mono (fun r h => ⟨fun c => (h c).2, sem_eq_zero_of_no_sems (by decide) r.2⟩) (Cert.InProjAttRefIdeal.Value.run m ρ)
theorem frame_OutDxRef : Cert.quiescent_OutDxRefIdeal := fun m ρ _ =>
  (θ_run Cert.OutDxRefIdeal.defs _ _).mono (fun r h => ⟨fun c => (h c).2, sem_eq_zero_of_no_sems (by decide) r.2⟩) (Cert.OutDxRefIdeal.Value.run m ρ)
theorem frame_OutProjRef : Cert.quiescent_OutProjRefIdeal := fun m ρ _ =>
  (θ_run Cert.OutProjRefIdeal.defs _ _).mono (fun r h => ⟨fun c => (h c).2, sem_eq_zero_of_no_sems (by decide) r.2⟩) (Cert.OutProjRefIdeal.Value.run m ρ)
theorem frame_OutDwRef : Cert.quiescent_OutDwRefIdeal := fun m ρ _ =>
  (θ_run Cert.OutDwRefIdeal.defs _ _).mono (fun r h => ⟨fun c => (h c).2, sem_eq_zero_of_no_sems (by decide) r.2⟩) (Cert.OutDwRefIdeal.Value.run m ρ)
theorem frame_InProjRecRef : Cert.quiescent_InProjRecRefIdeal := fun m ρ _ =>
  (θ_run Cert.InProjRecRefIdeal.defs _ _).mono (fun r h => ⟨fun c => (h c).2, sem_eq_zero_of_no_sems (by decide) r.2⟩) (Cert.InProjRecRefIdeal.Value.run m ρ)
theorem frame_InRecDwRef : Cert.quiescent_InRecDwRefIdeal := fun m ρ _ =>
  (θ_run Cert.InRecDwRefIdeal.defs _ _).mono (fun r h => ⟨fun c => (h c).2, sem_eq_zero_of_no_sems (by decide) r.2⟩) (Cert.InRecDwRefIdeal.Value.run m ρ)
theorem frame_InRecDxRef : Cert.quiescent_InRecDxRefIdeal := fun m ρ _ =>
  (θ_run Cert.InRecDxRefIdeal.defs _ _).mono (fun r h => ⟨fun c => (h c).2, sem_eq_zero_of_no_sems (by decide) r.2⟩) (Cert.InRecDxRefIdeal.Value.run m ρ)
theorem frame_BranchDxRef : Cert.quiescent_BranchDxRefIdeal := fun m ρ _ =>
  (θ_run Cert.BranchDxRefIdeal.defs _ _).mono (fun r h => ⟨fun c => (h c).2, sem_eq_zero_of_no_sems (by decide) r.2⟩) (Cert.BranchDxRefIdeal.Value.run m ρ)
theorem frame_BranchDwRef : Cert.quiescent_BranchDwRefIdeal := fun m ρ _ =>
  (θ_run Cert.BranchDwRefIdeal.defs _ _).mono (fun r h => ⟨fun c => (h c).2, sem_eq_zero_of_no_sems (by decide) r.2⟩) (Cert.BranchDwRefIdeal.Value.run m ρ)
theorem frame_LnFwdRef : Cert.quiescent_LnFwdRefIdeal := fun m ρ _ =>
  (θ_run Cert.LnFwdRefIdeal.defs _ _).mono (fun r h => ⟨fun c => (h c).2.2, sem_eq_zero_of_no_sems (by decide) r.2⟩) (Cert.LnFwdRefIdeal.Value.run m ρ)
theorem frame_LossHeadRef : Cert.quiescent_LossHeadRefIdeal := fun m ρ _ =>
  (θ_run Cert.LossHeadRefIdeal.defs _ _).mono (fun r h => ⟨fun c => (h c).2.2, sem_eq_zero_of_no_sems (by decide) r.2⟩) (Cert.LossHeadRefIdeal.Value.run m ρ)
theorem frame_RowDotRef : Cert.quiescent_RowDotRefIdeal := fun m ρ _ =>
  (θ_run Cert.RowDotRefIdeal.defs _ _).mono (fun r h => ⟨fun c => (h c).2, sem_eq_zero_of_no_sems (by decide) r.2⟩) (Cert.RowDotRefIdeal.Value.run m ρ)
theorem frame_MergeFwdRef : Cert.quiescent_MergeFwdRefIdeal := fun m ρ _ =>
  (θ_run Cert.MergeFwdRefIdeal.defs _ _).mono (fun r h => ⟨fun c => (h c).2.2, sem_eq_zero_of_no_sems (by decide) r.2⟩) (Cert.MergeFwdRefIdeal.Value.run m ρ)
theorem frame_MergeBwdRef : Cert.quiescent_MergeBwdRefIdeal := fun m ρ _ =>
  (θ_run Cert.MergeBwdRefIdeal.defs _ _).mono (fun r h => ⟨fun c => (h c).2.2.2, sem_eq_zero_of_no_sems (by decide) r.2⟩) (Cert.MergeBwdRefIdeal.Value.run m ρ)
theorem frame_Ff1Ref : Cert.quiescent_Ff1RefIdeal := fun m ρ _ =>
  (θ_run Cert.Ff1RefIdeal.defs _ _).mono (fun r h => ⟨fun c => (h c).2.2, sem_eq_zero_of_no_sems (by decide) r.2⟩) (Cert.Ff1RefIdeal.Value.run m ρ)
theorem frame_Ff2Ref : Cert.quiescent_Ff2RefIdeal := fun m ρ _ =>
  (θ_run Cert.Ff2RefIdeal.defs _ _).mono (fun r h => ⟨fun c => (h c).2, sem_eq_zero_of_no_sems (by decide) r.2⟩) (Cert.Ff2RefIdeal.Value.run m ρ)
theorem frame_Ff2DxRef : Cert.quiescent_Ff2DxRefIdeal := fun m ρ _ =>
  (θ_run Cert.Ff2DxRefIdeal.defs _ _).mono (fun r h => ⟨fun c => (h c).2, sem_eq_zero_of_no_sems (by decide) r.2⟩) (Cert.Ff2DxRefIdeal.Value.run m ρ)
theorem frame_Ff1DxRef : Cert.quiescent_Ff1DxRefIdeal := fun m ρ _ =>
  (θ_run Cert.Ff1DxRefIdeal.defs _ _).mono (fun r h => ⟨fun c => (h c).2, sem_eq_zero_of_no_sems (by decide) r.2⟩) (Cert.Ff1DxRefIdeal.Value.run m ρ)
theorem frame_Ff1NextRef : Cert.quiescent_Ff1NextRefIdeal := fun m ρ _ =>
  (θ_run Cert.Ff1NextRefIdeal.defs _ _).mono (fun r h => ⟨fun c => (h c).2.2, sem_eq_zero_of_no_sems (by decide) r.2⟩) (Cert.Ff1NextRefIdeal.Value.run m ρ)
theorem frame_Ff2NextRef : Cert.quiescent_Ff2NextRefIdeal := fun m ρ _ =>
  (θ_run Cert.Ff2NextRefIdeal.defs _ _).mono (fun r h => ⟨fun c => (h c).2, sem_eq_zero_of_no_sems (by decide) r.2⟩) (Cert.Ff2NextRefIdeal.Value.run m ρ)
theorem frame_Ff2DxNextRef : Cert.quiescent_Ff2DxNextRefIdeal := fun m ρ _ =>
  (θ_run Cert.Ff2DxNextRefIdeal.defs _ _).mono (fun r h => ⟨fun c => (h c).2, sem_eq_zero_of_no_sems (by decide) r.2⟩) (Cert.Ff2DxNextRefIdeal.Value.run m ρ)
theorem frame_Ff1DxNextRef : Cert.quiescent_Ff1DxNextRefIdeal := fun m ρ _ =>
  (θ_run Cert.Ff1DxNextRefIdeal.defs _ _).mono (fun r h => ⟨fun c => (h c).2, sem_eq_zero_of_no_sems (by decide) r.2⟩) (Cert.Ff1DxNextRefIdeal.Value.run m ρ)

theorem claim : Cert.Claim := ⟨Cert.Kernel.Gen.facts, Cert.KernelIdeal.Gen.facts, Cert.ReferenceIdeal.Gen.facts,
  Cert.LnBwd.Gen.facts, Cert.LnBwdIdeal.Gen.facts, Cert.LnBwdRefIdeal.Gen.facts,
  Cert.Ff2Dw.Gen.facts, Cert.Ff2DwIdeal.Gen.facts, Cert.Ff2DwRefIdeal.Gen.facts,
  Cert.Ff1Dw.Gen.facts, Cert.Ff1DwIdeal.Gen.facts, Cert.Ff1DwRefIdeal.Gen.facts,
  Cert.GateDw.Gen.facts, Cert.GateDwIdeal.Gen.facts, Cert.GateDwRefIdeal.Gen.facts,
  Cert.GateDx.Gen.facts, Cert.GateDxIdeal.Gen.facts, Cert.GateDxRefIdeal.Gen.facts,
  Cert.InAttDw.Gen.facts, Cert.InAttDwIdeal.Gen.facts, Cert.InAttDwRefIdeal.Gen.facts,
  Cert.InAttDx.Gen.facts, Cert.InAttDxIdeal.Gen.facts, Cert.InAttDxRefIdeal.Gen.facts,
  Cert.GateProj.Gen.facts, Cert.GateProjIdeal.Gen.facts, Cert.GateProjRefIdeal.Gen.facts,
  Cert.InProjAtt.Gen.facts, Cert.InProjAttIdeal.Gen.facts, Cert.InProjAttRefIdeal.Gen.facts,
  Cert.OutDx.Gen.facts, Cert.OutDxIdeal.Gen.facts, Cert.OutDxRefIdeal.Gen.facts,
  Cert.OutProj.Gen.facts, Cert.OutProjIdeal.Gen.facts, Cert.OutProjRefIdeal.Gen.facts,
  Cert.OutDw.Gen.facts, Cert.OutDwIdeal.Gen.facts, Cert.OutDwRefIdeal.Gen.facts,
  Cert.InProjRec.Gen.facts, Cert.InProjRecIdeal.Gen.facts, Cert.InProjRecRefIdeal.Gen.facts,
  Cert.InRecDw.Gen.facts, Cert.InRecDwIdeal.Gen.facts, Cert.InRecDwRefIdeal.Gen.facts,
  Cert.InRecDx.Gen.facts, Cert.InRecDxIdeal.Gen.facts, Cert.InRecDxRefIdeal.Gen.facts,
  Cert.BranchDx.Gen.facts, Cert.BranchDxIdeal.Gen.facts, Cert.BranchDxRefIdeal.Gen.facts,
  Cert.BranchDw.Gen.facts, Cert.BranchDwIdeal.Gen.facts, Cert.BranchDwRefIdeal.Gen.facts,
  Cert.LnFwd.Gen.facts, Cert.LnFwdIdeal.Gen.facts, Cert.LnFwdRefIdeal.Gen.facts,
  Cert.LossHead.Gen.facts, Cert.LossHeadIdeal.Gen.facts, Cert.LossHeadRefIdeal.Gen.facts,
  Cert.RowDot.Gen.facts, Cert.RowDotIdeal.Gen.facts, Cert.RowDotRefIdeal.Gen.facts,
  Cert.MergeFwd.Gen.facts, Cert.MergeFwdIdeal.Gen.facts, Cert.MergeFwdRefIdeal.Gen.facts,
  Cert.MergeBwd.Gen.facts, Cert.MergeBwdIdeal.Gen.facts, Cert.MergeBwdRefIdeal.Gen.facts,
  Cert.Ff1.Gen.facts, Cert.Ff1Ideal.Gen.facts, Cert.Ff1RefIdeal.Gen.facts,
  Cert.Ff2.Gen.facts, Cert.Ff2Ideal.Gen.facts, Cert.Ff2RefIdeal.Gen.facts,
  Cert.Ff2Dx.Gen.facts, Cert.Ff2DxIdeal.Gen.facts, Cert.Ff2DxRefIdeal.Gen.facts,
  Cert.Ff1Dx.Gen.facts, Cert.Ff1DxIdeal.Gen.facts, Cert.Ff1DxRefIdeal.Gen.facts,
  Cert.Ff1Next.Gen.facts, Cert.Ff1NextIdeal.Gen.facts, Cert.Ff1NextRefIdeal.Gen.facts,
  Cert.Ff2Next.Gen.facts, Cert.Ff2NextIdeal.Gen.facts, Cert.Ff2NextRefIdeal.Gen.facts,
  Cert.Ff2DxNext.Gen.facts, Cert.Ff2DxNextIdeal.Gen.facts, Cert.Ff2DxNextRefIdeal.Gen.facts,
  Cert.Ff1DxNext.Gen.facts, Cert.Ff1DxNextIdeal.Gen.facts, Cert.Ff1DxNextRefIdeal.Gen.facts,
  FoxHost.facts_finite, Cert.LnBwdRefIdeal.Prod.facts_finite,
  frame_kernel, frame_ideal, frame_ideal_finite, frame_reference, frame_reference_finite,
  fun m ρ _ => Cert.LnBwd.Gen.frame m ρ, fun m ρ _ => Cert.LnBwdIdeal.Gen.frame m ρ, fun m ρ _ => Cert.LnBwdIdeal.Gen.frame m ρ, frame_LnBwdRef, fun m ρ _ => frame_LnBwdRef m ρ trivial,
  fun m ρ _ => Cert.Ff2Dw.Gen.frame m ρ, fun m ρ _ => Cert.Ff2DwIdeal.Gen.frame m ρ, frame_Ff2DwRef,
  fun m ρ _ => Cert.Ff1Dw.Gen.frame m ρ, fun m ρ _ => Cert.Ff1DwIdeal.Gen.frame m ρ, frame_Ff1DwRef,
  fun m ρ _ => Cert.GateDw.Gen.frame m ρ, fun m ρ _ => Cert.GateDwIdeal.Gen.frame m ρ, frame_GateDwRef,
  fun m ρ _ => Cert.GateDx.Gen.frame m ρ, fun m ρ _ => Cert.GateDxIdeal.Gen.frame m ρ, frame_GateDxRef,
  fun m ρ _ => Cert.InAttDw.Gen.frame m ρ, fun m ρ _ => Cert.InAttDwIdeal.Gen.frame m ρ, frame_InAttDwRef,
  fun m ρ _ => Cert.InAttDx.Gen.frame m ρ, fun m ρ _ => Cert.InAttDxIdeal.Gen.frame m ρ, frame_InAttDxRef,
  fun m ρ _ => Cert.GateProj.Gen.frame m ρ, fun m ρ _ => Cert.GateProjIdeal.Gen.frame m ρ, frame_GateProjRef,
  fun m ρ _ => Cert.InProjAtt.Gen.frame m ρ, fun m ρ _ => Cert.InProjAttIdeal.Gen.frame m ρ, frame_InProjAttRef,
  fun m ρ _ => Cert.OutDx.Gen.frame m ρ, fun m ρ _ => Cert.OutDxIdeal.Gen.frame m ρ, frame_OutDxRef,
  fun m ρ _ => Cert.OutProj.Gen.frame m ρ, fun m ρ _ => Cert.OutProjIdeal.Gen.frame m ρ, frame_OutProjRef,
  fun m ρ _ => Cert.OutDw.Gen.frame m ρ, fun m ρ _ => Cert.OutDwIdeal.Gen.frame m ρ, frame_OutDwRef,
  fun m ρ _ => Cert.InProjRec.Gen.frame m ρ, fun m ρ _ => Cert.InProjRecIdeal.Gen.frame m ρ, frame_InProjRecRef,
  fun m ρ _ => Cert.InRecDw.Gen.frame m ρ, fun m ρ _ => Cert.InRecDwIdeal.Gen.frame m ρ, frame_InRecDwRef,
  fun m ρ _ => Cert.InRecDx.Gen.frame m ρ, fun m ρ _ => Cert.InRecDxIdeal.Gen.frame m ρ, frame_InRecDxRef,
  fun m ρ _ => Cert.BranchDx.Gen.frame m ρ, fun m ρ _ => Cert.BranchDxIdeal.Gen.frame m ρ, frame_BranchDxRef,
  fun m ρ _ => Cert.BranchDw.Gen.frame m ρ, fun m ρ _ => Cert.BranchDwIdeal.Gen.frame m ρ, frame_BranchDwRef,
  fun m ρ _ => Cert.LnFwd.Gen.frame m ρ, fun m ρ _ => Cert.LnFwdIdeal.Gen.frame m ρ, frame_LnFwdRef,
  fun m ρ _ => Cert.LossHead.Gen.frame m ρ, fun m ρ _ => Cert.LossHeadIdeal.Gen.frame m ρ, frame_LossHeadRef,
  fun m ρ _ => Cert.RowDot.Gen.frame m ρ, fun m ρ _ => Cert.RowDotIdeal.Gen.frame m ρ, frame_RowDotRef,
  fun m ρ _ => Cert.MergeFwd.Gen.frame m ρ, fun m ρ _ => Cert.MergeFwdIdeal.Gen.frame m ρ, frame_MergeFwdRef,
  fun m ρ _ => Cert.MergeBwd.Gen.frame m ρ, fun m ρ _ => Cert.MergeBwdIdeal.Gen.frame m ρ, frame_MergeBwdRef,
  fun m ρ _ => Cert.Ff1.Gen.frame m ρ, fun m ρ _ => Cert.Ff1Ideal.Gen.frame m ρ, frame_Ff1Ref,
  fun m ρ _ => Cert.Ff2.Gen.frame m ρ, fun m ρ _ => Cert.Ff2Ideal.Gen.frame m ρ, frame_Ff2Ref,
  fun m ρ _ => Cert.Ff2Dx.Gen.frame m ρ, fun m ρ _ => Cert.Ff2DxIdeal.Gen.frame m ρ, frame_Ff2DxRef,
  fun m ρ _ => Cert.Ff1Dx.Gen.frame m ρ, fun m ρ _ => Cert.Ff1DxIdeal.Gen.frame m ρ, frame_Ff1DxRef,
  fun m ρ _ => Cert.Ff1Next.Gen.frame m ρ, fun m ρ _ => Cert.Ff1NextIdeal.Gen.frame m ρ, frame_Ff1NextRef,
  fun m ρ _ => Cert.Ff2Next.Gen.frame m ρ, fun m ρ _ => Cert.Ff2NextIdeal.Gen.frame m ρ, frame_Ff2NextRef,
  fun m ρ _ => Cert.Ff2DxNext.Gen.frame m ρ, fun m ρ _ => Cert.Ff2DxNextIdeal.Gen.frame m ρ, frame_Ff2DxNextRef,
  fun m ρ _ => Cert.Ff1DxNext.Gen.frame m ρ, fun m ρ _ => Cert.Ff1DxNextIdeal.Gen.frame m ρ, frame_Ff1DxNextRef,
  trivial, value, trivial, Cert.LnBwdIdeal.Prod.value,
  trivial, Cert.Ff2DwIdeal.Prod.value,
  trivial, Cert.Ff1DwIdeal.Prod.value,
  trivial, Cert.GateDwIdeal.Prod.value,
  trivial, Cert.GateDxIdeal.Prod.value,
  trivial, Cert.InAttDwIdeal.Prod.value,
  trivial, Cert.InAttDxIdeal.Prod.value,
  trivial, Cert.GateProjIdeal.Prod.value,
  trivial, Cert.InProjAttIdeal.Prod.value,
  trivial, Cert.OutDxIdeal.Prod.value,
  trivial, Cert.OutProjIdeal.Prod.value,
  trivial, Cert.OutDwIdeal.Prod.value,
  trivial, Cert.InProjRecIdeal.Prod.value,
  trivial, Cert.InRecDwIdeal.Prod.value,
  trivial, Cert.InRecDxIdeal.Prod.value,
  trivial, Cert.BranchDxIdeal.Prod.value,
  trivial, Cert.BranchDwIdeal.Prod.value,
  trivial, Cert.LnFwdIdeal.Prod.value,
  trivial, Cert.LossHeadIdeal.Prod.value,
  trivial, Cert.RowDotIdeal.Prod.value,
  trivial, Cert.MergeFwdIdeal.Prod.value,
  trivial, Cert.MergeBwdIdeal.Prod.value,
  trivial, Cert.Ff1Ideal.Prod.value,
  trivial, Cert.Ff2Ideal.Prod.value,
  trivial, Cert.Ff2DxIdeal.Prod.value,
  trivial, Cert.Ff1DxIdeal.Prod.value,
  trivial, Cert.Ff1NextIdeal.Prod.value,
  trivial, Cert.Ff2NextIdeal.Prod.value,
  trivial, Cert.Ff2DxNextIdeal.Prod.value,
  trivial, Cert.Ff1DxNextIdeal.Prod.value⟩

end Cert.Proof

end
